-- ==== Defs.lean ====
def Pre_Kernel (m : (ℓ : Loc Cert.Kernel.nD Cert.Kernel.τ Cert.Kernel.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_gates_finite [hPre_gates_finite : Cert.Pre_gates_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_gates_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_gates_finite [hPre_gates_finite : Cert.Pre_gates_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_gates_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Kernel2Ideal_pre_gates_finite [hKernel2Ideal : Cert.Kernel2Ideal.Facts] [hPre_gates_finite : Cert.Pre_gates_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_gates_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Reference2Ideal_pre_gates_finite [hReference2Ideal : Cert.Reference2Ideal.Facts] [hPre_gates_finite : Cert.Pre_gates_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_gates_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def preserves_Kernel2_Kernel2Ideal : Prop :=
  True

def algebraic_Kernel2Ideal_Reference2Ideal_pre_gates_finite [hKernel2Ideal : Cert.Kernel2Ideal.Facts] [hReference2Ideal : Cert.Reference2Ideal.Facts] [hPre_gates_finite : Cert.Pre_gates_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_gates_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v16)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v66) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v39_0)) (v1 : (c : Dev Cert.Kernel3Ideal.nD) → Buf (Elt Ideal) ((c.tc : Thread Cert.Kernel3Ideal.nD Cert.Kernel3Ideal.τ).loc Cert.Kernel3Ideal.main_v39_1)) (v2 : (c : Dev Cert.Kernel3Ideal.nD) → Buf (Elt Ideal) ((c.tc : Thread Cert.Kernel3Ideal.nD Cert.Kernel3Ideal.τ).loc Cert.Kernel3Ideal.main_v39_2)) (v3 : (c : Dev Cert.Kernel3Ideal.nD) → Buf (Elt Ideal) ((c.tc : Thread Cert.Kernel3Ideal.nD Cert.Kernel3Ideal.τ).loc Cert.Kernel3Ideal.main_v39_3)) (v4 : (c : Dev Cert.Kernel3Ideal.nD) → Buf (Elt Ideal) ((c.tc : Thread Cert.Kernel3Ideal.nD Cert.Kernel3Ideal.τ).loc Cert.Kernel3Ideal.main_v39_4)) (v5 : (c : Dev Cert.Kernel3Ideal.nD) → Buf (Elt Ideal) ((c.tc : Thread Cert.Kernel3Ideal.nD Cert.Kernel3Ideal.τ).loc Cert.Kernel3Ideal.main_v39_5)) (v6 : (c : Dev Cert.Kernel3Ideal.nD) → Buf (Elt Ideal) ((c.tc : Thread Cert.Kernel3Ideal.nD Cert.Kernel3Ideal.τ).loc Cert.Kernel3Ideal.main_v39_6)) (v7 : (c : Dev Cert.Kernel3Ideal.nD) → Buf (Elt Ideal) ((c.tc : Thread Cert.Kernel3Ideal.nD Cert.Kernel3Ideal.τ).loc Cert.Kernel3Ideal.main_v39_7)) (v8 : (c : Dev Cert.Kernel3Ideal.nD) → Buf (Elt Ideal) ((c.tc : Thread Cert.Kernel3Ideal.nD Cert.Kernel3Ideal.τ).loc Cert.Kernel3Ideal.main_v39_8)) (v9 : (c : Dev Cert.Kernel3Ideal.nD) → Buf (Elt Ideal) ((c.tc : Thread Cert.Kernel3Ideal.nD Cert.Kernel3Ideal.τ).loc Cert.Kernel3Ideal.main_v39_9)) (v10 : (c : Dev Cert.Kernel3Ideal.nD) → Buf (Elt Ideal) ((c.tc : Thread Cert.Kernel3Ideal.nD Cert.Kernel3Ideal.τ).loc Cert.Kernel3Ideal.main_v39_10)) (v11 : (c : Dev Cert.Kernel3Ideal.nD) → Buf (Elt Ideal) ((c.tc : Thread Cert.Kernel3Ideal.nD Cert.Kernel3Ideal.τ).loc Cert.Kernel3Ideal.main_v39_11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v39_0) = v0 c
          ∧ r.2.mem ((c.tc : Thread Cert.Kernel3Ideal.nD Cert.Kernel3Ideal.τ).loc Cert.Kernel3Ideal.main_v39_1) = v1 c
          ∧ r.2.mem ((c.tc : Thread Cert.Kernel3Ideal.nD Cert.Kernel3Ideal.τ).loc Cert.Kernel3Ideal.main_v39_2) = v2 c
          ∧ r.2.mem ((c.tc : Thread Cert.Kernel3Ideal.nD Cert.Kernel3Ideal.τ).loc Cert.Kernel3Ideal.main_v39_3) = v3 c
          ∧ r.2.mem ((c.tc : Thread Cert.Kernel3Ideal.nD Cert.Kernel3Ideal.τ).loc Cert.Kernel3Ideal.main_v39_4) = v4 c
          ∧ r.2.mem ((c.tc : Thread Cert.Kernel3Ideal.nD Cert.Kernel3Ideal.τ).loc Cert.Kernel3Ideal.main_v39_5) = v5 c
          ∧ r.2.mem ((c.tc : Thread Cert.Kernel3Ideal.nD Cert.Kernel3Ideal.τ).loc Cert.Kernel3Ideal.main_v39_6) = v6 c
          ∧ r.2.mem ((c.tc : Thread Cert.Kernel3Ideal.nD Cert.Kernel3Ideal.τ).loc Cert.Kernel3Ideal.main_v39_7) = v7 c
          ∧ r.2.mem ((c.tc : Thread Cert.Kernel3Ideal.nD Cert.Kernel3Ideal.τ).loc Cert.Kernel3Ideal.main_v39_8) = v8 c
          ∧ r.2.mem ((c.tc : Thread Cert.Kernel3Ideal.nD Cert.Kernel3Ideal.τ).loc Cert.Kernel3Ideal.main_v39_9) = v9 c
          ∧ r.2.mem ((c.tc : Thread Cert.Kernel3Ideal.nD Cert.Kernel3Ideal.τ).loc Cert.Kernel3Ideal.main_v39_10) = v10 c
          ∧ r.2.mem ((c.tc : Thread Cert.Kernel3Ideal.nD Cert.Kernel3Ideal.τ).loc Cert.Kernel3Ideal.main_v39_11) = v11 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v72) = v0 c
          ∧ r.2.mem ((c.tc : Thread Cert.Reference3Ideal.nD Cert.Reference3Ideal.τ).loc Cert.Reference3Ideal.main_v73) = v1 c
          ∧ r.2.mem ((c.tc : Thread Cert.Reference3Ideal.nD Cert.Reference3Ideal.τ).loc Cert.Reference3Ideal.main_v77) = v2 c
          ∧ r.2.mem ((c.tc : Thread Cert.Reference3Ideal.nD Cert.Reference3Ideal.τ).loc Cert.Reference3Ideal.main_v79) = v3 c
          ∧ r.2.mem ((c.tc : Thread Cert.Reference3Ideal.nD Cert.Reference3Ideal.τ).loc Cert.Reference3Ideal.main_v81) = v4 c
          ∧ r.2.mem ((c.tc : Thread Cert.Reference3Ideal.nD Cert.Reference3Ideal.τ).loc Cert.Reference3Ideal.main_v83) = v5 c
          ∧ r.2.mem ((c.tc : Thread Cert.Reference3Ideal.nD Cert.Reference3Ideal.τ).loc Cert.Reference3Ideal.main_v86) = v6 c
          ∧ r.2.mem ((c.tc : Thread Cert.Reference3Ideal.nD Cert.Reference3Ideal.τ).loc Cert.Reference3Ideal.main_v87) = v7 c
          ∧ r.2.mem ((c.tc : Thread Cert.Reference3Ideal.nD Cert.Reference3Ideal.τ).loc Cert.Reference3Ideal.main_v90) = v8 c
          ∧ r.2.mem ((c.tc : Thread Cert.Reference3Ideal.nD Cert.Reference3Ideal.τ).loc Cert.Reference3Ideal.main_v68) = v9 c
          ∧ r.2.mem ((c.tc : Thread Cert.Reference3Ideal.nD Cert.Reference3Ideal.τ).loc Cert.Reference3Ideal.main_v91) = v10 c
          ∧ r.2.mem ((c.tc : Thread Cert.Reference3Ideal.nD Cert.Reference3Ideal.τ).loc Cert.Reference3Ideal.main_v92) = v11 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v14_0)) (v1 : (c : Dev Cert.Kernel4Ideal.nD) → Buf (Elt Ideal) ((c.tc : Thread Cert.Kernel4Ideal.nD Cert.Kernel4Ideal.τ).loc Cert.Kernel4Ideal.main_v14_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14_0) = v0 c
          ∧ r.2.mem ((c.tc : Thread Cert.Kernel4Ideal.nD Cert.Kernel4Ideal.τ).loc Cert.Kernel4Ideal.main_v14_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v45) = v0 c
          ∧ r.2.mem ((c.tc : Thread Cert.Reference4Ideal.nD Cert.Reference4Ideal.τ).loc Cert.Reference4Ideal.main_v54) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v11) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)) →
    ∃ (v0 : (c : Dev Cert.Kernel7Ideal.nD) → Buf (Elt Ideal) ((c.tc : Thread Cert.Kernel7Ideal.nD Cert.Kernel7Ideal.τ).loc Cert.Kernel7Ideal.main_v9)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v9) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v64) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v12) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def Claim : Prop :=
  ∃ (hKernel : Cert.Kernel.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_gates_finite : Cert.Pre_gates_finite.Facts),
    quiescent_Kernel (hKernel := hKernel)
    ∧ quiescent_Kernel2 (hKernel2 := hKernel2)
    ∧ quiescent_Kernel2Ideal (hKernel2Ideal := hKernel2Ideal)
    ∧ quiescent_Kernel2Ideal_pre_gates_finite (hKernel2Ideal := hKernel2Ideal) (hPre_gates_finite := hPre_gates_finite)
    ∧ quiescent_Reference2Ideal (hReference2Ideal := hReference2Ideal)
    ∧ quiescent_Reference2Ideal_pre_gates_finite (hReference2Ideal := hReference2Ideal) (hPre_gates_finite := hPre_gates_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel2_Kernel2Ideal
    ∧ algebraic_Kernel2Ideal_Reference2Ideal_pre_gates_finite (hKernel2Ideal := hKernel2Ideal) (hReference2Ideal := hReference2Ideal) (hPre_gates_finite := hPre_gates_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_gates_finite.lean ====
abbrev S8x4096x1024 : Shape := ⟨3, ![8, 4096, 1024]⟩
abbrev S32768x64 : Shape := ⟨2, ![32768, 64]⟩
abbrev S8x6x1024 : Shape := ⟨3, ![8, 6, 1024]⟩
abbrev S4x64x1024x256 : Shape := ⟨4, ![4, 64, 1024, 256]⟩
abbrev S4x64x256x1024 : Shape := ⟨4, ![4, 64, 256, 1024]⟩
abbrev S4x1024x256 : Shape := ⟨3, ![4, 1024, 256]⟩
abbrev S4x256x1024 : Shape := ⟨3, ![4, 256, 1024]⟩
abbrev S4x1024 : Shape := ⟨2, ![4, 1024]⟩
abbrev S_ : Shape := ⟨0, ![]⟩

class Facts : Prop where
  bcast_S_S32768x64 : S_.BroadcastsInDim S32768x64 (![] : Fin 0 → Fin S32768x64.rank)

variable [Facts]

def fn {F : FTy → Type} [FloatOps F] (main_arg0 : FVec F S8x4096x1024 .f32) (main_arg1 : FVec F S32768x64 .f32) (main_arg2 : FVec F S8x4096x1024 .f32) (main_arg3 : FVec F S8x6x1024 .f32) (main_arg4 : FVec F S4x64x1024x256 .f32) (main_arg5 : FVec F S4x64x1024x256 .f32) (main_arg6 : FVec F S4x64x256x1024 .f32) (main_arg7 : FVec F S4x1024x256 .f32) (main_arg8 : FVec F S4x1024x256 .f32) (main_arg9 : FVec F S4x256x1024 .f32) (main_arg10 : FVec F S4x1024 .f32) (main_arg11 : FVec F S4x1024 .f32) : IVec S32768x64 1 :=
  let main_v0 : FVec F S32768x64 .f32 := Host.absf main_arg1
  let main_cst : FVec F S_ .f32 := constant S_ .f32 0x7F800000#32
  let main_v1 : FVec F S32768x64 .f32 := broadcastInDim S32768x64 ![] bcast_S_S32768x64 main_cst
  let main_v2 : IVec S32768x64 1 := cmpf .olt main_v0 main_v1
  main_v2
-- ==== Kernel.lean ====
abbrev S8x512x4096 : Shape := ⟨3, ![8, 512, 4096]⟩
abbrev S8x8x4096 : Shape := ⟨3, ![8, 8, 4096]⟩
abbrev S8x1024x4096 : Shape := ⟨3, ![8, 1024, 4096]⟩
abbrev S8x4096x128 : Shape := ⟨3, ![8, 4096, 128]⟩
abbrev S8x144x4096 : Shape := ⟨3, ![8, 144, 4096]⟩
abbrev S8x384x128 : Shape := ⟨3, ![8, 384, 128]⟩
abbrev S4x8x64x128 : Shape := ⟨4, ![4, 8, 64, 128]⟩
abbrev S8x4096x512 : Shape := ⟨3, ![8, 4096, 512]⟩
abbrev S1x512x128 : Shape := ⟨3, ![1, 512, 128]⟩
abbrev S1x8x128 : Shape := ⟨3, ![1, 8, 128]⟩
abbrev S1x1024x128 : Shape := ⟨3, ![1, 1024, 128]⟩
abbrev S1x4096x128 : Shape := ⟨3, ![1, 4096, 128]⟩
abbrev S1x144x4096 : Shape := ⟨3, ![1, 144, 4096]⟩
abbrev S1x8x64x128 : Shape := ⟨4, ![1, 8, 64, 128]⟩
abbrev S1x128x512 : Shape := ⟨3, ![1, 128, 512]⟩
abbrev S4096x128 : Shape := ⟨2, ![4096, 128]⟩
abbrev S32x128x128 : Shape := ⟨3, ![32, 128, 128]⟩
abbrev S256x128 : Shape := ⟨2, ![256, 128]⟩
abbrev S512x1024 : Shape := ⟨2, ![512, 1024]⟩
abbrev S8x1024 : Shape := ⟨2, ![8, 1024]⟩
abbrev S144x1024 : Shape := ⟨2, ![144, 1024]⟩
abbrev S512x128 : Shape := ⟨2, ![512, 128]⟩
abbrev S1x128 : Shape := ⟨2, ![1, 128]⟩
abbrev S1x128x128 : Shape := ⟨3, ![1, 128, 128]⟩
abbrev S128x128 : Shape := ⟨2, ![128, 128]⟩
abbrev S128x512 : Shape := ⟨2, ![128, 512]⟩
abbrev S8x128 : Shape := ⟨2, ![8, 128]⟩
abbrev S512x512 : Shape := ⟨2, ![512, 512]⟩
abbrev S32x8x128 : Shape := ⟨3, ![32, 8, 128]⟩
abbrev S128 : Shape := ⟨1, ![128]⟩
abbrev S1x1x128 : Shape := ⟨3, ![1, 1, 128]⟩
abbrev S1 : Shape := ⟨1, ![1]⟩
abbrev S1x1x1 : Shape := ⟨3, ![1, 1, 1]⟩
abbrev S64x128 : Shape := ⟨2, ![64, 128]⟩
abbrev S8x64x128 : Shape := ⟨3, ![8, 64, 128]⟩
abbrev S1x64x128 : Shape := ⟨3, ![1, 64, 128]⟩
abbrev S128x1024 : Shape := ⟨2, ![128, 1024]⟩
abbrev S1x256x128 : Shape := ⟨3, ![1, 256, 128]⟩
abbrev S256x1024 : Shape := ⟨2, ![256, 1024]⟩
abbrev S32x8x1024 : Shape := ⟨3, ![32, 8, 1024]⟩
abbrev S1x144x256 : Shape := ⟨3, ![1, 144, 256]⟩
abbrev S144x256 : Shape := ⟨2, ![144, 256]⟩
abbrev S1x1024 : Shape := ⟨2, ![1, 1024]⟩
abbrev S1024 : Shape := ⟨1, ![1024]⟩
abbrev S64x8x1024 : Shape := ⟨3, ![64, 8, 1024]⟩
abbrev S1x144x512 : Shape := ⟨3, ![1, 144, 512]⟩
abbrev S144x512 : Shape := ⟨2, ![144, 512]⟩
abbrev S1x1x64x128 : Shape := ⟨4, ![1, 1, 64, 128]⟩

abbrev nBuf : Space → Nat
  | .hbm => 10
  | .vmem => 28
  | .smem => 0
  | _ => 0

abbrev bufTy : (tb : Table) → Fin (tcTables nBuf tb) → BufTy
  | .hbm, ⟨0, _⟩ => ⟨S8x512x4096, .bf16⟩
  | .hbm, ⟨1, _⟩ => ⟨S8x8x4096, .f32⟩
  | .hbm, ⟨2, _⟩ => ⟨S8x1024x4096, .bf16⟩
  | .hbm, ⟨3, _⟩ => ⟨S8x4096x128, .bf16⟩
  | .hbm, ⟨4, _⟩ => ⟨S8x4096x128, .bf16⟩
  | .hbm, ⟨5, _⟩ => ⟨S8x4096x128, .bf16⟩
  | .hbm, ⟨6, _⟩ => ⟨S8x144x4096, .bf16⟩
  | .hbm, ⟨7, _⟩ => ⟨S8x384x128, .f32⟩
  | .hbm, ⟨8, _⟩ => ⟨S4x8x64x128, .bf16⟩
  | .hbm, ⟨9, _⟩ => ⟨S8x4096x512, .bf16⟩
  | .local _ .vmem, ⟨0, _⟩ => ⟨S1x512x128, .bf16⟩
  | .local _ .vmem, ⟨1, _⟩ => ⟨S1x512x128, .bf16⟩
  | .local _ .vmem, ⟨2, _⟩ => ⟨S1x8x128, .f32⟩
  | .local _ .vmem, ⟨3, _⟩ => ⟨S1x8x128, .f32⟩
  | .local _ .vmem, ⟨4, _⟩ => ⟨S1x1024x128, .bf16⟩
  | .local _ .vmem, ⟨5, _⟩ => ⟨S1x1024x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x4096x128, .bf16⟩
  | .local _ .vmem, ⟨9, _⟩ => ⟨S1x4096x128, .bf16⟩
  | .local _ .vmem, ⟨10, _⟩ => ⟨S1x4096x128, .bf16⟩
  | .local _ .vmem, ⟨11, _⟩ => ⟨S1x4096x128, .bf16⟩
  | .local _ .vmem, ⟨12, _⟩ => ⟨S1x144x4096, .bf16⟩
  | .local _ .vmem, ⟨13, _⟩ => ⟨S1x144x4096, .bf16⟩
  | .local _ .vmem, ⟨14, _⟩ => ⟨S8x384x128, .f32⟩
  | .local _ .vmem, ⟨15, _⟩ => ⟨S1x8x64x128, .bf16⟩
  | .local _ .vmem, ⟨16, _⟩ => ⟨S1x128x512, .bf16⟩
  | .local _ .vmem, ⟨17, _⟩ => ⟨S1x128x512, .bf16⟩
  | .local _ .vmem, ⟨18, _⟩ => ⟨S4096x128, .i32⟩
  | .local _ .vmem, ⟨19, _⟩ => ⟨S32x128x128, .i32⟩
  | .local _ .vmem, ⟨20, _⟩ => ⟨S4096x128, .f32⟩
  | .local _ .vmem, ⟨21, _⟩ => ⟨S256x128, .f32⟩
  | .local _ .vmem, ⟨22, _⟩ => ⟨S512x1024, .f32⟩
  | .local _ .vmem, ⟨23, _⟩ => ⟨S512x1024, .f32⟩
  | .local _ .vmem, ⟨24, _⟩ => ⟨S8x1024, .f32⟩
  | .local _ .vmem, ⟨25, _⟩ => ⟨S8x1024, .f32⟩
  | .local _ .vmem, ⟨26, _⟩ => ⟨S144x1024, .f32⟩
  | .local _ .vmem, ⟨27, _⟩ => ⟨S512x128, .f32⟩
  | _, _ => ⟨S8x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_scratch8 : Ref sig .tc := ⟨.vmem, 26, rfl⟩
abbrev cc0_scratch9 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [BitOps F]

abbrev grid0 : Pipeline.Grid := ⟨2, ![8, 32], ![false, false]⟩

def k0_mult1 (i : grid0.Coords) : BitVec 32 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v21 : BitVec 32 := Scalar.subi v1 c256_i32
  let c0_i32_7 : BitVec 32 := 0#32
  let v22 : BitVec 32 := Scalar.maxsi v21 c0_i32_7
  v22
def k0_mult2 (i : grid0.Coords) : BitVec 32 :=
  let arg1 : BitVec 32 := BitVec.ofNat 32 (i 1).val
  let c0_i32_8 : BitVec 32 := 0#32
  let v24 : BitVec 1 := Scalar.cmpi .eq arg1 c0_i32_8
  let c128_i32_9 : BitVec 32 := 128#32
  let c0_i32_10 : BitVec 32 := 0#32
  let v25 : BitVec 32 := Scalar.select v24 c128_i32_9 c0_i32_10
  v25
def k0_mult3 : BitVec 32 :=
  let c0_i32_27 : BitVec 32 := 0#32
  let c7_i32 : BitVec 32 := 7#32
  let v53 : BitVec 32 := Scalar.minsi c0_i32_27 c7_i32
  let c512_i32_28 : BitVec 32 := 512#32
  let v54 : BitVec 32 := Scalar.muli v53 c512_i32_28
  v54
def k0_off1 : Fin 3 → Nat :=
  let c0_29 : Index := 0#32
  let c0_i32_27 : BitVec 32 := 0#32
  let c7_i32 : BitVec 32 := 7#32
  let v53 : BitVec 32 := Scalar.minsi c0_i32_27 c7_i32
  let c512_i32_28 : BitVec 32 := 512#32
  let v54 : BitVec 32 := Scalar.muli v53 c512_i32_28
  let v55 : BitVec 32 := v54
  let v56 : Index := Scalar.indexCast v55
  let c0_30 : Index := 0#32
  ![0, v56.toNat, 0]
@[reducible] def k0_t1_loop (i : grid0.Coords) : Scf.Loop 32 :=
  let c0_i32_44 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_37 : BitVec 32 := 0#32
  let v71 : BitVec 1 := Scalar.cmpi .sgt v20 c0_i32_37
  let v72 : BitVec 32 := Scalar.extui v71
  let c0_i32_38 : BitVec 32 := 0#32
  let v73 : BitVec 1 := Scalar.cmpi .slt v20 c0_i32_38
  let v74 : BitVec 32 := Scalar.extui v73
  let v75 : BitVec 32 := Scalar.subi v72 v74
  let c2_i32 : BitVec 32 := 2#32
  let c0_i32_39 : BitVec 32 := 0#32
  let v76 : BitVec 1 := Scalar.cmpi .sgt c2_i32 c0_i32_39
  let v77 : BitVec 32 := Scalar.extui v76
  let c0_i32_40 : BitVec 32 := 0#32
  let v78 : BitVec 1 := Scalar.cmpi .slt c2_i32 c0_i32_40
  let v79 : BitVec 32 := Scalar.extui v78
  let v80 : BitVec 32 := Scalar.subi v77 v79
  let v81 : BitVec 1 := Scalar.cmpi .ne v75 v80
  let v82 : BitVec 32 := Scalar.remsi v20 c2_i32
  let c0_i32_41 : BitVec 32 := 0#32
  let v83 : BitVec 1 := Scalar.cmpi .ne v82 c0_i32_41
  let v84 : BitVec 1 := Scalar.andi v81 v83
  let v70 : BitVec 32 := Scalar.divsi v20 c2_i32
  let c1_i32_42 : BitVec 32 := 1#32
  let v85 : BitVec 32 := Scalar.subi v70 c1_i32_42
  let v86 : BitVec 32 := Scalar.select v84 v85 v70
  let v87 : BitVec 32 := Scalar.subi v86 c0_i32_44
  let c1_i32_45 : BitVec 32 := 1#32
  let v89 : BitVec 32 := Scalar.divsi v87 c1_i32_45
  let v90 : BitVec 32 := Scalar.muli v89 c1_i32_45
  let v91 : BitVec 32 := Scalar.addi c0_i32_44 v90
  let c1_i32_46 : BitVec 32 := 1#32
  ⟨c0_i32_44, v91, c1_i32_46⟩
def k0_mult4 (i : grid0.Coords) (k0_t1 : Fin (k0_t1_loop i).trips) : BitVec 32 :=
  let c2_i32_247 : BitVec 32 := 2#32
  let c0_i32_44 : BitVec 32 := 0#32
  let c1_i32_46 : BitVec 32 := 1#32
  let arg22 : BitVec 32 := Scf.iv c0_i32_44 c1_i32_46 k0_t1
  let v417 : BitVec 32 := Scalar.muli c2_i32_247 arg22
  let c1_i32_248 : BitVec 32 := 1#32
  let v418 : BitVec 32 := Scalar.addi v417 c1_i32_248
  let c7_i32_249 : BitVec 32 := 7#32
  let v419 : BitVec 32 := Scalar.minsi v418 c7_i32_249
  let c512_i32_250 : BitVec 32 := 512#32
  let v420 : BitVec 32 := Scalar.muli v419 c512_i32_250
  v420
def k0_off2 (i : grid0.Coords) (k0_t1 : Fin (k0_t1_loop i).trips) (c1_i32_248 : BitVec 32) : Fin 3 → Nat :=
  let c0_251 : Index := 0#32
  let c2_i32_247 : BitVec 32 := 2#32
  let c0_i32_44 : BitVec 32 := 0#32
  let c1_i32_46 : BitVec 32 := 1#32
  let arg22 : BitVec 32 := Scf.iv c0_i32_44 c1_i32_46 k0_t1
  let v417 : BitVec 32 := Scalar.muli c2_i32_247 arg22
  let v418 : BitVec 32 := Scalar.addi v417 c1_i32_248
  let c7_i32_249 : BitVec 32 := 7#32
  let v419 : BitVec 32 := Scalar.minsi v418 c7_i32_249
  let c512_i32_250 : BitVec 32 := 512#32
  let v420 : BitVec 32 := Scalar.muli v419 c512_i32_250
  let v421 : BitVec 32 := v420
  let v422 : Index := Scalar.indexCast v421
  let c0_252 : Index := 0#32
  ![0, v422.toNat, 0]
def k0_mult5 (i : grid0.Coords) (k0_t1 : Fin (k0_t1_loop i).trips) : BitVec 32 :=
  let c2_i32_261 : BitVec 32 := 2#32
  let c0_i32_44 : BitVec 32 := 0#32
  let c1_i32_46 : BitVec 32 := 1#32
  let arg22 : BitVec 32 := Scf.iv c0_i32_44 c1_i32_46 k0_t1
  let v436 : BitVec 32 := Scalar.muli c2_i32_261 arg22
  let c512_i32_289 : BitVec 32 := 512#32
  let v507 : BitVec 32 := Scalar.muli v436 c512_i32_289
  v507
def k0_off3 (i : grid0.Coords) (k0_t1 : Fin (k0_t1_loop i).trips) : Fin 2 → Nat :=
  let c2_i32_261 : BitVec 32 := 2#32
  let c0_i32_44 : BitVec 32 := 0#32
  let c1_i32_46 : BitVec 32 := 1#32
  let arg22 : BitVec 32 := Scf.iv c0_i32_44 c1_i32_46 k0_t1
  let v436 : BitVec 32 := Scalar.muli c2_i32_261 arg22
  let c512_i32_289 : BitVec 32 := 512#32
  let v507 : BitVec 32 := Scalar.muli v436 c512_i32_289
  let v508 : BitVec 32 := v507
  let v509 : Index := Scalar.indexCast v508
  let c0_290 : Index := 0#32
  ![v509.toNat, 0]
def k0_mult6 (i : grid0.Coords) (k0_t1 : Fin (k0_t1_loop i).trips) : BitVec 32 :=
  let c2_i32_291 : BitVec 32 := 2#32
  let c0_i32_44 : BitVec 32 := 0#32
  let c1_i32_46 : BitVec 32 := 1#32
  let arg22 : BitVec 32 := Scf.iv c0_i32_44 c1_i32_46 k0_t1
  let v513 : BitVec 32 := Scalar.muli c2_i32_291 arg22
  let c2_i32_292 : BitVec 32 := 2#32
  let v514 : BitVec 32 := Scalar.addi v513 c2_i32_292
  let c7_i32_293 : BitVec 32 := 7#32
  let v515 : BitVec 32 := Scalar.minsi v514 c7_i32_293
  let c512_i32_294 : BitVec 32 := 512#32
  let v516 : BitVec 32 := Scalar.muli v515 c512_i32_294
  v516
def k0_mult7 (i : grid0.Coords) (k0_t1 : Fin (k0_t1_loop i).trips) : BitVec 32 :=
  let c2_i32_305 : BitVec 32 := 2#32
  let c0_i32_44 : BitVec 32 := 0#32
  let c1_i32_46 : BitVec 32 := 1#32
  let arg22 : BitVec 32 := Scf.iv c0_i32_44 c1_i32_46 k0_t1
  let v532 : BitVec 32 := Scalar.muli c2_i32_305 arg22
  let c1_i32_306 : BitVec 32 := 1#32
  let v533 : BitVec 32 := Scalar.addi v532 c1_i32_306
  let c512_i32_336 : BitVec 32 := 512#32
  let v604 : BitVec 32 := Scalar.muli v533 c512_i32_336
  v604
def k0_off4 (i : grid0.Coords) (k0_t1 : Fin (k0_t1_loop i).trips) : Fin 2 → Nat :=
  let c2_i32_305 : BitVec 32 := 2#32
  let c0_i32_44 : BitVec 32 := 0#32
  let c1_i32_46 : BitVec 32 := 1#32
  let arg22 : BitVec 32 := Scf.iv c0_i32_44 c1_i32_46 k0_t1
  let v532 : BitVec 32 := Scalar.muli c2_i32_305 arg22
  let c1_i32_306 : BitVec 32 := 1#32
  let v533 : BitVec 32 := Scalar.addi v532 c1_i32_306
  let c512_i32_336 : BitVec 32 := 512#32
  let v604 : BitVec 32 := Scalar.muli v533 c512_i32_336
  let v605 : BitVec 32 := v604
  let v606 : Index := Scalar.indexCast v605
  let c0_337 : Index := 0#32
  ![v606.toNat, 0]
@[reducible] def k0_t2_loop (i : grid0.Coords) : Scf.Loop 32 :=
  let c0_i32_44 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_37 : BitVec 32 := 0#32
  let v71 : BitVec 1 := Scalar.cmpi .sgt v20 c0_i32_37
  let v72 : BitVec 32 := Scalar.extui v71
  let c0_i32_38 : BitVec 32 := 0#32
  let v73 : BitVec 1 := Scalar.cmpi .slt v20 c0_i32_38
  let v74 : BitVec 32 := Scalar.extui v73
  let v75 : BitVec 32 := Scalar.subi v72 v74
  let c2_i32 : BitVec 32 := 2#32
  let c0_i32_39 : BitVec 32 := 0#32
  let v76 : BitVec 1 := Scalar.cmpi .sgt c2_i32 c0_i32_39
  let v77 : BitVec 32 := Scalar.extui v76
  let c0_i32_40 : BitVec 32 := 0#32
  let v78 : BitVec 1 := Scalar.cmpi .slt c2_i32 c0_i32_40
  let v79 : BitVec 32 := Scalar.extui v78
  let v80 : BitVec 32 := Scalar.subi v77 v79
  let v81 : BitVec 1 := Scalar.cmpi .ne v75 v80
  let v82 : BitVec 32 := Scalar.remsi v20 c2_i32
  let c0_i32_41 : BitVec 32 := 0#32
  let v83 : BitVec 1 := Scalar.cmpi .ne v82 c0_i32_41
  let v84 : BitVec 1 := Scalar.andi v81 v83
  let v70 : BitVec 32 := Scalar.divsi v20 c2_i32
  let c1_i32_42 : BitVec 32 := 1#32
  let v85 : BitVec 32 := Scalar.subi v70 c1_i32_42
  let v86 : BitVec 32 := Scalar.select v84 v85 v70
  let v87 : BitVec 32 := Scalar.subi v86 c0_i32_44
  let c1_i32_45 : BitVec 32 := 1#32
  let v89 : BitVec 32 := Scalar.divsi v87 c1_i32_45
  let v90 : BitVec 32 := Scalar.muli v89 c1_i32_45
  let v91 : BitVec 32 := Scalar.addi c0_i32_44 v90
  let v88 : BitVec 32 := Scalar.addi c0_i32_44 v87
  let c1_i32_47 : BitVec 32 := 1#32
  ⟨v91, v88, c1_i32_47⟩
def k0_mult8 (i : grid0.Coords) (k0_t2 : Fin (k0_t2_loop i).trips) : BitVec 32 :=
  let c2_i32_247 : BitVec 32 := 2#32
  let c0_i32_44 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_37 : BitVec 32 := 0#32
  let v71 : BitVec 1 := Scalar.cmpi .sgt v20 c0_i32_37
  let v72 : BitVec 32 := Scalar.extui v71
  let c0_i32_38 : BitVec 32 := 0#32
  let v73 : BitVec 1 := Scalar.cmpi .slt v20 c0_i32_38
  let v74 : BitVec 32 := Scalar.extui v73
  let v75 : BitVec 32 := Scalar.subi v72 v74
  let c2_i32 : BitVec 32 := 2#32
  let c0_i32_39 : BitVec 32 := 0#32
  let v76 : BitVec 1 := Scalar.cmpi .sgt c2_i32 c0_i32_39
  let v77 : BitVec 32 := Scalar.extui v76
  let c0_i32_40 : BitVec 32 := 0#32
  let v78 : BitVec 1 := Scalar.cmpi .slt c2_i32 c0_i32_40
  let v79 : BitVec 32 := Scalar.extui v78
  let v80 : BitVec 32 := Scalar.subi v77 v79
  let v81 : BitVec 1 := Scalar.cmpi .ne v75 v80
  let v82 : BitVec 32 := Scalar.remsi v20 c2_i32
  let c0_i32_41 : BitVec 32 := 0#32
  let v83 : BitVec 1 := Scalar.cmpi .ne v82 c0_i32_41
  let v84 : BitVec 1 := Scalar.andi v81 v83
  let v70 : BitVec 32 := Scalar.divsi v20 c2_i32
  let c1_i32_42 : BitVec 32 := 1#32
  let v85 : BitVec 32 := Scalar.subi v70 c1_i32_42
  let v86 : BitVec 32 := Scalar.select v84 v85 v70
  let v87 : BitVec 32 := Scalar.subi v86 c0_i32_44
  let c1_i32_45 : BitVec 32 := 1#32
  let v89 : BitVec 32 := Scalar.divsi v87 c1_i32_45
  let v90 : BitVec 32 := Scalar.muli v89 c1_i32_45
  let v91 : BitVec 32 := Scalar.addi c0_i32_44 v90
  let c1_i32_47 : BitVec 32 := 1#32
  let arg22 : BitVec 32 := Scf.iv v91 c1_i32_47 k0_t2
  let v417 : BitVec 32 := Scalar.muli c2_i32_247 arg22
  let c1_i32_248 : BitVec 32 := 1#32
  let v418 : BitVec 32 := Scalar.addi v417 c1_i32_248
  let c7_i32_249 : BitVec 32 := 7#32
  let v419 : BitVec 32 := Scalar.minsi v418 c7_i32_249
  let c512_i32_250 : BitVec 32 := 512#32
  let v420 : BitVec 32 := Scalar.muli v419 c512_i32_250
  v420
def k0_off5 (i : grid0.Coords) (k0_t2 : Fin (k0_t2_loop i).trips) (c1_i32_248 : BitVec 32) : Fin 3 → Nat :=
  let c0_251 : Index := 0#32
  let c2_i32_247 : BitVec 32 := 2#32
  let c0_i32_44 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_37 : BitVec 32 := 0#32
  let v71 : BitVec 1 := Scalar.cmpi .sgt v20 c0_i32_37
  let v72 : BitVec 32 := Scalar.extui v71
  let c0_i32_38 : BitVec 32 := 0#32
  let v73 : BitVec 1 := Scalar.cmpi .slt v20 c0_i32_38
  let v74 : BitVec 32 := Scalar.extui v73
  let v75 : BitVec 32 := Scalar.subi v72 v74
  let c2_i32 : BitVec 32 := 2#32
  let c0_i32_39 : BitVec 32 := 0#32
  let v76 : BitVec 1 := Scalar.cmpi .sgt c2_i32 c0_i32_39
  let v77 : BitVec 32 := Scalar.extui v76
  let c0_i32_40 : BitVec 32 := 0#32
  let v78 : BitVec 1 := Scalar.cmpi .slt c2_i32 c0_i32_40
  let v79 : BitVec 32 := Scalar.extui v78
  let v80 : BitVec 32 := Scalar.subi v77 v79
  let v81 : BitVec 1 := Scalar.cmpi .ne v75 v80
  let v82 : BitVec 32 := Scalar.remsi v20 c2_i32
  let c0_i32_41 : BitVec 32 := 0#32
  let v83 : BitVec 1 := Scalar.cmpi .ne v82 c0_i32_41
  let v84 : BitVec 1 := Scalar.andi v81 v83
  let v70 : BitVec 32 := Scalar.divsi v20 c2_i32
  let c1_i32_42 : BitVec 32 := 1#32
  let v85 : BitVec 32 := Scalar.subi v70 c1_i32_42
  let v86 : BitVec 32 := Scalar.select v84 v85 v70
  let v87 : BitVec 32 := Scalar.subi v86 c0_i32_44
  let c1_i32_45 : BitVec 32 := 1#32
  let v89 : BitVec 32 := Scalar.divsi v87 c1_i32_45
  let v90 : BitVec 32 := Scalar.muli v89 c1_i32_45
  let v91 : BitVec 32 := Scalar.addi c0_i32_44 v90
  let c1_i32_47 : BitVec 32 := 1#32
  let arg22 : BitVec 32 := Scf.iv v91 c1_i32_47 k0_t2
  let v417 : BitVec 32 := Scalar.muli c2_i32_247 arg22
  let v418 : BitVec 32 := Scalar.addi v417 c1_i32_248
  let c7_i32_249 : BitVec 32 := 7#32
  let v419 : BitVec 32 := Scalar.minsi v418 c7_i32_249
  let c512_i32_250 : BitVec 32 := 512#32
  let v420 : BitVec 32 := Scalar.muli v419 c512_i32_250
  let v421 : BitVec 32 := v420
  let v422 : Index := Scalar.indexCast v421
  let c0_252 : Index := 0#32
  ![0, v422.toNat, 0]
def k0_mult9 (i : grid0.Coords) (k0_t2 : Fin (k0_t2_loop i).trips) : BitVec 32 :=
  let c2_i32_261 : BitVec 32 := 2#32
  let c0_i32_44 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_37 : BitVec 32 := 0#32
  let v71 : BitVec 1 := Scalar.cmpi .sgt v20 c0_i32_37
  let v72 : BitVec 32 := Scalar.extui v71
  let c0_i32_38 : BitVec 32 := 0#32
  let v73 : BitVec 1 := Scalar.cmpi .slt v20 c0_i32_38
  let v74 : BitVec 32 := Scalar.extui v73
  let v75 : BitVec 32 := Scalar.subi v72 v74
  let c2_i32 : BitVec 32 := 2#32
  let c0_i32_39 : BitVec 32 := 0#32
  let v76 : BitVec 1 := Scalar.cmpi .sgt c2_i32 c0_i32_39
  let v77 : BitVec 32 := Scalar.extui v76
  let c0_i32_40 : BitVec 32 := 0#32
  let v78 : BitVec 1 := Scalar.cmpi .slt c2_i32 c0_i32_40
  let v79 : BitVec 32 := Scalar.extui v78
  let v80 : BitVec 32 := Scalar.subi v77 v79
  let v81 : BitVec 1 := Scalar.cmpi .ne v75 v80
  let v82 : BitVec 32 := Scalar.remsi v20 c2_i32
  let c0_i32_41 : BitVec 32 := 0#32
  let v83 : BitVec 1 := Scalar.cmpi .ne v82 c0_i32_41
  let v84 : BitVec 1 := Scalar.andi v81 v83
  let v70 : BitVec 32 := Scalar.divsi v20 c2_i32
  let c1_i32_42 : BitVec 32 := 1#32
  let v85 : BitVec 32 := Scalar.subi v70 c1_i32_42
  let v86 : BitVec 32 := Scalar.select v84 v85 v70
  let v87 : BitVec 32 := Scalar.subi v86 c0_i32_44
  let c1_i32_45 : BitVec 32 := 1#32
  let v89 : BitVec 32 := Scalar.divsi v87 c1_i32_45
  let v90 : BitVec 32 := Scalar.muli v89 c1_i32_45
  let v91 : BitVec 32 := Scalar.addi c0_i32_44 v90
  let c1_i32_47 : BitVec 32 := 1#32
  let arg22 : BitVec 32 := Scf.iv v91 c1_i32_47 k0_t2
  let v436 : BitVec 32 := Scalar.muli c2_i32_261 arg22
  let c512_i32_289 : BitVec 32 := 512#32
  let v507 : BitVec 32 := Scalar.muli v436 c512_i32_289
  v507
def k0_off6 (i : grid0.Coords) (k0_t2 : Fin (k0_t2_loop i).trips) : Fin 2 → Nat :=
  let c2_i32_261 : BitVec 32 := 2#32
  let c0_i32_44 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_37 : BitVec 32 := 0#32
  let v71 : BitVec 1 := Scalar.cmpi .sgt v20 c0_i32_37
  let v72 : BitVec 32 := Scalar.extui v71
  let c0_i32_38 : BitVec 32 := 0#32
  let v73 : BitVec 1 := Scalar.cmpi .slt v20 c0_i32_38
  let v74 : BitVec 32 := Scalar.extui v73
  let v75 : BitVec 32 := Scalar.subi v72 v74
  let c2_i32 : BitVec 32 := 2#32
  let c0_i32_39 : BitVec 32 := 0#32
  let v76 : BitVec 1 := Scalar.cmpi .sgt c2_i32 c0_i32_39
  let v77 : BitVec 32 := Scalar.extui v76
  let c0_i32_40 : BitVec 32 := 0#32
  let v78 : BitVec 1 := Scalar.cmpi .slt c2_i32 c0_i32_40
  let v79 : BitVec 32 := Scalar.extui v78
  let v80 : BitVec 32 := Scalar.subi v77 v79
  let v81 : BitVec 1 := Scalar.cmpi .ne v75 v80
  let v82 : BitVec 32 := Scalar.remsi v20 c2_i32
  let c0_i32_41 : BitVec 32 := 0#32
  let v83 : BitVec 1 := Scalar.cmpi .ne v82 c0_i32_41
  let v84 : BitVec 1 := Scalar.andi v81 v83
  let v70 : BitVec 32 := Scalar.divsi v20 c2_i32
  let c1_i32_42 : BitVec 32 := 1#32
  let v85 : BitVec 32 := Scalar.subi v70 c1_i32_42
  let v86 : BitVec 32 := Scalar.select v84 v85 v70
  let v87 : BitVec 32 := Scalar.subi v86 c0_i32_44
  let c1_i32_45 : BitVec 32 := 1#32
  let v89 : BitVec 32 := Scalar.divsi v87 c1_i32_45
  let v90 : BitVec 32 := Scalar.muli v89 c1_i32_45
  let v91 : BitVec 32 := Scalar.addi c0_i32_44 v90
  let c1_i32_47 : BitVec 32 := 1#32
  let arg22 : BitVec 32 := Scf.iv v91 c1_i32_47 k0_t2
  let v436 : BitVec 32 := Scalar.muli c2_i32_261 arg22
  let c512_i32_289 : BitVec 32 := 512#32
  let v507 : BitVec 32 := Scalar.muli v436 c512_i32_289
  let v508 : BitVec 32 := v507
  let v509 : Index := Scalar.indexCast v508
  let c0_290 : Index := 0#32
  ![v509.toNat, 0]
def k0_mult10 (i : grid0.Coords) (k0_t2 : Fin (k0_t2_loop i).trips) : BitVec 32 :=
  let c2_i32_291 : BitVec 32 := 2#32
  let c0_i32_44 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_37 : BitVec 32 := 0#32
  let v71 : BitVec 1 := Scalar.cmpi .sgt v20 c0_i32_37
  let v72 : BitVec 32 := Scalar.extui v71
  let c0_i32_38 : BitVec 32 := 0#32
  let v73 : BitVec 1 := Scalar.cmpi .slt v20 c0_i32_38
  let v74 : BitVec 32 := Scalar.extui v73
  let v75 : BitVec 32 := Scalar.subi v72 v74
  let c2_i32 : BitVec 32 := 2#32
  let c0_i32_39 : BitVec 32 := 0#32
  let v76 : BitVec 1 := Scalar.cmpi .sgt c2_i32 c0_i32_39
  let v77 : BitVec 32 := Scalar.extui v76
  let c0_i32_40 : BitVec 32 := 0#32
  let v78 : BitVec 1 := Scalar.cmpi .slt c2_i32 c0_i32_40
  let v79 : BitVec 32 := Scalar.extui v78
  let v80 : BitVec 32 := Scalar.subi v77 v79
  let v81 : BitVec 1 := Scalar.cmpi .ne v75 v80
  let v82 : BitVec 32 := Scalar.remsi v20 c2_i32
  let c0_i32_41 : BitVec 32 := 0#32
  let v83 : BitVec 1 := Scalar.cmpi .ne v82 c0_i32_41
  let v84 : BitVec 1 := Scalar.andi v81 v83
  let v70 : BitVec 32 := Scalar.divsi v20 c2_i32
  let c1_i32_42 : BitVec 32 := 1#32
  let v85 : BitVec 32 := Scalar.subi v70 c1_i32_42
  let v86 : BitVec 32 := Scalar.select v84 v85 v70
  let v87 : BitVec 32 := Scalar.subi v86 c0_i32_44
  let c1_i32_45 : BitVec 32 := 1#32
  let v89 : BitVec 32 := Scalar.divsi v87 c1_i32_45
  let v90 : BitVec 32 := Scalar.muli v89 c1_i32_45
  let v91 : BitVec 32 := Scalar.addi c0_i32_44 v90
  let c1_i32_47 : BitVec 32 := 1#32
  let arg22 : BitVec 32 := Scf.iv v91 c1_i32_47 k0_t2
  let v513 : BitVec 32 := Scalar.muli c2_i32_291 arg22
  let c2_i32_292 : BitVec 32 := 2#32
  let v514 : BitVec 32 := Scalar.addi v513 c2_i32_292
  let c7_i32_293 : BitVec 32 := 7#32
  let v515 : BitVec 32 := Scalar.minsi v514 c7_i32_293
  let c512_i32_294 : BitVec 32 := 512#32
  let v516 : BitVec 32 := Scalar.muli v515 c512_i32_294
  v516
def k0_mult11 (i : grid0.Coords) (k0_t2 : Fin (k0_t2_loop i).trips) : BitVec 32 :=
  let c2_i32_305 : BitVec 32 := 2#32
  let c0_i32_44 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_37 : BitVec 32 := 0#32
  let v71 : BitVec 1 := Scalar.cmpi .sgt v20 c0_i32_37
  let v72 : BitVec 32 := Scalar.extui v71
  let c0_i32_38 : BitVec 32 := 0#32
  let v73 : BitVec 1 := Scalar.cmpi .slt v20 c0_i32_38
  let v74 : BitVec 32 := Scalar.extui v73
  let v75 : BitVec 32 := Scalar.subi v72 v74
  let c2_i32 : BitVec 32 := 2#32
  let c0_i32_39 : BitVec 32 := 0#32
  let v76 : BitVec 1 := Scalar.cmpi .sgt c2_i32 c0_i32_39
  let v77 : BitVec 32 := Scalar.extui v76
  let c0_i32_40 : BitVec 32 := 0#32
  let v78 : BitVec 1 := Scalar.cmpi .slt c2_i32 c0_i32_40
  let v79 : BitVec 32 := Scalar.extui v78
  let v80 : BitVec 32 := Scalar.subi v77 v79
  let v81 : BitVec 1 := Scalar.cmpi .ne v75 v80
  let v82 : BitVec 32 := Scalar.remsi v20 c2_i32
  let c0_i32_41 : BitVec 32 := 0#32
  let v83 : BitVec 1 := Scalar.cmpi .ne v82 c0_i32_41
  let v84 : BitVec 1 := Scalar.andi v81 v83
  let v70 : BitVec 32 := Scalar.divsi v20 c2_i32
  let c1_i32_42 : BitVec 32 := 1#32
  let v85 : BitVec 32 := Scalar.subi v70 c1_i32_42
  let v86 : BitVec 32 := Scalar.select v84 v85 v70
  let v87 : BitVec 32 := Scalar.subi v86 c0_i32_44
  let c1_i32_45 : BitVec 32 := 1#32
  let v89 : BitVec 32 := Scalar.divsi v87 c1_i32_45
  let v90 : BitVec 32 := Scalar.muli v89 c1_i32_45
  let v91 : BitVec 32 := Scalar.addi c0_i32_44 v90
  let c1_i32_47 : BitVec 32 := 1#32
  let arg22 : BitVec 32 := Scf.iv v91 c1_i32_47 k0_t2
  let v532 : BitVec 32 := Scalar.muli c2_i32_305 arg22
  let c1_i32_306 : BitVec 32 := 1#32
  let v533 : BitVec 32 := Scalar.addi v532 c1_i32_306
  let c512_i32_336 : BitVec 32 := 512#32
  let v604 : BitVec 32 := Scalar.muli v533 c512_i32_336
  v604
def k0_off7 (i : grid0.Coords) (k0_t2 : Fin (k0_t2_loop i).trips) : Fin 2 → Nat :=
  let c2_i32_305 : BitVec 32 := 2#32
  let c0_i32_44 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_37 : BitVec 32 := 0#32
  let v71 : BitVec 1 := Scalar.cmpi .sgt v20 c0_i32_37
  let v72 : BitVec 32 := Scalar.extui v71
  let c0_i32_38 : BitVec 32 := 0#32
  let v73 : BitVec 1 := Scalar.cmpi .slt v20 c0_i32_38
  let v74 : BitVec 32 := Scalar.extui v73
  let v75 : BitVec 32 := Scalar.subi v72 v74
  let c2_i32 : BitVec 32 := 2#32
  let c0_i32_39 : BitVec 32 := 0#32
  let v76 : BitVec 1 := Scalar.cmpi .sgt c2_i32 c0_i32_39
  let v77 : BitVec 32 := Scalar.extui v76
  let c0_i32_40 : BitVec 32 := 0#32
  let v78 : BitVec 1 := Scalar.cmpi .slt c2_i32 c0_i32_40
  let v79 : BitVec 32 := Scalar.extui v78
  let v80 : BitVec 32 := Scalar.subi v77 v79
  let v81 : BitVec 1 := Scalar.cmpi .ne v75 v80
  let v82 : BitVec 32 := Scalar.remsi v20 c2_i32
  let c0_i32_41 : BitVec 32 := 0#32
  let v83 : BitVec 1 := Scalar.cmpi .ne v82 c0_i32_41
  let v84 : BitVec 1 := Scalar.andi v81 v83
  let v70 : BitVec 32 := Scalar.divsi v20 c2_i32
  let c1_i32_42 : BitVec 32 := 1#32
  let v85 : BitVec 32 := Scalar.subi v70 c1_i32_42
  let v86 : BitVec 32 := Scalar.select v84 v85 v70
  let v87 : BitVec 32 := Scalar.subi v86 c0_i32_44
  let c1_i32_45 : BitVec 32 := 1#32
  let v89 : BitVec 32 := Scalar.divsi v87 c1_i32_45
  let v90 : BitVec 32 := Scalar.muli v89 c1_i32_45
  let v91 : BitVec 32 := Scalar.addi c0_i32_44 v90
  let c1_i32_47 : BitVec 32 := 1#32
  let arg22 : BitVec 32 := Scf.iv v91 c1_i32_47 k0_t2
  let v532 : BitVec 32 := Scalar.muli c2_i32_305 arg22
  let c1_i32_306 : BitVec 32 := 1#32
  let v533 : BitVec 32 := Scalar.addi v532 c1_i32_306
  let c512_i32_336 : BitVec 32 := 512#32
  let v604 : BitVec 32 := Scalar.muli v533 c512_i32_336
  let v605 : BitVec 32 := v604
  let v606 : Index := Scalar.indexCast v605
  let c0_337 : Index := 0#32
  ![v606.toNat, 0]
def k0_cond2 (i : grid0.Coords) : BitVec 1 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c2_i32_48 : BitVec 32 := 2#32
  let c0_i32_49 : BitVec 32 := 0#32
  let v92 : BitVec 1 := Scalar.cmpi .eq c2_i32_48 c0_i32_49
  let c1_i32_50 : BitVec 32 := 1#32
  let v93 : BitVec 32 := Scalar.select v92 c1_i32_50 c2_i32_48
  let v94 : BitVec 32 := Scalar.remsi v20 v93
  let c0_i32_52 : BitVec 32 := 0#32
  let v96 : BitVec 1 := Scalar.cmpi .slt v94 c0_i32_52
  let c0_i32_53 : BitVec 32 := 0#32
  let v97 : BitVec 1 := Scalar.cmpi .slt v93 c0_i32_53
  let v98 : BitVec 1 := Scalar.xori v96 v97
  let c0_i32_51 : BitVec 32 := 0#32
  let v95 : BitVec 1 := Scalar.cmpi .ne v94 c0_i32_51
  let v99 : BitVec 1 := Scalar.andi v98 v95
  let v100 : BitVec 32 := Scalar.addi v94 v93
  let v101 : BitVec 32 := Scalar.select v99 v100 v94
  let c1_i32_54 : BitVec 32 := 1#32
  let v102 : BitVec 1 := Scalar.cmpi .eq v101 c1_i32_54
  let v103 : BitVec 32 := Scalar.extui v102
  let c0_i32_55 : BitVec 32 := 0#32
  let v104 : BitVec 1 := Scalar.cmpi .ne v103 c0_i32_55
  v104

def k0_mult12 (i : grid0.Coords) : BitVec 32 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_247 : BitVec 32 := 1#32
  let v417 : BitVec 32 := Scalar.subi v20 c1_i32_247
  let c512_i32_275 : BitVec 32 := 512#32
  let v488 : BitVec 32 := Scalar.muli v417 c512_i32_275
  v488
def k0_off8 (i : grid0.Coords) : Fin 2 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_247 : BitVec 32 := 1#32
  let v417 : BitVec 32 := Scalar.subi v20 c1_i32_247
  let c512_i32_275 : BitVec 32 := 512#32
  let v488 : BitVec 32 := Scalar.muli v417 c512_i32_275
  let v489 : BitVec 32 := v488
  let v490 : Index := Scalar.indexCast v489
  let c0_276 : Index := 0#32
  ![v490.toNat, 0]
@[reducible] def k0_t3_loop (i : grid0.Coords) : Scf.Loop 32 :=
  let c0_i32_66 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32_56 : BitVec 32 := 256#32
  let v105 : BitVec 32 := Scalar.addi v1 c256_i32_56
  let c1_i32_57 : BitVec 32 := 1#32
  let v106 : BitVec 32 := Scalar.subi v105 c1_i32_57
  let c0_i32_59 : BitVec 32 := 0#32
  let v108 : BitVec 1 := Scalar.cmpi .sgt v106 c0_i32_59
  let v109 : BitVec 32 := Scalar.extui v108
  let c0_i32_60 : BitVec 32 := 0#32
  let v110 : BitVec 1 := Scalar.cmpi .slt v106 c0_i32_60
  let v111 : BitVec 32 := Scalar.extui v110
  let v112 : BitVec 32 := Scalar.subi v109 v111
  let c256_i32_58 : BitVec 32 := 256#32
  let c0_i32_61 : BitVec 32 := 0#32
  let v113 : BitVec 1 := Scalar.cmpi .sgt c256_i32_58 c0_i32_61
  let v114 : BitVec 32 := Scalar.extui v113
  let c0_i32_62 : BitVec 32 := 0#32
  let v115 : BitVec 1 := Scalar.cmpi .slt c256_i32_58 c0_i32_62
  let v116 : BitVec 32 := Scalar.extui v115
  let v117 : BitVec 32 := Scalar.subi v114 v116
  let v118 : BitVec 1 := Scalar.cmpi .ne v112 v117
  let v119 : BitVec 32 := Scalar.remsi v106 c256_i32_58
  let c0_i32_63 : BitVec 32 := 0#32
  let v120 : BitVec 1 := Scalar.cmpi .ne v119 c0_i32_63
  let v121 : BitVec 1 := Scalar.andi v118 v120
  let v107 : BitVec 32 := Scalar.divsi v106 c256_i32_58
  let c1_i32_64 : BitVec 32 := 1#32
  let v122 : BitVec 32 := Scalar.subi v107 c1_i32_64
  let v123 : BitVec 32 := Scalar.select v121 v122 v107
  let v124 : BitVec 32 := Scalar.subi v123 c0_i32_66
  let c1_i32_67 : BitVec 32 := 1#32
  let v126 : BitVec 32 := Scalar.divsi v124 c1_i32_67
  let v127 : BitVec 32 := Scalar.muli v126 c1_i32_67
  let v128 : BitVec 32 := Scalar.addi c0_i32_66 v127
  let c1_i32_68 : BitVec 32 := 1#32
  ⟨c0_i32_66, v128, c1_i32_68⟩
def k0_mult13 (i : grid0.Coords) (k0_t3 : Fin (k0_t3_loop i).trips) : BitVec 32 :=
  let c0_i32_66 : BitVec 32 := 0#32
  let c1_i32_68 : BitVec 32 := 1#32
  let arg22 : BitVec 32 := Scf.iv c0_i32_66 c1_i32_68 k0_t3
  let c256_i32_247 : BitVec 32 := 256#32
  let v417 : BitVec 32 := Scalar.muli arg22 c256_i32_247
  v417
def k0_off9 (i : grid0.Coords) (k0_t3 : Fin (k0_t3_loop i).trips) : Fin 2 → Nat :=
  let c0_i32_66 : BitVec 32 := 0#32
  let c1_i32_68 : BitVec 32 := 1#32
  let arg22 : BitVec 32 := Scf.iv c0_i32_66 c1_i32_68 k0_t3
  let c256_i32_247 : BitVec 32 := 256#32
  let v417 : BitVec 32 := Scalar.muli arg22 c256_i32_247
  let v418 : BitVec 32 := v417
  let v419 : Index := Scalar.indexCast v418
  let c0_248 : Index := 0#32
  ![v419.toNat, 0]
def k0_off10 (i : grid0.Coords) (k0_t3 : Fin (k0_t3_loop i).trips) : Fin 3 → Nat :=
  let c0_484 : Index := 0#32
  let c0_i32_66 : BitVec 32 := 0#32
  let c1_i32_68 : BitVec 32 := 1#32
  let arg22 : BitVec 32 := Scf.iv c0_i32_66 c1_i32_68 k0_t3
  let c8_i32_483 : BitVec 32 := 8#32
  let v1208 : BitVec 32 := Scalar.muli arg22 c8_i32_483
  let v1209 : Index := Scalar.indexCast v1208
  let c0_485 : Index := 0#32
  ![0, v1209.toNat, 0]
def k0_off11 (i : grid0.Coords) (k0_t3 : Fin (k0_t3_loop i).trips) : Fin 3 → Nat :=
  let c1_487 : Index := 1#32
  let c0_i32_66 : BitVec 32 := 0#32
  let c1_i32_68 : BitVec 32 := 1#32
  let arg22 : BitVec 32 := Scf.iv c0_i32_66 c1_i32_68 k0_t3
  let c8_i32_486 : BitVec 32 := 8#32
  let v1213 : BitVec 32 := Scalar.muli arg22 c8_i32_486
  let v1214 : Index := Scalar.indexCast v1213
  let c0_488 : Index := 0#32
  ![1, v1214.toNat, 0]
def k0_off12 (i : grid0.Coords) (k0_t3 : Fin (k0_t3_loop i).trips) : Fin 3 → Nat :=
  let c2_490 : Index := 2#32
  let c0_i32_66 : BitVec 32 := 0#32
  let c1_i32_68 : BitVec 32 := 1#32
  let arg22 : BitVec 32 := Scf.iv c0_i32_66 c1_i32_68 k0_t3
  let c8_i32_489 : BitVec 32 := 8#32
  let v1218 : BitVec 32 := Scalar.muli arg22 c8_i32_489
  let v1219 : Index := Scalar.indexCast v1218
  let c0_491 : Index := 0#32
  ![2, v1219.toNat, 0]
def k0_off13 (i : grid0.Coords) (k0_t3 : Fin (k0_t3_loop i).trips) : Fin 3 → Nat :=
  let c3_493 : Index := 3#32
  let c0_i32_66 : BitVec 32 := 0#32
  let c1_i32_68 : BitVec 32 := 1#32
  let arg22 : BitVec 32 := Scf.iv c0_i32_66 c1_i32_68 k0_t3
  let c8_i32_492 : BitVec 32 := 8#32
  let v1223 : BitVec 32 := Scalar.muli arg22 c8_i32_492
  let v1224 : Index := Scalar.indexCast v1223
  let c0_494 : Index := 0#32
  ![3, v1224.toNat, 0]
def k0_off14 (i : grid0.Coords) (k0_t3 : Fin (k0_t3_loop i).trips) : Fin 3 → Nat :=
  let c4_496 : Index := 4#32
  let c0_i32_66 : BitVec 32 := 0#32
  let c1_i32_68 : BitVec 32 := 1#32
  let arg22 : BitVec 32 := Scf.iv c0_i32_66 c1_i32_68 k0_t3
  let c8_i32_495 : BitVec 32 := 8#32
  let v1228 : BitVec 32 := Scalar.muli arg22 c8_i32_495
  let v1229 : Index := Scalar.indexCast v1228
  let c0_497 : Index := 0#32
  ![4, v1229.toNat, 0]
def k0_off15 (i : grid0.Coords) (k0_t3 : Fin (k0_t3_loop i).trips) : Fin 3 → Nat :=
  let c5_499 : Index := 5#32
  let c0_i32_66 : BitVec 32 := 0#32
  let c1_i32_68 : BitVec 32 := 1#32
  let arg22 : BitVec 32 := Scf.iv c0_i32_66 c1_i32_68 k0_t3
  let c8_i32_498 : BitVec 32 := 8#32
  let v1233 : BitVec 32 := Scalar.muli arg22 c8_i32_498
  let v1234 : Index := Scalar.indexCast v1233
  let c0_500 : Index := 0#32
  ![5, v1234.toNat, 0]
def k0_off16 (i : grid0.Coords) (k0_t3 : Fin (k0_t3_loop i).trips) : Fin 3 → Nat :=
  let c6_502 : Index := 6#32
  let c0_i32_66 : BitVec 32 := 0#32
  let c1_i32_68 : BitVec 32 := 1#32
  let arg22 : BitVec 32 := Scf.iv c0_i32_66 c1_i32_68 k0_t3
  let c8_i32_501 : BitVec 32 := 8#32
  let v1238 : BitVec 32 := Scalar.muli arg22 c8_i32_501
  let v1239 : Index := Scalar.indexCast v1238
  let c0_503 : Index := 0#32
  ![6, v1239.toNat, 0]
def k0_off17 (i : grid0.Coords) (k0_t3 : Fin (k0_t3_loop i).trips) : Fin 3 → Nat :=
  let c7_505 : Index := 7#32
  let c0_i32_66 : BitVec 32 := 0#32
  let c1_i32_68 : BitVec 32 := 1#32
  let arg22 : BitVec 32 := Scf.iv c0_i32_66 c1_i32_68 k0_t3
  let c8_i32_504 : BitVec 32 := 8#32
  let v1243 : BitVec 32 := Scalar.muli arg22 c8_i32_504
  let v1244 : Index := Scalar.indexCast v1243
  let c0_506 : Index := 0#32
  ![7, v1244.toNat, 0]
def k0_off18 (i : grid0.Coords) (k0_t3 : Fin (k0_t3_loop i).trips) : Fin 3 → Nat :=
  let c8 : Index := 8#32
  let c0_i32_66 : BitVec 32 := 0#32
  let c1_i32_68 : BitVec 32 := 1#32
  let arg22 : BitVec 32 := Scf.iv c0_i32_66 c1_i32_68 k0_t3
  let c8_i32_507 : BitVec 32 := 8#32
  let v1248 : BitVec 32 := Scalar.muli arg22 c8_i32_507
  let v1249 : Index := Scalar.indexCast v1248
  let c0_508 : Index := 0#32
  ![8, v1249.toNat, 0]
def k0_off19 (i : grid0.Coords) (k0_t3 : Fin (k0_t3_loop i).trips) : Fin 3 → Nat :=
  let c9 : Index := 9#32
  let c0_i32_66 : BitVec 32 := 0#32
  let c1_i32_68 : BitVec 32 := 1#32
  let arg22 : BitVec 32 := Scf.iv c0_i32_66 c1_i32_68 k0_t3
  let c8_i32_509 : BitVec 32 := 8#32
  let v1253 : BitVec 32 := Scalar.muli arg22 c8_i32_509
  let v1254 : Index := Scalar.indexCast v1253
  let c0_510 : Index := 0#32
  ![9, v1254.toNat, 0]
def k0_off20 (i : grid0.Coords) (k0_t3 : Fin (k0_t3_loop i).trips) : Fin 3 → Nat :=
  let c10 : Index := 10#32
  let c0_i32_66 : BitVec 32 := 0#32
  let c1_i32_68 : BitVec 32 := 1#32
  let arg22 : BitVec 32 := Scf.iv c0_i32_66 c1_i32_68 k0_t3
  let c8_i32_511 : BitVec 32 := 8#32
  let v1258 : BitVec 32 := Scalar.muli arg22 c8_i32_511
  let v1259 : Index := Scalar.indexCast v1258
  let c0_512 : Index := 0#32
  ![10, v1259.toNat, 0]
def k0_off21 (i : grid0.Coords) (k0_t3 : Fin (k0_t3_loop i).trips) : Fin 3 → Nat :=
  let c11 : Index := 11#32
  let c0_i32_66 : BitVec 32 := 0#32
  let c1_i32_68 : BitVec 32 := 1#32
  let arg22 : BitVec 32 := Scf.iv c0_i32_66 c1_i32_68 k0_t3
  let c8_i32_513 : BitVec 32 := 8#32
  let v1263 : BitVec 32 := Scalar.muli arg22 c8_i32_513
  let v1264 : Index := Scalar.indexCast v1263
  let c0_514 : Index := 0#32
  ![11, v1264.toNat, 0]
def k0_off22 (i : grid0.Coords) (k0_t3 : Fin (k0_t3_loop i).trips) : Fin 3 → Nat :=
  let c12 : Index := 12#32
  let c0_i32_66 : BitVec 32 := 0#32
  let c1_i32_68 : BitVec 32 := 1#32
  let arg22 : BitVec 32 := Scf.iv c0_i32_66 c1_i32_68 k0_t3
  let c8_i32_515 : BitVec 32 := 8#32
  let v1268 : BitVec 32 := Scalar.muli arg22 c8_i32_515
  let v1269 : Index := Scalar.indexCast v1268
  let c0_516 : Index := 0#32
  ![12, v1269.toNat, 0]
def k0_off23 (i : grid0.Coords) (k0_t3 : Fin (k0_t3_loop i).trips) : Fin 3 → Nat :=
  let c13 : Index := 13#32
  let c0_i32_66 : BitVec 32 := 0#32
  let c1_i32_68 : BitVec 32 := 1#32
  let arg22 : BitVec 32 := Scf.iv c0_i32_66 c1_i32_68 k0_t3
  let c8_i32_517 : BitVec 32 := 8#32
  let v1273 : BitVec 32 := Scalar.muli arg22 c8_i32_517
  let v1274 : Index := Scalar.indexCast v1273
  let c0_518 : Index := 0#32
  ![13, v1274.toNat, 0]
def k0_off24 (i : grid0.Coords) (k0_t3 : Fin (k0_t3_loop i).trips) : Fin 3 → Nat :=
  let c14 : Index := 14#32
  let c0_i32_66 : BitVec 32 := 0#32
  let c1_i32_68 : BitVec 32 := 1#32
  let arg22 : BitVec 32 := Scf.iv c0_i32_66 c1_i32_68 k0_t3
  let c8_i32_519 : BitVec 32 := 8#32
  let v1278 : BitVec 32 := Scalar.muli arg22 c8_i32_519
  let v1279 : Index := Scalar.indexCast v1278
  let c0_520 : Index := 0#32
  ![14, v1279.toNat, 0]
def k0_off25 (i : grid0.Coords) (k0_t3 : Fin (k0_t3_loop i).trips) : Fin 3 → Nat :=
  let c15 : Index := 15#32
  let c0_i32_66 : BitVec 32 := 0#32
  let c1_i32_68 : BitVec 32 := 1#32
  let arg22 : BitVec 32 := Scf.iv c0_i32_66 c1_i32_68 k0_t3
  let c8_i32_521 : BitVec 32 := 8#32
  let v1283 : BitVec 32 := Scalar.muli arg22 c8_i32_521
  let v1284 : Index := Scalar.indexCast v1283
  let c0_522 : Index := 0#32
  ![15, v1284.toNat, 0]
def k0_off26 (i : grid0.Coords) (k0_t3 : Fin (k0_t3_loop i).trips) : Fin 3 → Nat :=
  let c16 : Index := 16#32
  let c0_i32_66 : BitVec 32 := 0#32
  let c1_i32_68 : BitVec 32 := 1#32
  let arg22 : BitVec 32 := Scf.iv c0_i32_66 c1_i32_68 k0_t3
  let c8_i32_523 : BitVec 32 := 8#32
  let v1288 : BitVec 32 := Scalar.muli arg22 c8_i32_523
  let v1289 : Index := Scalar.indexCast v1288
  let c0_524 : Index := 0#32
  ![16, v1289.toNat, 0]
def k0_off27 (i : grid0.Coords) (k0_t3 : Fin (k0_t3_loop i).trips) : Fin 3 → Nat :=
  let c17 : Index := 17#32
  let c0_i32_66 : BitVec 32 := 0#32
  let c1_i32_68 : BitVec 32 := 1#32
  let arg22 : BitVec 32 := Scf.iv c0_i32_66 c1_i32_68 k0_t3
  let c8_i32_525 : BitVec 32 := 8#32
  let v1293 : BitVec 32 := Scalar.muli arg22 c8_i32_525
  let v1294 : Index := Scalar.indexCast v1293
  let c0_526 : Index := 0#32
  ![17, v1294.toNat, 0]
def k0_off28 (i : grid0.Coords) (k0_t3 : Fin (k0_t3_loop i).trips) : Fin 3 → Nat :=
  let c18 : Index := 18#32
  let c0_i32_66 : BitVec 32 := 0#32
  let c1_i32_68 : BitVec 32 := 1#32
  let arg22 : BitVec 32 := Scf.iv c0_i32_66 c1_i32_68 k0_t3
  let c8_i32_527 : BitVec 32 := 8#32
  let v1298 : BitVec 32 := Scalar.muli arg22 c8_i32_527
  let v1299 : Index := Scalar.indexCast v1298
  let c0_528 : Index := 0#32
  ![18, v1299.toNat, 0]
def k0_off29 (i : grid0.Coords) (k0_t3 : Fin (k0_t3_loop i).trips) : Fin 3 → Nat :=
  let c19 : Index := 19#32
  let c0_i32_66 : BitVec 32 := 0#32
  let c1_i32_68 : BitVec 32 := 1#32
  let arg22 : BitVec 32 := Scf.iv c0_i32_66 c1_i32_68 k0_t3
  let c8_i32_529 : BitVec 32 := 8#32
  let v1303 : BitVec 32 := Scalar.muli arg22 c8_i32_529
  let v1304 : Index := Scalar.indexCast v1303
  let c0_530 : Index := 0#32
  ![19, v1304.toNat, 0]
def k0_off30 (i : grid0.Coords) (k0_t3 : Fin (k0_t3_loop i).trips) : Fin 3 → Nat :=
  let c20 : Index := 20#32
  let c0_i32_66 : BitVec 32 := 0#32
  let c1_i32_68 : BitVec 32 := 1#32
  let arg22 : BitVec 32 := Scf.iv c0_i32_66 c1_i32_68 k0_t3
  let c8_i32_531 : BitVec 32 := 8#32
  let v1308 : BitVec 32 := Scalar.muli arg22 c8_i32_531
  let v1309 : Index := Scalar.indexCast v1308
  let c0_532 : Index := 0#32
  ![20, v1309.toNat, 0]
def k0_off31 (i : grid0.Coords) (k0_t3 : Fin (k0_t3_loop i).trips) : Fin 3 → Nat :=
  let c21 : Index := 21#32
  let c0_i32_66 : BitVec 32 := 0#32
  let c1_i32_68 : BitVec 32 := 1#32
  let arg22 : BitVec 32 := Scf.iv c0_i32_66 c1_i32_68 k0_t3
  let c8_i32_533 : BitVec 32 := 8#32
  let v1313 : BitVec 32 := Scalar.muli arg22 c8_i32_533
  let v1314 : Index := Scalar.indexCast v1313
  let c0_534 : Index := 0#32
  ![21, v1314.toNat, 0]
def k0_off32 (i : grid0.Coords) (k0_t3 : Fin (k0_t3_loop i).trips) : Fin 3 → Nat :=
  let c22 : Index := 22#32
  let c0_i32_66 : BitVec 32 := 0#32
  let c1_i32_68 : BitVec 32 := 1#32
  let arg22 : BitVec 32 := Scf.iv c0_i32_66 c1_i32_68 k0_t3
  let c8_i32_535 : BitVec 32 := 8#32
  let v1318 : BitVec 32 := Scalar.muli arg22 c8_i32_535
  let v1319 : Index := Scalar.indexCast v1318
  let c0_536 : Index := 0#32
  ![22, v1319.toNat, 0]
def k0_off33 (i : grid0.Coords) (k0_t3 : Fin (k0_t3_loop i).trips) : Fin 3 → Nat :=
  let c23 : Index := 23#32
  let c0_i32_66 : BitVec 32 := 0#32
  let c1_i32_68 : BitVec 32 := 1#32
  let arg22 : BitVec 32 := Scf.iv c0_i32_66 c1_i32_68 k0_t3
  let c8_i32_537 : BitVec 32 := 8#32
  let v1323 : BitVec 32 := Scalar.muli arg22 c8_i32_537
  let v1324 : Index := Scalar.indexCast v1323
  let c0_538 : Index := 0#32
  ![23, v1324.toNat, 0]
def k0_off34 (i : grid0.Coords) (k0_t3 : Fin (k0_t3_loop i).trips) : Fin 3 → Nat :=
  let c24 : Index := 24#32
  let c0_i32_66 : BitVec 32 := 0#32
  let c1_i32_68 : BitVec 32 := 1#32
  let arg22 : BitVec 32 := Scf.iv c0_i32_66 c1_i32_68 k0_t3
  let c8_i32_539 : BitVec 32 := 8#32
  let v1328 : BitVec 32 := Scalar.muli arg22 c8_i32_539
  let v1329 : Index := Scalar.indexCast v1328
  let c0_540 : Index := 0#32
  ![24, v1329.toNat, 0]
def k0_off35 (i : grid0.Coords) (k0_t3 : Fin (k0_t3_loop i).trips) : Fin 3 → Nat :=
  let c25 : Index := 25#32
  let c0_i32_66 : BitVec 32 := 0#32
  let c1_i32_68 : BitVec 32 := 1#32
  let arg22 : BitVec 32 := Scf.iv c0_i32_66 c1_i32_68 k0_t3
  let c8_i32_541 : BitVec 32 := 8#32
  let v1333 : BitVec 32 := Scalar.muli arg22 c8_i32_541
  let v1334 : Index := Scalar.indexCast v1333
  let c0_542 : Index := 0#32
  ![25, v1334.toNat, 0]
def k0_off36 (i : grid0.Coords) (k0_t3 : Fin (k0_t3_loop i).trips) : Fin 3 → Nat :=
  let c26 : Index := 26#32
  let c0_i32_66 : BitVec 32 := 0#32
  let c1_i32_68 : BitVec 32 := 1#32
  let arg22 : BitVec 32 := Scf.iv c0_i32_66 c1_i32_68 k0_t3
  let c8_i32_543 : BitVec 32 := 8#32
  let v1338 : BitVec 32 := Scalar.muli arg22 c8_i32_543
  let v1339 : Index := Scalar.indexCast v1338
  let c0_544 : Index := 0#32
  ![26, v1339.toNat, 0]
def k0_off37 (i : grid0.Coords) (k0_t3 : Fin (k0_t3_loop i).trips) : Fin 3 → Nat :=
  let c27 : Index := 27#32
  let c0_i32_66 : BitVec 32 := 0#32
  let c1_i32_68 : BitVec 32 := 1#32
  let arg22 : BitVec 32 := Scf.iv c0_i32_66 c1_i32_68 k0_t3
  let c8_i32_545 : BitVec 32 := 8#32
  let v1343 : BitVec 32 := Scalar.muli arg22 c8_i32_545
  let v1344 : Index := Scalar.indexCast v1343
  let c0_546 : Index := 0#32
  ![27, v1344.toNat, 0]
def k0_off38 (i : grid0.Coords) (k0_t3 : Fin (k0_t3_loop i).trips) : Fin 3 → Nat :=
  let c28 : Index := 28#32
  let c0_i32_66 : BitVec 32 := 0#32
  let c1_i32_68 : BitVec 32 := 1#32
  let arg22 : BitVec 32 := Scf.iv c0_i32_66 c1_i32_68 k0_t3
  let c8_i32_547 : BitVec 32 := 8#32
  let v1348 : BitVec 32 := Scalar.muli arg22 c8_i32_547
  let v1349 : Index := Scalar.indexCast v1348
  let c0_548 : Index := 0#32
  ![28, v1349.toNat, 0]
def k0_off39 (i : grid0.Coords) (k0_t3 : Fin (k0_t3_loop i).trips) : Fin 3 → Nat :=
  let c29 : Index := 29#32
  let c0_i32_66 : BitVec 32 := 0#32
  let c1_i32_68 : BitVec 32 := 1#32
  let arg22 : BitVec 32 := Scf.iv c0_i32_66 c1_i32_68 k0_t3
  let c8_i32_549 : BitVec 32 := 8#32
  let v1353 : BitVec 32 := Scalar.muli arg22 c8_i32_549
  let v1354 : Index := Scalar.indexCast v1353
  let c0_550 : Index := 0#32
  ![29, v1354.toNat, 0]
def k0_off40 (i : grid0.Coords) (k0_t3 : Fin (k0_t3_loop i).trips) : Fin 3 → Nat :=
  let c30 : Index := 30#32
  let c0_i32_66 : BitVec 32 := 0#32
  let c1_i32_68 : BitVec 32 := 1#32
  let arg22 : BitVec 32 := Scf.iv c0_i32_66 c1_i32_68 k0_t3
  let c8_i32_551 : BitVec 32 := 8#32
  let v1358 : BitVec 32 := Scalar.muli arg22 c8_i32_551
  let v1359 : Index := Scalar.indexCast v1358
  let c0_552 : Index := 0#32
  ![30, v1359.toNat, 0]
def k0_off41 (i : grid0.Coords) (k0_t3 : Fin (k0_t3_loop i).trips) : Fin 3 → Nat :=
  let c31 : Index := 31#32
  let c0_i32_66 : BitVec 32 := 0#32
  let c1_i32_68 : BitVec 32 := 1#32
  let arg22 : BitVec 32 := Scf.iv c0_i32_66 c1_i32_68 k0_t3
  let c8_i32_553 : BitVec 32 := 8#32
  let v1363 : BitVec 32 := Scalar.muli arg22 c8_i32_553
  let v1364 : Index := Scalar.indexCast v1363
  let c0_554 : Index := 0#32
  ![31, v1364.toNat, 0]
@[reducible] def k0_t4_loop (i : grid0.Coords) : Scf.Loop 32 :=
  let c0_i32_66 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32_56 : BitVec 32 := 256#32
  let v105 : BitVec 32 := Scalar.addi v1 c256_i32_56
  let c1_i32_57 : BitVec 32 := 1#32
  let v106 : BitVec 32 := Scalar.subi v105 c1_i32_57
  let c0_i32_59 : BitVec 32 := 0#32
  let v108 : BitVec 1 := Scalar.cmpi .sgt v106 c0_i32_59
  let v109 : BitVec 32 := Scalar.extui v108
  let c0_i32_60 : BitVec 32 := 0#32
  let v110 : BitVec 1 := Scalar.cmpi .slt v106 c0_i32_60
  let v111 : BitVec 32 := Scalar.extui v110
  let v112 : BitVec 32 := Scalar.subi v109 v111
  let c256_i32_58 : BitVec 32 := 256#32
  let c0_i32_61 : BitVec 32 := 0#32
  let v113 : BitVec 1 := Scalar.cmpi .sgt c256_i32_58 c0_i32_61
  let v114 : BitVec 32 := Scalar.extui v113
  let c0_i32_62 : BitVec 32 := 0#32
  let v115 : BitVec 1 := Scalar.cmpi .slt c256_i32_58 c0_i32_62
  let v116 : BitVec 32 := Scalar.extui v115
  let v117 : BitVec 32 := Scalar.subi v114 v116
  let v118 : BitVec 1 := Scalar.cmpi .ne v112 v117
  let v119 : BitVec 32 := Scalar.remsi v106 c256_i32_58
  let c0_i32_63 : BitVec 32 := 0#32
  let v120 : BitVec 1 := Scalar.cmpi .ne v119 c0_i32_63
  let v121 : BitVec 1 := Scalar.andi v118 v120
  let v107 : BitVec 32 := Scalar.divsi v106 c256_i32_58
  let c1_i32_64 : BitVec 32 := 1#32
  let v122 : BitVec 32 := Scalar.subi v107 c1_i32_64
  let v123 : BitVec 32 := Scalar.select v121 v122 v107
  let v124 : BitVec 32 := Scalar.subi v123 c0_i32_66
  let c1_i32_67 : BitVec 32 := 1#32
  let v126 : BitVec 32 := Scalar.divsi v124 c1_i32_67
  let v127 : BitVec 32 := Scalar.muli v126 c1_i32_67
  let v128 : BitVec 32 := Scalar.addi c0_i32_66 v127
  let v125 : BitVec 32 := Scalar.addi c0_i32_66 v124
  let c1_i32_69 : BitVec 32 := 1#32
  ⟨v128, v125, c1_i32_69⟩
def k0_mult14 (i : grid0.Coords) (k0_t4 : Fin (k0_t4_loop i).trips) : BitVec 32 :=
  let c0_i32_66 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32_56 : BitVec 32 := 256#32
  let v105 : BitVec 32 := Scalar.addi v1 c256_i32_56
  let c1_i32_57 : BitVec 32 := 1#32
  let v106 : BitVec 32 := Scalar.subi v105 c1_i32_57
  let c0_i32_59 : BitVec 32 := 0#32
  let v108 : BitVec 1 := Scalar.cmpi .sgt v106 c0_i32_59
  let v109 : BitVec 32 := Scalar.extui v108
  let c0_i32_60 : BitVec 32 := 0#32
  let v110 : BitVec 1 := Scalar.cmpi .slt v106 c0_i32_60
  let v111 : BitVec 32 := Scalar.extui v110
  let v112 : BitVec 32 := Scalar.subi v109 v111
  let c256_i32_58 : BitVec 32 := 256#32
  let c0_i32_61 : BitVec 32 := 0#32
  let v113 : BitVec 1 := Scalar.cmpi .sgt c256_i32_58 c0_i32_61
  let v114 : BitVec 32 := Scalar.extui v113
  let c0_i32_62 : BitVec 32 := 0#32
  let v115 : BitVec 1 := Scalar.cmpi .slt c256_i32_58 c0_i32_62
  let v116 : BitVec 32 := Scalar.extui v115
  let v117 : BitVec 32 := Scalar.subi v114 v116
  let v118 : BitVec 1 := Scalar.cmpi .ne v112 v117
  let v119 : BitVec 32 := Scalar.remsi v106 c256_i32_58
  let c0_i32_63 : BitVec 32 := 0#32
  let v120 : BitVec 1 := Scalar.cmpi .ne v119 c0_i32_63
  let v121 : BitVec 1 := Scalar.andi v118 v120
  let v107 : BitVec 32 := Scalar.divsi v106 c256_i32_58
  let c1_i32_64 : BitVec 32 := 1#32
  let v122 : BitVec 32 := Scalar.subi v107 c1_i32_64
  let v123 : BitVec 32 := Scalar.select v121 v122 v107
  let v124 : BitVec 32 := Scalar.subi v123 c0_i32_66
  let c1_i32_67 : BitVec 32 := 1#32
  let v126 : BitVec 32 := Scalar.divsi v124 c1_i32_67
  let v127 : BitVec 32 := Scalar.muli v126 c1_i32_67
  let v128 : BitVec 32 := Scalar.addi c0_i32_66 v127
  let c1_i32_69 : BitVec 32 := 1#32
  let arg22 : BitVec 32 := Scf.iv v128 c1_i32_69 k0_t4
  let c256_i32_247 : BitVec 32 := 256#32
  let v417 : BitVec 32 := Scalar.muli arg22 c256_i32_247
  v417
def k0_off42 (i : grid0.Coords) (k0_t4 : Fin (k0_t4_loop i).trips) : Fin 2 → Nat :=
  let c0_i32_66 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32_56 : BitVec 32 := 256#32
  let v105 : BitVec 32 := Scalar.addi v1 c256_i32_56
  let c1_i32_57 : BitVec 32 := 1#32
  let v106 : BitVec 32 := Scalar.subi v105 c1_i32_57
  let c0_i32_59 : BitVec 32 := 0#32
  let v108 : BitVec 1 := Scalar.cmpi .sgt v106 c0_i32_59
  let v109 : BitVec 32 := Scalar.extui v108
  let c0_i32_60 : BitVec 32 := 0#32
  let v110 : BitVec 1 := Scalar.cmpi .slt v106 c0_i32_60
  let v111 : BitVec 32 := Scalar.extui v110
  let v112 : BitVec 32 := Scalar.subi v109 v111
  let c256_i32_58 : BitVec 32 := 256#32
  let c0_i32_61 : BitVec 32 := 0#32
  let v113 : BitVec 1 := Scalar.cmpi .sgt c256_i32_58 c0_i32_61
  let v114 : BitVec 32 := Scalar.extui v113
  let c0_i32_62 : BitVec 32 := 0#32
  let v115 : BitVec 1 := Scalar.cmpi .slt c256_i32_58 c0_i32_62
  let v116 : BitVec 32 := Scalar.extui v115
  let v117 : BitVec 32 := Scalar.subi v114 v116
  let v118 : BitVec 1 := Scalar.cmpi .ne v112 v117
  let v119 : BitVec 32 := Scalar.remsi v106 c256_i32_58
  let c0_i32_63 : BitVec 32 := 0#32
  let v120 : BitVec 1 := Scalar.cmpi .ne v119 c0_i32_63
  let v121 : BitVec 1 := Scalar.andi v118 v120
  let v107 : BitVec 32 := Scalar.divsi v106 c256_i32_58
  let c1_i32_64 : BitVec 32 := 1#32
  let v122 : BitVec 32 := Scalar.subi v107 c1_i32_64
  let v123 : BitVec 32 := Scalar.select v121 v122 v107
  let v124 : BitVec 32 := Scalar.subi v123 c0_i32_66
  let c1_i32_67 : BitVec 32 := 1#32
  let v126 : BitVec 32 := Scalar.divsi v124 c1_i32_67
  let v127 : BitVec 32 := Scalar.muli v126 c1_i32_67
  let v128 : BitVec 32 := Scalar.addi c0_i32_66 v127
  let c1_i32_69 : BitVec 32 := 1#32
  let arg22 : BitVec 32 := Scf.iv v128 c1_i32_69 k0_t4
  let c256_i32_247 : BitVec 32 := 256#32
  let v417 : BitVec 32 := Scalar.muli arg22 c256_i32_247
  let v418 : BitVec 32 := v417
  let v419 : Index := Scalar.indexCast v418
  let c0_248 : Index := 0#32
  ![v419.toNat, 0]
def k0_off43 (i : grid0.Coords) (k0_t4 : Fin (k0_t4_loop i).trips) : Fin 3 → Nat :=
  let c0_484 : Index := 0#32
  let c0_i32_66 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32_56 : BitVec 32 := 256#32
  let v105 : BitVec 32 := Scalar.addi v1 c256_i32_56
  let c1_i32_57 : BitVec 32 := 1#32
  let v106 : BitVec 32 := Scalar.subi v105 c1_i32_57
  let c0_i32_59 : BitVec 32 := 0#32
  let v108 : BitVec 1 := Scalar.cmpi .sgt v106 c0_i32_59
  let v109 : BitVec 32 := Scalar.extui v108
  let c0_i32_60 : BitVec 32 := 0#32
  let v110 : BitVec 1 := Scalar.cmpi .slt v106 c0_i32_60
  let v111 : BitVec 32 := Scalar.extui v110
  let v112 : BitVec 32 := Scalar.subi v109 v111
  let c256_i32_58 : BitVec 32 := 256#32
  let c0_i32_61 : BitVec 32 := 0#32
  let v113 : BitVec 1 := Scalar.cmpi .sgt c256_i32_58 c0_i32_61
  let v114 : BitVec 32 := Scalar.extui v113
  let c0_i32_62 : BitVec 32 := 0#32
  let v115 : BitVec 1 := Scalar.cmpi .slt c256_i32_58 c0_i32_62
  let v116 : BitVec 32 := Scalar.extui v115
  let v117 : BitVec 32 := Scalar.subi v114 v116
  let v118 : BitVec 1 := Scalar.cmpi .ne v112 v117
  let v119 : BitVec 32 := Scalar.remsi v106 c256_i32_58
  let c0_i32_63 : BitVec 32 := 0#32
  let v120 : BitVec 1 := Scalar.cmpi .ne v119 c0_i32_63
  let v121 : BitVec 1 := Scalar.andi v118 v120
  let v107 : BitVec 32 := Scalar.divsi v106 c256_i32_58
  let c1_i32_64 : BitVec 32 := 1#32
  let v122 : BitVec 32 := Scalar.subi v107 c1_i32_64
  let v123 : BitVec 32 := Scalar.select v121 v122 v107
  let v124 : BitVec 32 := Scalar.subi v123 c0_i32_66
  let c1_i32_67 : BitVec 32 := 1#32
  let v126 : BitVec 32 := Scalar.divsi v124 c1_i32_67
  let v127 : BitVec 32 := Scalar.muli v126 c1_i32_67
  let v128 : BitVec 32 := Scalar.addi c0_i32_66 v127
  let c1_i32_69 : BitVec 32 := 1#32
  let arg22 : BitVec 32 := Scf.iv v128 c1_i32_69 k0_t4
  let c8_i32_483 : BitVec 32 := 8#32
  let v1208 : BitVec 32 := Scalar.muli arg22 c8_i32_483
  let v1209 : Index := Scalar.indexCast v1208
  let c0_485 : Index := 0#32
  ![0, v1209.toNat, 0]
def k0_off44 (i : grid0.Coords) (k0_t4 : Fin (k0_t4_loop i).trips) : Fin 3 → Nat :=
  let c1_487 : Index := 1#32
  let c0_i32_66 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32_56 : BitVec 32 := 256#32
  let v105 : BitVec 32 := Scalar.addi v1 c256_i32_56
  let c1_i32_57 : BitVec 32 := 1#32
  let v106 : BitVec 32 := Scalar.subi v105 c1_i32_57
  let c0_i32_59 : BitVec 32 := 0#32
  let v108 : BitVec 1 := Scalar.cmpi .sgt v106 c0_i32_59
  let v109 : BitVec 32 := Scalar.extui v108
  let c0_i32_60 : BitVec 32 := 0#32
  let v110 : BitVec 1 := Scalar.cmpi .slt v106 c0_i32_60
  let v111 : BitVec 32 := Scalar.extui v110
  let v112 : BitVec 32 := Scalar.subi v109 v111
  let c256_i32_58 : BitVec 32 := 256#32
  let c0_i32_61 : BitVec 32 := 0#32
  let v113 : BitVec 1 := Scalar.cmpi .sgt c256_i32_58 c0_i32_61
  let v114 : BitVec 32 := Scalar.extui v113
  let c0_i32_62 : BitVec 32 := 0#32
  let v115 : BitVec 1 := Scalar.cmpi .slt c256_i32_58 c0_i32_62
  let v116 : BitVec 32 := Scalar.extui v115
  let v117 : BitVec 32 := Scalar.subi v114 v116
  let v118 : BitVec 1 := Scalar.cmpi .ne v112 v117
  let v119 : BitVec 32 := Scalar.remsi v106 c256_i32_58
  let c0_i32_63 : BitVec 32 := 0#32
  let v120 : BitVec 1 := Scalar.cmpi .ne v119 c0_i32_63
  let v121 : BitVec 1 := Scalar.andi v118 v120
  let v107 : BitVec 32 := Scalar.divsi v106 c256_i32_58
  let c1_i32_64 : BitVec 32 := 1#32
  let v122 : BitVec 32 := Scalar.subi v107 c1_i32_64
  let v123 : BitVec 32 := Scalar.select v121 v122 v107
  let v124 : BitVec 32 := Scalar.subi v123 c0_i32_66
  let c1_i32_67 : BitVec 32 := 1#32
  let v126 : BitVec 32 := Scalar.divsi v124 c1_i32_67
  let v127 : BitVec 32 := Scalar.muli v126 c1_i32_67
  let v128 : BitVec 32 := Scalar.addi c0_i32_66 v127
  let c1_i32_69 : BitVec 32 := 1#32
  let arg22 : BitVec 32 := Scf.iv v128 c1_i32_69 k0_t4
  let c8_i32_486 : BitVec 32 := 8#32
  let v1213 : BitVec 32 := Scalar.muli arg22 c8_i32_486
  let v1214 : Index := Scalar.indexCast v1213
  let c0_488 : Index := 0#32
  ![1, v1214.toNat, 0]
def k0_off45 (i : grid0.Coords) (k0_t4 : Fin (k0_t4_loop i).trips) : Fin 3 → Nat :=
  let c2_490 : Index := 2#32
  let c0_i32_66 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32_56 : BitVec 32 := 256#32
  let v105 : BitVec 32 := Scalar.addi v1 c256_i32_56
  let c1_i32_57 : BitVec 32 := 1#32
  let v106 : BitVec 32 := Scalar.subi v105 c1_i32_57
  let c0_i32_59 : BitVec 32 := 0#32
  let v108 : BitVec 1 := Scalar.cmpi .sgt v106 c0_i32_59
  let v109 : BitVec 32 := Scalar.extui v108
  let c0_i32_60 : BitVec 32 := 0#32
  let v110 : BitVec 1 := Scalar.cmpi .slt v106 c0_i32_60
  let v111 : BitVec 32 := Scalar.extui v110
  let v112 : BitVec 32 := Scalar.subi v109 v111
  let c256_i32_58 : BitVec 32 := 256#32
  let c0_i32_61 : BitVec 32 := 0#32
  let v113 : BitVec 1 := Scalar.cmpi .sgt c256_i32_58 c0_i32_61
  let v114 : BitVec 32 := Scalar.extui v113
  let c0_i32_62 : BitVec 32 := 0#32
  let v115 : BitVec 1 := Scalar.cmpi .slt c256_i32_58 c0_i32_62
  let v116 : BitVec 32 := Scalar.extui v115
  let v117 : BitVec 32 := Scalar.subi v114 v116
  let v118 : BitVec 1 := Scalar.cmpi .ne v112 v117
  let v119 : BitVec 32 := Scalar.remsi v106 c256_i32_58
  let c0_i32_63 : BitVec 32 := 0#32
  let v120 : BitVec 1 := Scalar.cmpi .ne v119 c0_i32_63
  let v121 : BitVec 1 := Scalar.andi v118 v120
  let v107 : BitVec 32 := Scalar.divsi v106 c256_i32_58
  let c1_i32_64 : BitVec 32 := 1#32
  let v122 : BitVec 32 := Scalar.subi v107 c1_i32_64
  let v123 : BitVec 32 := Scalar.select v121 v122 v107
  let v124 : BitVec 32 := Scalar.subi v123 c0_i32_66
  let c1_i32_67 : BitVec 32 := 1#32
  let v126 : BitVec 32 := Scalar.divsi v124 c1_i32_67
  let v127 : BitVec 32 := Scalar.muli v126 c1_i32_67
  let v128 : BitVec 32 := Scalar.addi c0_i32_66 v127
  let c1_i32_69 : BitVec 32 := 1#32
  let arg22 : BitVec 32 := Scf.iv v128 c1_i32_69 k0_t4
  let c8_i32_489 : BitVec 32 := 8#32
  let v1218 : BitVec 32 := Scalar.muli arg22 c8_i32_489
  let v1219 : Index := Scalar.indexCast v1218
  let c0_491 : Index := 0#32
  ![2, v1219.toNat, 0]
def k0_off46 (i : grid0.Coords) (k0_t4 : Fin (k0_t4_loop i).trips) : Fin 3 → Nat :=
  let c3_493 : Index := 3#32
  let c0_i32_66 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32_56 : BitVec 32 := 256#32
  let v105 : BitVec 32 := Scalar.addi v1 c256_i32_56
  let c1_i32_57 : BitVec 32 := 1#32
  let v106 : BitVec 32 := Scalar.subi v105 c1_i32_57
  let c0_i32_59 : BitVec 32 := 0#32
  let v108 : BitVec 1 := Scalar.cmpi .sgt v106 c0_i32_59
  let v109 : BitVec 32 := Scalar.extui v108
  let c0_i32_60 : BitVec 32 := 0#32
  let v110 : BitVec 1 := Scalar.cmpi .slt v106 c0_i32_60
  let v111 : BitVec 32 := Scalar.extui v110
  let v112 : BitVec 32 := Scalar.subi v109 v111
  let c256_i32_58 : BitVec 32 := 256#32
  let c0_i32_61 : BitVec 32 := 0#32
  let v113 : BitVec 1 := Scalar.cmpi .sgt c256_i32_58 c0_i32_61
  let v114 : BitVec 32 := Scalar.extui v113
  let c0_i32_62 : BitVec 32 := 0#32
  let v115 : BitVec 1 := Scalar.cmpi .slt c256_i32_58 c0_i32_62
  let v116 : BitVec 32 := Scalar.extui v115
  let v117 : BitVec 32 := Scalar.subi v114 v116
  let v118 : BitVec 1 := Scalar.cmpi .ne v112 v117
  let v119 : BitVec 32 := Scalar.remsi v106 c256_i32_58
  let c0_i32_63 : BitVec 32 := 0#32
  let v120 : BitVec 1 := Scalar.cmpi .ne v119 c0_i32_63
  let v121 : BitVec 1 := Scalar.andi v118 v120
  let v107 : BitVec 32 := Scalar.divsi v106 c256_i32_58
  let c1_i32_64 : BitVec 32 := 1#32
  let v122 : BitVec 32 := Scalar.subi v107 c1_i32_64
  let v123 : BitVec 32 := Scalar.select v121 v122 v107
  let v124 : BitVec 32 := Scalar.subi v123 c0_i32_66
  let c1_i32_67 : BitVec 32 := 1#32
  let v126 : BitVec 32 := Scalar.divsi v124 c1_i32_67
  let v127 : BitVec 32 := Scalar.muli v126 c1_i32_67
  let v128 : BitVec 32 := Scalar.addi c0_i32_66 v127
  let c1_i32_69 : BitVec 32 := 1#32
  let arg22 : BitVec 32 := Scf.iv v128 c1_i32_69 k0_t4
  let c8_i32_492 : BitVec 32 := 8#32
  let v1223 : BitVec 32 := Scalar.muli arg22 c8_i32_492
  let v1224 : Index := Scalar.indexCast v1223
  let c0_494 : Index := 0#32
  ![3, v1224.toNat, 0]
def k0_off47 (i : grid0.Coords) (k0_t4 : Fin (k0_t4_loop i).trips) : Fin 3 → Nat :=
  let c4_496 : Index := 4#32
  let c0_i32_66 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32_56 : BitVec 32 := 256#32
  let v105 : BitVec 32 := Scalar.addi v1 c256_i32_56
  let c1_i32_57 : BitVec 32 := 1#32
  let v106 : BitVec 32 := Scalar.subi v105 c1_i32_57
  let c0_i32_59 : BitVec 32 := 0#32
  let v108 : BitVec 1 := Scalar.cmpi .sgt v106 c0_i32_59
  let v109 : BitVec 32 := Scalar.extui v108
  let c0_i32_60 : BitVec 32 := 0#32
  let v110 : BitVec 1 := Scalar.cmpi .slt v106 c0_i32_60
  let v111 : BitVec 32 := Scalar.extui v110
  let v112 : BitVec 32 := Scalar.subi v109 v111
  let c256_i32_58 : BitVec 32 := 256#32
  let c0_i32_61 : BitVec 32 := 0#32
  let v113 : BitVec 1 := Scalar.cmpi .sgt c256_i32_58 c0_i32_61
  let v114 : BitVec 32 := Scalar.extui v113
  let c0_i32_62 : BitVec 32 := 0#32
  let v115 : BitVec 1 := Scalar.cmpi .slt c256_i32_58 c0_i32_62
  let v116 : BitVec 32 := Scalar.extui v115
  let v117 : BitVec 32 := Scalar.subi v114 v116
  let v118 : BitVec 1 := Scalar.cmpi .ne v112 v117
  let v119 : BitVec 32 := Scalar.remsi v106 c256_i32_58
  let c0_i32_63 : BitVec 32 := 0#32
  let v120 : BitVec 1 := Scalar.cmpi .ne v119 c0_i32_63
  let v121 : BitVec 1 := Scalar.andi v118 v120
  let v107 : BitVec 32 := Scalar.divsi v106 c256_i32_58
  let c1_i32_64 : BitVec 32 := 1#32
  let v122 : BitVec 32 := Scalar.subi v107 c1_i32_64
  let v123 : BitVec 32 := Scalar.select v121 v122 v107
  let v124 : BitVec 32 := Scalar.subi v123 c0_i32_66
  let c1_i32_67 : BitVec 32 := 1#32
  let v126 : BitVec 32 := Scalar.divsi v124 c1_i32_67
  let v127 : BitVec 32 := Scalar.muli v126 c1_i32_67
  let v128 : BitVec 32 := Scalar.addi c0_i32_66 v127
  let c1_i32_69 : BitVec 32 := 1#32
  let arg22 : BitVec 32 := Scf.iv v128 c1_i32_69 k0_t4
  let c8_i32_495 : BitVec 32 := 8#32
  let v1228 : BitVec 32 := Scalar.muli arg22 c8_i32_495
  let v1229 : Index := Scalar.indexCast v1228
  let c0_497 : Index := 0#32
  ![4, v1229.toNat, 0]
def k0_off48 (i : grid0.Coords) (k0_t4 : Fin (k0_t4_loop i).trips) : Fin 3 → Nat :=
  let c5_499 : Index := 5#32
  let c0_i32_66 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32_56 : BitVec 32 := 256#32
  let v105 : BitVec 32 := Scalar.addi v1 c256_i32_56
  let c1_i32_57 : BitVec 32 := 1#32
  let v106 : BitVec 32 := Scalar.subi v105 c1_i32_57
  let c0_i32_59 : BitVec 32 := 0#32
  let v108 : BitVec 1 := Scalar.cmpi .sgt v106 c0_i32_59
  let v109 : BitVec 32 := Scalar.extui v108
  let c0_i32_60 : BitVec 32 := 0#32
  let v110 : BitVec 1 := Scalar.cmpi .slt v106 c0_i32_60
  let v111 : BitVec 32 := Scalar.extui v110
  let v112 : BitVec 32 := Scalar.subi v109 v111
  let c256_i32_58 : BitVec 32 := 256#32
  let c0_i32_61 : BitVec 32 := 0#32
  let v113 : BitVec 1 := Scalar.cmpi .sgt c256_i32_58 c0_i32_61
  let v114 : BitVec 32 := Scalar.extui v113
  let c0_i32_62 : BitVec 32 := 0#32
  let v115 : BitVec 1 := Scalar.cmpi .slt c256_i32_58 c0_i32_62
  let v116 : BitVec 32 := Scalar.extui v115
  let v117 : BitVec 32 := Scalar.subi v114 v116
  let v118 : BitVec 1 := Scalar.cmpi .ne v112 v117
  let v119 : BitVec 32 := Scalar.remsi v106 c256_i32_58
  let c0_i32_63 : BitVec 32 := 0#32
  let v120 : BitVec 1 := Scalar.cmpi .ne v119 c0_i32_63
  let v121 : BitVec 1 := Scalar.andi v118 v120
  let v107 : BitVec 32 := Scalar.divsi v106 c256_i32_58
  let c1_i32_64 : BitVec 32 := 1#32
  let v122 : BitVec 32 := Scalar.subi v107 c1_i32_64
  let v123 : BitVec 32 := Scalar.select v121 v122 v107
  let v124 : BitVec 32 := Scalar.subi v123 c0_i32_66
  let c1_i32_67 : BitVec 32 := 1#32
  let v126 : BitVec 32 := Scalar.divsi v124 c1_i32_67
  let v127 : BitVec 32 := Scalar.muli v126 c1_i32_67
  let v128 : BitVec 32 := Scalar.addi c0_i32_66 v127
  let c1_i32_69 : BitVec 32 := 1#32
  let arg22 : BitVec 32 := Scf.iv v128 c1_i32_69 k0_t4
  let c8_i32_498 : BitVec 32 := 8#32
  let v1233 : BitVec 32 := Scalar.muli arg22 c8_i32_498
  let v1234 : Index := Scalar.indexCast v1233
  let c0_500 : Index := 0#32
  ![5, v1234.toNat, 0]
def k0_off49 (i : grid0.Coords) (k0_t4 : Fin (k0_t4_loop i).trips) : Fin 3 → Nat :=
  let c6_502 : Index := 6#32
  let c0_i32_66 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32_56 : BitVec 32 := 256#32
  let v105 : BitVec 32 := Scalar.addi v1 c256_i32_56
  let c1_i32_57 : BitVec 32 := 1#32
  let v106 : BitVec 32 := Scalar.subi v105 c1_i32_57
  let c0_i32_59 : BitVec 32 := 0#32
  let v108 : BitVec 1 := Scalar.cmpi .sgt v106 c0_i32_59
  let v109 : BitVec 32 := Scalar.extui v108
  let c0_i32_60 : BitVec 32 := 0#32
  let v110 : BitVec 1 := Scalar.cmpi .slt v106 c0_i32_60
  let v111 : BitVec 32 := Scalar.extui v110
  let v112 : BitVec 32 := Scalar.subi v109 v111
  let c256_i32_58 : BitVec 32 := 256#32
  let c0_i32_61 : BitVec 32 := 0#32
  let v113 : BitVec 1 := Scalar.cmpi .sgt c256_i32_58 c0_i32_61
  let v114 : BitVec 32 := Scalar.extui v113
  let c0_i32_62 : BitVec 32 := 0#32
  let v115 : BitVec 1 := Scalar.cmpi .slt c256_i32_58 c0_i32_62
  let v116 : BitVec 32 := Scalar.extui v115
  let v117 : BitVec 32 := Scalar.subi v114 v116
  let v118 : BitVec 1 := Scalar.cmpi .ne v112 v117
  let v119 : BitVec 32 := Scalar.remsi v106 c256_i32_58
  let c0_i32_63 : BitVec 32 := 0#32
  let v120 : BitVec 1 := Scalar.cmpi .ne v119 c0_i32_63
  let v121 : BitVec 1 := Scalar.andi v118 v120
  let v107 : BitVec 32 := Scalar.divsi v106 c256_i32_58
  let c1_i32_64 : BitVec 32 := 1#32
  let v122 : BitVec 32 := Scalar.subi v107 c1_i32_64
  let v123 : BitVec 32 := Scalar.select v121 v122 v107
  let v124 : BitVec 32 := Scalar.subi v123 c0_i32_66
  let c1_i32_67 : BitVec 32 := 1#32
  let v126 : BitVec 32 := Scalar.divsi v124 c1_i32_67
  let v127 : BitVec 32 := Scalar.muli v126 c1_i32_67
  let v128 : BitVec 32 := Scalar.addi c0_i32_66 v127
  let c1_i32_69 : BitVec 32 := 1#32
  let arg22 : BitVec 32 := Scf.iv v128 c1_i32_69 k0_t4
  let c8_i32_501 : BitVec 32 := 8#32
  let v1238 : BitVec 32 := Scalar.muli arg22 c8_i32_501
  let v1239 : Index := Scalar.indexCast v1238
  let c0_503 : Index := 0#32
  ![6, v1239.toNat, 0]
def k0_off50 (i : grid0.Coords) (k0_t4 : Fin (k0_t4_loop i).trips) : Fin 3 → Nat :=
  let c7_505 : Index := 7#32
  let c0_i32_66 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32_56 : BitVec 32 := 256#32
  let v105 : BitVec 32 := Scalar.addi v1 c256_i32_56
  let c1_i32_57 : BitVec 32 := 1#32
  let v106 : BitVec 32 := Scalar.subi v105 c1_i32_57
  let c0_i32_59 : BitVec 32 := 0#32
  let v108 : BitVec 1 := Scalar.cmpi .sgt v106 c0_i32_59
  let v109 : BitVec 32 := Scalar.extui v108
  let c0_i32_60 : BitVec 32 := 0#32
  let v110 : BitVec 1 := Scalar.cmpi .slt v106 c0_i32_60
  let v111 : BitVec 32 := Scalar.extui v110
  let v112 : BitVec 32 := Scalar.subi v109 v111
  let c256_i32_58 : BitVec 32 := 256#32
  let c0_i32_61 : BitVec 32 := 0#32
  let v113 : BitVec 1 := Scalar.cmpi .sgt c256_i32_58 c0_i32_61
  let v114 : BitVec 32 := Scalar.extui v113
  let c0_i32_62 : BitVec 32 := 0#32
  let v115 : BitVec 1 := Scalar.cmpi .slt c256_i32_58 c0_i32_62
  let v116 : BitVec 32 := Scalar.extui v115
  let v117 : BitVec 32 := Scalar.subi v114 v116
  let v118 : BitVec 1 := Scalar.cmpi .ne v112 v117
  let v119 : BitVec 32 := Scalar.remsi v106 c256_i32_58
  let c0_i32_63 : BitVec 32 := 0#32
  let v120 : BitVec 1 := Scalar.cmpi .ne v119 c0_i32_63
  let v121 : BitVec 1 := Scalar.andi v118 v120
  let v107 : BitVec 32 := Scalar.divsi v106 c256_i32_58
  let c1_i32_64 : BitVec 32 := 1#32
  let v122 : BitVec 32 := Scalar.subi v107 c1_i32_64
  let v123 : BitVec 32 := Scalar.select v121 v122 v107
  let v124 : BitVec 32 := Scalar.subi v123 c0_i32_66
  let c1_i32_67 : BitVec 32 := 1#32
  let v126 : BitVec 32 := Scalar.divsi v124 c1_i32_67
  let v127 : BitVec 32 := Scalar.muli v126 c1_i32_67
  let v128 : BitVec 32 := Scalar.addi c0_i32_66 v127
  let c1_i32_69 : BitVec 32 := 1#32
  let arg22 : BitVec 32 := Scf.iv v128 c1_i32_69 k0_t4
  let c8_i32_504 : BitVec 32 := 8#32
  let v1243 : BitVec 32 := Scalar.muli arg22 c8_i32_504
  let v1244 : Index := Scalar.indexCast v1243
  let c0_506 : Index := 0#32
  ![7, v1244.toNat, 0]
def k0_off51 (i : grid0.Coords) (k0_t4 : Fin (k0_t4_loop i).trips) : Fin 3 → Nat :=
  let c8 : Index := 8#32
  let c0_i32_66 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32_56 : BitVec 32 := 256#32
  let v105 : BitVec 32 := Scalar.addi v1 c256_i32_56
  let c1_i32_57 : BitVec 32 := 1#32
  let v106 : BitVec 32 := Scalar.subi v105 c1_i32_57
  let c0_i32_59 : BitVec 32 := 0#32
  let v108 : BitVec 1 := Scalar.cmpi .sgt v106 c0_i32_59
  let v109 : BitVec 32 := Scalar.extui v108
  let c0_i32_60 : BitVec 32 := 0#32
  let v110 : BitVec 1 := Scalar.cmpi .slt v106 c0_i32_60
  let v111 : BitVec 32 := Scalar.extui v110
  let v112 : BitVec 32 := Scalar.subi v109 v111
  let c256_i32_58 : BitVec 32 := 256#32
  let c0_i32_61 : BitVec 32 := 0#32
  let v113 : BitVec 1 := Scalar.cmpi .sgt c256_i32_58 c0_i32_61
  let v114 : BitVec 32 := Scalar.extui v113
  let c0_i32_62 : BitVec 32 := 0#32
  let v115 : BitVec 1 := Scalar.cmpi .slt c256_i32_58 c0_i32_62
  let v116 : BitVec 32 := Scalar.extui v115
  let v117 : BitVec 32 := Scalar.subi v114 v116
  let v118 : BitVec 1 := Scalar.cmpi .ne v112 v117
  let v119 : BitVec 32 := Scalar.remsi v106 c256_i32_58
  let c0_i32_63 : BitVec 32 := 0#32
  let v120 : BitVec 1 := Scalar.cmpi .ne v119 c0_i32_63
  let v121 : BitVec 1 := Scalar.andi v118 v120
  let v107 : BitVec 32 := Scalar.divsi v106 c256_i32_58
  let c1_i32_64 : BitVec 32 := 1#32
  let v122 : BitVec 32 := Scalar.subi v107 c1_i32_64
  let v123 : BitVec 32 := Scalar.select v121 v122 v107
  let v124 : BitVec 32 := Scalar.subi v123 c0_i32_66
  let c1_i32_67 : BitVec 32 := 1#32
  let v126 : BitVec 32 := Scalar.divsi v124 c1_i32_67
  let v127 : BitVec 32 := Scalar.muli v126 c1_i32_67
  let v128 : BitVec 32 := Scalar.addi c0_i32_66 v127
  let c1_i32_69 : BitVec 32 := 1#32
  let arg22 : BitVec 32 := Scf.iv v128 c1_i32_69 k0_t4
  let c8_i32_507 : BitVec 32 := 8#32
  let v1248 : BitVec 32 := Scalar.muli arg22 c8_i32_507
  let v1249 : Index := Scalar.indexCast v1248
  let c0_508 : Index := 0#32
  ![8, v1249.toNat, 0]
def k0_off52 (i : grid0.Coords) (k0_t4 : Fin (k0_t4_loop i).trips) : Fin 3 → Nat :=
  let c9 : Index := 9#32
  let c0_i32_66 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32_56 : BitVec 32 := 256#32
  let v105 : BitVec 32 := Scalar.addi v1 c256_i32_56
  let c1_i32_57 : BitVec 32 := 1#32
  let v106 : BitVec 32 := Scalar.subi v105 c1_i32_57
  let c0_i32_59 : BitVec 32 := 0#32
  let v108 : BitVec 1 := Scalar.cmpi .sgt v106 c0_i32_59
  let v109 : BitVec 32 := Scalar.extui v108
  let c0_i32_60 : BitVec 32 := 0#32
  let v110 : BitVec 1 := Scalar.cmpi .slt v106 c0_i32_60
  let v111 : BitVec 32 := Scalar.extui v110
  let v112 : BitVec 32 := Scalar.subi v109 v111
  let c256_i32_58 : BitVec 32 := 256#32
  let c0_i32_61 : BitVec 32 := 0#32
  let v113 : BitVec 1 := Scalar.cmpi .sgt c256_i32_58 c0_i32_61
  let v114 : BitVec 32 := Scalar.extui v113
  let c0_i32_62 : BitVec 32 := 0#32
  let v115 : BitVec 1 := Scalar.cmpi .slt c256_i32_58 c0_i32_62
  let v116 : BitVec 32 := Scalar.extui v115
  let v117 : BitVec 32 := Scalar.subi v114 v116
  let v118 : BitVec 1 := Scalar.cmpi .ne v112 v117
  let v119 : BitVec 32 := Scalar.remsi v106 c256_i32_58
  let c0_i32_63 : BitVec 32 := 0#32
  let v120 : BitVec 1 := Scalar.cmpi .ne v119 c0_i32_63
  let v121 : BitVec 1 := Scalar.andi v118 v120
  let v107 : BitVec 32 := Scalar.divsi v106 c256_i32_58
  let c1_i32_64 : BitVec 32 := 1#32
  let v122 : BitVec 32 := Scalar.subi v107 c1_i32_64
  let v123 : BitVec 32 := Scalar.select v121 v122 v107
  let v124 : BitVec 32 := Scalar.subi v123 c0_i32_66
  let c1_i32_67 : BitVec 32 := 1#32
  let v126 : BitVec 32 := Scalar.divsi v124 c1_i32_67
  let v127 : BitVec 32 := Scalar.muli v126 c1_i32_67
  let v128 : BitVec 32 := Scalar.addi c0_i32_66 v127
  let c1_i32_69 : BitVec 32 := 1#32
  let arg22 : BitVec 32 := Scf.iv v128 c1_i32_69 k0_t4
  let c8_i32_509 : BitVec 32 := 8#32
  let v1253 : BitVec 32 := Scalar.muli arg22 c8_i32_509
  let v1254 : Index := Scalar.indexCast v1253
  let c0_510 : Index := 0#32
  ![9, v1254.toNat, 0]
def k0_off53 (i : grid0.Coords) (k0_t4 : Fin (k0_t4_loop i).trips) : Fin 3 → Nat :=
  let c10 : Index := 10#32
  let c0_i32_66 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32_56 : BitVec 32 := 256#32
  let v105 : BitVec 32 := Scalar.addi v1 c256_i32_56
  let c1_i32_57 : BitVec 32 := 1#32
  let v106 : BitVec 32 := Scalar.subi v105 c1_i32_57
  let c0_i32_59 : BitVec 32 := 0#32
  let v108 : BitVec 1 := Scalar.cmpi .sgt v106 c0_i32_59
  let v109 : BitVec 32 := Scalar.extui v108
  let c0_i32_60 : BitVec 32 := 0#32
  let v110 : BitVec 1 := Scalar.cmpi .slt v106 c0_i32_60
  let v111 : BitVec 32 := Scalar.extui v110
  let v112 : BitVec 32 := Scalar.subi v109 v111
  let c256_i32_58 : BitVec 32 := 256#32
  let c0_i32_61 : BitVec 32 := 0#32
  let v113 : BitVec 1 := Scalar.cmpi .sgt c256_i32_58 c0_i32_61
  let v114 : BitVec 32 := Scalar.extui v113
  let c0_i32_62 : BitVec 32 := 0#32
  let v115 : BitVec 1 := Scalar.cmpi .slt c256_i32_58 c0_i32_62
  let v116 : BitVec 32 := Scalar.extui v115
  let v117 : BitVec 32 := Scalar.subi v114 v116
  let v118 : BitVec 1 := Scalar.cmpi .ne v112 v117
  let v119 : BitVec 32 := Scalar.remsi v106 c256_i32_58
  let c0_i32_63 : BitVec 32 := 0#32
  let v120 : BitVec 1 := Scalar.cmpi .ne v119 c0_i32_63
  let v121 : BitVec 1 := Scalar.andi v118 v120
  let v107 : BitVec 32 := Scalar.divsi v106 c256_i32_58
  let c1_i32_64 : BitVec 32 := 1#32
  let v122 : BitVec 32 := Scalar.subi v107 c1_i32_64
  let v123 : BitVec 32 := Scalar.select v121 v122 v107
  let v124 : BitVec 32 := Scalar.subi v123 c0_i32_66
  let c1_i32_67 : BitVec 32 := 1#32
  let v126 : BitVec 32 := Scalar.divsi v124 c1_i32_67
  let v127 : BitVec 32 := Scalar.muli v126 c1_i32_67
  let v128 : BitVec 32 := Scalar.addi c0_i32_66 v127
  let c1_i32_69 : BitVec 32 := 1#32
  let arg22 : BitVec 32 := Scf.iv v128 c1_i32_69 k0_t4
  let c8_i32_511 : BitVec 32 := 8#32
  let v1258 : BitVec 32 := Scalar.muli arg22 c8_i32_511
  let v1259 : Index := Scalar.indexCast v1258
  let c0_512 : Index := 0#32
  ![10, v1259.toNat, 0]
def k0_off54 (i : grid0.Coords) (k0_t4 : Fin (k0_t4_loop i).trips) : Fin 3 → Nat :=
  let c11 : Index := 11#32
  let c0_i32_66 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32_56 : BitVec 32 := 256#32
  let v105 : BitVec 32 := Scalar.addi v1 c256_i32_56
  let c1_i32_57 : BitVec 32 := 1#32
  let v106 : BitVec 32 := Scalar.subi v105 c1_i32_57
  let c0_i32_59 : BitVec 32 := 0#32
  let v108 : BitVec 1 := Scalar.cmpi .sgt v106 c0_i32_59
  let v109 : BitVec 32 := Scalar.extui v108
  let c0_i32_60 : BitVec 32 := 0#32
  let v110 : BitVec 1 := Scalar.cmpi .slt v106 c0_i32_60
  let v111 : BitVec 32 := Scalar.extui v110
  let v112 : BitVec 32 := Scalar.subi v109 v111
  let c256_i32_58 : BitVec 32 := 256#32
  let c0_i32_61 : BitVec 32 := 0#32
  let v113 : BitVec 1 := Scalar.cmpi .sgt c256_i32_58 c0_i32_61
  let v114 : BitVec 32 := Scalar.extui v113
  let c0_i32_62 : BitVec 32 := 0#32
  let v115 : BitVec 1 := Scalar.cmpi .slt c256_i32_58 c0_i32_62
  let v116 : BitVec 32 := Scalar.extui v115
  let v117 : BitVec 32 := Scalar.subi v114 v116
  let v118 : BitVec 1 := Scalar.cmpi .ne v112 v117
  let v119 : BitVec 32 := Scalar.remsi v106 c256_i32_58
  let c0_i32_63 : BitVec 32 := 0#32
  let v120 : BitVec 1 := Scalar.cmpi .ne v119 c0_i32_63
  let v121 : BitVec 1 := Scalar.andi v118 v120
  let v107 : BitVec 32 := Scalar.divsi v106 c256_i32_58
  let c1_i32_64 : BitVec 32 := 1#32
  let v122 : BitVec 32 := Scalar.subi v107 c1_i32_64
  let v123 : BitVec 32 := Scalar.select v121 v122 v107
  let v124 : BitVec 32 := Scalar.subi v123 c0_i32_66
  let c1_i32_67 : BitVec 32 := 1#32
  let v126 : BitVec 32 := Scalar.divsi v124 c1_i32_67
  let v127 : BitVec 32 := Scalar.muli v126 c1_i32_67
  let v128 : BitVec 32 := Scalar.addi c0_i32_66 v127
  let c1_i32_69 : BitVec 32 := 1#32
  let arg22 : BitVec 32 := Scf.iv v128 c1_i32_69 k0_t4
  let c8_i32_513 : BitVec 32 := 8#32
  let v1263 : BitVec 32 := Scalar.muli arg22 c8_i32_513
  let v1264 : Index := Scalar.indexCast v1263
  let c0_514 : Index := 0#32
  ![11, v1264.toNat, 0]
def k0_off55 (i : grid0.Coords) (k0_t4 : Fin (k0_t4_loop i).trips) : Fin 3 → Nat :=
  let c12 : Index := 12#32
  let c0_i32_66 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32_56 : BitVec 32 := 256#32
  let v105 : BitVec 32 := Scalar.addi v1 c256_i32_56
  let c1_i32_57 : BitVec 32 := 1#32
  let v106 : BitVec 32 := Scalar.subi v105 c1_i32_57
  let c0_i32_59 : BitVec 32 := 0#32
  let v108 : BitVec 1 := Scalar.cmpi .sgt v106 c0_i32_59
  let v109 : BitVec 32 := Scalar.extui v108
  let c0_i32_60 : BitVec 32 := 0#32
  let v110 : BitVec 1 := Scalar.cmpi .slt v106 c0_i32_60
  let v111 : BitVec 32 := Scalar.extui v110
  let v112 : BitVec 32 := Scalar.subi v109 v111
  let c256_i32_58 : BitVec 32 := 256#32
  let c0_i32_61 : BitVec 32 := 0#32
  let v113 : BitVec 1 := Scalar.cmpi .sgt c256_i32_58 c0_i32_61
  let v114 : BitVec 32 := Scalar.extui v113
  let c0_i32_62 : BitVec 32 := 0#32
  let v115 : BitVec 1 := Scalar.cmpi .slt c256_i32_58 c0_i32_62
  let v116 : BitVec 32 := Scalar.extui v115
  let v117 : BitVec 32 := Scalar.subi v114 v116
  let v118 : BitVec 1 := Scalar.cmpi .ne v112 v117
  let v119 : BitVec 32 := Scalar.remsi v106 c256_i32_58
  let c0_i32_63 : BitVec 32 := 0#32
  let v120 : BitVec 1 := Scalar.cmpi .ne v119 c0_i32_63
  let v121 : BitVec 1 := Scalar.andi v118 v120
  let v107 : BitVec 32 := Scalar.divsi v106 c256_i32_58
  let c1_i32_64 : BitVec 32 := 1#32
  let v122 : BitVec 32 := Scalar.subi v107 c1_i32_64
  let v123 : BitVec 32 := Scalar.select v121 v122 v107
  let v124 : BitVec 32 := Scalar.subi v123 c0_i32_66
  let c1_i32_67 : BitVec 32 := 1#32
  let v126 : BitVec 32 := Scalar.divsi v124 c1_i32_67
  let v127 : BitVec 32 := Scalar.muli v126 c1_i32_67
  let v128 : BitVec 32 := Scalar.addi c0_i32_66 v127
  let c1_i32_69 : BitVec 32 := 1#32
  let arg22 : BitVec 32 := Scf.iv v128 c1_i32_69 k0_t4
  let c8_i32_515 : BitVec 32 := 8#32
  let v1268 : BitVec 32 := Scalar.muli arg22 c8_i32_515
  let v1269 : Index := Scalar.indexCast v1268
  let c0_516 : Index := 0#32
  ![12, v1269.toNat, 0]
def k0_off56 (i : grid0.Coords) (k0_t4 : Fin (k0_t4_loop i).trips) : Fin 3 → Nat :=
  let c13 : Index := 13#32
  let c0_i32_66 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32_56 : BitVec 32 := 256#32
  let v105 : BitVec 32 := Scalar.addi v1 c256_i32_56
  let c1_i32_57 : BitVec 32 := 1#32
  let v106 : BitVec 32 := Scalar.subi v105 c1_i32_57
  let c0_i32_59 : BitVec 32 := 0#32
  let v108 : BitVec 1 := Scalar.cmpi .sgt v106 c0_i32_59
  let v109 : BitVec 32 := Scalar.extui v108
  let c0_i32_60 : BitVec 32 := 0#32
  let v110 : BitVec 1 := Scalar.cmpi .slt v106 c0_i32_60
  let v111 : BitVec 32 := Scalar.extui v110
  let v112 : BitVec 32 := Scalar.subi v109 v111
  let c256_i32_58 : BitVec 32 := 256#32
  let c0_i32_61 : BitVec 32 := 0#32
  let v113 : BitVec 1 := Scalar.cmpi .sgt c256_i32_58 c0_i32_61
  let v114 : BitVec 32 := Scalar.extui v113
  let c0_i32_62 : BitVec 32 := 0#32
  let v115 : BitVec 1 := Scalar.cmpi .slt c256_i32_58 c0_i32_62
  let v116 : BitVec 32 := Scalar.extui v115
  let v117 : BitVec 32 := Scalar.subi v114 v116
  let v118 : BitVec 1 := Scalar.cmpi .ne v112 v117
  let v119 : BitVec 32 := Scalar.remsi v106 c256_i32_58
  let c0_i32_63 : BitVec 32 := 0#32
  let v120 : BitVec 1 := Scalar.cmpi .ne v119 c0_i32_63
  let v121 : BitVec 1 := Scalar.andi v118 v120
  let v107 : BitVec 32 := Scalar.divsi v106 c256_i32_58
  let c1_i32_64 : BitVec 32 := 1#32
  let v122 : BitVec 32 := Scalar.subi v107 c1_i32_64
  let v123 : BitVec 32 := Scalar.select v121 v122 v107
  let v124 : BitVec 32 := Scalar.subi v123 c0_i32_66
  let c1_i32_67 : BitVec 32 := 1#32
  let v126 : BitVec 32 := Scalar.divsi v124 c1_i32_67
  let v127 : BitVec 32 := Scalar.muli v126 c1_i32_67
  let v128 : BitVec 32 := Scalar.addi c0_i32_66 v127
  let c1_i32_69 : BitVec 32 := 1#32
  let arg22 : BitVec 32 := Scf.iv v128 c1_i32_69 k0_t4
  let c8_i32_517 : BitVec 32 := 8#32
  let v1273 : BitVec 32 := Scalar.muli arg22 c8_i32_517
  let v1274 : Index := Scalar.indexCast v1273
  let c0_518 : Index := 0#32
  ![13, v1274.toNat, 0]
def k0_off57 (i : grid0.Coords) (k0_t4 : Fin (k0_t4_loop i).trips) : Fin 3 → Nat :=
  let c14 : Index := 14#32
  let c0_i32_66 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32_56 : BitVec 32 := 256#32
  let v105 : BitVec 32 := Scalar.addi v1 c256_i32_56
  let c1_i32_57 : BitVec 32 := 1#32
  let v106 : BitVec 32 := Scalar.subi v105 c1_i32_57
  let c0_i32_59 : BitVec 32 := 0#32
  let v108 : BitVec 1 := Scalar.cmpi .sgt v106 c0_i32_59
  let v109 : BitVec 32 := Scalar.extui v108
  let c0_i32_60 : BitVec 32 := 0#32
  let v110 : BitVec 1 := Scalar.cmpi .slt v106 c0_i32_60
  let v111 : BitVec 32 := Scalar.extui v110
  let v112 : BitVec 32 := Scalar.subi v109 v111
  let c256_i32_58 : BitVec 32 := 256#32
  let c0_i32_61 : BitVec 32 := 0#32
  let v113 : BitVec 1 := Scalar.cmpi .sgt c256_i32_58 c0_i32_61
  let v114 : BitVec 32 := Scalar.extui v113
  let c0_i32_62 : BitVec 32 := 0#32
  let v115 : BitVec 1 := Scalar.cmpi .slt c256_i32_58 c0_i32_62
  let v116 : BitVec 32 := Scalar.extui v115
  let v117 : BitVec 32 := Scalar.subi v114 v116
  let v118 : BitVec 1 := Scalar.cmpi .ne v112 v117
  let v119 : BitVec 32 := Scalar.remsi v106 c256_i32_58
  let c0_i32_63 : BitVec 32 := 0#32
  let v120 : BitVec 1 := Scalar.cmpi .ne v119 c0_i32_63
  let v121 : BitVec 1 := Scalar.andi v118 v120
  let v107 : BitVec 32 := Scalar.divsi v106 c256_i32_58
  let c1_i32_64 : BitVec 32 := 1#32
  let v122 : BitVec 32 := Scalar.subi v107 c1_i32_64
  let v123 : BitVec 32 := Scalar.select v121 v122 v107
  let v124 : BitVec 32 := Scalar.subi v123 c0_i32_66
  let c1_i32_67 : BitVec 32 := 1#32
  let v126 : BitVec 32 := Scalar.divsi v124 c1_i32_67
  let v127 : BitVec 32 := Scalar.muli v126 c1_i32_67
  let v128 : BitVec 32 := Scalar.addi c0_i32_66 v127
  let c1_i32_69 : BitVec 32 := 1#32
  let arg22 : BitVec 32 := Scf.iv v128 c1_i32_69 k0_t4
  let c8_i32_519 : BitVec 32 := 8#32
  let v1278 : BitVec 32 := Scalar.muli arg22 c8_i32_519
  let v1279 : Index := Scalar.indexCast v1278
  let c0_520 : Index := 0#32
  ![14, v1279.toNat, 0]
def k0_off58 (i : grid0.Coords) (k0_t4 : Fin (k0_t4_loop i).trips) : Fin 3 → Nat :=
  let c15 : Index := 15#32
  let c0_i32_66 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32_56 : BitVec 32 := 256#32
  let v105 : BitVec 32 := Scalar.addi v1 c256_i32_56
  let c1_i32_57 : BitVec 32 := 1#32
  let v106 : BitVec 32 := Scalar.subi v105 c1_i32_57
  let c0_i32_59 : BitVec 32 := 0#32
  let v108 : BitVec 1 := Scalar.cmpi .sgt v106 c0_i32_59
  let v109 : BitVec 32 := Scalar.extui v108
  let c0_i32_60 : BitVec 32 := 0#32
  let v110 : BitVec 1 := Scalar.cmpi .slt v106 c0_i32_60
  let v111 : BitVec 32 := Scalar.extui v110
  let v112 : BitVec 32 := Scalar.subi v109 v111
  let c256_i32_58 : BitVec 32 := 256#32
  let c0_i32_61 : BitVec 32 := 0#32
  let v113 : BitVec 1 := Scalar.cmpi .sgt c256_i32_58 c0_i32_61
  let v114 : BitVec 32 := Scalar.extui v113
  let c0_i32_62 : BitVec 32 := 0#32
  let v115 : BitVec 1 := Scalar.cmpi .slt c256_i32_58 c0_i32_62
  let v116 : BitVec 32 := Scalar.extui v115
  let v117 : BitVec 32 := Scalar.subi v114 v116
  let v118 : BitVec 1 := Scalar.cmpi .ne v112 v117
  let v119 : BitVec 32 := Scalar.remsi v106 c256_i32_58
  let c0_i32_63 : BitVec 32 := 0#32
  let v120 : BitVec 1 := Scalar.cmpi .ne v119 c0_i32_63
  let v121 : BitVec 1 := Scalar.andi v118 v120
  let v107 : BitVec 32 := Scalar.divsi v106 c256_i32_58
  let c1_i32_64 : BitVec 32 := 1#32
  let v122 : BitVec 32 := Scalar.subi v107 c1_i32_64
  let v123 : BitVec 32 := Scalar.select v121 v122 v107
  let v124 : BitVec 32 := Scalar.subi v123 c0_i32_66
  let c1_i32_67 : BitVec 32 := 1#32
  let v126 : BitVec 32 := Scalar.divsi v124 c1_i32_67
  let v127 : BitVec 32 := Scalar.muli v126 c1_i32_67
  let v128 : BitVec 32 := Scalar.addi c0_i32_66 v127
  let c1_i32_69 : BitVec 32 := 1#32
  let arg22 : BitVec 32 := Scf.iv v128 c1_i32_69 k0_t4
  let c8_i32_521 : BitVec 32 := 8#32
  let v1283 : BitVec 32 := Scalar.muli arg22 c8_i32_521
  let v1284 : Index := Scalar.indexCast v1283
  let c0_522 : Index := 0#32
  ![15, v1284.toNat, 0]
def k0_off59 (i : grid0.Coords) (k0_t4 : Fin (k0_t4_loop i).trips) : Fin 3 → Nat :=
  let c16 : Index := 16#32
  let c0_i32_66 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32_56 : BitVec 32 := 256#32
  let v105 : BitVec 32 := Scalar.addi v1 c256_i32_56
  let c1_i32_57 : BitVec 32 := 1#32
  let v106 : BitVec 32 := Scalar.subi v105 c1_i32_57
  let c0_i32_59 : BitVec 32 := 0#32
  let v108 : BitVec 1 := Scalar.cmpi .sgt v106 c0_i32_59
  let v109 : BitVec 32 := Scalar.extui v108
  let c0_i32_60 : BitVec 32 := 0#32
  let v110 : BitVec 1 := Scalar.cmpi .slt v106 c0_i32_60
  let v111 : BitVec 32 := Scalar.extui v110
  let v112 : BitVec 32 := Scalar.subi v109 v111
  let c256_i32_58 : BitVec 32 := 256#32
  let c0_i32_61 : BitVec 32 := 0#32
  let v113 : BitVec 1 := Scalar.cmpi .sgt c256_i32_58 c0_i32_61
  let v114 : BitVec 32 := Scalar.extui v113
  let c0_i32_62 : BitVec 32 := 0#32
  let v115 : BitVec 1 := Scalar.cmpi .slt c256_i32_58 c0_i32_62
  let v116 : BitVec 32 := Scalar.extui v115
  let v117 : BitVec 32 := Scalar.subi v114 v116
  let v118 : BitVec 1 := Scalar.cmpi .ne v112 v117
  let v119 : BitVec 32 := Scalar.remsi v106 c256_i32_58
  let c0_i32_63 : BitVec 32 := 0#32
  let v120 : BitVec 1 := Scalar.cmpi .ne v119 c0_i32_63
  let v121 : BitVec 1 := Scalar.andi v118 v120
  let v107 : BitVec 32 := Scalar.divsi v106 c256_i32_58
  let c1_i32_64 : BitVec 32 := 1#32
  let v122 : BitVec 32 := Scalar.subi v107 c1_i32_64
  let v123 : BitVec 32 := Scalar.select v121 v122 v107
  let v124 : BitVec 32 := Scalar.subi v123 c0_i32_66
  let c1_i32_67 : BitVec 32 := 1#32
  let v126 : BitVec 32 := Scalar.divsi v124 c1_i32_67
  let v127 : BitVec 32 := Scalar.muli v126 c1_i32_67
  let v128 : BitVec 32 := Scalar.addi c0_i32_66 v127
  let c1_i32_69 : BitVec 32 := 1#32
  let arg22 : BitVec 32 := Scf.iv v128 c1_i32_69 k0_t4
  let c8_i32_523 : BitVec 32 := 8#32
  let v1288 : BitVec 32 := Scalar.muli arg22 c8_i32_523
  let v1289 : Index := Scalar.indexCast v1288
  let c0_524 : Index := 0#32
  ![16, v1289.toNat, 0]
def k0_off60 (i : grid0.Coords) (k0_t4 : Fin (k0_t4_loop i).trips) : Fin 3 → Nat :=
  let c17 : Index := 17#32
  let c0_i32_66 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32_56 : BitVec 32 := 256#32
  let v105 : BitVec 32 := Scalar.addi v1 c256_i32_56
  let c1_i32_57 : BitVec 32 := 1#32
  let v106 : BitVec 32 := Scalar.subi v105 c1_i32_57
  let c0_i32_59 : BitVec 32 := 0#32
  let v108 : BitVec 1 := Scalar.cmpi .sgt v106 c0_i32_59
  let v109 : BitVec 32 := Scalar.extui v108
  let c0_i32_60 : BitVec 32 := 0#32
  let v110 : BitVec 1 := Scalar.cmpi .slt v106 c0_i32_60
  let v111 : BitVec 32 := Scalar.extui v110
  let v112 : BitVec 32 := Scalar.subi v109 v111
  let c256_i32_58 : BitVec 32 := 256#32
  let c0_i32_61 : BitVec 32 := 0#32
  let v113 : BitVec 1 := Scalar.cmpi .sgt c256_i32_58 c0_i32_61
  let v114 : BitVec 32 := Scalar.extui v113
  let c0_i32_62 : BitVec 32 := 0#32
  let v115 : BitVec 1 := Scalar.cmpi .slt c256_i32_58 c0_i32_62
  let v116 : BitVec 32 := Scalar.extui v115
  let v117 : BitVec 32 := Scalar.subi v114 v116
  let v118 : BitVec 1 := Scalar.cmpi .ne v112 v117
  let v119 : BitVec 32 := Scalar.remsi v106 c256_i32_58
  let c0_i32_63 : BitVec 32 := 0#32
  let v120 : BitVec 1 := Scalar.cmpi .ne v119 c0_i32_63
  let v121 : BitVec 1 := Scalar.andi v118 v120
  let v107 : BitVec 32 := Scalar.divsi v106 c256_i32_58
  let c1_i32_64 : BitVec 32 := 1#32
  let v122 : BitVec 32 := Scalar.subi v107 c1_i32_64
  let v123 : BitVec 32 := Scalar.select v121 v122 v107
  let v124 : BitVec 32 := Scalar.subi v123 c0_i32_66
  let c1_i32_67 : BitVec 32 := 1#32
  let v126 : BitVec 32 := Scalar.divsi v124 c1_i32_67
  let v127 : BitVec 32 := Scalar.muli v126 c1_i32_67
  let v128 : BitVec 32 := Scalar.addi c0_i32_66 v127
  let c1_i32_69 : BitVec 32 := 1#32
  let arg22 : BitVec 32 := Scf.iv v128 c1_i32_69 k0_t4
  let c8_i32_525 : BitVec 32 := 8#32
  let v1293 : BitVec 32 := Scalar.muli arg22 c8_i32_525
  let v1294 : Index := Scalar.indexCast v1293
  let c0_526 : Index := 0#32
  ![17, v1294.toNat, 0]
def k0_off61 (i : grid0.Coords) (k0_t4 : Fin (k0_t4_loop i).trips) : Fin 3 → Nat :=
  let c18 : Index := 18#32
  let c0_i32_66 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32_56 : BitVec 32 := 256#32
  let v105 : BitVec 32 := Scalar.addi v1 c256_i32_56
  let c1_i32_57 : BitVec 32 := 1#32
  let v106 : BitVec 32 := Scalar.subi v105 c1_i32_57
  let c0_i32_59 : BitVec 32 := 0#32
  let v108 : BitVec 1 := Scalar.cmpi .sgt v106 c0_i32_59
  let v109 : BitVec 32 := Scalar.extui v108
  let c0_i32_60 : BitVec 32 := 0#32
  let v110 : BitVec 1 := Scalar.cmpi .slt v106 c0_i32_60
  let v111 : BitVec 32 := Scalar.extui v110
  let v112 : BitVec 32 := Scalar.subi v109 v111
  let c256_i32_58 : BitVec 32 := 256#32
  let c0_i32_61 : BitVec 32 := 0#32
  let v113 : BitVec 1 := Scalar.cmpi .sgt c256_i32_58 c0_i32_61
  let v114 : BitVec 32 := Scalar.extui v113
  let c0_i32_62 : BitVec 32 := 0#32
  let v115 : BitVec 1 := Scalar.cmpi .slt c256_i32_58 c0_i32_62
  let v116 : BitVec 32 := Scalar.extui v115
  let v117 : BitVec 32 := Scalar.subi v114 v116
  let v118 : BitVec 1 := Scalar.cmpi .ne v112 v117
  let v119 : BitVec 32 := Scalar.remsi v106 c256_i32_58
  let c0_i32_63 : BitVec 32 := 0#32
  let v120 : BitVec 1 := Scalar.cmpi .ne v119 c0_i32_63
  let v121 : BitVec 1 := Scalar.andi v118 v120
  let v107 : BitVec 32 := Scalar.divsi v106 c256_i32_58
  let c1_i32_64 : BitVec 32 := 1#32
  let v122 : BitVec 32 := Scalar.subi v107 c1_i32_64
  let v123 : BitVec 32 := Scalar.select v121 v122 v107
  let v124 : BitVec 32 := Scalar.subi v123 c0_i32_66
  let c1_i32_67 : BitVec 32 := 1#32
  let v126 : BitVec 32 := Scalar.divsi v124 c1_i32_67
  let v127 : BitVec 32 := Scalar.muli v126 c1_i32_67
  let v128 : BitVec 32 := Scalar.addi c0_i32_66 v127
  let c1_i32_69 : BitVec 32 := 1#32
  let arg22 : BitVec 32 := Scf.iv v128 c1_i32_69 k0_t4
  let c8_i32_527 : BitVec 32 := 8#32
  let v1298 : BitVec 32 := Scalar.muli arg22 c8_i32_527
  let v1299 : Index := Scalar.indexCast v1298
  let c0_528 : Index := 0#32
  ![18, v1299.toNat, 0]
def k0_off62 (i : grid0.Coords) (k0_t4 : Fin (k0_t4_loop i).trips) : Fin 3 → Nat :=
  let c19 : Index := 19#32
  let c0_i32_66 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32_56 : BitVec 32 := 256#32
  let v105 : BitVec 32 := Scalar.addi v1 c256_i32_56
  let c1_i32_57 : BitVec 32 := 1#32
  let v106 : BitVec 32 := Scalar.subi v105 c1_i32_57
  let c0_i32_59 : BitVec 32 := 0#32
  let v108 : BitVec 1 := Scalar.cmpi .sgt v106 c0_i32_59
  let v109 : BitVec 32 := Scalar.extui v108
  let c0_i32_60 : BitVec 32 := 0#32
  let v110 : BitVec 1 := Scalar.cmpi .slt v106 c0_i32_60
  let v111 : BitVec 32 := Scalar.extui v110
  let v112 : BitVec 32 := Scalar.subi v109 v111
  let c256_i32_58 : BitVec 32 := 256#32
  let c0_i32_61 : BitVec 32 := 0#32
  let v113 : BitVec 1 := Scalar.cmpi .sgt c256_i32_58 c0_i32_61
  let v114 : BitVec 32 := Scalar.extui v113
  let c0_i32_62 : BitVec 32 := 0#32
  let v115 : BitVec 1 := Scalar.cmpi .slt c256_i32_58 c0_i32_62
  let v116 : BitVec 32 := Scalar.extui v115
  let v117 : BitVec 32 := Scalar.subi v114 v116
  let v118 : BitVec 1 := Scalar.cmpi .ne v112 v117
  let v119 : BitVec 32 := Scalar.remsi v106 c256_i32_58
  let c0_i32_63 : BitVec 32 := 0#32
  let v120 : BitVec 1 := Scalar.cmpi .ne v119 c0_i32_63
  let v121 : BitVec 1 := Scalar.andi v118 v120
  let v107 : BitVec 32 := Scalar.divsi v106 c256_i32_58
  let c1_i32_64 : BitVec 32 := 1#32
  let v122 : BitVec 32 := Scalar.subi v107 c1_i32_64
  let v123 : BitVec 32 := Scalar.select v121 v122 v107
  let v124 : BitVec 32 := Scalar.subi v123 c0_i32_66
  let c1_i32_67 : BitVec 32 := 1#32
  let v126 : BitVec 32 := Scalar.divsi v124 c1_i32_67
  let v127 : BitVec 32 := Scalar.muli v126 c1_i32_67
  let v128 : BitVec 32 := Scalar.addi c0_i32_66 v127
  let c1_i32_69 : BitVec 32 := 1#32
  let arg22 : BitVec 32 := Scf.iv v128 c1_i32_69 k0_t4
  let c8_i32_529 : BitVec 32 := 8#32
  let v1303 : BitVec 32 := Scalar.muli arg22 c8_i32_529
  let v1304 : Index := Scalar.indexCast v1303
  let c0_530 : Index := 0#32
  ![19, v1304.toNat, 0]
def k0_off63 (i : grid0.Coords) (k0_t4 : Fin (k0_t4_loop i).trips) : Fin 3 → Nat :=
  let c20 : Index := 20#32
  let c0_i32_66 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32_56 : BitVec 32 := 256#32
  let v105 : BitVec 32 := Scalar.addi v1 c256_i32_56
  let c1_i32_57 : BitVec 32 := 1#32
  let v106 : BitVec 32 := Scalar.subi v105 c1_i32_57
  let c0_i32_59 : BitVec 32 := 0#32
  let v108 : BitVec 1 := Scalar.cmpi .sgt v106 c0_i32_59
  let v109 : BitVec 32 := Scalar.extui v108
  let c0_i32_60 : BitVec 32 := 0#32
  let v110 : BitVec 1 := Scalar.cmpi .slt v106 c0_i32_60
  let v111 : BitVec 32 := Scalar.extui v110
  let v112 : BitVec 32 := Scalar.subi v109 v111
  let c256_i32_58 : BitVec 32 := 256#32
  let c0_i32_61 : BitVec 32 := 0#32
  let v113 : BitVec 1 := Scalar.cmpi .sgt c256_i32_58 c0_i32_61
  let v114 : BitVec 32 := Scalar.extui v113
  let c0_i32_62 : BitVec 32 := 0#32
  let v115 : BitVec 1 := Scalar.cmpi .slt c256_i32_58 c0_i32_62
  let v116 : BitVec 32 := Scalar.extui v115
  let v117 : BitVec 32 := Scalar.subi v114 v116
  let v118 : BitVec 1 := Scalar.cmpi .ne v112 v117
  let v119 : BitVec 32 := Scalar.remsi v106 c256_i32_58
  let c0_i32_63 : BitVec 32 := 0#32
  let v120 : BitVec 1 := Scalar.cmpi .ne v119 c0_i32_63
  let v121 : BitVec 1 := Scalar.andi v118 v120
  let v107 : BitVec 32 := Scalar.divsi v106 c256_i32_58
  let c1_i32_64 : BitVec 32 := 1#32
  let v122 : BitVec 32 := Scalar.subi v107 c1_i32_64
  let v123 : BitVec 32 := Scalar.select v121 v122 v107
  let v124 : BitVec 32 := Scalar.subi v123 c0_i32_66
  let c1_i32_67 : BitVec 32 := 1#32
  let v126 : BitVec 32 := Scalar.divsi v124 c1_i32_67
  let v127 : BitVec 32 := Scalar.muli v126 c1_i32_67
  let v128 : BitVec 32 := Scalar.addi c0_i32_66 v127
  let c1_i32_69 : BitVec 32 := 1#32
  let arg22 : BitVec 32 := Scf.iv v128 c1_i32_69 k0_t4
  let c8_i32_531 : BitVec 32 := 8#32
  let v1308 : BitVec 32 := Scalar.muli arg22 c8_i32_531
  let v1309 : Index := Scalar.indexCast v1308
  let c0_532 : Index := 0#32
  ![20, v1309.toNat, 0]
def k0_off64 (i : grid0.Coords) (k0_t4 : Fin (k0_t4_loop i).trips) : Fin 3 → Nat :=
  let c21 : Index := 21#32
  let c0_i32_66 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32_56 : BitVec 32 := 256#32
  let v105 : BitVec 32 := Scalar.addi v1 c256_i32_56
  let c1_i32_57 : BitVec 32 := 1#32
  let v106 : BitVec 32 := Scalar.subi v105 c1_i32_57
  let c0_i32_59 : BitVec 32 := 0#32
  let v108 : BitVec 1 := Scalar.cmpi .sgt v106 c0_i32_59
  let v109 : BitVec 32 := Scalar.extui v108
  let c0_i32_60 : BitVec 32 := 0#32
  let v110 : BitVec 1 := Scalar.cmpi .slt v106 c0_i32_60
  let v111 : BitVec 32 := Scalar.extui v110
  let v112 : BitVec 32 := Scalar.subi v109 v111
  let c256_i32_58 : BitVec 32 := 256#32
  let c0_i32_61 : BitVec 32 := 0#32
  let v113 : BitVec 1 := Scalar.cmpi .sgt c256_i32_58 c0_i32_61
  let v114 : BitVec 32 := Scalar.extui v113
  let c0_i32_62 : BitVec 32 := 0#32
  let v115 : BitVec 1 := Scalar.cmpi .slt c256_i32_58 c0_i32_62
  let v116 : BitVec 32 := Scalar.extui v115
  let v117 : BitVec 32 := Scalar.subi v114 v116
  let v118 : BitVec 1 := Scalar.cmpi .ne v112 v117
  let v119 : BitVec 32 := Scalar.remsi v106 c256_i32_58
  let c0_i32_63 : BitVec 32 := 0#32
  let v120 : BitVec 1 := Scalar.cmpi .ne v119 c0_i32_63
  let v121 : BitVec 1 := Scalar.andi v118 v120
  let v107 : BitVec 32 := Scalar.divsi v106 c256_i32_58
  let c1_i32_64 : BitVec 32 := 1#32
  let v122 : BitVec 32 := Scalar.subi v107 c1_i32_64
  let v123 : BitVec 32 := Scalar.select v121 v122 v107
  let v124 : BitVec 32 := Scalar.subi v123 c0_i32_66
  let c1_i32_67 : BitVec 32 := 1#32
  let v126 : BitVec 32 := Scalar.divsi v124 c1_i32_67
  let v127 : BitVec 32 := Scalar.muli v126 c1_i32_67
  let v128 : BitVec 32 := Scalar.addi c0_i32_66 v127
  let c1_i32_69 : BitVec 32 := 1#32
  let arg22 : BitVec 32 := Scf.iv v128 c1_i32_69 k0_t4
  let c8_i32_533 : BitVec 32 := 8#32
  let v1313 : BitVec 32 := Scalar.muli arg22 c8_i32_533
  let v1314 : Index := Scalar.indexCast v1313
  let c0_534 : Index := 0#32
  ![21, v1314.toNat, 0]
def k0_off65 (i : grid0.Coords) (k0_t4 : Fin (k0_t4_loop i).trips) : Fin 3 → Nat :=
  let c22 : Index := 22#32
  let c0_i32_66 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32_56 : BitVec 32 := 256#32
  let v105 : BitVec 32 := Scalar.addi v1 c256_i32_56
  let c1_i32_57 : BitVec 32 := 1#32
  let v106 : BitVec 32 := Scalar.subi v105 c1_i32_57
  let c0_i32_59 : BitVec 32 := 0#32
  let v108 : BitVec 1 := Scalar.cmpi .sgt v106 c0_i32_59
  let v109 : BitVec 32 := Scalar.extui v108
  let c0_i32_60 : BitVec 32 := 0#32
  let v110 : BitVec 1 := Scalar.cmpi .slt v106 c0_i32_60
  let v111 : BitVec 32 := Scalar.extui v110
  let v112 : BitVec 32 := Scalar.subi v109 v111
  let c256_i32_58 : BitVec 32 := 256#32
  let c0_i32_61 : BitVec 32 := 0#32
  let v113 : BitVec 1 := Scalar.cmpi .sgt c256_i32_58 c0_i32_61
  let v114 : BitVec 32 := Scalar.extui v113
  let c0_i32_62 : BitVec 32 := 0#32
  let v115 : BitVec 1 := Scalar.cmpi .slt c256_i32_58 c0_i32_62
  let v116 : BitVec 32 := Scalar.extui v115
  let v117 : BitVec 32 := Scalar.subi v114 v116
  let v118 : BitVec 1 := Scalar.cmpi .ne v112 v117
  let v119 : BitVec 32 := Scalar.remsi v106 c256_i32_58
  let c0_i32_63 : BitVec 32 := 0#32
  let v120 : BitVec 1 := Scalar.cmpi .ne v119 c0_i32_63
  let v121 : BitVec 1 := Scalar.andi v118 v120
  let v107 : BitVec 32 := Scalar.divsi v106 c256_i32_58
  let c1_i32_64 : BitVec 32 := 1#32
  let v122 : BitVec 32 := Scalar.subi v107 c1_i32_64
  let v123 : BitVec 32 := Scalar.select v121 v122 v107
  let v124 : BitVec 32 := Scalar.subi v123 c0_i32_66
  let c1_i32_67 : BitVec 32 := 1#32
  let v126 : BitVec 32 := Scalar.divsi v124 c1_i32_67
  let v127 : BitVec 32 := Scalar.muli v126 c1_i32_67
  let v128 : BitVec 32 := Scalar.addi c0_i32_66 v127
  let c1_i32_69 : BitVec 32 := 1#32
  let arg22 : BitVec 32 := Scf.iv v128 c1_i32_69 k0_t4
  let c8_i32_535 : BitVec 32 := 8#32
  let v1318 : BitVec 32 := Scalar.muli arg22 c8_i32_535
  let v1319 : Index := Scalar.indexCast v1318
  let c0_536 : Index := 0#32
  ![22, v1319.toNat, 0]
def k0_off66 (i : grid0.Coords) (k0_t4 : Fin (k0_t4_loop i).trips) : Fin 3 → Nat :=
  let c23 : Index := 23#32
  let c0_i32_66 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32_56 : BitVec 32 := 256#32
  let v105 : BitVec 32 := Scalar.addi v1 c256_i32_56
  let c1_i32_57 : BitVec 32 := 1#32
  let v106 : BitVec 32 := Scalar.subi v105 c1_i32_57
  let c0_i32_59 : BitVec 32 := 0#32
  let v108 : BitVec 1 := Scalar.cmpi .sgt v106 c0_i32_59
  let v109 : BitVec 32 := Scalar.extui v108
  let c0_i32_60 : BitVec 32 := 0#32
  let v110 : BitVec 1 := Scalar.cmpi .slt v106 c0_i32_60
  let v111 : BitVec 32 := Scalar.extui v110
  let v112 : BitVec 32 := Scalar.subi v109 v111
  let c256_i32_58 : BitVec 32 := 256#32
  let c0_i32_61 : BitVec 32 := 0#32
  let v113 : BitVec 1 := Scalar.cmpi .sgt c256_i32_58 c0_i32_61
  let v114 : BitVec 32 := Scalar.extui v113
  let c0_i32_62 : BitVec 32 := 0#32
  let v115 : BitVec 1 := Scalar.cmpi .slt c256_i32_58 c0_i32_62
  let v116 : BitVec 32 := Scalar.extui v115
  let v117 : BitVec 32 := Scalar.subi v114 v116
  let v118 : BitVec 1 := Scalar.cmpi .ne v112 v117
  let v119 : BitVec 32 := Scalar.remsi v106 c256_i32_58
  let c0_i32_63 : BitVec 32 := 0#32
  let v120 : BitVec 1 := Scalar.cmpi .ne v119 c0_i32_63
  let v121 : BitVec 1 := Scalar.andi v118 v120
  let v107 : BitVec 32 := Scalar.divsi v106 c256_i32_58
  let c1_i32_64 : BitVec 32 := 1#32
  let v122 : BitVec 32 := Scalar.subi v107 c1_i32_64
  let v123 : BitVec 32 := Scalar.select v121 v122 v107
  let v124 : BitVec 32 := Scalar.subi v123 c0_i32_66
  let c1_i32_67 : BitVec 32 := 1#32
  let v126 : BitVec 32 := Scalar.divsi v124 c1_i32_67
  let v127 : BitVec 32 := Scalar.muli v126 c1_i32_67
  let v128 : BitVec 32 := Scalar.addi c0_i32_66 v127
  let c1_i32_69 : BitVec 32 := 1#32
  let arg22 : BitVec 32 := Scf.iv v128 c1_i32_69 k0_t4
  let c8_i32_537 : BitVec 32 := 8#32
  let v1323 : BitVec 32 := Scalar.muli arg22 c8_i32_537
  let v1324 : Index := Scalar.indexCast v1323
  let c0_538 : Index := 0#32
  ![23, v1324.toNat, 0]
def k0_off67 (i : grid0.Coords) (k0_t4 : Fin (k0_t4_loop i).trips) : Fin 3 → Nat :=
  let c24 : Index := 24#32
  let c0_i32_66 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32_56 : BitVec 32 := 256#32
  let v105 : BitVec 32 := Scalar.addi v1 c256_i32_56
  let c1_i32_57 : BitVec 32 := 1#32
  let v106 : BitVec 32 := Scalar.subi v105 c1_i32_57
  let c0_i32_59 : BitVec 32 := 0#32
  let v108 : BitVec 1 := Scalar.cmpi .sgt v106 c0_i32_59
  let v109 : BitVec 32 := Scalar.extui v108
  let c0_i32_60 : BitVec 32 := 0#32
  let v110 : BitVec 1 := Scalar.cmpi .slt v106 c0_i32_60
  let v111 : BitVec 32 := Scalar.extui v110
  let v112 : BitVec 32 := Scalar.subi v109 v111
  let c256_i32_58 : BitVec 32 := 256#32
  let c0_i32_61 : BitVec 32 := 0#32
  let v113 : BitVec 1 := Scalar.cmpi .sgt c256_i32_58 c0_i32_61
  let v114 : BitVec 32 := Scalar.extui v113
  let c0_i32_62 : BitVec 32 := 0#32
  let v115 : BitVec 1 := Scalar.cmpi .slt c256_i32_58 c0_i32_62
  let v116 : BitVec 32 := Scalar.extui v115
  let v117 : BitVec 32 := Scalar.subi v114 v116
  let v118 : BitVec 1 := Scalar.cmpi .ne v112 v117
  let v119 : BitVec 32 := Scalar.remsi v106 c256_i32_58
  let c0_i32_63 : BitVec 32 := 0#32
  let v120 : BitVec 1 := Scalar.cmpi .ne v119 c0_i32_63
  let v121 : BitVec 1 := Scalar.andi v118 v120
  let v107 : BitVec 32 := Scalar.divsi v106 c256_i32_58
  let c1_i32_64 : BitVec 32 := 1#32
  let v122 : BitVec 32 := Scalar.subi v107 c1_i32_64
  let v123 : BitVec 32 := Scalar.select v121 v122 v107
  let v124 : BitVec 32 := Scalar.subi v123 c0_i32_66
  let c1_i32_67 : BitVec 32 := 1#32
  let v126 : BitVec 32 := Scalar.divsi v124 c1_i32_67
  let v127 : BitVec 32 := Scalar.muli v126 c1_i32_67
  let v128 : BitVec 32 := Scalar.addi c0_i32_66 v127
  let c1_i32_69 : BitVec 32 := 1#32
  let arg22 : BitVec 32 := Scf.iv v128 c1_i32_69 k0_t4
  let c8_i32_539 : BitVec 32 := 8#32
  let v1328 : BitVec 32 := Scalar.muli arg22 c8_i32_539
  let v1329 : Index := Scalar.indexCast v1328
  let c0_540 : Index := 0#32
  ![24, v1329.toNat, 0]
def k0_off68 (i : grid0.Coords) (k0_t4 : Fin (k0_t4_loop i).trips) : Fin 3 → Nat :=
  let c25 : Index := 25#32
  let c0_i32_66 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32_56 : BitVec 32 := 256#32
  let v105 : BitVec 32 := Scalar.addi v1 c256_i32_56
  let c1_i32_57 : BitVec 32 := 1#32
  let v106 : BitVec 32 := Scalar.subi v105 c1_i32_57
  let c0_i32_59 : BitVec 32 := 0#32
  let v108 : BitVec 1 := Scalar.cmpi .sgt v106 c0_i32_59
  let v109 : BitVec 32 := Scalar.extui v108
  let c0_i32_60 : BitVec 32 := 0#32
  let v110 : BitVec 1 := Scalar.cmpi .slt v106 c0_i32_60
  let v111 : BitVec 32 := Scalar.extui v110
  let v112 : BitVec 32 := Scalar.subi v109 v111
  let c256_i32_58 : BitVec 32 := 256#32
  let c0_i32_61 : BitVec 32 := 0#32
  let v113 : BitVec 1 := Scalar.cmpi .sgt c256_i32_58 c0_i32_61
  let v114 : BitVec 32 := Scalar.extui v113
  let c0_i32_62 : BitVec 32 := 0#32
  let v115 : BitVec 1 := Scalar.cmpi .slt c256_i32_58 c0_i32_62
  let v116 : BitVec 32 := Scalar.extui v115
  let v117 : BitVec 32 := Scalar.subi v114 v116
  let v118 : BitVec 1 := Scalar.cmpi .ne v112 v117
  let v119 : BitVec 32 := Scalar.remsi v106 c256_i32_58
  let c0_i32_63 : BitVec 32 := 0#32
  let v120 : BitVec 1 := Scalar.cmpi .ne v119 c0_i32_63
  let v121 : BitVec 1 := Scalar.andi v118 v120
  let v107 : BitVec 32 := Scalar.divsi v106 c256_i32_58
  let c1_i32_64 : BitVec 32 := 1#32
  let v122 : BitVec 32 := Scalar.subi v107 c1_i32_64
  let v123 : BitVec 32 := Scalar.select v121 v122 v107
  let v124 : BitVec 32 := Scalar.subi v123 c0_i32_66
  let c1_i32_67 : BitVec 32 := 1#32
  let v126 : BitVec 32 := Scalar.divsi v124 c1_i32_67
  let v127 : BitVec 32 := Scalar.muli v126 c1_i32_67
  let v128 : BitVec 32 := Scalar.addi c0_i32_66 v127
  let c1_i32_69 : BitVec 32 := 1#32
  let arg22 : BitVec 32 := Scf.iv v128 c1_i32_69 k0_t4
  let c8_i32_541 : BitVec 32 := 8#32
  let v1333 : BitVec 32 := Scalar.muli arg22 c8_i32_541
  let v1334 : Index := Scalar.indexCast v1333
  let c0_542 : Index := 0#32
  ![25, v1334.toNat, 0]
def k0_off69 (i : grid0.Coords) (k0_t4 : Fin (k0_t4_loop i).trips) : Fin 3 → Nat :=
  let c26 : Index := 26#32
  let c0_i32_66 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32_56 : BitVec 32 := 256#32
  let v105 : BitVec 32 := Scalar.addi v1 c256_i32_56
  let c1_i32_57 : BitVec 32 := 1#32
  let v106 : BitVec 32 := Scalar.subi v105 c1_i32_57
  let c0_i32_59 : BitVec 32 := 0#32
  let v108 : BitVec 1 := Scalar.cmpi .sgt v106 c0_i32_59
  let v109 : BitVec 32 := Scalar.extui v108
  let c0_i32_60 : BitVec 32 := 0#32
  let v110 : BitVec 1 := Scalar.cmpi .slt v106 c0_i32_60
  let v111 : BitVec 32 := Scalar.extui v110
  let v112 : BitVec 32 := Scalar.subi v109 v111
  let c256_i32_58 : BitVec 32 := 256#32
  let c0_i32_61 : BitVec 32 := 0#32
  let v113 : BitVec 1 := Scalar.cmpi .sgt c256_i32_58 c0_i32_61
  let v114 : BitVec 32 := Scalar.extui v113
  let c0_i32_62 : BitVec 32 := 0#32
  let v115 : BitVec 1 := Scalar.cmpi .slt c256_i32_58 c0_i32_62
  let v116 : BitVec 32 := Scalar.extui v115
  let v117 : BitVec 32 := Scalar.subi v114 v116
  let v118 : BitVec 1 := Scalar.cmpi .ne v112 v117
  let v119 : BitVec 32 := Scalar.remsi v106 c256_i32_58
  let c0_i32_63 : BitVec 32 := 0#32
  let v120 : BitVec 1 := Scalar.cmpi .ne v119 c0_i32_63
  let v121 : BitVec 1 := Scalar.andi v118 v120
  let v107 : BitVec 32 := Scalar.divsi v106 c256_i32_58
  let c1_i32_64 : BitVec 32 := 1#32
  let v122 : BitVec 32 := Scalar.subi v107 c1_i32_64
  let v123 : BitVec 32 := Scalar.select v121 v122 v107
  let v124 : BitVec 32 := Scalar.subi v123 c0_i32_66
  let c1_i32_67 : BitVec 32 := 1#32
  let v126 : BitVec 32 := Scalar.divsi v124 c1_i32_67
  let v127 : BitVec 32 := Scalar.muli v126 c1_i32_67
  let v128 : BitVec 32 := Scalar.addi c0_i32_66 v127
  let c1_i32_69 : BitVec 32 := 1#32
  let arg22 : BitVec 32 := Scf.iv v128 c1_i32_69 k0_t4
  let c8_i32_543 : BitVec 32 := 8#32
  let v1338 : BitVec 32 := Scalar.muli arg22 c8_i32_543
  let v1339 : Index := Scalar.indexCast v1338
  let c0_544 : Index := 0#32
  ![26, v1339.toNat, 0]
def k0_off70 (i : grid0.Coords) (k0_t4 : Fin (k0_t4_loop i).trips) : Fin 3 → Nat :=
  let c27 : Index := 27#32
  let c0_i32_66 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32_56 : BitVec 32 := 256#32
  let v105 : BitVec 32 := Scalar.addi v1 c256_i32_56
  let c1_i32_57 : BitVec 32 := 1#32
  let v106 : BitVec 32 := Scalar.subi v105 c1_i32_57
  let c0_i32_59 : BitVec 32 := 0#32
  let v108 : BitVec 1 := Scalar.cmpi .sgt v106 c0_i32_59
  let v109 : BitVec 32 := Scalar.extui v108
  let c0_i32_60 : BitVec 32 := 0#32
  let v110 : BitVec 1 := Scalar.cmpi .slt v106 c0_i32_60
  let v111 : BitVec 32 := Scalar.extui v110
  let v112 : BitVec 32 := Scalar.subi v109 v111
  let c256_i32_58 : BitVec 32 := 256#32
  let c0_i32_61 : BitVec 32 := 0#32
  let v113 : BitVec 1 := Scalar.cmpi .sgt c256_i32_58 c0_i32_61
  let v114 : BitVec 32 := Scalar.extui v113
  let c0_i32_62 : BitVec 32 := 0#32
  let v115 : BitVec 1 := Scalar.cmpi .slt c256_i32_58 c0_i32_62
  let v116 : BitVec 32 := Scalar.extui v115
  let v117 : BitVec 32 := Scalar.subi v114 v116
  let v118 : BitVec 1 := Scalar.cmpi .ne v112 v117
  let v119 : BitVec 32 := Scalar.remsi v106 c256_i32_58
  let c0_i32_63 : BitVec 32 := 0#32
  let v120 : BitVec 1 := Scalar.cmpi .ne v119 c0_i32_63
  let v121 : BitVec 1 := Scalar.andi v118 v120
  let v107 : BitVec 32 := Scalar.divsi v106 c256_i32_58
  let c1_i32_64 : BitVec 32 := 1#32
  let v122 : BitVec 32 := Scalar.subi v107 c1_i32_64
  let v123 : BitVec 32 := Scalar.select v121 v122 v107
  let v124 : BitVec 32 := Scalar.subi v123 c0_i32_66
  let c1_i32_67 : BitVec 32 := 1#32
  let v126 : BitVec 32 := Scalar.divsi v124 c1_i32_67
  let v127 : BitVec 32 := Scalar.muli v126 c1_i32_67
  let v128 : BitVec 32 := Scalar.addi c0_i32_66 v127
  let c1_i32_69 : BitVec 32 := 1#32
  let arg22 : BitVec 32 := Scf.iv v128 c1_i32_69 k0_t4
  let c8_i32_545 : BitVec 32 := 8#32
  let v1343 : BitVec 32 := Scalar.muli arg22 c8_i32_545
  let v1344 : Index := Scalar.indexCast v1343
  let c0_546 : Index := 0#32
  ![27, v1344.toNat, 0]
def k0_off71 (i : grid0.Coords) (k0_t4 : Fin (k0_t4_loop i).trips) : Fin 3 → Nat :=
  let c28 : Index := 28#32
  let c0_i32_66 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32_56 : BitVec 32 := 256#32
  let v105 : BitVec 32 := Scalar.addi v1 c256_i32_56
  let c1_i32_57 : BitVec 32 := 1#32
  let v106 : BitVec 32 := Scalar.subi v105 c1_i32_57
  let c0_i32_59 : BitVec 32 := 0#32
  let v108 : BitVec 1 := Scalar.cmpi .sgt v106 c0_i32_59
  let v109 : BitVec 32 := Scalar.extui v108
  let c0_i32_60 : BitVec 32 := 0#32
  let v110 : BitVec 1 := Scalar.cmpi .slt v106 c0_i32_60
  let v111 : BitVec 32 := Scalar.extui v110
  let v112 : BitVec 32 := Scalar.subi v109 v111
  let c256_i32_58 : BitVec 32 := 256#32
  let c0_i32_61 : BitVec 32 := 0#32
  let v113 : BitVec 1 := Scalar.cmpi .sgt c256_i32_58 c0_i32_61
  let v114 : BitVec 32 := Scalar.extui v113
  let c0_i32_62 : BitVec 32 := 0#32
  let v115 : BitVec 1 := Scalar.cmpi .slt c256_i32_58 c0_i32_62
  let v116 : BitVec 32 := Scalar.extui v115
  let v117 : BitVec 32 := Scalar.subi v114 v116
  let v118 : BitVec 1 := Scalar.cmpi .ne v112 v117
  let v119 : BitVec 32 := Scalar.remsi v106 c256_i32_58
  let c0_i32_63 : BitVec 32 := 0#32
  let v120 : BitVec 1 := Scalar.cmpi .ne v119 c0_i32_63
  let v121 : BitVec 1 := Scalar.andi v118 v120
  let v107 : BitVec 32 := Scalar.divsi v106 c256_i32_58
  let c1_i32_64 : BitVec 32 := 1#32
  let v122 : BitVec 32 := Scalar.subi v107 c1_i32_64
  let v123 : BitVec 32 := Scalar.select v121 v122 v107
  let v124 : BitVec 32 := Scalar.subi v123 c0_i32_66
  let c1_i32_67 : BitVec 32 := 1#32
  let v126 : BitVec 32 := Scalar.divsi v124 c1_i32_67
  let v127 : BitVec 32 := Scalar.muli v126 c1_i32_67
  let v128 : BitVec 32 := Scalar.addi c0_i32_66 v127
  let c1_i32_69 : BitVec 32 := 1#32
  let arg22 : BitVec 32 := Scf.iv v128 c1_i32_69 k0_t4
  let c8_i32_547 : BitVec 32 := 8#32
  let v1348 : BitVec 32 := Scalar.muli arg22 c8_i32_547
  let v1349 : Index := Scalar.indexCast v1348
  let c0_548 : Index := 0#32
  ![28, v1349.toNat, 0]
def k0_off72 (i : grid0.Coords) (k0_t4 : Fin (k0_t4_loop i).trips) : Fin 3 → Nat :=
  let c29 : Index := 29#32
  let c0_i32_66 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32_56 : BitVec 32 := 256#32
  let v105 : BitVec 32 := Scalar.addi v1 c256_i32_56
  let c1_i32_57 : BitVec 32 := 1#32
  let v106 : BitVec 32 := Scalar.subi v105 c1_i32_57
  let c0_i32_59 : BitVec 32 := 0#32
  let v108 : BitVec 1 := Scalar.cmpi .sgt v106 c0_i32_59
  let v109 : BitVec 32 := Scalar.extui v108
  let c0_i32_60 : BitVec 32 := 0#32
  let v110 : BitVec 1 := Scalar.cmpi .slt v106 c0_i32_60
  let v111 : BitVec 32 := Scalar.extui v110
  let v112 : BitVec 32 := Scalar.subi v109 v111
  let c256_i32_58 : BitVec 32 := 256#32
  let c0_i32_61 : BitVec 32 := 0#32
  let v113 : BitVec 1 := Scalar.cmpi .sgt c256_i32_58 c0_i32_61
  let v114 : BitVec 32 := Scalar.extui v113
  let c0_i32_62 : BitVec 32 := 0#32
  let v115 : BitVec 1 := Scalar.cmpi .slt c256_i32_58 c0_i32_62
  let v116 : BitVec 32 := Scalar.extui v115
  let v117 : BitVec 32 := Scalar.subi v114 v116
  let v118 : BitVec 1 := Scalar.cmpi .ne v112 v117
  let v119 : BitVec 32 := Scalar.remsi v106 c256_i32_58
  let c0_i32_63 : BitVec 32 := 0#32
  let v120 : BitVec 1 := Scalar.cmpi .ne v119 c0_i32_63
  let v121 : BitVec 1 := Scalar.andi v118 v120
  let v107 : BitVec 32 := Scalar.divsi v106 c256_i32_58
  let c1_i32_64 : BitVec 32 := 1#32
  let v122 : BitVec 32 := Scalar.subi v107 c1_i32_64
  let v123 : BitVec 32 := Scalar.select v121 v122 v107
  let v124 : BitVec 32 := Scalar.subi v123 c0_i32_66
  let c1_i32_67 : BitVec 32 := 1#32
  let v126 : BitVec 32 := Scalar.divsi v124 c1_i32_67
  let v127 : BitVec 32 := Scalar.muli v126 c1_i32_67
  let v128 : BitVec 32 := Scalar.addi c0_i32_66 v127
  let c1_i32_69 : BitVec 32 := 1#32
  let arg22 : BitVec 32 := Scf.iv v128 c1_i32_69 k0_t4
  let c8_i32_549 : BitVec 32 := 8#32
  let v1353 : BitVec 32 := Scalar.muli arg22 c8_i32_549
  let v1354 : Index := Scalar.indexCast v1353
  let c0_550 : Index := 0#32
  ![29, v1354.toNat, 0]
def k0_off73 (i : grid0.Coords) (k0_t4 : Fin (k0_t4_loop i).trips) : Fin 3 → Nat :=
  let c30 : Index := 30#32
  let c0_i32_66 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32_56 : BitVec 32 := 256#32
  let v105 : BitVec 32 := Scalar.addi v1 c256_i32_56
  let c1_i32_57 : BitVec 32 := 1#32
  let v106 : BitVec 32 := Scalar.subi v105 c1_i32_57
  let c0_i32_59 : BitVec 32 := 0#32
  let v108 : BitVec 1 := Scalar.cmpi .sgt v106 c0_i32_59
  let v109 : BitVec 32 := Scalar.extui v108
  let c0_i32_60 : BitVec 32 := 0#32
  let v110 : BitVec 1 := Scalar.cmpi .slt v106 c0_i32_60
  let v111 : BitVec 32 := Scalar.extui v110
  let v112 : BitVec 32 := Scalar.subi v109 v111
  let c256_i32_58 : BitVec 32 := 256#32
  let c0_i32_61 : BitVec 32 := 0#32
  let v113 : BitVec 1 := Scalar.cmpi .sgt c256_i32_58 c0_i32_61
  let v114 : BitVec 32 := Scalar.extui v113
  let c0_i32_62 : BitVec 32 := 0#32
  let v115 : BitVec 1 := Scalar.cmpi .slt c256_i32_58 c0_i32_62
  let v116 : BitVec 32 := Scalar.extui v115
  let v117 : BitVec 32 := Scalar.subi v114 v116
  let v118 : BitVec 1 := Scalar.cmpi .ne v112 v117
  let v119 : BitVec 32 := Scalar.remsi v106 c256_i32_58
  let c0_i32_63 : BitVec 32 := 0#32
  let v120 : BitVec 1 := Scalar.cmpi .ne v119 c0_i32_63
  let v121 : BitVec 1 := Scalar.andi v118 v120
  let v107 : BitVec 32 := Scalar.divsi v106 c256_i32_58
  let c1_i32_64 : BitVec 32 := 1#32
  let v122 : BitVec 32 := Scalar.subi v107 c1_i32_64
  let v123 : BitVec 32 := Scalar.select v121 v122 v107
  let v124 : BitVec 32 := Scalar.subi v123 c0_i32_66
  let c1_i32_67 : BitVec 32 := 1#32
  let v126 : BitVec 32 := Scalar.divsi v124 c1_i32_67
  let v127 : BitVec 32 := Scalar.muli v126 c1_i32_67
  let v128 : BitVec 32 := Scalar.addi c0_i32_66 v127
  let c1_i32_69 : BitVec 32 := 1#32
  let arg22 : BitVec 32 := Scf.iv v128 c1_i32_69 k0_t4
  let c8_i32_551 : BitVec 32 := 8#32
  let v1358 : BitVec 32 := Scalar.muli arg22 c8_i32_551
  let v1359 : Index := Scalar.indexCast v1358
  let c0_552 : Index := 0#32
  ![30, v1359.toNat, 0]
def k0_off74 (i : grid0.Coords) (k0_t4 : Fin (k0_t4_loop i).trips) : Fin 3 → Nat :=
  let c31 : Index := 31#32
  let c0_i32_66 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32_56 : BitVec 32 := 256#32
  let v105 : BitVec 32 := Scalar.addi v1 c256_i32_56
  let c1_i32_57 : BitVec 32 := 1#32
  let v106 : BitVec 32 := Scalar.subi v105 c1_i32_57
  let c0_i32_59 : BitVec 32 := 0#32
  let v108 : BitVec 1 := Scalar.cmpi .sgt v106 c0_i32_59
  let v109 : BitVec 32 := Scalar.extui v108
  let c0_i32_60 : BitVec 32 := 0#32
  let v110 : BitVec 1 := Scalar.cmpi .slt v106 c0_i32_60
  let v111 : BitVec 32 := Scalar.extui v110
  let v112 : BitVec 32 := Scalar.subi v109 v111
  let c256_i32_58 : BitVec 32 := 256#32
  let c0_i32_61 : BitVec 32 := 0#32
  let v113 : BitVec 1 := Scalar.cmpi .sgt c256_i32_58 c0_i32_61
  let v114 : BitVec 32 := Scalar.extui v113
  let c0_i32_62 : BitVec 32 := 0#32
  let v115 : BitVec 1 := Scalar.cmpi .slt c256_i32_58 c0_i32_62
  let v116 : BitVec 32 := Scalar.extui v115
  let v117 : BitVec 32 := Scalar.subi v114 v116
  let v118 : BitVec 1 := Scalar.cmpi .ne v112 v117
  let v119 : BitVec 32 := Scalar.remsi v106 c256_i32_58
  let c0_i32_63 : BitVec 32 := 0#32
  let v120 : BitVec 1 := Scalar.cmpi .ne v119 c0_i32_63
  let v121 : BitVec 1 := Scalar.andi v118 v120
  let v107 : BitVec 32 := Scalar.divsi v106 c256_i32_58
  let c1_i32_64 : BitVec 32 := 1#32
  let v122 : BitVec 32 := Scalar.subi v107 c1_i32_64
  let v123 : BitVec 32 := Scalar.select v121 v122 v107
  let v124 : BitVec 32 := Scalar.subi v123 c0_i32_66
  let c1_i32_67 : BitVec 32 := 1#32
  let v126 : BitVec 32 := Scalar.divsi v124 c1_i32_67
  let v127 : BitVec 32 := Scalar.muli v126 c1_i32_67
  let v128 : BitVec 32 := Scalar.addi c0_i32_66 v127
  let c1_i32_69 : BitVec 32 := 1#32
  let arg22 : BitVec 32 := Scf.iv v128 c1_i32_69 k0_t4
  let c8_i32_553 : BitVec 32 := 8#32
  let v1363 : BitVec 32 := Scalar.muli arg22 c8_i32_553
  let v1364 : Index := Scalar.indexCast v1363
  let c0_554 : Index := 0#32
  ![31, v1364.toNat, 0]
@[reducible] def k0_t5_loop : Scf.Loop 32 :=
  let c0_i32_78 : BitVec 32 := 0#32
  let c32_i32 : BitVec 32 := 32#32
  let v160 : BitVec 32 := Scalar.addi c0_i32_78 c32_i32
  let c1_i32_79 : BitVec 32 := 1#32
  ⟨c0_i32_78, v160, c1_i32_79⟩
def k0_off75 (k0_t5 : Fin k0_t5_loop.trips) : Fin 3 → Nat :=
  let c0_i32_78 : BitVec 32 := 0#32
  let c1_i32_79 : BitVec 32 := 1#32
  let arg22 : BitVec 32 := Scf.iv c0_i32_78 c1_i32_79 k0_t5
  let v417 : Index := Scalar.indexCast arg22
  let c0_247 : Index := 0#32
  let c0_248 : Index := 0#32
  ![v417.toNat, 0, 0]
@[reducible] def k0_t6_loop (i : grid0.Coords) : Scf.Loop 32 :=
  let c0_i32_248 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v418 : BitVec 32 := Scalar.subi v20 c0_i32_248
  let c1_i32_249 : BitVec 32 := 1#32
  let v420 : BitVec 32 := Scalar.divsi v418 c1_i32_249
  let v421 : BitVec 32 := Scalar.muli v420 c1_i32_249
  let v422 : BitVec 32 := Scalar.addi c0_i32_248 v421
  let c1_i32_250 : BitVec 32 := 1#32
  ⟨c0_i32_248, v422, c1_i32_250⟩
def k0_mult15 (i : grid0.Coords) (k0_t6 : Fin (k0_t6_loop i).trips) : BitVec 32 :=
  let c0_i32_248 : BitVec 32 := 0#32
  let c1_i32_250 : BitVec 32 := 1#32
  let arg22 : BitVec 32 := Scf.iv c0_i32_248 c1_i32_250 k0_t6
  let c512_i32_260 : BitVec 32 := 512#32
  let v438 : BitVec 32 := Scalar.muli arg22 c512_i32_260
  v438
def k0_off76 (i : grid0.Coords) (k0_t6 : Fin (k0_t6_loop i).trips) : Fin 2 → Nat :=
  let c0_i32_248 : BitVec 32 := 0#32
  let c1_i32_250 : BitVec 32 := 1#32
  let arg22 : BitVec 32 := Scf.iv c0_i32_248 c1_i32_250 k0_t6
  let c512_i32_260 : BitVec 32 := 512#32
  let v438 : BitVec 32 := Scalar.muli arg22 c512_i32_260
  let v439 : BitVec 32 := v438
  let v440 : Index := Scalar.indexCast v439
  let c0_261 : Index := 0#32
  ![v440.toNat, 0]
@[reducible] def k0_t7_loop (i : grid0.Coords) : Scf.Loop 32 :=
  let c0_i32_248 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v418 : BitVec 32 := Scalar.subi v20 c0_i32_248
  let c1_i32_249 : BitVec 32 := 1#32
  let v420 : BitVec 32 := Scalar.divsi v418 c1_i32_249
  let v421 : BitVec 32 := Scalar.muli v420 c1_i32_249
  let v422 : BitVec 32 := Scalar.addi c0_i32_248 v421
  let v419 : BitVec 32 := Scalar.addi c0_i32_248 v418
  let c1_i32_251 : BitVec 32 := 1#32
  ⟨v422, v419, c1_i32_251⟩
def k0_mult16 (i : grid0.Coords) (k0_t7 : Fin (k0_t7_loop i).trips) : BitVec 32 :=
  let c0_i32_248 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v418 : BitVec 32 := Scalar.subi v20 c0_i32_248
  let c1_i32_249 : BitVec 32 := 1#32
  let v420 : BitVec 32 := Scalar.divsi v418 c1_i32_249
  let v421 : BitVec 32 := Scalar.muli v420 c1_i32_249
  let v422 : BitVec 32 := Scalar.addi c0_i32_248 v421
  let c1_i32_251 : BitVec 32 := 1#32
  let arg22 : BitVec 32 := Scf.iv v422 c1_i32_251 k0_t7
  let c512_i32_260 : BitVec 32 := 512#32
  let v438 : BitVec 32 := Scalar.muli arg22 c512_i32_260
  v438
def k0_off77 (i : grid0.Coords) (k0_t7 : Fin (k0_t7_loop i).trips) : Fin 2 → Nat :=
  let c0_i32_248 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v418 : BitVec 32 := Scalar.subi v20 c0_i32_248
  let c1_i32_249 : BitVec 32 := 1#32
  let v420 : BitVec 32 := Scalar.divsi v418 c1_i32_249
  let v421 : BitVec 32 := Scalar.muli v420 c1_i32_249
  let v422 : BitVec 32 := Scalar.addi c0_i32_248 v421
  let c1_i32_251 : BitVec 32 := 1#32
  let arg22 : BitVec 32 := Scf.iv v422 c1_i32_251 k0_t7
  let c512_i32_260 : BitVec 32 := 512#32
  let v438 : BitVec 32 := Scalar.muli arg22 c512_i32_260
  let v439 : BitVec 32 := v438
  let v440 : Index := Scalar.indexCast v439
  let c0_261 : Index := 0#32
  ![v440.toNat, 0]
@[reducible] def k0_t8_loop : Scf.Loop 32 :=
  let c0_i32_255 : BitVec 32 := 0#32
  let c12_i32 : BitVec 32 := 12#32
  let v430 : BitVec 32 := Scalar.addi c0_i32_255 c12_i32
  let c1_i32_256 : BitVec 32 := 1#32
  ⟨c0_i32_255, v430, c1_i32_256⟩
@[reducible] def k0_t9_loop (i : grid0.Coords) : Scf.Loop 32 :=
  let c0_i32_262 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v443 : BitVec 32 := Scalar.subi v20 c0_i32_262
  let c1_i32_263 : BitVec 32 := 1#32
  let v445 : BitVec 32 := Scalar.divsi v443 c1_i32_263
  let v446 : BitVec 32 := Scalar.muli v445 c1_i32_263
  let v447 : BitVec 32 := Scalar.addi c0_i32_262 v446
  let c1_i32_264 : BitVec 32 := 1#32
  ⟨c0_i32_262, v447, c1_i32_264⟩
def k0_mult17 (i : grid0.Coords) (k0_t9 : Fin (k0_t9_loop i).trips) : BitVec 32 :=
  let c0_i32_262 : BitVec 32 := 0#32
  let c1_i32_264 : BitVec 32 := 1#32
  let arg24 : BitVec 32 := Scf.iv c0_i32_262 c1_i32_264 k0_t9
  let c512_i32_267 : BitVec 32 := 512#32
  let v454 : BitVec 32 := Scalar.muli arg24 c512_i32_267
  v454
def k0_off78 (i : grid0.Coords) (k0_t9 : Fin (k0_t9_loop i).trips) : Fin 2 → Nat :=
  let c0_i32_262 : BitVec 32 := 0#32
  let c1_i32_264 : BitVec 32 := 1#32
  let arg24 : BitVec 32 := Scf.iv c0_i32_262 c1_i32_264 k0_t9
  let c512_i32_267 : BitVec 32 := 512#32
  let v454 : BitVec 32 := Scalar.muli arg24 c512_i32_267
  let v455 : BitVec 32 := v454
  let v456 : Index := Scalar.indexCast v455
  let c0_268 : Index := 0#32
  ![v456.toNat, 0]
@[reducible] def k0_t10_loop (i : grid0.Coords) : Scf.Loop 32 :=
  let c0_i32_262 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v443 : BitVec 32 := Scalar.subi v20 c0_i32_262
  let c1_i32_263 : BitVec 32 := 1#32
  let v445 : BitVec 32 := Scalar.divsi v443 c1_i32_263
  let v446 : BitVec 32 := Scalar.muli v445 c1_i32_263
  let v447 : BitVec 32 := Scalar.addi c0_i32_262 v446
  let v444 : BitVec 32 := Scalar.addi c0_i32_262 v443
  let c1_i32_265 : BitVec 32 := 1#32
  ⟨v447, v444, c1_i32_265⟩
def k0_mult18 (i : grid0.Coords) (k0_t10 : Fin (k0_t10_loop i).trips) : BitVec 32 :=
  let c0_i32_262 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v443 : BitVec 32 := Scalar.subi v20 c0_i32_262
  let c1_i32_263 : BitVec 32 := 1#32
  let v445 : BitVec 32 := Scalar.divsi v443 c1_i32_263
  let v446 : BitVec 32 := Scalar.muli v445 c1_i32_263
  let v447 : BitVec 32 := Scalar.addi c0_i32_262 v446
  let c1_i32_265 : BitVec 32 := 1#32
  let arg24 : BitVec 32 := Scf.iv v447 c1_i32_265 k0_t10
  let c512_i32_267 : BitVec 32 := 512#32
  let v454 : BitVec 32 := Scalar.muli arg24 c512_i32_267
  v454
def k0_off79 (i : grid0.Coords) (k0_t10 : Fin (k0_t10_loop i).trips) : Fin 2 → Nat :=
  let c0_i32_262 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v443 : BitVec 32 := Scalar.subi v20 c0_i32_262
  let c1_i32_263 : BitVec 32 := 1#32
  let v445 : BitVec 32 := Scalar.divsi v443 c1_i32_263
  let v446 : BitVec 32 := Scalar.muli v445 c1_i32_263
  let v447 : BitVec 32 := Scalar.addi c0_i32_262 v446
  let c1_i32_265 : BitVec 32 := 1#32
  let arg24 : BitVec 32 := Scf.iv v447 c1_i32_265 k0_t10
  let c512_i32_267 : BitVec 32 := 512#32
  let v454 : BitVec 32 := Scalar.muli arg24 c512_i32_267
  let v455 : BitVec 32 := v454
  let v456 : Index := Scalar.indexCast v455
  let c0_268 : Index := 0#32
  ![v456.toNat, 0]
@[reducible] def k0_t11_loop (i : grid0.Coords) : Scf.Loop 32 :=
  let c0_i32_86 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v177 : BitVec 32 := Scalar.subi v20 c0_i32_86
  let c1_i32_87 : BitVec 32 := 1#32
  let v179 : BitVec 32 := Scalar.divsi v177 c1_i32_87
  let v180 : BitVec 32 := Scalar.muli v179 c1_i32_87
  let v181 : BitVec 32 := Scalar.addi c0_i32_86 v180
  let c1_i32_88 : BitVec 32 := 1#32
  ⟨c0_i32_86, v181, c1_i32_88⟩
def k0_mult19 (i : grid0.Coords) (k0_t11 : Fin (k0_t11_loop i).trips) : BitVec 32 :=
  let c0_i32_86 : BitVec 32 := 0#32
  let c1_i32_88 : BitVec 32 := 1#32
  let arg22 : BitVec 32 := Scf.iv c0_i32_86 c1_i32_88 k0_t11
  let c512_i32_247 : BitVec 32 := 512#32
  let v417 : BitVec 32 := Scalar.muli arg22 c512_i32_247
  v417
def k0_off80 (i : grid0.Coords) (k0_t11 : Fin (k0_t11_loop i).trips) : Fin 2 → Nat :=
  let c0_i32_86 : BitVec 32 := 0#32
  let c1_i32_88 : BitVec 32 := 1#32
  let arg22 : BitVec 32 := Scf.iv c0_i32_86 c1_i32_88 k0_t11
  let c512_i32_247 : BitVec 32 := 512#32
  let v417 : BitVec 32 := Scalar.muli arg22 c512_i32_247
  let v418 : BitVec 32 := v417
  let v419 : Index := Scalar.indexCast v418
  let c0_248 : Index := 0#32
  ![v419.toNat, 0]
@[reducible] def k0_t12_loop (i : grid0.Coords) : Scf.Loop 32 :=
  let c0_i32_86 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v177 : BitVec 32 := Scalar.subi v20 c0_i32_86
  let c1_i32_87 : BitVec 32 := 1#32
  let v179 : BitVec 32 := Scalar.divsi v177 c1_i32_87
  let v180 : BitVec 32 := Scalar.muli v179 c1_i32_87
  let v181 : BitVec 32 := Scalar.addi c0_i32_86 v180
  let v178 : BitVec 32 := Scalar.addi c0_i32_86 v177
  let c1_i32_89 : BitVec 32 := 1#32
  ⟨v181, v178, c1_i32_89⟩
def k0_mult20 (i : grid0.Coords) (k0_t12 : Fin (k0_t12_loop i).trips) : BitVec 32 :=
  let c0_i32_86 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v177 : BitVec 32 := Scalar.subi v20 c0_i32_86
  let c1_i32_87 : BitVec 32 := 1#32
  let v179 : BitVec 32 := Scalar.divsi v177 c1_i32_87
  let v180 : BitVec 32 := Scalar.muli v179 c1_i32_87
  let v181 : BitVec 32 := Scalar.addi c0_i32_86 v180
  let c1_i32_89 : BitVec 32 := 1#32
  let arg22 : BitVec 32 := Scf.iv v181 c1_i32_89 k0_t12
  let c512_i32_247 : BitVec 32 := 512#32
  let v417 : BitVec 32 := Scalar.muli arg22 c512_i32_247
  v417
def k0_off81 (i : grid0.Coords) (k0_t12 : Fin (k0_t12_loop i).trips) : Fin 2 → Nat :=
  let c0_i32_86 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v177 : BitVec 32 := Scalar.subi v20 c0_i32_86
  let c1_i32_87 : BitVec 32 := 1#32
  let v179 : BitVec 32 := Scalar.divsi v177 c1_i32_87
  let v180 : BitVec 32 := Scalar.muli v179 c1_i32_87
  let v181 : BitVec 32 := Scalar.addi c0_i32_86 v180
  let c1_i32_89 : BitVec 32 := 1#32
  let arg22 : BitVec 32 := Scf.iv v181 c1_i32_89 k0_t12
  let c512_i32_247 : BitVec 32 := 512#32
  let v417 : BitVec 32 := Scalar.muli arg22 c512_i32_247
  let v418 : BitVec 32 := v417
  let v419 : Index := Scalar.indexCast v418
  let c0_248 : Index := 0#32
  ![v419.toNat, 0]
def k0_off82 (i : grid0.Coords) : Fin 2 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v21 : BitVec 32 := Scalar.subi v1 c256_i32
  let c0_i32_7 : BitVec 32 := 0#32
  let v22 : BitVec 32 := Scalar.maxsi v21 c0_i32_7
  let v23 : BitVec 32 := v22
  let v182 : Index := Scalar.indexCast v23
  let c0_90 : Index := 0#32
  ![v182.toNat, 0]
def k0_off83 (i : grid0.Coords) : Fin 3 → Nat :=
  let c0_119 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v21 : BitVec 32 := Scalar.subi v1 c256_i32
  let c0_i32_7 : BitVec 32 := 0#32
  let v22 : BitVec 32 := Scalar.maxsi v21 c0_i32_7
  let v23 : BitVec 32 := v22
  let v213 : Index := Scalar.indexCast v23
  let c0_120 : Index := 0#32
  ![0, v213.toNat, 0]
def k0_off84 (i : grid0.Coords) : Fin 3 → Nat :=
  let c0_124 : Index := 0#32
  let arg1 : BitVec 32 := BitVec.ofNat 32 (i 1).val
  let c0_i32_8 : BitVec 32 := 0#32
  let v24 : BitVec 1 := Scalar.cmpi .eq arg1 c0_i32_8
  let c128_i32_9 : BitVec 32 := 128#32
  let c0_i32_10 : BitVec 32 := 0#32
  let v25 : BitVec 32 := Scalar.select v24 c128_i32_9 c0_i32_10
  let v26 : BitVec 32 := v25
  let v220 : Index := Scalar.indexCast v26
  let c0_125 : Index := 0#32
  ![0, v220.toNat, 0]
def k0_off85 (i : grid0.Coords) : Fin 3 → Nat :=
  let c1 : Index := 1#32
  let arg1 : BitVec 32 := BitVec.ofNat 32 (i 1).val
  let c0_i32_8 : BitVec 32 := 0#32
  let v24 : BitVec 1 := Scalar.cmpi .eq arg1 c0_i32_8
  let c128_i32_9 : BitVec 32 := 128#32
  let c0_i32_10 : BitVec 32 := 0#32
  let v25 : BitVec 32 := Scalar.select v24 c128_i32_9 c0_i32_10
  let v26 : BitVec 32 := v25
  let v223 : Index := Scalar.indexCast v26
  let c0_126 : Index := 0#32
  ![1, v223.toNat, 0]
def k0_off86 (i : grid0.Coords) : Fin 3 → Nat :=
  let c2 : Index := 2#32
  let arg1 : BitVec 32 := BitVec.ofNat 32 (i 1).val
  let c0_i32_8 : BitVec 32 := 0#32
  let v24 : BitVec 1 := Scalar.cmpi .eq arg1 c0_i32_8
  let c128_i32_9 : BitVec 32 := 128#32
  let c0_i32_10 : BitVec 32 := 0#32
  let v25 : BitVec 32 := Scalar.select v24 c128_i32_9 c0_i32_10
  let v26 : BitVec 32 := v25
  let v226 : Index := Scalar.indexCast v26
  let c0_127 : Index := 0#32
  ![2, v226.toNat, 0]
def k0_off87 (i : grid0.Coords) : Fin 3 → Nat :=
  let c3 : Index := 3#32
  let arg1 : BitVec 32 := BitVec.ofNat 32 (i 1).val
  let c0_i32_8 : BitVec 32 := 0#32
  let v24 : BitVec 1 := Scalar.cmpi .eq arg1 c0_i32_8
  let c128_i32_9 : BitVec 32 := 128#32
  let c0_i32_10 : BitVec 32 := 0#32
  let v25 : BitVec 32 := Scalar.select v24 c128_i32_9 c0_i32_10
  let v26 : BitVec 32 := v25
  let v229 : Index := Scalar.indexCast v26
  let c0_128 : Index := 0#32
  ![3, v229.toNat, 0]
def k0_off88 (i : grid0.Coords) : Fin 3 → Nat :=
  let c4 : Index := 4#32
  let arg1 : BitVec 32 := BitVec.ofNat 32 (i 1).val
  let c0_i32_8 : BitVec 32 := 0#32
  let v24 : BitVec 1 := Scalar.cmpi .eq arg1 c0_i32_8
  let c128_i32_9 : BitVec 32 := 128#32
  let c0_i32_10 : BitVec 32 := 0#32
  let v25 : BitVec 32 := Scalar.select v24 c128_i32_9 c0_i32_10
  let v26 : BitVec 32 := v25
  let v232 : Index := Scalar.indexCast v26
  let c0_129 : Index := 0#32
  ![4, v232.toNat, 0]
def k0_off89 (i : grid0.Coords) : Fin 3 → Nat :=
  let c5 : Index := 5#32
  let arg1 : BitVec 32 := BitVec.ofNat 32 (i 1).val
  let c0_i32_8 : BitVec 32 := 0#32
  let v24 : BitVec 1 := Scalar.cmpi .eq arg1 c0_i32_8
  let c128_i32_9 : BitVec 32 := 128#32
  let c0_i32_10 : BitVec 32 := 0#32
  let v25 : BitVec 32 := Scalar.select v24 c128_i32_9 c0_i32_10
  let v26 : BitVec 32 := v25
  let v235 : Index := Scalar.indexCast v26
  let c0_130 : Index := 0#32
  ![5, v235.toNat, 0]
def k0_off90 (i : grid0.Coords) : Fin 3 → Nat :=
  let c6 : Index := 6#32
  let arg1 : BitVec 32 := BitVec.ofNat 32 (i 1).val
  let c0_i32_8 : BitVec 32 := 0#32
  let v24 : BitVec 1 := Scalar.cmpi .eq arg1 c0_i32_8
  let c128_i32_9 : BitVec 32 := 128#32
  let c0_i32_10 : BitVec 32 := 0#32
  let v25 : BitVec 32 := Scalar.select v24 c128_i32_9 c0_i32_10
  let v26 : BitVec 32 := v25
  let v238 : Index := Scalar.indexCast v26
  let c0_131 : Index := 0#32
  ![6, v238.toNat, 0]
def k0_off91 (i : grid0.Coords) : Fin 3 → Nat :=
  let c7 : Index := 7#32
  let arg1 : BitVec 32 := BitVec.ofNat 32 (i 1).val
  let c0_i32_8 : BitVec 32 := 0#32
  let v24 : BitVec 1 := Scalar.cmpi .eq arg1 c0_i32_8
  let c128_i32_9 : BitVec 32 := 128#32
  let c0_i32_10 : BitVec 32 := 0#32
  let v25 : BitVec 32 := Scalar.select v24 c128_i32_9 c0_i32_10
  let v26 : BitVec 32 := v25
  let v241 : Index := Scalar.indexCast v26
  let c0_132 : Index := 0#32
  ![7, v241.toNat, 0]
def k0_off92 (i : grid0.Coords) : Fin 3 → Nat :=
  let c0_134 : Index := 0#32
  let c0_135 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v21 : BitVec 32 := Scalar.subi v1 c256_i32
  let c0_i32_7 : BitVec 32 := 0#32
  let v22 : BitVec 32 := Scalar.maxsi v21 c0_i32_7
  let v23 : BitVec 32 := v22
  let v248 : Index := Scalar.indexCast v23
  ![0, 0, v248.toNat]
def k0_mult21 : BitVec 32 :=
  let c0_i32_145 : BitVec 32 := 0#32
  let c7_i32_146 : BitVec 32 := 7#32
  let v273 : BitVec 32 := Scalar.minsi c0_i32_145 c7_i32_146
  let c512_i32_147 : BitVec 32 := 512#32
  let v274 : BitVec 32 := Scalar.muli v273 c512_i32_147
  v274
def k0_off93 : Fin 3 → Nat :=
  let c0_148 : Index := 0#32
  let c0_i32_145 : BitVec 32 := 0#32
  let c7_i32_146 : BitVec 32 := 7#32
  let v273 : BitVec 32 := Scalar.minsi c0_i32_145 c7_i32_146
  let c512_i32_147 : BitVec 32 := 512#32
  let v274 : BitVec 32 := Scalar.muli v273 c512_i32_147
  let v275 : BitVec 32 := v274
  let v276 : Index := Scalar.indexCast v275
  let c0_149 : Index := 0#32
  ![0, v276.toNat, 0]
def k0_off94 : Fin 2 → Nat :=
  let c0_i32_145 : BitVec 32 := 0#32
  let c7_i32_146 : BitVec 32 := 7#32
  let v273 : BitVec 32 := Scalar.minsi c0_i32_145 c7_i32_146
  let c512_i32_147 : BitVec 32 := 512#32
  let v274 : BitVec 32 := Scalar.muli v273 c512_i32_147
  let v275 : BitVec 32 := v274
  let v280 : Index := Scalar.indexCast v275
  let c0_151 : Index := 0#32
  ![v280.toNat, 0]
@[reducible] def k0_t13_loop (i : grid0.Coords) : Scf.Loop 32 :=
  let c0_i32_173 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v21 : BitVec 32 := Scalar.subi v1 c256_i32
  let c0_i32_7 : BitVec 32 := 0#32
  let v22 : BitVec 32 := Scalar.maxsi v21 c0_i32_7
  let v23 : BitVec 32 := v22
  let c512_i32_157 : BitVec 32 := 512#32
  let v292 : BitVec 32 := Scalar.addi v23 c512_i32_157
  let c1_i32_158 : BitVec 32 := 1#32
  let v293 : BitVec 32 := Scalar.subi v292 c1_i32_158
  let c0_i32_160 : BitVec 32 := 0#32
  let v295 : BitVec 1 := Scalar.cmpi .sgt v293 c0_i32_160
  let v296 : BitVec 32 := Scalar.extui v295
  let c0_i32_161 : BitVec 32 := 0#32
  let v297 : BitVec 1 := Scalar.cmpi .slt v293 c0_i32_161
  let v298 : BitVec 32 := Scalar.extui v297
  let v299 : BitVec 32 := Scalar.subi v296 v298
  let c512_i32_159 : BitVec 32 := 512#32
  let c0_i32_162 : BitVec 32 := 0#32
  let v300 : BitVec 1 := Scalar.cmpi .sgt c512_i32_159 c0_i32_162
  let v301 : BitVec 32 := Scalar.extui v300
  let c0_i32_163 : BitVec 32 := 0#32
  let v302 : BitVec 1 := Scalar.cmpi .slt c512_i32_159 c0_i32_163
  let v303 : BitVec 32 := Scalar.extui v302
  let v304 : BitVec 32 := Scalar.subi v301 v303
  let v305 : BitVec 1 := Scalar.cmpi .ne v299 v304
  let v306 : BitVec 32 := Scalar.remsi v293 c512_i32_159
  let c0_i32_164 : BitVec 32 := 0#32
  let v307 : BitVec 1 := Scalar.cmpi .ne v306 c0_i32_164
  let v308 : BitVec 1 := Scalar.andi v305 v307
  let v294 : BitVec 32 := Scalar.divsi v293 c512_i32_159
  let c1_i32_165 : BitVec 32 := 1#32
  let v309 : BitVec 32 := Scalar.subi v294 c1_i32_165
  let v310 : BitVec 32 := Scalar.select v308 v309 v294
  let c0_i32_167 : BitVec 32 := 0#32
  let v312 : BitVec 1 := Scalar.cmpi .sgt v310 c0_i32_167
  let v313 : BitVec 32 := Scalar.extui v312
  let c0_i32_168 : BitVec 32 := 0#32
  let v314 : BitVec 1 := Scalar.cmpi .slt v310 c0_i32_168
  let v315 : BitVec 32 := Scalar.extui v314
  let v316 : BitVec 32 := Scalar.subi v313 v315
  let c2_i32_166 : BitVec 32 := 2#32
  let c0_i32_169 : BitVec 32 := 0#32
  let v317 : BitVec 1 := Scalar.cmpi .sgt c2_i32_166 c0_i32_169
  let v318 : BitVec 32 := Scalar.extui v317
  let c0_i32_170 : BitVec 32 := 0#32
  let v319 : BitVec 1 := Scalar.cmpi .slt c2_i32_166 c0_i32_170
  let v320 : BitVec 32 := Scalar.extui v319
  let v321 : BitVec 32 := Scalar.subi v318 v320
  let v322 : BitVec 1 := Scalar.cmpi .ne v316 v321
  let v323 : BitVec 32 := Scalar.remsi v310 c2_i32_166
  let c0_i32_171 : BitVec 32 := 0#32
  let v324 : BitVec 1 := Scalar.cmpi .ne v323 c0_i32_171
  let v325 : BitVec 1 := Scalar.andi v322 v324
  let v311 : BitVec 32 := Scalar.divsi v310 c2_i32_166
  let c1_i32_172 : BitVec 32 := 1#32
  let v326 : BitVec 32 := Scalar.subi v311 c1_i32_172
  let v327 : BitVec 32 := Scalar.select v325 v326 v311
  let v328 : BitVec 32 := Scalar.subi v327 c0_i32_173
  let c1_i32_174 : BitVec 32 := 1#32
  let v330 : BitVec 32 := Scalar.divsi v328 c1_i32_174
  let v331 : BitVec 32 := Scalar.muli v330 c1_i32_174
  let v332 : BitVec 32 := Scalar.addi c0_i32_173 v331
  let c1_i32_175 : BitVec 32 := 1#32
  ⟨c0_i32_173, v332, c1_i32_175⟩
def k0_mult22 (i : grid0.Coords) (k0_t13 : Fin (k0_t13_loop i).trips) : BitVec 32 :=
  let c2_i32_247 : BitVec 32 := 2#32
  let c0_i32_173 : BitVec 32 := 0#32
  let c1_i32_175 : BitVec 32 := 1#32
  let arg22 : BitVec 32 := Scf.iv c0_i32_173 c1_i32_175 k0_t13
  let v417 : BitVec 32 := Scalar.muli c2_i32_247 arg22
  let c1_i32_248 : BitVec 32 := 1#32
  let v418 : BitVec 32 := Scalar.addi v417 c1_i32_248
  let c7_i32_249 : BitVec 32 := 7#32
  let v419 : BitVec 32 := Scalar.minsi v418 c7_i32_249
  let c512_i32_250 : BitVec 32 := 512#32
  let v420 : BitVec 32 := Scalar.muli v419 c512_i32_250
  v420
def k0_off95 (i : grid0.Coords) (k0_t13 : Fin (k0_t13_loop i).trips) (c1_i32_248 : BitVec 32) : Fin 3 → Nat :=
  let c0_251 : Index := 0#32
  let c2_i32_247 : BitVec 32 := 2#32
  let c0_i32_173 : BitVec 32 := 0#32
  let c1_i32_175 : BitVec 32 := 1#32
  let arg22 : BitVec 32 := Scf.iv c0_i32_173 c1_i32_175 k0_t13
  let v417 : BitVec 32 := Scalar.muli c2_i32_247 arg22
  let v418 : BitVec 32 := Scalar.addi v417 c1_i32_248
  let c7_i32_249 : BitVec 32 := 7#32
  let v419 : BitVec 32 := Scalar.minsi v418 c7_i32_249
  let c512_i32_250 : BitVec 32 := 512#32
  let v420 : BitVec 32 := Scalar.muli v419 c512_i32_250
  let v421 : BitVec 32 := v420
  let v422 : Index := Scalar.indexCast v421
  let c0_252 : Index := 0#32
  ![0, v422.toNat, 0]
def k0_off96 (i : grid0.Coords) (k0_t13 : Fin (k0_t13_loop i).trips) (c1_i32_248 : BitVec 32) : Fin 2 → Nat :=
  let c2_i32_247 : BitVec 32 := 2#32
  let c0_i32_173 : BitVec 32 := 0#32
  let c1_i32_175 : BitVec 32 := 1#32
  let arg22 : BitVec 32 := Scf.iv c0_i32_173 c1_i32_175 k0_t13
  let v417 : BitVec 32 := Scalar.muli c2_i32_247 arg22
  let v418 : BitVec 32 := Scalar.addi v417 c1_i32_248
  let c7_i32_249 : BitVec 32 := 7#32
  let v419 : BitVec 32 := Scalar.minsi v418 c7_i32_249
  let c512_i32_250 : BitVec 32 := 512#32
  let v420 : BitVec 32 := Scalar.muli v419 c512_i32_250
  let v421 : BitVec 32 := v420
  let v426 : Index := Scalar.indexCast v421
  let c0_254 : Index := 0#32
  ![v426.toNat, 0]
def k0_mult23 (i : grid0.Coords) (k0_t13 : Fin (k0_t13_loop i).trips) : BitVec 32 :=
  let c2_i32_260 : BitVec 32 := 2#32
  let c0_i32_173 : BitVec 32 := 0#32
  let c1_i32_175 : BitVec 32 := 1#32
  let arg22 : BitVec 32 := Scf.iv c0_i32_173 c1_i32_175 k0_t13
  let v438 : BitVec 32 := Scalar.muli c2_i32_260 arg22
  let c512_i32_265 : BitVec 32 := 512#32
  let v441 : BitVec 32 := Scalar.muli v438 c512_i32_265
  v441
def k0_off97 (i : grid0.Coords) (k0_t13 : Fin (k0_t13_loop i).trips) : Fin 3 → Nat :=
  let c0_266 : Index := 0#32
  let c0_267 : Index := 0#32
  let c2_i32_260 : BitVec 32 := 2#32
  let c0_i32_173 : BitVec 32 := 0#32
  let c1_i32_175 : BitVec 32 := 1#32
  let arg22 : BitVec 32 := Scf.iv c0_i32_173 c1_i32_175 k0_t13
  let v438 : BitVec 32 := Scalar.muli c2_i32_260 arg22
  let c512_i32_265 : BitVec 32 := 512#32
  let v441 : BitVec 32 := Scalar.muli v438 c512_i32_265
  let v442 : BitVec 32 := v441
  let v443 : Index := Scalar.indexCast v442
  ![0, 0, v443.toNat]
def k0_mult24 (i : grid0.Coords) (k0_t13 : Fin (k0_t13_loop i).trips) : BitVec 32 :=
  let c2_i32_276 : BitVec 32 := 2#32
  let c0_i32_173 : BitVec 32 := 0#32
  let c1_i32_175 : BitVec 32 := 1#32
  let arg22 : BitVec 32 := Scf.iv c0_i32_173 c1_i32_175 k0_t13
  let v467 : BitVec 32 := Scalar.muli c2_i32_276 arg22
  let c2_i32_277 : BitVec 32 := 2#32
  let v468 : BitVec 32 := Scalar.addi v467 c2_i32_277
  let c7_i32_278 : BitVec 32 := 7#32
  let v469 : BitVec 32 := Scalar.minsi v468 c7_i32_278
  let c512_i32_279 : BitVec 32 := 512#32
  let v470 : BitVec 32 := Scalar.muli v469 c512_i32_279
  v470
def k0_mult25 (i : grid0.Coords) (k0_t13 : Fin (k0_t13_loop i).trips) : BitVec 32 :=
  let c2_i32_289 : BitVec 32 := 2#32
  let c0_i32_173 : BitVec 32 := 0#32
  let c1_i32_175 : BitVec 32 := 1#32
  let arg22 : BitVec 32 := Scf.iv c0_i32_173 c1_i32_175 k0_t13
  let v488 : BitVec 32 := Scalar.muli c2_i32_289 arg22
  let c1_i32_290 : BitVec 32 := 1#32
  let v489 : BitVec 32 := Scalar.addi v488 c1_i32_290
  let c512_i32_295 : BitVec 32 := 512#32
  let v492 : BitVec 32 := Scalar.muli v489 c512_i32_295
  v492
def k0_off98 (i : grid0.Coords) (k0_t13 : Fin (k0_t13_loop i).trips) : Fin 3 → Nat :=
  let c0_296 : Index := 0#32
  let c0_297 : Index := 0#32
  let c2_i32_289 : BitVec 32 := 2#32
  let c0_i32_173 : BitVec 32 := 0#32
  let c1_i32_175 : BitVec 32 := 1#32
  let arg22 : BitVec 32 := Scf.iv c0_i32_173 c1_i32_175 k0_t13
  let v488 : BitVec 32 := Scalar.muli c2_i32_289 arg22
  let c1_i32_290 : BitVec 32 := 1#32
  let v489 : BitVec 32 := Scalar.addi v488 c1_i32_290
  let c512_i32_295 : BitVec 32 := 512#32
  let v492 : BitVec 32 := Scalar.muli v489 c512_i32_295
  let v493 : BitVec 32 := v492
  let v494 : Index := Scalar.indexCast v493
  ![0, 0, v494.toNat]
@[reducible] def k0_t14_loop (i : grid0.Coords) : Scf.Loop 32 :=
  let c0_i32_173 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v21 : BitVec 32 := Scalar.subi v1 c256_i32
  let c0_i32_7 : BitVec 32 := 0#32
  let v22 : BitVec 32 := Scalar.maxsi v21 c0_i32_7
  let v23 : BitVec 32 := v22
  let c512_i32_157 : BitVec 32 := 512#32
  let v292 : BitVec 32 := Scalar.addi v23 c512_i32_157
  let c1_i32_158 : BitVec 32 := 1#32
  let v293 : BitVec 32 := Scalar.subi v292 c1_i32_158
  let c0_i32_160 : BitVec 32 := 0#32
  let v295 : BitVec 1 := Scalar.cmpi .sgt v293 c0_i32_160
  let v296 : BitVec 32 := Scalar.extui v295
  let c0_i32_161 : BitVec 32 := 0#32
  let v297 : BitVec 1 := Scalar.cmpi .slt v293 c0_i32_161
  let v298 : BitVec 32 := Scalar.extui v297
  let v299 : BitVec 32 := Scalar.subi v296 v298
  let c512_i32_159 : BitVec 32 := 512#32
  let c0_i32_162 : BitVec 32 := 0#32
  let v300 : BitVec 1 := Scalar.cmpi .sgt c512_i32_159 c0_i32_162
  let v301 : BitVec 32 := Scalar.extui v300
  let c0_i32_163 : BitVec 32 := 0#32
  let v302 : BitVec 1 := Scalar.cmpi .slt c512_i32_159 c0_i32_163
  let v303 : BitVec 32 := Scalar.extui v302
  let v304 : BitVec 32 := Scalar.subi v301 v303
  let v305 : BitVec 1 := Scalar.cmpi .ne v299 v304
  let v306 : BitVec 32 := Scalar.remsi v293 c512_i32_159
  let c0_i32_164 : BitVec 32 := 0#32
  let v307 : BitVec 1 := Scalar.cmpi .ne v306 c0_i32_164
  let v308 : BitVec 1 := Scalar.andi v305 v307
  let v294 : BitVec 32 := Scalar.divsi v293 c512_i32_159
  let c1_i32_165 : BitVec 32 := 1#32
  let v309 : BitVec 32 := Scalar.subi v294 c1_i32_165
  let v310 : BitVec 32 := Scalar.select v308 v309 v294
  let c0_i32_167 : BitVec 32 := 0#32
  let v312 : BitVec 1 := Scalar.cmpi .sgt v310 c0_i32_167
  let v313 : BitVec 32 := Scalar.extui v312
  let c0_i32_168 : BitVec 32 := 0#32
  let v314 : BitVec 1 := Scalar.cmpi .slt v310 c0_i32_168
  let v315 : BitVec 32 := Scalar.extui v314
  let v316 : BitVec 32 := Scalar.subi v313 v315
  let c2_i32_166 : BitVec 32 := 2#32
  let c0_i32_169 : BitVec 32 := 0#32
  let v317 : BitVec 1 := Scalar.cmpi .sgt c2_i32_166 c0_i32_169
  let v318 : BitVec 32 := Scalar.extui v317
  let c0_i32_170 : BitVec 32 := 0#32
  let v319 : BitVec 1 := Scalar.cmpi .slt c2_i32_166 c0_i32_170
  let v320 : BitVec 32 := Scalar.extui v319
  let v321 : BitVec 32 := Scalar.subi v318 v320
  let v322 : BitVec 1 := Scalar.cmpi .ne v316 v321
  let v323 : BitVec 32 := Scalar.remsi v310 c2_i32_166
  let c0_i32_171 : BitVec 32 := 0#32
  let v324 : BitVec 1 := Scalar.cmpi .ne v323 c0_i32_171
  let v325 : BitVec 1 := Scalar.andi v322 v324
  let v311 : BitVec 32 := Scalar.divsi v310 c2_i32_166
  let c1_i32_172 : BitVec 32 := 1#32
  let v326 : BitVec 32 := Scalar.subi v311 c1_i32_172
  let v327 : BitVec 32 := Scalar.select v325 v326 v311
  let v328 : BitVec 32 := Scalar.subi v327 c0_i32_173
  let c1_i32_174 : BitVec 32 := 1#32
  let v330 : BitVec 32 := Scalar.divsi v328 c1_i32_174
  let v331 : BitVec 32 := Scalar.muli v330 c1_i32_174
  let v332 : BitVec 32 := Scalar.addi c0_i32_173 v331
  let v329 : BitVec 32 := Scalar.addi c0_i32_173 v328
  let c1_i32_176 : BitVec 32 := 1#32
  ⟨v332, v329, c1_i32_176⟩
def k0_mult26 (i : grid0.Coords) (k0_t14 : Fin (k0_t14_loop i).trips) : BitVec 32 :=
  let c2_i32_247 : BitVec 32 := 2#32
  let c0_i32_173 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v21 : BitVec 32 := Scalar.subi v1 c256_i32
  let c0_i32_7 : BitVec 32 := 0#32
  let v22 : BitVec 32 := Scalar.maxsi v21 c0_i32_7
  let v23 : BitVec 32 := v22
  let c512_i32_157 : BitVec 32 := 512#32
  let v292 : BitVec 32 := Scalar.addi v23 c512_i32_157
  let c1_i32_158 : BitVec 32 := 1#32
  let v293 : BitVec 32 := Scalar.subi v292 c1_i32_158
  let c0_i32_160 : BitVec 32 := 0#32
  let v295 : BitVec 1 := Scalar.cmpi .sgt v293 c0_i32_160
  let v296 : BitVec 32 := Scalar.extui v295
  let c0_i32_161 : BitVec 32 := 0#32
  let v297 : BitVec 1 := Scalar.cmpi .slt v293 c0_i32_161
  let v298 : BitVec 32 := Scalar.extui v297
  let v299 : BitVec 32 := Scalar.subi v296 v298
  let c512_i32_159 : BitVec 32 := 512#32
  let c0_i32_162 : BitVec 32 := 0#32
  let v300 : BitVec 1 := Scalar.cmpi .sgt c512_i32_159 c0_i32_162
  let v301 : BitVec 32 := Scalar.extui v300
  let c0_i32_163 : BitVec 32 := 0#32
  let v302 : BitVec 1 := Scalar.cmpi .slt c512_i32_159 c0_i32_163
  let v303 : BitVec 32 := Scalar.extui v302
  let v304 : BitVec 32 := Scalar.subi v301 v303
  let v305 : BitVec 1 := Scalar.cmpi .ne v299 v304
  let v306 : BitVec 32 := Scalar.remsi v293 c512_i32_159
  let c0_i32_164 : BitVec 32 := 0#32
  let v307 : BitVec 1 := Scalar.cmpi .ne v306 c0_i32_164
  let v308 : BitVec 1 := Scalar.andi v305 v307
  let v294 : BitVec 32 := Scalar.divsi v293 c512_i32_159
  let c1_i32_165 : BitVec 32 := 1#32
  let v309 : BitVec 32 := Scalar.subi v294 c1_i32_165
  let v310 : BitVec 32 := Scalar.select v308 v309 v294
  let c0_i32_167 : BitVec 32 := 0#32
  let v312 : BitVec 1 := Scalar.cmpi .sgt v310 c0_i32_167
  let v313 : BitVec 32 := Scalar.extui v312
  let c0_i32_168 : BitVec 32 := 0#32
  let v314 : BitVec 1 := Scalar.cmpi .slt v310 c0_i32_168
  let v315 : BitVec 32 := Scalar.extui v314
  let v316 : BitVec 32 := Scalar.subi v313 v315
  let c2_i32_166 : BitVec 32 := 2#32
  let c0_i32_169 : BitVec 32 := 0#32
  let v317 : BitVec 1 := Scalar.cmpi .sgt c2_i32_166 c0_i32_169
  let v318 : BitVec 32 := Scalar.extui v317
  let c0_i32_170 : BitVec 32 := 0#32
  let v319 : BitVec 1 := Scalar.cmpi .slt c2_i32_166 c0_i32_170
  let v320 : BitVec 32 := Scalar.extui v319
  let v321 : BitVec 32 := Scalar.subi v318 v320
  let v322 : BitVec 1 := Scalar.cmpi .ne v316 v321
  let v323 : BitVec 32 := Scalar.remsi v310 c2_i32_166
  let c0_i32_171 : BitVec 32 := 0#32
  let v324 : BitVec 1 := Scalar.cmpi .ne v323 c0_i32_171
  let v325 : BitVec 1 := Scalar.andi v322 v324
  let v311 : BitVec 32 := Scalar.divsi v310 c2_i32_166
  let c1_i32_172 : BitVec 32 := 1#32
  let v326 : BitVec 32 := Scalar.subi v311 c1_i32_172
  let v327 : BitVec 32 := Scalar.select v325 v326 v311
  let v328 : BitVec 32 := Scalar.subi v327 c0_i32_173
  let c1_i32_174 : BitVec 32 := 1#32
  let v330 : BitVec 32 := Scalar.divsi v328 c1_i32_174
  let v331 : BitVec 32 := Scalar.muli v330 c1_i32_174
  let v332 : BitVec 32 := Scalar.addi c0_i32_173 v331
  let c1_i32_176 : BitVec 32 := 1#32
  let arg22 : BitVec 32 := Scf.iv v332 c1_i32_176 k0_t14
  let v417 : BitVec 32 := Scalar.muli c2_i32_247 arg22
  let c1_i32_248 : BitVec 32 := 1#32
  let v418 : BitVec 32 := Scalar.addi v417 c1_i32_248
  let c7_i32_249 : BitVec 32 := 7#32
  let v419 : BitVec 32 := Scalar.minsi v418 c7_i32_249
  let c512_i32_250 : BitVec 32 := 512#32
  let v420 : BitVec 32 := Scalar.muli v419 c512_i32_250
  v420
def k0_off99 (i : grid0.Coords) (k0_t14 : Fin (k0_t14_loop i).trips) (c1_i32_248 : BitVec 32) : Fin 3 → Nat :=
  let c0_251 : Index := 0#32
  let c2_i32_247 : BitVec 32 := 2#32
  let c0_i32_173 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v21 : BitVec 32 := Scalar.subi v1 c256_i32
  let c0_i32_7 : BitVec 32 := 0#32
  let v22 : BitVec 32 := Scalar.maxsi v21 c0_i32_7
  let v23 : BitVec 32 := v22
  let c512_i32_157 : BitVec 32 := 512#32
  let v292 : BitVec 32 := Scalar.addi v23 c512_i32_157
  let c1_i32_158 : BitVec 32 := 1#32
  let v293 : BitVec 32 := Scalar.subi v292 c1_i32_158
  let c0_i32_160 : BitVec 32 := 0#32
  let v295 : BitVec 1 := Scalar.cmpi .sgt v293 c0_i32_160
  let v296 : BitVec 32 := Scalar.extui v295
  let c0_i32_161 : BitVec 32 := 0#32
  let v297 : BitVec 1 := Scalar.cmpi .slt v293 c0_i32_161
  let v298 : BitVec 32 := Scalar.extui v297
  let v299 : BitVec 32 := Scalar.subi v296 v298
  let c512_i32_159 : BitVec 32 := 512#32
  let c0_i32_162 : BitVec 32 := 0#32
  let v300 : BitVec 1 := Scalar.cmpi .sgt c512_i32_159 c0_i32_162
  let v301 : BitVec 32 := Scalar.extui v300
  let c0_i32_163 : BitVec 32 := 0#32
  let v302 : BitVec 1 := Scalar.cmpi .slt c512_i32_159 c0_i32_163
  let v303 : BitVec 32 := Scalar.extui v302
  let v304 : BitVec 32 := Scalar.subi v301 v303
  let v305 : BitVec 1 := Scalar.cmpi .ne v299 v304
  let v306 : BitVec 32 := Scalar.remsi v293 c512_i32_159
  let c0_i32_164 : BitVec 32 := 0#32
  let v307 : BitVec 1 := Scalar.cmpi .ne v306 c0_i32_164
  let v308 : BitVec 1 := Scalar.andi v305 v307
  let v294 : BitVec 32 := Scalar.divsi v293 c512_i32_159
  let c1_i32_165 : BitVec 32 := 1#32
  let v309 : BitVec 32 := Scalar.subi v294 c1_i32_165
  let v310 : BitVec 32 := Scalar.select v308 v309 v294
  let c0_i32_167 : BitVec 32 := 0#32
  let v312 : BitVec 1 := Scalar.cmpi .sgt v310 c0_i32_167
  let v313 : BitVec 32 := Scalar.extui v312
  let c0_i32_168 : BitVec 32 := 0#32
  let v314 : BitVec 1 := Scalar.cmpi .slt v310 c0_i32_168
  let v315 : BitVec 32 := Scalar.extui v314
  let v316 : BitVec 32 := Scalar.subi v313 v315
  let c2_i32_166 : BitVec 32 := 2#32
  let c0_i32_169 : BitVec 32 := 0#32
  let v317 : BitVec 1 := Scalar.cmpi .sgt c2_i32_166 c0_i32_169
  let v318 : BitVec 32 := Scalar.extui v317
  let c0_i32_170 : BitVec 32 := 0#32
  let v319 : BitVec 1 := Scalar.cmpi .slt c2_i32_166 c0_i32_170
  let v320 : BitVec 32 := Scalar.extui v319
  let v321 : BitVec 32 := Scalar.subi v318 v320
  let v322 : BitVec 1 := Scalar.cmpi .ne v316 v321
  let v323 : BitVec 32 := Scalar.remsi v310 c2_i32_166
  let c0_i32_171 : BitVec 32 := 0#32
  let v324 : BitVec 1 := Scalar.cmpi .ne v323 c0_i32_171
  let v325 : BitVec 1 := Scalar.andi v322 v324
  let v311 : BitVec 32 := Scalar.divsi v310 c2_i32_166
  let c1_i32_172 : BitVec 32 := 1#32
  let v326 : BitVec 32 := Scalar.subi v311 c1_i32_172
  let v327 : BitVec 32 := Scalar.select v325 v326 v311
  let v328 : BitVec 32 := Scalar.subi v327 c0_i32_173
  let c1_i32_174 : BitVec 32 := 1#32
  let v330 : BitVec 32 := Scalar.divsi v328 c1_i32_174
  let v331 : BitVec 32 := Scalar.muli v330 c1_i32_174
  let v332 : BitVec 32 := Scalar.addi c0_i32_173 v331
  let c1_i32_176 : BitVec 32 := 1#32
  let arg22 : BitVec 32 := Scf.iv v332 c1_i32_176 k0_t14
  let v417 : BitVec 32 := Scalar.muli c2_i32_247 arg22
  let v418 : BitVec 32 := Scalar.addi v417 c1_i32_248
  let c7_i32_249 : BitVec 32 := 7#32
  let v419 : BitVec 32 := Scalar.minsi v418 c7_i32_249
  let c512_i32_250 : BitVec 32 := 512#32
  let v420 : BitVec 32 := Scalar.muli v419 c512_i32_250
  let v421 : BitVec 32 := v420
  let v422 : Index := Scalar.indexCast v421
  let c0_252 : Index := 0#32
  ![0, v422.toNat, 0]
def k0_off100 (i : grid0.Coords) (k0_t14 : Fin (k0_t14_loop i).trips) (c1_i32_248 : BitVec 32) : Fin 2 → Nat :=
  let c2_i32_247 : BitVec 32 := 2#32
  let c0_i32_173 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v21 : BitVec 32 := Scalar.subi v1 c256_i32
  let c0_i32_7 : BitVec 32 := 0#32
  let v22 : BitVec 32 := Scalar.maxsi v21 c0_i32_7
  let v23 : BitVec 32 := v22
  let c512_i32_157 : BitVec 32 := 512#32
  let v292 : BitVec 32 := Scalar.addi v23 c512_i32_157
  let c1_i32_158 : BitVec 32 := 1#32
  let v293 : BitVec 32 := Scalar.subi v292 c1_i32_158
  let c0_i32_160 : BitVec 32 := 0#32
  let v295 : BitVec 1 := Scalar.cmpi .sgt v293 c0_i32_160
  let v296 : BitVec 32 := Scalar.extui v295
  let c0_i32_161 : BitVec 32 := 0#32
  let v297 : BitVec 1 := Scalar.cmpi .slt v293 c0_i32_161
  let v298 : BitVec 32 := Scalar.extui v297
  let v299 : BitVec 32 := Scalar.subi v296 v298
  let c512_i32_159 : BitVec 32 := 512#32
  let c0_i32_162 : BitVec 32 := 0#32
  let v300 : BitVec 1 := Scalar.cmpi .sgt c512_i32_159 c0_i32_162
  let v301 : BitVec 32 := Scalar.extui v300
  let c0_i32_163 : BitVec 32 := 0#32
  let v302 : BitVec 1 := Scalar.cmpi .slt c512_i32_159 c0_i32_163
  let v303 : BitVec 32 := Scalar.extui v302
  let v304 : BitVec 32 := Scalar.subi v301 v303
  let v305 : BitVec 1 := Scalar.cmpi .ne v299 v304
  let v306 : BitVec 32 := Scalar.remsi v293 c512_i32_159
  let c0_i32_164 : BitVec 32 := 0#32
  let v307 : BitVec 1 := Scalar.cmpi .ne v306 c0_i32_164
  let v308 : BitVec 1 := Scalar.andi v305 v307
  let v294 : BitVec 32 := Scalar.divsi v293 c512_i32_159
  let c1_i32_165 : BitVec 32 := 1#32
  let v309 : BitVec 32 := Scalar.subi v294 c1_i32_165
  let v310 : BitVec 32 := Scalar.select v308 v309 v294
  let c0_i32_167 : BitVec 32 := 0#32
  let v312 : BitVec 1 := Scalar.cmpi .sgt v310 c0_i32_167
  let v313 : BitVec 32 := Scalar.extui v312
  let c0_i32_168 : BitVec 32 := 0#32
  let v314 : BitVec 1 := Scalar.cmpi .slt v310 c0_i32_168
  let v315 : BitVec 32 := Scalar.extui v314
  let v316 : BitVec 32 := Scalar.subi v313 v315
  let c2_i32_166 : BitVec 32 := 2#32
  let c0_i32_169 : BitVec 32 := 0#32
  let v317 : BitVec 1 := Scalar.cmpi .sgt c2_i32_166 c0_i32_169
  let v318 : BitVec 32 := Scalar.extui v317
  let c0_i32_170 : BitVec 32 := 0#32
  let v319 : BitVec 1 := Scalar.cmpi .slt c2_i32_166 c0_i32_170
  let v320 : BitVec 32 := Scalar.extui v319
  let v321 : BitVec 32 := Scalar.subi v318 v320
  let v322 : BitVec 1 := Scalar.cmpi .ne v316 v321
  let v323 : BitVec 32 := Scalar.remsi v310 c2_i32_166
  let c0_i32_171 : BitVec 32 := 0#32
  let v324 : BitVec 1 := Scalar.cmpi .ne v323 c0_i32_171
  let v325 : BitVec 1 := Scalar.andi v322 v324
  let v311 : BitVec 32 := Scalar.divsi v310 c2_i32_166
  let c1_i32_172 : BitVec 32 := 1#32
  let v326 : BitVec 32 := Scalar.subi v311 c1_i32_172
  let v327 : BitVec 32 := Scalar.select v325 v326 v311
  let v328 : BitVec 32 := Scalar.subi v327 c0_i32_173
  let c1_i32_174 : BitVec 32 := 1#32
  let v330 : BitVec 32 := Scalar.divsi v328 c1_i32_174
  let v331 : BitVec 32 := Scalar.muli v330 c1_i32_174
  let v332 : BitVec 32 := Scalar.addi c0_i32_173 v331
  let c1_i32_176 : BitVec 32 := 1#32
  let arg22 : BitVec 32 := Scf.iv v332 c1_i32_176 k0_t14
  let v417 : BitVec 32 := Scalar.muli c2_i32_247 arg22
  let v418 : BitVec 32 := Scalar.addi v417 c1_i32_248
  let c7_i32_249 : BitVec 32 := 7#32
  let v419 : BitVec 32 := Scalar.minsi v418 c7_i32_249
  let c512_i32_250 : BitVec 32 := 512#32
  let v420 : BitVec 32 := Scalar.muli v419 c512_i32_250
  let v421 : BitVec 32 := v420
  let v426 : Index := Scalar.indexCast v421
  let c0_254 : Index := 0#32
  ![v426.toNat, 0]
def k0_mult27 (i : grid0.Coords) (k0_t14 : Fin (k0_t14_loop i).trips) : BitVec 32 :=
  let c2_i32_260 : BitVec 32 := 2#32
  let c0_i32_173 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v21 : BitVec 32 := Scalar.subi v1 c256_i32
  let c0_i32_7 : BitVec 32 := 0#32
  let v22 : BitVec 32 := Scalar.maxsi v21 c0_i32_7
  let v23 : BitVec 32 := v22
  let c512_i32_157 : BitVec 32 := 512#32
  let v292 : BitVec 32 := Scalar.addi v23 c512_i32_157
  let c1_i32_158 : BitVec 32 := 1#32
  let v293 : BitVec 32 := Scalar.subi v292 c1_i32_158
  let c0_i32_160 : BitVec 32 := 0#32
  let v295 : BitVec 1 := Scalar.cmpi .sgt v293 c0_i32_160
  let v296 : BitVec 32 := Scalar.extui v295
  let c0_i32_161 : BitVec 32 := 0#32
  let v297 : BitVec 1 := Scalar.cmpi .slt v293 c0_i32_161
  let v298 : BitVec 32 := Scalar.extui v297
  let v299 : BitVec 32 := Scalar.subi v296 v298
  let c512_i32_159 : BitVec 32 := 512#32
  let c0_i32_162 : BitVec 32 := 0#32
  let v300 : BitVec 1 := Scalar.cmpi .sgt c512_i32_159 c0_i32_162
  let v301 : BitVec 32 := Scalar.extui v300
  let c0_i32_163 : BitVec 32 := 0#32
  let v302 : BitVec 1 := Scalar.cmpi .slt c512_i32_159 c0_i32_163
  let v303 : BitVec 32 := Scalar.extui v302
  let v304 : BitVec 32 := Scalar.subi v301 v303
  let v305 : BitVec 1 := Scalar.cmpi .ne v299 v304
  let v306 : BitVec 32 := Scalar.remsi v293 c512_i32_159
  let c0_i32_164 : BitVec 32 := 0#32
  let v307 : BitVec 1 := Scalar.cmpi .ne v306 c0_i32_164
  let v308 : BitVec 1 := Scalar.andi v305 v307
  let v294 : BitVec 32 := Scalar.divsi v293 c512_i32_159
  let c1_i32_165 : BitVec 32 := 1#32
  let v309 : BitVec 32 := Scalar.subi v294 c1_i32_165
  let v310 : BitVec 32 := Scalar.select v308 v309 v294
  let c0_i32_167 : BitVec 32 := 0#32
  let v312 : BitVec 1 := Scalar.cmpi .sgt v310 c0_i32_167
  let v313 : BitVec 32 := Scalar.extui v312
  let c0_i32_168 : BitVec 32 := 0#32
  let v314 : BitVec 1 := Scalar.cmpi .slt v310 c0_i32_168
  let v315 : BitVec 32 := Scalar.extui v314
  let v316 : BitVec 32 := Scalar.subi v313 v315
  let c2_i32_166 : BitVec 32 := 2#32
  let c0_i32_169 : BitVec 32 := 0#32
  let v317 : BitVec 1 := Scalar.cmpi .sgt c2_i32_166 c0_i32_169
  let v318 : BitVec 32 := Scalar.extui v317
  let c0_i32_170 : BitVec 32 := 0#32
  let v319 : BitVec 1 := Scalar.cmpi .slt c2_i32_166 c0_i32_170
  let v320 : BitVec 32 := Scalar.extui v319
  let v321 : BitVec 32 := Scalar.subi v318 v320
  let v322 : BitVec 1 := Scalar.cmpi .ne v316 v321
  let v323 : BitVec 32 := Scalar.remsi v310 c2_i32_166
  let c0_i32_171 : BitVec 32 := 0#32
  let v324 : BitVec 1 := Scalar.cmpi .ne v323 c0_i32_171
  let v325 : BitVec 1 := Scalar.andi v322 v324
  let v311 : BitVec 32 := Scalar.divsi v310 c2_i32_166
  let c1_i32_172 : BitVec 32 := 1#32
  let v326 : BitVec 32 := Scalar.subi v311 c1_i32_172
  let v327 : BitVec 32 := Scalar.select v325 v326 v311
  let v328 : BitVec 32 := Scalar.subi v327 c0_i32_173
  let c1_i32_174 : BitVec 32 := 1#32
  let v330 : BitVec 32 := Scalar.divsi v328 c1_i32_174
  let v331 : BitVec 32 := Scalar.muli v330 c1_i32_174
  let v332 : BitVec 32 := Scalar.addi c0_i32_173 v331
  let c1_i32_176 : BitVec 32 := 1#32
  let arg22 : BitVec 32 := Scf.iv v332 c1_i32_176 k0_t14
  let v438 : BitVec 32 := Scalar.muli c2_i32_260 arg22
  let c512_i32_265 : BitVec 32 := 512#32
  let v441 : BitVec 32 := Scalar.muli v438 c512_i32_265
  v441
def k0_off101 (i : grid0.Coords) (k0_t14 : Fin (k0_t14_loop i).trips) : Fin 3 → Nat :=
  let c0_266 : Index := 0#32
  let c0_267 : Index := 0#32
  let c2_i32_260 : BitVec 32 := 2#32
  let c0_i32_173 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v21 : BitVec 32 := Scalar.subi v1 c256_i32
  let c0_i32_7 : BitVec 32 := 0#32
  let v22 : BitVec 32 := Scalar.maxsi v21 c0_i32_7
  let v23 : BitVec 32 := v22
  let c512_i32_157 : BitVec 32 := 512#32
  let v292 : BitVec 32 := Scalar.addi v23 c512_i32_157
  let c1_i32_158 : BitVec 32 := 1#32
  let v293 : BitVec 32 := Scalar.subi v292 c1_i32_158
  let c0_i32_160 : BitVec 32 := 0#32
  let v295 : BitVec 1 := Scalar.cmpi .sgt v293 c0_i32_160
  let v296 : BitVec 32 := Scalar.extui v295
  let c0_i32_161 : BitVec 32 := 0#32
  let v297 : BitVec 1 := Scalar.cmpi .slt v293 c0_i32_161
  let v298 : BitVec 32 := Scalar.extui v297
  let v299 : BitVec 32 := Scalar.subi v296 v298
  let c512_i32_159 : BitVec 32 := 512#32
  let c0_i32_162 : BitVec 32 := 0#32
  let v300 : BitVec 1 := Scalar.cmpi .sgt c512_i32_159 c0_i32_162
  let v301 : BitVec 32 := Scalar.extui v300
  let c0_i32_163 : BitVec 32 := 0#32
  let v302 : BitVec 1 := Scalar.cmpi .slt c512_i32_159 c0_i32_163
  let v303 : BitVec 32 := Scalar.extui v302
  let v304 : BitVec 32 := Scalar.subi v301 v303
  let v305 : BitVec 1 := Scalar.cmpi .ne v299 v304
  let v306 : BitVec 32 := Scalar.remsi v293 c512_i32_159
  let c0_i32_164 : BitVec 32 := 0#32
  let v307 : BitVec 1 := Scalar.cmpi .ne v306 c0_i32_164
  let v308 : BitVec 1 := Scalar.andi v305 v307
  let v294 : BitVec 32 := Scalar.divsi v293 c512_i32_159
  let c1_i32_165 : BitVec 32 := 1#32
  let v309 : BitVec 32 := Scalar.subi v294 c1_i32_165
  let v310 : BitVec 32 := Scalar.select v308 v309 v294
  let c0_i32_167 : BitVec 32 := 0#32
  let v312 : BitVec 1 := Scalar.cmpi .sgt v310 c0_i32_167
  let v313 : BitVec 32 := Scalar.extui v312
  let c0_i32_168 : BitVec 32 := 0#32
  let v314 : BitVec 1 := Scalar.cmpi .slt v310 c0_i32_168
  let v315 : BitVec 32 := Scalar.extui v314
  let v316 : BitVec 32 := Scalar.subi v313 v315
  let c2_i32_166 : BitVec 32 := 2#32
  let c0_i32_169 : BitVec 32 := 0#32
  let v317 : BitVec 1 := Scalar.cmpi .sgt c2_i32_166 c0_i32_169
  let v318 : BitVec 32 := Scalar.extui v317
  let c0_i32_170 : BitVec 32 := 0#32
  let v319 : BitVec 1 := Scalar.cmpi .slt c2_i32_166 c0_i32_170
  let v320 : BitVec 32 := Scalar.extui v319
  let v321 : BitVec 32 := Scalar.subi v318 v320
  let v322 : BitVec 1 := Scalar.cmpi .ne v316 v321
  let v323 : BitVec 32 := Scalar.remsi v310 c2_i32_166
  let c0_i32_171 : BitVec 32 := 0#32
  let v324 : BitVec 1 := Scalar.cmpi .ne v323 c0_i32_171
  let v325 : BitVec 1 := Scalar.andi v322 v324
  let v311 : BitVec 32 := Scalar.divsi v310 c2_i32_166
  let c1_i32_172 : BitVec 32 := 1#32
  let v326 : BitVec 32 := Scalar.subi v311 c1_i32_172
  let v327 : BitVec 32 := Scalar.select v325 v326 v311
  let v328 : BitVec 32 := Scalar.subi v327 c0_i32_173
  let c1_i32_174 : BitVec 32 := 1#32
  let v330 : BitVec 32 := Scalar.divsi v328 c1_i32_174
  let v331 : BitVec 32 := Scalar.muli v330 c1_i32_174
  let v332 : BitVec 32 := Scalar.addi c0_i32_173 v331
  let c1_i32_176 : BitVec 32 := 1#32
  let arg22 : BitVec 32 := Scf.iv v332 c1_i32_176 k0_t14
  let v438 : BitVec 32 := Scalar.muli c2_i32_260 arg22
  let c512_i32_265 : BitVec 32 := 512#32
  let v441 : BitVec 32 := Scalar.muli v438 c512_i32_265
  let v442 : BitVec 32 := v441
  let v443 : Index := Scalar.indexCast v442
  ![0, 0, v443.toNat]
def k0_mult28 (i : grid0.Coords) (k0_t14 : Fin (k0_t14_loop i).trips) : BitVec 32 :=
  let c2_i32_276 : BitVec 32 := 2#32
  let c0_i32_173 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v21 : BitVec 32 := Scalar.subi v1 c256_i32
  let c0_i32_7 : BitVec 32 := 0#32
  let v22 : BitVec 32 := Scalar.maxsi v21 c0_i32_7
  let v23 : BitVec 32 := v22
  let c512_i32_157 : BitVec 32 := 512#32
  let v292 : BitVec 32 := Scalar.addi v23 c512_i32_157
  let c1_i32_158 : BitVec 32 := 1#32
  let v293 : BitVec 32 := Scalar.subi v292 c1_i32_158
  let c0_i32_160 : BitVec 32 := 0#32
  let v295 : BitVec 1 := Scalar.cmpi .sgt v293 c0_i32_160
  let v296 : BitVec 32 := Scalar.extui v295
  let c0_i32_161 : BitVec 32 := 0#32
  let v297 : BitVec 1 := Scalar.cmpi .slt v293 c0_i32_161
  let v298 : BitVec 32 := Scalar.extui v297
  let v299 : BitVec 32 := Scalar.subi v296 v298
  let c512_i32_159 : BitVec 32 := 512#32
  let c0_i32_162 : BitVec 32 := 0#32
  let v300 : BitVec 1 := Scalar.cmpi .sgt c512_i32_159 c0_i32_162
  let v301 : BitVec 32 := Scalar.extui v300
  let c0_i32_163 : BitVec 32 := 0#32
  let v302 : BitVec 1 := Scalar.cmpi .slt c512_i32_159 c0_i32_163
  let v303 : BitVec 32 := Scalar.extui v302
  let v304 : BitVec 32 := Scalar.subi v301 v303
  let v305 : BitVec 1 := Scalar.cmpi .ne v299 v304
  let v306 : BitVec 32 := Scalar.remsi v293 c512_i32_159
  let c0_i32_164 : BitVec 32 := 0#32
  let v307 : BitVec 1 := Scalar.cmpi .ne v306 c0_i32_164
  let v308 : BitVec 1 := Scalar.andi v305 v307
  let v294 : BitVec 32 := Scalar.divsi v293 c512_i32_159
  let c1_i32_165 : BitVec 32 := 1#32
  let v309 : BitVec 32 := Scalar.subi v294 c1_i32_165
  let v310 : BitVec 32 := Scalar.select v308 v309 v294
  let c0_i32_167 : BitVec 32 := 0#32
  let v312 : BitVec 1 := Scalar.cmpi .sgt v310 c0_i32_167
  let v313 : BitVec 32 := Scalar.extui v312
  let c0_i32_168 : BitVec 32 := 0#32
  let v314 : BitVec 1 := Scalar.cmpi .slt v310 c0_i32_168
  let v315 : BitVec 32 := Scalar.extui v314
  let v316 : BitVec 32 := Scalar.subi v313 v315
  let c2_i32_166 : BitVec 32 := 2#32
  let c0_i32_169 : BitVec 32 := 0#32
  let v317 : BitVec 1 := Scalar.cmpi .sgt c2_i32_166 c0_i32_169
  let v318 : BitVec 32 := Scalar.extui v317
  let c0_i32_170 : BitVec 32 := 0#32
  let v319 : BitVec 1 := Scalar.cmpi .slt c2_i32_166 c0_i32_170
  let v320 : BitVec 32 := Scalar.extui v319
  let v321 : BitVec 32 := Scalar.subi v318 v320
  let v322 : BitVec 1 := Scalar.cmpi .ne v316 v321
  let v323 : BitVec 32 := Scalar.remsi v310 c2_i32_166
  let c0_i32_171 : BitVec 32 := 0#32
  let v324 : BitVec 1 := Scalar.cmpi .ne v323 c0_i32_171
  let v325 : BitVec 1 := Scalar.andi v322 v324
  let v311 : BitVec 32 := Scalar.divsi v310 c2_i32_166
  let c1_i32_172 : BitVec 32 := 1#32
  let v326 : BitVec 32 := Scalar.subi v311 c1_i32_172
  let v327 : BitVec 32 := Scalar.select v325 v326 v311
  let v328 : BitVec 32 := Scalar.subi v327 c0_i32_173
  let c1_i32_174 : BitVec 32 := 1#32
  let v330 : BitVec 32 := Scalar.divsi v328 c1_i32_174
  let v331 : BitVec 32 := Scalar.muli v330 c1_i32_174
  let v332 : BitVec 32 := Scalar.addi c0_i32_173 v331
  let c1_i32_176 : BitVec 32 := 1#32
  let arg22 : BitVec 32 := Scf.iv v332 c1_i32_176 k0_t14
  let v467 : BitVec 32 := Scalar.muli c2_i32_276 arg22
  let c2_i32_277 : BitVec 32 := 2#32
  let v468 : BitVec 32 := Scalar.addi v467 c2_i32_277
  let c7_i32_278 : BitVec 32 := 7#32
  let v469 : BitVec 32 := Scalar.minsi v468 c7_i32_278
  let c512_i32_279 : BitVec 32 := 512#32
  let v470 : BitVec 32 := Scalar.muli v469 c512_i32_279
  v470
def k0_mult29 (i : grid0.Coords) (k0_t14 : Fin (k0_t14_loop i).trips) : BitVec 32 :=
  let c2_i32_289 : BitVec 32 := 2#32
  let c0_i32_173 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v21 : BitVec 32 := Scalar.subi v1 c256_i32
  let c0_i32_7 : BitVec 32 := 0#32
  let v22 : BitVec 32 := Scalar.maxsi v21 c0_i32_7
  let v23 : BitVec 32 := v22
  let c512_i32_157 : BitVec 32 := 512#32
  let v292 : BitVec 32 := Scalar.addi v23 c512_i32_157
  let c1_i32_158 : BitVec 32 := 1#32
  let v293 : BitVec 32 := Scalar.subi v292 c1_i32_158
  let c0_i32_160 : BitVec 32 := 0#32
  let v295 : BitVec 1 := Scalar.cmpi .sgt v293 c0_i32_160
  let v296 : BitVec 32 := Scalar.extui v295
  let c0_i32_161 : BitVec 32 := 0#32
  let v297 : BitVec 1 := Scalar.cmpi .slt v293 c0_i32_161
  let v298 : BitVec 32 := Scalar.extui v297
  let v299 : BitVec 32 := Scalar.subi v296 v298
  let c512_i32_159 : BitVec 32 := 512#32
  let c0_i32_162 : BitVec 32 := 0#32
  let v300 : BitVec 1 := Scalar.cmpi .sgt c512_i32_159 c0_i32_162
  let v301 : BitVec 32 := Scalar.extui v300
  let c0_i32_163 : BitVec 32 := 0#32
  let v302 : BitVec 1 := Scalar.cmpi .slt c512_i32_159 c0_i32_163
  let v303 : BitVec 32 := Scalar.extui v302
  let v304 : BitVec 32 := Scalar.subi v301 v303
  let v305 : BitVec 1 := Scalar.cmpi .ne v299 v304
  let v306 : BitVec 32 := Scalar.remsi v293 c512_i32_159
  let c0_i32_164 : BitVec 32 := 0#32
  let v307 : BitVec 1 := Scalar.cmpi .ne v306 c0_i32_164
  let v308 : BitVec 1 := Scalar.andi v305 v307
  let v294 : BitVec 32 := Scalar.divsi v293 c512_i32_159
  let c1_i32_165 : BitVec 32 := 1#32
  let v309 : BitVec 32 := Scalar.subi v294 c1_i32_165
  let v310 : BitVec 32 := Scalar.select v308 v309 v294
  let c0_i32_167 : BitVec 32 := 0#32
  let v312 : BitVec 1 := Scalar.cmpi .sgt v310 c0_i32_167
  let v313 : BitVec 32 := Scalar.extui v312
  let c0_i32_168 : BitVec 32 := 0#32
  let v314 : BitVec 1 := Scalar.cmpi .slt v310 c0_i32_168
  let v315 : BitVec 32 := Scalar.extui v314
  let v316 : BitVec 32 := Scalar.subi v313 v315
  let c2_i32_166 : BitVec 32 := 2#32
  let c0_i32_169 : BitVec 32 := 0#32
  let v317 : BitVec 1 := Scalar.cmpi .sgt c2_i32_166 c0_i32_169
  let v318 : BitVec 32 := Scalar.extui v317
  let c0_i32_170 : BitVec 32 := 0#32
  let v319 : BitVec 1 := Scalar.cmpi .slt c2_i32_166 c0_i32_170
  let v320 : BitVec 32 := Scalar.extui v319
  let v321 : BitVec 32 := Scalar.subi v318 v320
  let v322 : BitVec 1 := Scalar.cmpi .ne v316 v321
  let v323 : BitVec 32 := Scalar.remsi v310 c2_i32_166
  let c0_i32_171 : BitVec 32 := 0#32
  let v324 : BitVec 1 := Scalar.cmpi .ne v323 c0_i32_171
  let v325 : BitVec 1 := Scalar.andi v322 v324
  let v311 : BitVec 32 := Scalar.divsi v310 c2_i32_166
  let c1_i32_172 : BitVec 32 := 1#32
  let v326 : BitVec 32 := Scalar.subi v311 c1_i32_172
  let v327 : BitVec 32 := Scalar.select v325 v326 v311
  let v328 : BitVec 32 := Scalar.subi v327 c0_i32_173
  let c1_i32_174 : BitVec 32 := 1#32
  let v330 : BitVec 32 := Scalar.divsi v328 c1_i32_174
  let v331 : BitVec 32 := Scalar.muli v330 c1_i32_174
  let v332 : BitVec 32 := Scalar.addi c0_i32_173 v331
  let c1_i32_176 : BitVec 32 := 1#32
  let arg22 : BitVec 32 := Scf.iv v332 c1_i32_176 k0_t14
  let v488 : BitVec 32 := Scalar.muli c2_i32_289 arg22
  let c1_i32_290 : BitVec 32 := 1#32
  let v489 : BitVec 32 := Scalar.addi v488 c1_i32_290
  let c512_i32_295 : BitVec 32 := 512#32
  let v492 : BitVec 32 := Scalar.muli v489 c512_i32_295
  v492
def k0_off102 (i : grid0.Coords) (k0_t14 : Fin (k0_t14_loop i).trips) : Fin 3 → Nat :=
  let c0_296 : Index := 0#32
  let c0_297 : Index := 0#32
  let c2_i32_289 : BitVec 32 := 2#32
  let c0_i32_173 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v21 : BitVec 32 := Scalar.subi v1 c256_i32
  let c0_i32_7 : BitVec 32 := 0#32
  let v22 : BitVec 32 := Scalar.maxsi v21 c0_i32_7
  let v23 : BitVec 32 := v22
  let c512_i32_157 : BitVec 32 := 512#32
  let v292 : BitVec 32 := Scalar.addi v23 c512_i32_157
  let c1_i32_158 : BitVec 32 := 1#32
  let v293 : BitVec 32 := Scalar.subi v292 c1_i32_158
  let c0_i32_160 : BitVec 32 := 0#32
  let v295 : BitVec 1 := Scalar.cmpi .sgt v293 c0_i32_160
  let v296 : BitVec 32 := Scalar.extui v295
  let c0_i32_161 : BitVec 32 := 0#32
  let v297 : BitVec 1 := Scalar.cmpi .slt v293 c0_i32_161
  let v298 : BitVec 32 := Scalar.extui v297
  let v299 : BitVec 32 := Scalar.subi v296 v298
  let c512_i32_159 : BitVec 32 := 512#32
  let c0_i32_162 : BitVec 32 := 0#32
  let v300 : BitVec 1 := Scalar.cmpi .sgt c512_i32_159 c0_i32_162
  let v301 : BitVec 32 := Scalar.extui v300
  let c0_i32_163 : BitVec 32 := 0#32
  let v302 : BitVec 1 := Scalar.cmpi .slt c512_i32_159 c0_i32_163
  let v303 : BitVec 32 := Scalar.extui v302
  let v304 : BitVec 32 := Scalar.subi v301 v303
  let v305 : BitVec 1 := Scalar.cmpi .ne v299 v304
  let v306 : BitVec 32 := Scalar.remsi v293 c512_i32_159
  let c0_i32_164 : BitVec 32 := 0#32
  let v307 : BitVec 1 := Scalar.cmpi .ne v306 c0_i32_164
  let v308 : BitVec 1 := Scalar.andi v305 v307
  let v294 : BitVec 32 := Scalar.divsi v293 c512_i32_159
  let c1_i32_165 : BitVec 32 := 1#32
  let v309 : BitVec 32 := Scalar.subi v294 c1_i32_165
  let v310 : BitVec 32 := Scalar.select v308 v309 v294
  let c0_i32_167 : BitVec 32 := 0#32
  let v312 : BitVec 1 := Scalar.cmpi .sgt v310 c0_i32_167
  let v313 : BitVec 32 := Scalar.extui v312
  let c0_i32_168 : BitVec 32 := 0#32
  let v314 : BitVec 1 := Scalar.cmpi .slt v310 c0_i32_168
  let v315 : BitVec 32 := Scalar.extui v314
  let v316 : BitVec 32 := Scalar.subi v313 v315
  let c2_i32_166 : BitVec 32 := 2#32
  let c0_i32_169 : BitVec 32 := 0#32
  let v317 : BitVec 1 := Scalar.cmpi .sgt c2_i32_166 c0_i32_169
  let v318 : BitVec 32 := Scalar.extui v317
  let c0_i32_170 : BitVec 32 := 0#32
  let v319 : BitVec 1 := Scalar.cmpi .slt c2_i32_166 c0_i32_170
  let v320 : BitVec 32 := Scalar.extui v319
  let v321 : BitVec 32 := Scalar.subi v318 v320
  let v322 : BitVec 1 := Scalar.cmpi .ne v316 v321
  let v323 : BitVec 32 := Scalar.remsi v310 c2_i32_166
  let c0_i32_171 : BitVec 32 := 0#32
  let v324 : BitVec 1 := Scalar.cmpi .ne v323 c0_i32_171
  let v325 : BitVec 1 := Scalar.andi v322 v324
  let v311 : BitVec 32 := Scalar.divsi v310 c2_i32_166
  let c1_i32_172 : BitVec 32 := 1#32
  let v326 : BitVec 32 := Scalar.subi v311 c1_i32_172
  let v327 : BitVec 32 := Scalar.select v325 v326 v311
  let v328 : BitVec 32 := Scalar.subi v327 c0_i32_173
  let c1_i32_174 : BitVec 32 := 1#32
  let v330 : BitVec 32 := Scalar.divsi v328 c1_i32_174
  let v331 : BitVec 32 := Scalar.muli v330 c1_i32_174
  let v332 : BitVec 32 := Scalar.addi c0_i32_173 v331
  let c1_i32_176 : BitVec 32 := 1#32
  let arg22 : BitVec 32 := Scf.iv v332 c1_i32_176 k0_t14
  let v488 : BitVec 32 := Scalar.muli c2_i32_289 arg22
  let c1_i32_290 : BitVec 32 := 1#32
  let v489 : BitVec 32 := Scalar.addi v488 c1_i32_290
  let c512_i32_295 : BitVec 32 := 512#32
  let v492 : BitVec 32 := Scalar.muli v489 c512_i32_295
  let v493 : BitVec 32 := v492
  let v494 : Index := Scalar.indexCast v493
  ![0, 0, v494.toNat]
def k0_cond4 (i : grid0.Coords) : BitVec 1 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v21 : BitVec 32 := Scalar.subi v1 c256_i32
  let c0_i32_7 : BitVec 32 := 0#32
  let v22 : BitVec 32 := Scalar.maxsi v21 c0_i32_7
  let v23 : BitVec 32 := v22
  let c512_i32_157 : BitVec 32 := 512#32
  let v292 : BitVec 32 := Scalar.addi v23 c512_i32_157
  let c1_i32_158 : BitVec 32 := 1#32
  let v293 : BitVec 32 := Scalar.subi v292 c1_i32_158
  let c0_i32_160 : BitVec 32 := 0#32
  let v295 : BitVec 1 := Scalar.cmpi .sgt v293 c0_i32_160
  let v296 : BitVec 32 := Scalar.extui v295
  let c0_i32_161 : BitVec 32 := 0#32
  let v297 : BitVec 1 := Scalar.cmpi .slt v293 c0_i32_161
  let v298 : BitVec 32 := Scalar.extui v297
  let v299 : BitVec 32 := Scalar.subi v296 v298
  let c512_i32_159 : BitVec 32 := 512#32
  let c0_i32_162 : BitVec 32 := 0#32
  let v300 : BitVec 1 := Scalar.cmpi .sgt c512_i32_159 c0_i32_162
  let v301 : BitVec 32 := Scalar.extui v300
  let c0_i32_163 : BitVec 32 := 0#32
  let v302 : BitVec 1 := Scalar.cmpi .slt c512_i32_159 c0_i32_163
  let v303 : BitVec 32 := Scalar.extui v302
  let v304 : BitVec 32 := Scalar.subi v301 v303
  let v305 : BitVec 1 := Scalar.cmpi .ne v299 v304
  let v306 : BitVec 32 := Scalar.remsi v293 c512_i32_159
  let c0_i32_164 : BitVec 32 := 0#32
  let v307 : BitVec 1 := Scalar.cmpi .ne v306 c0_i32_164
  let v308 : BitVec 1 := Scalar.andi v305 v307
  let v294 : BitVec 32 := Scalar.divsi v293 c512_i32_159
  let c1_i32_165 : BitVec 32 := 1#32
  let v309 : BitVec 32 := Scalar.subi v294 c1_i32_165
  let v310 : BitVec 32 := Scalar.select v308 v309 v294
  let c2_i32_177 : BitVec 32 := 2#32
  let c0_i32_178 : BitVec 32 := 0#32
  let v335 : BitVec 1 := Scalar.cmpi .eq c2_i32_177 c0_i32_178
  let c1_i32_179 : BitVec 32 := 1#32
  let v336 : BitVec 32 := Scalar.select v335 c1_i32_179 c2_i32_177
  let v337 : BitVec 32 := Scalar.remsi v310 v336
  let c0_i32_181 : BitVec 32 := 0#32
  let v339 : BitVec 1 := Scalar.cmpi .slt v337 c0_i32_181
  let c0_i32_182 : BitVec 32 := 0#32
  let v340 : BitVec 1 := Scalar.cmpi .slt v336 c0_i32_182
  let v341 : BitVec 1 := Scalar.xori v339 v340
  let c0_i32_180 : BitVec 32 := 0#32
  let v338 : BitVec 1 := Scalar.cmpi .ne v337 c0_i32_180
  let v342 : BitVec 1 := Scalar.andi v341 v338
  let v343 : BitVec 32 := Scalar.addi v337 v336
  let v344 : BitVec 32 := Scalar.select v342 v343 v337
  let c1_i32_183 : BitVec 32 := 1#32
  let v345 : BitVec 1 := Scalar.cmpi .eq v344 c1_i32_183
  let v346 : BitVec 32 := Scalar.extui v345
  let c0_i32_184 : BitVec 32 := 0#32
  let v347 : BitVec 1 := Scalar.cmpi .ne v346 c0_i32_184
  v347

def k0_mult30 (i : grid0.Coords) : BitVec 32 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v21 : BitVec 32 := Scalar.subi v1 c256_i32
  let c0_i32_7 : BitVec 32 := 0#32
  let v22 : BitVec 32 := Scalar.maxsi v21 c0_i32_7
  let v23 : BitVec 32 := v22
  let c512_i32_157 : BitVec 32 := 512#32
  let v292 : BitVec 32 := Scalar.addi v23 c512_i32_157
  let c1_i32_158 : BitVec 32 := 1#32
  let v293 : BitVec 32 := Scalar.subi v292 c1_i32_158
  let c0_i32_160 : BitVec 32 := 0#32
  let v295 : BitVec 1 := Scalar.cmpi .sgt v293 c0_i32_160
  let v296 : BitVec 32 := Scalar.extui v295
  let c0_i32_161 : BitVec 32 := 0#32
  let v297 : BitVec 1 := Scalar.cmpi .slt v293 c0_i32_161
  let v298 : BitVec 32 := Scalar.extui v297
  let v299 : BitVec 32 := Scalar.subi v296 v298
  let c512_i32_159 : BitVec 32 := 512#32
  let c0_i32_162 : BitVec 32 := 0#32
  let v300 : BitVec 1 := Scalar.cmpi .sgt c512_i32_159 c0_i32_162
  let v301 : BitVec 32 := Scalar.extui v300
  let c0_i32_163 : BitVec 32 := 0#32
  let v302 : BitVec 1 := Scalar.cmpi .slt c512_i32_159 c0_i32_163
  let v303 : BitVec 32 := Scalar.extui v302
  let v304 : BitVec 32 := Scalar.subi v301 v303
  let v305 : BitVec 1 := Scalar.cmpi .ne v299 v304
  let v306 : BitVec 32 := Scalar.remsi v293 c512_i32_159
  let c0_i32_164 : BitVec 32 := 0#32
  let v307 : BitVec 1 := Scalar.cmpi .ne v306 c0_i32_164
  let v308 : BitVec 1 := Scalar.andi v305 v307
  let v294 : BitVec 32 := Scalar.divsi v293 c512_i32_159
  let c1_i32_165 : BitVec 32 := 1#32
  let v309 : BitVec 32 := Scalar.subi v294 c1_i32_165
  let v310 : BitVec 32 := Scalar.select v308 v309 v294
  let c1_i32_247 : BitVec 32 := 1#32
  let v417 : BitVec 32 := Scalar.subi v310 c1_i32_247
  let c512_i32_252 : BitVec 32 := 512#32
  let v420 : BitVec 32 := Scalar.muli v417 c512_i32_252
  v420
def k0_off103 (i : grid0.Coords) : Fin 3 → Nat :=
  let c0_253 : Index := 0#32
  let c0_254 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c256_i32 : BitVec 32 := 256#32
  let v21 : BitVec 32 := Scalar.subi v1 c256_i32
  let c0_i32_7 : BitVec 32 := 0#32
  let v22 : BitVec 32 := Scalar.maxsi v21 c0_i32_7
  let v23 : BitVec 32 := v22
  let c512_i32_157 : BitVec 32 := 512#32
  let v292 : BitVec 32 := Scalar.addi v23 c512_i32_157
  let c1_i32_158 : BitVec 32 := 1#32
  let v293 : BitVec 32 := Scalar.subi v292 c1_i32_158
  let c0_i32_160 : BitVec 32 := 0#32
  let v295 : BitVec 1 := Scalar.cmpi .sgt v293 c0_i32_160
  let v296 : BitVec 32 := Scalar.extui v295
  let c0_i32_161 : BitVec 32 := 0#32
  let v297 : BitVec 1 := Scalar.cmpi .slt v293 c0_i32_161
  let v298 : BitVec 32 := Scalar.extui v297
  let v299 : BitVec 32 := Scalar.subi v296 v298
  let c512_i32_159 : BitVec 32 := 512#32
  let c0_i32_162 : BitVec 32 := 0#32
  let v300 : BitVec 1 := Scalar.cmpi .sgt c512_i32_159 c0_i32_162
  let v301 : BitVec 32 := Scalar.extui v300
  let c0_i32_163 : BitVec 32 := 0#32
  let v302 : BitVec 1 := Scalar.cmpi .slt c512_i32_159 c0_i32_163
  let v303 : BitVec 32 := Scalar.extui v302
  let v304 : BitVec 32 := Scalar.subi v301 v303
  let v305 : BitVec 1 := Scalar.cmpi .ne v299 v304
  let v306 : BitVec 32 := Scalar.remsi v293 c512_i32_159
  let c0_i32_164 : BitVec 32 := 0#32
  let v307 : BitVec 1 := Scalar.cmpi .ne v306 c0_i32_164
  let v308 : BitVec 1 := Scalar.andi v305 v307
  let v294 : BitVec 32 := Scalar.divsi v293 c512_i32_159
  let c1_i32_165 : BitVec 32 := 1#32
  let v309 : BitVec 32 := Scalar.subi v294 c1_i32_165
  let v310 : BitVec 32 := Scalar.select v308 v309 v294
  let c1_i32_247 : BitVec 32 := 1#32
  let v417 : BitVec 32 := Scalar.subi v310 c1_i32_247
  let c512_i32_252 : BitVec 32 := 512#32
  let v420 : BitVec 32 := Scalar.muli v417 c512_i32_252
  let v421 : BitVec 32 := v420
  let v422 : Index := Scalar.indexCast v421
  ![0, 0, v422.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x144x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S8x384x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x8x64x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Kernel2.lean ====
abbrev S8x4096x1024 : Shape := ⟨3, ![8, 4096, 1024]⟩
abbrev S32768x64 : Shape := ⟨2, ![32768, 64]⟩
abbrev S8x6x1024 : Shape := ⟨3, ![8, 6, 1024]⟩
abbrev S4x64x1024x256 : Shape := ⟨4, ![4, 64, 1024, 256]⟩
abbrev S4x64x256x1024 : Shape := ⟨4, ![4, 64, 256, 1024]⟩
abbrev S4x1024x256 : Shape := ⟨3, ![4, 1024, 256]⟩
abbrev S4x256x1024 : Shape := ⟨3, ![4, 256, 1024]⟩
abbrev S4x1024 : Shape := ⟨2, ![4, 1024]⟩
abbrev S4x64x1024x512 : Shape := ⟨4, ![4, 64, 1024, 512]⟩
abbrev S4x1024x512 : Shape := ⟨3, ![4, 1024, 512]⟩
abbrev S32768x1024 : Shape := ⟨2, ![32768, 1024]⟩
abbrev S32768x128 : Shape := ⟨2, ![32768, 128]⟩
abbrev S4x1x1024 : Shape := ⟨3, ![4, 1, 1024]⟩
abbrev S1024x1024 : Shape := ⟨2, ![1024, 1024]⟩
abbrev S1024x128 : Shape := ⟨2, ![1024, 128]⟩
abbrev S1x6x1024 : Shape := ⟨3, ![1, 6, 1024]⟩
abbrev S1x4x1024x512 : Shape := ⟨4, ![1, 4, 1024, 512]⟩
abbrev S1x4x256x1024 : Shape := ⟨4, ![1, 4, 256, 1024]⟩
abbrev S1x1024x512 : Shape := ⟨3, ![1, 1024, 512]⟩
abbrev S1x256x1024 : Shape := ⟨3, ![1, 256, 1024]⟩
abbrev S1x1x1024 : Shape := ⟨3, ![1, 1, 1024]⟩
abbrev S1024x512 : Shape := ⟨2, ![1024, 512]⟩
abbrev S1024x256 : Shape := ⟨2, ![1024, 256]⟩
abbrev S256x1024 : Shape := ⟨2, ![256, 1024]⟩
abbrev S128x1024 : Shape := ⟨2, ![128, 1024]⟩
abbrev S1x1x1024x512 : Shape := ⟨4, ![1, 1, 1024, 512]⟩
abbrev S1x1024 : Shape := ⟨2, ![1, 1024]⟩
abbrev S1024 : Shape := ⟨1, ![1024]⟩
abbrev S1024x1 : Shape := ⟨2, ![1024, 1]⟩

abbrev nBuf : Space → Nat
  | .hbm => 29
  | .vmem => 19
  | .smem => 0
  | _ => 0

abbrev bufTy : (tb : Table) → Fin (tcTables nBuf tb) → BufTy
  | .hbm, ⟨0, _⟩ => ⟨S8x4096x1024, .f32⟩
  | .hbm, ⟨1, _⟩ => ⟨S32768x64, .f32⟩
  | .hbm, ⟨2, _⟩ => ⟨S8x4096x1024, .f32⟩
  | .hbm, ⟨3, _⟩ => ⟨S8x6x1024, .f32⟩
  | .hbm, ⟨4, _⟩ => ⟨S4x64x1024x256, .f32⟩
  | .hbm, ⟨5, _⟩ => ⟨S4x64x1024x256, .f32⟩
  | .hbm, ⟨6, _⟩ => ⟨S4x64x256x1024, .f32⟩
  | .hbm, ⟨7, _⟩ => ⟨S4x1024x256, .f32⟩
  | .hbm, ⟨8, _⟩ => ⟨S4x1024x256, .f32⟩
  | .hbm, ⟨9, _⟩ => ⟨S4x256x1024, .f32⟩
  | .hbm, ⟨10, _⟩ => ⟨S4x1024, .f32⟩
  | .hbm, ⟨11, _⟩ => ⟨S4x1024, .f32⟩
  | .hbm, ⟨12, _⟩ => ⟨S32768x64, .bf16⟩
  | .hbm, ⟨13, _⟩ => ⟨S32768x64, .f32⟩
  | .hbm, ⟨14, _⟩ => ⟨S32768x64, .f32⟩
  | .hbm, ⟨15, _⟩ => ⟨S32768x64, .bf16⟩
  | .hbm, ⟨16, _⟩ => ⟨S4x64x1024x512, .f32⟩
  | .hbm, ⟨17, _⟩ => ⟨S4x64x1024x512, .bf16⟩
  | .hbm, ⟨18, _⟩ => ⟨S4x64x256x1024, .bf16⟩
  | .hbm, ⟨19, _⟩ => ⟨S4x1024x512, .f32⟩
  | .hbm, ⟨20, _⟩ => ⟨S4x1024x512, .bf16⟩
  | .hbm, ⟨21, _⟩ => ⟨S4x256x1024, .bf16⟩
  | .hbm, ⟨22, _⟩ => ⟨S8x4096x1024, .bf16⟩
  | .hbm, ⟨23, _⟩ => ⟨S32768x1024, .bf16⟩
  | .hbm, ⟨24, _⟩ => ⟨S32768x128, .bf16⟩
  | .hbm, ⟨25, _⟩ => ⟨S32768x1024, .f32⟩
  | .hbm, ⟨26, _⟩ => ⟨S4x1x1024, .f32⟩
  | .hbm, ⟨27, _⟩ => ⟨S4x1x1024, .f32⟩
  | .hbm, ⟨28, _⟩ => ⟨S32768x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .bf16⟩
  | .local _ .vmem, ⟨4, _⟩ => ⟨S1024x1024, .f32⟩
  | .local _ .vmem, ⟨5, _⟩ => ⟨S1024x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x4x1024x512, .bf16⟩
  | .local _ .vmem, ⟨9, _⟩ => ⟨S1x4x1024x512, .bf16⟩
  | .local _ .vmem, ⟨10, _⟩ => ⟨S1x4x256x1024, .bf16⟩
  | .local _ .vmem, ⟨11, _⟩ => ⟨S1x4x256x1024, .bf16⟩
  | .local _ .vmem, ⟨12, _⟩ => ⟨S1x1024x512, .bf16⟩
  | .local _ .vmem, ⟨13, _⟩ => ⟨S1x256x1024, .bf16⟩
  | .local _ .vmem, ⟨14, _⟩ => ⟨S1x1x1024, .f32⟩
  | .local _ .vmem, ⟨15, _⟩ => ⟨S1x1x1024, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![32, 16], ![false, false]⟩

def k0_cond2 (i : grid0.Coords) : BitVec 1 :=
  let arg1 : BitVec 32 := BitVec.ofNat 32 (i 1).val
  let c15_i32 : BitVec 32 := 15#32
  let v122 : BitVec 1 := Scalar.cmpi .eq arg1 c15_i32
  let v123 : BitVec 32 := Scalar.extui v122
  let c0_i32_49 : BitVec 32 := 0#32
  let v124 : BitVec 1 := Scalar.cmpi .ne v123 c0_i32_49
  v124

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x4x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference2Ideal.lean ====
abbrev S8x4096x1024 : Shape := ⟨3, ![8, 4096, 1024]⟩
abbrev S32768x64 : Shape := ⟨2, ![32768, 64]⟩
abbrev S8x6x1024 : Shape := ⟨3, ![8, 6, 1024]⟩
abbrev S4x64x1024x256 : Shape := ⟨4, ![4, 64, 1024, 256]⟩
abbrev S4x64x256x1024 : Shape := ⟨4, ![4, 64, 256, 1024]⟩
abbrev S4x1024x256 : Shape := ⟨3, ![4, 1024, 256]⟩
abbrev S4x256x1024 : Shape := ⟨3, ![4, 256, 1024]⟩
abbrev S4x1024 : Shape := ⟨2, ![4, 1024]⟩
abbrev S8x1x1024 : Shape := ⟨3, ![8, 1, 1024]⟩
abbrev S8x1024 : Shape := ⟨2, ![8, 1024]⟩
abbrev S32768x1024 : Shape := ⟨2, ![32768, 1024]⟩
abbrev S1x64x1024x256 : Shape := ⟨4, ![1, 64, 1024, 256]⟩
abbrev S64x1024x256 : Shape := ⟨3, ![64, 1024, 256]⟩
abbrev S32768x64x256 : Shape := ⟨3, ![32768, 64, 256]⟩
abbrev S_ : Shape := ⟨0, ![]⟩
abbrev S32768x64x1 : Shape := ⟨3, ![32768, 64, 1]⟩
abbrev S1x64x256x1024 : Shape := ⟨4, ![1, 64, 256, 1024]⟩
abbrev S64x256x1024 : Shape := ⟨3, ![64, 256, 1024]⟩
abbrev S1x1024x256 : Shape := ⟨3, ![1, 1024, 256]⟩
abbrev S1024x256 : Shape := ⟨2, ![1024, 256]⟩
abbrev S32768x256 : Shape := ⟨2, ![32768, 256]⟩
abbrev S1x256x1024 : Shape := ⟨3, ![1, 256, 1024]⟩
abbrev S256x1024 : Shape := ⟨2, ![256, 1024]⟩
abbrev S1x1024 : Shape := ⟨2, ![1, 1024]⟩
abbrev S1024 : Shape := ⟨1, ![1024]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 102
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S32768x64, .f32⟩
  | .hbm, ⟨2, _⟩ => ⟨S8x4096x1024, .f32⟩
  | .hbm, ⟨3, _⟩ => ⟨S8x6x1024, .f32⟩
  | .hbm, ⟨4, _⟩ => ⟨S4x64x1024x256, .f32⟩
  | .hbm, ⟨5, _⟩ => ⟨S4x64x1024x256, .f32⟩
  | .hbm, ⟨6, _⟩ => ⟨S4x64x256x1024, .f32⟩
  | .hbm, ⟨7, _⟩ => ⟨S4x1024x256, .f32⟩
  | .hbm, ⟨8, _⟩ => ⟨S4x1024x256, .f32⟩
  | .hbm, ⟨9, _⟩ => ⟨S4x256x1024, .f32⟩
  | .hbm, ⟨10, _⟩ => ⟨S4x1024, .f32⟩
  | .hbm, ⟨11, _⟩ => ⟨S4x1024, .f32⟩
  | .hbm, ⟨12, _⟩ => ⟨S8x1x1024, .f32⟩
  | .hbm, ⟨13, _⟩ => ⟨S8x1024, .f32⟩
  | .hbm, ⟨14, _⟩ => ⟨S32768x1024, .f32⟩
  | .hbm, ⟨15, _⟩ => ⟨S1x64x1024x256, .f32⟩
  | .hbm, ⟨16, _⟩ => ⟨S64x1024x256, .f32⟩
  | .hbm, ⟨17, _⟩ => ⟨S32768x64x256, .f32⟩
  | .hbm, ⟨18, _⟩ => ⟨S32768x64x256, .f32⟩
  | .hbm, ⟨19, _⟩ => ⟨S32768x64x256, .f32⟩
  | .hbm, ⟨20, _⟩ => ⟨S_, .f32⟩
  | .hbm, ⟨21, _⟩ => ⟨S32768x64x256, .f32⟩
  | .hbm, ⟨22, _⟩ => ⟨S32768x64x256, .f32⟩
  | .hbm, ⟨23, _⟩ => ⟨S_, .f32⟩
  | .hbm, ⟨24, _⟩ => ⟨S32768x64x256, .f32⟩
  | .hbm, ⟨25, _⟩ => ⟨S32768x64x256, .f32⟩
  | .hbm, ⟨26, _⟩ => ⟨S32768x64x256, .f32⟩
  | .hbm, ⟨27, _⟩ => ⟨S1x64x1024x256, .f32⟩
  | .hbm, ⟨28, _⟩ => ⟨S64x1024x256, .f32⟩
  | .hbm, ⟨29, _⟩ => ⟨S32768x64x256, .f32⟩
  | .hbm, ⟨30, _⟩ => ⟨S32768x64x256, .f32⟩
  | .hbm, ⟨31, _⟩ => ⟨S32768x64x1, .f32⟩
  | .hbm, ⟨32, _⟩ => ⟨S32768x64x256, .f32⟩
  | .hbm, ⟨33, _⟩ => ⟨S32768x64x256, .f32⟩
  | .hbm, ⟨34, _⟩ => ⟨S1x64x256x1024, .f32⟩
  | .hbm, ⟨35, _⟩ => ⟨S64x256x1024, .f32⟩
  | .hbm, ⟨36, _⟩ => ⟨S32768x1024, .f32⟩
  | .hbm, ⟨37, _⟩ => ⟨S1x1024x256, .f32⟩
  | .hbm, ⟨38, _⟩ => ⟨S1024x256, .f32⟩
  | .hbm, ⟨39, _⟩ => ⟨S32768x256, .f32⟩
  | .hbm, ⟨40, _⟩ => ⟨S32768x256, .f32⟩
  | .hbm, ⟨41, _⟩ => ⟨S32768x256, .f32⟩
  | .hbm, ⟨42, _⟩ => ⟨S_, .f32⟩
  | .hbm, ⟨43, _⟩ => ⟨S32768x256, .f32⟩
  | .hbm, ⟨44, _⟩ => ⟨S32768x256, .f32⟩
  | .hbm, ⟨45, _⟩ => ⟨S_, .f32⟩
  | .hbm, ⟨46, _⟩ => ⟨S32768x256, .f32⟩
  | .hbm, ⟨47, _⟩ => ⟨S32768x256, .f32⟩
  | .hbm, ⟨48, _⟩ => ⟨S32768x256, .f32⟩
  | .hbm, ⟨49, _⟩ => ⟨S1x1024x256, .f32⟩
  | .hbm, ⟨50, _⟩ => ⟨S1024x256, .f32⟩
  | .hbm, ⟨51, _⟩ => ⟨S32768x256, .f32⟩
  | .hbm, ⟨52, _⟩ => ⟨S32768x256, .f32⟩
  | .hbm, ⟨53, _⟩ => ⟨S1x256x1024, .f32⟩
  | .hbm, ⟨54, _⟩ => ⟨S256x1024, .f32⟩
  | .hbm, ⟨55, _⟩ => ⟨S32768x1024, .f32⟩
  | .hbm, ⟨56, _⟩ => ⟨S32768x1024, .f32⟩
  | .hbm, ⟨57, _⟩ => ⟨S8x4096x1024, .f32⟩
  | .hbm, ⟨58, _⟩ => ⟨S_, .f32⟩
  | .hbm, ⟨59, _⟩ => ⟨S8x4096x1024, .f32⟩
  | .hbm, ⟨60, _⟩ => ⟨S8x4096x1024, .f32⟩
  | .hbm, ⟨61, _⟩ => ⟨S8x1x1024, .f32⟩
  | .hbm, ⟨62, _⟩ => ⟨S_, .f32⟩
  | .hbm, ⟨63, _⟩ => ⟨S8x1x1024, .f32⟩
  | .hbm, ⟨64, _⟩ => ⟨S8x1x1024, .f32⟩
  | .hbm, ⟨65, _⟩ => ⟨S8x4096x1024, .f32⟩
  | .hbm, ⟨66, _⟩ => ⟨S8x4096x1024, .f32⟩
  | .hbm, ⟨67, _⟩ => ⟨S8x4096x1024, .f32⟩
  | .hbm, ⟨68, _⟩ => ⟨S1x1024, .f32⟩
  | .hbm, ⟨69, _⟩ => ⟨S1024, .f32⟩
  | .hbm, ⟨70, _⟩ => ⟨S1x1024, .f32⟩
  | .hbm, ⟨71, _⟩ => ⟨S1024, .f32⟩
  | .hbm, ⟨72, _⟩ => ⟨S_, .f32⟩
  | .hbm, ⟨73, _⟩ => ⟨S8x4096, .f32⟩
  | .hbm, ⟨74, _⟩ => ⟨S8x4096x1, .f32⟩
  | .hbm, ⟨75, _⟩ => ⟨S_, .f32⟩
  | .hbm, ⟨76, _⟩ => ⟨S8x4096x1, .f32⟩
  | .hbm, ⟨77, _⟩ => ⟨S8x4096x1, .f32⟩
  | .hbm, ⟨78, _⟩ => ⟨S8x4096x1024, .f32⟩
  | .hbm, ⟨79, _⟩ => ⟨S8x4096x1024, .f32⟩
  | .hbm, ⟨80, _⟩ => ⟨S8x4096x1024, .f32⟩
  | .hbm, ⟨81, _⟩ => ⟨S_, .f32⟩
  | .hbm, ⟨82, _⟩ => ⟨S8x4096, .f32⟩
  | .hbm, ⟨83, _⟩ => ⟨S8x4096x1, .f32⟩
  | .hbm, ⟨84, _⟩ => ⟨S_, .f32⟩
  | .hbm, ⟨85, _⟩ => ⟨S8x4096x1, .f32⟩
  | .hbm, ⟨86, _⟩ => ⟨S8x4096x1, .f32⟩
  | .hbm, ⟨87, _⟩ => ⟨S8x4096x1024, .f32⟩
  | .hbm, ⟨88, _⟩ => ⟨S8x4096x1024, .f32⟩
  | .hbm, ⟨89, _⟩ => ⟨S_, .f32⟩
  | .hbm, ⟨90, _⟩ => ⟨S8x4096x1, .f32⟩
  | .hbm, ⟨91, _⟩ => ⟨S8x4096x1, .f32⟩
  | .hbm, ⟨92, _⟩ => ⟨S8x4096x1, .f32⟩
  | .hbm, ⟨93, _⟩ => ⟨S8x4096x1024, .f32⟩
  | .hbm, ⟨94, _⟩ => ⟨S8x4096x1024, .f32⟩
  | .hbm, ⟨95, _⟩ => ⟨S1x1x1024, .f32⟩
  | .hbm, ⟨96, _⟩ => ⟨S8x4096x1024, .f32⟩
  | .hbm, ⟨97, _⟩ => ⟨S8x4096x1024, .f32⟩
  | .hbm, ⟨98, _⟩ => ⟨S1x1x1024, .f32⟩
  | .hbm, ⟨99, _⟩ => ⟨S8x4096x1024, .f32⟩
  | .hbm, ⟨100, _⟩ => ⟨S8x4096x1024, .f32⟩
  | .hbm, ⟨101, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_call1_v0 : Ref sig .tc := ⟨.hbm, 40, rfl⟩
abbrev main_call1_v1 : Ref sig .tc := ⟨.hbm, 41, rfl⟩
abbrev main_call1_cst : Ref sig .tc := ⟨.hbm, 42, rfl⟩
abbrev main_call1_v2 : Ref sig .tc := ⟨.hbm, 43, rfl⟩
abbrev main_call1_v3 : Ref sig .tc := ⟨.hbm, 44, rfl⟩
abbrev main_call1_cst_0 : Ref sig .tc := ⟨.hbm, 45, rfl⟩
abbrev main_call1_v4 : Ref sig .tc := ⟨.hbm, 46, rfl⟩
abbrev main_call1_v5 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_cst : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_cst_0 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_1 : Ref sig .tc := ⟨.hbm, 72, rfl⟩
abbrev main_v42 : Ref sig .tc := ⟨.hbm, 73, rfl⟩
abbrev main_v43 : Ref sig .tc := ⟨.hbm, 74, rfl⟩
abbrev main_cst_2 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_3 : Ref sig .tc := ⟨.hbm, 81, rfl⟩
abbrev main_v49 : Ref sig .tc := ⟨.hbm, 82, rfl⟩
abbrev main_v50 : Ref sig .tc := ⟨.hbm, 83, rfl⟩
abbrev main_cst_4 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_5 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x6x1024 : Shape := ⟨3, ![8, 6, 1024]⟩
abbrev S4x1024x3272 : Shape := ⟨3, ![4, 1024, 3272]⟩
abbrev S4x128 : Shape := ⟨2, ![4, 128]⟩
abbrev S4x8x64x128 : Shape := ⟨4, ![4, 8, 64, 128]⟩
abbrev S4x512 : Shape := ⟨2, ![4, 512]⟩
abbrev S4x1024x512 : Shape := ⟨3, ![4, 1024, 512]⟩
abbrev S4x1024x128 : Shape := ⟨3, ![4, 1024, 128]⟩
abbrev S4x1024x64 : Shape := ⟨3, ![4, 1024, 64]⟩
abbrev S4x1024x8 : Shape := ⟨3, ![4, 1024, 8]⟩
abbrev S_ : Shape := ⟨0, ![]⟩
abbrev S4x1024x2432 : Shape := ⟨3, ![4, 1024, 2432]⟩
abbrev S4x1024x1160 : Shape := ⟨3, ![4, 1024, 1160]⟩
abbrev S4x1160x1024 : Shape := ⟨3, ![4, 1160, 1024]⟩
abbrev S8x8 : Shape := ⟨2, ![8, 8]⟩
abbrev S4x8x64x1x128 : Shape := ⟨5, ![4, 8, 64, 1, 128]⟩
abbrev S1x8x1x8x1 : Shape := ⟨5, ![1, 8, 1, 8, 1]⟩
abbrev S4x8x64x8x128 : Shape := ⟨5, ![4, 8, 64, 8, 128]⟩
abbrev S4x512x1024 : Shape := ⟨3, ![4, 512, 1024]⟩
abbrev S4x1x128 : Shape := ⟨3, ![4, 1, 128]⟩
abbrev S4x128x1 : Shape := ⟨3, ![4, 128, 1]⟩
abbrev S4x128x1024 : Shape := ⟨3, ![4, 128, 1024]⟩
abbrev S4x1x512 : Shape := ⟨3, ![4, 1, 512]⟩
abbrev S8x1024x4096 : Shape := ⟨3, ![8, 1024, 4096]⟩
abbrev S8x4096x128 : Shape := ⟨3, ![8, 4096, 128]⟩
abbrev S8x144x4096 : Shape := ⟨3, ![8, 144, 4096]⟩
abbrev S8x512x4096 : Shape := ⟨3, ![8, 512, 4096]⟩
abbrev S8x8x4096 : Shape := ⟨3, ![8, 8, 4096]⟩
abbrev S8x4096x512 : Shape := ⟨3, ![8, 4096, 512]⟩
abbrev S1x1024x1024 : Shape := ⟨3, ![1, 1024, 1024]⟩
abbrev S1x6x1024 : Shape := ⟨3, ![1, 6, 1024]⟩
abbrev S1x1024x2432 : Shape := ⟨3, ![1, 1024, 2432]⟩
abbrev S1x1160x1024 : Shape := ⟨3, ![1, 1160, 1024]⟩
abbrev S1x1024x512 : Shape := ⟨3, ![1, 1024, 512]⟩
abbrev S1x1x128 : Shape := ⟨3, ![1, 1, 128]⟩
abbrev S1x128x1024 : Shape := ⟨3, ![1, 128, 1024]⟩
abbrev S1x1x512 : Shape := ⟨3, ![1, 1, 512]⟩
abbrev S1x1024x128 : Shape := ⟨3, ![1, 1024, 128]⟩
abbrev S1x144x1024 : Shape := ⟨3, ![1, 144, 1024]⟩
abbrev S1x512x1024 : Shape := ⟨3, ![1, 512, 1024]⟩
abbrev S1x8x1024 : Shape := ⟨3, ![1, 8, 1024]⟩
abbrev S1024x1024 : Shape := ⟨2, ![1024, 1024]⟩
abbrev S1x1x1024 : Shape := ⟨3, ![1, 1, 1024]⟩
abbrev S1x1024 : Shape := ⟨2, ![1, 1024]⟩
abbrev S1024x2432 : Shape := ⟨2, ![1024, 2432]⟩
abbrev S1160x1024 : Shape := ⟨2, ![1160, 1024]⟩
abbrev S1024x512 : Shape := ⟨2, ![1024, 512]⟩
abbrev S512x1024 : Shape := ⟨2, ![512, 1024]⟩
abbrev S1024x128 : Shape := ⟨2, ![1024, 128]⟩
abbrev S1024 : Shape := ⟨1, ![1024]⟩
abbrev S1024x1 : Shape := ⟨2, ![1024, 1]⟩
abbrev S1x128 : Shape := ⟨2, ![1, 128]⟩
abbrev S128x1024 : Shape := ⟨2, ![128, 1024]⟩
abbrev S16x1024 : Shape := ⟨2, ![16, 1024]⟩
abbrev S1x16x1024 : Shape := ⟨3, ![1, 16, 1024]⟩
abbrev S8x1024 : Shape := ⟨2, ![8, 1024]⟩
abbrev S1x512 : Shape := ⟨2, ![1, 512]⟩

abbrev nBuf : Space → Nat
  | .hbm => 60
  | .vmem => 35
  | .smem => 0
  | _ => 0

abbrev bufTy : (tb : Table) → Fin (tcTables nBuf tb) → BufTy
  | .hbm, ⟨0, _⟩ => ⟨S8x4096x1024, .f32⟩
  | .hbm, ⟨1, _⟩ => ⟨S8x6x1024, .f32⟩
  | .hbm, ⟨2, _⟩ => ⟨S4x1024x3272, .f32⟩
  | .hbm, ⟨3, _⟩ => ⟨S4x128, .f32⟩
  | .hbm, ⟨4, _⟩ => ⟨S4x8x64x128, .f32⟩
  | .hbm, ⟨5, _⟩ => ⟨S4x512, .f32⟩
  | .hbm, ⟨6, _⟩ => ⟨S4x1024x512, .f32⟩
  | .hbm, ⟨7, _⟩ => ⟨S4x1024x128, .f32⟩
  | .hbm, ⟨8, _⟩ => ⟨S4x1024x512, .f32⟩
  | .hbm, ⟨9, _⟩ => ⟨S4x1024x64, .f32⟩
  | .hbm, ⟨10, _⟩ => ⟨S4x1024x8, .f32⟩
  | .hbm, ⟨11, _⟩ => ⟨S4x1024x512, .f32⟩
  | .hbm, ⟨12, _⟩ => ⟨S4x1024x512, .f32⟩
  | .hbm, ⟨13, _⟩ => ⟨S4x1024x512, .f32⟩
  | .hbm, ⟨14, _⟩ => ⟨S4x1024x512, .f32⟩
  | .hbm, ⟨15, _⟩ => ⟨S_, .f32⟩
  | .hbm, ⟨16, _⟩ => ⟨S4x1024x64, .f32⟩
  | .hbm, ⟨17, _⟩ => ⟨S4x1024x2432, .f32⟩
  | .hbm, ⟨18, _⟩ => ⟨S4x1024x2432, .bf16⟩
  | .hbm, ⟨19, _⟩ => ⟨S4x1024x1160, .f32⟩
  | .hbm, ⟨20, _⟩ => ⟨S4x1160x1024, .f32⟩
  | .hbm, ⟨21, _⟩ => ⟨S4x1160x1024, .bf16⟩
  | .hbm, ⟨22, _⟩ => ⟨S8x8, .i32⟩
  | .hbm, ⟨23, _⟩ => ⟨S8x8, .i32⟩
  | .hbm, ⟨24, _⟩ => ⟨S_, .i32⟩
  | .hbm, ⟨25, _⟩ => ⟨S8x8, .i32⟩
  | .hbm, ⟨26, _⟩ => ⟨S8x8, .i32⟩
  | .hbm, ⟨27, _⟩ => ⟨S8x8, .i1⟩
  | .hbm, ⟨28, _⟩ => ⟨S8x8, .f32⟩
  | .hbm, ⟨29, _⟩ => ⟨S_, .f32⟩
  | .hbm, ⟨30, _⟩ => ⟨S4x8x64x128, .f32⟩
  | .hbm, ⟨31, _⟩ => ⟨S4x8x64x128, .f32⟩
  | .hbm, ⟨32, _⟩ => ⟨S4x8x64x1x128, .f32⟩
  | .hbm, ⟨33, _⟩ => ⟨S1x8x1x8x1, .f32⟩
  | .hbm, ⟨34, _⟩ => ⟨S4x8x64x8x128, .f32⟩
  | .hbm, ⟨35, _⟩ => ⟨S4x8x64x8x128, .f32⟩
  | .hbm, ⟨36, _⟩ => ⟨S4x8x64x8x128, .f32⟩
  | .hbm, ⟨37, _⟩ => ⟨S4x512x1024, .f32⟩
  | .hbm, ⟨38, _⟩ => ⟨S4x512x1024, .bf16⟩
  | .hbm, ⟨39, _⟩ => ⟨S4x1024x512, .bf16⟩
  | .hbm, ⟨40, _⟩ => ⟨S4x1x128, .f32⟩
  | .hbm, ⟨41, _⟩ => ⟨S4x128x1, .f32⟩
  | .hbm, ⟨42, _⟩ => ⟨S4x128x1024, .f32⟩
  | .hbm, ⟨43, _⟩ => ⟨S4x512, .f32⟩
  | .hbm, ⟨44, _⟩ => ⟨S4x1x512, .f32⟩
  | .hbm, ⟨45, _⟩ => ⟨S4x512, .f32⟩
  | .hbm, ⟨46, _⟩ => ⟨S4x512, .f32⟩
  | .hbm, ⟨47, _⟩ => ⟨S4x1x512, .f32⟩
  | .hbm, ⟨48, _⟩ => ⟨S8x1024x4096, .bf16⟩
  | .hbm, ⟨49, _⟩ => ⟨S8x4096x128, .bf16⟩
  | .hbm, ⟨50, _⟩ => ⟨S8x144x4096, .bf16⟩
  | .hbm, ⟨51, _⟩ => ⟨S8x512x4096, .bf16⟩
  | .hbm, ⟨52, _⟩ => ⟨S8x4096x128, .bf16⟩
  | .hbm, ⟨53, _⟩ => ⟨S8x4096x128, .bf16⟩
  | .hbm, ⟨54, _⟩ => ⟨S8x8x4096, .f32⟩
  | .hbm, ⟨55, _⟩ => ⟨S8x4096x512, .f32⟩
  | .hbm, ⟨56, _⟩ => ⟨S8x4096x512, .f32⟩
  | .hbm, ⟨57, _⟩ => ⟨S8x4096x512, .f32⟩
  | .hbm, ⟨58, _⟩ => ⟨S8x4096x512, .bf16⟩
  | .hbm, ⟨59, _⟩ => ⟨S8x4096x512, .f32⟩
  | .local _ .vmem, ⟨0, _⟩ => ⟨S1x1024x1024, .f32⟩
  | .local _ .vmem, ⟨1, _⟩ => ⟨S1x1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024x2432, .bf16⟩
  | .local _ .vmem, ⟨5, _⟩ => ⟨S1x1160x1024, .bf16⟩
  | .local _ .vmem, ⟨6, _⟩ => ⟨S1x1024x512, .bf16⟩
  | .local _ .vmem, ⟨7, _⟩ => ⟨S1x1x128, .f32⟩
  | .local _ .vmem, ⟨8, _⟩ => ⟨S1x128x1024, .f32⟩
  | .local _ .vmem, ⟨9, _⟩ => ⟨S1x1x512, .f32⟩
  | .local _ .vmem, ⟨10, _⟩ => ⟨S1x1x512, .f32⟩
  | .local _ .vmem, ⟨11, _⟩ => ⟨S1x1024x1024, .bf16⟩
  | .local _ .vmem, ⟨12, _⟩ => ⟨S1x1024x1024, .bf16⟩
  | .local _ .vmem, ⟨13, _⟩ => ⟨S1x1024x128, .bf16⟩
  | .local _ .vmem, ⟨14, _⟩ => ⟨S1x1024x128, .bf16⟩
  | .local _ .vmem, ⟨15, _⟩ => ⟨S1x144x1024, .bf16⟩
  | .local _ .vmem, ⟨16, _⟩ => ⟨S1x144x1024, .bf16⟩
  | .local _ .vmem, ⟨17, _⟩ => ⟨S1x512x1024, .bf16⟩
  | .local _ .vmem, ⟨18, _⟩ => ⟨S1x512x1024, .bf16⟩
  | .local _ .vmem, ⟨19, _⟩ => ⟨S1x1024x128, .bf16⟩
  | .local _ .vmem, ⟨20, _⟩ => ⟨S1x1024x128, .bf16⟩
  | .local _ .vmem, ⟨21, _⟩ => ⟨S1x1024x128, .bf16⟩
  | .local _ .vmem, ⟨22, _⟩ => ⟨S1x1024x128, .bf16⟩
  | .local _ .vmem, ⟨23, _⟩ => ⟨S1x8x1024, .f32⟩
  | .local _ .vmem, ⟨24, _⟩ => ⟨S1x8x1024, .f32⟩
  | .local _ .vmem, ⟨25, _⟩ => ⟨S1x1024x512, .f32⟩
  | .local _ .vmem, ⟨26, _⟩ => ⟨S1x1024x512, .f32⟩
  | .local _ .vmem, ⟨27, _⟩ => ⟨S1x1024x512, .f32⟩
  | .local _ .vmem, ⟨28, _⟩ => ⟨S1x1024x512, .f32⟩
  | .local _ .vmem, ⟨29, _⟩ => ⟨S1x1024x512, .f32⟩
  | .local _ .vmem, ⟨30, _⟩ => ⟨S1x1024x512, .f32⟩
  | .local _ .vmem, ⟨31, _⟩ => ⟨S1x1024x512, .bf16⟩
  | .local _ .vmem, ⟨32, _⟩ => ⟨S1x1024x512, .bf16⟩
  | .local _ .vmem, ⟨33, _⟩ => ⟨S1x1024x512, .f32⟩
  | .local _ .vmem, ⟨34, _⟩ => ⟨S1x1024x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39_0 : Ref sig .tc := ⟨.hbm, 48, rfl⟩
abbrev main_v39_1 : Ref sig .tc := ⟨.hbm, 49, rfl⟩
abbrev main_v39_2 : Ref sig .tc := ⟨.hbm, 50, rfl⟩
abbrev main_v39_3 : Ref sig .tc := ⟨.hbm, 51, rfl⟩
abbrev main_v39_4 : Ref sig .tc := ⟨.hbm, 52, rfl⟩
abbrev main_v39_5 : Ref sig .tc := ⟨.hbm, 53, rfl⟩
abbrev main_v39_6 : Ref sig .tc := ⟨.hbm, 54, rfl⟩
abbrev main_v39_7 : Ref sig .tc := ⟨.hbm, 55, rfl⟩
abbrev main_v39_8 : Ref sig .tc := ⟨.hbm, 56, rfl⟩
abbrev main_v39_9 : Ref sig .tc := ⟨.hbm, 57, rfl⟩
abbrev main_v39_10 : Ref sig .tc := ⟨.hbm, 58, rfl⟩
abbrev main_v39_11 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024x2432 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1160x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x144x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x8x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1024x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1024x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1024x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x1024x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== Reference3Ideal.lean ====
abbrev S8x4096x1024 : Shape := ⟨3, ![8, 4096, 1024]⟩
abbrev S8x6x1024 : Shape := ⟨3, ![8, 6, 1024]⟩
abbrev S4x1024x3272 : Shape := ⟨3, ![4, 1024, 3272]⟩
abbrev S4x128 : Shape := ⟨2, ![4, 128]⟩
abbrev S4x8x64x128 : Shape := ⟨4, ![4, 8, 64, 128]⟩
abbrev S4x512 : Shape := ⟨2, ![4, 512]⟩
abbrev S1x512 : Shape := ⟨2, ![1, 512]⟩
abbrev S512 : Shape := ⟨1, ![512]⟩
abbrev S8x1x1024 : Shape := ⟨3, ![8, 1, 1024]⟩
abbrev S8x1024 : Shape := ⟨2, ![8, 1024]⟩
abbrev S_ : Shape := ⟨0, ![]⟩
abbrev S1x1024x3272 : Shape := ⟨3, ![1, 1024, 3272]⟩
abbrev S1024x3272 : Shape := ⟨2, ![1024, 3272]⟩
abbrev S8x4096x3272 : Shape := ⟨3, ![8, 4096, 3272]⟩
abbrev S8x4096x512 : Shape := ⟨3, ![8, 4096, 512]⟩
abbrev S8x4096x128 : Shape := ⟨3, ![8, 4096, 128]⟩
abbrev S8x4096x64 : Shape := ⟨3, ![8, 4096, 64]⟩
abbrev S8x4096x8 : Shape := ⟨3, ![8, 4096, 8]⟩
abbrev S8x4096x8x64 : Shape := ⟨4, ![8, 4096, 8, 64]⟩
abbrev S1x8x64x128 : Shape := ⟨4, ![1, 8, 64, 128]⟩
abbrev S8x64x128 : Shape := ⟨3, ![8, 64, 128]⟩
abbrev S8x128x8x4096 : Shape := ⟨4, ![8, 128, 8, 4096]⟩
abbrev S8x4096x8x128 : Shape := ⟨4, ![8, 4096, 8, 128]⟩
abbrev S1x128 : Shape := ⟨2, ![1, 128]⟩
abbrev S128 : Shape := ⟨1, ![128]⟩
abbrev S8x4096 : Shape := ⟨2, ![8, 4096]⟩
abbrev S8x4096x1 : Shape := ⟨3, ![8, 4096, 1]⟩
abbrev S1x1x128 : Shape := ⟨3, ![1, 1, 128]⟩
abbrev S1x1x512 : Shape := ⟨3, ![1, 1, 512]⟩
abbrev S8x1024x4096 : Shape := ⟨3, ![8, 1024, 4096]⟩
abbrev S8x128x4096 : Shape := ⟨3, ![8, 128, 4096]⟩
abbrev S8x16x4096 : Shape := ⟨3, ![8, 16, 4096]⟩
abbrev S8x144x4096 : Shape := ⟨3, ![8, 144, 4096]⟩
abbrev S8x512x4096 : Shape := ⟨3, ![8, 512, 4096]⟩
abbrev S8x8x4096 : Shape := ⟨3, ![8, 8, 4096]⟩

abbrev nBuf : Space → Nat
  | .hbm => 139
  | .vmem => 0
  | .smem => 0
  | _ => 0

abbrev hbmTy0_0 (i : Nat) : BufTy := match i % 128 with
  | 0 => ⟨S8x4096x1024, .f32⟩
  | 1 => ⟨S8x6x1024, .f32⟩
  | 2 => ⟨S4x1024x3272, .f32⟩
  | 3 => ⟨S4x128, .f32⟩
  | 4 => ⟨S4x8x64x128, .f32⟩
  | 5 => ⟨S4x512, .f32⟩
  | 6 => ⟨S1x512, .f32⟩
  | 7 => ⟨S512, .f32⟩
  | 8 => ⟨S8x1x1024, .f32⟩
  | 9 => ⟨S8x1024, .f32⟩
  | 10 => ⟨S8x1x1024, .f32⟩
  | 11 => ⟨S_, .f32⟩
  | 12 => ⟨S8x1x1024, .f32⟩
  | 13 => ⟨S8x1x1024, .f32⟩
  | 14 => ⟨S8x4096x1024, .f32⟩
  | 15 => ⟨S8x4096x1024, .f32⟩
  | 16 => ⟨S8x1x1024, .f32⟩
  | 17 => ⟨S8x1024, .f32⟩
  | 18 => ⟨S8x1x1024, .f32⟩
  | 19 => ⟨S8x4096x1024, .f32⟩
  | 20 => ⟨S8x4096x1024, .f32⟩
  | 21 => ⟨S1x1024x3272, .f32⟩
  | 22 => ⟨S1024x3272, .f32⟩
  | 23 => ⟨S8x4096x3272, .f32⟩
  | 24 => ⟨S8x4096x512, .f32⟩
  | 25 => ⟨S8x4096x128, .f32⟩
  | 26 => ⟨S8x4096x512, .f32⟩
  | 27 => ⟨S8x4096x64, .f32⟩
  | 28 => ⟨S8x4096x8, .f32⟩
  | 29 => ⟨S8x4096x512, .f32⟩
  | 30 => ⟨S8x4096x512, .f32⟩
  | 31 => ⟨S8x4096x512, .f32⟩
  | 32 => ⟨S8x4096x512, .f32⟩
  | 33 => ⟨S8x4096x8x64, .f32⟩
  | 34 => ⟨S1x8x64x128, .f32⟩
  | 35 => ⟨S8x64x128, .f32⟩
  | 36 => ⟨S8x128x8x4096, .f32⟩
  | 37 => ⟨S8x4096x8x128, .f32⟩
  | 38 => ⟨S_, .f32⟩
  | 39 => ⟨S8x4096x8x128, .f32⟩
  | 40 => ⟨S8x4096x8x128, .f32⟩
  | 41 => ⟨S1x128, .f32⟩
  | 42 => ⟨S128, .f32⟩
  | 43 => ⟨S8x4096x128, .f32⟩
  | 44 => ⟨S_, .f32⟩
  | 45 => ⟨S8x4096, .f32⟩
  | 46 => ⟨S8x4096x1, .f32⟩
  | 47 => ⟨S_, .f32⟩
  | 48 => ⟨S8x4096x1, .f32⟩
  | 49 => ⟨S8x4096x1, .f32⟩
  | 50 => ⟨S_, .f32⟩
  | 51 => ⟨S8x4096x1, .f32⟩
  | 52 => ⟨S8x4096x1, .f32⟩
  | 53 => ⟨S8x4096x1, .f32⟩
  | 54 => ⟨S8x4096x128, .f32⟩
  | 55 => ⟨S8x4096x128, .f32⟩
  | 56 => ⟨S1x1x128, .f32⟩
  | 57 => ⟨S8x4096x128, .f32⟩
  | 58 => ⟨S8x4096x128, .f32⟩
  | 59 => ⟨S512, .f32⟩
  | 60 => ⟨S512, .f32⟩
  | 61 => ⟨S512, .f32⟩
  | 62 => ⟨S8x4096x512, .f32⟩
  | 63 => ⟨S_, .f32⟩
  | 64 => ⟨S8x4096x512, .f32⟩
  | 65 => ⟨S8x4096x512, .f32⟩
  | 66 => ⟨S8x4096x512, .f32⟩
  | 67 => ⟨S8x4096x512, .f32⟩
  | 68 => ⟨S8x4096x512, .i1⟩
  | 69 => ⟨S8x4096x512, .f32⟩
  | 70 => ⟨S8x4096x512, .f32⟩
  | 71 => ⟨S8x4096x512, .f32⟩
  | 72 => ⟨S8x4096x512, .f32⟩
  | 73 => ⟨S8x4096x512, .f32⟩
  | 74 => ⟨S8x4096x512, .f32⟩
  | 75 => ⟨S8x4096x512, .f32⟩
  | 76 => ⟨S8x4096x512, .f32⟩
  | 77 => ⟨S8x4096x512, .f32⟩
  | 78 => ⟨S1x1x512, .f32⟩
  | 79 => ⟨S8x4096x512, .f32⟩
  | 80 => ⟨S8x4096x512, .f32⟩
  | 81 => ⟨S1x1x512, .f32⟩
  | 82 => ⟨S8x4096x512, .f32⟩
  | 83 => ⟨S8x4096x512, .f32⟩
  | 84 => ⟨S8x4096x512, .f32⟩
  | 85 => ⟨S8x4096x512, .f32⟩
  | 86 => ⟨S8x4096x512, .i1⟩
  | 87 => ⟨S8x4096x512, .f32⟩
  | 88 => ⟨S8x4096x512, .f32⟩
  | 89 => ⟨S8x4096x512, .f32⟩
  | 90 => ⟨S8x4096x512, .f32⟩
  | 91 => ⟨S8x4096x512, .f32⟩
  | 92 => ⟨S8x4096x512, .f32⟩
  | 93 => ⟨S8x4096x512, .f32⟩
  | 94 => ⟨S8x4096x512, .f32⟩
  | 95 => ⟨S_, .f32⟩
  | 96 => ⟨S8x4096x64, .f32⟩
  | 97 => ⟨S8x4096x1024, .f32⟩
  | 98 => ⟨S8x1024x4096, .f32⟩
  | 99 => ⟨S8x1024x4096, .bf16⟩
  | 100 => ⟨S8x4096x128, .bf16⟩
  | 101 => ⟨S8x128x4096, .f32⟩
  | 102 => ⟨S_, .f32⟩
  | 103 => ⟨S8x16x4096, .f32⟩
  | 104 => ⟨S8x144x4096, .f32⟩
  | 105 => ⟨S8x144x4096, .bf16⟩
  | 106 => ⟨S8x512x4096, .f32⟩
  | 107 => ⟨S8x512x4096, .bf16⟩
  | 108 => ⟨S8x4096x128, .f32⟩
  | 109 => ⟨S8x4096x128, .bf16⟩
  | 110 => ⟨S8x4096x128, .f32⟩
  | 111 => ⟨S8x4096x128, .bf16⟩
  | 112 => ⟨S_, .f32⟩
  | 113 => ⟨S8x4096x8, .f32⟩
  | 114 => ⟨S8x4096x8, .f32⟩
  | 115 => ⟨S8x8x4096, .f32⟩
  | 116 => ⟨S8x4096x512, .f32⟩
  | 117 => ⟨S8x4096x512, .f32⟩
  | 118 => ⟨S_, .f32⟩
  | 119 => ⟨S8x4096x512, .f32⟩
  | 120 => ⟨S8x4096x512, .f32⟩
  | 121 => ⟨S_, .f32⟩
  | 122 => ⟨S8x4096x512, .f32⟩
  | 123 => ⟨S8x4096x512, .f32⟩
  | 124 => ⟨S8x4096x512, .f32⟩
  | 125 => ⟨S8x4096x512, .f32⟩
  | 126 => ⟨S_, .f32⟩
  | 127 => ⟨S8x4096x512, .f32⟩
  | _ => ⟨S8x4096x1024, .f32⟩

abbrev hbmTy0_1 (i : Nat) : BufTy := match i % 128 with
  | 0 => ⟨S8x4096x512, .f32⟩
  | 1 => ⟨S8x4096x512, .bf16⟩
  | 2 => ⟨S8x4096x512, .f32⟩
  | 3 => ⟨S8x4096x512, .f32⟩
  | 4 => ⟨S_, .f32⟩
  | 5 => ⟨S8x4096x512, .f32⟩
  | 6 => ⟨S8x4096x512, .f32⟩
  | 7 => ⟨S_, .f32⟩
  | 8 => ⟨S8x4096x512, .f32⟩
  | 9 => ⟨S8x4096x512, .f32⟩
  | 10 => ⟨S8x4096x512, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_0 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_1 : Ref sig .tc := ⟨.hbm, 44, rfl⟩
abbrev main_v36 : Ref sig .tc := ⟨.hbm, 45, rfl⟩
abbrev main_v37 : Ref sig .tc := ⟨.hbm, 46, rfl⟩
abbrev main_cst_2 : Ref sig .tc := ⟨.hbm, 47, rfl⟩
abbrev main_v38 : Ref sig .tc := ⟨.hbm, 48, rfl⟩
abbrev main_v39 : Ref sig .tc := ⟨.hbm, 49, rfl⟩
abbrev main_cst_3 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_call0_v0 : Ref sig .tc := ⟨.hbm, 62, rfl⟩
abbrev main_call0_call0_cst : Ref sig .tc := ⟨.hbm, 63, rfl⟩
abbrev main_call0_call0_v0 : Ref sig .tc := ⟨.hbm, 64, rfl⟩
abbrev main_call0_call0_v1 : Ref sig .tc := ⟨.hbm, 65, rfl⟩
abbrev main_call0_call0_v2 : Ref sig .tc := ⟨.hbm, 66, rfl⟩
abbrev main_call0_call0_v3 : Ref sig .tc := ⟨.hbm, 67, rfl⟩
abbrev main_call0_call0_v4 : Ref sig .tc := ⟨.hbm, 68, rfl⟩
abbrev main_call0_call0_v5 : Ref sig .tc := ⟨.hbm, 69, rfl⟩
abbrev main_call0_call0_v6 : Ref sig .tc := ⟨.hbm, 70, rfl⟩
abbrev main_call0_call0_v7 : Ref sig .tc := ⟨.hbm, 71, rfl⟩
abbrev main_call0_call0_v8 : Ref sig .tc := ⟨.hbm, 72, rfl⟩
abbrev main_call0_call0_v9 : Ref sig .tc := ⟨.hbm, 73, rfl⟩
abbrev main_call0_call0_v10 : Ref sig .tc := ⟨.hbm, 74, rfl⟩
abbrev main_call0_call0_v11 : Ref sig .tc := ⟨.hbm, 75, rfl⟩
abbrev main_call0_v1 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_4 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_5 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_6 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_call1_v0 : Ref sig .tc := ⟨.hbm, 116, rfl⟩
abbrev main_call1_v1 : Ref sig .tc := ⟨.hbm, 117, rfl⟩
abbrev main_call1_cst : Ref sig .tc := ⟨.hbm, 118, rfl⟩
abbrev main_call1_v2 : Ref sig .tc := ⟨.hbm, 119, rfl⟩
abbrev main_call1_v3 : Ref sig .tc := ⟨.hbm, 120, rfl⟩
abbrev main_call1_cst_0 : Ref sig .tc := ⟨.hbm, 121, rfl⟩
abbrev main_call1_v4 : Ref sig .tc := ⟨.hbm, 122, rfl⟩
abbrev main_call1_v5 : Ref sig .tc := ⟨.hbm, 123, rfl⟩
abbrev main_v87 : Ref sig .tc := ⟨.hbm, 124, rfl⟩
abbrev main_v88 : Ref sig .tc := ⟨.hbm, 125, rfl⟩
abbrev main_cst_7 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_call2_v0 : Ref sig .tc := ⟨.hbm, 130, rfl⟩
abbrev main_call2_v1 : Ref sig .tc := ⟨.hbm, 131, rfl⟩
abbrev main_call2_cst : Ref sig .tc := ⟨.hbm, 132, rfl⟩
abbrev main_call2_v2 : Ref sig .tc := ⟨.hbm, 133, rfl⟩
abbrev main_call2_v3 : Ref sig .tc := ⟨.hbm, 134, rfl⟩
abbrev main_call2_cst_0 : Ref sig .tc := ⟨.hbm, 135, rfl⟩
abbrev main_call2_v4 : Ref sig .tc := ⟨.hbm, 136, rfl⟩
abbrev main_call2_v5 : Ref sig .tc := ⟨.hbm, 137, rfl⟩
abbrev main_v92 : Ref sig .tc := ⟨.hbm, 138, rfl⟩

abbrev nD : Nat := 1
abbrev τ : Topo := Topo.v7x

variable {F : FTy → Type} [FloatOps F]
-- ==== Kernel4.lean ====
abbrev S8x4096x512 : Shape := ⟨3, ![8, 4096, 512]⟩
abbrev S8x4096x1024 : Shape := ⟨3, ![8, 4096, 1024]⟩
abbrev S8x6x1024 : Shape := ⟨3, ![8, 6, 1024]⟩
abbrev S4x1024x1024 : Shape := ⟨3, ![4, 1024, 1024]⟩
abbrev S4x1024 : Shape := ⟨2, ![4, 1024]⟩
abbrev S4x1024x64 : Shape := ⟨3, ![4, 1024, 64]⟩
abbrev S4x64 : Shape := ⟨2, ![4, 64]⟩
abbrev S4x64x1024 : Shape := ⟨3, ![4, 64, 1024]⟩
abbrev S4x64x1 : Shape := ⟨3, ![4, 64, 1]⟩
abbrev S4x1x1024 : Shape := ⟨3, ![4, 1, 1024]⟩
abbrev S256x256 : Shape := ⟨2, ![256, 256]⟩
abbrev S_ : Shape := ⟨0, ![]⟩
abbrev S8x4096x128 : Shape := ⟨3, ![8, 4096, 128]⟩
abbrev S8x64x4096 : Shape := ⟨3, ![8, 64, 4096]⟩
abbrev S1x1024x512 : Shape := ⟨3, ![1, 1024, 512]⟩
abbrev S1x1024x1024 : Shape := ⟨3, ![1, 1024, 1024]⟩
abbrev S1x6x1024 : Shape := ⟨3, ![1, 6, 1024]⟩
abbrev S1x1x1024 : Shape := ⟨3, ![1, 1, 1024]⟩
abbrev S1x64x1024 : Shape := ⟨3, ![1, 64, 1024]⟩
abbrev S1x1024x128 : Shape := ⟨3, ![1, 1024, 128]⟩
abbrev S1024x512 : Shape := ⟨2, ![1024, 512]⟩
abbrev S1x512x1024 : Shape := ⟨3, ![1, 512, 1024]⟩
abbrev S512x1024 : Shape := ⟨2, ![512, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩
abbrev S64x1024 : Shape := ⟨2, ![64, 1024]⟩
abbrev S8x8x1024 : Shape := ⟨3, ![8, 8, 1024]⟩
abbrev S8x1x1024 : Shape := ⟨3, ![8, 1, 1024]⟩
abbrev S8x1024 : Shape := ⟨2, ![8, 1024]⟩
abbrev S128x1024 : Shape := ⟨2, ![128, 1024]⟩
abbrev S1024x128 : Shape := ⟨2, ![1024, 128]⟩
abbrev S64x256 : Shape := ⟨2, ![64, 256]⟩

abbrev nBuf : Space → Nat
  | .hbm => 32
  | .vmem => 24
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x1024, .f32⟩
  | .hbm, ⟨3, _⟩ => ⟨S8x6x1024, .f32⟩
  | .hbm, ⟨4, _⟩ => ⟨S4x1024x1024, .f32⟩
  | .hbm, ⟨5, _⟩ => ⟨S4x1024, .f32⟩
  | .hbm, ⟨6, _⟩ => ⟨S4x1024, .f32⟩
  | .hbm, ⟨7, _⟩ => ⟨S4x1024x64, .f32⟩
  | .hbm, ⟨8, _⟩ => ⟨S4x64, .f32⟩
  | .hbm, ⟨9, _⟩ => ⟨S4x1024x1024, .bf16⟩
  | .hbm, ⟨10, _⟩ => ⟨S4x64x1024, .f32⟩
  | .hbm, ⟨11, _⟩ => ⟨S4x64x1024, .bf16⟩
  | .hbm, ⟨12, _⟩ => ⟨S4x64x1, .f32⟩
  | .hbm, ⟨13, _⟩ => ⟨S4x64x1024, .f32⟩
  | .hbm, ⟨14, _⟩ => ⟨S8x4096x512, .bf16⟩
  | .hbm, ⟨15, _⟩ => ⟨S8x4096x512, .bf16⟩
  | .hbm, ⟨16, _⟩ => ⟨S4x1x1024, .f32⟩
  | .hbm, ⟨17, _⟩ => ⟨S4x1x1024, .f32⟩
  | .hbm, ⟨18, _⟩ => ⟨S256x256, .i32⟩
  | .hbm, ⟨19, _⟩ => ⟨S256x256, .i32⟩
  | .hbm, ⟨20, _⟩ => ⟨S256x256, .i1⟩
  | .hbm, ⟨21, _⟩ => ⟨S_, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S256x256, .f32⟩
  | .hbm, ⟨26, _⟩ => ⟨S256x256, .bf16⟩
  | .hbm, ⟨27, _⟩ => ⟨S8x4096x1024, .f32⟩
  | .hbm, ⟨28, _⟩ => ⟨S8x4096x1024, .bf16⟩
  | .hbm, ⟨29, _⟩ => ⟨S8x4096x128, .bf16⟩
  | .hbm, ⟨30, _⟩ => ⟨S8x64x4096, .i32⟩
  | .hbm, ⟨31, _⟩ => ⟨S8x64x4096, .f32⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x1024x1024, .bf16⟩
  | .local _ .vmem, ⟨9, _⟩ => ⟨S1x1x1024, .f32⟩
  | .local _ .vmem, ⟨10, _⟩ => ⟨S1x1x1024, .f32⟩
  | .local _ .vmem, ⟨11, _⟩ => ⟨S1x64x1024, .bf16⟩
  | .local _ .vmem, ⟨12, _⟩ => ⟨S1x64x1024, .f32⟩
  | .local _ .vmem, ⟨13, _⟩ => ⟨S256x256, .bf16⟩
  | .local _ .vmem, ⟨14, _⟩ => ⟨S1x1024x1024, .f32⟩
  | .local _ .vmem, ⟨15, _⟩ => ⟨S1x1024x1024, .f32⟩
  | .local _ .vmem, ⟨16, _⟩ => ⟨S1x1024x1024, .bf16⟩
  | .local _ .vmem, ⟨17, _⟩ => ⟨S1x1024x1024, .bf16⟩
  | .local _ .vmem, ⟨18, _⟩ => ⟨S1x1024x128, .bf16⟩
  | .local _ .vmem, ⟨19, _⟩ => ⟨S1x1024x128, .bf16⟩
  | .local _ .vmem, ⟨20, _⟩ => ⟨S1x64x1024, .i32⟩
  | .local _ .vmem, ⟨21, _⟩ => ⟨S1x64x1024, .i32⟩
  | .local _ .vmem, ⟨22, _⟩ => ⟨S1x64x1024, .f32⟩
  | .local _ .vmem, ⟨23, _⟩ => ⟨S1x64x1024, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_v12 : Ref sig .tc := ⟨.hbm, 25, rfl⟩
abbrev main_v13 : Ref sig .tc := ⟨.hbm, 26, rfl⟩
abbrev main_v14_0 : Ref sig .tc := ⟨.hbm, 27, rfl⟩
abbrev main_v14_1 : Ref sig .tc := ⟨.hbm, 28, rfl⟩
abbrev main_v14_2 : Ref sig .tc := ⟨.hbm, 29, rfl⟩
abbrev main_v14_3 : Ref sig .tc := ⟨.hbm, 30, rfl⟩
abbrev main_v14_4 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x64x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x64x1024 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x64x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference4Ideal.lean ====
abbrev S8x4096x512 : Shape := ⟨3, ![8, 4096, 512]⟩
abbrev S8x4096x1024 : Shape := ⟨3, ![8, 4096, 1024]⟩
abbrev S8x6x1024 : Shape := ⟨3, ![8, 6, 1024]⟩
abbrev S4x1024x1024 : Shape := ⟨3, ![4, 1024, 1024]⟩
abbrev S4x1024 : Shape := ⟨2, ![4, 1024]⟩
abbrev S4x1024x64 : Shape := ⟨3, ![4, 1024, 64]⟩
abbrev S4x64 : Shape := ⟨2, ![4, 64]⟩
abbrev S8x1x1024 : Shape := ⟨3, ![8, 1, 1024]⟩
abbrev S8x1024 : Shape := ⟨2, ![8, 1024]⟩
abbrev S1x1024x1024 : Shape := ⟨3, ![1, 1024, 1024]⟩
abbrev S1024x1024 : Shape := ⟨2, ![1024, 1024]⟩
abbrev S_ : Shape := ⟨0, ![]⟩
abbrev S1x1024 : Shape := ⟨2, ![1, 1024]⟩
abbrev S1024 : Shape := ⟨1, ![1024]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 72
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x1024, .f32⟩
  | .hbm, ⟨3, _⟩ => ⟨S8x6x1024, .f32⟩
  | .hbm, ⟨4, _⟩ => ⟨S4x1024x1024, .f32⟩
  | .hbm, ⟨5, _⟩ => ⟨S4x1024, .f32⟩
  | .hbm, ⟨6, _⟩ => ⟨S4x1024, .f32⟩
  | .hbm, ⟨7, _⟩ => ⟨S4x1024x64, .f32⟩
  | .hbm, ⟨8, _⟩ => ⟨S4x64, .f32⟩
  | .hbm, ⟨9, _⟩ => ⟨S8x1x1024, .f32⟩
  | .hbm, ⟨10, _⟩ => ⟨S8x1024, .f32⟩
  | .hbm, ⟨11, _⟩ => ⟨S8x1x1024, .f32⟩
  | .hbm, ⟨12, _⟩ => ⟨S8x1024, .f32⟩
  | .hbm, ⟨13, _⟩ => ⟨S8x1x1024, .f32⟩
  | .hbm, ⟨14, _⟩ => ⟨S8x1024, .f32⟩
  | .hbm, ⟨15, _⟩ => ⟨S8x4096x1024, .f32⟩
  | .hbm, ⟨16, _⟩ => ⟨S1x1024x1024, .f32⟩
  | .hbm, ⟨17, _⟩ => ⟨S1024x1024, .f32⟩
  | .hbm, ⟨18, _⟩ => ⟨S8x4096x1024, .f32⟩
  | .hbm, ⟨19, _⟩ => ⟨S_, .f32⟩
  | .hbm, ⟨20, _⟩ => ⟨S8x4096x1024, .f32⟩
  | .hbm, ⟨21, _⟩ => ⟨S8x4096x1024, .f32⟩
  | .hbm, ⟨22, _⟩ => ⟨S8x1x1024, .f32⟩
  | .hbm, ⟨23, _⟩ => ⟨S_, .f32⟩
  | .hbm, ⟨24, _⟩ => ⟨S8x1x1024, .f32⟩
  | .hbm, ⟨25, _⟩ => ⟨S8x1x1024, .f32⟩
  | .hbm, ⟨26, _⟩ => ⟨S8x4096x1024, .f32⟩
  | .hbm, ⟨27, _⟩ => ⟨S8x4096x1024, .f32⟩
  | .hbm, ⟨28, _⟩ => ⟨S8x4096x1024, .f32⟩
  | .hbm, ⟨29, _⟩ => ⟨S1x1024, .f32⟩
  | .hbm, ⟨30, _⟩ => ⟨S1024, .f32⟩
  | .hbm, ⟨31, _⟩ => ⟨S1x1024, .f32⟩
  | .hbm, ⟨32, _⟩ => ⟨S1024, .f32⟩
  | .hbm, ⟨33, _⟩ => ⟨S_, .f32⟩
  | .hbm, ⟨34, _⟩ => ⟨S8x4096, .f32⟩
  | .hbm, ⟨35, _⟩ => ⟨S8x4096x1, .f32⟩
  | .hbm, ⟨36, _⟩ => ⟨S_, .f32⟩
  | .hbm, ⟨37, _⟩ => ⟨S8x4096x1, .f32⟩
  | .hbm, ⟨38, _⟩ => ⟨S8x4096x1, .f32⟩
  | .hbm, ⟨39, _⟩ => ⟨S8x4096x1024, .f32⟩
  | .hbm, ⟨40, _⟩ => ⟨S8x4096x1024, .f32⟩
  | .hbm, ⟨41, _⟩ => ⟨S8x4096x1024, .f32⟩
  | .hbm, ⟨42, _⟩ => ⟨S_, .f32⟩
  | .hbm, ⟨43, _⟩ => ⟨S8x4096, .f32⟩
  | .hbm, ⟨44, _⟩ => ⟨S8x4096x1, .f32⟩
  | .hbm, ⟨45, _⟩ => ⟨S_, .f32⟩
  | .hbm, ⟨46, _⟩ => ⟨S8x4096x1, .f32⟩
  | .hbm, ⟨47, _⟩ => ⟨S8x4096x1, .f32⟩
  | .hbm, ⟨48, _⟩ => ⟨S8x4096x1024, .f32⟩
  | .hbm, ⟨49, _⟩ => ⟨S8x4096x1024, .f32⟩
  | .hbm, ⟨50, _⟩ => ⟨S_, .f32⟩
  | .hbm, ⟨51, _⟩ => ⟨S8x4096x1, .f32⟩
  | .hbm, ⟨52, _⟩ => ⟨S8x4096x1, .f32⟩
  | .hbm, ⟨53, _⟩ => ⟨S8x4096x1, .f32⟩
  | .hbm, ⟨54, _⟩ => ⟨S8x4096x1024, .f32⟩
  | .hbm, ⟨55, _⟩ => ⟨S8x4096x1024, .f32⟩
  | .hbm, ⟨56, _⟩ => ⟨S1x1x1024, .f32⟩
  | .hbm, ⟨57, _⟩ => ⟨S8x4096x1024, .f32⟩
  | .hbm, ⟨58, _⟩ => ⟨S8x4096x1024, .f32⟩
  | .hbm, ⟨59, _⟩ => ⟨S1x1x1024, .f32⟩
  | .hbm, ⟨60, _⟩ => ⟨S8x4096x1024, .f32⟩
  | .hbm, ⟨61, _⟩ => ⟨S8x4096x1024, .f32⟩
  | .hbm, ⟨62, _⟩ => ⟨S8x1x1024, .f32⟩
  | .hbm, ⟨63, _⟩ => ⟨S_, .f32⟩
  | .hbm, ⟨64, _⟩ => ⟨S8x1x1024, .f32⟩
  | .hbm, ⟨65, _⟩ => ⟨S8x1x1024, .f32⟩
  | .hbm, ⟨66, _⟩ => ⟨S8x4096x1024, .f32⟩
  | .hbm, ⟨67, _⟩ => ⟨S8x4096x1024, .f32⟩
  | .hbm, ⟨68, _⟩ => ⟨S8x1x1024, .f32⟩
  | .hbm, ⟨69, _⟩ => ⟨S8x4096x1024, .f32⟩
  | .hbm, ⟨70, _⟩ => ⟨S8x4096x1024, .f32⟩
  | .hbm, ⟨71, _⟩ => ⟨S8x4096x1024, .bf16⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_6 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩

abbrev nD : Nat := 1
abbrev τ : Topo := Topo.v7x

variable {F : FTy → Type} [FloatOps F]
-- ==== Kernel5.lean ====
abbrev S8x1024 : Shape := ⟨2, ![8, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S4x8x6144 : Shape := ⟨3, ![4, 8, 6144]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x6144, .f32⟩
  | .hbm, ⟨2, _⟩ => ⟨S4x6144, .f32⟩
  | .hbm, ⟨3, _⟩ => ⟨S4x1x6144, .f32⟩
  | .hbm, ⟨4, _⟩ => ⟨S4x8x6144, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8x1024 : Shape := ⟨2, ![8, 1024]⟩
abbrev S4x1024x6144 : Shape := ⟨3, ![4, 1024, 6144]⟩
abbrev S4x6144 : Shape := ⟨2, ![4, 6144]⟩
abbrev S_ : Shape := ⟨0, ![]⟩
abbrev S4x6144x8 : Shape := ⟨3, ![4, 6144, 8]⟩
abbrev S4x8x6144 : Shape := ⟨3, ![4, 8, 6144]⟩
abbrev S4x1x6144 : Shape := ⟨3, ![4, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x6144, .f32⟩
  | .hbm, ⟨2, _⟩ => ⟨S4x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S4x6144x8, .f32⟩
  | .hbm, ⟨13, _⟩ => ⟨S4x8x6144, .f32⟩
  | .hbm, ⟨14, _⟩ => ⟨S4x1x6144, .f32⟩
  | .hbm, ⟨15, _⟩ => ⟨S4x8x6144, .f32⟩
  | .hbm, ⟨16, _⟩ => ⟨S4x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel6.lean ====
abbrev S64x8192x1024 : Shape := ⟨3, ![64, 8192, 1024]⟩
abbrev S4x64x1024x256 : Shape := ⟨4, ![4, 64, 1024, 256]⟩
abbrev S4x64x256x1024 : Shape := ⟨4, ![4, 64, 256, 1024]⟩
abbrev S4x64x1024x512 : Shape := ⟨4, ![4, 64, 1024, 512]⟩
abbrev S1x2048x1024 : Shape := ⟨3, ![1, 2048, 1024]⟩
abbrev S1x1x1024x512 : Shape := ⟨4, ![1, 1, 1024, 512]⟩
abbrev S1x1x256x1024 : Shape := ⟨4, ![1, 1, 256, 1024]⟩
abbrev S2048x1024 : Shape := ⟨2, ![2048, 1024]⟩
abbrev S1024x512 : Shape := ⟨2, ![1024, 512]⟩
abbrev S2048x512 : Shape := ⟨2, ![2048, 512]⟩
abbrev S2048x256 : Shape := ⟨2, ![2048, 256]⟩
abbrev S256x1024 : Shape := ⟨2, ![256, 1024]⟩

abbrev nBuf : Space → Nat
  | .hbm => 9
  | .vmem => 8
  | .smem => 0
  | _ => 0

abbrev bufTy : (tb : Table) → Fin (tcTables nBuf tb) → BufTy
  | .hbm, ⟨0, _⟩ => ⟨S64x8192x1024, .f32⟩
  | .hbm, ⟨1, _⟩ => ⟨S4x64x1024x256, .f32⟩
  | .hbm, ⟨2, _⟩ => ⟨S4x64x1024x256, .f32⟩
  | .hbm, ⟨3, _⟩ => ⟨S4x64x256x1024, .f32⟩
  | .hbm, ⟨4, _⟩ => ⟨S4x64x1024x512, .f32⟩
  | .hbm, ⟨5, _⟩ => ⟨S4x64x1024x512, .bf16⟩
  | .hbm, ⟨6, _⟩ => ⟨S64x8192x1024, .bf16⟩
  | .hbm, ⟨7, _⟩ => ⟨S4x64x256x1024, .bf16⟩
  | .hbm, ⟨8, _⟩ => ⟨S64x8192x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x1x1024x512, .bf16⟩
  | .local _ .vmem, ⟨3, _⟩ => ⟨S1x1x1024x512, .bf16⟩
  | .local _ .vmem, ⟨4, _⟩ => ⟨S1x1x256x1024, .bf16⟩
  | .local _ .vmem, ⟨5, _⟩ => ⟨S1x1x256x1024, .bf16⟩
  | .local _ .vmem, ⟨6, _⟩ => ⟨S1x2048x1024, .bf16⟩
  | .local _ .vmem, ⟨7, _⟩ => ⟨S1x2048x1024, .bf16⟩
  | _, _ => ⟨S64x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S64x8192x1024 : Shape := ⟨3, ![64, 8192, 1024]⟩
abbrev S4x64x1024x256 : Shape := ⟨4, ![4, 64, 1024, 256]⟩
abbrev S4x64x256x1024 : Shape := ⟨4, ![4, 64, 256, 1024]⟩
abbrev S1x64x1024x256 : Shape := ⟨4, ![1, 64, 1024, 256]⟩
abbrev S64x1024x256 : Shape := ⟨3, ![64, 1024, 256]⟩
abbrev S64x8192x256 : Shape := ⟨3, ![64, 8192, 256]⟩
abbrev S_ : Shape := ⟨0, ![]⟩
abbrev S1x64x256x1024 : Shape := ⟨4, ![1, 64, 256, 1024]⟩
abbrev S64x256x1024 : Shape := ⟨3, ![64, 256, 1024]⟩

abbrev nBuf : Space → Nat
  | .hbm => 24
  | .vmem => 0
  | .smem => 0
  | _ => 0

abbrev bufTy : (tb : Table) → Fin (tcTables nBuf tb) → BufTy
  | .hbm, ⟨0, _⟩ => ⟨S64x8192x1024, .f32⟩
  | .hbm, ⟨1, _⟩ => ⟨S4x64x1024x256, .f32⟩
  | .hbm, ⟨2, _⟩ => ⟨S4x64x1024x256, .f32⟩
  | .hbm, ⟨3, _⟩ => ⟨S4x64x256x1024, .f32⟩
  | .hbm, ⟨4, _⟩ => ⟨S1x64x1024x256, .f32⟩
  | .hbm, ⟨5, _⟩ => ⟨S64x1024x256, .f32⟩
  | .hbm, ⟨6, _⟩ => ⟨S64x8192x256, .f32⟩
  | .hbm, ⟨7, _⟩ => ⟨S64x8192x256, .f32⟩
  | .hbm, ⟨8, _⟩ => ⟨S64x8192x256, .f32⟩
  | .hbm, ⟨9, _⟩ => ⟨S_, .f32⟩
  | .hbm, ⟨10, _⟩ => ⟨S64x8192x256, .f32⟩
  | .hbm, ⟨11, _⟩ => ⟨S64x8192x256, .f32⟩
  | .hbm, ⟨12, _⟩ => ⟨S_, .f32⟩
  | .hbm, ⟨13, _⟩ => ⟨S64x8192x256, .f32⟩
  | .hbm, ⟨14, _⟩ => ⟨S64x8192x256, .f32⟩
  | .hbm, ⟨15, _⟩ => ⟨S64x8192x256, .f32⟩
  | .hbm, ⟨16, _⟩ => ⟨S1x64x1024x256, .f32⟩
  | .hbm, ⟨17, _⟩ => ⟨S64x1024x256, .f32⟩
  | .hbm, ⟨18, _⟩ => ⟨S64x8192x256, .f32⟩
  | .hbm, ⟨19, _⟩ => ⟨S64x8192x256, .f32⟩
  | .hbm, ⟨20, _⟩ => ⟨S1x64x256x1024, .f32⟩
  | .hbm, ⟨21, _⟩ => ⟨S64x256x1024, .f32⟩
  | .hbm, ⟨22, _⟩ => ⟨S64x8192x1024, .f32⟩
  | .hbm, ⟨23, _⟩ => ⟨S64x8192x1024, .bf16⟩
  | _, _ => ⟨S64x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== Kernel7.lean ====
abbrev S64x8192x1024 : Shape := ⟨3, ![64, 8192, 1024]⟩
abbrev S8x64x4096 : Shape := ⟨3, ![8, 64, 4096]⟩
abbrev S8x4096x1024 : Shape := ⟨3, ![8, 4096, 1024]⟩
abbrev S8x6x1024 : Shape := ⟨3, ![8, 6, 1024]⟩
abbrev S4x1024x256 : Shape := ⟨3, ![4, 1024, 256]⟩
abbrev S4x256x1024 : Shape := ⟨3, ![4, 256, 1024]⟩
abbrev S4x1024 : Shape := ⟨2, ![4, 1024]⟩
abbrev S4x1024x512 : Shape := ⟨3, ![4, 1024, 512]⟩
abbrev S32768x1024 : Shape := ⟨2, ![32768, 1024]⟩
abbrev S4x1x1024 : Shape := ⟨3, ![4, 1, 1024]⟩
abbrev S64x64x1024 : Shape := ⟨3, ![64, 64, 1024]⟩
abbrev S1x64x256 : Shape := ⟨3, ![1, 64, 256]⟩
abbrev S256x1024 : Shape := ⟨2, ![256, 1024]⟩
abbrev S1x6x1024 : Shape := ⟨3, ![1, 6, 1024]⟩
abbrev S1x1024x512 : Shape := ⟨3, ![1, 1024, 512]⟩
abbrev S1x256x1024 : Shape := ⟨3, ![1, 256, 1024]⟩
abbrev S1x1x1024 : Shape := ⟨3, ![1, 1, 1024]⟩
abbrev S1024x512 : Shape := ⟨2, ![1024, 512]⟩
abbrev S256x512 : Shape := ⟨2, ![256, 512]⟩
abbrev S256x256 : Shape := ⟨2, ![256, 256]⟩
abbrev S1x16x256 : Shape := ⟨3, ![1, 16, 256]⟩
abbrev S16x256 : Shape := ⟨2, ![16, 256]⟩
abbrev S64x256 : Shape := ⟨2, ![64, 256]⟩
abbrev S1x256 : Shape := ⟨2, ![1, 256]⟩
abbrev S1024x256 : Shape := ⟨2, ![1024, 256]⟩
abbrev S16x64x1024 : Shape := ⟨3, ![16, 64, 1024]⟩
abbrev S1024x1024 : Shape := ⟨2, ![1024, 1024]⟩
abbrev S1x1024 : Shape := ⟨2, ![1, 1024]⟩
abbrev S256 : Shape := ⟨1, ![256]⟩
abbrev S256x1 : Shape := ⟨2, ![256, 1]⟩

abbrev nBuf : Space → Nat
  | .hbm => 21
  | .vmem => 18
  | .smem => 0
  | _ => 0

abbrev bufTy : (tb : Table) → Fin (tcTables nBuf tb) → BufTy
  | .hbm, ⟨0, _⟩ => ⟨S64x8192x1024, .f32⟩
  | .hbm, ⟨1, _⟩ => ⟨S8x64x4096, .i32⟩
  | .hbm, ⟨2, _⟩ => ⟨S8x64x4096, .f32⟩
  | .hbm, ⟨3, _⟩ => ⟨S8x4096x1024, .f32⟩
  | .hbm, ⟨4, _⟩ => ⟨S8x4096x1024, .f32⟩
  | .hbm, ⟨5, _⟩ => ⟨S8x6x1024, .f32⟩
  | .hbm, ⟨6, _⟩ => ⟨S4x1024x256, .f32⟩
  | .hbm, ⟨7, _⟩ => ⟨S4x1024x256, .f32⟩
  | .hbm, ⟨8, _⟩ => ⟨S4x256x1024, .f32⟩
  | .hbm, ⟨9, _⟩ => ⟨S4x1024, .f32⟩
  | .hbm, ⟨10, _⟩ => ⟨S4x1024, .f32⟩
  | .hbm, ⟨11, _⟩ => ⟨S4x1024x512, .f32⟩
  | .hbm, ⟨12, _⟩ => ⟨S4x1024x512, .bf16⟩
  | .hbm, ⟨13, _⟩ => ⟨S64x8192x1024, .bf16⟩
  | .hbm, ⟨14, _⟩ => ⟨S8x4096x1024, .bf16⟩
  | .hbm, ⟨15, _⟩ => ⟨S32768x1024, .bf16⟩
  | .hbm, ⟨16, _⟩ => ⟨S32768x1024, .f32⟩
  | .hbm, ⟨17, _⟩ => ⟨S4x256x1024, .bf16⟩
  | .hbm, ⟨18, _⟩ => ⟨S4x1x1024, .f32⟩
  | .hbm, ⟨19, _⟩ => ⟨S4x1x1024, .f32⟩
  | .hbm, ⟨20, _⟩ => ⟨S32768x1024, .f32⟩
  | .local _ .vmem, ⟨0, _⟩ => ⟨S64x64x1024, .bf16⟩
  | .local _ .vmem, ⟨1, _⟩ => ⟨S64x64x1024, .bf16⟩
  | .local _ .vmem, ⟨2, _⟩ => ⟨S1x64x256, .i32⟩
  | .local _ .vmem, ⟨3, _⟩ => ⟨S1x64x256, .i32⟩
  | .local _ .vmem, ⟨4, _⟩ => ⟨S1x64x256, .f32⟩
  | .local _ .vmem, ⟨5, _⟩ => ⟨S1x64x256, .f32⟩
  | .local _ .vmem, ⟨6, _⟩ => ⟨S256x1024, .bf16⟩
  | .local _ .vmem, ⟨7, _⟩ => ⟨S256x1024, .bf16⟩
  | .local _ .vmem, ⟨8, _⟩ => ⟨S256x1024, .f32⟩
  | .local _ .vmem, ⟨9, _⟩ => ⟨S256x1024, .f32⟩
  | .local _ .vmem, ⟨10, _⟩ => ⟨S1x6x1024, .f32⟩
  | .local _ .vmem, ⟨11, _⟩ => ⟨S1x6x1024, .f32⟩
  | .local _ .vmem, ⟨12, _⟩ => ⟨S1x1024x512, .bf16⟩
  | .local _ .vmem, ⟨13, _⟩ => ⟨S1x256x1024, .bf16⟩
  | .local _ .vmem, ⟨14, _⟩ => ⟨S1x1x1024, .f32⟩
  | .local _ .vmem, ⟨15, _⟩ => ⟨S1x1x1024, .f32⟩
  | .local _ .vmem, ⟨16, _⟩ => ⟨S256x1024, .f32⟩
  | .local _ .vmem, ⟨17, _⟩ => ⟨S256x1024, .f32⟩
  | _, _ => ⟨S64x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference7Ideal.lean ====
abbrev S64x8192x1024 : Shape := ⟨3, ![64, 8192, 1024]⟩
abbrev S8x64x4096 : Shape := ⟨3, ![8, 64, 4096]⟩
abbrev S8x4096x1024 : Shape := ⟨3, ![8, 4096, 1024]⟩
abbrev S8x6x1024 : Shape := ⟨3, ![8, 6, 1024]⟩
abbrev S4x1024x256 : Shape := ⟨3, ![4, 1024, 256]⟩
abbrev S4x256x1024 : Shape := ⟨3, ![4, 256, 1024]⟩
abbrev S4x1024 : Shape := ⟨2, ![4, 1024]⟩
abbrev S8x1x1024 : Shape := ⟨3, ![8, 1, 1024]⟩
abbrev S8x1024 : Shape := ⟨2, ![8, 1024]⟩
abbrev S32768x1024 : Shape := ⟨2, ![32768, 1024]⟩
abbrev S64 : Shape := ⟨1, ![64]⟩
abbrev S64x1 : Shape := ⟨2, ![64, 1]⟩
abbrev S8x64x16x1x256 : Shape := ⟨5, ![8, 64, 16, 1, 256]⟩
abbrev S1x1x1x64x1 : Shape := ⟨5, ![1, 1, 1, 64, 1]⟩
abbrev S8x64x16x64x256 : Shape := ⟨5, ![8, 64, 16, 64, 256]⟩
abbrev S_ : Shape := ⟨0, ![]⟩
abbrev S64x8x16x64x1024 : Shape := ⟨5, ![64, 8, 16, 64, 1024]⟩
abbrev S8x16x256x1024 : Shape := ⟨4, ![8, 16, 256, 1024]⟩
abbrev S1x1024x256 : Shape := ⟨3, ![1, 1024, 256]⟩
abbrev S1024x256 : Shape := ⟨2, ![1024, 256]⟩
abbrev S32768x256 : Shape := ⟨2, ![32768, 256]⟩
abbrev S1x256x1024 : Shape := ⟨3, ![1, 256, 1024]⟩
abbrev S256x1024 : Shape := ⟨2, ![256, 1024]⟩
abbrev S1x1024 : Shape := ⟨2, ![1, 1024]⟩
abbrev S1024 : Shape := ⟨1, ![1024]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 95
  | .vmem => 0
  | .smem => 0
  | _ => 0

abbrev bufTy : (tb : Table) → Fin (tcTables nBuf tb) → BufTy
  | .hbm, ⟨0, _⟩ => ⟨S64x8192x1024, .f32⟩
  | .hbm, ⟨1, _⟩ => ⟨S8x64x4096, .i32⟩
  | .hbm, ⟨2, _⟩ => ⟨S8x64x4096, .f32⟩
  | .hbm, ⟨3, _⟩ => ⟨S8x4096x1024, .f32⟩
  | .hbm, ⟨4, _⟩ => ⟨S8x4096x1024, .f32⟩
  | .hbm, ⟨5, _⟩ => ⟨S8x6x1024, .f32⟩
  | .hbm, ⟨6, _⟩ => ⟨S4x1024x256, .f32⟩
  | .hbm, ⟨7, _⟩ => ⟨S4x1024x256, .f32⟩
  | .hbm, ⟨8, _⟩ => ⟨S4x256x1024, .f32⟩
  | .hbm, ⟨9, _⟩ => ⟨S4x1024, .f32⟩
  | .hbm, ⟨10, _⟩ => ⟨S4x1024, .f32⟩
  | .hbm, ⟨11, _⟩ => ⟨S8x1x1024, .f32⟩
  | .hbm, ⟨12, _⟩ => ⟨S8x1024, .f32⟩
  | .hbm, ⟨13, _⟩ => ⟨S32768x1024, .f32⟩
  | .hbm, ⟨14, _⟩ => ⟨S64, .i32⟩
  | .hbm, ⟨15, _⟩ => ⟨S64x1, .i32⟩
  | .hbm, ⟨16, _⟩ => ⟨S8x64x16x1x256, .i32⟩
  | .hbm, ⟨17, _⟩ => ⟨S1x1x1x64x1, .i32⟩
  | .hbm, ⟨18, _⟩ => ⟨S8x64x16x64x256, .i32⟩
  | .hbm, ⟨19, _⟩ => ⟨S8x64x16x64x256, .i32⟩
  | .hbm, ⟨20, _⟩ => ⟨S8x64x16x64x256, .i1⟩
  | .hbm, ⟨21, _⟩ => ⟨S8x64x16x1x256, .f32⟩
  | .hbm, ⟨22, _⟩ => ⟨S_, .f32⟩
  | .hbm, ⟨23, _⟩ => ⟨S_, .f32⟩
  | .hbm, ⟨24, _⟩ => ⟨S8x64x16x64x256, .f32⟩
  | .hbm, ⟨25, _⟩ => ⟨S8x64x16x64x256, .f32⟩
  | .hbm, ⟨26, _⟩ => ⟨S8x64x16x64x256, .f32⟩
  | .hbm, ⟨27, _⟩ => ⟨S64x8x16x64x1024, .f32⟩
  | .hbm, ⟨28, _⟩ => ⟨S8x16x256x1024, .f32⟩
  | .hbm, ⟨29, _⟩ => ⟨S32768x1024, .f32⟩
  | .hbm, ⟨30, _⟩ => ⟨S1x1024x256, .f32⟩
  | .hbm, ⟨31, _⟩ => ⟨S1024x256, .f32⟩
  | .hbm, ⟨32, _⟩ => ⟨S32768x256, .f32⟩
  | .hbm, ⟨33, _⟩ => ⟨S32768x256, .f32⟩
  | .hbm, ⟨34, _⟩ => ⟨S32768x256, .f32⟩
  | .hbm, ⟨35, _⟩ => ⟨S_, .f32⟩
  | .hbm, ⟨36, _⟩ => ⟨S32768x256, .f32⟩
  | .hbm, ⟨37, _⟩ => ⟨S32768x256, .f32⟩
  | .hbm, ⟨38, _⟩ => ⟨S_, .f32⟩
  | .hbm, ⟨39, _⟩ => ⟨S32768x256, .f32⟩
  | .hbm, ⟨40, _⟩ => ⟨S32768x256, .f32⟩
  | .hbm, ⟨41, _⟩ => ⟨S32768x256, .f32⟩
  | .hbm, ⟨42, _⟩ => ⟨S1x1024x256, .f32⟩
  | .hbm, ⟨43, _⟩ => ⟨S1024x256, .f32⟩
  | .hbm, ⟨44, _⟩ => ⟨S32768x256, .f32⟩
  | .hbm, ⟨45, _⟩ => ⟨S32768x256, .f32⟩
  | .hbm, ⟨46, _⟩ => ⟨S1x256x1024, .f32⟩
  | .hbm, ⟨47, _⟩ => ⟨S256x1024, .f32⟩
  | .hbm, ⟨48, _⟩ => ⟨S32768x1024, .f32⟩
  | .hbm, ⟨49, _⟩ => ⟨S32768x1024, .f32⟩
  | .hbm, ⟨50, _⟩ => ⟨S8x4096x1024, .f32⟩
  | .hbm, ⟨51, _⟩ => ⟨S_, .f32⟩
  | .hbm, ⟨52, _⟩ => ⟨S8x4096x1024, .f32⟩
  | .hbm, ⟨53, _⟩ => ⟨S8x4096x1024, .f32⟩
  | .hbm, ⟨54, _⟩ => ⟨S8x1x1024, .f32⟩
  | .hbm, ⟨55, _⟩ => ⟨S_, .f32⟩
  | .hbm, ⟨56, _⟩ => ⟨S8x1x1024, .f32⟩
  | .hbm, ⟨57, _⟩ => ⟨S8x1x1024, .f32⟩
  | .hbm, ⟨58, _⟩ => ⟨S8x4096x1024, .f32⟩
  | .hbm, ⟨59, _⟩ => ⟨S8x4096x1024, .f32⟩
  | .hbm, ⟨60, _⟩ => ⟨S8x4096x1024, .f32⟩
  | .hbm, ⟨61, _⟩ => ⟨S1x1024, .f32⟩
  | .hbm, ⟨62, _⟩ => ⟨S1024, .f32⟩
  | .hbm, ⟨63, _⟩ => ⟨S1x1024, .f32⟩
  | .hbm, ⟨64, _⟩ => ⟨S1024, .f32⟩
  | .hbm, ⟨65, _⟩ => ⟨S_, .f32⟩
  | .hbm, ⟨66, _⟩ => ⟨S8x4096, .f32⟩
  | .hbm, ⟨67, _⟩ => ⟨S8x4096x1, .f32⟩
  | .hbm, ⟨68, _⟩ => ⟨S_, .f32⟩
  | .hbm, ⟨69, _⟩ => ⟨S8x4096x1, .f32⟩
  | .hbm, ⟨70, _⟩ => ⟨S8x4096x1, .f32⟩
  | .hbm, ⟨71, _⟩ => ⟨S8x4096x1024, .f32⟩
  | .hbm, ⟨72, _⟩ => ⟨S8x4096x1024, .f32⟩
  | .hbm, ⟨73, _⟩ => ⟨S8x4096x1024, .f32⟩
  | .hbm, ⟨74, _⟩ => ⟨S_, .f32⟩
  | .hbm, ⟨75, _⟩ => ⟨S8x4096, .f32⟩
  | .hbm, ⟨76, _⟩ => ⟨S8x4096x1, .f32⟩
  | .hbm, ⟨77, _⟩ => ⟨S_, .f32⟩
  | .hbm, ⟨78, _⟩ => ⟨S8x4096x1, .f32⟩
  | .hbm, ⟨79, _⟩ => ⟨S8x4096x1, .f32⟩
  | .hbm, ⟨80, _⟩ => ⟨S8x4096x1024, .f32⟩
  | .hbm, ⟨81, _⟩ => ⟨S8x4096x1024, .f32⟩
  | .hbm, ⟨82, _⟩ => ⟨S_, .f32⟩
  | .hbm, ⟨83, _⟩ => ⟨S8x4096x1, .f32⟩
  | .hbm, ⟨84, _⟩ => ⟨S8x4096x1, .f32⟩
  | .hbm, ⟨85, _⟩ => ⟨S8x4096x1, .f32⟩
  | .hbm, ⟨86, _⟩ => ⟨S8x4096x1024, .f32⟩
  | .hbm, ⟨87, _⟩ => ⟨S8x4096x1024, .f32⟩
  | .hbm, ⟨88, _⟩ => ⟨S1x1x1024, .f32⟩
  | .hbm, ⟨89, _⟩ => ⟨S8x4096x1024, .f32⟩
  | .hbm, ⟨90, _⟩ => ⟨S8x4096x1024, .f32⟩
  | .hbm, ⟨91, _⟩ => ⟨S1x1x1024, .f32⟩
  | .hbm, ⟨92, _⟩ => ⟨S8x4096x1024, .f32⟩
  | .hbm, ⟨93, _⟩ => ⟨S8x4096x1024, .f32⟩
  | .hbm, ⟨94, _⟩ => ⟨S32768x1024, .f32⟩
  | _, _ => ⟨S64x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_call1_v0 : Ref sig .tc := ⟨.hbm, 33, rfl⟩
abbrev main_call1_v1 : Ref sig .tc := ⟨.hbm, 34, rfl⟩
abbrev main_call1_cst : Ref sig .tc := ⟨.hbm, 35, rfl⟩
abbrev main_call1_v2 : Ref sig .tc := ⟨.hbm, 36, rfl⟩
abbrev main_call1_v3 : Ref sig .tc := ⟨.hbm, 37, rfl⟩
abbrev main_call1_cst_0 : Ref sig .tc := ⟨.hbm, 38, rfl⟩
abbrev main_call1_v4 : Ref sig .tc := ⟨.hbm, 39, rfl⟩
abbrev main_call1_v5 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_0 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_1 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_2 : Ref sig .tc := ⟨.hbm, 65, rfl⟩
abbrev main_v40 : Ref sig .tc := ⟨.hbm, 66, rfl⟩
abbrev main_v41 : Ref sig .tc := ⟨.hbm, 67, rfl⟩
abbrev main_cst_3 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_4 : Ref sig .tc := ⟨.hbm, 74, rfl⟩
abbrev main_v47 : Ref sig .tc := ⟨.hbm, 75, rfl⟩
abbrev main_v48 : Ref sig .tc := ⟨.hbm, 76, rfl⟩
abbrev main_cst_5 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_6 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩

abbrev nD : Nat := 1
abbrev τ : Topo := Topo.v7x

variable {F : FTy → Type} [FloatOps F]
-- ==== Kernel8.lean ====
abbrev S8x4096x1024 : Shape := ⟨3, ![8, 4096, 1024]⟩
abbrev S8x64x4096 : Shape := ⟨3, ![8, 64, 4096]⟩
abbrev S32768x1024 : Shape := ⟨2, ![32768, 1024]⟩
abbrev S64x8192x1024 : Shape := ⟨3, ![64, 8192, 1024]⟩
abbrev S256x1024 : Shape := ⟨2, ![256, 1024]⟩
abbrev S1x64x256 : Shape := ⟨3, ![1, 64, 256]⟩
abbrev S64x64x1024 : Shape := ⟨3, ![64, 64, 1024]⟩
abbrev S16x256 : Shape := ⟨2, ![16, 256]⟩
abbrev S1x16x256 : Shape := ⟨3, ![1, 16, 256]⟩
abbrev S64x256 : Shape := ⟨2, ![64, 256]⟩
abbrev S1x256 : Shape := ⟨2, ![1, 256]⟩
abbrev S1024x256 : Shape := ⟨2, ![1024, 256]⟩
abbrev S1024x1024 : Shape := ⟨2, ![1024, 1024]⟩
abbrev S16x64x1024 : Shape := ⟨3, ![16, 64, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8x4096x1024, .f32⟩
  | .hbm, ⟨1, _⟩ => ⟨S8x64x4096, .i32⟩
  | .hbm, ⟨2, _⟩ => ⟨S8x4096x1024, .bf16⟩
  | .hbm, ⟨3, _⟩ => ⟨S32768x1024, .bf16⟩
  | .hbm, ⟨4, _⟩ => ⟨S64x8192x1024, .bf16⟩
  | .local _ .vmem, ⟨0, _⟩ => ⟨S256x1024, .bf16⟩
  | .local _ .vmem, ⟨1, _⟩ => ⟨S256x1024, .bf16⟩
  | .local _ .vmem, ⟨2, _⟩ => ⟨S1x64x256, .i32⟩
  | .local _ .vmem, ⟨3, _⟩ => ⟨S1x64x256, .i32⟩
  | .local _ .vmem, ⟨4, _⟩ => ⟨S64x64x1024, .bf16⟩
  | .local _ .vmem, ⟨5, _⟩ => ⟨S64x64x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S8x4096x1024 : Shape := ⟨3, ![8, 4096, 1024]⟩
abbrev S8x64x4096 : Shape := ⟨3, ![8, 64, 4096]⟩
abbrev S64 : Shape := ⟨1, ![64]⟩
abbrev S64x1 : Shape := ⟨2, ![64, 1]⟩
abbrev S8x64x16x1x256 : Shape := ⟨5, ![8, 64, 16, 1, 256]⟩
abbrev S1x1x1x64x1 : Shape := ⟨5, ![1, 1, 1, 64, 1]⟩
abbrev S8x64x16x64x256 : Shape := ⟨5, ![8, 64, 16, 64, 256]⟩
abbrev S_ : Shape := ⟨0, ![]⟩
abbrev S8x16x256x1024 : Shape := ⟨4, ![8, 16, 256, 1024]⟩
abbrev S8x16x1024x64x64 : Shape := ⟨5, ![8, 16, 1024, 64, 64]⟩
abbrev S64x8x16x64x1024 : Shape := ⟨5, ![64, 8, 16, 64, 1024]⟩
abbrev S64x8192x1024 : Shape := ⟨3, ![64, 8192, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x64x4096, .i32⟩
  | .hbm, ⟨2, _⟩ => ⟨S64, .i32⟩
  | .hbm, ⟨3, _⟩ => ⟨S64x1, .i32⟩
  | .hbm, ⟨4, _⟩ => ⟨S8x64x16x1x256, .i32⟩
  | .hbm, ⟨5, _⟩ => ⟨S1x1x1x64x1, .i32⟩
  | .hbm, ⟨6, _⟩ => ⟨S8x64x16x64x256, .i32⟩
  | .hbm, ⟨7, _⟩ => ⟨S8x64x16x64x256, .i32⟩
  | .hbm, ⟨8, _⟩ => ⟨S8x64x16x64x256, .i1⟩
  | .hbm, ⟨9, _⟩ => ⟨S_, .f32⟩
  | .hbm, ⟨10, _⟩ => ⟨S_, .f32⟩
  | .hbm, ⟨11, _⟩ => ⟨S8x64x16x64x256, .f32⟩
  | .hbm, ⟨12, _⟩ => ⟨S8x64x16x64x256, .f32⟩
  | .hbm, ⟨13, _⟩ => ⟨S8x64x16x64x256, .f32⟩
  | .hbm, ⟨14, _⟩ => ⟨S8x16x256x1024, .f32⟩
  | .hbm, ⟨15, _⟩ => ⟨S8x16x1024x64x64, .f32⟩
  | .hbm, ⟨16, _⟩ => ⟨S64x8x16x64x1024, .f32⟩
  | .hbm, ⟨17, _⟩ => ⟨S64x8192x1024, .f32⟩
  | .hbm, ⟨18, _⟩ => ⟨S64x8192x1024, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Proof.Safe.lean ====
/-
  Programs that keep their buffers. `Safe c R p` says that from the resources `R` the program `p`, on core `c`'s
  TensorCore, runs to its return and hands `R` back, whatever it returns. A program built from loads, stores, counted
  loops and branches over memrefs that `R` holds is safe by its shape alone: one lemma per constructor.
-/
module

public import proofs.«01_k».proof.Proof.Gen.Kernel.Launch
public import Idealize.ShloMosaic.Lib.Pipeline.Frame
public import Idealize.ShloMosaic.Lib.Tactic
public import Idealize.ShloMosaic.Lib.Scf

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- From `R` the program runs to its return and hands `R` back. -/
def Safe (c : Dev nD) (R : sProp 𝕄) {α : Type} (p : Prog (TpuEff nD τ sig (Elt F) Λ₀ .tc) α) : Prop :=
  R ⊢ wp frame (wpE (defs₀ (F := F)) Variants.none (c : Thread nD τ) none) Set.univ p (fun _ => R)

/-- `R` holds the memref whole at some contents, lends it, and takes it back at the same contents. -/
def Reads (c : Dev nD) (R : sProp 𝕄) {sp : Space} {S : Shape} {e : EltTy} (M : Memref sig .tc sp S e) : Prop :=
  R ⊢ iprop(∃ X, owns (c : Thread nD τ) M fullShare X ∗ (owns (c : Thread nD τ) M fullShare X -∗ R))

/-- `R` holds the memref whole at some contents, lends it, and takes it back at any contents. -/
def Scratch (c : Dev nD) (R : sProp 𝕄) {sp : Space} {S : Shape} {e : EltTy} (M : Memref sig .tc sp S e) : Prop :=
  R ⊢ iprop(∃ X, owns (c : Thread nD τ) M fullShare X ∗ (∀ Y, owns (c : Thread nD τ) M fullShare Y -∗ R))

/-- What may be written may be read. -/
theorem Scratch.reads {c : Dev nD} {R : sProp 𝕄} {sp : Space} {S : Shape} {e : EltTy} {M : Memref sig .tc sp S e} (h : Scratch c R M) : Reads c R M := by
  refine BIBase.Entails.trans h ?_
  iintro ⟨%X, H, Hb⟩
  iexists X
  isplitl [H]; · iexact H
  iintro H
  iapply Hb; iexact H

theorem safe_pure {c : Dev nD} {R : sProp 𝕄} {α : Type} (a : α) : Safe c R (pure a) := by
  unfold Safe
  rw [Prog.pure_eq_ret, wp_ret]
  iintro H
  imodintro
  iexact H

theorem safe_bind {c : Dev nD} {R : sProp 𝕄} {α β : Type} {p : Prog (TpuEff nD τ sig (Elt F) Λ₀ .tc) α} {k : α → Prog (TpuEff nD τ sig (Elt F) Λ₀ .tc) β}
    (hp : Safe c R p) (hk : ∀ a, Safe c R (k a)) : Safe c R (p >>= k) := by
  unfold Safe
  rw [wp_bind]
  exact BIBase.Entails.trans hp (wp_mono _ _ _ hk)

theorem safe_load {c : Dev nD} {R : sProp 𝕄} {cs : CoreSpace} {S : Shape} {e : EltTy} {M : Memref sig .tc cs S e} {r : LoadRect S} {hl : M.view.LoadsAt r}
    (h : Reads c R M) : Safe c R (Prog.lift (.load M r hl)) := by
  unfold Safe
  refine BIBase.Entails.trans h ?_
  unfold owns
  iintro ⟨%X, ⟨%f, %hf, H⟩, Hb⟩
  iapply (wp_load Variants.none (c : Thread nD τ) none Set.univ (m := M) (S := M.view.set) (View.setOn_subset_set _ _)) $$ H
  iintro H
  rw [wp_ret]
  imodintro
  iapply Hb
  iexists f
  isplitr; · ipureintro; exact hf
  iexact H

theorem safe_store {c : Dev nD} {R : sProp 𝕄} {cs : CoreSpace} {S : Shape} {e : EltTy} {M : Memref sig .tc cs S e} {r : Rect S} {w : r.shape.Idx → Elt F e}
    {Mk : Finset r.shape.Idx} {hx : (M.access r).Stores Mk} {hm : Mk = Finset.univ ∨ ∀ a, r.stride a = 1}
    (h : Scratch c R M) : Safe c R (Prog.lift (.store M r w Mk hx hm)) := by
  unfold Safe
  refine BIBase.Entails.trans h ?_
  unfold owns
  iintro ⟨%X, ⟨%f, %hf, H⟩, Hb⟩
  iapply (wp_store Variants.none (c : Thread nD τ) none Set.univ (m := M) (r := r) (w := w) (Mk := Mk) (hx := hx) (hm := hm) (S := M.view.set)
    ((View.setOn_subset_set _ _).trans (View.set_slice_subset _ _))) $$ H
  iintro H
  rw [wp_ret]
  imodintro
  iapply Hb
  iexists _
  isplitr; swap; · iexact H
  ipureintro; rfl

theorem safe_for {c : Dev nD} {R : sProp 𝕄} {w : ℕ} {σ : Type} {l : Scf.Loop w} {hok : l.OK} {init : σ}
    {body : Fin l.trips → σ → Prog (TpuEff nD τ sig (Elt F) Λ₀ .tc) σ} (h : ∀ k acc, Safe c R (body k acc)) :
    Safe c R (Scf.Loop.for l hok init body) := by
  unfold Safe
  iintro H
  iapply (Scf.wp_for (Fr := frame) (wpE := wpE (defs₀ (F := F)) Variants.none (c : Thread nD τ) none) (Es := Set.univ)
    l.lb l.ub l.st hok init body (fun _ _ => R) h)
  isplitl [H]; · iexact H
  iintro %acc H
  iexact H

theorem safe_if {c : Dev nD} {R : sProp 𝕄} {α : Type} {b : Prop} [Decidable b] {p q : Prog (TpuEff nD τ sig (Elt F) Λ₀ .tc) α}
    (hp : Safe c R p) (hq : Safe c R q) : Safe c R (if b then p else q) := by
  split
  · exact hp
  · exact hq

end Cert.Kernel.Hand

end
-- ==== Proof.Parts.lean ====
/-
  The kernel's body keeps its buffers: every part and every loop's trip is safe over any resources that hold the nine
  input blocks and lend them unchanged, and that hold the output block and the ten scratch buffers at any contents.
  One lemma per part, by the part's shape (`safe_bind`, `safe_load`, `safe_store`, `safe_for`, `safe_if`).
-/
module

public import proofs.«01_k».proof.Proof.Safe
public import proofs.«01_k».proof.Proof.Gen.Kernel.Skeleton

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- What the body needs of its resources: the input blocks lent for reading, the output block and the scratch buffers for
    reading and writing. -/
structure Held (c : Dev nD) (R : sProp 𝕄)
    (arg2 : Memref sig .tc .vmem S1x512x128 .bf16)
    (arg3 : Memref sig .tc .vmem S1x8x128 .f32)
    (arg4 : Memref sig .tc .vmem S1x1024x128 .bf16)
    (arg5 : Memref sig .tc .vmem S1x4096x128 .bf16)
    (arg6 : Memref sig .tc .vmem S1x4096x128 .bf16)
    (arg7 : Memref sig .tc .vmem S1x4096x128 .bf16)
    (arg8 : Memref sig .tc .vmem S1x144x4096 .bf16)
    (arg9 : Memref sig .tc .vmem S8x384x128 .f32)
    (arg10 : Memref sig .tc .vmem S1x8x64x128 .bf16)
    (arg11 : Memref sig .tc .vmem S1x128x512 .bf16)
    (arg12 : Memref sig .tc .vmem S4096x128 .i32)
    (arg13 : Memref sig .tc .vmem S32x128x128 .i32)
    (arg14 : Memref sig .tc .vmem S4096x128 .f32)
    (arg15 : Memref sig .tc .vmem S256x128 .f32)
    (arg16 : Memref sig .tc .vmem S512x1024 .f32)
    (arg17 : Memref sig .tc .vmem S512x1024 .f32)
    (arg18 : Memref sig .tc .vmem S8x1024 .f32)
    (arg19 : Memref sig .tc .vmem S8x1024 .f32)
    (arg20 : Memref sig .tc .vmem S144x1024 .f32)
    (arg21 : Memref sig .tc .vmem S512x128 .f32) : Prop where
  r2 : Reads c R arg2
  r3 : Reads c R arg3
  r4 : Reads c R arg4
  r5 : Reads c R arg5
  r6 : Reads c R arg6
  r7 : Reads c R arg7
  r8 : Reads c R arg8
  r9 : Reads c R arg9
  r10 : Reads c R arg10
  w11 : Scratch c R arg11
  w12 : Scratch c R arg12
  w13 : Scratch c R arg13
  w14 : Scratch c R arg14
  w15 : Scratch c R arg15
  w16 : Scratch c R arg16
  w17 : Scratch c R arg17
  w18 : Scratch c R arg18
  w19 : Scratch c R arg19
  w20 : Scratch c R arg20
  w21 : Scratch c R arg21

variable {c : Dev nD} {R : sProp (MT nD τ sig Unit (Elt F) ℕ (UR sig nD τ) ℕ)} {i : grid0.Coords}
  {arg2 : Memref sig .tc .vmem S1x512x128 .bf16}
  {arg3 : Memref sig .tc .vmem S1x8x128 .f32}
  {arg4 : Memref sig .tc .vmem S1x1024x128 .bf16}
  {arg5 : Memref sig .tc .vmem S1x4096x128 .bf16}
  {arg6 : Memref sig .tc .vmem S1x4096x128 .bf16}
  {arg7 : Memref sig .tc .vmem S1x4096x128 .bf16}
  {arg8 : Memref sig .tc .vmem S1x144x4096 .bf16}
  {arg9 : Memref sig .tc .vmem S8x384x128 .f32}
  {arg10 : Memref sig .tc .vmem S1x8x64x128 .bf16}
  {arg11 : Memref sig .tc .vmem S1x128x512 .bf16}
  {arg12 : Memref sig .tc .vmem S4096x128 .i32}
  {arg13 : Memref sig .tc .vmem S32x128x128 .i32}
  {arg14 : Memref sig .tc .vmem S4096x128 .f32}
  {arg15 : Memref sig .tc .vmem S256x128 .f32}
  {arg16 : Memref sig .tc .vmem S512x1024 .f32}
  {arg17 : Memref sig .tc .vmem S512x1024 .f32}
  {arg18 : Memref sig .tc .vmem S8x1024 .f32}
  {arg19 : Memref sig .tc .vmem S8x1024 .f32}
  {arg20 : Memref sig .tc .vmem S144x1024 .f32}
  {arg21 : Memref sig .tc .vmem S512x128 .f32}
  {harg2 : arg2.IsWhole}
  {harg3 : arg3.IsWhole}
  {harg4 : arg4.IsWhole}
  {harg5 : arg5.IsWhole}
  {harg6 : arg6.IsWhole}
  {harg7 : arg7.IsWhole}
  {harg8 : arg8.IsWhole}
  {harg9 : arg9.IsWhole}
  {harg10 : arg10.IsWhole}
  {harg11 : arg11.IsWhole}
  {harg12 : arg12.IsWhole}
  {harg13 : arg13.IsWhole}
  {harg14 : arg14.IsWhole}
  {harg15 : arg15.IsWhole}
  {harg16 : arg16.IsWhole}
  {harg17 : arg17.IsWhole}
  {harg18 : arg18.IsWhole}
  {harg19 : arg19.IsWhole}
  {harg20 : arg20.IsWhole}
  {harg21 : arg21.IsWhole}

theorem safe_k0_part62 (H : Held c R arg2 arg3 arg4 arg5 arg6 arg7 arg8 arg9 arg10 arg11 arg12 arg13 arg14 arg15 arg16 arg17 arg18 arg19 arg20 arg21)  :
    Safe c R (k0_part62 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 ) := by
  rw [k0_part62_eq_skeleton]; unfold k0_part62_skel
  repeat' first
    | with_reducible exact safe_pure _
    | with_reducible refine safe_bind ?_ (fun _ => ?_)
    | dsimp only
    | split

theorem safe_k0_part63 (H : Held c R arg2 arg3 arg4 arg5 arg6 arg7 arg8 arg9 arg10 arg11 arg12 arg13 arg14 arg15 arg16 arg17 arg18 arg19 arg20 arg21) (arg1 : BitVec 32) (v37 : BitVec 1) :
    Safe c R (k0_part63 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v37) := by
  rw [k0_part63_eq_skeleton]; unfold k0_part63_skel
  repeat' first
    | with_reducible exact safe_load H.w13.reads
    | with_reducible exact safe_load H.w14.reads
    | with_reducible exact safe_load H.w16.reads
    | with_reducible exact safe_load H.r2
    | with_reducible exact safe_load H.r3
    | with_reducible exact safe_load H.r5
    | with_reducible exact safe_load H.r6
    | with_reducible exact safe_store H.w13
    | with_reducible exact safe_store H.w14
    | with_reducible exact safe_store H.w16
    | with_reducible exact safe_pure _
    | with_reducible refine safe_bind ?_ (fun _ => ?_)
    | with_reducible refine safe_if ?_ ?_
    | dsimp only
    | split

theorem safe_k0_part1 (H : Held c R arg2 arg3 arg4 arg5 arg6 arg7 arg8 arg9 arg10 arg11 arg12 arg13 arg14 arg15 arg16 arg17 arg18 arg19 arg20 arg21) (v50 : FVec F S128x512 .bf16) (v52 : FVec F S8x128 .f32) (c0_i32_44 : BitVec 32) (c1_i32_46 : BitVec 32) (k0_t1 : Fin (k0_t1_loop i).trips) :
    Safe c R (k0_part1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v50 v52 c0_i32_44 c1_i32_46 k0_t1) := by
  rw [k0_part1_eq_skeleton]; unfold k0_part1_skel
  repeat' first
    | with_reducible exact safe_load H.w16.reads
    | with_reducible exact safe_load H.w17.reads
    | with_reducible exact safe_load H.r5
    | with_reducible exact safe_load H.r6
    | with_reducible exact safe_store H.w17
    | with_reducible exact safe_pure _
    | with_reducible refine safe_bind ?_ (fun _ => ?_)
    | dsimp only
    | split

theorem safe_k0_part2 (H : Held c R arg2 arg3 arg4 arg5 arg6 arg7 arg8 arg9 arg10 arg11 arg12 arg13 arg14 arg15 arg16 arg17 arg18 arg19 arg20 arg21) (v52 : FVec F S8x128 .f32) (v451 : FVec F S512x128 .f32) :
    Safe c R (k0_part2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v52 v451) := by
  rw [k0_part2_eq_skeleton]; unfold k0_part2_skel
  repeat' first
    | with_reducible exact safe_load H.w16.reads
    | with_reducible exact safe_pure _
    | with_reducible refine safe_bind ?_ (fun _ => ?_)
    | dsimp only
    | split

theorem safe_k0_part3 (H : Held c R arg2 arg3 arg4 arg5 arg6 arg7 arg8 arg9 arg10 arg11 arg12 arg13 arg14 arg15 arg16 arg17 arg18 arg19 arg20 arg21) (v35 : IVec S1x128 32) (v36 : IVec S512x128 32) (v50 : FVec F S128x512 .bf16) (k0_t1 : Fin (k0_t1_loop i).trips) (arg22 : BitVec 32) (v436 : BitVec 32) (v493 : FVec F S512x128 .f32) :
    Safe c R (k0_part3 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v35 v36 v50 k0_t1 arg22 v436 v493) := by
  rw [k0_part3_eq_skeleton]; unfold k0_part3_skel
  repeat' first
    | with_reducible exact safe_load H.w12.reads
    | with_reducible exact safe_load H.w16.reads
    | with_reducible exact safe_load H.r5
    | with_reducible exact safe_load H.r6
    | with_reducible exact safe_store H.w12
    | with_reducible exact safe_store H.w16
    | with_reducible exact safe_pure _
    | with_reducible refine safe_bind ?_ (fun _ => ?_)
    | dsimp only
    | split

theorem safe_k0_part4 (H : Held c R arg2 arg3 arg4 arg5 arg6 arg7 arg8 arg9 arg10 arg11 arg12 arg13 arg14 arg15 arg16 arg17 arg18 arg19 arg20 arg21) (v52 : FVec F S8x128 .f32) (arg22 : BitVec 32) (v531 : FVec F S512x512 .f32) :
    Safe c R (k0_part4 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v52 arg22 v531) := by
  rw [k0_part4_eq_skeleton]; unfold k0_part4_skel
  repeat' first
    | with_reducible exact safe_load H.w17.reads
    | with_reducible exact safe_store H.w16
    | with_reducible exact safe_pure _
    | with_reducible refine safe_bind ?_ (fun _ => ?_)
    | dsimp only
    | split

theorem safe_k0_t1_body (H : Held c R arg2 arg3 arg4 arg5 arg6 arg7 arg8 arg9 arg10 arg11 arg12 arg13 arg14 arg15 arg16 arg17 arg18 arg19 arg20 arg21) (v20 : BitVec 32) (v35 : IVec S1x128 32) (v36 : IVec S512x128 32) (v50 : FVec F S128x512 .bf16) (v52 : FVec F S8x128 .f32) (v66 : FVec F S512x512 .f32) (k) (acc) :
    Safe c R (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v20 v35 v36 v50 v52 v66 k acc) := by
  unfold k0_t1_body
  repeat' first
    | with_reducible exact safe_k0_part1 H _ _ _ _ _
    | with_reducible exact safe_k0_part2 H _ _
    | with_reducible exact safe_k0_part3 H _ _ _ _ _ _ _
    | with_reducible exact safe_k0_part4 H _ _ _
    | with_reducible exact safe_load H.w12.reads
    | with_reducible exact safe_load H.w17.reads
    | with_reducible exact safe_store H.w12
    | with_reducible exact safe_pure _
    | with_reducible refine safe_bind ?_ (fun _ => ?_)
    | dsimp only
    | split

theorem safe_k0_part5 (H : Held c R arg2 arg3 arg4 arg5 arg6 arg7 arg8 arg9 arg10 arg11 arg12 arg13 arg14 arg15 arg16 arg17 arg18 arg19 arg20 arg21) (v50 : FVec F S128x512 .bf16) (v52 : FVec F S8x128 .f32) (v91 : BitVec 32) (c1_i32_47 : BitVec 32) (k0_t2 : Fin (k0_t2_loop i).trips) :
    Safe c R (k0_part5 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v50 v52 v91 c1_i32_47 k0_t2) := by
  rw [k0_part5_eq_skeleton]; unfold k0_part5_skel
  repeat' first
    | with_reducible exact safe_load H.w16.reads
    | with_reducible exact safe_load H.w17.reads
    | with_reducible exact safe_load H.r5
    | with_reducible exact safe_load H.r6
    | with_reducible exact safe_store H.w17
    | with_reducible exact safe_pure _
    | with_reducible refine safe_bind ?_ (fun _ => ?_)
    | dsimp only
    | split

theorem safe_k0_part6 (H : Held c R arg2 arg3 arg4 arg5 arg6 arg7 arg8 arg9 arg10 arg11 arg12 arg13 arg14 arg15 arg16 arg17 arg18 arg19 arg20 arg21) (v52 : FVec F S8x128 .f32) (v451 : FVec F S512x128 .f32) :
    Safe c R (k0_part6 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v52 v451) := by
  rw [k0_part6_eq_skeleton]; unfold k0_part6_skel
  repeat' first
    | with_reducible exact safe_load H.w16.reads
    | with_reducible exact safe_pure _
    | with_reducible refine safe_bind ?_ (fun _ => ?_)
    | dsimp only
    | split

theorem safe_k0_part7 (H : Held c R arg2 arg3 arg4 arg5 arg6 arg7 arg8 arg9 arg10 arg11 arg12 arg13 arg14 arg15 arg16 arg17 arg18 arg19 arg20 arg21) (v35 : IVec S1x128 32) (v36 : IVec S512x128 32) (v50 : FVec F S128x512 .bf16) (k0_t2 : Fin (k0_t2_loop i).trips) (arg22 : BitVec 32) (v436 : BitVec 32) (v493 : FVec F S512x128 .f32) :
    Safe c R (k0_part7 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v35 v36 v50 k0_t2 arg22 v436 v493) := by
  rw [k0_part7_eq_skeleton]; unfold k0_part7_skel
  repeat' first
    | with_reducible exact safe_load H.w12.reads
    | with_reducible exact safe_load H.w16.reads
    | with_reducible exact safe_load H.r5
    | with_reducible exact safe_load H.r6
    | with_reducible exact safe_store H.w12
    | with_reducible exact safe_store H.w16
    | with_reducible exact safe_pure _
    | with_reducible refine safe_bind ?_ (fun _ => ?_)
    | dsimp only
    | split

theorem safe_k0_part8 (H : Held c R arg2 arg3 arg4 arg5 arg6 arg7 arg8 arg9 arg10 arg11 arg12 arg13 arg14 arg15 arg16 arg17 arg18 arg19 arg20 arg21) (v52 : FVec F S8x128 .f32) (arg22 : BitVec 32) (v531 : FVec F S512x512 .f32) :
    Safe c R (k0_part8 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v52 arg22 v531) := by
  rw [k0_part8_eq_skeleton]; unfold k0_part8_skel
  repeat' first
    | with_reducible exact safe_load H.w17.reads
    | with_reducible exact safe_store H.w16
    | with_reducible exact safe_pure _
    | with_reducible refine safe_bind ?_ (fun _ => ?_)
    | dsimp only
    | split

theorem safe_k0_t2_body (H : Held c R arg2 arg3 arg4 arg5 arg6 arg7 arg8 arg9 arg10 arg11 arg12 arg13 arg14 arg15 arg16 arg17 arg18 arg19 arg20 arg21) (v20 : BitVec 32) (v35 : IVec S1x128 32) (v36 : IVec S512x128 32) (v50 : FVec F S128x512 .bf16) (v52 : FVec F S8x128 .f32) (v66 : FVec F S512x512 .f32) (v91 : BitVec 32) (k) (acc) :
    Safe c R (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v20 v35 v36 v50 v52 v66 v91 k acc) := by
  unfold k0_t2_body
  repeat' first
    | with_reducible exact safe_k0_part5 H _ _ _ _ _
    | with_reducible exact safe_k0_part6 H _ _
    | with_reducible exact safe_k0_part7 H _ _ _ _ _ _ _
    | with_reducible exact safe_k0_part8 H _ _ _
    | with_reducible exact safe_load H.w12.reads
    | with_reducible exact safe_load H.w17.reads
    | with_reducible exact safe_store H.w12
    | with_reducible exact safe_pure _
    | with_reducible refine safe_bind ?_ (fun _ => ?_)
    | dsimp only
    | split

theorem safe_k0_part64 (H : Held c R arg2 arg3 arg4 arg5 arg6 arg7 arg8 arg9 arg10 arg11 arg12 arg13 arg14 arg15 arg16 arg17 arg18 arg19 arg20 arg21) (v20 : BitVec 32) (v35 : IVec S1x128 32) (v36 : IVec S512x128 32) (v50 : FVec F S128x512 .bf16) (v52 : FVec F S8x128 .f32) (v66 : FVec F S512x512 .f32) :
    Safe c R (k0_part64 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v20 v35 v36 v50 v52 v66) := by
  rw [k0_part64_eq_skeleton]; unfold k0_part64_skel
  repeat' first
    | with_reducible exact safe_k0_t1_body H _ _ _ _ _ _ _ _
    | with_reducible exact safe_k0_t2_body H _ _ _ _ _ _ _ _ _
    | with_reducible exact safe_load H.w16.reads
    | with_reducible exact safe_store H.w16
    | with_reducible refine safe_for (fun _ _ => ?_)
    | with_reducible exact safe_pure _
    | with_reducible refine safe_bind ?_ (fun _ => ?_)
    | dsimp only
    | split

theorem safe_k0_part9 (H : Held c R arg2 arg3 arg4 arg5 arg6 arg7 arg8 arg9 arg10 arg11 arg12 arg13 arg14 arg15 arg16 arg17 arg18 arg19 arg20 arg21) (v20 : BitVec 32) (v52 : FVec F S8x128 .f32) :
    Safe c R (k0_part9 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v20 v52) := by
  rw [k0_part9_eq_skeleton]; unfold k0_part9_skel
  repeat' first
    | with_reducible exact safe_load H.w16.reads
    | with_reducible exact safe_pure _
    | with_reducible refine safe_bind ?_ (fun _ => ?_)
    | dsimp only
    | split

theorem safe_k0_part10 (H : Held c R arg2 arg3 arg4 arg5 arg6 arg7 arg8 arg9 arg10 arg11 arg12 arg13 arg14 arg15 arg16 arg17 arg18 arg19 arg20 arg21) (c0_i32_66 : BitVec 32) (c1_i32_68 : BitVec 32) (k0_t3 : Fin (k0_t3_loop i).trips) :
    Safe c R (k0_part10 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 c0_i32_66 c1_i32_68 k0_t3) := by
  rw [k0_part10_eq_skeleton]; unfold k0_part10_skel
  repeat' first
    | with_reducible exact safe_load H.w12.reads
    | with_reducible exact safe_pure _
    | with_reducible refine safe_bind ?_ (fun _ => ?_)
    | dsimp only
    | split

theorem safe_k0_part11 (H : Held c R arg2 arg3 arg4 arg5 arg6 arg7 arg8 arg9 arg10 arg11 arg12 arg13 arg14 arg15 arg16 arg17 arg18 arg19 arg20 arg21) (v423 : IVec S32x8x128 32) (v425 : IVec S8x128 32) (v427 : IVec S8x128 32) (v429 : IVec S8x128 32) (v431 : IVec S8x128 32) (v457 : IVec S8x128 32) (v459 : IVec S8x128 32) (v461 : IVec S8x128 32) (v463 : IVec S8x128 32) (v472 : IVec S1x8x128 32) :
    Safe c R (k0_part11 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v423 v425 v427 v429 v431 v457 v459 v461 v463 v472) := by
  rw [k0_part11_eq_skeleton]; unfold k0_part11_skel
  repeat' first
    | with_reducible exact safe_pure _
    | with_reducible refine safe_bind ?_ (fun _ => ?_)
    | dsimp only
    | split

theorem safe_k0_part12 (H : Held c R arg2 arg3 arg4 arg5 arg6 arg7 arg8 arg9 arg10 arg11 arg12 arg13 arg14 arg15 arg16 arg17 arg18 arg19 arg20 arg21) (v433 : IVec S8x128 32) (v435 : IVec S8x128 32) (v437 : IVec S8x128 32) (v439 : IVec S8x128 32) (v441 : IVec S8x128 32) (v463 : IVec S8x128 32) (v465 : IVec S8x128 32) (v467 : IVec S8x128 32) (v469 : IVec S8x128 32) (v471 : IVec S8x128 32) (v473 : IVec S8x128 32) (v519 : IVec S8x128 32) (c16_i32_259 : BitVec 32) :
    Safe c R (k0_part12 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v433 v435 v437 v439 v441 v463 v465 v467 v469 v471 v473 v519 c16_i32_259) := by
  rw [k0_part12_eq_skeleton]; unfold k0_part12_skel
  repeat' first
    | with_reducible exact safe_pure _
    | with_reducible refine safe_bind ?_ (fun _ => ?_)
    | dsimp only
    | split

theorem safe_k0_part13 (H : Held c R arg2 arg3 arg4 arg5 arg6 arg7 arg8 arg9 arg10 arg11 arg12 arg13 arg14 arg15 arg16 arg17 arg18 arg19 arg20 arg21) (v443 : IVec S8x128 32) (v445 : IVec S8x128 32) (v447 : IVec S8x128 32) (v449 : IVec S8x128 32) (v451 : IVec S8x128 32) (v473 : IVec S8x128 32) (v475 : IVec S8x128 32) (v477 : IVec S8x128 32) (v479 : IVec S8x128 32) (v481 : IVec S8x128 32) (v483 : IVec S8x128 32) (v564 : IVec S8x128 32) (c16_i32_274 : BitVec 32) :
    Safe c R (k0_part13 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v443 v445 v447 v449 v451 v473 v475 v477 v479 v481 v483 v564 c16_i32_274) := by
  rw [k0_part13_eq_skeleton]; unfold k0_part13_skel
  repeat' first
    | with_reducible exact safe_pure _
    | with_reducible refine safe_bind ?_ (fun _ => ?_)
    | dsimp only
    | split

theorem safe_k0_part14 (H : Held c R arg2 arg3 arg4 arg5 arg6 arg7 arg8 arg9 arg10 arg11 arg12 arg13 arg14 arg15 arg16 arg17 arg18 arg19 arg20 arg21) (v453 : IVec S8x128 32) (v455 : IVec S8x128 32) (v483 : IVec S8x128 32) (v485 : IVec S8x128 32) (v487 : IVec S8x128 32) (v493 : IVec S8x128 32) (v502 : IVec S8x128 32) (v511 : IVec S8x128 32) (v565 : IVec S8x128 32) (v574 : IVec S8x128 32) (v583 : IVec S8x128 32) (v609 : IVec S8x128 32) (c16_i32_289 : BitVec 32) :
    Safe c R (k0_part14 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v453 v455 v483 v485 v487 v493 v502 v511 v565 v574 v583 v609 c16_i32_289) := by
  rw [k0_part14_eq_skeleton]; unfold k0_part14_skel
  repeat' first
    | with_reducible exact safe_pure _
    | with_reducible refine safe_bind ?_ (fun _ => ?_)
    | dsimp only
    | split

theorem safe_k0_part15 (H : Held c R arg2 arg3 arg4 arg5 arg6 arg7 arg8 arg9 arg10 arg11 arg12 arg13 arg14 arg15 arg16 arg17 arg18 arg19 arg20 arg21) (v520 : IVec S8x128 32) (v529 : IVec S8x128 32) (v538 : IVec S8x128 32) (v547 : IVec S8x128 32) (v556 : IVec S8x128 32) (v583 : IVec S8x128 32) (v592 : IVec S8x128 32) (v601 : IVec S8x128 32) (v610 : IVec S8x128 32) (v619 : IVec S8x128 32) (v628 : IVec S8x128 32) (v654 : IVec S8x128 32) (c8_i32_303 : BitVec 32) :
    Safe c R (k0_part15 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v520 v529 v538 v547 v556 v583 v592 v601 v610 v619 v628 v654 c8_i32_303) := by
  rw [k0_part15_eq_skeleton]; unfold k0_part15_skel
  repeat' first
    | with_reducible exact safe_pure _
    | with_reducible refine safe_bind ?_ (fun _ => ?_)
    | dsimp only
    | split

theorem safe_k0_part16 (H : Held c R arg2 arg3 arg4 arg5 arg6 arg7 arg8 arg9 arg10 arg11 arg12 arg13 arg14 arg15 arg16 arg17 arg18 arg19 arg20 arg21) (v496 : IVec S8x128 32) (v505 : IVec S8x128 32) (v514 : IVec S8x128 32) (v523 : IVec S8x128 32) (v532 : IVec S8x128 32) (v568 : IVec S8x128 32) (v577 : IVec S8x128 32) (v586 : IVec S8x128 32) (v595 : IVec S8x128 32) (v604 : IVec S8x128 32) (v628 : IVec S8x128 32) (v699 : IVec S8x128 32) (c8_i32_318 : BitVec 32) :
    Safe c R (k0_part16 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v496 v505 v514 v523 v532 v568 v577 v586 v595 v604 v628 v699 c8_i32_318) := by
  rw [k0_part16_eq_skeleton]; unfold k0_part16_skel
  repeat' first
    | with_reducible exact safe_pure _
    | with_reducible refine safe_bind ?_ (fun _ => ?_)
    | dsimp only
    | split

theorem safe_k0_part17 (H : Held c R arg2 arg3 arg4 arg5 arg6 arg7 arg8 arg9 arg10 arg11 arg12 arg13 arg14 arg15 arg16 arg17 arg18 arg19 arg20 arg21) (v541 : IVec S8x128 32) (v550 : IVec S8x128 32) (v559 : IVec S8x128 32) (v604 : IVec S8x128 32) (v613 : IVec S8x128 32) (v622 : IVec S8x128 32) (v631 : IVec S8x128 32) (v637 : IVec S8x128 32) (v646 : IVec S8x128 32) (v673 : IVec S8x128 32) (v682 : IVec S8x128 32) (v744 : IVec S8x128 32) (c8_i32_333 : BitVec 32) :
    Safe c R (k0_part17 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v541 v550 v559 v604 v613 v622 v631 v637 v646 v673 v682 v744 c8_i32_333) := by
  rw [k0_part17_eq_skeleton]; unfold k0_part17_skel
  repeat' first
    | with_reducible exact safe_pure _
    | with_reducible refine safe_bind ?_ (fun _ => ?_)
    | dsimp only
    | split

theorem safe_k0_part18 (H : Held c R arg2 arg3 arg4 arg5 arg6 arg7 arg8 arg9 arg10 arg11 arg12 arg13 arg14 arg15 arg16 arg17 arg18 arg19 arg20 arg21) (v640 : IVec S8x128 32) (v649 : IVec S8x128 32) (v655 : IVec S8x128 32) (v658 : IVec S8x128 32) (v664 : IVec S8x128 32) (v676 : IVec S8x128 32) (v682 : IVec S8x128 32) (v685 : IVec S8x128 32) (v691 : IVec S8x128 32) (v694 : IVec S8x128 32) (v700 : IVec S8x128 32) (v789 : IVec S8x128 32) (c4_i32_346 : BitVec 32) :
    Safe c R (k0_part18 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v640 v649 v655 v658 v664 v676 v682 v685 v691 v694 v700 v789 c4_i32_346) := by
  rw [k0_part18_eq_skeleton]; unfold k0_part18_skel
  repeat' first
    | with_reducible exact safe_pure _
    | with_reducible refine safe_bind ?_ (fun _ => ?_)
    | dsimp only
    | split

theorem safe_k0_part19 (H : Held c R arg2 arg3 arg4 arg5 arg6 arg7 arg8 arg9 arg10 arg11 arg12 arg13 arg14 arg15 arg16 arg17 arg18 arg19 arg20 arg21) (v667 : IVec S8x128 32) (v694 : IVec S8x128 32) (v703 : IVec S8x128 32) (v709 : IVec S8x128 32) (v718 : IVec S8x128 32) (v727 : IVec S8x128 32) (v736 : IVec S8x128 32) (v745 : IVec S8x128 32) (v754 : IVec S8x128 32) (v763 : IVec S8x128 32) (v772 : IVec S8x128 32) (v834 : IVec S8x128 32) (c4_i32_361 : BitVec 32) :
    Safe c R (k0_part19 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v667 v694 v703 v709 v718 v727 v736 v745 v754 v763 v772 v834 c4_i32_361) := by
  rw [k0_part19_eq_skeleton]; unfold k0_part19_skel
  repeat' first
    | with_reducible exact safe_pure _
    | with_reducible refine safe_bind ?_ (fun _ => ?_)
    | dsimp only
    | split

theorem safe_k0_part20 (H : Held c R arg2 arg3 arg4 arg5 arg6 arg7 arg8 arg9 arg10 arg11 arg12 arg13 arg14 arg15 arg16 arg17 arg18 arg19 arg20 arg21) (v712 : IVec S8x128 32) (v721 : IVec S8x128 32) (v730 : IVec S8x128 32) (v739 : IVec S8x128 32) (v748 : IVec S8x128 32) (v757 : IVec S8x128 32) (v766 : IVec S8x128 32) (v772 : IVec S8x128 32) (v775 : IVec S8x128 32) (v781 : IVec S8x128 32) (v799 : IVec S8x128 32) (v879 : IVec S8x128 32) (c4_i32_376 : BitVec 32) :
    Safe c R (k0_part20 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v712 v721 v730 v739 v748 v757 v766 v772 v775 v781 v799 v879 c4_i32_376) := by
  rw [k0_part20_eq_skeleton]; unfold k0_part20_skel
  repeat' first
    | with_reducible exact safe_pure _
    | with_reducible refine safe_bind ?_ (fun _ => ?_)
    | dsimp only
    | split

theorem safe_k0_part21 (H : Held c R arg2 arg3 arg4 arg5 arg6 arg7 arg8 arg9 arg10 arg11 arg12 arg13 arg14 arg15 arg16 arg17 arg18 arg19 arg20 arg21) (v784 : IVec S8x128 32) (v790 : IVec S8x128 32) (v793 : IVec S8x128 32) (v799 : IVec S8x128 32) (v802 : IVec S8x128 32) (v808 : IVec S8x128 32) (v811 : IVec S8x128 32) (v817 : IVec S8x128 32) (v826 : IVec S8x128 32) (v835 : IVec S8x128 32) (v844 : IVec S8x128 32) (v924 : IVec S8x128 32) (c2_i32_390 : BitVec 32) :
    Safe c R (k0_part21 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v784 v790 v793 v799 v802 v808 v811 v817 v826 v835 v844 v924 c2_i32_390) := by
  rw [k0_part21_eq_skeleton]; unfold k0_part21_skel
  repeat' first
    | with_reducible exact safe_pure _
    | with_reducible refine safe_bind ?_ (fun _ => ?_)
    | dsimp only
    | split

theorem safe_k0_part22 (H : Held c R arg2 arg3 arg4 arg5 arg6 arg7 arg8 arg9 arg10 arg11 arg12 arg13 arg14 arg15 arg16 arg17 arg18 arg19 arg20 arg21) (v820 : IVec S8x128 32) (v829 : IVec S8x128 32) (v838 : IVec S8x128 32) (v844 : IVec S8x128 32) (v847 : IVec S8x128 32) (v853 : IVec S8x128 32) (v856 : IVec S8x128 32) (v862 : IVec S8x128 32) (v871 : IVec S8x128 32) (v874 : IVec S8x128 32) (v880 : IVec S8x128 32) (v969 : IVec S8x128 32) (c2_i32_405 : BitVec 32) :
    Safe c R (k0_part22 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v820 v829 v838 v844 v847 v853 v856 v862 v871 v874 v880 v969 c2_i32_405) := by
  rw [k0_part22_eq_skeleton]; unfold k0_part22_skel
  repeat' first
    | with_reducible exact safe_pure _
    | with_reducible refine safe_bind ?_ (fun _ => ?_)
    | dsimp only
    | split

theorem safe_k0_part23 (H : Held c R arg2 arg3 arg4 arg5 arg6 arg7 arg8 arg9 arg10 arg11 arg12 arg13 arg14 arg15 arg16 arg17 arg18 arg19 arg20 arg21) (v865 : IVec S8x128 32) (v874 : IVec S8x128 32) (v883 : IVec S8x128 32) (v889 : IVec S8x128 32) (v892 : IVec S8x128 32) (v898 : IVec S8x128 32) (v901 : IVec S8x128 32) (v907 : IVec S8x128 32) (v910 : IVec S8x128 32) (v916 : IVec S8x128 32) (v919 : IVec S8x128 32) (v1014 : IVec S8x128 32) (c2_i32_420 : BitVec 32) :
    Safe c R (k0_part23 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v865 v874 v883 v889 v892 v898 v901 v907 v910 v916 v919 v1014 c2_i32_420) := by
  rw [k0_part23_eq_skeleton]; unfold k0_part23_skel
  repeat' first
    | with_reducible exact safe_pure _
    | with_reducible refine safe_bind ?_ (fun _ => ?_)
    | dsimp only
    | split

theorem safe_k0_part24 (H : Held c R arg2 arg3 arg4 arg5 arg6 arg7 arg8 arg9 arg10 arg11 arg12 arg13 arg14 arg15 arg16 arg17 arg18 arg19 arg20 arg21) (v919 : IVec S8x128 32) (v925 : IVec S8x128 32) (v928 : IVec S8x128 32) (v934 : IVec S8x128 32) (v937 : IVec S8x128 32) (v943 : IVec S8x128 32) (v946 : IVec S8x128 32) (v952 : IVec S8x128 32) (v955 : IVec S8x128 32) (v961 : IVec S8x128 32) (v970 : IVec S8x128 32) (v1059 : IVec S8x128 32) (c2_i32_435 : BitVec 32) :
    Safe c R (k0_part24 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v919 v925 v928 v934 v937 v943 v946 v952 v955 v961 v970 v1059 c2_i32_435) := by
  rw [k0_part24_eq_skeleton]; unfold k0_part24_skel
  repeat' first
    | with_reducible exact safe_pure _
    | with_reducible refine safe_bind ?_ (fun _ => ?_)
    | dsimp only
    | split

theorem safe_k0_part25 (H : Held c R arg2 arg3 arg4 arg5 arg6 arg7 arg8 arg9 arg10 arg11 arg12 arg13 arg14 arg15 arg16 arg17 arg18 arg19 arg20 arg21) (v964 : IVec S8x128 32) (v970 : IVec S8x128 32) (v973 : IVec S8x128 32) (v979 : IVec S8x128 32) (v982 : IVec S8x128 32) (v988 : IVec S8x128 32) (v991 : IVec S8x128 32) (v997 : IVec S8x128 32) (v1000 : IVec S8x128 32) (v1006 : IVec S8x128 32) (v1009 : IVec S8x128 32) (v1104 : IVec S8x128 32) (c1_i32_449 : BitVec 32) :
    Safe c R (k0_part25 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v964 v970 v973 v979 v982 v988 v991 v997 v1000 v1006 v1009 v1104 c1_i32_449) := by
  rw [k0_part25_eq_skeleton]; unfold k0_part25_skel
  repeat' first
    | with_reducible exact safe_pure _
    | with_reducible refine safe_bind ?_ (fun _ => ?_)
    | dsimp only
    | split

theorem safe_k0_part26 (H : Held c R arg2 arg3 arg4 arg5 arg6 arg7 arg8 arg9 arg10 arg11 arg12 arg13 arg14 arg15 arg16 arg17 arg18 arg19 arg20 arg21) (v1009 : IVec S8x128 32) (v1015 : IVec S8x128 32) (v1018 : IVec S8x128 32) (v1024 : IVec S8x128 32) (v1027 : IVec S8x128 32) (v1033 : IVec S8x128 32) (v1036 : IVec S8x128 32) (v1042 : IVec S8x128 32) (v1045 : IVec S8x128 32) (v1051 : IVec S8x128 32) (v1060 : IVec S8x128 32) (v1149 : IVec S8x128 32) (c1_i32_464 : BitVec 32) :
    Safe c R (k0_part26 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1009 v1015 v1018 v1024 v1027 v1033 v1036 v1042 v1045 v1051 v1060 v1149 c1_i32_464) := by
  rw [k0_part26_eq_skeleton]; unfold k0_part26_skel
  repeat' first
    | with_reducible exact safe_pure _
    | with_reducible refine safe_bind ?_ (fun _ => ?_)
    | dsimp only
    | split

theorem safe_k0_part27 (H : Held c R arg2 arg3 arg4 arg5 arg6 arg7 arg8 arg9 arg10 arg11 arg12 arg13 arg14 arg15 arg16 arg17 arg18 arg19 arg20 arg21) (k0_t3 : Fin (k0_t3_loop i).trips) (arg22 : BitVec 32) (v1054 : IVec S8x128 32) (v1060 : IVec S8x128 32) (v1063 : IVec S8x128 32) (v1069 : IVec S8x128 32) (v1072 : IVec S8x128 32) (v1078 : IVec S8x128 32) (v1081 : IVec S8x128 32) (v1087 : IVec S8x128 32) (v1194 : IVec S8x128 32) (c1_i32_479 : BitVec 32) :
    Safe c R (k0_part27 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t3 arg22 v1054 v1060 v1063 v1069 v1072 v1078 v1081 v1087 v1194 c1_i32_479) := by
  rw [k0_part27_eq_skeleton]; unfold k0_part27_skel
  repeat' first
    | with_reducible exact safe_load H.w13.reads
    | with_reducible exact safe_store H.w13
    | with_reducible exact safe_pure _
    | with_reducible refine safe_bind ?_ (fun _ => ?_)
    | dsimp only
    | split

theorem safe_k0_part28 (H : Held c R arg2 arg3 arg4 arg5 arg6 arg7 arg8 arg9 arg10 arg11 arg12 arg13 arg14 arg15 arg16 arg17 arg18 arg19 arg20 arg21) (k0_t3 : Fin (k0_t3_loop i).trips) (arg22 : BitVec 32) (v1090 : IVec S8x128 32) (v1096 : IVec S8x128 32) (v1099 : IVec S8x128 32) (v1105 : IVec S8x128 32) (v1108 : IVec S8x128 32) (v1114 : IVec S8x128 32) :
    Safe c R (k0_part28 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t3 arg22 v1090 v1096 v1099 v1105 v1108 v1114) := by
  rw [k0_part28_eq_skeleton]; unfold k0_part28_skel
  repeat' first
    | with_reducible exact safe_load H.w13.reads
    | with_reducible exact safe_store H.w13
    | with_reducible exact safe_pure _
    | with_reducible refine safe_bind ?_ (fun _ => ?_)
    | dsimp only
    | split

theorem safe_k0_part29 (H : Held c R arg2 arg3 arg4 arg5 arg6 arg7 arg8 arg9 arg10 arg11 arg12 arg13 arg14 arg15 arg16 arg17 arg18 arg19 arg20 arg21) (k0_t3 : Fin (k0_t3_loop i).trips) (arg22 : BitVec 32) (v1117 : IVec S8x128 32) (v1123 : IVec S8x128 32) (v1126 : IVec S8x128 32) (v1132 : IVec S8x128 32) (v1135 : IVec S8x128 32) (v1141 : IVec S8x128 32) (v1144 : IVec S8x128 32) (v1265 : Vec F S1x8x128 .i32) :
    Safe c R (k0_part29 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t3 arg22 v1117 v1123 v1126 v1132 v1135 v1141 v1144 v1265) := by
  rw [k0_part29_eq_skeleton]; unfold k0_part29_skel
  repeat' first
    | with_reducible exact safe_load H.w13.reads
    | with_reducible exact safe_store H.w13
    | with_reducible exact safe_pure _
    | with_reducible refine safe_bind ?_ (fun _ => ?_)
    | dsimp only
    | split

theorem safe_k0_part30 (H : Held c R arg2 arg3 arg4 arg5 arg6 arg7 arg8 arg9 arg10 arg11 arg12 arg13 arg14 arg15 arg16 arg17 arg18 arg19 arg20 arg21) (k0_t3 : Fin (k0_t3_loop i).trips) (arg22 : BitVec 32) (v1150 : IVec S8x128 32) (v1153 : IVec S8x128 32) (v1159 : IVec S8x128 32) (v1162 : IVec S8x128 32) (v1168 : IVec S8x128 32) (v1171 : IVec S8x128 32) (v1177 : IVec S8x128 32) (v1298 : BitVec 32) :
    Safe c R (k0_part30 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t3 arg22 v1150 v1153 v1159 v1162 v1168 v1171 v1177 v1298) := by
  rw [k0_part30_eq_skeleton]; unfold k0_part30_skel
  repeat' first
    | with_reducible exact safe_load H.w13.reads
    | with_reducible exact safe_store H.w13
    | with_reducible exact safe_pure _
    | with_reducible refine safe_bind ?_ (fun _ => ?_)
    | dsimp only
    | split

theorem safe_k0_part31 (H : Held c R arg2 arg3 arg4 arg5 arg6 arg7 arg8 arg9 arg10 arg11 arg12 arg13 arg14 arg15 arg16 arg17 arg18 arg19 arg20 arg21) (k0_t3 : Fin (k0_t3_loop i).trips) (arg22 : BitVec 32) (v1180 : IVec S8x128 32) (v1186 : IVec S8x128 32) (v1189 : IVec S8x128 32) (v1195 : IVec S8x128 32) (v1198 : IVec S8x128 32) (v1204 : IVec S8x128 32) :
    Safe c R (k0_part31 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t3 arg22 v1180 v1186 v1189 v1195 v1198 v1204) := by
  rw [k0_part31_eq_skeleton]; unfold k0_part31_skel
  repeat' first
    | with_reducible exact safe_load H.w13.reads
    | with_reducible exact safe_store H.w13
    | with_reducible exact safe_pure _
    | with_reducible refine safe_bind ?_ (fun _ => ?_)
    | dsimp only
    | split

theorem safe_k0_t3_body (H : Held c R arg2 arg3 arg4 arg5 arg6 arg7 arg8 arg9 arg10 arg11 arg12 arg13 arg14 arg15 arg16 arg17 arg18 arg19 arg20 arg21) (v1 : BitVec 32) (v20 : BitVec 32) (v35 : IVec S1x128 32) (v36 : IVec S512x128 32) (v52 : FVec F S8x128 .f32) (v103 : BitVec 32) (k) (acc) :
    Safe c R (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1 v20 v35 v36 v52 v103 k acc) := by
  unfold k0_t3_body
  repeat' first
    | with_reducible exact safe_k0_part10 H _ _ _
    | with_reducible exact safe_k0_part11 H _ _ _ _ _ _ _ _ _ _
    | with_reducible exact safe_k0_part12 H _ _ _ _ _ _ _ _ _ _ _ _ _
    | with_reducible exact safe_k0_part13 H _ _ _ _ _ _ _ _ _ _ _ _ _
    | with_reducible exact safe_k0_part14 H _ _ _ _ _ _ _ _ _ _ _ _ _
    | with_reducible exact safe_k0_part15 H _ _ _ _ _ _ _ _ _ _ _ _ _
    | with_reducible exact safe_k0_part16 H _ _ _ _ _ _ _ _ _ _ _ _ _
    | with_reducible exact safe_k0_part17 H _ _ _ _ _ _ _ _ _ _ _ _ _
    | with_reducible exact safe_k0_part18 H _ _ _ _ _ _ _ _ _ _ _ _ _
    | with_reducible exact safe_k0_part19 H _ _ _ _ _ _ _ _ _ _ _ _ _
    | with_reducible exact safe_k0_part20 H _ _ _ _ _ _ _ _ _ _ _ _ _
    | with_reducible exact safe_k0_part21 H _ _ _ _ _ _ _ _ _ _ _ _ _
    | with_reducible exact safe_k0_part22 H _ _ _ _ _ _ _ _ _ _ _ _ _
    | with_reducible exact safe_k0_part23 H _ _ _ _ _ _ _ _ _ _ _ _ _
    | with_reducible exact safe_k0_part24 H _ _ _ _ _ _ _ _ _ _ _ _ _
    | with_reducible exact safe_k0_part25 H _ _ _ _ _ _ _ _ _ _ _ _ _
    | with_reducible exact safe_k0_part26 H _ _ _ _ _ _ _ _ _ _ _ _ _
    | with_reducible exact safe_k0_part27 H _ _ _ _ _ _ _ _ _ _ _ _
    | with_reducible exact safe_k0_part28 H _ _ _ _ _ _ _ _
    | with_reducible exact safe_k0_part29 H _ _ _ _ _ _ _ _ _ _
    | with_reducible exact safe_k0_part30 H _ _ _ _ _ _ _ _ _ _
    | with_reducible exact safe_k0_part31 H _ _ _ _ _ _ _ _
    | with_reducible exact safe_store H.w13
    | with_reducible exact safe_pure _
    | with_reducible refine safe_bind ?_ (fun _ => ?_)
    | dsimp only
    | split

theorem safe_k0_part32 (H : Held c R arg2 arg3 arg4 arg5 arg6 arg7 arg8 arg9 arg10 arg11 arg12 arg13 arg14 arg15 arg16 arg17 arg18 arg19 arg20 arg21) (v128 : BitVec 32) (c1_i32_69 : BitVec 32) (k0_t4 : Fin (k0_t4_loop i).trips) :
    Safe c R (k0_part32 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v128 c1_i32_69 k0_t4) := by
  rw [k0_part32_eq_skeleton]; unfold k0_part32_skel
  repeat' first
    | with_reducible exact safe_load H.w12.reads
    | with_reducible exact safe_pure _
    | with_reducible refine safe_bind ?_ (fun _ => ?_)
    | dsimp only
    | split

theorem safe_k0_part33 (H : Held c R arg2 arg3 arg4 arg5 arg6 arg7 arg8 arg9 arg10 arg11 arg12 arg13 arg14 arg15 arg16 arg17 arg18 arg19 arg20 arg21) (v423 : IVec S32x8x128 32) (v425 : IVec S8x128 32) (v427 : IVec S8x128 32) (v429 : IVec S8x128 32) (v431 : IVec S8x128 32) (v457 : IVec S8x128 32) (v459 : IVec S8x128 32) (v461 : IVec S8x128 32) (v463 : IVec S8x128 32) (v472 : IVec S1x8x128 32) :
    Safe c R (k0_part33 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v423 v425 v427 v429 v431 v457 v459 v461 v463 v472) := by
  rw [k0_part33_eq_skeleton]; unfold k0_part33_skel
  repeat' first
    | with_reducible exact safe_pure _
    | with_reducible refine safe_bind ?_ (fun _ => ?_)
    | dsimp only
    | split

theorem safe_k0_part34 (H : Held c R arg2 arg3 arg4 arg5 arg6 arg7 arg8 arg9 arg10 arg11 arg12 arg13 arg14 arg15 arg16 arg17 arg18 arg19 arg20 arg21) (v433 : IVec S8x128 32) (v435 : IVec S8x128 32) (v437 : IVec S8x128 32) (v439 : IVec S8x128 32) (v441 : IVec S8x128 32) (v463 : IVec S8x128 32) (v465 : IVec S8x128 32) (v467 : IVec S8x128 32) (v469 : IVec S8x128 32) (v471 : IVec S8x128 32) (v473 : IVec S8x128 32) (v519 : IVec S8x128 32) (c16_i32_259 : BitVec 32) :
    Safe c R (k0_part34 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v433 v435 v437 v439 v441 v463 v465 v467 v469 v471 v473 v519 c16_i32_259) := by
  rw [k0_part34_eq_skeleton]; unfold k0_part34_skel
  repeat' first
    | with_reducible exact safe_pure _
    | with_reducible refine safe_bind ?_ (fun _ => ?_)
    | dsimp only
    | split

theorem safe_k0_part35 (H : Held c R arg2 arg3 arg4 arg5 arg6 arg7 arg8 arg9 arg10 arg11 arg12 arg13 arg14 arg15 arg16 arg17 arg18 arg19 arg20 arg21) (v443 : IVec S8x128 32) (v445 : IVec S8x128 32) (v447 : IVec S8x128 32) (v449 : IVec S8x128 32) (v451 : IVec S8x128 32) (v473 : IVec S8x128 32) (v475 : IVec S8x128 32) (v477 : IVec S8x128 32) (v479 : IVec S8x128 32) (v481 : IVec S8x128 32) (v483 : IVec S8x128 32) (v564 : IVec S8x128 32) (c16_i32_274 : BitVec 32) :
    Safe c R (k0_part35 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v443 v445 v447 v449 v451 v473 v475 v477 v479 v481 v483 v564 c16_i32_274) := by
  rw [k0_part35_eq_skeleton]; unfold k0_part35_skel
  repeat' first
    | with_reducible exact safe_pure _
    | with_reducible refine safe_bind ?_ (fun _ => ?_)
    | dsimp only
    | split

theorem safe_k0_part36 (H : Held c R arg2 arg3 arg4 arg5 arg6 arg7 arg8 arg9 arg10 arg11 arg12 arg13 arg14 arg15 arg16 arg17 arg18 arg19 arg20 arg21) (v453 : IVec S8x128 32) (v455 : IVec S8x128 32) (v483 : IVec S8x128 32) (v485 : IVec S8x128 32) (v487 : IVec S8x128 32) (v493 : IVec S8x128 32) (v502 : IVec S8x128 32) (v511 : IVec S8x128 32) (v565 : IVec S8x128 32) (v574 : IVec S8x128 32) (v583 : IVec S8x128 32) (v609 : IVec S8x128 32) (c16_i32_289 : BitVec 32) :
    Safe c R (k0_part36 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v453 v455 v483 v485 v487 v493 v502 v511 v565 v574 v583 v609 c16_i32_289) := by
  rw [k0_part36_eq_skeleton]; unfold k0_part36_skel
  repeat' first
    | with_reducible exact safe_pure _
    | with_reducible refine safe_bind ?_ (fun _ => ?_)
    | dsimp only
    | split

theorem safe_k0_part37 (H : Held c R arg2 arg3 arg4 arg5 arg6 arg7 arg8 arg9 arg10 arg11 arg12 arg13 arg14 arg15 arg16 arg17 arg18 arg19 arg20 arg21) (v520 : IVec S8x128 32) (v529 : IVec S8x128 32) (v538 : IVec S8x128 32) (v547 : IVec S8x128 32) (v556 : IVec S8x128 32) (v583 : IVec S8x128 32) (v592 : IVec S8x128 32) (v601 : IVec S8x128 32) (v610 : IVec S8x128 32) (v619 : IVec S8x128 32) (v628 : IVec S8x128 32) (v654 : IVec S8x128 32) (c8_i32_303 : BitVec 32) :
    Safe c R (k0_part37 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v520 v529 v538 v547 v556 v583 v592 v601 v610 v619 v628 v654 c8_i32_303) := by
  rw [k0_part37_eq_skeleton]; unfold k0_part37_skel
  repeat' first
    | with_reducible exact safe_pure _
    | with_reducible refine safe_bind ?_ (fun _ => ?_)
    | dsimp only
    | split

theorem safe_k0_part38 (H : Held c R arg2 arg3 arg4 arg5 arg6 arg7 arg8 arg9 arg10 arg11 arg12 arg13 arg14 arg15 arg16 arg17 arg18 arg19 arg20 arg21) (v496 : IVec S8x128 32) (v505 : IVec S8x128 32) (v514 : IVec S8x128 32) (v523 : IVec S8x128 32) (v532 : IVec S8x128 32) (v568 : IVec S8x128 32) (v577 : IVec S8x128 32) (v586 : IVec S8x128 32) (v595 : IVec S8x128 32) (v604 : IVec S8x128 32) (v628 : IVec S8x128 32) (v699 : IVec S8x128 32) (c8_i32_318 : BitVec 32) :
    Safe c R (k0_part38 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v496 v505 v514 v523 v532 v568 v577 v586 v595 v604 v628 v699 c8_i32_318) := by
  rw [k0_part38_eq_skeleton]; unfold k0_part38_skel
  repeat' first
    | with_reducible exact safe_pure _
    | with_reducible refine safe_bind ?_ (fun _ => ?_)
    | dsimp only
    | split

theorem safe_k0_part39 (H : Held c R arg2 arg3 arg4 arg5 arg6 arg7 arg8 arg9 arg10 arg11 arg12 arg13 arg14 arg15 arg16 arg17 arg18 arg19 arg20 arg21) (v541 : IVec S8x128 32) (v550 : IVec S8x128 32) (v559 : IVec S8x128 32) (v604 : IVec S8x128 32) (v613 : IVec S8x128 32) (v622 : IVec S8x128 32) (v631 : IVec S8x128 32) (v637 : IVec S8x128 32) (v646 : IVec S8x128 32) (v673 : IVec S8x128 32) (v682 : IVec S8x128 32) (v744 : IVec S8x128 32) (c8_i32_333 : BitVec 32) :
    Safe c R (k0_part39 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v541 v550 v559 v604 v613 v622 v631 v637 v646 v673 v682 v744 c8_i32_333) := by
  rw [k0_part39_eq_skeleton]; unfold k0_part39_skel
  repeat' first
    | with_reducible exact safe_pure _
    | with_reducible refine safe_bind ?_ (fun _ => ?_)
    | dsimp only
    | split

theorem safe_k0_part40 (H : Held c R arg2 arg3 arg4 arg5 arg6 arg7 arg8 arg9 arg10 arg11 arg12 arg13 arg14 arg15 arg16 arg17 arg18 arg19 arg20 arg21) (v640 : IVec S8x128 32) (v649 : IVec S8x128 32) (v655 : IVec S8x128 32) (v658 : IVec S8x128 32) (v664 : IVec S8x128 32) (v676 : IVec S8x128 32) (v682 : IVec S8x128 32) (v685 : IVec S8x128 32) (v691 : IVec S8x128 32) (v694 : IVec S8x128 32) (v700 : IVec S8x128 32) (v789 : IVec S8x128 32) (c4_i32_346 : BitVec 32) :
    Safe c R (k0_part40 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v640 v649 v655 v658 v664 v676 v682 v685 v691 v694 v700 v789 c4_i32_346) := by
  rw [k0_part40_eq_skeleton]; unfold k0_part40_skel
  repeat' first
    | with_reducible exact safe_pure _
    | with_reducible refine safe_bind ?_ (fun _ => ?_)
    | dsimp only
    | split

theorem safe_k0_part41 (H : Held c R arg2 arg3 arg4 arg5 arg6 arg7 arg8 arg9 arg10 arg11 arg12 arg13 arg14 arg15 arg16 arg17 arg18 arg19 arg20 arg21) (v667 : IVec S8x128 32) (v694 : IVec S8x128 32) (v703 : IVec S8x128 32) (v709 : IVec S8x128 32) (v718 : IVec S8x128 32) (v727 : IVec S8x128 32) (v736 : IVec S8x128 32) (v745 : IVec S8x128 32) (v754 : IVec S8x128 32) (v763 : IVec S8x128 32) (v772 : IVec S8x128 32) (v834 : IVec S8x128 32) (c4_i32_361 : BitVec 32) :
    Safe c R (k0_part41 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v667 v694 v703 v709 v718 v727 v736 v745 v754 v763 v772 v834 c4_i32_361) := by
  rw [k0_part41_eq_skeleton]; unfold k0_part41_skel
  repeat' first
    | with_reducible exact safe_pure _
    | with_reducible refine safe_bind ?_ (fun _ => ?_)
    | dsimp only
    | split

theorem safe_k0_part42 (H : Held c R arg2 arg3 arg4 arg5 arg6 arg7 arg8 arg9 arg10 arg11 arg12 arg13 arg14 arg15 arg16 arg17 arg18 arg19 arg20 arg21) (v712 : IVec S8x128 32) (v721 : IVec S8x128 32) (v730 : IVec S8x128 32) (v739 : IVec S8x128 32) (v748 : IVec S8x128 32) (v757 : IVec S8x128 32) (v766 : IVec S8x128 32) (v772 : IVec S8x128 32) (v775 : IVec S8x128 32) (v781 : IVec S8x128 32) (v799 : IVec S8x128 32) (v879 : IVec S8x128 32) (c4_i32_376 : BitVec 32) :
    Safe c R (k0_part42 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v712 v721 v730 v739 v748 v757 v766 v772 v775 v781 v799 v879 c4_i32_376) := by
  rw [k0_part42_eq_skeleton]; unfold k0_part42_skel
  repeat' first
    | with_reducible exact safe_pure _
    | with_reducible refine safe_bind ?_ (fun _ => ?_)
    | dsimp only
    | split

theorem safe_k0_part43 (H : Held c R arg2 arg3 arg4 arg5 arg6 arg7 arg8 arg9 arg10 arg11 arg12 arg13 arg14 arg15 arg16 arg17 arg18 arg19 arg20 arg21) (v784 : IVec S8x128 32) (v790 : IVec S8x128 32) (v793 : IVec S8x128 32) (v799 : IVec S8x128 32) (v802 : IVec S8x128 32) (v808 : IVec S8x128 32) (v811 : IVec S8x128 32) (v817 : IVec S8x128 32) (v826 : IVec S8x128 32) (v835 : IVec S8x128 32) (v844 : IVec S8x128 32) (v924 : IVec S8x128 32) (c2_i32_390 : BitVec 32) :
    Safe c R (k0_part43 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v784 v790 v793 v799 v802 v808 v811 v817 v826 v835 v844 v924 c2_i32_390) := by
  rw [k0_part43_eq_skeleton]; unfold k0_part43_skel
  repeat' first
    | with_reducible exact safe_pure _
    | with_reducible refine safe_bind ?_ (fun _ => ?_)
    | dsimp only
    | split

theorem safe_k0_part44 (H : Held c R arg2 arg3 arg4 arg5 arg6 arg7 arg8 arg9 arg10 arg11 arg12 arg13 arg14 arg15 arg16 arg17 arg18 arg19 arg20 arg21) (v820 : IVec S8x128 32) (v829 : IVec S8x128 32) (v838 : IVec S8x128 32) (v844 : IVec S8x128 32) (v847 : IVec S8x128 32) (v853 : IVec S8x128 32) (v856 : IVec S8x128 32) (v862 : IVec S8x128 32) (v871 : IVec S8x128 32) (v874 : IVec S8x128 32) (v880 : IVec S8x128 32) (v969 : IVec S8x128 32) (c2_i32_405 : BitVec 32) :
    Safe c R (k0_part44 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v820 v829 v838 v844 v847 v853 v856 v862 v871 v874 v880 v969 c2_i32_405) := by
  rw [k0_part44_eq_skeleton]; unfold k0_part44_skel
  repeat' first
    | with_reducible exact safe_pure _
    | with_reducible refine safe_bind ?_ (fun _ => ?_)
    | dsimp only
    | split

theorem safe_k0_part45 (H : Held c R arg2 arg3 arg4 arg5 arg6 arg7 arg8 arg9 arg10 arg11 arg12 arg13 arg14 arg15 arg16 arg17 arg18 arg19 arg20 arg21) (v865 : IVec S8x128 32) (v874 : IVec S8x128 32) (v883 : IVec S8x128 32) (v889 : IVec S8x128 32) (v892 : IVec S8x128 32) (v898 : IVec S8x128 32) (v901 : IVec S8x128 32) (v907 : IVec S8x128 32) (v910 : IVec S8x128 32) (v916 : IVec S8x128 32) (v919 : IVec S8x128 32) (v1014 : IVec S8x128 32) (c2_i32_420 : BitVec 32) :
    Safe c R (k0_part45 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v865 v874 v883 v889 v892 v898 v901 v907 v910 v916 v919 v1014 c2_i32_420) := by
  rw [k0_part45_eq_skeleton]; unfold k0_part45_skel
  repeat' first
    | with_reducible exact safe_pure _
    | with_reducible refine safe_bind ?_ (fun _ => ?_)
    | dsimp only
    | split

theorem safe_k0_part46 (H : Held c R arg2 arg3 arg4 arg5 arg6 arg7 arg8 arg9 arg10 arg11 arg12 arg13 arg14 arg15 arg16 arg17 arg18 arg19 arg20 arg21) (v919 : IVec S8x128 32) (v925 : IVec S8x128 32) (v928 : IVec S8x128 32) (v934 : IVec S8x128 32) (v937 : IVec S8x128 32) (v943 : IVec S8x128 32) (v946 : IVec S8x128 32) (v952 : IVec S8x128 32) (v955 : IVec S8x128 32) (v961 : IVec S8x128 32) (v970 : IVec S8x128 32) (v1059 : IVec S8x128 32) (c2_i32_435 : BitVec 32) :
    Safe c R (k0_part46 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v919 v925 v928 v934 v937 v943 v946 v952 v955 v961 v970 v1059 c2_i32_435) := by
  rw [k0_part46_eq_skeleton]; unfold k0_part46_skel
  repeat' first
    | with_reducible exact safe_pure _
    | with_reducible refine safe_bind ?_ (fun _ => ?_)
    | dsimp only
    | split

theorem safe_k0_part47 (H : Held c R arg2 arg3 arg4 arg5 arg6 arg7 arg8 arg9 arg10 arg11 arg12 arg13 arg14 arg15 arg16 arg17 arg18 arg19 arg20 arg21) (v964 : IVec S8x128 32) (v970 : IVec S8x128 32) (v973 : IVec S8x128 32) (v979 : IVec S8x128 32) (v982 : IVec S8x128 32) (v988 : IVec S8x128 32) (v991 : IVec S8x128 32) (v997 : IVec S8x128 32) (v1000 : IVec S8x128 32) (v1006 : IVec S8x128 32) (v1009 : IVec S8x128 32) (v1104 : IVec S8x128 32) (c1_i32_449 : BitVec 32) :
    Safe c R (k0_part47 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v964 v970 v973 v979 v982 v988 v991 v997 v1000 v1006 v1009 v1104 c1_i32_449) := by
  rw [k0_part47_eq_skeleton]; unfold k0_part47_skel
  repeat' first
    | with_reducible exact safe_pure _
    | with_reducible refine safe_bind ?_ (fun _ => ?_)
    | dsimp only
    | split

theorem safe_k0_part48 (H : Held c R arg2 arg3 arg4 arg5 arg6 arg7 arg8 arg9 arg10 arg11 arg12 arg13 arg14 arg15 arg16 arg17 arg18 arg19 arg20 arg21) (v1009 : IVec S8x128 32) (v1015 : IVec S8x128 32) (v1018 : IVec S8x128 32) (v1024 : IVec S8x128 32) (v1027 : IVec S8x128 32) (v1033 : IVec S8x128 32) (v1036 : IVec S8x128 32) (v1042 : IVec S8x128 32) (v1045 : IVec S8x128 32) (v1051 : IVec S8x128 32) (v1060 : IVec S8x128 32) (v1149 : IVec S8x128 32) (c1_i32_464 : BitVec 32) :
    Safe c R (k0_part48 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1009 v1015 v1018 v1024 v1027 v1033 v1036 v1042 v1045 v1051 v1060 v1149 c1_i32_464) := by
  rw [k0_part48_eq_skeleton]; unfold k0_part48_skel
  repeat' first
    | with_reducible exact safe_pure _
    | with_reducible refine safe_bind ?_ (fun _ => ?_)
    | dsimp only
    | split

theorem safe_k0_part49 (H : Held c R arg2 arg3 arg4 arg5 arg6 arg7 arg8 arg9 arg10 arg11 arg12 arg13 arg14 arg15 arg16 arg17 arg18 arg19 arg20 arg21) (k0_t4 : Fin (k0_t4_loop i).trips) (arg22 : BitVec 32) (v1054 : IVec S8x128 32) (v1060 : IVec S8x128 32) (v1063 : IVec S8x128 32) (v1069 : IVec S8x128 32) (v1072 : IVec S8x128 32) (v1078 : IVec S8x128 32) (v1081 : IVec S8x128 32) (v1087 : IVec S8x128 32) (v1194 : IVec S8x128 32) (c1_i32_479 : BitVec 32) :
    Safe c R (k0_part49 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t4 arg22 v1054 v1060 v1063 v1069 v1072 v1078 v1081 v1087 v1194 c1_i32_479) := by
  rw [k0_part49_eq_skeleton]; unfold k0_part49_skel
  repeat' first
    | with_reducible exact safe_load H.w13.reads
    | with_reducible exact safe_store H.w13
    | with_reducible exact safe_pure _
    | with_reducible refine safe_bind ?_ (fun _ => ?_)
    | dsimp only
    | split

theorem safe_k0_part50 (H : Held c R arg2 arg3 arg4 arg5 arg6 arg7 arg8 arg9 arg10 arg11 arg12 arg13 arg14 arg15 arg16 arg17 arg18 arg19 arg20 arg21) (k0_t4 : Fin (k0_t4_loop i).trips) (arg22 : BitVec 32) (v1090 : IVec S8x128 32) (v1096 : IVec S8x128 32) (v1099 : IVec S8x128 32) (v1105 : IVec S8x128 32) (v1108 : IVec S8x128 32) (v1114 : IVec S8x128 32) :
    Safe c R (k0_part50 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t4 arg22 v1090 v1096 v1099 v1105 v1108 v1114) := by
  rw [k0_part50_eq_skeleton]; unfold k0_part50_skel
  repeat' first
    | with_reducible exact safe_load H.w13.reads
    | with_reducible exact safe_store H.w13
    | with_reducible exact safe_pure _
    | with_reducible refine safe_bind ?_ (fun _ => ?_)
    | dsimp only
    | split

theorem safe_k0_part51 (H : Held c R arg2 arg3 arg4 arg5 arg6 arg7 arg8 arg9 arg10 arg11 arg12 arg13 arg14 arg15 arg16 arg17 arg18 arg19 arg20 arg21) (k0_t4 : Fin (k0_t4_loop i).trips) (arg22 : BitVec 32) (v1117 : IVec S8x128 32) (v1123 : IVec S8x128 32) (v1126 : IVec S8x128 32) (v1132 : IVec S8x128 32) (v1135 : IVec S8x128 32) (v1141 : IVec S8x128 32) (v1144 : IVec S8x128 32) (v1265 : Vec F S1x8x128 .i32) :
    Safe c R (k0_part51 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t4 arg22 v1117 v1123 v1126 v1132 v1135 v1141 v1144 v1265) := by
  rw [k0_part51_eq_skeleton]; unfold k0_part51_skel
  repeat' first
    | with_reducible exact safe_load H.w13.reads
    | with_reducible exact safe_store H.w13
    | with_reducible exact safe_pure _
    | with_reducible refine safe_bind ?_ (fun _ => ?_)
    | dsimp only
    | split

theorem safe_k0_part52 (H : Held c R arg2 arg3 arg4 arg5 arg6 arg7 arg8 arg9 arg10 arg11 arg12 arg13 arg14 arg15 arg16 arg17 arg18 arg19 arg20 arg21) (k0_t4 : Fin (k0_t4_loop i).trips) (arg22 : BitVec 32) (v1150 : IVec S8x128 32) (v1153 : IVec S8x128 32) (v1159 : IVec S8x128 32) (v1162 : IVec S8x128 32) (v1168 : IVec S8x128 32) (v1171 : IVec S8x128 32) (v1177 : IVec S8x128 32) (v1298 : BitVec 32) :
    Safe c R (k0_part52 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t4 arg22 v1150 v1153 v1159 v1162 v1168 v1171 v1177 v1298) := by
  rw [k0_part52_eq_skeleton]; unfold k0_part52_skel
  repeat' first
    | with_reducible exact safe_load H.w13.reads
    | with_reducible exact safe_store H.w13
    | with_reducible exact safe_pure _
    | with_reducible refine safe_bind ?_ (fun _ => ?_)
    | dsimp only
    | split

theorem safe_k0_part53 (H : Held c R arg2 arg3 arg4 arg5 arg6 arg7 arg8 arg9 arg10 arg11 arg12 arg13 arg14 arg15 arg16 arg17 arg18 arg19 arg20 arg21) (k0_t4 : Fin (k0_t4_loop i).trips) (arg22 : BitVec 32) (v1180 : IVec S8x128 32) (v1186 : IVec S8x128 32) (v1189 : IVec S8x128 32) (v1195 : IVec S8x128 32) (v1198 : IVec S8x128 32) (v1204 : IVec S8x128 32) :
    Safe c R (k0_part53 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t4 arg22 v1180 v1186 v1189 v1195 v1198 v1204) := by
  rw [k0_part53_eq_skeleton]; unfold k0_part53_skel
  repeat' first
    | with_reducible exact safe_load H.w13.reads
    | with_reducible exact safe_store H.w13
    | with_reducible exact safe_pure _
    | with_reducible refine safe_bind ?_ (fun _ => ?_)
    | dsimp only
    | split

theorem safe_k0_t4_body (H : Held c R arg2 arg3 arg4 arg5 arg6 arg7 arg8 arg9 arg10 arg11 arg12 arg13 arg14 arg15 arg16 arg17 arg18 arg19 arg20 arg21) (v1 : BitVec 32) (v20 : BitVec 32) (v35 : IVec S1x128 32) (v36 : IVec S512x128 32) (v52 : FVec F S8x128 .f32) (v103 : BitVec 32) (v128 : BitVec 32) (k) (acc) :
    Safe c R (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1 v20 v35 v36 v52 v103 v128 k acc) := by
  unfold k0_t4_body
  repeat' first
    | with_reducible exact safe_k0_part32 H _ _ _
    | with_reducible exact safe_k0_part33 H _ _ _ _ _ _ _ _ _ _
    | with_reducible exact safe_k0_part34 H _ _ _ _ _ _ _ _ _ _ _ _ _
    | with_reducible exact safe_k0_part35 H _ _ _ _ _ _ _ _ _ _ _ _ _
    | with_reducible exact safe_k0_part36 H _ _ _ _ _ _ _ _ _ _ _ _ _
    | with_reducible exact safe_k0_part37 H _ _ _ _ _ _ _ _ _ _ _ _ _
    | with_reducible exact safe_k0_part38 H _ _ _ _ _ _ _ _ _ _ _ _ _
    | with_reducible exact safe_k0_part39 H _ _ _ _ _ _ _ _ _ _ _ _ _
    | with_reducible exact safe_k0_part40 H _ _ _ _ _ _ _ _ _ _ _ _ _
    | with_reducible exact safe_k0_part41 H _ _ _ _ _ _ _ _ _ _ _ _ _
    | with_reducible exact safe_k0_part42 H _ _ _ _ _ _ _ _ _ _ _ _ _
    | with_reducible exact safe_k0_part43 H _ _ _ _ _ _ _ _ _ _ _ _ _
    | with_reducible exact safe_k0_part44 H _ _ _ _ _ _ _ _ _ _ _ _ _
    | with_reducible exact safe_k0_part45 H _ _ _ _ _ _ _ _ _ _ _ _ _
    | with_reducible exact safe_k0_part46 H _ _ _ _ _ _ _ _ _ _ _ _ _
    | with_reducible exact safe_k0_part47 H _ _ _ _ _ _ _ _ _ _ _ _ _
    | with_reducible exact safe_k0_part48 H _ _ _ _ _ _ _ _ _ _ _ _ _
    | with_reducible exact safe_k0_part49 H _ _ _ _ _ _ _ _ _ _ _ _
    | with_reducible exact safe_k0_part50 H _ _ _ _ _ _ _ _
    | with_reducible exact safe_k0_part51 H _ _ _ _ _ _ _ _ _ _
    | with_reducible exact safe_k0_part52 H _ _ _ _ _ _ _ _ _ _
    | with_reducible exact safe_k0_part53 H _ _ _ _ _ _ _ _
    | with_reducible exact safe_store H.w13
    | with_reducible exact safe_pure _
    | with_reducible refine safe_bind ?_ (fun _ => ?_)
    | dsimp only
    | split

theorem safe_k0_part65 (H : Held c R arg2 arg3 arg4 arg5 arg6 arg7 arg8 arg9 arg10 arg11 arg12 arg13 arg14 arg15 arg16 arg17 arg18 arg19 arg20 arg21) (v1 : BitVec 32) (v20 : BitVec 32) (v35 : IVec S1x128 32) (v36 : IVec S512x128 32) (v52 : FVec F S8x128 .f32) (v103 : BitVec 32) :
    Safe c R (k0_part65 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1 v20 v35 v36 v52 v103) := by
  rw [k0_part65_eq_skeleton]; unfold k0_part65_skel
  repeat' first
    | with_reducible exact safe_k0_part9 H _ _
    | with_reducible exact safe_k0_t3_body H _ _ _ _ _ _ _ _
    | with_reducible exact safe_k0_t4_body H _ _ _ _ _ _ _ _ _
    | with_reducible exact safe_load H.w12.reads
    | with_reducible exact safe_load H.w16.reads
    | with_reducible exact safe_store H.w12
    | with_reducible refine safe_for (fun _ _ => ?_)
    | with_reducible exact safe_pure _
    | with_reducible refine safe_bind ?_ (fun _ => ?_)
    | with_reducible refine safe_if ?_ ?_
    | dsimp only
    | split

theorem safe_k0_t5_body (H : Held c R arg2 arg3 arg4 arg5 arg6 arg7 arg8 arg9 arg10 arg11 arg12 arg13 arg14 arg15 arg16 arg17 arg18 arg19 arg20 arg21) (v20 : BitVec 32) (v36 : IVec S512x128 32) (v123 : BitVec 32) (v129 : IVec S128x128 32) (c8_i32 : BitVec 32) (v131 : IVec S128x128 32) (v138 : IVec S128x128 32) (v140 : BitVec 32) (c0_i32_73 : BitVec 32) (k) (acc) :
    Safe c R (k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v20 v36 v123 v129 c8_i32 v131 v138 v140 c0_i32_73 k acc) := by
  unfold k0_t5_body
  repeat' first
    | with_reducible exact safe_load H.w13.reads
    | with_reducible exact safe_pure _
    | with_reducible refine safe_bind ?_ (fun _ => ?_)
    | dsimp only
    | split

theorem safe_k0_part54 (H : Held c R arg2 arg3 arg4 arg5 arg6 arg7 arg8 arg9 arg10 arg11 arg12 arg13 arg14 arg15 arg16 arg17 arg18 arg19 arg20 arg21) (v165 : IVec S1x128 32) (c0_i32_248 : BitVec 32) (c1_i32_250 : BitVec 32) (k0_t6 : Fin (k0_t6_loop i).trips) (arg23 : IVec S64x128 32) :
    Safe c R (k0_part54 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v165 c0_i32_248 c1_i32_250 k0_t6 arg23) := by
  rw [k0_part54_eq_skeleton]; unfold k0_part54_skel
  repeat' first
    | with_reducible exact safe_load H.w12.reads
    | with_reducible exact safe_pure _
    | with_reducible refine safe_bind ?_ (fun _ => ?_)
    | dsimp only
    | split

theorem safe_k0_t6_body (H : Held c R arg2 arg3 arg4 arg5 arg6 arg7 arg8 arg9 arg10 arg11 arg12 arg13 arg14 arg15 arg16 arg17 arg18 arg19 arg20 arg21) (v20 : BitVec 32) (v36 : IVec S512x128 32) (v123 : BitVec 32) (v129 : IVec S128x128 32) (c8_i32 : BitVec 32) (v131 : IVec S128x128 32) (v138 : IVec S128x128 32) (v140 : BitVec 32) (c0_i32_73 : BitVec 32) (v161_2 : IVec S1x128 32) (k) (acc) :
    Safe c R (k0_t6_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v20 v36 v123 v129 c8_i32 v131 v138 v140 c0_i32_73 v161_2 k acc) := by
  unfold k0_t6_body
  repeat' first
    | with_reducible exact safe_k0_part54 H _ _ _ _ _
    | with_reducible exact safe_pure _
    | with_reducible refine safe_bind ?_ (fun _ => ?_)
    | dsimp only
    | split

theorem safe_k0_part55 (H : Held c R arg2 arg3 arg4 arg5 arg6 arg7 arg8 arg9 arg10 arg11 arg12 arg13 arg14 arg15 arg16 arg17 arg18 arg19 arg20 arg21) (v165 : IVec S1x128 32) (v422 : BitVec 32) (c1_i32_251 : BitVec 32) (k0_t7 : Fin (k0_t7_loop i).trips) (arg23 : IVec S64x128 32) :
    Safe c R (k0_part55 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v165 v422 c1_i32_251 k0_t7 arg23) := by
  rw [k0_part55_eq_skeleton]; unfold k0_part55_skel
  repeat' first
    | with_reducible exact safe_load H.w12.reads
    | with_reducible exact safe_pure _
    | with_reducible refine safe_bind ?_ (fun _ => ?_)
    | dsimp only
    | split

theorem safe_k0_t7_body (H : Held c R arg2 arg3 arg4 arg5 arg6 arg7 arg8 arg9 arg10 arg11 arg12 arg13 arg14 arg15 arg16 arg17 arg18 arg19 arg20 arg21) (v20 : BitVec 32) (v36 : IVec S512x128 32) (v123 : BitVec 32) (v129 : IVec S128x128 32) (c8_i32 : BitVec 32) (v131 : IVec S128x128 32) (v138 : IVec S128x128 32) (v140 : BitVec 32) (c0_i32_73 : BitVec 32) (v161_2 : IVec S1x128 32) (v422 : BitVec 32) (k) (acc) :
    Safe c R (k0_t7_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v20 v36 v123 v129 c8_i32 v131 v138 v140 c0_i32_73 v161_2 v422 k acc) := by
  unfold k0_t7_body
  repeat' first
    | with_reducible exact safe_k0_part55 H _ _ _ _ _
    | with_reducible exact safe_pure _
    | with_reducible refine safe_bind ?_ (fun _ => ?_)
    | dsimp only
    | split

theorem safe_k0_part56 (H : Held c R arg2 arg3 arg4 arg5 arg6 arg7 arg8 arg9 arg10 arg11 arg12 arg13 arg14 arg15 arg16 arg17 arg18 arg19 arg20 arg21) (v36 : IVec S512x128 32) (v165 : IVec S1x128 32) (v441 : IVec S1x128 32) (c0_i32_262 : BitVec 32) (c1_i32_264 : BitVec 32) (k0_t9 : Fin (k0_t9_loop i).trips) (arg25 : IVec S64x128 32) :
    Safe c R (k0_part56 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v36 v165 v441 c0_i32_262 c1_i32_264 k0_t9 arg25) := by
  rw [k0_part56_eq_skeleton]; unfold k0_part56_skel
  repeat' first
    | with_reducible exact safe_load H.w12.reads
    | with_reducible exact safe_pure _
    | with_reducible refine safe_bind ?_ (fun _ => ?_)
    | dsimp only
    | split

theorem safe_k0_t9_body (H : Held c R arg2 arg3 arg4 arg5 arg6 arg7 arg8 arg9 arg10 arg11 arg12 arg13 arg14 arg15 arg16 arg17 arg18 arg19 arg20 arg21) (v20 : BitVec 32) (v36 : IVec S512x128 32) (v123 : BitVec 32) (v129 : IVec S128x128 32) (c8_i32 : BitVec 32) (v131 : IVec S128x128 32) (v138 : IVec S128x128 32) (v140 : BitVec 32) (c0_i32_73 : BitVec 32) (v161_2 : IVec S1x128 32) (k0_t8 : Fin k0_t8_loop.trips) (arg23 : IVec S1x128 32) (k) (acc) :
    Safe c R (k0_t9_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v20 v36 v123 v129 c8_i32 v131 v138 v140 c0_i32_73 v161_2 k0_t8 arg23 k acc) := by
  unfold k0_t9_body
  repeat' first
    | with_reducible exact safe_k0_part56 H _ _ _ _ _ _ _
    | with_reducible exact safe_pure _
    | with_reducible refine safe_bind ?_ (fun _ => ?_)
    | dsimp only
    | split

theorem safe_k0_part57 (H : Held c R arg2 arg3 arg4 arg5 arg6 arg7 arg8 arg9 arg10 arg11 arg12 arg13 arg14 arg15 arg16 arg17 arg18 arg19 arg20 arg21) (v36 : IVec S512x128 32) (v165 : IVec S1x128 32) (v441 : IVec S1x128 32) (v447 : BitVec 32) (c1_i32_265 : BitVec 32) (k0_t10 : Fin (k0_t10_loop i).trips) (arg25 : IVec S64x128 32) :
    Safe c R (k0_part57 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v36 v165 v441 v447 c1_i32_265 k0_t10 arg25) := by
  rw [k0_part57_eq_skeleton]; unfold k0_part57_skel
  repeat' first
    | with_reducible exact safe_load H.w12.reads
    | with_reducible exact safe_pure _
    | with_reducible refine safe_bind ?_ (fun _ => ?_)
    | dsimp only
    | split

theorem safe_k0_t10_body (H : Held c R arg2 arg3 arg4 arg5 arg6 arg7 arg8 arg9 arg10 arg11 arg12 arg13 arg14 arg15 arg16 arg17 arg18 arg19 arg20 arg21) (v20 : BitVec 32) (v36 : IVec S512x128 32) (v123 : BitVec 32) (v129 : IVec S128x128 32) (c8_i32 : BitVec 32) (v131 : IVec S128x128 32) (v138 : IVec S128x128 32) (v140 : BitVec 32) (c0_i32_73 : BitVec 32) (v161_2 : IVec S1x128 32) (k0_t8 : Fin k0_t8_loop.trips) (arg23 : IVec S1x128 32) (v447 : BitVec 32) (k) (acc) :
    Safe c R (k0_t10_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v20 v36 v123 v129 c8_i32 v131 v138 v140 c0_i32_73 v161_2 k0_t8 arg23 v447 k acc) := by
  unfold k0_t10_body
  repeat' first
    | with_reducible exact safe_k0_part57 H _ _ _ _ _ _ _
    | with_reducible exact safe_pure _
    | with_reducible refine safe_bind ?_ (fun _ => ?_)
    | dsimp only
    | split

theorem safe_k0_t8_body (H : Held c R arg2 arg3 arg4 arg5 arg6 arg7 arg8 arg9 arg10 arg11 arg12 arg13 arg14 arg15 arg16 arg17 arg18 arg19 arg20 arg21) (v20 : BitVec 32) (v36 : IVec S512x128 32) (v123 : BitVec 32) (v129 : IVec S128x128 32) (c8_i32 : BitVec 32) (v131 : IVec S128x128 32) (v138 : IVec S128x128 32) (v140 : BitVec 32) (c0_i32_73 : BitVec 32) (v161_2 : IVec S1x128 32) (v424 : IVec S64x128 32) (k) (acc) :
    Safe c R (k0_t8_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v20 v36 v123 v129 c8_i32 v131 v138 v140 c0_i32_73 v161_2 v424 k acc) := by
  unfold k0_t8_body
  repeat' first
    | with_reducible exact safe_k0_t9_body H _ _ _ _ _ _ _ _ _ _ _ _ _ _
    | with_reducible exact safe_k0_t10_body H _ _ _ _ _ _ _ _ _ _ _ _ _ _ _
    | with_reducible refine safe_for (fun _ _ => ?_)
    | with_reducible exact safe_pure _
    | with_reducible refine safe_bind ?_ (fun _ => ?_)
    | dsimp only
    | split

theorem safe_k0_part66 (H : Held c R arg2 arg3 arg4 arg5 arg6 arg7 arg8 arg9 arg10 arg11 arg12 arg13 arg14 arg15 arg16 arg17 arg18 arg19 arg20 arg21) (v20 : BitVec 32) (v36 : IVec S512x128 32) (v123 : BitVec 32) (v129 : IVec S128x128 32) (c8_i32 : BitVec 32) (v131 : IVec S128x128 32) (v138 : IVec S128x128 32) (v140 : BitVec 32) (c0_i32_73 : BitVec 32) :
    Safe c R (k0_part66 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v20 v36 v123 v129 c8_i32 v131 v138 v140 c0_i32_73) := by
  rw [k0_part66_eq_skeleton]; unfold k0_part66_skel
  repeat' first
    | with_reducible exact safe_k0_t5_body H _ _ _ _ _ _ _ _ _ _ _
    | with_reducible exact safe_k0_t6_body H _ _ _ _ _ _ _ _ _ _ _ _
    | with_reducible exact safe_k0_t7_body H _ _ _ _ _ _ _ _ _ _ _ _ _
    | with_reducible exact safe_k0_t8_body H _ _ _ _ _ _ _ _ _ _ _ _ _
    | with_reducible refine safe_for (fun _ _ => ?_)
    | with_reducible exact safe_pure _
    | with_reducible refine safe_bind ?_ (fun _ => ?_)
    | with_reducible refine safe_if ?_ ?_
    | dsimp only
    | split

theorem safe_k0_t11_body (H : Held c R arg2 arg3 arg4 arg5 arg6 arg7 arg8 arg9 arg10 arg11 arg12 arg13 arg14 arg15 arg16 arg17 arg18 arg19 arg20 arg21) (v23 : BitVec 32) (v36 : IVec S512x128 32) (v165 : IVec S1x128 32) (v176 : IVec S1x128 32) (c0_i32_86 : BitVec 32) (v181 : BitVec 32) (c1_i32_88 : BitVec 32) (k) (acc) :
    Safe c R (k0_t11_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v23 v36 v165 v176 c0_i32_86 v181 c1_i32_88 k acc) := by
  unfold k0_t11_body
  repeat' first
    | with_reducible exact safe_load H.w12.reads
    | with_reducible exact safe_load H.w14.reads
    | with_reducible exact safe_store H.w14
    | with_reducible exact safe_pure _
    | with_reducible refine safe_bind ?_ (fun _ => ?_)
    | dsimp only
    | split

theorem safe_k0_t12_body (H : Held c R arg2 arg3 arg4 arg5 arg6 arg7 arg8 arg9 arg10 arg11 arg12 arg13 arg14 arg15 arg16 arg17 arg18 arg19 arg20 arg21) (v23 : BitVec 32) (v36 : IVec S512x128 32) (v165 : IVec S1x128 32) (v176 : IVec S1x128 32) (c0_i32_86 : BitVec 32) (v181 : BitVec 32) (c1_i32_88 : BitVec 32) (k) (acc) :
    Safe c R (k0_t12_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v23 v36 v165 v176 c0_i32_86 v181 c1_i32_88 k acc) := by
  unfold k0_t12_body
  repeat' first
    | with_reducible exact safe_load H.w12.reads
    | with_reducible exact safe_load H.w14.reads
    | with_reducible exact safe_store H.w14
    | with_reducible exact safe_pure _
    | with_reducible refine safe_bind ?_ (fun _ => ?_)
    | dsimp only
    | split

theorem safe_k0_part67 (H : Held c R arg2 arg3 arg4 arg5 arg6 arg7 arg8 arg9 arg10 arg11 arg12 arg13 arg14 arg15 arg16 arg17 arg18 arg19 arg20 arg21) (v23 : BitVec 32) (v36 : IVec S512x128 32) (v165 : IVec S1x128 32) (v176 : IVec S1x128 32) (c0_i32_86 : BitVec 32) (v181 : BitVec 32) (c1_i32_88 : BitVec 32) :
    Safe c R (k0_part67 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v23 v36 v165 v176 c0_i32_86 v181 c1_i32_88) := by
  rw [k0_part67_eq_skeleton]; unfold k0_part67_skel
  repeat' first
    | with_reducible exact safe_k0_t11_body H _ _ _ _ _ _ _ _ _
    | with_reducible exact safe_k0_t12_body H _ _ _ _ _ _ _ _ _
    | with_reducible exact safe_load H.w14.reads
    | with_reducible exact safe_load H.w15.reads
    | with_reducible exact safe_load H.r4
    | with_reducible exact safe_store H.w14
    | with_reducible exact safe_store H.w15
    | with_reducible refine safe_for (fun _ _ => ?_)
    | with_reducible exact safe_pure _
    | with_reducible refine safe_bind ?_ (fun _ => ?_)
    | dsimp only
    | split

theorem safe_k0_part68 (H : Held c R arg2 arg3 arg4 arg5 arg6 arg7 arg8 arg9 arg10 arg11 arg12 arg13 arg14 arg15 arg16 arg17 arg18 arg19 arg20 arg21) (v23 : BitVec 32) (v26 : BitVec 32) (v193 : FVec F S128x128 .bf16) (v195 : FVec F S128x128 .bf16) (v197 : FVec F S128x128 .bf16) (v199 : FVec F S128x128 .bf16) (v201 : FVec F S128x128 .bf16) (v203 : FVec F S128x128 .bf16) (v205 : FVec F S128x128 .bf16) (v207 : FVec F S128x128 .bf16) :
    Safe c R (k0_part68 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v23 v26 v193 v195 v197 v199 v201 v203 v205 v207) := by
  rw [k0_part68_eq_skeleton]; unfold k0_part68_skel
  repeat' first
    | with_reducible exact safe_load H.w15.reads
    | with_reducible exact safe_load H.w20.reads
    | with_reducible exact safe_load H.r7
    | with_reducible exact safe_load H.r9
    | with_reducible exact safe_store H.w20
    | with_reducible exact safe_pure _
    | with_reducible refine safe_bind ?_ (fun _ => ?_)
    | dsimp only
    | split

theorem safe_k0_part69 (H : Held c R arg2 arg3 arg4 arg5 arg6 arg7 arg8 arg9 arg10 arg11 arg12 arg13 arg14 arg15 arg16 arg17 arg18 arg19 arg20 arg21) (v23 : BitVec 32) (v208 : FVec F S128x1024 .bf16) (v219 : FVec F S256x1024 .f32) (v222 : FVec F S256x128 .f32) (v225 : FVec F S256x128 .f32) (v228 : FVec F S256x128 .f32) (v231 : FVec F S256x128 .f32) (v234 : FVec F S256x128 .f32) (v237 : FVec F S256x128 .f32) (v240 : FVec F S256x128 .f32) (v242 : Vec F S1x256x128 .f32) :
    Safe c R (k0_part69 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v23 v208 v219 v222 v225 v228 v231 v234 v237 v240 v242) := by
  rw [k0_part69_eq_skeleton]; unfold k0_part69_skel
  repeat' first
    | with_reducible exact safe_load H.w14.reads
    | with_reducible exact safe_load H.w20.reads
    | with_reducible exact safe_load H.r7
    | with_reducible exact safe_load H.r8
    | with_reducible exact safe_store H.w20
    | with_reducible exact safe_pure _
    | with_reducible refine safe_bind ?_ (fun _ => ?_)
    | dsimp only
    | split

theorem safe_k0_part70 (H : Held c R arg2 arg3 arg4 arg5 arg6 arg7 arg8 arg9 arg10 arg11 arg12 arg13 arg14 arg15 arg16 arg17 arg18 arg19 arg20 arg21) (v23 : BitVec 32) (v279 : FVec F S512x1024 .f32) (v282 : FVec F S512x1024 .f32) :
    Safe c R (k0_part70 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v23 v279 v282) := by
  rw [k0_part70_eq_skeleton]; unfold k0_part70_skel
  repeat' first
    | with_reducible exact safe_load H.w16.reads
    | with_reducible exact safe_load H.w18.reads
    | with_reducible exact safe_store H.w16
    | with_reducible exact safe_store H.w18
    | with_reducible exact safe_pure _
    | with_reducible refine safe_bind ?_ (fun _ => ?_)
    | dsimp only
    | split

theorem safe_k0_part58 (H : Held c R arg2 arg3 arg4 arg5 arg6 arg7 arg8 arg9 arg10 arg11 arg12 arg13 arg14 arg15 arg16 arg17 arg18 arg19 arg20 arg21) (v208 : FVec F S128x1024 .bf16) (c0_i32_173 : BitVec 32) (c1_i32_175 : BitVec 32) (k0_t13 : Fin (k0_t13_loop i).trips) (arg23 : FVec F S1x1024 .f32) :
    Safe c R (k0_part58 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v208 c0_i32_173 c1_i32_175 k0_t13 arg23) := by
  rw [k0_part58_eq_skeleton]; unfold k0_part58_skel
  repeat' first
    | with_reducible exact safe_load H.w14.reads
    | with_reducible exact safe_load H.w16.reads
    | with_reducible exact safe_load H.w17.reads
    | with_reducible exact safe_load H.w18.reads
    | with_reducible exact safe_load H.w19.reads
    | with_reducible exact safe_load H.r7
    | with_reducible exact safe_load H.r8
    | with_reducible exact safe_store H.w17
    | with_reducible exact safe_store H.w19
    | with_reducible exact safe_pure _
    | with_reducible refine safe_bind ?_ (fun _ => ?_)
    | dsimp only
    | split

theorem safe_k0_part59 (H : Held c R arg2 arg3 arg4 arg5 arg6 arg7 arg8 arg9 arg10 arg11 arg12 arg13 arg14 arg15 arg16 arg17 arg18 arg19 arg20 arg21) (v208 : FVec F S128x1024 .bf16) (k0_t13 : Fin (k0_t13_loop i).trips) (arg23 : FVec F S1x1024 .f32) (arg22 : BitVec 32) (v439 : Vec F S512x1024 .f32) (v445 : FVec F S144x512 .bf16) (v448 : FVec F S1x1024 .f32) (v450 : IVec S1x1024 1) :
    Safe c R (k0_part59 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v208 k0_t13 arg23 arg22 v439 v445 v448 v450) := by
  rw [k0_part59_eq_skeleton]; unfold k0_part59_skel
  repeat' first
    | with_reducible exact safe_load H.w14.reads
    | with_reducible exact safe_load H.w16.reads
    | with_reducible exact safe_load H.w18.reads
    | with_reducible exact safe_load H.w20.reads
    | with_reducible exact safe_load H.r7
    | with_reducible exact safe_store H.w16
    | with_reducible exact safe_store H.w18
    | with_reducible exact safe_store H.w20
    | with_reducible exact safe_pure _
    | with_reducible refine safe_bind ?_ (fun _ => ?_)
    | dsimp only
    | split

theorem safe_k0_t13_body (H : Held c R arg2 arg3 arg4 arg5 arg6 arg7 arg8 arg9 arg10 arg11 arg12 arg13 arg14 arg15 arg16 arg17 arg18 arg19 arg20 arg21) (v208 : FVec F S128x1024 .bf16) (v254 : FVec F S1x1024 .f32) (v310 : BitVec 32) (c2_i32_166 : BitVec 32) (v311 : BitVec 32) (v316 : BitVec 32) (v321 : BitVec 32) (k) (acc) :
    Safe c R (k0_t13_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v208 v254 v310 c2_i32_166 v311 v316 v321 k acc) := by
  unfold k0_t13_body
  repeat' first
    | with_reducible exact safe_k0_part58 H _ _ _ _ _
    | with_reducible exact safe_k0_part59 H _ _ _ _ _ _ _ _
    | with_reducible exact safe_load H.w17.reads
    | with_reducible exact safe_load H.w19.reads
    | with_reducible exact safe_load H.w20.reads
    | with_reducible exact safe_load H.r8
    | with_reducible exact safe_store H.w20
    | with_reducible exact safe_pure _
    | with_reducible refine safe_bind ?_ (fun _ => ?_)
    | dsimp only
    | split

theorem safe_k0_part60 (H : Held c R arg2 arg3 arg4 arg5 arg6 arg7 arg8 arg9 arg10 arg11 arg12 arg13 arg14 arg15 arg16 arg17 arg18 arg19 arg20 arg21) (v208 : FVec F S128x1024 .bf16) (v332 : BitVec 32) (c1_i32_176 : BitVec 32) (k0_t14 : Fin (k0_t14_loop i).trips) (arg23 : FVec F S1x1024 .f32) :
    Safe c R (k0_part60 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v208 v332 c1_i32_176 k0_t14 arg23) := by
  rw [k0_part60_eq_skeleton]; unfold k0_part60_skel
  repeat' first
    | with_reducible exact safe_load H.w14.reads
    | with_reducible exact safe_load H.w16.reads
    | with_reducible exact safe_load H.w17.reads
    | with_reducible exact safe_load H.w18.reads
    | with_reducible exact safe_load H.w19.reads
    | with_reducible exact safe_load H.r7
    | with_reducible exact safe_load H.r8
    | with_reducible exact safe_store H.w17
    | with_reducible exact safe_store H.w19
    | with_reducible exact safe_pure _
    | with_reducible refine safe_bind ?_ (fun _ => ?_)
    | dsimp only
    | split

theorem safe_k0_part61 (H : Held c R arg2 arg3 arg4 arg5 arg6 arg7 arg8 arg9 arg10 arg11 arg12 arg13 arg14 arg15 arg16 arg17 arg18 arg19 arg20 arg21) (v208 : FVec F S128x1024 .bf16) (k0_t14 : Fin (k0_t14_loop i).trips) (arg23 : FVec F S1x1024 .f32) (arg22 : BitVec 32) (v439 : Vec F S512x1024 .f32) (v445 : FVec F S144x512 .bf16) (v448 : FVec F S1x1024 .f32) (v450 : IVec S1x1024 1) :
    Safe c R (k0_part61 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v208 k0_t14 arg23 arg22 v439 v445 v448 v450) := by
  rw [k0_part61_eq_skeleton]; unfold k0_part61_skel
  repeat' first
    | with_reducible exact safe_load H.w14.reads
    | with_reducible exact safe_load H.w16.reads
    | with_reducible exact safe_load H.w18.reads
    | with_reducible exact safe_load H.w20.reads
    | with_reducible exact safe_load H.r7
    | with_reducible exact safe_store H.w16
    | with_reducible exact safe_store H.w18
    | with_reducible exact safe_store H.w20
    | with_reducible exact safe_pure _
    | with_reducible refine safe_bind ?_ (fun _ => ?_)
    | dsimp only
    | split

theorem safe_k0_t14_body (H : Held c R arg2 arg3 arg4 arg5 arg6 arg7 arg8 arg9 arg10 arg11 arg12 arg13 arg14 arg15 arg16 arg17 arg18 arg19 arg20 arg21) (v208 : FVec F S128x1024 .bf16) (v254 : FVec F S1x1024 .f32) (v310 : BitVec 32) (c2_i32_166 : BitVec 32) (v311 : BitVec 32) (v316 : BitVec 32) (v321 : BitVec 32) (v332 : BitVec 32) (k) (acc) :
    Safe c R (k0_t14_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v208 v254 v310 c2_i32_166 v311 v316 v321 v332 k acc) := by
  unfold k0_t14_body
  repeat' first
    | with_reducible exact safe_k0_part60 H _ _ _ _ _
    | with_reducible exact safe_k0_part61 H _ _ _ _ _ _ _ _
    | with_reducible exact safe_load H.w17.reads
    | with_reducible exact safe_load H.w19.reads
    | with_reducible exact safe_load H.w20.reads
    | with_reducible exact safe_load H.r8
    | with_reducible exact safe_store H.w20
    | with_reducible exact safe_pure _
    | with_reducible refine safe_bind ?_ (fun _ => ?_)
    | dsimp only
    | split

theorem safe_k0_part71 (H : Held c R arg2 arg3 arg4 arg5 arg6 arg7 arg8 arg9 arg10 arg11 arg12 arg13 arg14 arg15 arg16 arg17 arg18 arg19 arg20 arg21) (v208 : FVec F S128x1024 .bf16) (v254 : FVec F S1x1024 .f32) (v310 : BitVec 32) (c2_i32_166 : BitVec 32) (v311 : BitVec 32) (v316 : BitVec 32) (v321 : BitVec 32) :
    Safe c R (k0_part71 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v208 v254 v310 c2_i32_166 v311 v316 v321) := by
  rw [k0_part71_eq_skeleton]; unfold k0_part71_skel
  repeat' first
    | with_reducible exact safe_k0_t13_body H _ _ _ _ _ _ _ _ _
    | with_reducible exact safe_k0_t14_body H _ _ _ _ _ _ _ _ _ _
    | with_reducible exact safe_load H.r10
    | with_reducible exact safe_load H.w16.reads
    | with_reducible exact safe_load H.w18.reads
    | with_reducible exact safe_load H.w20.reads
    | with_reducible exact safe_load H.r8
    | with_reducible exact safe_store H.w20
    | with_reducible refine safe_for (fun _ _ => ?_)
    | with_reducible exact safe_pure _
    | with_reducible refine safe_bind ?_ (fun _ => ?_)
    | with_reducible refine safe_if ?_ ?_
    | dsimp only
    | split

theorem safe_k0_part72 (H : Held c R arg2 arg3 arg4 arg5 arg6 arg7 arg8 arg9 arg10 arg11 arg12 arg13 arg14 arg15 arg16 arg17 arg18 arg19 arg20 arg21) (v354 : FVec F S128x1024 .bf16) (v356 : FVec F S64x128 .bf16) (v357 : FVec F S128x128 .bf16) :
    Safe c R (k0_part72 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v354 v356 v357) := by
  rw [k0_part72_eq_skeleton]; unfold k0_part72_skel
  repeat' first
    | with_reducible exact safe_load H.r10
    | with_reducible exact safe_load H.w21.reads
    | with_reducible exact safe_store H.w21
    | with_reducible exact safe_pure _
    | with_reducible refine safe_bind ?_ (fun _ => ?_)
    | dsimp only
    | split

theorem safe_k0_part73 (H : Held c R arg2 arg3 arg4 arg5 arg6 arg7 arg8 arg9 arg10 arg11 arg12 arg13 arg14 arg15 arg16 arg17 arg18 arg19 arg20 arg21) (v354 : FVec F S128x1024 .bf16) (v384 : FVec F S64x128 .bf16) (v385 : FVec F S128x128 .bf16) :
    Safe c R (k0_part73 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v354 v384 v385) := by
  rw [k0_part73_eq_skeleton]; unfold k0_part73_skel
  repeat' first
    | with_reducible exact safe_load H.r10
    | with_reducible exact safe_load H.w21.reads
    | with_reducible exact safe_store H.w21
    | with_reducible exact safe_pure _
    | with_reducible refine safe_bind ?_ (fun _ => ?_)
    | dsimp only
    | split

theorem safe_cc0_dsa_attention (H : Held c R arg2 arg3 arg4 arg5 arg6 arg7 arg8 arg9 arg10 arg11 arg12 arg13 arg14 arg15 arg16 arg17 arg18 arg19 arg20 arg21)  :
    Safe c R (cc0_dsa_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 ) := by
  rw [cc0_dsa_attention_eq_skeleton]; unfold cc0_dsa_attention_skel
  repeat' first
    | with_reducible exact safe_k0_part62 H
    | with_reducible exact safe_k0_part63 H _ _
    | with_reducible exact safe_k0_part64 H _ _ _ _ _ _
    | with_reducible exact safe_k0_part65 H _ _ _ _ _ _
    | with_reducible exact safe_k0_part66 H _ _ _ _ _ _ _ _ _
    | with_reducible exact safe_k0_part67 H _ _ _ _ _ _ _
    | with_reducible exact safe_k0_part68 H _ _ _ _ _ _ _ _ _ _
    | with_reducible exact safe_k0_part69 H _ _ _ _ _ _ _ _ _ _ _
    | with_reducible exact safe_k0_part70 H _ _ _
    | with_reducible exact safe_k0_part71 H _ _ _ _ _ _ _
    | with_reducible exact safe_k0_part72 H _ _ _
    | with_reducible exact safe_k0_part73 H _ _ _
    | with_reducible exact safe_load H.w11.reads
    | with_reducible exact safe_store H.w11
    | with_reducible exact safe_pure _
    | with_reducible refine safe_bind ?_ (fun _ => ?_)
    | dsimp only
    | split

end Cert.Kernel.Hand

end
-- ==== Proof.Body.lean ====
/-
  The frame of the sparse-attention call, whole: a grid of 8 × 32 points, nine input windows, one output window, ten
  scratch buffers carried from point to point. The body hands the input blocks back as they were and everything else at
  some contents (Parts.lean, by the shape of the code), which is all a frame asks: the output's contents are forgotten.
-/
module

public import proofs.«01_k».proof.Proof.Parts
public import proofs.«01_k».proof.Proof.Gen.Kernel.Frame
public import Idealize.ShloMosaic.Lib.Pipeline.Frame
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The output window is forgotten. -/
def forgets0 : Fin 10 → Bool := ![false, false, false, false, false, false, false, false, false, true]

/-- The proof data on core `c`: the arrays as launched; after the body each input window holds its block still, the
    output window something unnamed; between points the scratch holds anything; full shares; nothing owed. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => iblk m c 8 t
    | 9 => Pipeline.Dat.unnamed (cfg := cfg0) 9 t
  Φ _ := Pipeline.ΦA spec0 c
  q _ := fullShare
  owed _ := 0

theorem A_eq (c : Dev nD) (w : Fin cfg0.W) : (dats m 0 c).A w = V m c (Pipeline.arrRef spec0 w) := by dsimp only [dats]

theorem before_0 (c : Dev nD) (t : Fin cfg0.N) (d) : (dats m 0 c).before 0 t d = iblk m c 0 t :=
  before0_0_of m (dats m 0 c) (A_eq m c 0) (fun _ => rfl) t d
theorem before_1 (c : Dev nD) (t : Fin cfg0.N) (d) : (dats m 0 c).before 1 t d = iblk m c 1 t :=
  before0_1_of m (dats m 0 c) (A_eq m c 1) (fun _ => rfl) t d
theorem before_2 (c : Dev nD) (t : Fin cfg0.N) (d) : (dats m 0 c).before 2 t d = iblk m c 2 t :=
  before0_2_of m (dats m 0 c) (A_eq m c 2) (fun _ => rfl) t d
theorem before_3 (c : Dev nD) (t : Fin cfg0.N) (d) : (dats m 0 c).before 3 t d = iblk m c 3 t :=
  before0_3_of m (dats m 0 c) (A_eq m c 3) (fun _ => rfl) t d
theorem before_4 (c : Dev nD) (t : Fin cfg0.N) (d) : (dats m 0 c).before 4 t d = iblk m c 4 t :=
  before0_4_of m (dats m 0 c) (A_eq m c 4) (fun _ => rfl) t d
theorem before_5 (c : Dev nD) (t : Fin cfg0.N) (d) : (dats m 0 c).before 5 t d = iblk m c 5 t :=
  before0_5_of m (dats m 0 c) (A_eq m c 5) (fun _ => rfl) t d
theorem before_6 (c : Dev nD) (t : Fin cfg0.N) (d) : (dats m 0 c).before 6 t d = iblk m c 6 t :=
  before0_6_of m (dats m 0 c) (A_eq m c 6) (fun _ => rfl) t d
theorem before_7 (c : Dev nD) (t : Fin cfg0.N) (d) : (dats m 0 c).before 7 t d = iblk m c 7 t :=
  before0_7_of m (dats m 0 c) (A_eq m c 7) (fun _ => rfl) t d
theorem before_8 (c : Dev nD) (t : Fin cfg0.N) (d) : (dats m 0 c).before 8 t d = iblk m c 8 t :=
  before0_8_of m (dats m 0 c) (A_eq m c 8) (fun _ => rfl) t d

/-- The scratch buffers and the generator register, each at some contents, spelt out. -/
theorem PhiA0_eq (c : Dev nD) :
    (Pipeline.ΦA spec0 c : sProp 𝕄)
      = iprop(((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)
          ∗ (∃ d, owns (c : Thread nD τ) (Memref.whole cc0_scratch3) fullShare d)
          ∗ (∃ d, owns (c : Thread nD τ) (Memref.whole cc0_scratch4) fullShare d)
          ∗ (∃ d, owns (c : Thread nD τ) (Memref.whole cc0_scratch5) fullShare d)
          ∗ (∃ d, owns (c : Thread nD τ) (Memref.whole cc0_scratch6) fullShare d)
          ∗ (∃ d, owns (c : Thread nD τ) (Memref.whole cc0_scratch7) fullShare d)
          ∗ (∃ d, owns (c : Thread nD τ) (Memref.whole cc0_scratch8) fullShare d)
          ∗ (∃ d, owns (c : Thread nD τ) (Memref.whole cc0_scratch9) fullShare d))
          ∗ (∃ r, prngReg c r)) := by
  unfold Pipeline.ΦA
  rw [scopedRest0_eq]
  simp only [owns_whole]
  try rfl

/-- What the body holds at point `t`: the input blocks, the output block and the scratch at some contents. -/
def bodyRes (c : Dev nD) (t : Fin cfg0.N) : sProp 𝕄 :=
  iprop(owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (iblk m c 6 t)
    ∗ owns (c : Thread nD τ) (st0_7 t) fullShare (iblk m c 7 t)
    ∗ owns (c : Thread nD τ) (st0_8 t) fullShare (iblk m c 8 t)
    ∗ (∃ X, owns (c : Thread nD τ) (st0_9 t) fullShare X)
    ∗ (∃ d, owns (c : Thread nD τ) (Memref.whole cc0_scratch0) fullShare d)
    ∗ (∃ d, owns (c : Thread nD τ) (Memref.whole cc0_scratch1) fullShare d)
    ∗ (∃ d, owns (c : Thread nD τ) (Memref.whole cc0_scratch2) fullShare d)
    ∗ (∃ d, owns (c : Thread nD τ) (Memref.whole cc0_scratch3) fullShare d)
    ∗ (∃ d, owns (c : Thread nD τ) (Memref.whole cc0_scratch4) fullShare d)
    ∗ (∃ d, owns (c : Thread nD τ) (Memref.whole cc0_scratch5) fullShare d)
    ∗ (∃ d, owns (c : Thread nD τ) (Memref.whole cc0_scratch6) fullShare d)
    ∗ (∃ d, owns (c : Thread nD τ) (Memref.whole cc0_scratch7) fullShare d)
    ∗ (∃ d, owns (c : Thread nD τ) (Memref.whole cc0_scratch8) fullShare d)
    ∗ (∃ d, owns (c : Thread nD τ) (Memref.whole cc0_scratch9) fullShare d))

/-- Those resources lend what the body loads from and what it stores to. -/
theorem bodyRes_held (c : Dev nD) (t : Fin cfg0.N) :
    Held c (bodyRes m c t) (st0_0 t) (st0_1 t) (st0_2 t) (st0_3 t) (st0_4 t) (st0_5 t) (st0_6 t) (st0_7 t) (st0_8 t) (st0_9 t)
      (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) where
  r2 := by
    unfold Reads bodyRes
    iintro ⟨H0, H1, H2, H3, H4, H5, H6, H7, H8, ⟨%X9, H9⟩, ⟨%X10, H10⟩, ⟨%X11, H11⟩, ⟨%X12, H12⟩, ⟨%X13, H13⟩, ⟨%X14, H14⟩, ⟨%X15, H15⟩, ⟨%X16, H16⟩, ⟨%X17, H17⟩, ⟨%X18, H18⟩, ⟨%X19, H19⟩⟩
    iexists _
    isplitl [H0]; · iexact H0
    iintro H0
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19
  r3 := by
    unfold Reads bodyRes
    iintro ⟨H0, H1, H2, H3, H4, H5, H6, H7, H8, ⟨%X9, H9⟩, ⟨%X10, H10⟩, ⟨%X11, H11⟩, ⟨%X12, H12⟩, ⟨%X13, H13⟩, ⟨%X14, H14⟩, ⟨%X15, H15⟩, ⟨%X16, H16⟩, ⟨%X17, H17⟩, ⟨%X18, H18⟩, ⟨%X19, H19⟩⟩
    iexists _
    isplitl [H1]; · iexact H1
    iintro H1
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19
  r4 := by
    unfold Reads bodyRes
    iintro ⟨H0, H1, H2, H3, H4, H5, H6, H7, H8, ⟨%X9, H9⟩, ⟨%X10, H10⟩, ⟨%X11, H11⟩, ⟨%X12, H12⟩, ⟨%X13, H13⟩, ⟨%X14, H14⟩, ⟨%X15, H15⟩, ⟨%X16, H16⟩, ⟨%X17, H17⟩, ⟨%X18, H18⟩, ⟨%X19, H19⟩⟩
    iexists _
    isplitl [H2]; · iexact H2
    iintro H2
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19
  r5 := by
    unfold Reads bodyRes
    iintro ⟨H0, H1, H2, H3, H4, H5, H6, H7, H8, ⟨%X9, H9⟩, ⟨%X10, H10⟩, ⟨%X11, H11⟩, ⟨%X12, H12⟩, ⟨%X13, H13⟩, ⟨%X14, H14⟩, ⟨%X15, H15⟩, ⟨%X16, H16⟩, ⟨%X17, H17⟩, ⟨%X18, H18⟩, ⟨%X19, H19⟩⟩
    iexists _
    isplitl [H3]; · iexact H3
    iintro H3
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19
  r6 := by
    unfold Reads bodyRes
    iintro ⟨H0, H1, H2, H3, H4, H5, H6, H7, H8, ⟨%X9, H9⟩, ⟨%X10, H10⟩, ⟨%X11, H11⟩, ⟨%X12, H12⟩, ⟨%X13, H13⟩, ⟨%X14, H14⟩, ⟨%X15, H15⟩, ⟨%X16, H16⟩, ⟨%X17, H17⟩, ⟨%X18, H18⟩, ⟨%X19, H19⟩⟩
    iexists _
    isplitl [H4]; · iexact H4
    iintro H4
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19
  r7 := by
    unfold Reads bodyRes
    iintro ⟨H0, H1, H2, H3, H4, H5, H6, H7, H8, ⟨%X9, H9⟩, ⟨%X10, H10⟩, ⟨%X11, H11⟩, ⟨%X12, H12⟩, ⟨%X13, H13⟩, ⟨%X14, H14⟩, ⟨%X15, H15⟩, ⟨%X16, H16⟩, ⟨%X17, H17⟩, ⟨%X18, H18⟩, ⟨%X19, H19⟩⟩
    iexists _
    isplitl [H5]; · iexact H5
    iintro H5
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19
  r8 := by
    unfold Reads bodyRes
    iintro ⟨H0, H1, H2, H3, H4, H5, H6, H7, H8, ⟨%X9, H9⟩, ⟨%X10, H10⟩, ⟨%X11, H11⟩, ⟨%X12, H12⟩, ⟨%X13, H13⟩, ⟨%X14, H14⟩, ⟨%X15, H15⟩, ⟨%X16, H16⟩, ⟨%X17, H17⟩, ⟨%X18, H18⟩, ⟨%X19, H19⟩⟩
    iexists _
    isplitl [H6]; · iexact H6
    iintro H6
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19
  r9 := by
    unfold Reads bodyRes
    iintro ⟨H0, H1, H2, H3, H4, H5, H6, H7, H8, ⟨%X9, H9⟩, ⟨%X10, H10⟩, ⟨%X11, H11⟩, ⟨%X12, H12⟩, ⟨%X13, H13⟩, ⟨%X14, H14⟩, ⟨%X15, H15⟩, ⟨%X16, H16⟩, ⟨%X17, H17⟩, ⟨%X18, H18⟩, ⟨%X19, H19⟩⟩
    iexists _
    isplitl [H7]; · iexact H7
    iintro H7
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19
  r10 := by
    unfold Reads bodyRes
    iintro ⟨H0, H1, H2, H3, H4, H5, H6, H7, H8, ⟨%X9, H9⟩, ⟨%X10, H10⟩, ⟨%X11, H11⟩, ⟨%X12, H12⟩, ⟨%X13, H13⟩, ⟨%X14, H14⟩, ⟨%X15, H15⟩, ⟨%X16, H16⟩, ⟨%X17, H17⟩, ⟨%X18, H18⟩, ⟨%X19, H19⟩⟩
    iexists _
    isplitl [H8]; · iexact H8
    iintro H8
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19
  w11 := by
    unfold Scratch bodyRes
    iintro ⟨H0, H1, H2, H3, H4, H5, H6, H7, H8, ⟨%X9, H9⟩, ⟨%X10, H10⟩, ⟨%X11, H11⟩, ⟨%X12, H12⟩, ⟨%X13, H13⟩, ⟨%X14, H14⟩, ⟨%X15, H15⟩, ⟨%X16, H16⟩, ⟨%X17, H17⟩, ⟨%X18, H18⟩, ⟨%X19, H19⟩⟩
    iexists _
    isplitl [H9]; · iexact H9
    iintro %Y H9
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19
  w12 := by
    unfold Scratch bodyRes
    iintro ⟨H0, H1, H2, H3, H4, H5, H6, H7, H8, ⟨%X9, H9⟩, ⟨%X10, H10⟩, ⟨%X11, H11⟩, ⟨%X12, H12⟩, ⟨%X13, H13⟩, ⟨%X14, H14⟩, ⟨%X15, H15⟩, ⟨%X16, H16⟩, ⟨%X17, H17⟩, ⟨%X18, H18⟩, ⟨%X19, H19⟩⟩
    iexists _
    isplitl [H10]; · iexact H10
    iintro %Y H10
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19
  w13 := by
    unfold Scratch bodyRes
    iintro ⟨H0, H1, H2, H3, H4, H5, H6, H7, H8, ⟨%X9, H9⟩, ⟨%X10, H10⟩, ⟨%X11, H11⟩, ⟨%X12, H12⟩, ⟨%X13, H13⟩, ⟨%X14, H14⟩, ⟨%X15, H15⟩, ⟨%X16, H16⟩, ⟨%X17, H17⟩, ⟨%X18, H18⟩, ⟨%X19, H19⟩⟩
    iexists _
    isplitl [H11]; · iexact H11
    iintro %Y H11
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19
  w14 := by
    unfold Scratch bodyRes
    iintro ⟨H0, H1, H2, H3, H4, H5, H6, H7, H8, ⟨%X9, H9⟩, ⟨%X10, H10⟩, ⟨%X11, H11⟩, ⟨%X12, H12⟩, ⟨%X13, H13⟩, ⟨%X14, H14⟩, ⟨%X15, H15⟩, ⟨%X16, H16⟩, ⟨%X17, H17⟩, ⟨%X18, H18⟩, ⟨%X19, H19⟩⟩
    iexists _
    isplitl [H12]; · iexact H12
    iintro %Y H12
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19
  w15 := by
    unfold Scratch bodyRes
    iintro ⟨H0, H1, H2, H3, H4, H5, H6, H7, H8, ⟨%X9, H9⟩, ⟨%X10, H10⟩, ⟨%X11, H11⟩, ⟨%X12, H12⟩, ⟨%X13, H13⟩, ⟨%X14, H14⟩, ⟨%X15, H15⟩, ⟨%X16, H16⟩, ⟨%X17, H17⟩, ⟨%X18, H18⟩, ⟨%X19, H19⟩⟩
    iexists _
    isplitl [H13]; · iexact H13
    iintro %Y H13
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19
  w16 := by
    unfold Scratch bodyRes
    iintro ⟨H0, H1, H2, H3, H4, H5, H6, H7, H8, ⟨%X9, H9⟩, ⟨%X10, H10⟩, ⟨%X11, H11⟩, ⟨%X12, H12⟩, ⟨%X13, H13⟩, ⟨%X14, H14⟩, ⟨%X15, H15⟩, ⟨%X16, H16⟩, ⟨%X17, H17⟩, ⟨%X18, H18⟩, ⟨%X19, H19⟩⟩
    iexists _
    isplitl [H14]; · iexact H14
    iintro %Y H14
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19
  w17 := by
    unfold Scratch bodyRes
    iintro ⟨H0, H1, H2, H3, H4, H5, H6, H7, H8, ⟨%X9, H9⟩, ⟨%X10, H10⟩, ⟨%X11, H11⟩, ⟨%X12, H12⟩, ⟨%X13, H13⟩, ⟨%X14, H14⟩, ⟨%X15, H15⟩, ⟨%X16, H16⟩, ⟨%X17, H17⟩, ⟨%X18, H18⟩, ⟨%X19, H19⟩⟩
    iexists _
    isplitl [H15]; · iexact H15
    iintro %Y H15
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19
  w18 := by
    unfold Scratch bodyRes
    iintro ⟨H0, H1, H2, H3, H4, H5, H6, H7, H8, ⟨%X9, H9⟩, ⟨%X10, H10⟩, ⟨%X11, H11⟩, ⟨%X12, H12⟩, ⟨%X13, H13⟩, ⟨%X14, H14⟩, ⟨%X15, H15⟩, ⟨%X16, H16⟩, ⟨%X17, H17⟩, ⟨%X18, H18⟩, ⟨%X19, H19⟩⟩
    iexists _
    isplitl [H16]; · iexact H16
    iintro %Y H16
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19
  w19 := by
    unfold Scratch bodyRes
    iintro ⟨H0, H1, H2, H3, H4, H5, H6, H7, H8, ⟨%X9, H9⟩, ⟨%X10, H10⟩, ⟨%X11, H11⟩, ⟨%X12, H12⟩, ⟨%X13, H13⟩, ⟨%X14, H14⟩, ⟨%X15, H15⟩, ⟨%X16, H16⟩, ⟨%X17, H17⟩, ⟨%X18, H18⟩, ⟨%X19, H19⟩⟩
    iexists _
    isplitl [H17]; · iexact H17
    iintro %Y H17
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19
  w20 := by
    unfold Scratch bodyRes
    iintro ⟨H0, H1, H2, H3, H4, H5, H6, H7, H8, ⟨%X9, H9⟩, ⟨%X10, H10⟩, ⟨%X11, H11⟩, ⟨%X12, H12⟩, ⟨%X13, H13⟩, ⟨%X14, H14⟩, ⟨%X15, H15⟩, ⟨%X16, H16⟩, ⟨%X17, H17⟩, ⟨%X18, H18⟩, ⟨%X19, H19⟩⟩
    iexists _
    isplitl [H18]; · iexact H18
    iintro %Y H18
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19
  w21 := by
    unfold Scratch bodyRes
    iintro ⟨H0, H1, H2, H3, H4, H5, H6, H7, H8, ⟨%X9, H9⟩, ⟨%X10, H10⟩, ⟨%X11, H11⟩, ⟨%X12, H12⟩, ⟨%X13, H13⟩, ⟨%X14, H14⟩, ⟨%X15, H15⟩, ⟨%X16, H16⟩, ⟨%X17, H17⟩, ⟨%X18, H18⟩, ⟨%X19, H19⟩⟩
    iexists _
    isplitl [H19]; · iexact H19
    iintro %Y H19
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ X, owns (c : Thread nD τ) (st0_9 t) fullShare X))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (∃ X, owns (c : Thread nD τ) (st0_9 t) fullShare X))

/-- The body at a point: the invariant opened, the body run by its safety, the invariant closed. -/
theorem sound_body (c : Dev nD) (t : Fin cfg0.N) :
    bodyPre m c t ⊢ wp frame (wpE (defs₀ (F := F)) Variants.none c none) Set.univ (bodyAt0 t) (fun _ => bodyPost m c t) := by
  have hs : Safe c (bodyRes m c t) (bodyAt0 (F := F) t) := safe_cc0_dsa_attention (bodyRes_held m c t)
  unfold Safe at hs
  unfold bodyPre bodyPost
  rw [show (dats m 0 c).Φ t.succ = Pipeline.ΦA spec0 c from rfl,
    show (dats m 0 c).owesAt () t.succ = (dats m 0 c).owesAt () t.castSucc from rfl,
    show (dats m 0 c).Φ t.castSucc = Pipeline.ΦA spec0 c from rfl, PhiA0_eq]
  simp only [before_0, before_1, before_2, before_3, before_4, before_5, before_6, before_7, before_8]
  iintro ⟨⟨⟨S0, S1, S2, S3, S4, S5, S6, S7, S8, S9⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9⟩
  iapply (wp_wand_r _ _ _)
  isplitl [S0 S1 S2 S3 S4 S5 S6 S7 S8 S9 H0 H1 H2 H3 H4 H5 H6 H7 H8 H9]
  · iapply hs
    unfold bodyRes
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact S9
  iintro %a
  unfold bodyRes
  iintro ⟨H0, H1, H2, H3, H4, H5, H6, H7, H8, H9, S0, S1, S2, S3, S4, S5, S6, S7, S8, S9⟩
  isplitl [S0 S1 S2 S3 S4 S5 S6 S7 S8 S9 Hg]
  · isplitr [Hg]; swap; · iexact Hg
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact S9
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The body obligation of the launch, the output forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- From any memory with zero counters every weakly fair run of the program terminates, every array a window only reads
    holds what it held at launch, and every semaphore counter is at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)

end Cert.Kernel.Hand

end
-- ==== Proof.Moe.Cases.lean ====
/-
  What one grid point of the expert kernel leaves, as the printed payloads of its input blocks: in the accumulator
  at a first point, in the accumulator at a later point, and in the output block at a last point.
-/
module

public import proofs.«01_k».proof.Proof.Gen.Kernel2Ideal.Frame
public import Idealize.ShloMosaic.Lib.Pipeline.Value
public import Idealize.ShloMosaic.Lib.Tactic

@[expose] public section

noncomputable section

open Idealize.ShloMosaic Idealize.ShloMosaic.TcCoe Idealize.SL.Sem

namespace Cert.Moe

open Cert.Kernel2Ideal Cert.Kernel2Ideal.Gen

variable {F : FTy → Type} [FloatOps F]

theorem off2 : (![0, 0] : Fin 2 → Nat) = fun _ => 0 := funext fun a => by fin_cases a <;> rfl
theorem off3 : (![0, 0, 0] : Fin 3 → Nat) = fun _ => 0 := funext fun a => by fin_cases a <;> rfl
theorem off4 : (![0, 0, 0, 0] : Fin 4 → Nat) = fun _ => 0 := funext fun a => by fin_cases a <;> rfl

/-- The accumulator's first contents: the shared expert's rows. -/
def base (x0 : Vec F S1024x1024 .bf16) (x6 : Vec F S1x1024x512 .bf16) (x7 : Vec F S1x256x1024 .bf16) : Vec F S1024x1024 .f32 :=
  k0_pay4 x0 x6 x7

/-- The accumulator after one step over four experts, from what it held. -/
def step (i : grid0.Coords) (x0 : Vec F S1024x1024 .bf16) (x1 : Vec F S1024x128 .bf16) (x4 : Vec F S1x4x1024x512 .bf16)
    (x5 : Vec F S1x4x256x1024 .bf16) (acc : Vec F S1024x1024 .f32) : Vec F S1024x1024 .f32 :=
  k0_pay1
    (k0_pay9 (k0_pay3 x0) (k0_pay6 (k0_pay5 i) x1)
      (k0_pay7 (k0_pay3 x0) (k0_pay5 i) x1
        (View.ld x4 (Rect.unit ![0, 0, 0, 0] ![1, 1, 1024, 512] inb_S1x4x1024x512_S1x1x1024x512_0_0_0_0)))
      (k0_pay8 (k0_pay3 x0) (k0_pay5 i) x1
        (View.ld x4 (Rect.unit ![0, 1, 0, 0] ![1, 1, 1024, 512] inb_S1x4x1024x512_S1x1x1024x512_0_1_0_0)))
      (View.ld x4 (Rect.unit ![0, 2, 0, 0] ![1, 1, 1024, 512] inb_S1x4x1024x512_S1x1x1024x512_0_2_0_0))
      (View.ld x4 (Rect.unit ![0, 3, 0, 0] ![1, 1, 1024, 512] inb_S1x4x1024x512_S1x1x1024x512_0_3_0_0)) x5 acc)

/-- The output block at a tile's last step, from the accumulator. -/
def last (x2 : Vec F S1024x1024 .f32) (x3 : Vec F S1x6x1024 .f32) (x8 : Vec F S1x1x1024 .f32) (x9 : Vec F S1x1x1024 .f32)
    (acc : Vec F S1024x1024 .f32) : Vec F S1024x1024 .f32 :=
  k0_pay2 (View.ld x3 (Rect.unit ![0, 5, 0] ![1, 1, 1024] inb_S1x6x1024_S1x1x1024_0_5_0)) x2 acc x8 x9

/-- At a tile's first step the accumulator is set to the shared expert and takes the step. -/
theorem sout_A (c : Dev nD) (i : grid0.Coords) (a2 : Memref sig .tc .vmem S1024x1024 .bf16) (h2 : a2.IsWhole) (a3 : Memref sig .tc .vmem S1024x128 .bf16) (h3 : a3.IsWhole) (a4 : Memref sig .tc .vmem S1024x1024 .f32) (h4 : a4.IsWhole) (a5 : Memref sig .tc .vmem S1x6x1024 .f32) (h5 : a5.IsWhole) (a6 : Memref sig .tc .vmem S1x4x1024x512 .bf16) (h6 : a6.IsWhole) (a7 : Memref sig .tc .vmem S1x4x256x1024 .bf16) (h7 : a7.IsWhole) (a8 : Memref sig .tc .vmem S1x1024x512 .bf16) (h8 : a8.IsWhole) (a9 : Memref sig .tc .vmem S1x256x1024 .bf16) (h9 : a9.IsWhole) (a10 : Memref sig .tc .vmem S1x1x1024 .f32) (h10 : a10.IsWhole) (a11 : Memref sig .tc .vmem S1x1x1024 .f32) (h11 : a11.IsWhole) (a12 : Memref sig .tc .vmem S1024x1024 .f32) (h12 : a12.IsWhole) (a13 : Memref sig .tc .vmem S1024x1024 .f32) (h13 : a13.IsWhole) (hc0 : cond0_0 i) (hc1 : ¬cond0_1 i)
    (x0 : Vec F S1024x1024 .bf16) (x1 : Vec F S1024x128 .bf16) (x2 : Vec F S1024x1024 .f32) (x3 : Vec F S1x6x1024 .f32) (x4 : Vec F S1x4x1024x512 .bf16) (x5 : Vec F S1x4x256x1024 .bf16) (x6 : Vec F S1x1024x512 .bf16) (x7 : Vec F S1x256x1024 .bf16) (x8 : Vec F S1x1x1024 .f32) (x9 : Vec F S1x1x1024 .f32) :
    sout0_A_0 c i a2 h2 a3 h3 a4 h4 a5 h5 a6 h6 a7 h7 a8 h8 a9 h9 a10 h10 a11 h11 a12 h12 a13 h13 hc0 hc1 x0 x1 x2 x3 x4 x5 x6 x7 x8 x9 = step i x0 x1 x4 x5 (base x0 x6 x7) := by
  unfold sout0_A_0 step base
  rw [View.read_writes_eq_canon _ _ _ (scover0_A_0 c i a2 h2 a3 h3 a4 h4 a5 h5 a6 h6 a7 h7 a8 h8 a9 h9 a10 h10 a11 h11 a12 h12 a13 h13 hc0 hc1 x0 x1 x2 x3 x4 x5 x6 x7 x8 x9)]
  unfold kernelRun0_A
  dsimp only
  sl_unfold_words
  rw [View.canon_cons_unit_zero (S := S1024x1024) off2]
  try simp only [View.readCov_unit_zero (S := S1024x1024) _ off2]
  simp only [View.readAt_eq_ld, h2.read_unread, h3.read_unread, h4.read_unread, h5.read_unread, h6.read_unread, h7.read_unread, h8.read_unread, h9.read_unread, h10.read_unread, h11.read_unread, h13.read_unread, View.ld_unit_zero (S := S1024x1024) off2, View.ld_unit_zero (S := S1024x128) off2, View.ld_unit_zero (S := S1x4x256x1024) off4, View.ld_unit_zero (S := S1x1024x512) off3, View.ld_unit_zero (S := S1x256x1024) off3, View.ld_unit_zero (S := S1x1x1024) off3]

/-- At a step between, the accumulator takes the step. -/
theorem sout_B (c : Dev nD) (i : grid0.Coords) (a2 : Memref sig .tc .vmem S1024x1024 .bf16) (h2 : a2.IsWhole) (a3 : Memref sig .tc .vmem S1024x128 .bf16) (h3 : a3.IsWhole) (a4 : Memref sig .tc .vmem S1024x1024 .f32) (h4 : a4.IsWhole) (a5 : Memref sig .tc .vmem S1x6x1024 .f32) (h5 : a5.IsWhole) (a6 : Memref sig .tc .vmem S1x4x1024x512 .bf16) (h6 : a6.IsWhole) (a7 : Memref sig .tc .vmem S1x4x256x1024 .bf16) (h7 : a7.IsWhole) (a8 : Memref sig .tc .vmem S1x1024x512 .bf16) (h8 : a8.IsWhole) (a9 : Memref sig .tc .vmem S1x256x1024 .bf16) (h9 : a9.IsWhole) (a10 : Memref sig .tc .vmem S1x1x1024 .f32) (h10 : a10.IsWhole) (a11 : Memref sig .tc .vmem S1x1x1024 .f32) (h11 : a11.IsWhole) (a12 : Memref sig .tc .vmem S1024x1024 .f32) (h12 : a12.IsWhole) (a13 : Memref sig .tc .vmem S1024x1024 .f32) (h13 : a13.IsWhole) (hc0 : ¬cond0_0 i) (hc1 : ¬cond0_1 i)
    (x0 : Vec F S1024x1024 .bf16) (x1 : Vec F S1024x128 .bf16) (x2 : Vec F S1024x1024 .f32) (x3 : Vec F S1x6x1024 .f32) (x4 : Vec F S1x4x1024x512 .bf16) (x5 : Vec F S1x4x256x1024 .bf16) (x6 : Vec F S1x1024x512 .bf16) (x7 : Vec F S1x256x1024 .bf16) (x8 : Vec F S1x1x1024 .f32) (x9 : Vec F S1x1x1024 .f32) (xs0 : Vec F S1024x1024 .f32) :
    sout0_B_0 c i a2 h2 a3 h3 a4 h4 a5 h5 a6 h6 a7 h7 a8 h8 a9 h9 a10 h10 a11 h11 a12 h12 a13 h13 hc0 hc1 x0 x1 x2 x3 x4 x5 x6 x7 x8 x9 xs0 = step i x0 x1 x4 x5 xs0 := by
  unfold sout0_B_0 step
  rw [View.read_writes_eq_canon _ _ _ (scover0_B_0 c i a2 h2 a3 h3 a4 h4 a5 h5 a6 h6 a7 h7 a8 h8 a9 h9 a10 h10 a11 h11 a12 h12 a13 h13 hc0 hc1 x0 x1 x2 x3 x4 x5 x6 x7 x8 x9 xs0)]
  unfold kernelRun0_B
  dsimp only
  sl_unfold_words
  rw [View.canon_unit_zero off2]
  simp only [View.readAt_eq_ld, h2.read_unread, h3.read_unread, h4.read_unread, h5.read_unread, h6.read_unread, h7.read_unread, h8.read_unread, h9.read_unread, h10.read_unread, h11.read_unread, h13.read_unread, View.ld_unit_zero (S := S1024x1024) off2, View.ld_unit_zero (S := S1024x128) off2, View.ld_unit_zero (S := S1x4x256x1024) off4, View.ld_unit_zero (S := S1x1024x512) off3, View.ld_unit_zero (S := S1x256x1024) off3, View.ld_unit_zero (S := S1x1x1024) off3]

/-- At the last step, too. -/
theorem sout_C (c : Dev nD) (i : grid0.Coords) (a2 : Memref sig .tc .vmem S1024x1024 .bf16) (h2 : a2.IsWhole) (a3 : Memref sig .tc .vmem S1024x128 .bf16) (h3 : a3.IsWhole) (a4 : Memref sig .tc .vmem S1024x1024 .f32) (h4 : a4.IsWhole) (a5 : Memref sig .tc .vmem S1x6x1024 .f32) (h5 : a5.IsWhole) (a6 : Memref sig .tc .vmem S1x4x1024x512 .bf16) (h6 : a6.IsWhole) (a7 : Memref sig .tc .vmem S1x4x256x1024 .bf16) (h7 : a7.IsWhole) (a8 : Memref sig .tc .vmem S1x1024x512 .bf16) (h8 : a8.IsWhole) (a9 : Memref sig .tc .vmem S1x256x1024 .bf16) (h9 : a9.IsWhole) (a10 : Memref sig .tc .vmem S1x1x1024 .f32) (h10 : a10.IsWhole) (a11 : Memref sig .tc .vmem S1x1x1024 .f32) (h11 : a11.IsWhole) (a12 : Memref sig .tc .vmem S1024x1024 .f32) (h12 : a12.IsWhole) (a13 : Memref sig .tc .vmem S1024x1024 .f32) (h13 : a13.IsWhole) (hc0 : ¬cond0_0 i) (hc1 : cond0_1 i)
    (x0 : Vec F S1024x1024 .bf16) (x1 : Vec F S1024x128 .bf16) (x2 : Vec F S1024x1024 .f32) (x3 : Vec F S1x6x1024 .f32) (x4 : Vec F S1x4x1024x512 .bf16) (x5 : Vec F S1x4x256x1024 .bf16) (x6 : Vec F S1x1024x512 .bf16) (x7 : Vec F S1x256x1024 .bf16) (x8 : Vec F S1x1x1024 .f32) (x9 : Vec F S1x1x1024 .f32) (xs0 : Vec F S1024x1024 .f32) :
    sout0_C_0 c i a2 h2 a3 h3 a4 h4 a5 h5 a6 h6 a7 h7 a8 h8 a9 h9 a10 h10 a11 h11 a12 h12 a13 h13 hc0 hc1 x0 x1 x2 x3 x4 x5 x6 x7 x8 x9 xs0 = step i x0 x1 x4 x5 xs0 := by
  unfold sout0_C_0 step
  rw [View.read_writes_eq_canon _ _ _ (scover0_C_0 c i a2 h2 a3 h3 a4 h4 a5 h5 a6 h6 a7 h7 a8 h8 a9 h9 a10 h10 a11 h11 a12 h12 a13 h13 hc0 hc1 x0 x1 x2 x3 x4 x5 x6 x7 x8 x9 xs0)]
  unfold kernelRun0_C
  dsimp only
  sl_unfold_words
  rw [View.canon_unit_zero off2]
  simp only [View.readAt_eq_ld, h2.read_unread, h3.read_unread, h4.read_unread, h5.read_unread, h6.read_unread, h7.read_unread, h8.read_unread, h9.read_unread, h10.read_unread, h11.read_unread, h13.read_unread, View.ld_unit_zero (S := S1024x1024) off2, View.ld_unit_zero (S := S1024x128) off2, View.ld_unit_zero (S := S1x4x256x1024) off4, View.ld_unit_zero (S := S1x1024x512) off3, View.ld_unit_zero (S := S1x256x1024) off3, View.ld_unit_zero (S := S1x1x1024) off3]

/-- The last step leaves the normalised rows in the output block. -/
theorem out_C (c : Dev nD) (i : grid0.Coords) (a2 : Memref sig .tc .vmem S1024x1024 .bf16) (h2 : a2.IsWhole) (a3 : Memref sig .tc .vmem S1024x128 .bf16) (h3 : a3.IsWhole) (a4 : Memref sig .tc .vmem S1024x1024 .f32) (h4 : a4.IsWhole) (a5 : Memref sig .tc .vmem S1x6x1024 .f32) (h5 : a5.IsWhole) (a6 : Memref sig .tc .vmem S1x4x1024x512 .bf16) (h6 : a6.IsWhole) (a7 : Memref sig .tc .vmem S1x4x256x1024 .bf16) (h7 : a7.IsWhole) (a8 : Memref sig .tc .vmem S1x1024x512 .bf16) (h8 : a8.IsWhole) (a9 : Memref sig .tc .vmem S1x256x1024 .bf16) (h9 : a9.IsWhole) (a10 : Memref sig .tc .vmem S1x1x1024 .f32) (h10 : a10.IsWhole) (a11 : Memref sig .tc .vmem S1x1x1024 .f32) (h11 : a11.IsWhole) (a12 : Memref sig .tc .vmem S1024x1024 .f32) (h12 : a12.IsWhole) (a13 : Memref sig .tc .vmem S1024x1024 .f32) (h13 : a13.IsWhole) (hc0 : ¬cond0_0 i) (hc1 : cond0_1 i)
    (x0 : Vec F S1024x1024 .bf16) (x1 : Vec F S1024x128 .bf16) (x2 : Vec F S1024x1024 .f32) (x3 : Vec F S1x6x1024 .f32) (x4 : Vec F S1x4x1024x512 .bf16) (x5 : Vec F S1x4x256x1024 .bf16) (x6 : Vec F S1x1024x512 .bf16) (x7 : Vec F S1x256x1024 .bf16) (x8 : Vec F S1x1x1024 .f32) (x9 : Vec F S1x1x1024 .f32) (xs0 : Vec F S1024x1024 .f32) :
    out0_C_10 c i a2 h2 a3 h3 a4 h4 a5 h5 a6 h6 a7 h7 a8 h8 a9 h9 a10 h10 a11 h11 a12 h12 a13 h13 hc0 hc1 x0 x1 x2 x3 x4 x5 x6 x7 x8 x9 xs0 = last x2 x3 x8 x9 (step i x0 x1 x4 x5 xs0) := by
  unfold out0_C_10 last step
  rw [View.read_writes_eq_canon _ _ _ (cover0_C_10 c i a2 h2 a3 h3 a4 h4 a5 h5 a6 h6 a7 h7 a8 h8 a9 h9 a10 h10 a11 h11 a12 h12 a13 h13 hc0 hc1 x0 x1 x2 x3 x4 x5 x6 x7 x8 x9 xs0)]
  unfold kernelRun0_C
  dsimp only
  sl_unfold_words
  rw [View.canon_unit_zero off2]
  try simp only [View.readCov_unit_zero (S := S1024x1024) _ off2]
  simp only [View.readAt_eq_ld, h2.read_unread, h3.read_unread, h4.read_unread, h5.read_unread, h6.read_unread, h7.read_unread, h8.read_unread, h9.read_unread, h10.read_unread, h11.read_unread, h13.read_unread, View.ld_unit_zero (S := S1024x1024) off2, View.ld_unit_zero (S := S1024x128) off2, View.ld_unit_zero (S := S1x4x256x1024) off4, View.ld_unit_zero (S := S1x1024x512) off3, View.ld_unit_zero (S := S1x256x1024) off3, View.ld_unit_zero (S := S1x1x1024) off3]

end Cert.Moe

end

end
-- ==== Proof.Moe.Spec.lean ====
/-
  What the layer's expert block computes at one token and one channel, over the extended reals: the experts' rows
  weighted by the token's gates, the shared expert's row, and the layer normalisation of both with the residual.
-/
module

public import Idealize.ShloMosaic.PureOps.Ideal
public import Idealize.ShloMosaic.Lib.Pointwise

@[expose] public section

noncomputable section

open Idealize.ShloMosaic

namespace Cert.Moe

/-- `silu a * b`, with the logistic as `1 / (1 + exp (0 - a))`. -/
def act (a b : EReal) : EReal := a * Ideal.div 1 (1 + Ideal.exp (0 - a)) * b

/-- A token's activation `f` under an expert's gate and up weights. -/
def feat (u : Fin 1024 → EReal) (wg wu : Fin 1024 → Fin 256 → EReal) (f : Fin 256) : EReal :=
  act (∑ n, u n * wg n f) (∑ n, u n * wu n f)

/-- The routed experts' channel `d`: every expert's, under the token's gates. -/
def routed (u : Fin 1024 → EReal) (g : Fin 64 → EReal) (wg wu : Fin 64 → Fin 1024 → Fin 256 → EReal)
    (wd : Fin 64 → Fin 256 → Fin 1024 → EReal) (d : Fin 1024) : EReal :=
  ∑ e, ∑ f, feat u (wg e) (wu e) f * g e * wd e f d

/-- The shared expert's channel `d`. -/
def shared (u : Fin 1024 → EReal) (sg su : Fin 1024 → Fin 256 → EReal) (sd : Fin 256 → Fin 1024 → EReal) (d : Fin 1024) : EReal :=
  ∑ f, feat u sg su f * sd f d

/-- A row's mean. -/
def mean (z : Fin 1024 → EReal) : EReal := Ideal.div (∑ x, z x) (Ideal.ofBits FTy.f32 1149239296#32)

/-- The layer normalisation of a row, with its scale and shift. -/
def norm (z g b : Fin 1024 → EReal) (d : Fin 1024) : EReal :=
  (z d - mean z) * Ideal.rsqrt (mean (fun x => (z x - mean z) * (z x - mean z)) + Ideal.ofBits FTy.f32 925353388#32) * g d + b d

/-- The residual row with the block's own, before normalisation. -/
def mixed (x y s : Fin 1024 → EReal) (d : Fin 1024) : EReal :=
  Ideal.ofBits FTy.f32 1071072509#32 * x d + (1 + s d) * y d

/-- A token's row of an array of tokens by batch and place. -/
def row (v : (⟨3, ![8, 4096, 1024]⟩ : Shape).Idx → EReal) (R : Fin 32768) (n : Fin 1024) : EReal :=
  v (ix3 ⟨R.val / 4096, by omega⟩ ⟨R.val % 4096, by omega⟩ n)

/-- What the block leaves at row `R` and channel `d`, from the arrays it is given. -/
def whole (u : (⟨3, ![8, 4096, 1024]⟩ : Shape).Idx → EReal) (g : (⟨2, ![32768, 64]⟩ : Shape).Idx → EReal)
    (x : (⟨3, ![8, 4096, 1024]⟩ : Shape).Idx → EReal) (s : (⟨3, ![8, 6, 1024]⟩ : Shape).Idx → EReal)
    (wg wu : (⟨4, ![4, 64, 1024, 256]⟩ : Shape).Idx → EReal) (wd : (⟨4, ![4, 64, 256, 1024]⟩ : Shape).Idx → EReal)
    (sg su : (⟨3, ![4, 1024, 256]⟩ : Shape).Idx → EReal) (sd : (⟨3, ![4, 256, 1024]⟩ : Shape).Idx → EReal)
    (ga be : (⟨2, ![4, 1024]⟩ : Shape).Idx → EReal) (R : Fin 32768) (d : Fin 1024) : EReal :=
  norm (mixed (row x R)
      (fun d => routed (row u R) (fun e => g (ix2 R e)) (fun e n f => wg (ix4 0 e n f)) (fun e n f => wu (ix4 0 e n f))
          (fun e f d => wd (ix4 0 e f d)) d
        + shared (row u R) (fun n f => sg (ix3 0 n f)) (fun n f => su (ix3 0 n f)) (fun f d => sd (ix3 0 f d)) d)
      (fun d => s (ix3 ⟨R.val / 4096, by omega⟩ 5 d)))
    (fun d => ga (ix2 0 d)) (fun d => be (ix2 0 d)) d

/-- A finite number is what its two carried parts add up to, whatever the first of them is. -/
theorem add_sub_self (g : EReal) (h : max g (-g) < ⊤) : g + (g - g) = g := by
  induction g with
  | bot => simp at h
  | top => simp at h
  | coe x => rw [← EReal.coe_sub, sub_self, EReal.coe_zero, add_zero]

/-- The 64 experts, as sixteen steps of four. -/
theorem sum_steps (f : Fin 64 → EReal) : ∑ e, f e = ∑ s : Fin 16, ∑ k : Fin 4, f ⟨4 * s.val + k.val, by omega⟩ := by
  rw [← Fintype.sum_prod_type']
  refine (Fintype.sum_equiv (finProdFinEquiv (m := 16) (n := 4)) _ _ fun p => ?_).symm
  congr 1
  exact Fin.ext (by simp [finProdFinEquiv]; omega)

end Cert.Moe

end

end
-- ==== Proof.Moe.Step.lean ====
/-
  The payloads of the expert kernel at an element, over the ideal numbers.
-/
module

public import proofs.«01_k».proof.Proof.Moe.Cases
public import proofs.«01_k».proof.Proof.Moe.Spec
public import Idealize.ShloMosaic.Lib.Pointwise
public import Idealize.ShloMosaic.Lib.ValueIdx
public import Idealize.ShloMosaic.Lib.ValueLayout

@[expose] public section

noncomputable section

open Idealize.ShloMosaic Idealize.ShloMosaic.TcCoe Idealize.SL.Sem

namespace Cert.Moe

open Cert.Kernel2Ideal Cert.Kernel2Ideal.Gen

/-- A sum over 1024 columns, as four runs of 256. -/
theorem sum_runs (f : Fin 1024 → EReal) :
    ∑ x, f x = ∑ k : Fin 4, ∑ c : Fin 256, f ⟨256 * k.val + c.val, by omega⟩ := by
  rw [← Fintype.sum_prod_type']
  refine (Fintype.sum_equiv (finProdFinEquiv (m := 4) (n := 256)) _ _ fun p => ?_).symm
  congr 1
  exact Fin.ext (by simp [finProdFinEquiv]; omega)

/-- The column's run, as the payload finds it: a floored division by 256. -/
theorem run_word (q : Fin 1024) :
    (Scalar.select
            (IntOp.andi
              (IntOp.cmpi CmpIPredicate.ne
                (IntOp.subi (BitVec.setWidth 32 (IntOp.cmpi CmpIPredicate.sgt (BitVec.ofNat 32 q.val) 0#32))
                  (BitVec.setWidth 32 (IntOp.cmpi CmpIPredicate.slt (BitVec.ofNat 32 q.val) 0#32)))
                (Scalar.subi (Scalar.extui (Scalar.cmpi CmpIPredicate.sgt 256#32 0#32))
                  (Scalar.extui (Scalar.cmpi CmpIPredicate.slt 256#32 0#32))))
              (IntOp.cmpi CmpIPredicate.ne (IntOp.remsi ArithUnit.vector (BitVec.ofNat 32 q.val) 256#32) 0#32))
            (IntOp.subi (IntOp.divsi ArithUnit.vector (BitVec.ofNat 32 q.val) 256#32) 1#32)
            (IntOp.divsi ArithUnit.vector (BitVec.ofNat 32 q.val) 256#32)) = BitVec.ofNat 32 (q.val / 256) := by
  revert q
  decide +kernel

theorem row_word (e : Fin 128) : IntOp.andi (BitVec.ofNat 32 e.val) 63#32 = BitVec.ofNat 32 (e.val % 64) := by
  revert e
  decide +kernel

theorem ex_word : ∀ (s : Fin 16) (k : Fin 4),
    IntOp.addi (Scalar.muli (BitVec.ofNat 32 s.val) 4#32) (BitVec.ofNat 32 k.val) = BitVec.ofNat 32 (4 * s.val + k.val) := by
  decide +kernel

theorem eq_word : ∀ (a b : Fin 64),
    IntOp.cmpi CmpIPredicate.eq (BitVec.ofNat 32 a.val) (BitVec.ofNat 32 b.val) = if a = b then 1#1 else 0#1 := by
  decide +kernel

/-- The matrix that spreads the gates: row `e` and column `q` meet where `e`'s expert is the one of `q`'s run. -/
theorem pick_apply (i : grid0.Coords) (e : Fin 128) (q : Fin 1024) (hi : (i 1).val < 16) :
    k0_pay5 (F := Ideal) i (ix2 e q) = if e.val % 64 = 4 * (i 1).val + q.val / 256 then 1 else 0 := by
  unfold_payloads
  pointwise
  rw [run_word, row_word, ex_word ⟨(i 1).val, hi⟩ ⟨q.val / 256, by omega⟩,
    eq_word ⟨e.val % 64, by omega⟩ ⟨4 * (i 1).val + q.val / 256, by omega⟩]
  by_cases h : e.val % 64 = 4 * (i 1).val + q.val / 256
  · rw [if_pos (Fin.ext h), if_pos h]; rfl
  · rw [if_neg (fun h' => h (Fin.mk.inj_iff.mp h')), if_neg h]; rfl

/-- A token's gate of the step's expert `k`: what its two carried columns add up to. -/
def gate (i : grid0.Coords) (hi : (i 1).val < 16) (x1 : Vec Ideal S1024x128 .bf16) (r : Fin 1024) (k : Fin 4) : EReal :=
  x1 (ix2 r ⟨4 * (i 1).val + k.val, by omega⟩) + x1 (ix2 r ⟨64 + (4 * (i 1).val + k.val), by omega⟩)

theorem gate_apply (i : grid0.Coords) (hi : (i 1).val < 16) (x1 : Vec Ideal S1024x128 .bf16) (r q : Fin 1024) (k : Fin 4)
    (hq : q.val / 256 = k.val) : k0_pay6 (k0_pay5 i) x1 (ix2 r q) = gate i hi x1 r k := by
  unfold k0_pay6
  pointwise
  simp only [pick_apply i _ q hi, hq, mul_ite, mul_one, mul_zero]
  rw [show (∑ x : Fin 128, if x.val % 64 = 4 * (i 1).val + k.val then (x1 (ix2 r x) : EReal) else 0)
      = _ from Fin.sum_univ_add (a := 64) (b := 64) (fun x => if x.val % 64 = 4 * (i 1).val + k.val then (x1 (ix2 r x) : EReal) else 0)]
  unfold gate
  congr 1
  · rw [Finset.sum_eq_single (⟨4 * (i 1).val + k.val, by omega⟩ : Fin 64)]
    · rw [if_pos (by simp; omega)]; rfl
    · intro b _ hb
      refine if_neg fun h => hb (Fin.ext ?_)
      simp at h
      show b.val = 4 * (i 1).val + k.val
      omega
    · intro h; exact absurd (Finset.mem_univ _) h
  · rw [Finset.sum_eq_single (⟨4 * (i 1).val + k.val, by omega⟩ : Fin 64)]
    · rw [if_pos (by simp; omega)]; rfl
    · intro b _ hb
      refine if_neg fun h => hb (Fin.ext ?_)
      simp at h
      show b.val = 4 * (i 1).val + k.val
      omega
    · intro h; exact absurd (Finset.mem_univ _) h

/-- The shared expert's row. -/
theorem base_apply (x0 : Vec Ideal S1024x1024 .bf16) (x6 : Vec Ideal S1x1024x512 .bf16) (x7 : Vec Ideal S1x256x1024 .bf16)
    (r d : Fin 1024) : base x0 x6 x7 (ix2 r d)
      = ∑ f : Fin 256, act (∑ n, x0 (ix2 r n) * x6 (ix3 0 n ⟨f.val, by omega⟩)) (∑ n, x0 (ix2 r n) * x6 (ix3 0 n ⟨256 + f.val, by omega⟩))
          * x7 (ix3 0 f d) := by
  unfold base act
  unfold_payloads
  pointwise

/-- What expert `k` of a step adds, from its hidden unit `f`. -/
def part (i : grid0.Coords) (hi : (i 1).val < 16) (x0 : Vec Ideal S1024x1024 .bf16) (x1 : Vec Ideal S1024x128 .bf16)
    (x4 : Vec Ideal S1x4x1024x512 .bf16) (x5 : Vec Ideal S1x4x256x1024 .bf16) (r d : Fin 1024) (k : Fin 4) (f : Fin 256) : EReal :=
  act (∑ n, x0 (ix2 r n) * x4 (ix4 0 k n ⟨f.val, by omega⟩)) (∑ n, x0 (ix2 r n) * x4 (ix4 0 k n ⟨256 + f.val, by omega⟩))
    * gate i hi x1 r k * x5 (ix4 0 k f d)

/-- A token's activation `f` under one expert's carried weights, gate and up side by side. -/
def unit (x0 : FVec Ideal S1024x1024 .bf16) (w : Vec Ideal S1x1x1024x512 .bf16) (r : Fin 1024) (f : ℕ) (hf : f < 256) : EReal :=
  act (∑ n, x0 (ix2 r n) * w (ix4 0 0 n ⟨f, by omega⟩)) (∑ n, x0 (ix2 r n) * w (ix4 0 0 n ⟨256 + f, by omega⟩))

theorem hid0_apply (x0 : FVec Ideal S1024x1024 .bf16) (oh : FVec Ideal S128x1024 .bf16) (x1 : Vec Ideal S1024x128 .bf16)
    (w : Vec Ideal S1x1x1024x512 .bf16) (r : Fin 1024) (f : Fin 256) :
    k0_pay7 x0 oh x1 w (ix2 r f) = unit x0 w r f.val f.isLt * k0_pay6 oh x1 (ix2 r ⟨f.val, by omega⟩) := by
  unfold k0_pay7 unit act
  pointwise

theorem hid1_apply (x0 : FVec Ideal S1024x1024 .bf16) (oh : FVec Ideal S128x1024 .bf16) (x1 : Vec Ideal S1024x128 .bf16)
    (w : Vec Ideal S1x1x1024x512 .bf16) (r : Fin 1024) (f : Fin 256) :
    k0_pay8 x0 oh x1 w (ix2 r f) = unit x0 w r f.val f.isLt * k0_pay6 oh x1 (ix2 r ⟨256 + f.val, by omega⟩) := by
  unfold k0_pay8 unit act
  pointwise

/-- The gated activations of a step side by side, at a column. -/
def col (x0 : FVec Ideal S1024x1024 .bf16) (g : FVec Ideal S1024x1024 .f32) (h0 h1 : FVec Ideal S1024x256 .bf16)
    (w2 w3 : Vec Ideal S1x1x1024x512 .bf16) (r x : Fin 1024) : EReal :=
  if h : x.val < 256 then h0 (ix2 r ⟨x.val, h⟩)
  else if h : x.val - 256 < 256 then h1 (ix2 r ⟨x.val - 256, h⟩)
  else if h : x.val - 256 - 256 < 256 then
    unit x0 w2 r (x.val - 256 - 256) h * g (ix2 r ⟨512 + (x.val - 256 - 256), by omega⟩)
  else unit x0 w3 r (x.val - 256 - 256 - 256) (by omega) * g (ix2 r ⟨768 + (x.val - 256 - 256 - 256), by omega⟩)

theorem down_apply (x0 : FVec Ideal S1024x1024 .bf16) (g : FVec Ideal S1024x1024 .f32) (h0 h1 : FVec Ideal S1024x256 .bf16)
    (w2 w3 : Vec Ideal S1x1x1024x512 .bf16) (wd : Vec Ideal S1x4x256x1024 .bf16) (acc : Vec Ideal S1024x1024 .f32) (r d : Fin 1024) :
    k0_pay9 x0 g h0 h1 w2 w3 wd acc (ix2 r d) = acc (ix2 r d)
      + ∑ x, col x0 g h0 h1 w2 w3 r x * wd (ix4 0 ⟨x.val / 256, by omega⟩ ⟨x.val % 256, by omega⟩ d) := by
  unfold k0_pay9 col unit act
  pointwise

/-- The step's columns, run by run: expert `k`'s gated activation `f`. -/
theorem col_run (i : grid0.Coords) (hi : (i 1).val < 16) (x0 : FVec Ideal S1024x1024 .bf16) (x1 : Vec Ideal S1024x128 .bf16)
    (w0 w1 w2 w3 : Vec Ideal S1x1x1024x512 .bf16) (r x : Fin 1024) (f : Fin 256) :
    (x.val = f.val → col x0 (k0_pay6 (k0_pay5 i) x1) (k0_pay7 x0 (k0_pay5 i) x1 w0) (k0_pay8 x0 (k0_pay5 i) x1 w1) w2 w3 r x
      = unit x0 w0 r f.val f.isLt * gate i hi x1 r 0)
    ∧ (x.val = 256 + f.val → col x0 (k0_pay6 (k0_pay5 i) x1) (k0_pay7 x0 (k0_pay5 i) x1 w0) (k0_pay8 x0 (k0_pay5 i) x1 w1) w2 w3 r x
      = unit x0 w1 r f.val f.isLt * gate i hi x1 r 1)
    ∧ (x.val = 512 + f.val → col x0 (k0_pay6 (k0_pay5 i) x1) (k0_pay7 x0 (k0_pay5 i) x1 w0) (k0_pay8 x0 (k0_pay5 i) x1 w1) w2 w3 r x
      = unit x0 w2 r f.val f.isLt * gate i hi x1 r 2)
    ∧ (x.val = 768 + f.val → col x0 (k0_pay6 (k0_pay5 i) x1) (k0_pay7 x0 (k0_pay5 i) x1 w0) (k0_pay8 x0 (k0_pay5 i) x1 w1) w2 w3 r x
      = unit x0 w3 r f.val f.isLt * gate i hi x1 r 3) := by
  have hf := f.isLt
  refine ⟨fun hx => ?_, fun hx => ?_, fun hx => ?_, fun hx => ?_⟩
  · have n0 : x.val < 256 := by omega
    unfold col
    rw [dif_pos n0, hid0_apply, gate_apply i hi x1 r _ 0 (by show x.val / 256 = 0; omega)]
    simp only [hx]
  · have n0 : ¬x.val < 256 := by omega
    have n1 : x.val - 256 < 256 := by omega
    have e : x.val - 256 = f.val := by omega
    unfold col
    rw [dif_neg n0, dif_pos n1, hid1_apply, gate_apply i hi x1 r _ 1 (by show (256 + (x.val - 256)) / 256 = 1; omega)]
    simp only [e]
  · have n0 : ¬x.val < 256 := by omega
    have n1 : ¬x.val - 256 < 256 := by omega
    have n2 : x.val - 256 - 256 < 256 := by omega
    have e : x.val - 256 - 256 = f.val := by omega
    unfold col
    rw [dif_neg n0, dif_neg n1, dif_pos n2, gate_apply i hi x1 r _ 2 (by show (512 + (x.val - 256 - 256)) / 256 = 2; omega)]
    simp only [e]
  · have n0 : ¬x.val < 256 := by omega
    have n1 : ¬x.val - 256 < 256 := by omega
    have n2 : ¬x.val - 256 - 256 < 256 := by omega
    have e : x.val - 256 - 256 - 256 = f.val := by omega
    unfold col
    rw [dif_neg n0, dif_neg n1, dif_neg n2, gate_apply i hi x1 r _ 3 (by show (768 + (x.val - 256 - 256 - 256)) / 256 = 3; omega)]
    simp only [e]

theorem unit_ld (x0 : FVec Ideal S1024x1024 .bf16) (x4 : Vec Ideal S1x4x1024x512 .bf16) (r : Fin 1024) (f : Fin 256) :
    unit x0 (View.ld x4 (Rect.unit ![0, 0, 0, 0] ![1, 1, 1024, 512] inb_S1x4x1024x512_S1x1x1024x512_0_0_0_0)) r f.val f.isLt
      = act (∑ n, x0 (ix2 r n) * x4 (ix4 0 0 n ⟨f.val, by omega⟩)) (∑ n, x0 (ix2 r n) * x4 (ix4 0 0 n ⟨256 + f.val, by omega⟩))
    ∧ unit x0 (View.ld x4 (Rect.unit ![0, 1, 0, 0] ![1, 1, 1024, 512] inb_S1x4x1024x512_S1x1x1024x512_0_1_0_0)) r f.val f.isLt
      = act (∑ n, x0 (ix2 r n) * x4 (ix4 0 1 n ⟨f.val, by omega⟩)) (∑ n, x0 (ix2 r n) * x4 (ix4 0 1 n ⟨256 + f.val, by omega⟩))
    ∧ unit x0 (View.ld x4 (Rect.unit ![0, 2, 0, 0] ![1, 1, 1024, 512] inb_S1x4x1024x512_S1x1x1024x512_0_2_0_0)) r f.val f.isLt
      = act (∑ n, x0 (ix2 r n) * x4 (ix4 0 2 n ⟨f.val, by omega⟩)) (∑ n, x0 (ix2 r n) * x4 (ix4 0 2 n ⟨256 + f.val, by omega⟩))
    ∧ unit x0 (View.ld x4 (Rect.unit ![0, 3, 0, 0] ![1, 1, 1024, 512] inb_S1x4x1024x512_S1x1x1024x512_0_3_0_0)) r f.val f.isLt
      = act (∑ n, x0 (ix2 r n) * x4 (ix4 0 3 n ⟨f.val, by omega⟩)) (∑ n, x0 (ix2 r n) * x4 (ix4 0 3 n ⟨256 + f.val, by omega⟩)) := by
  unfold unit
  refine ⟨?_, ?_, ?_, ?_⟩ <;> pointwise

theorem k0_pay1_eq (v : FVec Ideal S1024x1024 .f32) : k0_pay1 v = v := by
  unfold k0_pay1; exact shapeCast_self _ _

theorem k0_pay3_eq (v : Vec Ideal S1024x1024 .bf16) : k0_pay3 v = v := by
  unfold k0_pay3; exact shapeCast_self _ _

/-- A step adds its four experts' rows. -/
theorem step_apply (i : grid0.Coords) (hi : (i 1).val < 16) (x0 : Vec Ideal S1024x1024 .bf16) (x1 : Vec Ideal S1024x128 .bf16)
    (x4 : Vec Ideal S1x4x1024x512 .bf16) (x5 : Vec Ideal S1x4x256x1024 .bf16) (acc : Vec Ideal S1024x1024 .f32) (r d : Fin 1024) :
    step i x0 x1 x4 x5 acc (ix2 r d) = acc (ix2 r d) + ∑ k, ∑ f, part i hi x0 x1 x4 x5 r d k f := by
  unfold step
  rw [k0_pay1_eq, k0_pay3_eq, down_apply, sum_runs]
  refine congrArg _ (Finset.sum_congr rfl fun k _ => Finset.sum_congr rfl fun f _ => ?_)
  have hm : (⟨(256 * k.val + f.val) % 256, by omega⟩ : Fin 256) = f := Fin.ext (by show (256 * k.val + f.val) % 256 = f.val; omega)
  have hd : (⟨(256 * k.val + f.val) / 256, by omega⟩ : Fin 4) = k := Fin.ext (by show (256 * k.val + f.val) / 256 = k.val; omega)
  unfold part
  refine congr (congrArg _ ?_) (congrArg₂ (fun k f => x5 (ix4 0 k f d)) hd hm)
  obtain ⟨c0, c1, c2, c3⟩ := col_run i hi x0 x1 _ _ _ _ r ⟨256 * k.val + f.val, by omega⟩ f
  obtain ⟨u0, u1, u2, u3⟩ := unit_ld x0 x4 r f
  have hk : k.val = 0 ∨ k.val = 1 ∨ k.val = 2 ∨ k.val = 3 := by omega
  rcases hk with hk | hk | hk | hk
  · obtain rfl : k = 0 := Fin.ext hk
    exact (c0 (by show 256 * 0 + f.val = f.val; omega)).trans (congrArg (· * _) u0)
  · obtain rfl : k = 1 := Fin.ext hk
    exact (c1 (by show 256 * 1 + f.val = _; omega)).trans (congrArg (· * _) u1)
  · obtain rfl : k = 2 := Fin.ext hk
    exact (c2 (by show 256 * 2 + f.val = _; omega)).trans (congrArg (· * _) u2)
  · obtain rfl : k = 3 := Fin.ext hk
    exact (c3 (by show 256 * 3 + f.val = _; omega)).trans (congrArg (· * _) u3)

/-- The last step's rows: the normalised residual with the accumulator. -/
theorem last_apply (x2 : Vec Ideal S1024x1024 .f32) (x3 : Vec Ideal S1x6x1024 .f32) (x8 : Vec Ideal S1x1x1024 .f32) (x9 : Vec Ideal S1x1x1024 .f32)
    (acc : Vec Ideal S1024x1024 .f32) (r d : Fin 1024) : last x2 x3 x8 x9 acc (ix2 r d)
      = norm (mixed (fun d => x2 (ix2 r d)) (fun d => acc (ix2 r d)) (fun d => x3 (ix3 0 5 d))) (fun d => x8 (ix3 0 0 d)) (fun d => x9 (ix3 0 0 d)) d := by
  unfold last norm mean mixed
  unfold_payloads
  pointwise

end Cert.Moe

end

end
-- ==== Proof.Moe.Blocks.lean ====
/-
  The blocks of the expert kernel at a grid point, read off the arrays it is given.
-/
module

public import proofs.«01_k».proof.Proof.Moe.Step
public import Idealize.ShloMosaic.Lib.Pipeline.ValueKit

@[expose] public section

noncomputable section

open Idealize.ShloMosaic Idealize.ShloMosaic.TcCoe Idealize.SL.Sem

namespace Cert.Moe

open Cert.Kernel2Ideal Cert.Kernel2Ideal.Gen

variable (m : (ℓ : Loc nD τ sig) → Buf (Elt Ideal) ℓ) (c : Dev nD)

theorem tok : ∀ t : Fin cfg0.N, win0_0.index t = ![t.val / 16, 0] ∧ win0_1.index t = ![t.val / 16, 0]
    ∧ win0_2.index t = ![t.val / 16, 0] ∧ win0_3.index t = ![t.val / 64, 0, 0] := by decide +kernel

theorem wts : ∀ t : Fin cfg0.N, win0_4.index t = ![0, t.val % 16, 0, 0] ∧ win0_5.index t = ![0, t.val % 16, 0, 0]
    ∧ win0_6.index t = ![0, 0, 0] ∧ win0_7.index t = ![0, 0, 0] ∧ win0_8.index t = ![0, 0, 0] ∧ win0_9.index t = ![0, 0, 0] := by
  decide +kernel

theorem coord : ∀ t : Fin cfg0.N, (grid0.coords t 1).val = t.val % 16 := by decide +kernel

theorem lt512 (t : Fin cfg0.N) : t.val < 512 := lt_of_lt_of_eq t.isLt N_0

/-- A token tile of the inputs. -/
theorem blk0 (t : Fin cfg0.N) (r n : Fin 1024) : iblk m c 0 t (ix2 r n)
    = row (m ((c : Thread nD τ).loc main_arg0)) ⟨1024 * (t.val / 16) + r.val, by have := lt512 t; omega⟩ n := by
  have ht := lt512 t
  have e : (((cfg0.win 0).blk t).view.emb (ix2 r n) : S32768x1024.Idx) = ix2 ⟨1024 * (t.val / 16) + r.val, by have := lt512 t; omega⟩ n := by
    blk_ext [(tok t).1]
  unfold iblk
  rw [View.read_apply]
  erw [e]
  show V m c main_v11 _ = _
  entry_read
  pointwise
  rfl

/-- The tile's gates, rounded. -/
theorem blk1_hi (t : Fin cfg0.N) (r : Fin 1024) (n : Fin 64) : iblk m c 1 t (ix2 r ⟨n.val, by omega⟩)
    = m ((c : Thread nD τ).loc main_arg1) (ix2 ⟨1024 * (t.val / 16) + r.val, by have := lt512 t; omega⟩ n) := by
  have ht := lt512 t
  have e : (((cfg0.win 1).blk t).view.emb (ix2 r (⟨n.val, by omega⟩ : Fin 128)) : S32768x128.Idx) = ix2 ⟨1024 * (t.val / 16) + r.val, by have := lt512 t; omega⟩ ⟨n.val, by omega⟩ := by
    blk_ext [(tok t).2.1]
  unfold iblk
  rw [View.read_apply]
  erw [e]
  show V m c main_v12 _ = _
  entry_read
  pointwise

/-- What the rounding left, which is exactly nothing over a finite gate. -/
theorem blk1_lo (t : Fin cfg0.N) (r : Fin 1024) (n : Fin 64) : iblk m c 1 t (ix2 r ⟨64 + n.val, by omega⟩)
    = (show EReal from m ((c : Thread nD τ).loc main_arg1) (ix2 ⟨1024 * (t.val / 16) + r.val, by have := lt512 t; omega⟩ n))
      - m ((c : Thread nD τ).loc main_arg1) (ix2 ⟨1024 * (t.val / 16) + r.val, by have := lt512 t; omega⟩ n) := by
  have ht := lt512 t
  have e : (((cfg0.win 1).blk t).view.emb (ix2 r (⟨64 + n.val, by omega⟩ : Fin 128)) : S32768x128.Idx) = ix2 ⟨1024 * (t.val / 16) + r.val, by have := lt512 t; omega⟩ ⟨64 + n.val, by omega⟩ := by
    blk_ext [(tok t).2.1]
  unfold iblk
  rw [View.read_apply]
  erw [e]
  show V m c main_v12 _ = _
  entry_read
  pointwise

/-- A token tile of the residual stream. -/
theorem blk2 (t : Fin cfg0.N) (r n : Fin 1024) : iblk m c 2 t (ix2 r n)
    = row (m ((c : Thread nD τ).loc main_arg2)) ⟨1024 * (t.val / 16) + r.val, by have := lt512 t; omega⟩ n := by
  have ht := lt512 t
  have e : (((cfg0.win 2).blk t).view.emb (ix2 r n) : S32768x1024.Idx) = ix2 ⟨1024 * (t.val / 16) + r.val, by have := lt512 t; omega⟩ n := by
    blk_ext [(tok t).2.2.1]
  unfold iblk
  rw [View.read_apply]
  erw [e]
  show V m c main_v13 _ = _
  entry_read
  pointwise
  rfl

/-- The modulation rows of the tile's batch entry. -/
theorem blk3 (t : Fin cfg0.N) (j : Fin 6) (n : Fin 1024) : iblk m c 3 t (ix3 0 j n)
    = m ((c : Thread nD τ).loc main_arg3) (ix3 ⟨t.val / 64, by have := lt512 t; omega⟩ j n) := by
  blk_ext [iblk, V, (tok t).2.2.2]

/-- The gate weights of the step's experts. -/
theorem blk4_gate (t : Fin cfg0.N) (k : Fin 4) (n : Fin 1024) (f : Fin 256) : iblk m c 4 t (ix4 0 k n ⟨f.val, by omega⟩)
    = m ((c : Thread nD τ).loc main_arg4) (ix4 0 ⟨4 * (t.val % 16) + k.val, by omega⟩ n f) := by
  have ht := lt512 t
  have e : (((cfg0.win 4).blk t).view.emb (ix4 (0 : Fin 1) k n (⟨f.val, by omega⟩ : Fin 512)) : S4x64x1024x512.Idx) = ix4 0 ⟨4 * (t.val % 16) + k.val, by omega⟩ n ⟨f.val, by omega⟩ := by
    blk_ext [(wts t).1]
  unfold iblk
  rw [View.read_apply]
  erw [e]
  show V m c main_v5 _ = _
  entry_read
  pointwise

/-- The up weights of the step's experts. -/
theorem blk4_up (t : Fin cfg0.N) (k : Fin 4) (n : Fin 1024) (f : Fin 256) : iblk m c 4 t (ix4 0 k n ⟨256 + f.val, by omega⟩)
    = m ((c : Thread nD τ).loc main_arg5) (ix4 0 ⟨4 * (t.val % 16) + k.val, by omega⟩ n f) := by
  have ht := lt512 t
  have e : (((cfg0.win 4).blk t).view.emb (ix4 (0 : Fin 1) k n (⟨256 + f.val, by omega⟩ : Fin 512)) : S4x64x1024x512.Idx) = ix4 0 ⟨4 * (t.val % 16) + k.val, by omega⟩ n ⟨256 + f.val, by omega⟩ := by
    blk_ext [(wts t).1]
  unfold iblk
  rw [View.read_apply]
  erw [e]
  show V m c main_v5 _ = _
  entry_read
  pointwise

/-- The down weights of the step's experts. -/
theorem blk5 (t : Fin cfg0.N) (k : Fin 4) (f : Fin 256) (d : Fin 1024) : iblk m c 5 t (ix4 0 k f d)
    = m ((c : Thread nD τ).loc main_arg6) (ix4 0 ⟨4 * (t.val % 16) + k.val, by omega⟩ f d) := by
  have ht := lt512 t
  have e : (((cfg0.win 5).blk t).view.emb (ix4 (0 : Fin 1) k f d) : S4x64x256x1024.Idx) = ix4 0 ⟨4 * (t.val % 16) + k.val, by omega⟩ f d := by
    blk_ext [(wts t).2.1]
  unfold iblk
  rw [View.read_apply]
  erw [e]
  show V m c main_v6 _ = _
  entry_read
  pointwise

/-- The shared expert's gate weights. -/
theorem blk6_gate (t : Fin cfg0.N) (n : Fin 1024) (f : Fin 256) : iblk m c 6 t (ix3 0 n ⟨f.val, by omega⟩)
    = m ((c : Thread nD τ).loc main_arg7) (ix3 0 n f) := by
  have ht := lt512 t
  have e : (((cfg0.win 6).blk t).view.emb (ix3 (0 : Fin 1) n (⟨f.val, by omega⟩ : Fin 512)) : S4x1024x512.Idx) = ix3 0 n ⟨f.val, by omega⟩ := by
    blk_ext [(wts t).2.2.1]
  unfold iblk
  rw [View.read_apply]
  erw [e]
  show V m c main_v8 _ = _
  entry_read
  pointwise

/-- The shared expert's up weights. -/
theorem blk6_up (t : Fin cfg0.N) (n : Fin 1024) (f : Fin 256) : iblk m c 6 t (ix3 0 n ⟨256 + f.val, by omega⟩)
    = m ((c : Thread nD τ).loc main_arg8) (ix3 0 n f) := by
  have ht := lt512 t
  have e : (((cfg0.win 6).blk t).view.emb (ix3 (0 : Fin 1) n (⟨256 + f.val, by omega⟩ : Fin 512)) : S4x1024x512.Idx) = ix3 0 n ⟨256 + f.val, by omega⟩ := by
    blk_ext [(wts t).2.2.1]
  unfold iblk
  rw [View.read_apply]
  erw [e]
  show V m c main_v8 _ = _
  entry_read
  pointwise

/-- The shared expert's down weights. -/
theorem blk7 (t : Fin cfg0.N) (f : Fin 256) (d : Fin 1024) : iblk m c 7 t (ix3 0 f d)
    = m ((c : Thread nD τ).loc main_arg9) (ix3 0 f d) := by
  have ht := lt512 t
  have e : (((cfg0.win 7).blk t).view.emb (ix3 (0 : Fin 1) f d) : S4x256x1024.Idx) = ix3 0 f d := by
    blk_ext [(wts t).2.2.2.1]
  unfold iblk
  rw [View.read_apply]
  erw [e]
  show V m c main_v9 _ = _
  entry_read
  pointwise

/-- The scale of the layer's normalisation. -/
theorem blk8 (t : Fin cfg0.N) (d : Fin 1024) : iblk m c 8 t (ix3 0 0 d)
    = m ((c : Thread nD τ).loc main_arg10) (ix2 0 d) := by
  have ht := lt512 t
  have e : (((cfg0.win 8).blk t).view.emb (ix3 (0 : Fin 1) (0 : Fin 1) d) : S4x1x1024.Idx) = ix3 0 0 d := by
    blk_ext [(wts t).2.2.2.2.1]
  unfold iblk
  rw [View.read_apply]
  erw [e]
  show V m c main_v14 _ = _
  entry_read
  pointwise

/-- The shift of the layer's normalisation. -/
theorem blk9 (t : Fin cfg0.N) (d : Fin 1024) : iblk m c 9 t (ix3 0 0 d)
    = m ((c : Thread nD τ).loc main_arg11) (ix2 0 d) := by
  have ht := lt512 t
  have e : (((cfg0.win 9).blk t).view.emb (ix3 (0 : Fin 1) (0 : Fin 1) d) : S4x1x1024.Idx) = ix3 0 0 d := by
    blk_ext [(wts t).2.2.2.2.2]
  unfold iblk
  rw [View.read_apply]
  erw [e]
  show V m c main_v15 _ = _
  entry_read
  pointwise

end Cert.Moe

end

end
-- ==== Proof.Moe.Fold.lean ====
/-
  The expert kernel's accumulator over a tile's sixteen steps, and the block it leaves, over the arrays it is given.
-/
module

public import proofs.«01_k».proof.Proof.Moe.Blocks

@[expose] public section

noncomputable section

open Idealize.ShloMosaic Idealize.ShloMosaic.TcCoe Idealize.SL.Sem

namespace Cert.Moe

open Cert.Kernel2Ideal Cert.Kernel2Ideal.Gen

variable (m : (ℓ : Loc nD τ sig) → Buf (Elt Ideal) ℓ) (c : Dev nD)

theorem first_scratch (t : Fin cfg0.N) (h : t.val % 16 = 0) :
    (outsAt0 m c t.val t.isLt).2 = step (grid0.coords t) (iblk m c 0 t) (iblk m c 1 t) (iblk m c 4 t) (iblk m c 5 t)
      (base (iblk m c 0 t) (iblk m c 6 t) (iblk m c 7 t)) := by
  rw [outsAt0_A m c t h (by omega)]
  dsimp only
  exact sout_A ..

theorem later_scratch (t : Fin cfg0.N) (h : ¬t.val % 16 = 0) :
    (outsAt0 m c t.val t.isLt).2 = step (grid0.coords t) (iblk m c 0 t) (iblk m c 1 t) (iblk m c 4 t) (iblk m c 5 t)
      (outsAt0 m c (t.val - 1) (Nat.lt_of_le_of_lt (Nat.sub_le _ _) t.isLt)).2 := by
  by_cases h1 : t.val % 16 = 15
  · rw [outsAt0_C m c t h h1]
    dsimp only
    exact sout_C ..
  · rw [outsAt0_B m c t h h1]
    dsimp only
    exact sout_B ..

theorem last_block (t : Fin cfg0.N) (h1 : t.val % 16 = 15) :
    (outsAt0 m c t.val t.isLt).1 = last (iblk m c 2 t) (iblk m c 3 t) (iblk m c 8 t) (iblk m c 9 t) (outsAt0 m c t.val t.isLt).2 := by
  rw [later_scratch m c t (by omega), outsAt0_C m c t (by omega) h1]
  dsimp only
  exact out_C ..

theorem outs_congr {n n' : ℕ} (e : n = n') (h : n < cfg0.N) (h' : n' < cfg0.N) : outsAt0 m c n h = outsAt0 m c n' h' := by
  subst e; rfl

/-- A token's gate of an expert. -/
def gat (R : Fin 32768) (e : Fin 64) : EReal := m ((c : Thread nD τ).loc main_arg1) (ix2 R e)

/-- Expert `e`'s share of the token's channel. -/
def share (R : Fin 32768) (d : Fin 1024) (e : Fin 64) : EReal :=
  ∑ f : Fin 256, feat (row (m ((c : Thread nD τ).loc main_arg0)) R) (fun n f => m ((c : Thread nD τ).loc main_arg4) (ix4 0 e n f))
    (fun n f => m ((c : Thread nD τ).loc main_arg5) (ix4 0 e n f)) f * gat m c R e
    * (m ((c : Thread nD τ).loc main_arg6) (ix4 0 e f d) : EReal)

/-- The shared expert's channel. -/
def common (R : Fin 32768) (d : Fin 1024) : EReal :=
  shared (row (m ((c : Thread nD τ).loc main_arg0)) R) (fun n f => m ((c : Thread nD τ).loc main_arg7) (ix3 0 n f))
    (fun n f => m ((c : Thread nD τ).loc main_arg8) (ix3 0 n f)) (fun f d => m ((c : Thread nD τ).loc main_arg9) (ix3 0 f d)) d

theorem base_row (t : Fin cfg0.N) (r d : Fin 1024) :
    base (iblk m c 0 t) (iblk m c 6 t) (iblk m c 7 t) (ix2 r d) = common m c ⟨1024 * (t.val / 16) + r.val, by have := lt512 t; omega⟩ d := by
  rw [base_apply]
  unfold common shared feat
  simp only [blk0, blk6_gate, blk6_up, blk7]

variable (hg : ∀ R e, max (gat m c R e) (-gat m c R e) < ⊤)

include hg in
theorem gate_row (t : Fin cfg0.N) (hi : (grid0.coords t 1).val < 16) (r : Fin 1024) (k : Fin 4) :
    gate (grid0.coords t) hi (iblk m c 1 t) r k
      = gat m c ⟨1024 * (t.val / 16) + r.val, by have := lt512 t; omega⟩ ⟨4 * (t.val % 16) + k.val, by omega⟩ := by
  unfold gate
  simp only [coord t]
  rw [blk1_hi m c t r ⟨4 * (t.val % 16) + k.val, by omega⟩, blk1_lo m c t r ⟨4 * (t.val % 16) + k.val, by omega⟩]
  exact add_sub_self _ (hg _ _)

include hg in
theorem step_row (t : Fin cfg0.N) (acc : Vec Ideal S1024x1024 .f32) (r d : Fin 1024) :
    step (grid0.coords t) (iblk m c 0 t) (iblk m c 1 t) (iblk m c 4 t) (iblk m c 5 t) acc (ix2 r d)
      = acc (ix2 r d) + ∑ k : Fin 4, share m c ⟨1024 * (t.val / 16) + r.val, by have := lt512 t; omega⟩ d ⟨4 * (t.val % 16) + k.val, by omega⟩ := by
  have hi : (grid0.coords t 1).val < 16 := by rw [coord t]; omega
  rw [step_apply _ hi]
  unfold share part feat
  simp only [gate_row m c hg, blk0, blk4_gate, blk4_up, blk5]

include hg in
/-- After a tile's step `s`: the shared expert and the experts of the steps so far. -/
theorem scratch_row (T : ℕ) (hT : T < 32) (r d : Fin 1024) : ∀ (s : ℕ) (hs : s < 16) (h : 16 * T + s < cfg0.N),
    (outsAt0 m c (16 * T + s) h).2 (ix2 r d) = common m c ⟨1024 * T + r.val, by omega⟩ d
      + ∑ j : Fin (s + 1), ∑ k : Fin 4, share m c ⟨1024 * T + r.val, by omega⟩ d ⟨4 * j.val + k.val, by omega⟩
  | 0, _, h => by
    have h16 : (16 * T + 0) / 16 = T := by omega
    have h0 : (16 * T + 0) % 16 = 0 := by omega
    have e := first_scratch m c ⟨16 * T + 0, h⟩ h0
    dsimp only at e
    rw [e, step_row m c hg, base_row, Fin.sum_univ_one]
    simp only [h16, h0]
    rfl
  | s + 1, hs, h => by
    have h16 : (16 * T + (s + 1)) / 16 = T := by omega
    have h0 : (16 * T + (s + 1)) % 16 = s + 1 := by omega
    have e := later_scratch m c ⟨16 * T + (s + 1), h⟩ (by show ¬(16 * T + (s + 1)) % 16 = 0; omega)
    dsimp only at e
    have ih := scratch_row T hT r d s (by omega) (by omega)
    have e' : (outsAt0 m c (16 * T + (s + 1) - 1) (by omega)).2 (ix2 r d) = (outsAt0 m c (16 * T + s) (by omega)).2 (ix2 r d) := rfl
    rw [e, step_row m c hg, e', ih]
    conv_rhs => rw [Fin.sum_univ_castSucc]
    refine Eq.trans ?_ (add_assoc _ _ _)
    simp only [h16, h0]
    rfl

include hg in
/-- The block written back at a tile's last step, row by row. -/
theorem block_row (t : Fin cfg0.N) (h1 : t.val % 16 = 15) (r d : Fin 1024) :
    (outsAt0 m c t.val t.isLt).1 (ix2 r d)
      = norm (mixed (row (m ((c : Thread nD τ).loc main_arg2)) ⟨1024 * (t.val / 16) + r.val, by have := lt512 t; omega⟩)
          (fun d => common m c ⟨1024 * (t.val / 16) + r.val, by have := lt512 t; omega⟩ d
            + ∑ e, share m c ⟨1024 * (t.val / 16) + r.val, by have := lt512 t; omega⟩ d e)
          (fun d => m ((c : Thread nD τ).loc main_arg3) (ix3 ⟨t.val / 64, by have := lt512 t; omega⟩ 5 d)))
        (fun d => m ((c : Thread nD τ).loc main_arg10) (ix2 0 d)) (fun d => m ((c : Thread nD τ).loc main_arg11) (ix2 0 d)) d := by
  rw [last_block m c t h1, last_apply]
  have hT : t.val / 16 < 32 := by have := lt512 t; omega
  have hs : ∀ d, (outsAt0 m c t.val t.isLt).2 (ix2 r d) = common m c ⟨1024 * (t.val / 16) + r.val, by have := lt512 t; omega⟩ d
            + ∑ e, share m c ⟨1024 * (t.val / 16) + r.val, by have := lt512 t; omega⟩ d e := by
    intro d
    have e : t.val = 16 * (t.val / 16) + 15 := by omega
    have := scratch_row m c hg (t.val / 16) hT r d 15 (by omega) (by rw [← e]; exact t.isLt)
    rw [sum_steps, ← this]
    exact congrFun (congrArg Prod.snd (outs_congr m c e _ _)) _
  simp only [blk2, blk3, blk8, blk9, hs]

end Cert.Moe

end

end
-- ==== Proof.Moe.Value.lean ====
/-
  The array the expert block's kernel leaves, row by row.
-/
module

public import proofs.«01_k».proof.Proof.Moe.Fold
public import proofs.«01_k».proof.Proof.Gen.Kernel2Ideal.Value

@[expose] public section

noncomputable section

open Idealize.ShloMosaic Idealize.ShloMosaic.TcCoe Idealize.SL.Sem

namespace Cert.Moe

open Cert.Kernel2Ideal Cert.Kernel2Ideal.Gen Cert.Kernel2Ideal.Value

variable (m : (ℓ : Loc nD τ sig) → Buf (Elt Idealize.ShloMosaic.Ideal) ℓ) (c : Dev nD)

theorem pt_eq (R : Fin 32768) (d : Fin 1024) : pt10Of (ix2 R d) = 16 * (R.val / 1024) + 15 := by
  show 16 * (1 * (R.val / 1024 - 0) + 1 * (d.val / 1024 - 0)) + 15 = _
  omega

theorem loc_eq (R : Fin 32768) (d : Fin 1024) : loc10Of (ix2 R d) = ix2 ⟨R.val % 1024, by omega⟩ d := by
  funext a
  apply Fin.ext
  match a with
  | ⟨0, _⟩ => rfl
  | ⟨1, _⟩ => show d.val % 1024 = d.val; omega

theorem G10_block (R : Fin 32768) (d : Fin 1024) (h : 16 * (R.val / 1024) + 15 < cfg0.N) :
    G10 m c (ix2 R d) = (outsAt0 m c (16 * (R.val / 1024) + 15) h).1 (ix2 ⟨R.val % 1024, by omega⟩ d) := by
  have hp := pt_eq R d
  unfold G10
  have h' : pt10Of (ix2 R d) < cfg0.N := hp ▸ h
  rw [dif_pos h', loc_eq, ← outsAt0_sweep m c _ h']
  rw [outs_congr m c hp h' h]

/-- The kernel's result, row by row. -/
theorem G10_row (hg : ∀ R e, max (gat m c R e) (-gat m c R e) < ⊤) (R : Fin 32768) (d : Fin 1024) : G10 m c (ix2 R d) = whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) R d := by
  have h : 16 * (R.val / 1024) + 15 < cfg0.N := by have : cfg0.N = 512 := N_0; omega
  have e0 : (16 * (R.val / 1024) + 15) / 16 = R.val / 1024 := by omega
  have e1 : (16 * (R.val / 1024) + 15) / 64 = R.val / 4096 := by omega
  have e2 : 1024 * (R.val / 1024) + R.val % 1024 = R.val := by omega
  have b := block_row m c hg ⟨16 * (R.val / 1024) + 15, h⟩ (by show (16 * (R.val / 1024) + 15) % 16 = 15; omega) ⟨R.val % 1024, by omega⟩ d
  rw [G10_block m c R d h]
  refine b.trans ?_
  simp only [e0, e1, e2]
  unfold whole routed
  simp only [add_comm _ (shared _ _ _ _ _)]
  rfl

end Cert.Moe

end

end
-- ==== Proof.Moe.Ref.lean ====
/-
  What the reference of the expert block computes, over the arrays it is given.
-/
module

public import proofs.«01_k».proof.Proof.Moe.Spec
public import proofs.«01_k».proof.Proof.Gen.Reference2Ideal.Run
public import Idealize.ShloMosaic.Lib.Pointwise
public import Idealize.ShloMosaic.Lib.ValueIdx
public import Idealize.ShloMosaic.Lib.ValueLayout

@[expose] public section

noncomputable section

open Idealize.ShloMosaic Idealize.ShloMosaic.TcCoe Idealize.SL.Sem

namespace Cert.Moe.Ref

open Cert.Reference2Ideal Cert.Reference2Ideal.Gen Cert.Reference2Ideal.Value

/-- The tokens as rows. -/
def toks (a0 : FVec Ideal S8x4096x1024 .f32) : FVec Ideal S32768x1024 .f32 :=
  (shapeCast S32768x1024 a0 shapeCasts_S8x4096x1024_S32768x1024)

/-- The first layer's gate or up weights. -/
def upw (a4 : FVec Ideal S4x64x1024x256 .f32) : FVec Ideal S64x1024x256 .f32 :=
  (shapeCast S64x1024x256 (extractStridedSlice S1x64x1024x256 ![0, 0, 0, 0] a4 slices_S4x64x1024x256_S1x64x1024x256_0_0_0_0) shapeCasts_S1x64x1024x256_S64x1024x256)

/-- The first layer's down weights. -/
def downw (a6 : FVec Ideal S4x64x256x1024 .f32) : FVec Ideal S64x256x1024 .f32 :=
  (shapeCast S64x256x1024 (extractStridedSlice S1x64x256x1024 ![0, 0, 0, 0] a6 slices_S4x64x256x1024_S1x64x256x1024_0_0_0_0) shapeCasts_S1x64x256x1024_S64x256x1024)

/-- The shared expert's gate or up weights. -/
def supw (a7 : FVec Ideal S4x1024x256 .f32) : FVec Ideal S1024x256 .f32 :=
  (shapeCast S1024x256 (extractStridedSlice S1x1024x256 ![0, 0, 0] a7 slices_S4x1024x256_S1x1024x256_0_0_0) shapeCasts_S1x1024x256_S1024x256)

/-- The shared expert's down weights. -/
def sdownw (a9 : FVec Ideal S4x256x1024 .f32) : FVec Ideal S256x1024 .f32 :=
  (shapeCast S256x1024 (extractStridedSlice S1x256x1024 ![0, 0, 0] a9 slices_S4x256x1024_S1x256x1024_0_0_0) shapeCasts_S1x256x1024_S256x1024)

/-- The normalisation's scale or shift. -/
def vecw (a10 : FVec Ideal S4x1024 .f32) : FVec Ideal S1024 .f32 :=
  (shapeCast S1024 (extractStridedSlice S1x1024 ![0, 0] a10 slices_S4x1024_S1x1024_0_0) shapeCasts_S1x1024_S1024)

/-- Every token's activations under every expert. -/
def feats (x : FVec Ideal S32768x1024 .f32) (wg wu : FVec Ideal S64x1024x256 .f32) : FVec Ideal S32768x64x256 .f32 :=
  (mulf (mulf (Host.dotGeneral dot_S32768x1024_S64x1024x256_S32768x64x256_1_1_0_02_n_n none x wg) (Host.divf (broadcastInDim S32768x64x256 ![] bcast_S_S32768x64x256 (constant S_ .f32 0x3F800000#32)) (addf (broadcastInDim S32768x64x256 ![] bcast_S_S32768x64x256 (constant S_ .f32 0x3F800000#32)) (Host.exp (Host.negf (Host.dotGeneral dot_S32768x1024_S64x1024x256_S32768x64x256_1_1_0_02_n_n none x wg)))))) (Host.dotGeneral dot_S32768x1024_S64x1024x256_S32768x64x256_1_1_0_02_n_n none x wu))

/-- The routed experts' rows. -/
def experts (h : FVec Ideal S32768x64x256 .f32) (a1 : FVec Ideal S32768x64 .f32) (wd : FVec Ideal S64x256x1024 .f32) : FVec Ideal S32768x1024 .f32 :=
  (Host.dotGeneral dot_S32768x64x256_S64x256x1024_S32768x1024_12_01_0_2_n_n none (mulf h (broadcastInDim S32768x64x256 ![0, 1, 2] bcast_S32768x64x1_S32768x64x256_0_1_2 (broadcastInDim S32768x64x1 ![0, 1] bcast_S32768x64_S32768x64x1_0_1 a1))) wd)

/-- The shared expert's rows. -/
def sharedRow (x : FVec Ideal S32768x1024 .f32) (sg su : FVec Ideal S1024x256 .f32) (sd : FVec Ideal S256x1024 .f32) : FVec Ideal S32768x1024 .f32 :=
  (Host.dotGeneral dot_S32768x256_S256x1024_S32768x1024_1_0_0_1_n_n none (mulf (mulf (Host.dotGeneral dot_S32768x1024_S1024x256_S32768x256_1_0_0_1_n_n none x sg) (Host.divf (broadcastInDim S32768x256 ![] bcast_S_S32768x256 (constant S_ .f32 0x3F800000#32)) (addf (broadcastInDim S32768x256 ![] bcast_S_S32768x256 (constant S_ .f32 0x3F800000#32)) (Host.exp (Host.negf (Host.dotGeneral dot_S32768x1024_S1024x256_S32768x256_1_0_0_1_n_n none x sg)))))) (Host.dotGeneral dot_S32768x1024_S1024x256_S32768x256_1_0_0_1_n_n none x su)) sd)

/-- The residual with the block's rows. -/
def residual (a2 : FVec Ideal S8x4096x1024 .f32) (a3 : FVec Ideal S8x6x1024 .f32) (p q : FVec Ideal S32768x1024 .f32) : FVec Ideal S8x4096x1024 .f32 :=
  (addf (mulf (broadcastInDim S8x4096x1024 ![] bcast_S_S8x4096x1024 (constant S_ .f32 0x3FD744FD#32)) a2) (mulf (broadcastInDim S8x4096x1024 ![0, 1, 2] bcast_S8x1x1024_S8x4096x1024_0_1_2 (addf (broadcastInDim S8x1x1024 ![] bcast_S_S8x1x1024 (constant S_ .f32 0x3F800000#32)) (broadcastInDim S8x1x1024 ![0, 2] bcast_S8x1024_S8x1x1024_0_2 (shapeCast _ (extractStridedSlice S8x1x1024 ![0, 5, 0] a3 slices_S8x6x1024_S8x1x1024_0_5_0) shapeCasts_S8x1x1024_S8x1024)))) (shapeCast _ (addf p q) shapeCasts_S32768x1024_S8x4096x1024)))

/-- Rows less their means. -/
def centred (z : FVec Ideal S8x4096x1024 .f32) : FVec Ideal S8x4096x1024 .f32 :=
  (subf z (broadcastInDim S8x4096x1024 ![0, 1, 2] bcast_S8x4096x1_S8x4096x1024_0_1_2 (Host.divf (broadcastInDim S8x4096x1 ![0, 1] bcast_S8x4096_S8x4096x1_0_1 (Host.reduceAdd z (constant S_ .f32 0x00000000#32) reducesTo_S8x4096x1024_S8x4096_d2 h_S_)) (broadcastInDim S8x4096x1 ![] bcast_S_S8x4096x1 (constant S_ .f32 0x44800000#32)))))

/-- Centred rows normalised, scaled and shifted. -/
def normed (y : FVec Ideal S8x4096x1024 .f32) (g b : FVec Ideal S1024 .f32) : FVec Ideal S32768x1024 .f32 :=
  shapeCast S32768x1024 (addf (mulf (mulf y (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf y y) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x3727C5AC#32)))))) (broadcastInDim S8x4096x1024 ![0, 1, 2] bcast_S1x1x1024_S8x4096x1024_0_1_2 (broadcastInDim S1x1x1024 ![2] bcast_S1024_S1x1x1024_2 g))) (broadcastInDim S8x4096x1024 ![0, 1, 2] bcast_S1x1x1024_S8x4096x1024_0_1_2 (broadcastInDim S1x1x1024 ![2] bcast_S1024_S1x1x1024_2 b))) shapeCasts_S8x4096x1024_S32768x1024

theorem toks_apply (a0 : FVec Ideal S8x4096x1024 .f32) (R : Fin 32768) (n : Fin 1024) :
    toks a0 (ix2 R n) = row a0 R n := by
  unfold toks row
  pointwise

theorem upw_apply (a : FVec Ideal S4x64x1024x256 .f32) (e : Fin 64) (n : Fin 1024) (f : Fin 256) :
    upw a (ix3 e n f) = a (ix4 0 e n f) := by
  unfold upw
  pointwise

theorem downw_apply (a : FVec Ideal S4x64x256x1024 .f32) (e : Fin 64) (n : Fin 1024) (f : Fin 256) :
    downw a (ix3 e f n) = a (ix4 0 e f n) := by
  unfold downw
  pointwise

theorem supw_apply (a : FVec Ideal S4x1024x256 .f32) (n : Fin 1024) (f : Fin 256) :
    supw a (ix2 n f) = a (ix3 0 n f) := by
  unfold supw
  pointwise

theorem sdownw_apply (a : FVec Ideal S4x256x1024 .f32) (n : Fin 1024) (f : Fin 256) :
    sdownw a (ix2 f n) = a (ix3 0 f n) := by
  unfold sdownw
  pointwise

theorem vecw_apply (a : FVec Ideal S4x1024 .f32) (n : Fin 1024) :
    vecw a (ix1 n) = a (ix2 0 n) := by
  unfold vecw
  pointwise

theorem feats_apply (x : FVec Ideal S32768x1024 .f32) (wg wu : FVec Ideal S64x1024x256 .f32) (R : Fin 32768) (e : Fin 64) (f : Fin 256) :
    feats x wg wu (ix3 R e f) = feat (fun n => x (ix2 R n)) (fun n f => wg (ix3 e n f)) (fun n f => wu (ix3 e n f)) f := by
  unfold feats feat act
  simp only [zero_sub]
  pointwise

theorem experts_apply (h : FVec Ideal S32768x64x256 .f32) (a1 : FVec Ideal S32768x64 .f32) (wd : FVec Ideal S64x256x1024 .f32) (R : Fin 32768) (d : Fin 1024) :
    experts h a1 wd (ix2 R d) = ∑ e : Fin 64, ∑ f : Fin 256, h (ix3 R e f) * a1 (ix2 R e) * wd (ix3 e f d) := by
  unfold experts
  pointwise

theorem sharedRow_apply (x : FVec Ideal S32768x1024 .f32) (sg su : FVec Ideal S1024x256 .f32) (sd : FVec Ideal S256x1024 .f32) (R : Fin 32768) (d : Fin 1024) :
    sharedRow x sg su sd (ix2 R d) = shared (fun n => x (ix2 R n)) (fun n f => sg (ix2 n f)) (fun n f => su (ix2 n f)) (fun f d => sd (ix2 f d)) d := by
  unfold sharedRow shared feat act
  simp only [zero_sub]
  pointwise

theorem residual_apply (a2 : FVec Ideal S8x4096x1024 .f32) (a3 : FVec Ideal S8x6x1024 .f32) (p q : FVec Ideal S32768x1024 .f32) (B : Fin 8) (s : Fin 4096) (d : Fin 1024) :
    residual a2 a3 p q (ix3 B s d) = mixed (fun d => a2 (ix3 B s d)) (fun d => p (ix2 ⟨B.val * 4096 + s.val, by omega⟩ d) + q (ix2 ⟨B.val * 4096 + s.val, by omega⟩ d)) (fun d => a3 (ix3 B 5 d)) d := by
  unfold residual mixed
  pointwise

theorem centred_apply (z : FVec Ideal S8x4096x1024 .f32) (B : Fin 8) (s : Fin 4096) (d : Fin 1024) :
    centred z (ix3 B s d) = z (ix3 B s d) - mean (fun d => z (ix3 B s d)) := by
  unfold centred mean
  pointwise

theorem normed_apply (y : FVec Ideal S8x4096x1024 .f32) (g b : FVec Ideal S1024 .f32) (R : Fin 32768) (d : Fin 1024) :
    normed y g b (ix2 R d) = row y R d * Ideal.rsqrt (mean (fun x => row y R x * row y R x) + Ideal.ofBits FTy.f32 925353388#32) * g (ix1 d) + b (ix1 d) := by
  unfold normed mean row
  pointwise

variable (m : (ℓ : Loc nD τ sig) → Buf (Elt Ideal) ℓ) (c : Dev nD)

theorem res_eq : res_main_v66 m c = normed (centred (residual (m ((c.tc : Thread nD τ).loc main_arg2)) (m ((c.tc : Thread nD τ).loc main_arg3))
        (experts (feats (toks (m ((c.tc : Thread nD τ).loc main_arg0))) (upw (m ((c.tc : Thread nD τ).loc main_arg4))) (upw (m ((c.tc : Thread nD τ).loc main_arg5)))) (m ((c.tc : Thread nD τ).loc main_arg1)) (downw (m ((c.tc : Thread nD τ).loc main_arg6))))
        (sharedRow (toks (m ((c.tc : Thread nD τ).loc main_arg0))) (supw (m ((c.tc : Thread nD τ).loc main_arg7))) (supw (m ((c.tc : Thread nD τ).loc main_arg8))) (sdownw (m ((c.tc : Thread nD τ).loc main_arg9)))))) (vecw (m ((c.tc : Thread nD τ).loc main_arg10))) (vecw (m ((c.tc : Thread nD τ).loc main_arg11))) := rfl

theorem residual_row (a2 : FVec Ideal S8x4096x1024 .f32) (a3 : FVec Ideal S8x6x1024 .f32) (p q : FVec Ideal S32768x1024 .f32) (R : Fin 32768) :
    row (residual a2 a3 p q) R = mixed (row a2 R) (fun d => p (ix2 R d) + q (ix2 R d)) (fun d => a3 (ix3 ⟨R.val / 4096, by omega⟩ 5 d)) := by
  funext d
  have e : (⟨R.val / 4096 * 4096 + R.val % 4096, by omega⟩ : Fin 32768) = R := Fin.ext (by show R.val / 4096 * 4096 + R.val % 4096 = R.val; omega)
  unfold row
  rw [residual_apply]
  simp only [e]

theorem centred_row (z : FVec Ideal S8x4096x1024 .f32) (R : Fin 32768) :
    row (centred z) R = fun d => row z R d - mean (row z R) := by
  funext d
  unfold row
  rw [centred_apply]

/-- The reference's result, row by row. -/
theorem res_row (R : Fin 32768) (d : Fin 1024) : res_main_v66 m c (ix2 R d) = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) R d := by
  rw [res_eq, normed_apply]
  simp only [centred_row, residual_row, experts_apply, feats_apply, sharedRow_apply, toks_apply, upw_apply, downw_apply, supw_apply, sdownw_apply, vecw_apply]
  rfl

end Cert.Moe.Ref

end

end
-- ==== Proof.Inproj.Cases.lean ====
/-
  What one grid point of the input projection leaves in each output block, as the printed payloads of its input blocks.
-/
module

public import proofs.«01_k».proof.Proof.Gen.Kernel3Ideal.Frame
public import Idealize.ShloMosaic.Lib.Pipeline.Value
public import Idealize.ShloMosaic.Lib.Tactic

@[expose] public section

noncomputable section

open Idealize.ShloMosaic Idealize.ShloMosaic.TcCoe Idealize.SL.Sem

namespace Cert.Inproj

open Cert.Kernel3Ideal Cert.Kernel3Ideal.Gen

variable {F : FTy → Type} [FloatOps F]

theorem off3 : (![0, 0, 0] : Fin 3 → Nat) = fun _ => 0 := funext fun a => by fin_cases a <;> rfl

/-- The modulation's shift and scale, of a block's six rows. -/
def sh (x1 : Vec F S1x6x1024 .f32) : Vec F S1x1x1024 .f32 :=
  View.ld x1 (Rect.unit ![0, 0, 0] ![1, 1, 1024] inb_S1x6x1024_S1x1x1024_0_0_0)
def sc (x1 : Vec F S1x6x1024 .f32) : Vec F S1x1x1024 .f32 :=
  View.ld x1 (Rect.unit ![0, 1, 0] ![1, 1, 1024] inb_S1x6x1024_S1x1x1024_0_1_0)

/-- The block's tokens through the weights, a token a row. -/
def proj (x0 : Vec F S1x1024x1024 .f32) (x1 : Vec F S1x6x1024 .f32) (x2 : Vec F S1x1024x2432 .bf16) : FVec F S1024x2432 .f32 :=
  k0_pay4 x0 (sh x1) (sc x1) x2

/-- The block's tokens through the transposed weights, a token a column. -/
def projT (x0 : Vec F S1x1024x1024 .f32) (x1 : Vec F S1x6x1024 .f32) (x3 : Vec F S1x1160x1024 .bf16) : FVec F S1160x1024 .f32 :=
  k0_pay5 x0 (sh x1) (sc x1) x3

/-- The queries carried into the latent space. -/
theorem out9 (c : Dev nD) (i : grid0.Coords) (a2 : Memref sig .tc .vmem S1x1024x1024 .f32) (h2 : a2.IsWhole) (a3 : Memref sig .tc .vmem S1x6x1024 .f32) (h3 : a3.IsWhole) (a4 : Memref sig .tc .vmem S1x1024x2432 .bf16) (h4 : a4.IsWhole) (a5 : Memref sig .tc .vmem S1x1160x1024 .bf16) (h5 : a5.IsWhole) (a6 : Memref sig .tc .vmem S1x1024x512 .bf16) (h6 : a6.IsWhole) (a7 : Memref sig .tc .vmem S1x1x128 .f32) (h7 : a7.IsWhole) (a8 : Memref sig .tc .vmem S1x128x1024 .f32) (h8 : a8.IsWhole) (a9 : Memref sig .tc .vmem S1x1x512 .f32) (h9 : a9.IsWhole) (a10 : Memref sig .tc .vmem S1x1x512 .f32) (h10 : a10.IsWhole) (a11 : Memref sig .tc .vmem S1x1024x1024 .bf16) (h11 : a11.IsWhole) (a12 : Memref sig .tc .vmem S1x1024x128 .bf16) (h12 : a12.IsWhole) (a13 : Memref sig .tc .vmem S1x144x1024 .bf16) (h13 : a13.IsWhole) (a14 : Memref sig .tc .vmem S1x512x1024 .bf16) (h14 : a14.IsWhole) (a15 : Memref sig .tc .vmem S1x1024x128 .bf16) (h15 : a15.IsWhole) (a16 : Memref sig .tc .vmem S1x1024x128 .bf16) (h16 : a16.IsWhole) (a17 : Memref sig .tc .vmem S1x8x1024 .f32) (h17 : a17.IsWhole) (a18 : Memref sig .tc .vmem S1x1024x512 .f32) (h18 : a18.IsWhole) (a19 : Memref sig .tc .vmem S1x1024x512 .f32) (h19 : a19.IsWhole) (a20 : Memref sig .tc .vmem S1x1024x512 .f32) (h20 : a20.IsWhole) (a21 : Memref sig .tc .vmem S1x1024x512 .bf16) (h21 : a21.IsWhole) (a22 : Memref sig .tc .vmem S1x1024x512 .f32) (h22 : a22.IsWhole)
    (x0 : Vec F S1x1024x1024 .f32) (x1 : Vec F S1x6x1024 .f32) (x2 : Vec F S1x1024x2432 .bf16) (x3 : Vec F S1x1160x1024 .bf16) (x4 : Vec F S1x1024x512 .bf16) (x5 : Vec F S1x1x128 .f32) (x6 : Vec F S1x128x1024 .f32) (x7 : Vec F S1x1x512 .f32) (x8 : Vec F S1x1x512 .f32) :
    out0_A_9 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8
      = k0_pay6 x0 (sh x1) (sc x1) x3 x4 := by
  unfold out0_A_9
  try unfold proj
  try unfold projT
  rw [View.read_writes_eq_canon _ _ _ (cover0_A_9 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8)]
  unfold kernelRun0_A sh sc
  dsimp only
  sl_unfold_words
  rw [View.canon_unit_zero off3]
  simp only [View.readAt_eq_ld, h2.read_unread, h3.read_unread, h4.read_unread, h5.read_unread, h6.read_unread, h7.read_unread, h8.read_unread, h9.read_unread, h10.read_unread, View.ld_unit_zero (S := S1x1024x1024) off3, View.ld_unit_zero (S := S1x1024x2432) off3, View.ld_unit_zero (S := S1x1160x1024) off3, View.ld_unit_zero (S := S1x1024x512) off3, View.ld_unit_zero (S := S1x1x128) off3, View.ld_unit_zero (S := S1x128x1024) off3, View.ld_unit_zero (S := S1x1x512) off3]

/-- The normalised latent rows. -/
theorem out10 (c : Dev nD) (i : grid0.Coords) (a2 : Memref sig .tc .vmem S1x1024x1024 .f32) (h2 : a2.IsWhole) (a3 : Memref sig .tc .vmem S1x6x1024 .f32) (h3 : a3.IsWhole) (a4 : Memref sig .tc .vmem S1x1024x2432 .bf16) (h4 : a4.IsWhole) (a5 : Memref sig .tc .vmem S1x1160x1024 .bf16) (h5 : a5.IsWhole) (a6 : Memref sig .tc .vmem S1x1024x512 .bf16) (h6 : a6.IsWhole) (a7 : Memref sig .tc .vmem S1x1x128 .f32) (h7 : a7.IsWhole) (a8 : Memref sig .tc .vmem S1x128x1024 .f32) (h8 : a8.IsWhole) (a9 : Memref sig .tc .vmem S1x1x512 .f32) (h9 : a9.IsWhole) (a10 : Memref sig .tc .vmem S1x1x512 .f32) (h10 : a10.IsWhole) (a11 : Memref sig .tc .vmem S1x1024x1024 .bf16) (h11 : a11.IsWhole) (a12 : Memref sig .tc .vmem S1x1024x128 .bf16) (h12 : a12.IsWhole) (a13 : Memref sig .tc .vmem S1x144x1024 .bf16) (h13 : a13.IsWhole) (a14 : Memref sig .tc .vmem S1x512x1024 .bf16) (h14 : a14.IsWhole) (a15 : Memref sig .tc .vmem S1x1024x128 .bf16) (h15 : a15.IsWhole) (a16 : Memref sig .tc .vmem S1x1024x128 .bf16) (h16 : a16.IsWhole) (a17 : Memref sig .tc .vmem S1x8x1024 .f32) (h17 : a17.IsWhole) (a18 : Memref sig .tc .vmem S1x1024x512 .f32) (h18 : a18.IsWhole) (a19 : Memref sig .tc .vmem S1x1024x512 .f32) (h19 : a19.IsWhole) (a20 : Memref sig .tc .vmem S1x1024x512 .f32) (h20 : a20.IsWhole) (a21 : Memref sig .tc .vmem S1x1024x512 .bf16) (h21 : a21.IsWhole) (a22 : Memref sig .tc .vmem S1x1024x512 .f32) (h22 : a22.IsWhole)
    (x0 : Vec F S1x1024x1024 .f32) (x1 : Vec F S1x6x1024 .f32) (x2 : Vec F S1x1024x2432 .bf16) (x3 : Vec F S1x1160x1024 .bf16) (x4 : Vec F S1x1024x512 .bf16) (x5 : Vec F S1x1x128 .f32) (x6 : Vec F S1x128x1024 .f32) (x7 : Vec F S1x1x512 .f32) (x8 : Vec F S1x1x512 .f32) :
    out0_A_10 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8
      = k0_pay9 (k0_pay7 x0 (sh x1) (sc x1) x2) (k0_pay8 x0 (sh x1) (sc x1) x2) x5 := by
  unfold out0_A_10
  try unfold proj
  try unfold projT
  rw [View.read_writes_eq_canon _ _ _ (cover0_A_10 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8)]
  unfold kernelRun0_A sh sc
  dsimp only
  sl_unfold_words
  rw [View.canon_unit_zero off3]
  simp only [View.readAt_eq_ld, h2.read_unread, h3.read_unread, h4.read_unread, h5.read_unread, h6.read_unread, h7.read_unread, h8.read_unread, h9.read_unread, h10.read_unread, View.ld_unit_zero (S := S1x1024x1024) off3, View.ld_unit_zero (S := S1x1024x2432) off3, View.ld_unit_zero (S := S1x1160x1024) off3, View.ld_unit_zero (S := S1x1024x512) off3, View.ld_unit_zero (S := S1x1x128) off3, View.ld_unit_zero (S := S1x128x1024) off3, View.ld_unit_zero (S := S1x1x512) off3]

/-- The index queries. -/
theorem out12 (c : Dev nD) (i : grid0.Coords) (a2 : Memref sig .tc .vmem S1x1024x1024 .f32) (h2 : a2.IsWhole) (a3 : Memref sig .tc .vmem S1x6x1024 .f32) (h3 : a3.IsWhole) (a4 : Memref sig .tc .vmem S1x1024x2432 .bf16) (h4 : a4.IsWhole) (a5 : Memref sig .tc .vmem S1x1160x1024 .bf16) (h5 : a5.IsWhole) (a6 : Memref sig .tc .vmem S1x1024x512 .bf16) (h6 : a6.IsWhole) (a7 : Memref sig .tc .vmem S1x1x128 .f32) (h7 : a7.IsWhole) (a8 : Memref sig .tc .vmem S1x128x1024 .f32) (h8 : a8.IsWhole) (a9 : Memref sig .tc .vmem S1x1x512 .f32) (h9 : a9.IsWhole) (a10 : Memref sig .tc .vmem S1x1x512 .f32) (h10 : a10.IsWhole) (a11 : Memref sig .tc .vmem S1x1024x1024 .bf16) (h11 : a11.IsWhole) (a12 : Memref sig .tc .vmem S1x1024x128 .bf16) (h12 : a12.IsWhole) (a13 : Memref sig .tc .vmem S1x144x1024 .bf16) (h13 : a13.IsWhole) (a14 : Memref sig .tc .vmem S1x512x1024 .bf16) (h14 : a14.IsWhole) (a15 : Memref sig .tc .vmem S1x1024x128 .bf16) (h15 : a15.IsWhole) (a16 : Memref sig .tc .vmem S1x1024x128 .bf16) (h16 : a16.IsWhole) (a17 : Memref sig .tc .vmem S1x8x1024 .f32) (h17 : a17.IsWhole) (a18 : Memref sig .tc .vmem S1x1024x512 .f32) (h18 : a18.IsWhole) (a19 : Memref sig .tc .vmem S1x1024x512 .f32) (h19 : a19.IsWhole) (a20 : Memref sig .tc .vmem S1x1024x512 .f32) (h20 : a20.IsWhole) (a21 : Memref sig .tc .vmem S1x1024x512 .bf16) (h21 : a21.IsWhole) (a22 : Memref sig .tc .vmem S1x1024x512 .f32) (h22 : a22.IsWhole)
    (x0 : Vec F S1x1024x1024 .f32) (x1 : Vec F S1x6x1024 .f32) (x2 : Vec F S1x1024x2432 .bf16) (x3 : Vec F S1x1160x1024 .bf16) (x4 : Vec F S1x1024x512 .bf16) (x5 : Vec F S1x1x128 .f32) (x6 : Vec F S1x128x1024 .f32) (x7 : Vec F S1x1x512 .f32) (x8 : Vec F S1x1x512 .f32) :
    out0_A_12 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8
      = k0_pay13 (projT x0 x1 x3) := by
  unfold out0_A_12
  try unfold proj
  try unfold projT
  rw [View.read_writes_eq_canon _ _ _ (cover0_A_12 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8)]
  unfold kernelRun0_A sh sc
  dsimp only
  sl_unfold_words
  rw [View.canon_unit_zero off3]
  simp only [View.readAt_eq_ld, h2.read_unread, h3.read_unread, h4.read_unread, h5.read_unread, h6.read_unread, h7.read_unread, h8.read_unread, h9.read_unread, h10.read_unread, View.ld_unit_zero (S := S1x1024x1024) off3, View.ld_unit_zero (S := S1x1024x2432) off3, View.ld_unit_zero (S := S1x1160x1024) off3, View.ld_unit_zero (S := S1x1024x512) off3, View.ld_unit_zero (S := S1x1x128) off3, View.ld_unit_zero (S := S1x128x1024) off3, View.ld_unit_zero (S := S1x1x512) off3]

/-- The index keys, zeros after. -/
theorem out13 (c : Dev nD) (i : grid0.Coords) (a2 : Memref sig .tc .vmem S1x1024x1024 .f32) (h2 : a2.IsWhole) (a3 : Memref sig .tc .vmem S1x6x1024 .f32) (h3 : a3.IsWhole) (a4 : Memref sig .tc .vmem S1x1024x2432 .bf16) (h4 : a4.IsWhole) (a5 : Memref sig .tc .vmem S1x1160x1024 .bf16) (h5 : a5.IsWhole) (a6 : Memref sig .tc .vmem S1x1024x512 .bf16) (h6 : a6.IsWhole) (a7 : Memref sig .tc .vmem S1x1x128 .f32) (h7 : a7.IsWhole) (a8 : Memref sig .tc .vmem S1x128x1024 .f32) (h8 : a8.IsWhole) (a9 : Memref sig .tc .vmem S1x1x512 .f32) (h9 : a9.IsWhole) (a10 : Memref sig .tc .vmem S1x1x512 .f32) (h10 : a10.IsWhole) (a11 : Memref sig .tc .vmem S1x1024x1024 .bf16) (h11 : a11.IsWhole) (a12 : Memref sig .tc .vmem S1x1024x128 .bf16) (h12 : a12.IsWhole) (a13 : Memref sig .tc .vmem S1x144x1024 .bf16) (h13 : a13.IsWhole) (a14 : Memref sig .tc .vmem S1x512x1024 .bf16) (h14 : a14.IsWhole) (a15 : Memref sig .tc .vmem S1x1024x128 .bf16) (h15 : a15.IsWhole) (a16 : Memref sig .tc .vmem S1x1024x128 .bf16) (h16 : a16.IsWhole) (a17 : Memref sig .tc .vmem S1x8x1024 .f32) (h17 : a17.IsWhole) (a18 : Memref sig .tc .vmem S1x1024x512 .f32) (h18 : a18.IsWhole) (a19 : Memref sig .tc .vmem S1x1024x512 .f32) (h19 : a19.IsWhole) (a20 : Memref sig .tc .vmem S1x1024x512 .f32) (h20 : a20.IsWhole) (a21 : Memref sig .tc .vmem S1x1024x512 .bf16) (h21 : a21.IsWhole) (a22 : Memref sig .tc .vmem S1x1024x512 .f32) (h22 : a22.IsWhole)
    (x0 : Vec F S1x1024x1024 .f32) (x1 : Vec F S1x6x1024 .f32) (x2 : Vec F S1x1024x2432 .bf16) (x3 : Vec F S1x1160x1024 .bf16) (x4 : Vec F S1x1024x512 .bf16) (x5 : Vec F S1x1x128 .f32) (x6 : Vec F S1x128x1024 .f32) (x7 : Vec F S1x1x512 .f32) (x8 : Vec F S1x1x512 .f32) :
    out0_A_13 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8
      = k0_pay14 (proj x0 x1 x2) := by
  unfold out0_A_13
  try unfold proj
  try unfold projT
  rw [View.read_writes_eq_canon _ _ _ (cover0_A_13 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8)]
  unfold kernelRun0_A sh sc
  dsimp only
  sl_unfold_words
  rw [View.canon_unit_zero off3]
  simp only [View.readAt_eq_ld, h2.read_unread, h3.read_unread, h4.read_unread, h5.read_unread, h6.read_unread, h7.read_unread, h8.read_unread, h9.read_unread, h10.read_unread, View.ld_unit_zero (S := S1x1024x1024) off3, View.ld_unit_zero (S := S1x1024x2432) off3, View.ld_unit_zero (S := S1x1160x1024) off3, View.ld_unit_zero (S := S1x1024x512) off3, View.ld_unit_zero (S := S1x1x128) off3, View.ld_unit_zero (S := S1x128x1024) off3, View.ld_unit_zero (S := S1x1x512) off3]

/-- The index keys, zeros before. -/
theorem out14 (c : Dev nD) (i : grid0.Coords) (a2 : Memref sig .tc .vmem S1x1024x1024 .f32) (h2 : a2.IsWhole) (a3 : Memref sig .tc .vmem S1x6x1024 .f32) (h3 : a3.IsWhole) (a4 : Memref sig .tc .vmem S1x1024x2432 .bf16) (h4 : a4.IsWhole) (a5 : Memref sig .tc .vmem S1x1160x1024 .bf16) (h5 : a5.IsWhole) (a6 : Memref sig .tc .vmem S1x1024x512 .bf16) (h6 : a6.IsWhole) (a7 : Memref sig .tc .vmem S1x1x128 .f32) (h7 : a7.IsWhole) (a8 : Memref sig .tc .vmem S1x128x1024 .f32) (h8 : a8.IsWhole) (a9 : Memref sig .tc .vmem S1x1x512 .f32) (h9 : a9.IsWhole) (a10 : Memref sig .tc .vmem S1x1x512 .f32) (h10 : a10.IsWhole) (a11 : Memref sig .tc .vmem S1x1024x1024 .bf16) (h11 : a11.IsWhole) (a12 : Memref sig .tc .vmem S1x1024x128 .bf16) (h12 : a12.IsWhole) (a13 : Memref sig .tc .vmem S1x144x1024 .bf16) (h13 : a13.IsWhole) (a14 : Memref sig .tc .vmem S1x512x1024 .bf16) (h14 : a14.IsWhole) (a15 : Memref sig .tc .vmem S1x1024x128 .bf16) (h15 : a15.IsWhole) (a16 : Memref sig .tc .vmem S1x1024x128 .bf16) (h16 : a16.IsWhole) (a17 : Memref sig .tc .vmem S1x8x1024 .f32) (h17 : a17.IsWhole) (a18 : Memref sig .tc .vmem S1x1024x512 .f32) (h18 : a18.IsWhole) (a19 : Memref sig .tc .vmem S1x1024x512 .f32) (h19 : a19.IsWhole) (a20 : Memref sig .tc .vmem S1x1024x512 .f32) (h20 : a20.IsWhole) (a21 : Memref sig .tc .vmem S1x1024x512 .bf16) (h21 : a21.IsWhole) (a22 : Memref sig .tc .vmem S1x1024x512 .f32) (h22 : a22.IsWhole)
    (x0 : Vec F S1x1024x1024 .f32) (x1 : Vec F S1x6x1024 .f32) (x2 : Vec F S1x1024x2432 .bf16) (x3 : Vec F S1x1160x1024 .bf16) (x4 : Vec F S1x1024x512 .bf16) (x5 : Vec F S1x1x128 .f32) (x6 : Vec F S1x128x1024 .f32) (x7 : Vec F S1x1x512 .f32) (x8 : Vec F S1x1x512 .f32) :
    out0_A_14 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8
      = k0_pay15 (proj x0 x1 x2) := by
  unfold out0_A_14
  try unfold proj
  try unfold projT
  rw [View.read_writes_eq_canon _ _ _ (cover0_A_14 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8)]
  unfold kernelRun0_A sh sc
  dsimp only
  sl_unfold_words
  rw [View.canon_unit_zero off3]
  simp only [View.readAt_eq_ld, h2.read_unread, h3.read_unread, h4.read_unread, h5.read_unread, h6.read_unread, h7.read_unread, h8.read_unread, h9.read_unread, h10.read_unread, View.ld_unit_zero (S := S1x1024x1024) off3, View.ld_unit_zero (S := S1x1024x2432) off3, View.ld_unit_zero (S := S1x1160x1024) off3, View.ld_unit_zero (S := S1x1024x512) off3, View.ld_unit_zero (S := S1x1x128) off3, View.ld_unit_zero (S := S1x128x1024) off3, View.ld_unit_zero (S := S1x1x512) off3]

/-- The index weights. -/
theorem out15 (c : Dev nD) (i : grid0.Coords) (a2 : Memref sig .tc .vmem S1x1024x1024 .f32) (h2 : a2.IsWhole) (a3 : Memref sig .tc .vmem S1x6x1024 .f32) (h3 : a3.IsWhole) (a4 : Memref sig .tc .vmem S1x1024x2432 .bf16) (h4 : a4.IsWhole) (a5 : Memref sig .tc .vmem S1x1160x1024 .bf16) (h5 : a5.IsWhole) (a6 : Memref sig .tc .vmem S1x1024x512 .bf16) (h6 : a6.IsWhole) (a7 : Memref sig .tc .vmem S1x1x128 .f32) (h7 : a7.IsWhole) (a8 : Memref sig .tc .vmem S1x128x1024 .f32) (h8 : a8.IsWhole) (a9 : Memref sig .tc .vmem S1x1x512 .f32) (h9 : a9.IsWhole) (a10 : Memref sig .tc .vmem S1x1x512 .f32) (h10 : a10.IsWhole) (a11 : Memref sig .tc .vmem S1x1024x1024 .bf16) (h11 : a11.IsWhole) (a12 : Memref sig .tc .vmem S1x1024x128 .bf16) (h12 : a12.IsWhole) (a13 : Memref sig .tc .vmem S1x144x1024 .bf16) (h13 : a13.IsWhole) (a14 : Memref sig .tc .vmem S1x512x1024 .bf16) (h14 : a14.IsWhole) (a15 : Memref sig .tc .vmem S1x1024x128 .bf16) (h15 : a15.IsWhole) (a16 : Memref sig .tc .vmem S1x1024x128 .bf16) (h16 : a16.IsWhole) (a17 : Memref sig .tc .vmem S1x8x1024 .f32) (h17 : a17.IsWhole) (a18 : Memref sig .tc .vmem S1x1024x512 .f32) (h18 : a18.IsWhole) (a19 : Memref sig .tc .vmem S1x1024x512 .f32) (h19 : a19.IsWhole) (a20 : Memref sig .tc .vmem S1x1024x512 .f32) (h20 : a20.IsWhole) (a21 : Memref sig .tc .vmem S1x1024x512 .bf16) (h21 : a21.IsWhole) (a22 : Memref sig .tc .vmem S1x1024x512 .f32) (h22 : a22.IsWhole)
    (x0 : Vec F S1x1024x1024 .f32) (x1 : Vec F S1x6x1024 .f32) (x2 : Vec F S1x1024x2432 .bf16) (x3 : Vec F S1x1160x1024 .bf16) (x4 : Vec F S1x1024x512 .bf16) (x5 : Vec F S1x1x128 .f32) (x6 : Vec F S1x128x1024 .f32) (x7 : Vec F S1x1x512 .f32) (x8 : Vec F S1x1x512 .f32) :
    out0_A_15 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8
      = k0_pay16 (projT x0 x1 x3) := by
  unfold out0_A_15
  try unfold proj
  try unfold projT
  rw [View.read_writes_eq_canon _ _ _ (cover0_A_15 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8)]
  unfold kernelRun0_A sh sc
  dsimp only
  sl_unfold_words
  rw [View.canon_unit_zero off3]
  simp only [View.readAt_eq_ld, h2.read_unread, h3.read_unread, h4.read_unread, h5.read_unread, h6.read_unread, h7.read_unread, h8.read_unread, h9.read_unread, h10.read_unread, View.ld_unit_zero (S := S1x1024x1024) off3, View.ld_unit_zero (S := S1x1024x2432) off3, View.ld_unit_zero (S := S1x1160x1024) off3, View.ld_unit_zero (S := S1x1024x512) off3, View.ld_unit_zero (S := S1x1x128) off3, View.ld_unit_zero (S := S1x128x1024) off3, View.ld_unit_zero (S := S1x1x512) off3]

/-- The recurrence's queries. -/
theorem out16 (c : Dev nD) (i : grid0.Coords) (a2 : Memref sig .tc .vmem S1x1024x1024 .f32) (h2 : a2.IsWhole) (a3 : Memref sig .tc .vmem S1x6x1024 .f32) (h3 : a3.IsWhole) (a4 : Memref sig .tc .vmem S1x1024x2432 .bf16) (h4 : a4.IsWhole) (a5 : Memref sig .tc .vmem S1x1160x1024 .bf16) (h5 : a5.IsWhole) (a6 : Memref sig .tc .vmem S1x1024x512 .bf16) (h6 : a6.IsWhole) (a7 : Memref sig .tc .vmem S1x1x128 .f32) (h7 : a7.IsWhole) (a8 : Memref sig .tc .vmem S1x128x1024 .f32) (h8 : a8.IsWhole) (a9 : Memref sig .tc .vmem S1x1x512 .f32) (h9 : a9.IsWhole) (a10 : Memref sig .tc .vmem S1x1x512 .f32) (h10 : a10.IsWhole) (a11 : Memref sig .tc .vmem S1x1024x1024 .bf16) (h11 : a11.IsWhole) (a12 : Memref sig .tc .vmem S1x1024x128 .bf16) (h12 : a12.IsWhole) (a13 : Memref sig .tc .vmem S1x144x1024 .bf16) (h13 : a13.IsWhole) (a14 : Memref sig .tc .vmem S1x512x1024 .bf16) (h14 : a14.IsWhole) (a15 : Memref sig .tc .vmem S1x1024x128 .bf16) (h15 : a15.IsWhole) (a16 : Memref sig .tc .vmem S1x1024x128 .bf16) (h16 : a16.IsWhole) (a17 : Memref sig .tc .vmem S1x8x1024 .f32) (h17 : a17.IsWhole) (a18 : Memref sig .tc .vmem S1x1024x512 .f32) (h18 : a18.IsWhole) (a19 : Memref sig .tc .vmem S1x1024x512 .f32) (h19 : a19.IsWhole) (a20 : Memref sig .tc .vmem S1x1024x512 .f32) (h20 : a20.IsWhole) (a21 : Memref sig .tc .vmem S1x1024x512 .bf16) (h21 : a21.IsWhole) (a22 : Memref sig .tc .vmem S1x1024x512 .f32) (h22 : a22.IsWhole)
    (x0 : Vec F S1x1024x1024 .f32) (x1 : Vec F S1x6x1024 .f32) (x2 : Vec F S1x1024x2432 .bf16) (x3 : Vec F S1x1160x1024 .bf16) (x4 : Vec F S1x1024x512 .bf16) (x5 : Vec F S1x1x128 .f32) (x6 : Vec F S1x128x1024 .f32) (x7 : Vec F S1x1x512 .f32) (x8 : Vec F S1x1x512 .f32) :
    out0_A_16 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8
      = k0_pay17 (proj x0 x1 x2) := by
  unfold out0_A_16
  try unfold proj
  try unfold projT
  rw [View.read_writes_eq_canon _ _ _ (cover0_A_16 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8)]
  unfold kernelRun0_A sh sc
  dsimp only
  sl_unfold_words
  rw [View.canon_unit_zero off3]
  simp only [View.readAt_eq_ld, h2.read_unread, h3.read_unread, h4.read_unread, h5.read_unread, h6.read_unread, h7.read_unread, h8.read_unread, h9.read_unread, h10.read_unread, View.ld_unit_zero (S := S1x1024x1024) off3, View.ld_unit_zero (S := S1x1024x2432) off3, View.ld_unit_zero (S := S1x1160x1024) off3, View.ld_unit_zero (S := S1x1024x512) off3, View.ld_unit_zero (S := S1x1x128) off3, View.ld_unit_zero (S := S1x128x1024) off3, View.ld_unit_zero (S := S1x1x512) off3]

/-- The recurrence's keys. -/
theorem out17 (c : Dev nD) (i : grid0.Coords) (a2 : Memref sig .tc .vmem S1x1024x1024 .f32) (h2 : a2.IsWhole) (a3 : Memref sig .tc .vmem S1x6x1024 .f32) (h3 : a3.IsWhole) (a4 : Memref sig .tc .vmem S1x1024x2432 .bf16) (h4 : a4.IsWhole) (a5 : Memref sig .tc .vmem S1x1160x1024 .bf16) (h5 : a5.IsWhole) (a6 : Memref sig .tc .vmem S1x1024x512 .bf16) (h6 : a6.IsWhole) (a7 : Memref sig .tc .vmem S1x1x128 .f32) (h7 : a7.IsWhole) (a8 : Memref sig .tc .vmem S1x128x1024 .f32) (h8 : a8.IsWhole) (a9 : Memref sig .tc .vmem S1x1x512 .f32) (h9 : a9.IsWhole) (a10 : Memref sig .tc .vmem S1x1x512 .f32) (h10 : a10.IsWhole) (a11 : Memref sig .tc .vmem S1x1024x1024 .bf16) (h11 : a11.IsWhole) (a12 : Memref sig .tc .vmem S1x1024x128 .bf16) (h12 : a12.IsWhole) (a13 : Memref sig .tc .vmem S1x144x1024 .bf16) (h13 : a13.IsWhole) (a14 : Memref sig .tc .vmem S1x512x1024 .bf16) (h14 : a14.IsWhole) (a15 : Memref sig .tc .vmem S1x1024x128 .bf16) (h15 : a15.IsWhole) (a16 : Memref sig .tc .vmem S1x1024x128 .bf16) (h16 : a16.IsWhole) (a17 : Memref sig .tc .vmem S1x8x1024 .f32) (h17 : a17.IsWhole) (a18 : Memref sig .tc .vmem S1x1024x512 .f32) (h18 : a18.IsWhole) (a19 : Memref sig .tc .vmem S1x1024x512 .f32) (h19 : a19.IsWhole) (a20 : Memref sig .tc .vmem S1x1024x512 .f32) (h20 : a20.IsWhole) (a21 : Memref sig .tc .vmem S1x1024x512 .bf16) (h21 : a21.IsWhole) (a22 : Memref sig .tc .vmem S1x1024x512 .f32) (h22 : a22.IsWhole)
    (x0 : Vec F S1x1024x1024 .f32) (x1 : Vec F S1x6x1024 .f32) (x2 : Vec F S1x1024x2432 .bf16) (x3 : Vec F S1x1160x1024 .bf16) (x4 : Vec F S1x1024x512 .bf16) (x5 : Vec F S1x1x128 .f32) (x6 : Vec F S1x128x1024 .f32) (x7 : Vec F S1x1x512 .f32) (x8 : Vec F S1x1x512 .f32) :
    out0_A_17 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8
      = k0_pay21 (k0_pay18 (proj x0 x1 x2)) x7 x8 := by
  unfold out0_A_17
  try unfold proj
  try unfold projT
  rw [View.read_writes_eq_canon _ _ _ (cover0_A_17 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8)]
  unfold kernelRun0_A sh sc
  dsimp only
  sl_unfold_words
  rw [View.canon_unit_zero off3]
  simp only [View.readAt_eq_ld, h2.read_unread, h3.read_unread, h4.read_unread, h5.read_unread, h6.read_unread, h7.read_unread, h8.read_unread, h9.read_unread, h10.read_unread, View.ld_unit_zero (S := S1x1024x1024) off3, View.ld_unit_zero (S := S1x1024x2432) off3, View.ld_unit_zero (S := S1x1160x1024) off3, View.ld_unit_zero (S := S1x1024x512) off3, View.ld_unit_zero (S := S1x1x128) off3, View.ld_unit_zero (S := S1x128x1024) off3, View.ld_unit_zero (S := S1x1x512) off3]

/-- The recurrence's log gates. -/
theorem out18 (c : Dev nD) (i : grid0.Coords) (a2 : Memref sig .tc .vmem S1x1024x1024 .f32) (h2 : a2.IsWhole) (a3 : Memref sig .tc .vmem S1x6x1024 .f32) (h3 : a3.IsWhole) (a4 : Memref sig .tc .vmem S1x1024x2432 .bf16) (h4 : a4.IsWhole) (a5 : Memref sig .tc .vmem S1x1160x1024 .bf16) (h5 : a5.IsWhole) (a6 : Memref sig .tc .vmem S1x1024x512 .bf16) (h6 : a6.IsWhole) (a7 : Memref sig .tc .vmem S1x1x128 .f32) (h7 : a7.IsWhole) (a8 : Memref sig .tc .vmem S1x128x1024 .f32) (h8 : a8.IsWhole) (a9 : Memref sig .tc .vmem S1x1x512 .f32) (h9 : a9.IsWhole) (a10 : Memref sig .tc .vmem S1x1x512 .f32) (h10 : a10.IsWhole) (a11 : Memref sig .tc .vmem S1x1024x1024 .bf16) (h11 : a11.IsWhole) (a12 : Memref sig .tc .vmem S1x1024x128 .bf16) (h12 : a12.IsWhole) (a13 : Memref sig .tc .vmem S1x144x1024 .bf16) (h13 : a13.IsWhole) (a14 : Memref sig .tc .vmem S1x512x1024 .bf16) (h14 : a14.IsWhole) (a15 : Memref sig .tc .vmem S1x1024x128 .bf16) (h15 : a15.IsWhole) (a16 : Memref sig .tc .vmem S1x1024x128 .bf16) (h16 : a16.IsWhole) (a17 : Memref sig .tc .vmem S1x8x1024 .f32) (h17 : a17.IsWhole) (a18 : Memref sig .tc .vmem S1x1024x512 .f32) (h18 : a18.IsWhole) (a19 : Memref sig .tc .vmem S1x1024x512 .f32) (h19 : a19.IsWhole) (a20 : Memref sig .tc .vmem S1x1024x512 .f32) (h20 : a20.IsWhole) (a21 : Memref sig .tc .vmem S1x1024x512 .bf16) (h21 : a21.IsWhole) (a22 : Memref sig .tc .vmem S1x1024x512 .f32) (h22 : a22.IsWhole)
    (x0 : Vec F S1x1024x1024 .f32) (x1 : Vec F S1x6x1024 .f32) (x2 : Vec F S1x1024x2432 .bf16) (x3 : Vec F S1x1160x1024 .bf16) (x4 : Vec F S1x1024x512 .bf16) (x5 : Vec F S1x1x128 .f32) (x6 : Vec F S1x128x1024 .f32) (x7 : Vec F S1x1x512 .f32) (x8 : Vec F S1x1x512 .f32) :
    out0_A_18 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8
      = k0_pay20 (k0_pay18 (proj x0 x1 x2)) x7 x8 := by
  unfold out0_A_18
  try unfold proj
  try unfold projT
  rw [View.read_writes_eq_canon _ _ _ (cover0_A_18 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8)]
  unfold kernelRun0_A sh sc
  dsimp only
  sl_unfold_words
  rw [View.canon_unit_zero off3]
  simp only [View.readAt_eq_ld, h2.read_unread, h3.read_unread, h4.read_unread, h5.read_unread, h6.read_unread, h7.read_unread, h8.read_unread, h9.read_unread, h10.read_unread, View.ld_unit_zero (S := S1x1024x1024) off3, View.ld_unit_zero (S := S1x1024x2432) off3, View.ld_unit_zero (S := S1x1160x1024) off3, View.ld_unit_zero (S := S1x1024x512) off3, View.ld_unit_zero (S := S1x1x128) off3, View.ld_unit_zero (S := S1x128x1024) off3, View.ld_unit_zero (S := S1x1x512) off3]

/-- The recurrence's values. -/
theorem out19 (c : Dev nD) (i : grid0.Coords) (a2 : Memref sig .tc .vmem S1x1024x1024 .f32) (h2 : a2.IsWhole) (a3 : Memref sig .tc .vmem S1x6x1024 .f32) (h3 : a3.IsWhole) (a4 : Memref sig .tc .vmem S1x1024x2432 .bf16) (h4 : a4.IsWhole) (a5 : Memref sig .tc .vmem S1x1160x1024 .bf16) (h5 : a5.IsWhole) (a6 : Memref sig .tc .vmem S1x1024x512 .bf16) (h6 : a6.IsWhole) (a7 : Memref sig .tc .vmem S1x1x128 .f32) (h7 : a7.IsWhole) (a8 : Memref sig .tc .vmem S1x128x1024 .f32) (h8 : a8.IsWhole) (a9 : Memref sig .tc .vmem S1x1x512 .f32) (h9 : a9.IsWhole) (a10 : Memref sig .tc .vmem S1x1x512 .f32) (h10 : a10.IsWhole) (a11 : Memref sig .tc .vmem S1x1024x1024 .bf16) (h11 : a11.IsWhole) (a12 : Memref sig .tc .vmem S1x1024x128 .bf16) (h12 : a12.IsWhole) (a13 : Memref sig .tc .vmem S1x144x1024 .bf16) (h13 : a13.IsWhole) (a14 : Memref sig .tc .vmem S1x512x1024 .bf16) (h14 : a14.IsWhole) (a15 : Memref sig .tc .vmem S1x1024x128 .bf16) (h15 : a15.IsWhole) (a16 : Memref sig .tc .vmem S1x1024x128 .bf16) (h16 : a16.IsWhole) (a17 : Memref sig .tc .vmem S1x8x1024 .f32) (h17 : a17.IsWhole) (a18 : Memref sig .tc .vmem S1x1024x512 .f32) (h18 : a18.IsWhole) (a19 : Memref sig .tc .vmem S1x1024x512 .f32) (h19 : a19.IsWhole) (a20 : Memref sig .tc .vmem S1x1024x512 .f32) (h20 : a20.IsWhole) (a21 : Memref sig .tc .vmem S1x1024x512 .bf16) (h21 : a21.IsWhole) (a22 : Memref sig .tc .vmem S1x1024x512 .f32) (h22 : a22.IsWhole)
    (x0 : Vec F S1x1024x1024 .f32) (x1 : Vec F S1x6x1024 .f32) (x2 : Vec F S1x1024x2432 .bf16) (x3 : Vec F S1x1160x1024 .bf16) (x4 : Vec F S1x1024x512 .bf16) (x5 : Vec F S1x1x128 .f32) (x6 : Vec F S1x128x1024 .f32) (x7 : Vec F S1x1x512 .f32) (x8 : Vec F S1x1x512 .f32) :
    out0_A_19 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8
      = k0_pay2 (proj x0 x1 x2) := by
  unfold out0_A_19
  try unfold proj
  try unfold projT
  rw [View.read_writes_eq_canon _ _ _ (cover0_A_19 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8)]
  unfold kernelRun0_A sh sc
  dsimp only
  sl_unfold_words
  rw [View.canon_unit_zero off3]
  simp only [View.readAt_eq_ld, h2.read_unread, h3.read_unread, h4.read_unread, h5.read_unread, h6.read_unread, h7.read_unread, h8.read_unread, h9.read_unread, h10.read_unread, View.ld_unit_zero (S := S1x1024x1024) off3, View.ld_unit_zero (S := S1x1024x2432) off3, View.ld_unit_zero (S := S1x1160x1024) off3, View.ld_unit_zero (S := S1x1024x512) off3, View.ld_unit_zero (S := S1x1x128) off3, View.ld_unit_zero (S := S1x128x1024) off3, View.ld_unit_zero (S := S1x1x512) off3]

/-- The output gate. -/
theorem out20 (c : Dev nD) (i : grid0.Coords) (a2 : Memref sig .tc .vmem S1x1024x1024 .f32) (h2 : a2.IsWhole) (a3 : Memref sig .tc .vmem S1x6x1024 .f32) (h3 : a3.IsWhole) (a4 : Memref sig .tc .vmem S1x1024x2432 .bf16) (h4 : a4.IsWhole) (a5 : Memref sig .tc .vmem S1x1160x1024 .bf16) (h5 : a5.IsWhole) (a6 : Memref sig .tc .vmem S1x1024x512 .bf16) (h6 : a6.IsWhole) (a7 : Memref sig .tc .vmem S1x1x128 .f32) (h7 : a7.IsWhole) (a8 : Memref sig .tc .vmem S1x128x1024 .f32) (h8 : a8.IsWhole) (a9 : Memref sig .tc .vmem S1x1x512 .f32) (h9 : a9.IsWhole) (a10 : Memref sig .tc .vmem S1x1x512 .f32) (h10 : a10.IsWhole) (a11 : Memref sig .tc .vmem S1x1024x1024 .bf16) (h11 : a11.IsWhole) (a12 : Memref sig .tc .vmem S1x1024x128 .bf16) (h12 : a12.IsWhole) (a13 : Memref sig .tc .vmem S1x144x1024 .bf16) (h13 : a13.IsWhole) (a14 : Memref sig .tc .vmem S1x512x1024 .bf16) (h14 : a14.IsWhole) (a15 : Memref sig .tc .vmem S1x1024x128 .bf16) (h15 : a15.IsWhole) (a16 : Memref sig .tc .vmem S1x1024x128 .bf16) (h16 : a16.IsWhole) (a17 : Memref sig .tc .vmem S1x8x1024 .f32) (h17 : a17.IsWhole) (a18 : Memref sig .tc .vmem S1x1024x512 .f32) (h18 : a18.IsWhole) (a19 : Memref sig .tc .vmem S1x1024x512 .f32) (h19 : a19.IsWhole) (a20 : Memref sig .tc .vmem S1x1024x512 .f32) (h20 : a20.IsWhole) (a21 : Memref sig .tc .vmem S1x1024x512 .bf16) (h21 : a21.IsWhole) (a22 : Memref sig .tc .vmem S1x1024x512 .f32) (h22 : a22.IsWhole)
    (x0 : Vec F S1x1024x1024 .f32) (x1 : Vec F S1x6x1024 .f32) (x2 : Vec F S1x1024x2432 .bf16) (x3 : Vec F S1x1160x1024 .bf16) (x4 : Vec F S1x1024x512 .bf16) (x5 : Vec F S1x1x128 .f32) (x6 : Vec F S1x128x1024 .f32) (x7 : Vec F S1x1x512 .f32) (x8 : Vec F S1x1x512 .f32) :
    out0_A_20 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8
      = k0_pay1 (k0_pay22 (proj x0 x1 x2)) (k0_pay23 (proj x0 x1 x2)) (Scalar.ofBits .f32 0x3F800000#32) := by
  unfold out0_A_20
  try unfold proj
  try unfold projT
  rw [View.read_writes_eq_canon _ _ _ (cover0_A_20 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8)]
  unfold kernelRun0_A sh sc
  dsimp only
  sl_unfold_words
  rw [View.canon_unit_zero off3]
  simp only [View.readAt_eq_ld, h2.read_unread, h3.read_unread, h4.read_unread, h5.read_unread, h6.read_unread, h7.read_unread, h8.read_unread, h9.read_unread, h10.read_unread, View.ld_unit_zero (S := S1x1024x1024) off3, View.ld_unit_zero (S := S1x1024x2432) off3, View.ld_unit_zero (S := S1x1160x1024) off3, View.ld_unit_zero (S := S1x1024x512) off3, View.ld_unit_zero (S := S1x1x128) off3, View.ld_unit_zero (S := S1x128x1024) off3, View.ld_unit_zero (S := S1x1x512) off3]

/-- The normalised latent columns, and under them the rows of ones. -/
theorem out11 (c : Dev nD) (i : grid0.Coords) (a2 : Memref sig .tc .vmem S1x1024x1024 .f32) (h2 : a2.IsWhole) (a3 : Memref sig .tc .vmem S1x6x1024 .f32) (h3 : a3.IsWhole) (a4 : Memref sig .tc .vmem S1x1024x2432 .bf16) (h4 : a4.IsWhole) (a5 : Memref sig .tc .vmem S1x1160x1024 .bf16) (h5 : a5.IsWhole) (a6 : Memref sig .tc .vmem S1x1024x512 .bf16) (h6 : a6.IsWhole) (a7 : Memref sig .tc .vmem S1x1x128 .f32) (h7 : a7.IsWhole) (a8 : Memref sig .tc .vmem S1x128x1024 .f32) (h8 : a8.IsWhole) (a9 : Memref sig .tc .vmem S1x1x512 .f32) (h9 : a9.IsWhole) (a10 : Memref sig .tc .vmem S1x1x512 .f32) (h10 : a10.IsWhole) (a11 : Memref sig .tc .vmem S1x1024x1024 .bf16) (h11 : a11.IsWhole) (a12 : Memref sig .tc .vmem S1x1024x128 .bf16) (h12 : a12.IsWhole) (a13 : Memref sig .tc .vmem S1x144x1024 .bf16) (h13 : a13.IsWhole) (a14 : Memref sig .tc .vmem S1x512x1024 .bf16) (h14 : a14.IsWhole) (a15 : Memref sig .tc .vmem S1x1024x128 .bf16) (h15 : a15.IsWhole) (a16 : Memref sig .tc .vmem S1x1024x128 .bf16) (h16 : a16.IsWhole) (a17 : Memref sig .tc .vmem S1x8x1024 .f32) (h17 : a17.IsWhole) (a18 : Memref sig .tc .vmem S1x1024x512 .f32) (h18 : a18.IsWhole) (a19 : Memref sig .tc .vmem S1x1024x512 .f32) (h19 : a19.IsWhole) (a20 : Memref sig .tc .vmem S1x1024x512 .f32) (h20 : a20.IsWhole) (a21 : Memref sig .tc .vmem S1x1024x512 .bf16) (h21 : a21.IsWhole) (a22 : Memref sig .tc .vmem S1x1024x512 .f32) (h22 : a22.IsWhole)
    (x0 : Vec F S1x1024x1024 .f32) (x1 : Vec F S1x6x1024 .f32) (x2 : Vec F S1x1024x2432 .bf16) (x3 : Vec F S1x1160x1024 .bf16) (x4 : Vec F S1x1024x512 .bf16) (x5 : Vec F S1x1x128 .f32) (x6 : Vec F S1x128x1024 .f32) (x7 : Vec F S1x1x512 .f32) (x8 : Vec F S1x1x512 .f32) :
    out0_A_11 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8
      = View.canon [⟨Rect.unit ![0, 128, 0] ![1, 16, 1024] inb_S1x144x1024_S1x16x1024_0_128_0, k0_pay12 k0_pay11⟩,
          ⟨Rect.unit ![0, 0, 0] ![1, 128, 1024] inb_S1x144x1024_S1x128x1024_0_0_0, k0_pay10 (projT x0 x1 x3) x6⟩] := by
  unfold out0_A_11
  try unfold projT
  rw [View.read_writes_eq_canon _ _ _ (cover0_A_11 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8)]
  unfold kernelRun0_A sh sc
  dsimp only
  sl_unfold_words
  simp only [View.readAt_eq_ld, h2.read_unread, h3.read_unread, h4.read_unread, h5.read_unread, h6.read_unread, h7.read_unread, h8.read_unread, h9.read_unread, h10.read_unread, View.ld_unit_zero (S := S1x1024x1024) off3, View.ld_unit_zero (S := S1x1024x2432) off3, View.ld_unit_zero (S := S1x1160x1024) off3, View.ld_unit_zero (S := S1x1024x512) off3, View.ld_unit_zero (S := S1x1x128) off3, View.ld_unit_zero (S := S1x128x1024) off3, View.ld_unit_zero (S := S1x1x512) off3]

end Cert.Inproj

end

end
-- ==== Proof.Inproj.Spec.lean ====
/-
  What the layer's input projection computes at one token, over the extended reals: the modulated token through the
  layer's weights, and what each of the columns becomes.
-/
module

public import Idealize.ShloMosaic.PureOps.Ideal
public import Idealize.ShloMosaic.Lib.Pointwise

@[expose] public section

noncomputable section

open Idealize.ShloMosaic

namespace Cert.Inproj

/-- A modulated token. -/
def token (x : (⟨3, ![8, 4096, 1024]⟩ : Shape).Idx → EReal) (a : (⟨3, ![8, 6, 1024]⟩ : Shape).Idx → EReal)
    (b : Fin 8) (s : Fin 4096) (n : Fin 1024) : EReal :=
  x (ix3 b s n) * (1 + a (ix3 b 1 n)) + a (ix3 b 0 n)

/-- A token's column `k` through the first layer's weights. -/
def col (u : Fin 1024 → EReal) (w : (⟨3, ![4, 1024, 3272]⟩ : Shape).Idx → EReal) (k : Fin 3272) : EReal :=
  ∑ n, u n * w (ix3 0 n k)

/-- The scale the queries carry. -/
def qscale : EReal := Ideal.ofBits FTy.f32 0x3E38AA3B#32

/-- A token's query in the latent space: head `j / 128`, latent coordinate `j % 128`. -/
def latent (z : Fin 3272 → EReal) (k : (⟨4, ![4, 8, 64, 128]⟩ : Shape).Idx → EReal) (j : Fin 1024) : EReal :=
  (∑ d : Fin 64, k (ix4 0 ⟨j.val / 128, by omega⟩ d ⟨j.val % 128, by omega⟩) * z ⟨j.val / 128 * 64 + d.val, by omega⟩) * qscale

/-- A row normalised by its root mean square, with its scale. -/
def rms (v g : Fin 128 → EReal) (j : Fin 128) : EReal :=
  v j * Ideal.rsqrt (Ideal.div (∑ x, v x * v x) (Ideal.ofBits FTy.f32 0x43000000#32) + Ideal.ofBits FTy.f32 0x358637BD#32) * g j

/-- `a` times its logistic. -/
def swish (a : EReal) : EReal := a * Ideal.div 1 (1 + Ideal.exp (0 - a))

/-- The logarithm of the logistic. -/
def logsig (a : EReal) : EReal := min a 0 - Ideal.log1p (Ideal.exp (0 - max a (-a)))

/-- The logarithm of a sum of exponentials. -/
def logadd (a b : EReal) : EReal := max a b + Ideal.log1p (Ideal.exp (0 - max (a - b) (-(a - b))))

/-- A token's log gate, from its column and the channel's lower bound. -/
def gate (f l : EReal) : EReal := logadd (Ideal.log l) (Ideal.log1p (-l) + logsig f)

theorem exp_real (a : EReal) (h : a ≤ 0) : ∃ y : ℝ, 0 ≤ y ∧ Ideal.exp a = y := by
  induction a with
  | bot => exact ⟨0, le_rfl, rfl⟩
  | top => simp at h
  | coe x => exact ⟨Real.exp x, (Real.exp_pos x).le, rfl⟩

theorem log_real (y : ℝ) (h : 0 < y) : Ideal.log (y : EReal) = (Real.log y : ℝ) := by
  show (if y ≤ 0 then (⊥ : EReal) else ((Real.log y : ℝ) : EReal)) = _
  exact if_neg (not_le.mpr h)

theorem log1p_exp_nonneg (a : EReal) (h : a ≤ 0) : 0 ≤ Ideal.log1p (Ideal.exp a) ∧ Ideal.log1p (Ideal.exp a) < ⊤ := by
  obtain ⟨y, hy, e⟩ := exp_real a h
  have e1 : Ideal.log1p (Ideal.exp a) = (Real.log (1 + y) : ℝ) := by
    rw [e]
    show Ideal.log (1 + (y : EReal)) = _
    rw [← EReal.coe_one, ← EReal.coe_add]
    exact log_real _ (by linarith)
  rw [e1]
  refine ⟨?_, EReal.coe_lt_top _⟩
  rw [← EReal.coe_zero, EReal.coe_le_coe_iff]
  exact Real.log_nonneg (by linarith)

theorem neg_abs_nonpos (a : EReal) : 0 - max a (-a) ≤ 0 := by
  rw [zero_sub, EReal.neg_le, neg_zero]
  rcases le_total 0 a with h | h
  · exact le_max_of_le_left h
  · exact le_max_of_le_right (by rw [EReal.le_neg, neg_zero]; exact h)

/-- The same by the softplus of what is negated. -/
theorem logsig_eq (a : EReal) :
    -(max (-a) 0 + Ideal.log1p (Ideal.exp (-max (-a - 0) (-(-a - 0))))) = logsig a := by
  obtain ⟨h0, h1⟩ := log1p_exp_nonneg (0 - max a (-a)) (neg_abs_nonpos a)
  have e : -max (-a - 0) (-(-a - 0)) = 0 - max a (-a) := by
    rw [sub_zero, neg_neg, zero_sub, max_comm]
  unfold logsig
  rw [e, EReal.neg_add (.inr (ne_of_lt h1)) (.inr (ne_of_gt (lt_of_lt_of_le EReal.bot_lt_zero h0)))]
  congr 1
  rcases le_total 0 a with h | h
  · rw [max_eq_right (by rw [EReal.neg_le, neg_zero]; exact h), min_eq_right h, neg_zero]
  · rw [max_eq_left (by rw [EReal.le_neg, neg_zero]; exact h), min_eq_left h, neg_neg]

end Cert.Inproj

end

end
-- ==== Proof.Inproj.Step.lean ====
/-
  The payloads of the input projection at an element, over the ideal numbers.
-/
module

public import proofs.«01_k».proof.Proof.Inproj.Cases
public import proofs.«01_k».proof.Proof.Inproj.Spec
public import Idealize.ShloMosaic.Lib.Pointwise
public import Idealize.ShloMosaic.Lib.ValueIdx
public import Idealize.ShloMosaic.Lib.ValueLayout

@[expose] public section

noncomputable section

open Idealize.ShloMosaic Idealize.ShloMosaic.TcCoe Idealize.SL.Sem

namespace Cert.Inproj

open Cert.Kernel3Ideal Cert.Kernel3Ideal.Gen

/-- A modulated token of the block. -/
def tok (x0 : Vec Ideal S1x1024x1024 .f32) (x1 : Vec Ideal S1x6x1024 .f32) (r n : Fin 1024) : EReal :=
  x0 (ix3 0 r n) * (1 + x1 (ix3 0 1 n)) + x1 (ix3 0 0 n)

theorem sh_apply (x1 : Vec Ideal S1x6x1024 .f32) (n : Fin 1024) : sh x1 (ix3 0 0 n) = x1 (ix3 0 0 n) := by
  unfold sh
  pointwise

theorem sc_apply (x1 : Vec Ideal S1x6x1024 .f32) (n : Fin 1024) : sc x1 (ix3 0 0 n) = x1 (ix3 0 1 n) := by
  unfold sc
  pointwise

theorem tok_apply (x0 : Vec Ideal S1x1024x1024 .f32) (x1 : Vec Ideal S1x6x1024 .f32) (r n : Fin 1024) :
    k0_pay3 x0 (sh x1) (sc x1) (ix2 r n) = tok x0 x1 r n := by
  unfold k0_pay3 tok
  pointwise
  rw [sh_apply, sc_apply]

theorem proj_apply (x0 : Vec Ideal S1x1024x1024 .f32) (x1 : Vec Ideal S1x6x1024 .f32) (x2 : Vec Ideal S1x1024x2432 .bf16)
    (r : Fin 1024) (k : Fin 2432) : proj x0 x1 x2 (ix2 r k) = ∑ n, tok x0 x1 r n * x2 (ix3 0 n k) := by
  unfold proj k0_pay4
  pointwise
  simp only [tok_apply]

theorem projT_apply (x0 : Vec Ideal S1x1024x1024 .f32) (x1 : Vec Ideal S1x6x1024 .f32) (x3 : Vec Ideal S1x1160x1024 .bf16)
    (r : Fin 1024) (k : Fin 1160) : projT x0 x1 x3 (ix2 k r) = ∑ n, x3 (ix3 0 k n) * tok x0 x1 r n := by
  unfold projT k0_pay5
  pointwise
  simp only [tok_apply]

theorem pay6_apply (x0 : Vec Ideal S1x1024x1024 .f32) (x1 : Vec Ideal S1x6x1024 .f32) (x3 : Vec Ideal S1x1160x1024 .bf16)
    (x4 : Vec Ideal S1x1024x512 .bf16) (j r : Fin 1024) : k0_pay6 x0 (sh x1) (sc x1) x3 x4 (ix3 0 j r)
      = ∑ x : Fin 512, x4 (ix3 0 j x) * projT x0 x1 x3 (ix2 ⟨x.val, by omega⟩ r) := by
  unfold k0_pay6
  pointwise
  rfl

theorem pay7_apply (x0 : Vec Ideal S1x1024x1024 .f32) (x1 : Vec Ideal S1x6x1024 .f32) (x2 : Vec Ideal S1x1024x2432 .bf16)
    (r : Fin 1024) (j : Fin 128) : k0_pay7 x0 (sh x1) (sc x1) x2 (ix2 r j) = proj x0 x1 x2 (ix2 r ⟨j.val, by omega⟩) := by
  unfold k0_pay7
  pointwise
  rfl

theorem pay8_apply (x0 : Vec Ideal S1x1024x1024 .f32) (x1 : Vec Ideal S1x6x1024 .f32) (x2 : Vec Ideal S1x1024x2432 .bf16)
    (r : Fin 1024) : k0_pay8 x0 (sh x1) (sc x1) x2 (ix1 r)
      = ∑ j : Fin 128, proj x0 x1 x2 (ix2 r ⟨j.val, by omega⟩) * proj x0 x1 x2 (ix2 r ⟨j.val, by omega⟩) := by
  unfold k0_pay8
  pointwise
  simp only [pay7_apply]

theorem pay9_apply (v : FVec Ideal S1024x128 .f32) (q : FVec Ideal S1024 .f32) (g : Vec Ideal S1x1x128 .f32) (r : Fin 1024) (j : Fin 128)
    (h : q (ix1 r) = ∑ k, v (ix2 r k) * v (ix2 r k)) :
    k0_pay9 v q g (ix3 0 r j) = rms (fun k => v (ix2 r k)) (fun k => g (ix3 0 0 k)) j := by
  unfold k0_pay9 rms
  pointwise
  rw [h]

theorem pay10_apply (z : FVec Ideal S1160x1024 .f32) (g : Vec Ideal S1x128x1024 .f32) (r : Fin 1024) (j : Fin 128) :
    k0_pay10 z g (ix3 0 j r) = rms (fun k => z (ix2 ⟨1024 + k.val, by omega⟩ r)) (fun k => g (ix3 0 k r)) j := by
  unfold k0_pay10 rms
  pointwise

theorem pay12_apply (r : Fin 1024) (j : Fin 16) : k0_pay12 (F := Ideal) k0_pay11 (ix3 0 j r) = (1 : EReal) := by
  unfold k0_pay12 k0_pay11
  pointwise

theorem pay13_apply (z : FVec Ideal S1160x1024 .f32) (r : Fin 1024) (j : Fin 512) :
    k0_pay13 z (ix3 0 j r) = z (ix2 ⟨512 + j.val, by omega⟩ r) := by
  unfold k0_pay13
  pointwise

theorem pay14_apply (z : FVec Ideal S1024x2432 .f32) (r : Fin 1024) (j : Fin 128) :
    k0_pay14 z (ix3 0 r j) = z (ix2 r ⟨128 + j.val, by omega⟩) := by
  unfold k0_pay14
  pointwise

theorem pay15_apply (z : FVec Ideal S1024x2432 .f32) (r : Fin 1024) (j : Fin 128) :
    k0_pay15 z (ix3 0 r j) = z (ix2 r ⟨256 + j.val, by omega⟩) := by
  unfold k0_pay15
  pointwise

theorem pay16_apply (z : FVec Ideal S1160x1024 .f32) (r : Fin 1024) (j : Fin 8) :
    k0_pay16 z (ix3 0 j r) = (z (ix2 ⟨1152 + j.val, by omega⟩ r) : EReal) * Ideal.ofBits FTy.f32 0x3D3504F3#32 := by
  unfold k0_pay16
  pointwise

theorem pay17_apply (z : FVec Ideal S1024x2432 .f32) (r : Fin 1024) (j : Fin 512) :
    k0_pay17 z (ix3 0 r j) = swish (z (ix2 r ⟨384 + j.val, by omega⟩)) := by
  unfold k0_pay17 swish
  pointwise

theorem pay2_apply (z : FVec Ideal S1024x2432 .f32) (r : Fin 1024) (j : Fin 512) :
    k0_pay2 z (ix3 0 r j) = z (ix2 r ⟨1920 + j.val, by omega⟩) := by
  unfold k0_pay2
  pointwise

theorem pay1_apply (z : FVec Ideal S1024x2432 .f32) (r : Fin 1024) (j : Fin 512) :
    k0_pay1 (k0_pay22 z) (k0_pay23 z) (Scalar.ofBits .f32 0x3F800000#32) (ix3 0 r j) = swish (z (ix2 r ⟨1408 + j.val, by omega⟩)) := by
  unfold k0_pay1 k0_pay23 k0_pay22 swish
  pointwise

theorem pay19_apply (z : FVec Ideal S1024x2432 .f32) (x7 x8 : Vec Ideal S1x1x512 .f32) (r : Fin 1024) (j : Fin 512) :
    k0_pay19 (k0_pay18 z) x7 x8 (ix2 r j) = logadd (x7 (ix3 0 0 j)) (x8 (ix3 0 0 j) + logsig (z (ix2 r ⟨896 + j.val, by omega⟩))) := by
  unfold k0_pay19 k0_pay18 logadd logsig
  pointwise
  rfl

theorem pay20_apply (z : FVec Ideal S1024x512 .f32) (x7 x8 : Vec Ideal S1x1x512 .f32) (r : Fin 1024) (j : Fin 512) :
    k0_pay20 z x7 x8 (ix3 0 r j) = k0_pay19 z x7 x8 (ix2 r j) := by
  unfold k0_pay20
  pointwise

theorem pay21_apply (z : FVec Ideal S1024x512 .f32) (x7 x8 : Vec Ideal S1x1x512 .f32) (r : Fin 1024) (j : Fin 512) :
    k0_pay21 z x7 x8 (ix3 0 r j) = 1 - Ideal.exp (k0_pay19 z x7 x8 (ix2 r j)) := by
  unfold k0_pay21
  pointwise

end Cert.Inproj

end

end
-- ==== Proof.Inproj.Host.lean ====
/-
  The two weight matrices the input projection is multiplied by, as arranged before the call.
-/
module

public import proofs.«01_k».proof.Proof.Inproj.Step
public import Idealize.ShloMosaic.Lib.Pipeline.ValueKit
public import Idealize.ShloMosaic.Lib.StableHlo.RunRead

@[expose] public section

noncomputable section

open Idealize.ShloMosaic Idealize.ShloMosaic.TcCoe Idealize.SL.Sem

namespace Cert.Inproj

open Cert.Kernel3Ideal Cert.Kernel3Ideal.Gen

/-- The columns of the projection by their place in the weight. -/
def part0 (w : FVec Ideal S4x1024x3272 .f32) : FVec Ideal S4x1024x512 .f32 := extractStridedSlice S4x1024x512 ![0, 0, 0] w slices_S4x1024x3272_S4x1024x512_0_0_0
def part1 (w : FVec Ideal S4x1024x3272 .f32) : FVec Ideal S4x1024x128 .f32 := extractStridedSlice S4x1024x128 ![0, 0, 512] w slices_S4x1024x3272_S4x1024x128_0_0_512
def part2 (w : FVec Ideal S4x1024x3272 .f32) : FVec Ideal S4x1024x512 .f32 := extractStridedSlice S4x1024x512 ![0, 0, 640] w slices_S4x1024x3272_S4x1024x512_0_0_640
def part3 (w : FVec Ideal S4x1024x3272 .f32) : FVec Ideal S4x1024x64 .f32 := extractStridedSlice S4x1024x64 ![0, 0, 1152] w slices_S4x1024x3272_S4x1024x64_0_0_1152
def part4 (w : FVec Ideal S4x1024x3272 .f32) : FVec Ideal S4x1024x8 .f32 := extractStridedSlice S4x1024x8 ![0, 0, 1216] w slices_S4x1024x3272_S4x1024x8_0_0_1216
def part5 (w : FVec Ideal S4x1024x3272 .f32) : FVec Ideal S4x1024x512 .f32 := extractStridedSlice S4x1024x512 ![0, 0, 1224] w slices_S4x1024x3272_S4x1024x512_0_0_1224
def part6 (w : FVec Ideal S4x1024x3272 .f32) : FVec Ideal S4x1024x512 .f32 := extractStridedSlice S4x1024x512 ![0, 0, 1736] w slices_S4x1024x3272_S4x1024x512_0_0_1736
def part7 (w : FVec Ideal S4x1024x3272 .f32) : FVec Ideal S4x1024x512 .f32 := extractStridedSlice S4x1024x512 ![0, 0, 2248] w slices_S4x1024x3272_S4x1024x512_0_0_2248
def part8 (w : FVec Ideal S4x1024x3272 .f32) : FVec Ideal S4x1024x512 .f32 := extractStridedSlice S4x1024x512 ![0, 0, 2760] w slices_S4x1024x3272_S4x1024x512_0_0_2760
def blank : FVec Ideal S4x1024x64 .f32 := broadcastInDim S4x1024x64 ![] bcast_S_S4x1024x64 (constant S_ .f32 0x00000000#32)

/-- The weight of the rows, and that of the columns. -/
def rowsW (w : FVec Ideal S4x1024x3272 .f32) : FVec Ideal S4x1024x2432 .f32 :=
  concatenate S4x1024x2432 2 [⟨S4x1024x128, part1 w⟩, ⟨S4x1024x64, part3 w⟩, ⟨S4x1024x64, blank⟩, ⟨S4x1024x64, blank⟩, ⟨S4x1024x64, part3 w⟩, ⟨S4x1024x512, part5 w⟩, ⟨S4x1024x512, part6 w⟩, ⟨S4x1024x512, part8 w⟩, ⟨S4x1024x512, part7 w⟩] concatenates_S4x1024x128_S4x1024x64_S4x1024x64_S4x1024x64_S4x1024x64_S4x1024x512_S4x1024x512_S4x1024x512_S4x1024x512_S4x1024x2432_d2
def colsW (w : FVec Ideal S4x1024x3272 .f32) : FVec Ideal S4x1024x1160 .f32 :=
  concatenate S4x1024x1160 2 [⟨S4x1024x512, part0 w⟩, ⟨S4x1024x512, part2 w⟩, ⟨S4x1024x128, part1 w⟩, ⟨S4x1024x8, part4 w⟩] concatenates_S4x1024x512_S4x1024x512_S4x1024x128_S4x1024x8_S4x1024x1160_d2

theorem at_eq (w : FVec Ideal S4x1024x3272 .f32) (n : Fin 1024) {a b : ℕ} {ha : a < 3272} {hb : b < 3272} (h : a = b) :
    w (ix3 0 n ⟨a, ha⟩) = w (ix3 0 n ⟨b, hb⟩) := by
  subst h
  rfl

theorem rowsW_ckv (w : FVec Ideal S4x1024x3272 .f32) (n : Fin 1024) (k : Fin 128) :
    rowsW w (ix3 (0 : Fin 4) n (⟨k.val, by omega⟩ : Fin 2432)) = w (ix3 0 n ⟨512 + k.val, by omega⟩) := by
  unfold rowsW part1 part3 part5 part6 part7 part8 blank
  pointwise

theorem rowsW_ika (w : FVec Ideal S4x1024x3272 .f32) (n : Fin 1024) (k : Fin 64) :
    rowsW w (ix3 (0 : Fin 4) n (⟨128 + k.val, by omega⟩ : Fin 2432)) = w (ix3 0 n ⟨1152 + k.val, by omega⟩) := by
  unfold rowsW part1 part3 part5 part6 part7 part8 blank
  pointwise

theorem rowsW_za (w : FVec Ideal S4x1024x3272 .f32) (n : Fin 1024) (k : Fin 64) :
    rowsW w (ix3 (0 : Fin 4) n (⟨192 + k.val, by omega⟩ : Fin 2432)) = (0 : EReal) := by
  unfold rowsW part1 part3 part5 part6 part7 part8 blank
  pointwise
  rw [dif_neg (by omega), dif_neg (by omega), dif_pos (by omega)]

theorem rowsW_zb (w : FVec Ideal S4x1024x3272 .f32) (n : Fin 1024) (k : Fin 64) :
    rowsW w (ix3 (0 : Fin 4) n (⟨256 + k.val, by omega⟩ : Fin 2432)) = (0 : EReal) := by
  unfold rowsW part1 part3 part5 part6 part7 part8 blank
  pointwise
  rw [dif_neg (by omega), dif_neg (by omega), dif_neg (by omega), dif_pos (by omega)]

theorem rowsW_ikb (w : FVec Ideal S4x1024x3272 .f32) (n : Fin 1024) (k : Fin 64) :
    rowsW w (ix3 (0 : Fin 4) n (⟨320 + k.val, by omega⟩ : Fin 2432)) = w (ix3 0 n ⟨1152 + k.val, by omega⟩) := by
  unfold rowsW part1 part3 part5 part6 part7 part8 blank
  pointwise
  rw [dif_neg (by omega), dif_neg (by omega), dif_neg (by omega), dif_neg (by omega), dif_pos (by omega)]
  exact at_eq w n (by omega)

theorem rowsW_hq (w : FVec Ideal S4x1024x3272 .f32) (n : Fin 1024) (k : Fin 512) :
    rowsW w (ix3 (0 : Fin 4) n (⟨384 + k.val, by omega⟩ : Fin 2432)) = w (ix3 0 n ⟨1224 + k.val, by omega⟩) := by
  unfold rowsW part1 part3 part5 part6 part7 part8 blank
  pointwise
  rw [dif_neg (by omega), dif_neg (by omega), dif_neg (by omega), dif_neg (by omega), dif_neg (by omega), dif_pos (by omega)]
  exact at_eq w n (by omega)

theorem rowsW_hf (w : FVec Ideal S4x1024x3272 .f32) (n : Fin 1024) (k : Fin 512) :
    rowsW w (ix3 (0 : Fin 4) n (⟨896 + k.val, by omega⟩ : Fin 2432)) = w (ix3 0 n ⟨1736 + k.val, by omega⟩) := by
  unfold rowsW part1 part3 part5 part6 part7 part8 blank
  pointwise
  rw [dif_neg (by omega), dif_neg (by omega), dif_neg (by omega), dif_neg (by omega), dif_neg (by omega), dif_neg (by omega), dif_pos (by omega)]
  exact at_eq w n (by omega)

theorem rowsW_hg (w : FVec Ideal S4x1024x3272 .f32) (n : Fin 1024) (k : Fin 512) :
    rowsW w (ix3 (0 : Fin 4) n (⟨1408 + k.val, by omega⟩ : Fin 2432)) = w (ix3 0 n ⟨2760 + k.val, by omega⟩) := by
  unfold rowsW part1 part3 part5 part6 part7 part8 blank
  pointwise
  rw [dif_neg (by omega), dif_neg (by omega), dif_neg (by omega), dif_neg (by omega), dif_neg (by omega), dif_neg (by omega), dif_neg (by omega), dif_pos (by omega)]
  exact at_eq w n (by omega)

theorem rowsW_hi (w : FVec Ideal S4x1024x3272 .f32) (n : Fin 1024) (k : Fin 512) :
    rowsW w (ix3 (0 : Fin 4) n (⟨1920 + k.val, by omega⟩ : Fin 2432)) = w (ix3 0 n ⟨2248 + k.val, by omega⟩) := by
  unfold rowsW part1 part3 part5 part6 part7 part8 blank
  pointwise
  rw [dif_neg (by omega), dif_neg (by omega), dif_neg (by omega), dif_neg (by omega), dif_neg (by omega), dif_neg (by omega), dif_neg (by omega), dif_neg (by omega)]
  exact at_eq w n (by omega)

theorem colsW_aq (w : FVec Ideal S4x1024x3272 .f32) (n : Fin 1024) (k : Fin 512) :
    colsW w (ix3 (0 : Fin 4) n (⟨k.val, by omega⟩ : Fin 1160)) = w (ix3 0 n ⟨k.val, by omega⟩) := by
  unfold colsW part0 part1 part2 part4
  pointwise

theorem colsW_iq (w : FVec Ideal S4x1024x3272 .f32) (n : Fin 1024) (k : Fin 512) :
    colsW w (ix3 (0 : Fin 4) n (⟨512 + k.val, by omega⟩ : Fin 1160)) = w (ix3 0 n ⟨640 + k.val, by omega⟩) := by
  unfold colsW part0 part1 part2 part4
  pointwise

theorem colsW_ckv (w : FVec Ideal S4x1024x3272 .f32) (n : Fin 1024) (k : Fin 128) :
    colsW w (ix3 (0 : Fin 4) n (⟨1024 + k.val, by omega⟩ : Fin 1160)) = w (ix3 0 n ⟨512 + k.val, by omega⟩) := by
  unfold colsW part0 part1 part2 part4
  pointwise
  rw [dif_neg (by omega), dif_neg (by omega), dif_pos (by omega)]
  exact at_eq w n (by omega)

theorem colsW_iw (w : FVec Ideal S4x1024x3272 .f32) (n : Fin 1024) (k : Fin 8) :
    colsW w (ix3 (0 : Fin 4) n (⟨1152 + k.val, by omega⟩ : Fin 1160)) = w (ix3 0 n ⟨1216 + k.val, by omega⟩) := by
  unfold colsW part0 part1 part2 part4
  pointwise
  rw [dif_neg (by omega), dif_neg (by omega), dif_neg (by omega)]
  exact at_eq w n (by omega)

variable (m : (ℓ : Loc nD τ sig) → Buf (Elt Ideal) ℓ) (c : Dev nD)

theorem v11_eq : V m c main_v11 = truncf .bf16 (rowsW (m ((c : Thread nD τ).loc main_arg2))) bitsLt_bf16_f32 := by
  show StableHlo.after hostOps0 _ _ = _
  after_reads_simp
  rfl

theorem v14_eq : V m c main_v14 = truncf .bf16 (transpose S4x1160x1024 [0, 2, 1] (colsW (m ((c : Thread nD τ).loc main_arg2)))
    transposes_S4x1024x1160_S4x1160x1024_0_2_1) bitsLt_bf16_f32 := by
  show StableHlo.after hostOps0 _ _ = _
  after_reads_simp
  rfl
end Cert.Inproj

end

end
-- ==== Proof.Inproj.Blocks.lean ====
/-
  The blocks of the input projection at a grid point, read off the arrays it is given.
-/
module

public import proofs.«01_k».proof.Proof.Inproj.Host

@[expose] public section

noncomputable section

open Idealize.ShloMosaic Idealize.ShloMosaic.TcCoe Idealize.SL.Sem

namespace Cert.Inproj

open Cert.Kernel3Ideal Cert.Kernel3Ideal.Gen

variable (m : (ℓ : Loc nD τ sig) → Buf (Elt Ideal) ℓ) (c : Dev nD)

theorem toks : ∀ t : Fin cfg0.N, win0_0.index t = ![t.val / 4, t.val % 4, 0] ∧ win0_1.index t = ![t.val / 4, 0, 0] := by decide +kernel

theorem wts : ∀ t : Fin cfg0.N, win0_2.index t = ![0, 0, 0] ∧ win0_3.index t = ![0, 0, 0] ∧ win0_4.index t = ![0, 0, 0]
    ∧ win0_5.index t = ![0, 0, 0] ∧ win0_6.index t = ![0, 0, 0] ∧ win0_7.index t = ![0, 0, 0] ∧ win0_8.index t = ![0, 0, 0] := by
  decide +kernel

theorem lt32 (t : Fin cfg0.N) : t.val < 32 := lt_of_lt_of_eq t.isLt N_0

/-- The batch entry and the place of a grid point's row. -/
def bat (t : Fin cfg0.N) : Fin 8 := ⟨t.val / 4, by have := lt32 t; omega⟩
def pos (t : Fin cfg0.N) (r : Fin 1024) : Fin 4096 := ⟨t.val % 4 * 1024 + r.val, by omega⟩

/-- The arrays the call is given. -/
abbrev ax : (⟨3, ![8, 4096, 1024]⟩ : Shape).Idx → EReal := m ((c : Thread nD τ).loc main_arg0)
abbrev am : (⟨3, ![8, 6, 1024]⟩ : Shape).Idx → EReal := m ((c : Thread nD τ).loc main_arg1)
abbrev aw : (⟨3, ![4, 1024, 3272]⟩ : Shape).Idx → EReal := m ((c : Thread nD τ).loc main_arg2)
abbrev ag : (⟨2, ![4, 128]⟩ : Shape).Idx → EReal := m ((c : Thread nD τ).loc main_arg3)
abbrev ak : (⟨4, ![4, 8, 64, 128]⟩ : Shape).Idx → EReal := m ((c : Thread nD τ).loc main_arg4)
abbrev al : (⟨2, ![4, 512]⟩ : Shape).Idx → EReal := m ((c : Thread nD τ).loc main_arg5)

theorem blk0 (t : Fin cfg0.N) (r n : Fin 1024) : iblk m c 0 t (ix3 0 r n) = ax m c (ix3 (bat t) (pos t r) n) := by
  have ht := lt32 t
  unfold bat pos
  blk_ext [iblk, V, (toks t).1]

theorem blk1 (t : Fin cfg0.N) (j : Fin 6) (n : Fin 1024) : iblk m c 1 t (ix3 0 j n) = am m c (ix3 (bat t) j n) := by
  have ht := lt32 t
  unfold bat
  blk_ext [iblk, V, (toks t).2]

/-- The block's modulated tokens. -/
theorem tok_eq (t : Fin cfg0.N) (r n : Fin 1024) :
    tok (iblk m c 0 t) (iblk m c 1 t) r n = token (ax m c) (am m c) (bat t) (pos t r) n := by
  unfold tok token
  rw [blk0, blk1, blk1]

theorem eye_bit : ∀ a b : Fin 8, IntOp.cmpi .eq (IntOp.addi (BitVec.ofNat 32 a.val) 0#32) (BitVec.ofNat 32 b.val)
    = if a.val = b.val then 1#1 else 0#1 := by decide +kernel

theorem eye_word (a b : Fin 8) : (FloatOps.uitofp (F := Ideal) .f32
      (IntOp.cmpi .eq (IntOp.addi (BitVec.ofNat 32 a.val) 0#32) (BitVec.ofNat 32 b.val)) : EReal)
    = if a.val = b.val then 1 else 0 := by
  rw [eye_bit]
  by_cases h : a.val = b.val
  · rw [if_pos h, if_pos h]
    show ((((1#1 : BitVec 1).toNat : ℝ)) : EReal) = 1
    simp
  · rw [if_neg h, if_neg h]
    show ((((0#1 : BitVec 1).toNat : ℝ)) : EReal) = 0
    simp

theorem blk2_ckv (t : Fin cfg0.N) (n : Fin 1024) (k : Fin 128) : iblk m c 2 t (ix3 (0 : Fin 1) n (⟨k.val, by omega⟩ : Fin 2432))
    = aw m c (ix3 0 n ⟨512 + k.val, by omega⟩) := by
  have e : (((cfg0.win 2).blk t).view.emb (ix3 (0 : Fin 1) n (⟨k.val, by omega⟩ : Fin 2432)) : S4x1024x2432.Idx) = (ix3 (0 : Fin 4) n (⟨k.val, by omega⟩ : Fin 2432)) := by
    blk_ext [(wts t).1]
  unfold iblk
  rw [View.read_apply]
  erw [e]
  show V m c main_v11 _ = _
  rw [v11_eq]
  exact rowsW_ckv _ n k
theorem blk2_ika (t : Fin cfg0.N) (n : Fin 1024) (k : Fin 64) : iblk m c 2 t (ix3 (0 : Fin 1) n (⟨128 + k.val, by omega⟩ : Fin 2432))
    = aw m c (ix3 0 n ⟨1152 + k.val, by omega⟩) := by
  have e : (((cfg0.win 2).blk t).view.emb (ix3 (0 : Fin 1) n (⟨128 + k.val, by omega⟩ : Fin 2432)) : S4x1024x2432.Idx) = (ix3 (0 : Fin 4) n (⟨128 + k.val, by omega⟩ : Fin 2432)) := by
    blk_ext [(wts t).1]
  unfold iblk
  rw [View.read_apply]
  erw [e]
  show V m c main_v11 _ = _
  rw [v11_eq]
  exact rowsW_ika _ n k
theorem blk2_za (t : Fin cfg0.N) (n : Fin 1024) (k : Fin 64) : iblk m c 2 t (ix3 (0 : Fin 1) n (⟨192 + k.val, by omega⟩ : Fin 2432))
    = (0 : EReal) := by
  have e : (((cfg0.win 2).blk t).view.emb (ix3 (0 : Fin 1) n (⟨192 + k.val, by omega⟩ : Fin 2432)) : S4x1024x2432.Idx) = (ix3 (0 : Fin 4) n (⟨192 + k.val, by omega⟩ : Fin 2432)) := by
    blk_ext [(wts t).1]
  unfold iblk
  rw [View.read_apply]
  erw [e]
  show V m c main_v11 _ = _
  rw [v11_eq]
  exact rowsW_za _ n k
theorem blk2_zb (t : Fin cfg0.N) (n : Fin 1024) (k : Fin 64) : iblk m c 2 t (ix3 (0 : Fin 1) n (⟨256 + k.val, by omega⟩ : Fin 2432))
    = (0 : EReal) := by
  have e : (((cfg0.win 2).blk t).view.emb (ix3 (0 : Fin 1) n (⟨256 + k.val, by omega⟩ : Fin 2432)) : S4x1024x2432.Idx) = (ix3 (0 : Fin 4) n (⟨256 + k.val, by omega⟩ : Fin 2432)) := by
    blk_ext [(wts t).1]
  unfold iblk
  rw [View.read_apply]
  erw [e]
  show V m c main_v11 _ = _
  rw [v11_eq]
  exact rowsW_zb _ n k
theorem blk2_ikb (t : Fin cfg0.N) (n : Fin 1024) (k : Fin 64) : iblk m c 2 t (ix3 (0 : Fin 1) n (⟨320 + k.val, by omega⟩ : Fin 2432))
    = aw m c (ix3 0 n ⟨1152 + k.val, by omega⟩) := by
  have e : (((cfg0.win 2).blk t).view.emb (ix3 (0 : Fin 1) n (⟨320 + k.val, by omega⟩ : Fin 2432)) : S4x1024x2432.Idx) = (ix3 (0 : Fin 4) n (⟨320 + k.val, by omega⟩ : Fin 2432)) := by
    blk_ext [(wts t).1]
  unfold iblk
  rw [View.read_apply]
  erw [e]
  show V m c main_v11 _ = _
  rw [v11_eq]
  exact rowsW_ikb _ n k
theorem blk2_hq (t : Fin cfg0.N) (n : Fin 1024) (k : Fin 512) : iblk m c 2 t (ix3 (0 : Fin 1) n (⟨384 + k.val, by omega⟩ : Fin 2432))
    = aw m c (ix3 0 n ⟨1224 + k.val, by omega⟩) := by
  have e : (((cfg0.win 2).blk t).view.emb (ix3 (0 : Fin 1) n (⟨384 + k.val, by omega⟩ : Fin 2432)) : S4x1024x2432.Idx) = (ix3 (0 : Fin 4) n (⟨384 + k.val, by omega⟩ : Fin 2432)) := by
    blk_ext [(wts t).1]
  unfold iblk
  rw [View.read_apply]
  erw [e]
  show V m c main_v11 _ = _
  rw [v11_eq]
  exact rowsW_hq _ n k
theorem blk2_hf (t : Fin cfg0.N) (n : Fin 1024) (k : Fin 512) : iblk m c 2 t (ix3 (0 : Fin 1) n (⟨896 + k.val, by omega⟩ : Fin 2432))
    = aw m c (ix3 0 n ⟨1736 + k.val, by omega⟩) := by
  have e : (((cfg0.win 2).blk t).view.emb (ix3 (0 : Fin 1) n (⟨896 + k.val, by omega⟩ : Fin 2432)) : S4x1024x2432.Idx) = (ix3 (0 : Fin 4) n (⟨896 + k.val, by omega⟩ : Fin 2432)) := by
    blk_ext [(wts t).1]
  unfold iblk
  rw [View.read_apply]
  erw [e]
  show V m c main_v11 _ = _
  rw [v11_eq]
  exact rowsW_hf _ n k
theorem blk2_hg (t : Fin cfg0.N) (n : Fin 1024) (k : Fin 512) : iblk m c 2 t (ix3 (0 : Fin 1) n (⟨1408 + k.val, by omega⟩ : Fin 2432))
    = aw m c (ix3 0 n ⟨2760 + k.val, by omega⟩) := by
  have e : (((cfg0.win 2).blk t).view.emb (ix3 (0 : Fin 1) n (⟨1408 + k.val, by omega⟩ : Fin 2432)) : S4x1024x2432.Idx) = (ix3 (0 : Fin 4) n (⟨1408 + k.val, by omega⟩ : Fin 2432)) := by
    blk_ext [(wts t).1]
  unfold iblk
  rw [View.read_apply]
  erw [e]
  show V m c main_v11 _ = _
  rw [v11_eq]
  exact rowsW_hg _ n k
theorem blk2_hi (t : Fin cfg0.N) (n : Fin 1024) (k : Fin 512) : iblk m c 2 t (ix3 (0 : Fin 1) n (⟨1920 + k.val, by omega⟩ : Fin 2432))
    = aw m c (ix3 0 n ⟨2248 + k.val, by omega⟩) := by
  have e : (((cfg0.win 2).blk t).view.emb (ix3 (0 : Fin 1) n (⟨1920 + k.val, by omega⟩ : Fin 2432)) : S4x1024x2432.Idx) = (ix3 (0 : Fin 4) n (⟨1920 + k.val, by omega⟩ : Fin 2432)) := by
    blk_ext [(wts t).1]
  unfold iblk
  rw [View.read_apply]
  erw [e]
  show V m c main_v11 _ = _
  rw [v11_eq]
  exact rowsW_hi _ n k
theorem blk3_aq (t : Fin cfg0.N) (n : Fin 1024) (k : Fin 512) : iblk m c 3 t (ix3 (0 : Fin 1) (⟨k.val, by omega⟩ : Fin 1160) n)
    = aw m c (ix3 0 n ⟨k.val, by omega⟩) := by
  have e : (((cfg0.win 3).blk t).view.emb (ix3 (0 : Fin 1) (⟨k.val, by omega⟩ : Fin 1160) n) : S4x1160x1024.Idx) = (ix3 (0 : Fin 4) (⟨k.val, by omega⟩ : Fin 1160) n) := by
    blk_ext [(wts t).2.1]
  unfold iblk
  rw [View.read_apply]
  erw [e]
  show V m c main_v14 _ = _
  rw [v14_eq]
  refine Eq.trans ?_ (colsW_aq _ n k)
  pointwise
theorem blk3_iq (t : Fin cfg0.N) (n : Fin 1024) (k : Fin 512) : iblk m c 3 t (ix3 (0 : Fin 1) (⟨512 + k.val, by omega⟩ : Fin 1160) n)
    = aw m c (ix3 0 n ⟨640 + k.val, by omega⟩) := by
  have e : (((cfg0.win 3).blk t).view.emb (ix3 (0 : Fin 1) (⟨512 + k.val, by omega⟩ : Fin 1160) n) : S4x1160x1024.Idx) = (ix3 (0 : Fin 4) (⟨512 + k.val, by omega⟩ : Fin 1160) n) := by
    blk_ext [(wts t).2.1]
  unfold iblk
  rw [View.read_apply]
  erw [e]
  show V m c main_v14 _ = _
  rw [v14_eq]
  refine Eq.trans ?_ (colsW_iq _ n k)
  pointwise
theorem blk3_ckv (t : Fin cfg0.N) (n : Fin 1024) (k : Fin 128) : iblk m c 3 t (ix3 (0 : Fin 1) (⟨1024 + k.val, by omega⟩ : Fin 1160) n)
    = aw m c (ix3 0 n ⟨512 + k.val, by omega⟩) := by
  have e : (((cfg0.win 3).blk t).view.emb (ix3 (0 : Fin 1) (⟨1024 + k.val, by omega⟩ : Fin 1160) n) : S4x1160x1024.Idx) = (ix3 (0 : Fin 4) (⟨1024 + k.val, by omega⟩ : Fin 1160) n) := by
    blk_ext [(wts t).2.1]
  unfold iblk
  rw [View.read_apply]
  erw [e]
  show V m c main_v14 _ = _
  rw [v14_eq]
  refine Eq.trans ?_ (colsW_ckv _ n k)
  pointwise
theorem blk3_iw (t : Fin cfg0.N) (n : Fin 1024) (k : Fin 8) : iblk m c 3 t (ix3 (0 : Fin 1) (⟨1152 + k.val, by omega⟩ : Fin 1160) n)
    = aw m c (ix3 0 n ⟨1216 + k.val, by omega⟩) := by
  have e : (((cfg0.win 3).blk t).view.emb (ix3 (0 : Fin 1) (⟨1152 + k.val, by omega⟩ : Fin 1160) n) : S4x1160x1024.Idx) = (ix3 (0 : Fin 4) (⟨1152 + k.val, by omega⟩ : Fin 1160) n) := by
    blk_ext [(wts t).2.1]
  unfold iblk
  rw [View.read_apply]
  erw [e]
  show V m c main_v14 _ = _
  rw [v14_eq]
  refine Eq.trans ?_ (colsW_iw _ n k)
  pointwise
theorem blk5 (t : Fin cfg0.N) (k : Fin 128) : iblk m c 5 t (ix3 (0 : Fin 1) (0 : Fin 1) k)
    = ag m c (ix2 0 k) := by
  have e : (((cfg0.win 5).blk t).view.emb (ix3 (0 : Fin 1) (0 : Fin 1) k) : S4x1x128.Idx) = (ix3 (0 : Fin 4) (0 : Fin 1) k) := by
    blk_ext [(wts t).2.2.2.1]
  unfold iblk
  rw [View.read_apply]
  erw [e]
  show V m c main_v31 _ = _
  entry_read
  pointwise
theorem blk6 (t : Fin cfg0.N) (k : Fin 128) (n : Fin 1024) : iblk m c 6 t (ix3 (0 : Fin 1) k n)
    = ag m c (ix2 0 k) := by
  have e : (((cfg0.win 6).blk t).view.emb (ix3 (0 : Fin 1) k n) : S4x128x1024.Idx) = (ix3 (0 : Fin 4) k n) := by
    blk_ext [(wts t).2.2.2.2.1]
  unfold iblk
  rw [View.read_apply]
  erw [e]
  show V m c main_v33 _ = _
  entry_read
  pointwise
theorem blk7 (t : Fin cfg0.N) (k : Fin 512) : iblk m c 7 t (ix3 (0 : Fin 1) (0 : Fin 1) k)
    = Ideal.log (al m c (ix2 0 k)) := by
  have e : (((cfg0.win 7).blk t).view.emb (ix3 (0 : Fin 1) (0 : Fin 1) k) : S4x1x512.Idx) = (ix3 (0 : Fin 4) (0 : Fin 1) k) := by
    blk_ext [(wts t).2.2.2.2.2.1]
  unfold iblk
  rw [View.read_apply]
  erw [e]
  show V m c main_v35 _ = _
  entry_read
  pointwise
theorem blk8 (t : Fin cfg0.N) (k : Fin 512) : iblk m c 8 t (ix3 (0 : Fin 1) (0 : Fin 1) k)
    = Ideal.log1p (-(al m c (ix2 0 k))) := by
  have e : (((cfg0.win 8).blk t).view.emb (ix3 (0 : Fin 1) (0 : Fin 1) k) : S4x1x512.Idx) = (ix3 (0 : Fin 4) (0 : Fin 1) k) := by
    blk_ext [(wts t).2.2.2.2.2.2]
  unfold iblk
  rw [View.read_apply]
  erw [e]
  show V m c main_v38 _ = _
  entry_read
  pointwise
theorem blk4 (t : Fin cfg0.N) (j : Fin 1024) (x : Fin 512) : iblk m c 4 t (ix3 (0 : Fin 1) j x)
    = ak m c (ix4 0 ⟨x.val / 64, by omega⟩ ⟨x.val % 64, by omega⟩ ⟨j.val % 128, by omega⟩) * qscale * (if x.val / 64 = j.val / 128 then 1 else 0) := by
  have e : (((cfg0.win 4).blk t).view.emb (ix3 (0 : Fin 1) j x) : S4x1024x512.Idx) = (ix3 (0 : Fin 4) j x) := by
    blk_ext [(wts t).2.2.1]
  unfold iblk
  rw [View.read_apply]
  erw [e]
  show V m c main_v30 _ = _
  entry_read
  pointwise
  rw [show ∀ z : EReal, z * Ideal.ofBits FTy.f32 1043900987#32 = z * qscale from fun _ => rfl]
  exact congrArg _ (eye_word ⟨x.val / 64, by omega⟩ ⟨j.val / 128, by omega⟩)
end Cert.Inproj

end

end
-- ==== Proof.Inproj.Results.lean ====
/-
  The twelve arrays the layer's input projection leaves, as functions of the arrays it is given.
-/
module

public import proofs.«01_k».proof.Proof.Inproj.Spec

@[expose] public section

noncomputable section

open Idealize.ShloMosaic

namespace Cert.Inproj

section

variable (x : (⟨3, ![8, 4096, 1024]⟩ : Shape).Idx → EReal) (a : (⟨3, ![8, 6, 1024]⟩ : Shape).Idx → EReal)
  (w : (⟨3, ![4, 1024, 3272]⟩ : Shape).Idx → EReal) (g : (⟨2, ![4, 128]⟩ : Shape).Idx → EReal)
  (k : (⟨4, ![4, 8, 64, 128]⟩ : Shape).Idx → EReal) (l : (⟨2, ![4, 512]⟩ : Shape).Idx → EReal)

/-- A token's columns. -/
def row (b : Fin 8) (s : Fin 4096) (j : Fin 3272) : EReal := col (token x a b s) w j

/-- A token's normalised latent. -/
def lat (b : Fin 8) (s : Fin 4096) (j : Fin 128) : EReal :=
  rms (fun i => row x a w b s ⟨512 + i.val, by omega⟩) (fun i => g (ix2 0 i)) j

/-- A token's log gate in channel `j`. -/
def loggate (b : Fin 8) (s : Fin 4096) (j : Fin 512) : EReal := gate (row x a w b s ⟨1736 + j.val, by omega⟩) (l (ix2 0 j))

def queriesAt (b : Fin 8) (s : Fin 4096) (j : Fin 1024) : EReal :=
  latent (row x a w b s) k j
def queries : (⟨3, ![8, 1024, 4096]⟩ : Shape).Idx → EReal := fun i => queriesAt x a w k (i 0) (i 2) (i 1)

def latentsAt (b : Fin 8) (s : Fin 4096) (j : Fin 128) : EReal :=
  lat x a w g b s j
def latents : (⟨3, ![8, 4096, 128]⟩ : Shape).Idx → EReal := fun i => latentsAt x a w g (i 0) (i 1) (i 2)

def latentsTAt (b : Fin 8) (s : Fin 4096) (j : Fin 144) : EReal :=
  if h : j.val < 128 then lat x a w g b s ⟨j.val, h⟩ else 1
def latentsT : (⟨3, ![8, 144, 4096]⟩ : Shape).Idx → EReal := fun i => latentsTAt x a w g (i 0) (i 2) (i 1)

def indexqAt (b : Fin 8) (s : Fin 4096) (j : Fin 512) : EReal :=
  row x a w b s ⟨640 + j.val, by omega⟩
def indexq : (⟨3, ![8, 512, 4096]⟩ : Shape).Idx → EReal := fun i => indexqAt x a w (i 0) (i 2) (i 1)

def indexaAt (b : Fin 8) (s : Fin 4096) (j : Fin 128) : EReal :=
  if h : j.val < 64 then row x a w b s ⟨1152 + j.val, by omega⟩ else 0
def indexa : (⟨3, ![8, 4096, 128]⟩ : Shape).Idx → EReal := fun i => indexaAt x a w (i 0) (i 1) (i 2)

def indexbAt (b : Fin 8) (s : Fin 4096) (j : Fin 128) : EReal :=
  if h : j.val < 64 then 0 else row x a w b s ⟨1152 + (j.val - 64), by omega⟩
def indexb : (⟨3, ![8, 4096, 128]⟩ : Shape).Idx → EReal := fun i => indexbAt x a w (i 0) (i 1) (i 2)

def indexwAt (b : Fin 8) (s : Fin 4096) (j : Fin 8) : EReal :=
  row x a w b s ⟨1216 + j.val, by omega⟩ * Ideal.ofBits FTy.f32 0x3D3504F3#32
def indexw : (⟨3, ![8, 8, 4096]⟩ : Shape).Idx → EReal := fun i => indexwAt x a w (i 0) (i 2) (i 1)

def gatedqAt (b : Fin 8) (s : Fin 4096) (j : Fin 512) : EReal :=
  swish (row x a w b s ⟨1224 + j.val, by omega⟩)
def gatedq : (⟨3, ![8, 4096, 512]⟩ : Shape).Idx → EReal := fun i => gatedqAt x a w (i 0) (i 1) (i 2)

def gatedkAt (b : Fin 8) (s : Fin 4096) (j : Fin 512) : EReal :=
  1 - Ideal.exp (loggate x a w l b s j)
def gatedk : (⟨3, ![8, 4096, 512]⟩ : Shape).Idx → EReal := fun i => gatedkAt x a w l (i 0) (i 1) (i 2)

def gatedlAt (b : Fin 8) (s : Fin 4096) (j : Fin 512) : EReal :=
  loggate x a w l b s j
def gatedl : (⟨3, ![8, 4096, 512]⟩ : Shape).Idx → EReal := fun i => gatedlAt x a w l (i 0) (i 1) (i 2)

def gatedvAt (b : Fin 8) (s : Fin 4096) (j : Fin 512) : EReal :=
  row x a w b s ⟨2248 + j.val, by omega⟩
def gatedv : (⟨3, ![8, 4096, 512]⟩ : Shape).Idx → EReal := fun i => gatedvAt x a w (i 0) (i 1) (i 2)

def gatedgAt (b : Fin 8) (s : Fin 4096) (j : Fin 512) : EReal :=
  swish (row x a w b s ⟨2760 + j.val, by omega⟩)
def gatedg : (⟨3, ![8, 4096, 512]⟩ : Shape).Idx → EReal := fun i => gatedgAt x a w (i 0) (i 1) (i 2)

end

end Cert.Inproj

end

end
-- ==== Proof.Inproj.Rows.lean ====
/-
  The products of the input projection at a grid point, column by column.
-/
module

public import proofs.«01_k».proof.Proof.Inproj.Blocks
public import proofs.«01_k».proof.Proof.Inproj.Results

@[expose] public section

noncomputable section

open Idealize.ShloMosaic Idealize.ShloMosaic.TcCoe Idealize.SL.Sem

namespace Cert.Inproj

open Cert.Kernel3Ideal Cert.Kernel3Ideal.Gen

variable (m : (ℓ : Loc nD τ sig) → Buf (Elt Ideal) ℓ) (c : Dev nD)

theorem rows_ckv (t : Fin cfg0.N) (r : Fin 1024) (k : Fin 128) : proj (iblk m c 0 t) (iblk m c 1 t) (iblk m c 2 t) (ix2 r (⟨k.val, by omega⟩ : Fin 2432))
    = row (ax m c) (am m c) (aw m c) (bat t) (pos t r) ⟨512 + k.val, by omega⟩ := by
  rw [proj_apply]
  unfold row col
  refine Finset.sum_congr rfl fun n _ => ?_
  rw [tok_eq, blk2_ckv]

theorem rows_ika (t : Fin cfg0.N) (r : Fin 1024) (k : Fin 64) : proj (iblk m c 0 t) (iblk m c 1 t) (iblk m c 2 t) (ix2 r (⟨128 + k.val, by omega⟩ : Fin 2432))
    = row (ax m c) (am m c) (aw m c) (bat t) (pos t r) ⟨1152 + k.val, by omega⟩ := by
  rw [proj_apply]
  unfold row col
  refine Finset.sum_congr rfl fun n _ => ?_
  rw [tok_eq, blk2_ika]

theorem rows_za (t : Fin cfg0.N) (r : Fin 1024) (k : Fin 64) : proj (iblk m c 0 t) (iblk m c 1 t) (iblk m c 2 t) (ix2 r (⟨192 + k.val, by omega⟩ : Fin 2432))
    = (0 : EReal) := by
  rw [proj_apply]
  refine Finset.sum_eq_zero fun n _ => ?_
  rw [blk2_za, mul_zero]

theorem rows_zb (t : Fin cfg0.N) (r : Fin 1024) (k : Fin 64) : proj (iblk m c 0 t) (iblk m c 1 t) (iblk m c 2 t) (ix2 r (⟨256 + k.val, by omega⟩ : Fin 2432))
    = (0 : EReal) := by
  rw [proj_apply]
  refine Finset.sum_eq_zero fun n _ => ?_
  rw [blk2_zb, mul_zero]

theorem rows_ikb (t : Fin cfg0.N) (r : Fin 1024) (k : Fin 64) : proj (iblk m c 0 t) (iblk m c 1 t) (iblk m c 2 t) (ix2 r (⟨320 + k.val, by omega⟩ : Fin 2432))
    = row (ax m c) (am m c) (aw m c) (bat t) (pos t r) ⟨1152 + k.val, by omega⟩ := by
  rw [proj_apply]
  unfold row col
  refine Finset.sum_congr rfl fun n _ => ?_
  rw [tok_eq, blk2_ikb]

theorem rows_hq (t : Fin cfg0.N) (r : Fin 1024) (k : Fin 512) : proj (iblk m c 0 t) (iblk m c 1 t) (iblk m c 2 t) (ix2 r (⟨384 + k.val, by omega⟩ : Fin 2432))
    = row (ax m c) (am m c) (aw m c) (bat t) (pos t r) ⟨1224 + k.val, by omega⟩ := by
  rw [proj_apply]
  unfold row col
  refine Finset.sum_congr rfl fun n _ => ?_
  rw [tok_eq, blk2_hq]

theorem rows_hf (t : Fin cfg0.N) (r : Fin 1024) (k : Fin 512) : proj (iblk m c 0 t) (iblk m c 1 t) (iblk m c 2 t) (ix2 r (⟨896 + k.val, by omega⟩ : Fin 2432))
    = row (ax m c) (am m c) (aw m c) (bat t) (pos t r) ⟨1736 + k.val, by omega⟩ := by
  rw [proj_apply]
  unfold row col
  refine Finset.sum_congr rfl fun n _ => ?_
  rw [tok_eq, blk2_hf]

theorem rows_hg (t : Fin cfg0.N) (r : Fin 1024) (k : Fin 512) : proj (iblk m c 0 t) (iblk m c 1 t) (iblk m c 2 t) (ix2 r (⟨1408 + k.val, by omega⟩ : Fin 2432))
    = row (ax m c) (am m c) (aw m c) (bat t) (pos t r) ⟨2760 + k.val, by omega⟩ := by
  rw [proj_apply]
  unfold row col
  refine Finset.sum_congr rfl fun n _ => ?_
  rw [tok_eq, blk2_hg]

theorem rows_hi (t : Fin cfg0.N) (r : Fin 1024) (k : Fin 512) : proj (iblk m c 0 t) (iblk m c 1 t) (iblk m c 2 t) (ix2 r (⟨1920 + k.val, by omega⟩ : Fin 2432))
    = row (ax m c) (am m c) (aw m c) (bat t) (pos t r) ⟨2248 + k.val, by omega⟩ := by
  rw [proj_apply]
  unfold row col
  refine Finset.sum_congr rfl fun n _ => ?_
  rw [tok_eq, blk2_hi]

theorem cols_aq (t : Fin cfg0.N) (r : Fin 1024) (k : Fin 512) : projT (iblk m c 0 t) (iblk m c 1 t) (iblk m c 3 t) (ix2 (⟨k.val, by omega⟩ : Fin 1160) r)
    = row (ax m c) (am m c) (aw m c) (bat t) (pos t r) ⟨k.val, by omega⟩ := by
  rw [projT_apply]
  unfold row col
  refine Finset.sum_congr rfl fun n _ => ?_
  rw [tok_eq, blk3_aq, mul_comm]

theorem cols_iq (t : Fin cfg0.N) (r : Fin 1024) (k : Fin 512) : projT (iblk m c 0 t) (iblk m c 1 t) (iblk m c 3 t) (ix2 (⟨512 + k.val, by omega⟩ : Fin 1160) r)
    = row (ax m c) (am m c) (aw m c) (bat t) (pos t r) ⟨640 + k.val, by omega⟩ := by
  rw [projT_apply]
  unfold row col
  refine Finset.sum_congr rfl fun n _ => ?_
  rw [tok_eq, blk3_iq, mul_comm]

theorem cols_ckv (t : Fin cfg0.N) (r : Fin 1024) (k : Fin 128) : projT (iblk m c 0 t) (iblk m c 1 t) (iblk m c 3 t) (ix2 (⟨1024 + k.val, by omega⟩ : Fin 1160) r)
    = row (ax m c) (am m c) (aw m c) (bat t) (pos t r) ⟨512 + k.val, by omega⟩ := by
  rw [projT_apply]
  unfold row col
  refine Finset.sum_congr rfl fun n _ => ?_
  rw [tok_eq, blk3_ckv, mul_comm]

theorem cols_iw (t : Fin cfg0.N) (r : Fin 1024) (k : Fin 8) : projT (iblk m c 0 t) (iblk m c 1 t) (iblk m c 3 t) (ix2 (⟨1152 + k.val, by omega⟩ : Fin 1160) r)
    = row (ax m c) (am m c) (aw m c) (bat t) (pos t r) ⟨1216 + k.val, by omega⟩ := by
  rw [projT_apply]
  unfold row col
  refine Finset.sum_congr rfl fun n _ => ?_
  rw [tok_eq, blk3_iw, mul_comm]

theorem qscale_nonneg : 0 ≤ qscale ∧ qscale ≠ ⊤ := by
  have h : ∃ y : ℝ, 0 ≤ y ∧ qscale = (y : EReal) := by
    unfold qscale Ideal.ofBits Ideal.ieee
    refine ⟨12102203 * (2 ^ 26)⁻¹, by positivity, ?_⟩
    simp
  obtain ⟨y, hy, e⟩ := h
  rw [e]
  exact ⟨by exact_mod_cast hy, EReal.coe_ne_top y⟩

/-- A common factor leaves a sum. -/
theorem sum_scale {n : ℕ} (f : Fin n → EReal) : ∑ i, f i * qscale = (∑ i, f i) * qscale := by
  have h : ∀ s : Finset (Fin n), ∑ i ∈ s, f i * qscale = (∑ i ∈ s, f i) * qscale := by
    intro s
    induction s using Finset.induction_on with
    | empty => simp
    | insert a s ha ih =>
      rw [Finset.sum_insert ha, Finset.sum_insert ha, ih, EReal.right_distrib_of_nonneg_of_ne_top qscale_nonneg.1 qscale_nonneg.2]
  exact h Finset.univ

/-- A sum over heads and head coordinates that keeps one head. -/
theorem sum_head (f : Fin 512 → EReal) (h : Fin 8) (hz : ∀ x : Fin 512, x.val / 64 ≠ h.val → f x = 0) :
    ∑ x, f x = ∑ d : Fin 64, f ⟨h.val * 64 + d.val, by omega⟩ := by
  rw [← (finProdFinEquiv : Fin 8 × Fin 64 ≃ Fin 512).sum_comp, Fintype.sum_prod_type, Finset.sum_eq_single h]
  · refine Finset.sum_congr rfl fun d _ => congrArg f (Fin.ext ?_)
    show d.val + 64 * h.val = h.val * 64 + d.val
    omega
  · intro b _ hb
    refine Finset.sum_eq_zero fun d _ => hz _ ?_
    show (d.val + 64 * b.val) / 64 ≠ h.val
    have : b.val ≠ h.val := fun e => hb (Fin.ext e)
    omega
  · intro hn
    exact absurd (Finset.mem_univ h) hn

/-- The latent query at a grid point. -/
theorem query_eq (t : Fin cfg0.N) (j r : Fin 1024) :
    k0_pay6 (iblk m c 0 t) (sh (iblk m c 1 t)) (sc (iblk m c 1 t)) (iblk m c 3 t) (iblk m c 4 t) (ix3 0 j r)
      = latent (row (ax m c) (am m c) (aw m c) (bat t) (pos t r)) (ak m c) j := by
  rw [pay6_apply]
  rw [sum_head _ ⟨j.val / 128, by omega⟩ fun x hx => by rw [blk4, if_neg hx, mul_zero, zero_mul]]
  unfold latent
  rw [← sum_scale]
  refine Finset.sum_congr rfl fun d _ => ?_
  rw [blk4, cols_aq]
  have e1 : (j.val / 128 * 64 + d.val) / 64 = j.val / 128 := by omega
  have e2 : (j.val / 128 * 64 + d.val) % 64 = d.val := by omega
  simp only [e1, e2, if_true, mul_one]
  exact mul_right_comm _ _ _

end Cert.Inproj

end

end
-- ==== Proof.Inproj.Value.lean ====
/-
  The arrays the input projection leaves.
-/
module

public import proofs.«01_k».proof.Proof.Inproj.Rows
public import proofs.«01_k».proof.Proof.Gen.Kernel3Ideal.Value

@[expose] public section

noncomputable section

open Idealize.ShloMosaic Idealize.ShloMosaic.TcCoe Idealize.SL.Sem

namespace Cert.Inproj

open Cert.Kernel3Ideal Cert.Kernel3Ideal.Gen

variable (m : (ℓ : Loc nD τ sig) → Buf (Elt Ideal) ℓ) (c : Dev nD)

theorem outs : ∀ t : Fin cfg0.N, win0_9.index t = ![t.val / 4, 0, t.val % 4]
    ∧ win0_10.index t = ![t.val / 4, t.val % 4, 0]
    ∧ win0_11.index t = ![t.val / 4, 0, t.val % 4]
    ∧ win0_12.index t = ![t.val / 4, 0, t.val % 4]
    ∧ win0_13.index t = ![t.val / 4, t.val % 4, 0]
    ∧ win0_14.index t = ![t.val / 4, t.val % 4, 0]
    ∧ win0_15.index t = ![t.val / 4, 0, t.val % 4]
    ∧ win0_16.index t = ![t.val / 4, t.val % 4, 0]
    ∧ win0_17.index t = ![t.val / 4, t.val % 4, 0]
    ∧ win0_18.index t = ![t.val / 4, t.val % 4, 0]
    ∧ win0_19.index t = ![t.val / 4, t.val % 4, 0]
    ∧ win0_20.index t = ![t.val / 4, t.val % 4, 0] := by decide +kernel

theorem canon_high (p : Vec Ideal S1x16x1024 .bf16) (q : Vec Ideal S1x128x1024 .bf16) (j : Fin 16) (r : Fin 1024) :
    View.canon (Val := Elt Ideal) (s := S1x144x1024) (e := .bf16) [⟨Rect.unit ![0, 128, 0] ![1, 16, 1024] inb_S1x144x1024_S1x16x1024_0_128_0, p⟩,
      ⟨Rect.unit ![0, 0, 0] ![1, 128, 1024] inb_S1x144x1024_S1x128x1024_0_0_0, q⟩] (ix3 (0 : Fin 1) (⟨128 + j.val, by omega⟩ : Fin 144) r) = p (ix3 0 j r) := by
  have e : (ix3 (0 : Fin 1) (⟨128 + j.val, by omega⟩ : Fin 144) r : S1x144x1024.Idx)
      = (Rect.unit (s := S1x144x1024) ![0, 128, 0] ![1, 16, 1024] inb_S1x144x1024_S1x16x1024_0_128_0).emb (ix3 (0 : Fin 1) j r) := by
    funext a
    apply Fin.ext
    match a with
    | ⟨0, _⟩ => rfl
    | ⟨1, _⟩ => show 128 + j.val = 128 + 1 * j.val; omega
    | ⟨2, _⟩ => show r.val = 0 + 1 * r.val; omega
  rw [e]
  exact View.canon_cons_emb (Rect.unit (s := S1x144x1024) ![0, 128, 0] ![1, 16, 1024] inb_S1x144x1024_S1x16x1024_0_128_0) p _ (ix3 (0 : Fin 1) j r)

theorem canon_low (p : Vec Ideal S1x16x1024 .bf16) (q : Vec Ideal S1x128x1024 .bf16) (j : Fin 128) (r : Fin 1024) :
    View.canon (Val := Elt Ideal) (s := S1x144x1024) (e := .bf16) [⟨Rect.unit ![0, 128, 0] ![1, 16, 1024] inb_S1x144x1024_S1x16x1024_0_128_0, p⟩,
      ⟨Rect.unit ![0, 0, 0] ![1, 128, 1024] inb_S1x144x1024_S1x128x1024_0_0_0, q⟩] (ix3 (0 : Fin 1) (⟨j.val, by omega⟩ : Fin 144) r) = q (ix3 0 j r) := by
  rw [View.canon_cons_of_not_mem _ _ (fun hm => by
    have h := ((Rect.mem_set_unit (inb := inb_S1x144x1024_S1x16x1024_0_128_0)).mp hm 1).1
    have h' : 128 ≤ j.val := h
    omega)]
  have e : (ix3 (0 : Fin 1) (⟨j.val, by omega⟩ : Fin 144) r : S1x144x1024.Idx)
      = (Rect.unit (s := S1x144x1024) ![0, 0, 0] ![1, 128, 1024] inb_S1x144x1024_S1x128x1024_0_0_0).emb (ix3 (0 : Fin 1) j r) := by
    funext a
    apply Fin.ext
    match a with
    | ⟨0, _⟩ => rfl
    | ⟨1, _⟩ => show j.val = 0 + 1 * j.val; omega
    | ⟨2, _⟩ => show r.val = 0 + 1 * r.val; omega
  rw [e]
  exact View.canon_cons_emb (Rect.unit (s := S1x144x1024) ![0, 0, 0] ![1, 128, 1024] inb_S1x144x1024_S1x128x1024_0_0_0) q _ (ix3 (0 : Fin 1) j r)

theorem point9 (t : Fin cfg0.N) : (outsAt0 m c t).1 = k0_pay6 (iblk m c 0 t) (sh (iblk m c 1 t)) (sc (iblk m c 1 t)) (iblk m c 3 t) (iblk m c 4 t) := by
  unfold outsAt0
  dsimp only
  rw [out9]

theorem elem9 (t : Fin cfg0.N) (r : Fin 1024) (j : Fin 1024) :
    (outsAt0 m c t).1 (ix3 (0 : Fin 1) j r) = queriesAt (ax m c) (am m c) (aw m c) (ak m c) (bat t) (pos t r) j := by
  rw [point9]
  exact query_eq m c t j r

theorem arr9 : (dats m 0 c).arrAt 9 cfg0.N = queries (ax m c) (am m c) (aw m c) (ak m c) := by
  refine (dats m 0 c).arrAt_eq_of_covers 9 _ (by decide +kernel) fun t hf y => ?_
  blk_simp
  rw [after0_9]
  obtain ⟨z, j, r, rfl⟩ : ∃ (z : Fin 1) (j : Fin 1024) (r : Fin 1024), y = ix3 z j r := ⟨y 0, y 1, y 2, eq_ix3 y⟩
  obtain rfl : z = 0 := Subsingleton.elim _ _
  have ht := lt32 t
  have e : ((win0_9.blk t).view.emb (ix3 (0 : Fin 1) j r) : S8x1024x4096.Idx) = (ix3 (bat t) j (pos t r)) := by
    unfold bat pos
    blk_ext [(outs t).1]
  erw [e]
  exact elem9 m c t r j

theorem point10 (t : Fin cfg0.N) : (outsAt0 m c t).2.1 = k0_pay9 (k0_pay7 (iblk m c 0 t) (sh (iblk m c 1 t)) (sc (iblk m c 1 t)) (iblk m c 2 t)) (k0_pay8 (iblk m c 0 t) (sh (iblk m c 1 t)) (sc (iblk m c 1 t)) (iblk m c 2 t)) (iblk m c 5 t) := by
  unfold outsAt0
  dsimp only
  rw [out10]

theorem elem10 (t : Fin cfg0.N) (r : Fin 1024) (j : Fin 128) :
    (outsAt0 m c t).2.1 (ix3 (0 : Fin 1) r j) = latentsAt (ax m c) (am m c) (aw m c) (ag m c) (bat t) (pos t r) j := by
  rw [point10]
  refine (pay9_apply _ _ _ r j ?_).trans ?_
  · rw [pay8_apply]
    simp only [pay7_apply]
  · unfold latentsAt lat
    simp only [pay7_apply, rows_ckv, blk5]

theorem arr10 : (dats m 0 c).arrAt 10 cfg0.N = latents (ax m c) (am m c) (aw m c) (ag m c) := by
  refine (dats m 0 c).arrAt_eq_of_covers 10 _ (by decide +kernel) fun t hf y => ?_
  blk_simp
  rw [after0_10]
  obtain ⟨z, r, j, rfl⟩ : ∃ (z : Fin 1) (r : Fin 1024) (j : Fin 128), y = ix3 z r j := ⟨y 0, y 1, y 2, eq_ix3 y⟩
  obtain rfl : z = 0 := Subsingleton.elim _ _
  have ht := lt32 t
  have e : ((win0_10.blk t).view.emb (ix3 (0 : Fin 1) r j) : S8x4096x128.Idx) = (ix3 (bat t) (pos t r) j) := by
    unfold bat pos
    blk_ext [(outs t).2.1]
  erw [e]
  exact elem10 m c t r j

theorem point11 (t : Fin cfg0.N) : (outsAt0 m c t).2.2.1 = View.canon [⟨Rect.unit ![0, 128, 0] ![1, 16, 1024] inb_S1x144x1024_S1x16x1024_0_128_0, k0_pay12 (F := Ideal) k0_pay11⟩,
      ⟨Rect.unit ![0, 0, 0] ![1, 128, 1024] inb_S1x144x1024_S1x128x1024_0_0_0, k0_pay10 (projT (iblk m c 0 t) (iblk m c 1 t) (iblk m c 3 t)) (iblk m c 6 t)⟩] := by
  unfold outsAt0
  dsimp only
  rw [out11]

theorem elem11 (t : Fin cfg0.N) (r : Fin 1024) (j : Fin 144) :
    (outsAt0 m c t).2.2.1 (ix3 (0 : Fin 1) j r) = latentsTAt (ax m c) (am m c) (aw m c) (ag m c) (bat t) (pos t r) j := by
  rw [point11]
  unfold latentsTAt
  by_cases h : j.val < 128
  · rw [dif_pos h]
    refine (canon_low _ _ ⟨j.val, h⟩ r).trans ?_
    rw [pay10_apply]
    unfold lat
    simp only [cols_ckv, blk6]
  · rw [dif_neg h]
    have e : j = ⟨128 + (⟨j.val - 128, by omega⟩ : Fin 16).val, by omega⟩ := Fin.ext (by show j.val = 128 + (j.val - 128); omega)
    rw [e]
    refine (canon_high _ _ ⟨j.val - 128, by omega⟩ r).trans ?_
    exact pay12_apply r _

theorem arr11 : (dats m 0 c).arrAt 11 cfg0.N = latentsT (ax m c) (am m c) (aw m c) (ag m c) := by
  refine (dats m 0 c).arrAt_eq_of_covers 11 _ (by decide +kernel) fun t hf y => ?_
  blk_simp
  rw [after0_11]
  obtain ⟨z, j, r, rfl⟩ : ∃ (z : Fin 1) (j : Fin 144) (r : Fin 1024), y = ix3 z j r := ⟨y 0, y 1, y 2, eq_ix3 y⟩
  obtain rfl : z = 0 := Subsingleton.elim _ _
  have ht := lt32 t
  have e : ((win0_11.blk t).view.emb (ix3 (0 : Fin 1) j r) : S8x144x4096.Idx) = (ix3 (bat t) j (pos t r)) := by
    unfold bat pos
    blk_ext [(outs t).2.2.1]
  erw [e]
  exact elem11 m c t r j

theorem point12 (t : Fin cfg0.N) : (outsAt0 m c t).2.2.2.1 = k0_pay13 (projT (iblk m c 0 t) (iblk m c 1 t) (iblk m c 3 t)) := by
  unfold outsAt0
  dsimp only
  rw [out12]

theorem elem12 (t : Fin cfg0.N) (r : Fin 1024) (j : Fin 512) :
    (outsAt0 m c t).2.2.2.1 (ix3 (0 : Fin 1) j r) = indexqAt (ax m c) (am m c) (aw m c) (bat t) (pos t r) j := by
  rw [point12]
  rw [pay13_apply]
  exact cols_iq m c t r j

theorem arr12 : (dats m 0 c).arrAt 12 cfg0.N = indexq (ax m c) (am m c) (aw m c) := by
  refine (dats m 0 c).arrAt_eq_of_covers 12 _ (by decide +kernel) fun t hf y => ?_
  blk_simp
  rw [after0_12]
  obtain ⟨z, j, r, rfl⟩ : ∃ (z : Fin 1) (j : Fin 512) (r : Fin 1024), y = ix3 z j r := ⟨y 0, y 1, y 2, eq_ix3 y⟩
  obtain rfl : z = 0 := Subsingleton.elim _ _
  have ht := lt32 t
  have e : ((win0_12.blk t).view.emb (ix3 (0 : Fin 1) j r) : S8x512x4096.Idx) = (ix3 (bat t) j (pos t r)) := by
    unfold bat pos
    blk_ext [(outs t).2.2.2.1]
  erw [e]
  exact elem12 m c t r j

theorem point13 (t : Fin cfg0.N) : (outsAt0 m c t).2.2.2.2.1 = k0_pay14 (proj (iblk m c 0 t) (iblk m c 1 t) (iblk m c 2 t)) := by
  unfold outsAt0
  dsimp only
  rw [out13]

theorem elem13 (t : Fin cfg0.N) (r : Fin 1024) (j : Fin 128) :
    (outsAt0 m c t).2.2.2.2.1 (ix3 (0 : Fin 1) r j) = indexaAt (ax m c) (am m c) (aw m c) (bat t) (pos t r) j := by
  rw [point13]
  rw [pay14_apply]
  unfold indexaAt
  by_cases h : j.val < 64
  · rw [dif_pos h]
    exact rows_ika m c t r ⟨j.val, h⟩
  · rw [dif_neg h]
    have e : (⟨128 + j.val, by omega⟩ : Fin 2432) = ⟨192 + (⟨j.val - 64, by omega⟩ : Fin 64).val, by omega⟩ := Fin.ext (by show 128 + j.val = 192 + (j.val - 64); omega)
    rw [e]
    exact rows_za m c t r ⟨j.val - 64, by omega⟩

theorem arr13 : (dats m 0 c).arrAt 13 cfg0.N = indexa (ax m c) (am m c) (aw m c) := by
  refine (dats m 0 c).arrAt_eq_of_covers 13 _ (by decide +kernel) fun t hf y => ?_
  blk_simp
  rw [after0_13]
  obtain ⟨z, r, j, rfl⟩ : ∃ (z : Fin 1) (r : Fin 1024) (j : Fin 128), y = ix3 z r j := ⟨y 0, y 1, y 2, eq_ix3 y⟩
  obtain rfl : z = 0 := Subsingleton.elim _ _
  have ht := lt32 t
  have e : ((win0_13.blk t).view.emb (ix3 (0 : Fin 1) r j) : S8x4096x128.Idx) = (ix3 (bat t) (pos t r) j) := by
    unfold bat pos
    blk_ext [(outs t).2.2.2.2.1]
  erw [e]
  exact elem13 m c t r j

theorem point14 (t : Fin cfg0.N) : (outsAt0 m c t).2.2.2.2.2.1 = k0_pay15 (proj (iblk m c 0 t) (iblk m c 1 t) (iblk m c 2 t)) := by
  unfold outsAt0
  dsimp only
  rw [out14]

theorem elem14 (t : Fin cfg0.N) (r : Fin 1024) (j : Fin 128) :
    (outsAt0 m c t).2.2.2.2.2.1 (ix3 (0 : Fin 1) r j) = indexbAt (ax m c) (am m c) (aw m c) (bat t) (pos t r) j := by
  rw [point14]
  rw [pay15_apply]
  unfold indexbAt
  by_cases h : j.val < 64
  · rw [dif_pos h]
    exact rows_zb m c t r ⟨j.val, h⟩
  · rw [dif_neg h]
    have e : (⟨256 + j.val, by omega⟩ : Fin 2432) = ⟨320 + (⟨j.val - 64, by omega⟩ : Fin 64).val, by omega⟩ := Fin.ext (by show 256 + j.val = 320 + (j.val - 64); omega)
    rw [e]
    exact rows_ikb m c t r ⟨j.val - 64, by omega⟩

theorem arr14 : (dats m 0 c).arrAt 14 cfg0.N = indexb (ax m c) (am m c) (aw m c) := by
  refine (dats m 0 c).arrAt_eq_of_covers 14 _ (by decide +kernel) fun t hf y => ?_
  blk_simp
  rw [after0_14]
  obtain ⟨z, r, j, rfl⟩ : ∃ (z : Fin 1) (r : Fin 1024) (j : Fin 128), y = ix3 z r j := ⟨y 0, y 1, y 2, eq_ix3 y⟩
  obtain rfl : z = 0 := Subsingleton.elim _ _
  have ht := lt32 t
  have e : ((win0_14.blk t).view.emb (ix3 (0 : Fin 1) r j) : S8x4096x128.Idx) = (ix3 (bat t) (pos t r) j) := by
    unfold bat pos
    blk_ext [(outs t).2.2.2.2.2.1]
  erw [e]
  exact elem14 m c t r j

theorem point15 (t : Fin cfg0.N) : (outsAt0 m c t).2.2.2.2.2.2.1 = k0_pay16 (projT (iblk m c 0 t) (iblk m c 1 t) (iblk m c 3 t)) := by
  unfold outsAt0
  dsimp only
  rw [out15]

theorem elem15 (t : Fin cfg0.N) (r : Fin 1024) (j : Fin 8) :
    (outsAt0 m c t).2.2.2.2.2.2.1 (ix3 (0 : Fin 1) j r) = indexwAt (ax m c) (am m c) (aw m c) (bat t) (pos t r) j := by
  rw [point15]
  rw [pay16_apply, cols_iw]
  rfl

theorem arr15 : (dats m 0 c).arrAt 15 cfg0.N = indexw (ax m c) (am m c) (aw m c) := by
  refine (dats m 0 c).arrAt_eq_of_covers 15 _ (by decide +kernel) fun t hf y => ?_
  blk_simp
  rw [after0_15]
  obtain ⟨z, j, r, rfl⟩ : ∃ (z : Fin 1) (j : Fin 8) (r : Fin 1024), y = ix3 z j r := ⟨y 0, y 1, y 2, eq_ix3 y⟩
  obtain rfl : z = 0 := Subsingleton.elim _ _
  have ht := lt32 t
  have e : ((win0_15.blk t).view.emb (ix3 (0 : Fin 1) j r) : S8x8x4096.Idx) = (ix3 (bat t) j (pos t r)) := by
    unfold bat pos
    blk_ext [(outs t).2.2.2.2.2.2.1]
  erw [e]
  exact elem15 m c t r j

theorem point16 (t : Fin cfg0.N) : (outsAt0 m c t).2.2.2.2.2.2.2.1 = k0_pay17 (proj (iblk m c 0 t) (iblk m c 1 t) (iblk m c 2 t)) := by
  unfold outsAt0
  dsimp only
  rw [out16]

theorem elem16 (t : Fin cfg0.N) (r : Fin 1024) (j : Fin 512) :
    (outsAt0 m c t).2.2.2.2.2.2.2.1 (ix3 (0 : Fin 1) r j) = gatedqAt (ax m c) (am m c) (aw m c) (bat t) (pos t r) j := by
  rw [point16]
  rw [pay17_apply, rows_hq]
  rfl

theorem arr16 : (dats m 0 c).arrAt 16 cfg0.N = gatedq (ax m c) (am m c) (aw m c) := by
  refine (dats m 0 c).arrAt_eq_of_covers 16 _ (by decide +kernel) fun t hf y => ?_
  blk_simp
  rw [after0_16]
  obtain ⟨z, r, j, rfl⟩ : ∃ (z : Fin 1) (r : Fin 1024) (j : Fin 512), y = ix3 z r j := ⟨y 0, y 1, y 2, eq_ix3 y⟩
  obtain rfl : z = 0 := Subsingleton.elim _ _
  have ht := lt32 t
  have e : ((win0_16.blk t).view.emb (ix3 (0 : Fin 1) r j) : S8x4096x512.Idx) = (ix3 (bat t) (pos t r) j) := by
    unfold bat pos
    blk_ext [(outs t).2.2.2.2.2.2.2.1]
  erw [e]
  exact elem16 m c t r j

theorem point17 (t : Fin cfg0.N) : (outsAt0 m c t).2.2.2.2.2.2.2.2.1 = k0_pay21 (k0_pay18 (proj (iblk m c 0 t) (iblk m c 1 t) (iblk m c 2 t))) (iblk m c 7 t) (iblk m c 8 t) := by
  unfold outsAt0
  dsimp only
  rw [out17]

theorem elem17 (t : Fin cfg0.N) (r : Fin 1024) (j : Fin 512) :
    (outsAt0 m c t).2.2.2.2.2.2.2.2.1 (ix3 (0 : Fin 1) r j) = gatedkAt (ax m c) (am m c) (aw m c) (al m c) (bat t) (pos t r) j := by
  rw [point17]
  rw [pay21_apply, pay19_apply, rows_hf, blk7, blk8]
  rfl

theorem arr17 : (dats m 0 c).arrAt 17 cfg0.N = gatedk (ax m c) (am m c) (aw m c) (al m c) := by
  refine (dats m 0 c).arrAt_eq_of_covers 17 _ (by decide +kernel) fun t hf y => ?_
  blk_simp
  rw [after0_17]
  obtain ⟨z, r, j, rfl⟩ : ∃ (z : Fin 1) (r : Fin 1024) (j : Fin 512), y = ix3 z r j := ⟨y 0, y 1, y 2, eq_ix3 y⟩
  obtain rfl : z = 0 := Subsingleton.elim _ _
  have ht := lt32 t
  have e : ((win0_17.blk t).view.emb (ix3 (0 : Fin 1) r j) : S8x4096x512.Idx) = (ix3 (bat t) (pos t r) j) := by
    unfold bat pos
    blk_ext [(outs t).2.2.2.2.2.2.2.2.1]
  erw [e]
  exact elem17 m c t r j

theorem point18 (t : Fin cfg0.N) : (outsAt0 m c t).2.2.2.2.2.2.2.2.2.1 = k0_pay20 (k0_pay18 (proj (iblk m c 0 t) (iblk m c 1 t) (iblk m c 2 t))) (iblk m c 7 t) (iblk m c 8 t) := by
  unfold outsAt0
  dsimp only
  rw [out18]

theorem elem18 (t : Fin cfg0.N) (r : Fin 1024) (j : Fin 512) :
    (outsAt0 m c t).2.2.2.2.2.2.2.2.2.1 (ix3 (0 : Fin 1) r j) = gatedlAt (ax m c) (am m c) (aw m c) (al m c) (bat t) (pos t r) j := by
  rw [point18]
  rw [pay20_apply, pay19_apply, rows_hf, blk7, blk8]
  rfl

theorem arr18 : (dats m 0 c).arrAt 18 cfg0.N = gatedl (ax m c) (am m c) (aw m c) (al m c) := by
  refine (dats m 0 c).arrAt_eq_of_covers 18 _ (by decide +kernel) fun t hf y => ?_
  blk_simp
  rw [after0_18]
  obtain ⟨z, r, j, rfl⟩ : ∃ (z : Fin 1) (r : Fin 1024) (j : Fin 512), y = ix3 z r j := ⟨y 0, y 1, y 2, eq_ix3 y⟩
  obtain rfl : z = 0 := Subsingleton.elim _ _
  have ht := lt32 t
  have e : ((win0_18.blk t).view.emb (ix3 (0 : Fin 1) r j) : S8x4096x512.Idx) = (ix3 (bat t) (pos t r) j) := by
    unfold bat pos
    blk_ext [(outs t).2.2.2.2.2.2.2.2.2.1]
  erw [e]
  exact elem18 m c t r j

theorem point19 (t : Fin cfg0.N) : (outsAt0 m c t).2.2.2.2.2.2.2.2.2.2.1 = k0_pay2 (proj (iblk m c 0 t) (iblk m c 1 t) (iblk m c 2 t)) := by
  unfold outsAt0
  dsimp only
  rw [out19]

theorem elem19 (t : Fin cfg0.N) (r : Fin 1024) (j : Fin 512) :
    (outsAt0 m c t).2.2.2.2.2.2.2.2.2.2.1 (ix3 (0 : Fin 1) r j) = gatedvAt (ax m c) (am m c) (aw m c) (bat t) (pos t r) j := by
  rw [point19]
  rw [pay2_apply]
  exact rows_hi m c t r j

theorem arr19 : (dats m 0 c).arrAt 19 cfg0.N = gatedv (ax m c) (am m c) (aw m c) := by
  refine (dats m 0 c).arrAt_eq_of_covers 19 _ (by decide +kernel) fun t hf y => ?_
  blk_simp
  rw [after0_19]
  obtain ⟨z, r, j, rfl⟩ : ∃ (z : Fin 1) (r : Fin 1024) (j : Fin 512), y = ix3 z r j := ⟨y 0, y 1, y 2, eq_ix3 y⟩
  obtain rfl : z = 0 := Subsingleton.elim _ _
  have ht := lt32 t
  have e : ((win0_19.blk t).view.emb (ix3 (0 : Fin 1) r j) : S8x4096x512.Idx) = (ix3 (bat t) (pos t r) j) := by
    unfold bat pos
    blk_ext [(outs t).2.2.2.2.2.2.2.2.2.2.1]
  erw [e]
  exact elem19 m c t r j

theorem point20 (t : Fin cfg0.N) : (outsAt0 m c t).2.2.2.2.2.2.2.2.2.2.2 = k0_pay1 (k0_pay22 (proj (iblk m c 0 t) (iblk m c 1 t) (iblk m c 2 t))) (k0_pay23 (proj (iblk m c 0 t) (iblk m c 1 t) (iblk m c 2 t))) (Scalar.ofBits .f32 0x3F800000#32) := by
  unfold outsAt0
  dsimp only
  rw [out20]

theorem elem20 (t : Fin cfg0.N) (r : Fin 1024) (j : Fin 512) :
    (outsAt0 m c t).2.2.2.2.2.2.2.2.2.2.2 (ix3 (0 : Fin 1) r j) = gatedgAt (ax m c) (am m c) (aw m c) (bat t) (pos t r) j := by
  rw [point20]
  rw [pay1_apply, rows_hg]
  rfl

theorem arr20 : (dats m 0 c).arrAt 20 cfg0.N = gatedg (ax m c) (am m c) (aw m c) := by
  refine (dats m 0 c).arrAt_eq_of_covers 20 _ (by decide +kernel) fun t hf y => ?_
  blk_simp
  rw [after0_20]
  obtain ⟨z, r, j, rfl⟩ : ∃ (z : Fin 1) (r : Fin 1024) (j : Fin 512), y = ix3 z r j := ⟨y 0, y 1, y 2, eq_ix3 y⟩
  obtain rfl : z = 0 := Subsingleton.elim _ _
  have ht := lt32 t
  have e : ((win0_20.blk t).view.emb (ix3 (0 : Fin 1) r j) : S8x4096x512.Idx) = (ix3 (bat t) (pos t r) j) := by
    unfold bat pos
    blk_ext [(outs t).2.2.2.2.2.2.2.2.2.2.2]
  erw [e]
  exact elem20 m c t r j

end Cert.Inproj

end

end
-- ==== Proof.Inproj.Ref.lean ====
/-
  What the reference of the input projection computes, over the arrays it is given.
-/
module

public import proofs.«01_k».proof.Proof.Inproj.Spec
public import proofs.«01_k».proof.Proof.Gen.Reference3Ideal.Run
public import Idealize.ShloMosaic.Lib.Pointwise
public import Idealize.ShloMosaic.Lib.ValueIdx
public import Idealize.ShloMosaic.Lib.ValueLayout

@[expose] public section

noncomputable section

open Idealize.ShloMosaic Idealize.ShloMosaic.TcCoe Idealize.SL.Sem

namespace Cert.Inproj.Ref

open Cert.Reference3Ideal Cert.Reference3Ideal.Gen Cert.Reference3Ideal.Value

/-- The modulated tokens. -/
def tokens (a0 : FVec Ideal S8x4096x1024 .f32) (a1 : FVec Ideal S8x6x1024 .f32) : FVec Ideal S8x4096x1024 .f32 :=
  (addf (mulf a0 (broadcastInDim S8x4096x1024 ![0, 1, 2] bcast_S8x1x1024_S8x4096x1024_0_1_2 (addf (broadcastInDim S8x1x1024 ![] bcast_S_S8x1x1024 (constant S_ .f32 0x3F800000#32)) (broadcastInDim S8x1x1024 ![0, 2] bcast_S8x1024_S8x1x1024_0_2 (shapeCast S8x1024 (extractStridedSlice S8x1x1024 ![0, 1, 0] a1 slices_S8x6x1024_S8x1x1024_0_1_0) shapeCasts_S8x1x1024_S8x1024))))) (broadcastInDim S8x4096x1024 ![0, 1, 2] bcast_S8x1x1024_S8x4096x1024_0_1_2 (broadcastInDim S8x1x1024 ![0, 2] bcast_S8x1024_S8x1x1024_0_2 (shapeCast S8x1024 (extractStridedSlice S8x1x1024 ![0, 0, 0] a1 slices_S8x6x1024_S8x1x1024_0_0_0) shapeCasts_S8x1x1024_S8x1024))))

/-- The tokens through the first layer's weights. -/
def zed (u : FVec Ideal S8x4096x1024 .f32) (a2 : FVec Ideal S4x1024x3272 .f32) : FVec Ideal S8x4096x3272 .f32 :=
  Host.dotGeneral dot_S8x4096x1024_S1024x3272_S8x4096x3272_2_0_01_1_n_n none u (shapeCast S1024x3272 (extractStridedSlice S1x1024x3272 ![0, 0, 0] a2 slices_S4x1024x3272_S1x1024x3272_0_0_0) shapeCasts_S1x1024x3272_S1024x3272)

/-- The queries carried into the latent space. -/
def qlat (z : FVec Ideal S8x4096x3272 .f32) (a4 : FVec Ideal S4x8x64x128 .f32) : FVec Ideal S8x1024x4096 .bf16 :=
  truncf .bf16 (transpose S8x1024x4096 [0, 2, 1] (shapeCast S8x4096x1024 (mulf (transpose S8x4096x8x128 [2, 3, 0, 1] (Host.dotGeneral dot_S8x64x128_S8x4096x8x64_S8x128x8x4096_1_3_2_01_0_2 none (shapeCast S8x64x128 (extractStridedSlice S1x8x64x128 ![0, 0, 0, 0] a4 slices_S4x8x64x128_S1x8x64x128_0_0_0_0) shapeCasts_S1x8x64x128_S8x64x128) (shapeCast S8x4096x8x64 (extractStridedSlice S8x4096x512 ![0, 0, 0] z slices_S8x4096x3272_S8x4096x512_0_0_0) shapeCasts_S8x4096x512_S8x4096x8x64)) transposes_S8x128x8x4096_S8x4096x8x128_2_3_0_1) (broadcastInDim S8x4096x8x128 ![] bcast_S_S8x4096x8x128 (constant S_ .f32 0x3E38AA3B#32))) shapeCasts_S8x4096x8x128_S8x4096x1024) transposes_S8x4096x1024_S8x1024x4096_0_2_1) bitsLt_bf16_f32

/-- The normalised rows. -/
def norm (v : FVec Ideal S8x4096x128 .f32) (a3 : FVec Ideal S4x128 .f32) : FVec Ideal S8x4096x128 .f32 :=
  (mulf (mulf v (broadcastInDim S8x4096x128 ![0, 1, 2] bcast_S8x4096x1_S8x4096x128_0_1_2 (Host.rsqrt (addf (Host.divf (broadcastInDim S8x4096x1 ![0, 1] bcast_S8x4096_S8x4096x1_0_1 (Host.reduceAdd (mulf v v) (constant S_ .f32 0x00000000#32) reducesTo_S8x4096x128_S8x4096_d2 h_S_)) (broadcastInDim S8x4096x1 ![] bcast_S_S8x4096x1 (constant S_ .f32 0x43000000#32))) (broadcastInDim S8x4096x1 ![] bcast_S_S8x4096x1 (constant S_ .f32 0x358637BD#32)))))) (broadcastInDim S8x4096x128 ![0, 1, 2] bcast_S1x1x128_S8x4096x128_0_1_2 (broadcastInDim S1x1x128 ![2] bcast_S128_S1x1x128_2 (shapeCast S128 (extractStridedSlice S1x128 ![0, 0] a3 slices_S4x128_S1x128_0_0) shapeCasts_S1x128_S128))))

/-- The latent columns. -/
def ckv0 (z : FVec Ideal S8x4096x3272 .f32) : FVec Ideal S8x4096x128 .f32 :=
  (extractStridedSlice S8x4096x128 ![0, 0, 512] z slices_S8x4096x3272_S8x4096x128_0_0_512)

/-- The latent rows as columns, and rows of ones under them. -/
def ckvT (r : FVec Ideal S8x4096x128 .f32) : FVec Ideal S8x144x4096 .bf16 :=
  truncf .bf16 (concatenate S8x144x4096 1 [⟨S8x128x4096, (transpose S8x128x4096 [0, 2, 1] r transposes_S8x4096x128_S8x128x4096_0_2_1)⟩, ⟨S8x16x4096, (broadcastInDim S8x16x4096 ![] bcast_S_S8x16x4096 (constant S_ .f32 0x3F800000#32))⟩] concatenates_S8x128x4096_S8x16x4096_S8x144x4096_d1) bitsLt_bf16_f32

/-- The index queries. -/
def iqT (z : FVec Ideal S8x4096x3272 .f32) : FVec Ideal S8x512x4096 .bf16 :=
  truncf .bf16 (transpose S8x512x4096 [0, 2, 1] (extractStridedSlice S8x4096x512 ![0, 0, 640] z slices_S8x4096x3272_S8x4096x512_0_0_640) transposes_S8x4096x512_S8x512x4096_0_2_1) bitsLt_bf16_f32

/-- The index keys, zeros after. -/
def ikA (z : FVec Ideal S8x4096x3272 .f32) : FVec Ideal S8x4096x128 .bf16 :=
  truncf .bf16 (concatenate S8x4096x128 2 [⟨S8x4096x64, (extractStridedSlice S8x4096x64 ![0, 0, 1152] z slices_S8x4096x3272_S8x4096x64_0_0_1152)⟩, ⟨S8x4096x64, (broadcastInDim S8x4096x64 ![] bcast_S_S8x4096x64 (constant S_ .f32 0x00000000#32))⟩] concatenates_S8x4096x64_S8x4096x64_S8x4096x128_d2) bitsLt_bf16_f32

/-- The index keys, zeros before. -/
def ikB (z : FVec Ideal S8x4096x3272 .f32) : FVec Ideal S8x4096x128 .bf16 :=
  truncf .bf16 (concatenate S8x4096x128 2 [⟨S8x4096x64, (broadcastInDim S8x4096x64 ![] bcast_S_S8x4096x64 (constant S_ .f32 0x00000000#32))⟩, ⟨S8x4096x64, (extractStridedSlice S8x4096x64 ![0, 0, 1152] z slices_S8x4096x3272_S8x4096x64_0_0_1152)⟩] concatenates_S8x4096x64_S8x4096x64_S8x4096x128_d2) bitsLt_bf16_f32

/-- The index weights. -/
def iwT (z : FVec Ideal S8x4096x3272 .f32) : FVec Ideal S8x8x4096 .f32 :=
  transpose S8x8x4096 [0, 2, 1] (mulf (extractStridedSlice S8x4096x8 ![0, 0, 1216] z slices_S8x4096x3272_S8x4096x8_0_0_1216) (broadcastInDim S8x4096x8 ![] bcast_S_S8x4096x8 (constant S_ .f32 0x3D3504F3#32))) transposes_S8x4096x8_S8x8x4096_0_2_1

/-- The recurrence's queries. -/
def hq (z : FVec Ideal S8x4096x3272 .f32) : FVec Ideal S8x4096x512 .f32 :=
  mulf (extractStridedSlice S8x4096x512 ![0, 0, 1224] z slices_S8x4096x3272_S8x4096x512_0_0_1224) (Host.divf (broadcastInDim S8x4096x512 ![] bcast_S_S8x4096x512 (constant S_ .f32 0x3F800000#32)) (addf (broadcastInDim S8x4096x512 ![] bcast_S_S8x4096x512 (constant S_ .f32 0x3F800000#32)) (Host.exp (Host.negf (extractStridedSlice S8x4096x512 ![0, 0, 1224] z slices_S8x4096x3272_S8x4096x512_0_0_1224)))))

/-- The recurrence's gate columns. -/
def hf (z : FVec Ideal S8x4096x3272 .f32) : FVec Ideal S8x4096x512 .f32 :=
  (extractStridedSlice S8x4096x512 ![0, 0, 1736] z slices_S8x4096x3272_S8x4096x512_0_0_1736)

/-- The logarithm of the logistic. -/
def lsig (f : FVec Ideal S8x4096x512 .f32) : FVec Ideal S8x4096x512 .f32 :=
  (Host.negf (select (cmpf .une (subf (Host.negf f) (broadcastInDim S8x4096x512 ![] bcast_S_S8x4096x512 (constant S_ .f32 0x00000000#32))) (subf (Host.negf f) (broadcastInDim S8x4096x512 ![] bcast_S_S8x4096x512 (constant S_ .f32 0x00000000#32)))) (addf (Host.negf f) (broadcastInDim S8x4096x512 ![] bcast_S_S8x4096x512 (constant S_ .f32 0x00000000#32))) (addf (maximumf (Host.negf f) (broadcastInDim S8x4096x512 ![] bcast_S_S8x4096x512 (constant S_ .f32 0x00000000#32))) (Host.log1p (Host.exp (Host.negf (Host.absf (subf (Host.negf f) (broadcastInDim S8x4096x512 ![] bcast_S_S8x4096x512 (constant S_ .f32 0x00000000#32))))))))))

/-- The bounds' logarithms. -/
def la (a5 : FVec Ideal S4x512 .f32) : FVec Ideal S8x4096x512 .f32 :=
  (broadcastInDim S8x4096x512 ![0, 1, 2] bcast_S1x1x512_S8x4096x512_0_1_2 (broadcastInDim S1x1x512 ![2] bcast_S512_S1x1x512_2 (Host.log (shapeCast S512 (extractStridedSlice S1x512 ![0, 0] a5 slices_S4x512_S1x512_0_0) shapeCasts_S1x512_S512))))

/-- The gates' logarithms under the bounds. -/
def lb (a5 : FVec Ideal S4x512 .f32) (s : FVec Ideal S8x4096x512 .f32) : FVec Ideal S8x4096x512 .f32 :=
  (addf (broadcastInDim S8x4096x512 ![0, 1, 2] bcast_S1x1x512_S8x4096x512_0_1_2 (broadcastInDim S1x1x512 ![2] bcast_S512_S1x1x512_2 (Host.log1p (Host.negf (shapeCast S512 (extractStridedSlice S1x512 ![0, 0] a5 slices_S4x512_S1x512_0_0) shapeCasts_S1x512_S512))))) s)

/-- The logarithm of a sum of exponentials. -/
def ladd (a b : FVec Ideal S8x4096x512 .f32) : FVec Ideal S8x4096x512 .f32 :=
  select (cmpf .une (subf a b) (subf a b)) (addf a b) (addf (maximumf a b) (Host.log1p (Host.exp (Host.negf (Host.absf (subf a b))))))

/-- The recurrence's keys. -/
def hk (l : FVec Ideal S8x4096x512 .f32) : FVec Ideal S8x4096x512 .f32 :=
  subf (broadcastInDim S8x4096x512 ![] bcast_S_S8x4096x512 (constant S_ .f32 0x3F800000#32)) (Host.exp l)

/-- The recurrence's values. -/
def hv (z : FVec Ideal S8x4096x3272 .f32) : FVec Ideal S8x4096x512 .bf16 :=
  truncf .bf16 (extractStridedSlice S8x4096x512 ![0, 0, 2248] z slices_S8x4096x3272_S8x4096x512_0_0_2248) bitsLt_bf16_f32

/-- The output gate. -/
def hgate (z : FVec Ideal S8x4096x3272 .f32) : FVec Ideal S8x4096x512 .f32 :=
  mulf (extractStridedSlice S8x4096x512 ![0, 0, 2760] z slices_S8x4096x3272_S8x4096x512_0_0_2760) (Host.divf (broadcastInDim S8x4096x512 ![] bcast_S_S8x4096x512 (constant S_ .f32 0x3F800000#32)) (addf (broadcastInDim S8x4096x512 ![] bcast_S_S8x4096x512 (constant S_ .f32 0x3F800000#32)) (Host.exp (Host.negf (extractStridedSlice S8x4096x512 ![0, 0, 2760] z slices_S8x4096x3272_S8x4096x512_0_0_2760)))))

theorem tokens_apply (a0 : FVec Ideal S8x4096x1024 .f32) (a1 : FVec Ideal S8x6x1024 .f32) (b : Fin 8) (s : Fin 4096) (j : Fin 1024) :
    tokens a0 a1 (ix3 b s j) = token a0 a1 b s j := by
  unfold tokens token
  pointwise

theorem zed_apply (u : FVec Ideal S8x4096x1024 .f32) (a2 : FVec Ideal S4x1024x3272 .f32) (b : Fin 8) (s : Fin 4096) (j : Fin 3272) :
    zed u a2 (ix3 b s j) = col (fun n => u (ix3 b s n)) a2 j := by
  unfold zed col
  pointwise

theorem qlat_apply (z : FVec Ideal S8x4096x3272 .f32) (a4 : FVec Ideal S4x8x64x128 .f32) (b : Fin 8) (s : Fin 4096) (j : Fin 1024) :
    qlat z a4 (ix3 b j s) = latent (fun k => z (ix3 b s k)) a4 j := by
  unfold qlat latent qscale
  pointwise

theorem norm_apply (v : FVec Ideal S8x4096x128 .f32) (a3 : FVec Ideal S4x128 .f32) (b : Fin 8) (s : Fin 4096) (j : Fin 128) :
    norm v a3 (ix3 b s j) = rms (fun k => v (ix3 b s k)) (fun k => a3 (ix2 0 k)) j := by
  unfold norm rms
  pointwise

theorem ckv0_apply (z : FVec Ideal S8x4096x3272 .f32) (b : Fin 8) (s : Fin 4096) (j : Fin 128) :
    ckv0 z (ix3 b s j) = z (ix3 b s ⟨512 + j.val, by omega⟩) := by
  unfold ckv0
  pointwise

theorem ckvT_apply (r : FVec Ideal S8x4096x128 .f32) (b : Fin 8) (s : Fin 4096) (j : Fin 144) :
    ckvT r (ix3 b j s) = (if h : j.val < 128 then r (ix3 b s ⟨j.val, h⟩) else 1) := by
  unfold ckvT
  pointwise

theorem iqT_apply (z : FVec Ideal S8x4096x3272 .f32) (b : Fin 8) (s : Fin 4096) (j : Fin 512) :
    iqT z (ix3 b j s) = z (ix3 b s ⟨640 + j.val, by omega⟩) := by
  unfold iqT
  pointwise

theorem ikA_apply (z : FVec Ideal S8x4096x3272 .f32) (b : Fin 8) (s : Fin 4096) (j : Fin 128) :
    ikA z (ix3 b s j) = (if h : j.val < 64 then z (ix3 b s ⟨1152 + j.val, by omega⟩) else 0) := by
  unfold ikA
  pointwise

theorem ikB_apply (z : FVec Ideal S8x4096x3272 .f32) (b : Fin 8) (s : Fin 4096) (j : Fin 128) :
    ikB z (ix3 b s j) = (if h : j.val < 64 then 0 else z (ix3 b s ⟨1152 + (j.val - 64), by omega⟩)) := by
  unfold ikB
  pointwise

theorem iwT_apply (z : FVec Ideal S8x4096x3272 .f32) (b : Fin 8) (s : Fin 4096) (j : Fin 8) :
    iwT z (ix3 b j s) = (z (ix3 b s ⟨1216 + j.val, by omega⟩) : EReal) * Ideal.ofBits FTy.f32 0x3D3504F3#32 := by
  unfold iwT
  pointwise

theorem hq_apply (z : FVec Ideal S8x4096x3272 .f32) (b : Fin 8) (s : Fin 4096) (j : Fin 512) :
    hq z (ix3 b s j) = swish (z (ix3 b s ⟨1224 + j.val, by omega⟩)) := by
  unfold hq swish
  simp only [zero_sub]
  pointwise

theorem hf_apply (z : FVec Ideal S8x4096x3272 .f32) (b : Fin 8) (s : Fin 4096) (j : Fin 512) :
    hf z (ix3 b s j) = z (ix3 b s ⟨1736 + j.val, by omega⟩) := by
  unfold hf
  pointwise

theorem lsig_apply (f : FVec Ideal S8x4096x512 .f32) (b : Fin 8) (s : Fin 4096) (j : Fin 512) :
    lsig f (ix3 b s j) = logsig (f (ix3 b s j)) := by
  unfold lsig
  rw [← logsig_eq]
  pointwise
  rw [if_neg (by simp)]
  rfl

theorem la_apply (a5 : FVec Ideal S4x512 .f32) (b : Fin 8) (s : Fin 4096) (j : Fin 512) :
    la a5 (ix3 b s j) = Ideal.log (a5 (ix2 0 j)) := by
  unfold la
  pointwise

theorem lb_apply (a5 : FVec Ideal S4x512 .f32) (l : FVec Ideal S8x4096x512 .f32) (b : Fin 8) (s : Fin 4096) (j : Fin 512) :
    lb a5 l (ix3 b s j) = Ideal.log1p (-(show EReal from a5 (ix2 0 j))) + l (ix3 b s j) := by
  unfold lb
  pointwise

theorem ladd_apply (f g : FVec Ideal S8x4096x512 .f32) (b : Fin 8) (s : Fin 4096) (j : Fin 512) :
    ladd f g (ix3 b s j) = logadd (f (ix3 b s j)) (g (ix3 b s j)) := by
  unfold ladd logadd
  simp only [zero_sub]
  pointwise
  rw [if_neg (by simp)]
  rfl

theorem hk_apply (f : FVec Ideal S8x4096x512 .f32) (b : Fin 8) (s : Fin 4096) (j : Fin 512) :
    hk f (ix3 b s j) = 1 - Ideal.exp (f (ix3 b s j)) := by
  unfold hk
  pointwise

theorem hv_apply (z : FVec Ideal S8x4096x3272 .f32) (b : Fin 8) (s : Fin 4096) (j : Fin 512) :
    hv z (ix3 b s j) = z (ix3 b s ⟨2248 + j.val, by omega⟩) := by
  unfold hv
  pointwise

theorem hgate_apply (z : FVec Ideal S8x4096x3272 .f32) (b : Fin 8) (s : Fin 4096) (j : Fin 512) :
    hgate z (ix3 b s j) = swish (z (ix3 b s ⟨2760 + j.val, by omega⟩)) := by
  unfold hgate swish
  simp only [zero_sub]
  pointwise

end Cert.Inproj.Ref

end

end
-- ==== Proof.Inproj.RefResults.lean ====
/-
  The arrays the reference of the input projection leaves.
-/
module

public import proofs.«01_k».proof.Proof.Inproj.Ref
public import proofs.«01_k».proof.Proof.Inproj.Results

@[expose] public section

noncomputable section

open Idealize.ShloMosaic Idealize.ShloMosaic.TcCoe Idealize.SL.Sem

namespace Cert.Inproj.Ref

open Cert.Reference3Ideal Cert.Reference3Ideal.Gen

section

variable (x : FVec Ideal S8x4096x1024 .f32) (a : FVec Ideal S8x6x1024 .f32) (w : FVec Ideal S4x1024x3272 .f32)
  (g : FVec Ideal S4x128 .f32) (k : FVec Ideal S4x8x64x128 .f32) (l : FVec Ideal S4x512 .f32)

/-- The projection of every token. -/
def whole : FVec Ideal S8x4096x3272 .f32 := zed (tokens x a) w

theorem whole_apply (b : Fin 8) (s : Fin 4096) (j : Fin 3272) : whole x a w (ix3 b s j) = row x a w b s j := by
  unfold whole row
  rw [zed_apply]
  simp only [tokens_apply]

/-- The log gates. -/
def gates : FVec Ideal S8x4096x512 .f32 := ladd (la l) (lb l (lsig (hf (whole x a w))))

theorem gates_apply (b : Fin 8) (s : Fin 4096) (j : Fin 512) : gates x a w l (ix3 b s j) = loggate x a w l b s j := by
  unfold gates
  rw [ladd_apply, la_apply, lb_apply, lsig_apply, hf_apply, whole_apply]
  rfl

theorem norm_whole (b : Fin 8) (s : Fin 4096) (j : Fin 128) : norm (ckv0 (whole x a w)) g (ix3 b s j) = lat x a w g b s j := by
  rw [norm_apply]
  unfold lat
  simp only [ckv0_apply, whole_apply]

theorem queries_eq : qlat (whole x a w) k = queries x a w k := by
  funext i
  obtain ⟨b, j, s, rfl⟩ : ∃ (b : Fin 8) (j : Fin 1024) (s : Fin 4096), i = ix3 b j s := ⟨i 0, i 1, i 2, eq_ix3 i⟩
  show _ = queriesAt x a w k b s j
  refine (qlat_apply _ _ b s j).trans ?_
  simp only [whole_apply]
  rfl

theorem latents_eq : truncf .bf16 (norm (ckv0 (whole x a w)) g) bitsLt_bf16_f32 = latents x a w g := by
  funext i
  obtain ⟨b, s, j, rfl⟩ : ∃ (b : Fin 8) (s : Fin 4096) (j : Fin 128), i = ix3 b s j := ⟨i 0, i 1, i 2, eq_ix3 i⟩
  show _ = latentsAt x a w g b s j
  exact norm_whole x a w g b s j

theorem latentsT_eq : ckvT (norm (ckv0 (whole x a w)) g) = latentsT x a w g := by
  funext i
  obtain ⟨b, j, s, rfl⟩ : ∃ (b : Fin 8) (j : Fin 144) (s : Fin 4096), i = ix3 b j s := ⟨i 0, i 1, i 2, eq_ix3 i⟩
  show _ = latentsTAt x a w g b s j
  refine (ckvT_apply _ b s j).trans ?_
  simp only [norm_whole]
  rfl

theorem indexq_eq : iqT (whole x a w) = indexq x a w := by
  funext i
  obtain ⟨b, j, s, rfl⟩ : ∃ (b : Fin 8) (j : Fin 512) (s : Fin 4096), i = ix3 b j s := ⟨i 0, i 1, i 2, eq_ix3 i⟩
  show _ = indexqAt x a w b s j
  refine (iqT_apply _ b s j).trans ?_
  simp only [whole_apply]
  rfl

theorem indexa_eq : ikA (whole x a w) = indexa x a w := by
  funext i
  obtain ⟨b, s, j, rfl⟩ : ∃ (b : Fin 8) (s : Fin 4096) (j : Fin 128), i = ix3 b s j := ⟨i 0, i 1, i 2, eq_ix3 i⟩
  show _ = indexaAt x a w b s j
  refine (ikA_apply _ b s j).trans ?_
  simp only [whole_apply]
  rfl

theorem indexb_eq : ikB (whole x a w) = indexb x a w := by
  funext i
  obtain ⟨b, s, j, rfl⟩ : ∃ (b : Fin 8) (s : Fin 4096) (j : Fin 128), i = ix3 b s j := ⟨i 0, i 1, i 2, eq_ix3 i⟩
  show _ = indexbAt x a w b s j
  refine (ikB_apply _ b s j).trans ?_
  simp only [whole_apply]
  rfl

theorem indexw_eq : iwT (whole x a w) = indexw x a w := by
  funext i
  obtain ⟨b, j, s, rfl⟩ : ∃ (b : Fin 8) (j : Fin 8) (s : Fin 4096), i = ix3 b j s := ⟨i 0, i 1, i 2, eq_ix3 i⟩
  show _ = indexwAt x a w b s j
  refine (iwT_apply _ b s j).trans ?_
  simp only [whole_apply]
  rfl

theorem gatedq_eq : hq (whole x a w) = gatedq x a w := by
  funext i
  obtain ⟨b, s, j, rfl⟩ : ∃ (b : Fin 8) (s : Fin 4096) (j : Fin 512), i = ix3 b s j := ⟨i 0, i 1, i 2, eq_ix3 i⟩
  show _ = gatedqAt x a w b s j
  refine (hq_apply _ b s j).trans ?_
  simp only [whole_apply]
  rfl

theorem gatedk_eq : hk (gates x a w l) = gatedk x a w l := by
  funext i
  obtain ⟨b, s, j, rfl⟩ : ∃ (b : Fin 8) (s : Fin 4096) (j : Fin 512), i = ix3 b s j := ⟨i 0, i 1, i 2, eq_ix3 i⟩
  show _ = gatedkAt x a w l b s j
  refine (hk_apply _ b s j).trans ?_
  simp only [gates_apply]
  rfl

theorem gatedl_eq : gates x a w l = gatedl x a w l := by
  funext i
  obtain ⟨b, s, j, rfl⟩ : ∃ (b : Fin 8) (s : Fin 4096) (j : Fin 512), i = ix3 b s j := ⟨i 0, i 1, i 2, eq_ix3 i⟩
  show _ = gatedlAt x a w l b s j
  exact gates_apply x a w l b s j

theorem gatedv_eq : hv (whole x a w) = gatedv x a w := by
  funext i
  obtain ⟨b, s, j, rfl⟩ : ∃ (b : Fin 8) (s : Fin 4096) (j : Fin 512), i = ix3 b s j := ⟨i 0, i 1, i 2, eq_ix3 i⟩
  show _ = gatedvAt x a w b s j
  refine (hv_apply _ b s j).trans ?_
  simp only [whole_apply]
  rfl

theorem gatedg_eq : hgate (whole x a w) = gatedg x a w := by
  funext i
  obtain ⟨b, s, j, rfl⟩ : ∃ (b : Fin 8) (s : Fin 4096) (j : Fin 512), i = ix3 b s j := ⟨i 0, i 1, i 2, eq_ix3 i⟩
  show _ = gatedgAt x a w b s j
  refine (hgate_apply _ b s j).trans ?_
  simp only [whole_apply]
  rfl

end

end Cert.Inproj.Ref

end

end
-- ==== Proof.Inproj.Runs.lean ====
/-
  What the two runs of the input projection leave.
-/
module

public import proofs.«01_k».proof.Proof.Inproj.Value
public import proofs.«01_k».proof.Proof.Inproj.RefResults
public import proofs.«01_k».proof.Proof.Gen.Reference3Ideal.Run

@[expose] public section

noncomputable section

open Idealize.ShloMosaic Idealize.ShloMosaic.TcCoe Idealize.SL.Sem

namespace Cert.Inproj

theorem kernel_run (m : (ℓ : Loc Cert.Kernel3Ideal.nD Cert.Kernel3Ideal.τ Cert.Kernel3Ideal.sig) → Buf (Elt Ideal) ℓ)
    (ρ : Dev Cert.Kernel3Ideal.nD → PrngReg) :
    θ_run (Cert.Kernel3Ideal.defs (F := Ideal)) (onTc (τ := Cert.Kernel3Ideal.τ) (Cert.Kernel3Ideal.main (F := Ideal))) ⟨m, fun _ => 0, ρ⟩ fun r => ∀ c : Dev Cert.Kernel3Ideal.nD,
      r.2.mem ((c.tc : Thread Cert.Kernel3Ideal.nD Cert.Kernel3Ideal.τ).loc Cert.Kernel3Ideal.main_v39_0) = queries (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg4))
      ∧ r.2.mem ((c.tc : Thread Cert.Kernel3Ideal.nD Cert.Kernel3Ideal.τ).loc Cert.Kernel3Ideal.main_v39_1) = latents (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))
      ∧ r.2.mem ((c.tc : Thread Cert.Kernel3Ideal.nD Cert.Kernel3Ideal.τ).loc Cert.Kernel3Ideal.main_v39_2) = latentsT (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))
      ∧ r.2.mem ((c.tc : Thread Cert.Kernel3Ideal.nD Cert.Kernel3Ideal.τ).loc Cert.Kernel3Ideal.main_v39_3) = indexq (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))
      ∧ r.2.mem ((c.tc : Thread Cert.Kernel3Ideal.nD Cert.Kernel3Ideal.τ).loc Cert.Kernel3Ideal.main_v39_4) = indexa (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))
      ∧ r.2.mem ((c.tc : Thread Cert.Kernel3Ideal.nD Cert.Kernel3Ideal.τ).loc Cert.Kernel3Ideal.main_v39_5) = indexb (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))
      ∧ r.2.mem ((c.tc : Thread Cert.Kernel3Ideal.nD Cert.Kernel3Ideal.τ).loc Cert.Kernel3Ideal.main_v39_6) = indexw (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))
      ∧ r.2.mem ((c.tc : Thread Cert.Kernel3Ideal.nD Cert.Kernel3Ideal.τ).loc Cert.Kernel3Ideal.main_v39_7) = gatedq (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))
      ∧ r.2.mem ((c.tc : Thread Cert.Kernel3Ideal.nD Cert.Kernel3Ideal.τ).loc Cert.Kernel3Ideal.main_v39_8) = gatedk (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg5))
      ∧ r.2.mem ((c.tc : Thread Cert.Kernel3Ideal.nD Cert.Kernel3Ideal.τ).loc Cert.Kernel3Ideal.main_v39_9) = gatedl (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg5))
      ∧ r.2.mem ((c.tc : Thread Cert.Kernel3Ideal.nD Cert.Kernel3Ideal.τ).loc Cert.Kernel3Ideal.main_v39_10) = gatedv (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))
      ∧ r.2.mem ((c.tc : Thread Cert.Kernel3Ideal.nD Cert.Kernel3Ideal.τ).loc Cert.Kernel3Ideal.main_v39_11) = gatedg (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))
      ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5) :=
  (θ_run Cert.Kernel3Ideal.defs _ _).mono (fun r h c => by
    obtain ⟨h0, h1, h2, h3, h4, h5, h6, h7, h8, h9, h10, h11, hr⟩ := h c
    exact ⟨h0.trans (arr9 m c), h1.trans (arr10 m c), h2.trans (arr11 m c), h3.trans (arr12 m c), h4.trans (arr13 m c), h5.trans (arr14 m c), h6.trans (arr15 m c), h7.trans (arr16 m c), h8.trans (arr17 m c), h9.trans (arr18 m c), h10.trans (arr19 m c), h11.trans (arr20 m c), hr⟩)
    (Cert.Kernel3Ideal.Value.run_blocks (F := Ideal) m ρ)

theorem reference_run (m' : (ℓ : Loc Cert.Reference3Ideal.nD Cert.Reference3Ideal.τ Cert.Reference3Ideal.sig) → Buf (Elt Ideal) ℓ)
    (ρ : Dev Cert.Reference3Ideal.nD → PrngReg) :
    θ_run (Cert.Reference3Ideal.defs (F := Ideal)) (onTc (τ := Cert.Reference3Ideal.τ) (Cert.Reference3Ideal.main (F := Ideal))) ⟨m', fun _ => 0, ρ⟩ fun r => ∀ c : Dev Cert.Reference3Ideal.nD,
      r.2.mem ((c.tc : Thread Cert.Reference3Ideal.nD Cert.Reference3Ideal.τ).loc Cert.Reference3Ideal.main_v72) = queries (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg4))
      ∧ r.2.mem ((c.tc : Thread Cert.Reference3Ideal.nD Cert.Reference3Ideal.τ).loc Cert.Reference3Ideal.main_v73) = latents (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3))
      ∧ r.2.mem ((c.tc : Thread Cert.Reference3Ideal.nD Cert.Reference3Ideal.τ).loc Cert.Reference3Ideal.main_v77) = latentsT (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3))
      ∧ r.2.mem ((c.tc : Thread Cert.Reference3Ideal.nD Cert.Reference3Ideal.τ).loc Cert.Reference3Ideal.main_v79) = indexq (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2))
      ∧ r.2.mem ((c.tc : Thread Cert.Reference3Ideal.nD Cert.Reference3Ideal.τ).loc Cert.Reference3Ideal.main_v81) = indexa (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2))
      ∧ r.2.mem ((c.tc : Thread Cert.Reference3Ideal.nD Cert.Reference3Ideal.τ).loc Cert.Reference3Ideal.main_v83) = indexb (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2))
      ∧ r.2.mem ((c.tc : Thread Cert.Reference3Ideal.nD Cert.Reference3Ideal.τ).loc Cert.Reference3Ideal.main_v86) = indexw (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2))
      ∧ r.2.mem ((c.tc : Thread Cert.Reference3Ideal.nD Cert.Reference3Ideal.τ).loc Cert.Reference3Ideal.main_v87) = gatedq (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2))
      ∧ r.2.mem ((c.tc : Thread Cert.Reference3Ideal.nD Cert.Reference3Ideal.τ).loc Cert.Reference3Ideal.main_v90) = gatedk (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg5))
      ∧ r.2.mem ((c.tc : Thread Cert.Reference3Ideal.nD Cert.Reference3Ideal.τ).loc Cert.Reference3Ideal.main_v68) = gatedl (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg5))
      ∧ r.2.mem ((c.tc : Thread Cert.Reference3Ideal.nD Cert.Reference3Ideal.τ).loc Cert.Reference3Ideal.main_v91) = gatedv (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2))
      ∧ r.2.mem ((c.tc : Thread Cert.Reference3Ideal.nD Cert.Reference3Ideal.τ).loc Cert.Reference3Ideal.main_v92) = gatedg (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2))
      ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5) :=
  (θ_run Cert.Reference3Ideal.defs _ _).mono (fun r h c => by
    obtain ⟨h0, h1, h2, h3, h4, h5, h6, h7, h8, h9, h10, h11, hr⟩ := h c
    exact ⟨h0.trans (Ref.queries_eq (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg4))),
      h1.trans (Ref.latents_eq (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3))),
      h2.trans (Ref.latentsT_eq (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3))),
      h3.trans (Ref.indexq_eq (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2))),
      h4.trans (Ref.indexa_eq (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2))),
      h5.trans (Ref.indexb_eq (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2))),
      h6.trans (Ref.indexw_eq (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2))),
      h7.trans (Ref.gatedq_eq (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2))),
      h8.trans (Ref.gatedk_eq (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg5))),
      h9.trans (Ref.gatedl_eq (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg5))),
      h10.trans (Ref.gatedv_eq (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2))),
      h11.trans (Ref.gatedg_eq (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2))), hr⟩)
    (Cert.Reference3Ideal.Value.run (F := Ideal) m' ρ)

end Cert.Inproj

end

end
-- ==== Proof.Outproj.Spec.lean ====
/-
  What the output projection computes at one token, over the extended reals: the two mixers' rows through the output
  weights, the normalised residual, and its modulation for the experts.
-/
module

public import proofs.«01_k».proof.Proof.Moe.Spec

@[expose] public section

noncomputable section

open Idealize.ShloMosaic

namespace Cert.Outproj

/-- Channel `d` of the attention's row and the recurrence's row through the output weights. -/
def both (p q : Fin 512 → EReal) (w : Fin 1024 → Fin 1024 → EReal) (d : Fin 1024) : EReal :=
  (∑ k : Fin 512, p k * w ⟨k.val, by omega⟩ d) + ∑ k : Fin 512, q k * w ⟨512 + k.val, by omega⟩ d

/-- The residual stream after the token mixers, as an array. -/
def stream (p q : (⟨3, ![8, 4096, 512]⟩ : Shape).Idx → EReal) (x : (⟨3, ![8, 4096, 1024]⟩ : Shape).Idx → EReal)
    (a : (⟨3, ![8, 6, 1024]⟩ : Shape).Idx → EReal) (w : (⟨3, ![4, 1024, 1024]⟩ : Shape).Idx → EReal)
    (g b : (⟨2, ![4, 1024]⟩ : Shape).Idx → EReal) (i : Fin 8) (s : Fin 4096) (d : Fin 1024) : EReal :=
  Moe.norm (Moe.mixed (fun d => x (ix3 i s d)) (both (fun k => p (ix3 i s k)) (fun k => q (ix3 i s k)) fun n d => w (ix3 0 n d))
    fun d => a (ix3 i 2 d)) (fun d => g (ix2 0 d)) (fun d => b (ix2 0 d)) d

/-- A row modulated for the experts. -/
def modulated (y : EReal) (a : (⟨3, ![8, 6, 1024]⟩ : Shape).Idx → EReal) (i : Fin 8) (d : Fin 1024) : EReal :=
  y * (1 + a (ix3 i 4 d)) + a (ix3 i 3 d)

/-- The two arrays the call leaves. -/
def streamA (p q : (⟨3, ![8, 4096, 512]⟩ : Shape).Idx → EReal) (x : (⟨3, ![8, 4096, 1024]⟩ : Shape).Idx → EReal)
    (a : (⟨3, ![8, 6, 1024]⟩ : Shape).Idx → EReal) (w : (⟨3, ![4, 1024, 1024]⟩ : Shape).Idx → EReal)
    (g b : (⟨2, ![4, 1024]⟩ : Shape).Idx → EReal) : (⟨3, ![8, 4096, 1024]⟩ : Shape).Idx → EReal :=
  fun i => stream p q x a w g b (i 0) (i 1) (i 2)

def inputA (p q : (⟨3, ![8, 4096, 512]⟩ : Shape).Idx → EReal) (x : (⟨3, ![8, 4096, 1024]⟩ : Shape).Idx → EReal)
    (a : (⟨3, ![8, 6, 1024]⟩ : Shape).Idx → EReal) (w : (⟨3, ![4, 1024, 1024]⟩ : Shape).Idx → EReal)
    (g b : (⟨2, ![4, 1024]⟩ : Shape).Idx → EReal) : (⟨3, ![8, 4096, 1024]⟩ : Shape).Idx → EReal :=
  fun i => modulated (stream p q x a w g b (i 0) (i 1) (i 2)) a (i 0) (i 2)

end Cert.Outproj

end

end
-- ==== Proof.Outproj.Step.lean ====
/-
  What one grid point of the output projection leaves in its first two output blocks.
-/
module

public import proofs.«01_k».proof.Proof.Outproj.Spec
public import proofs.«01_k».proof.Proof.Gen.Kernel4Ideal.Frame
public import Idealize.ShloMosaic.Lib.Pipeline.Value
public import Idealize.ShloMosaic.Lib.Tactic

@[expose] public section

noncomputable section

open Idealize.ShloMosaic Idealize.ShloMosaic.TcCoe Idealize.SL.Sem

namespace Cert.Outproj

open Cert.Kernel4Ideal Cert.Kernel4Ideal.Gen

theorem off3 : (![0, 0, 0] : Fin 3 → Nat) = fun _ => 0 := funext fun a => by fin_cases a <;> rfl

/-- A row of the block: the residual with the projected rows. -/
theorem sum_apply (x0 : Vec Ideal S1x1024x512 .bf16) (x1 : Vec Ideal S1x1024x512 .bf16) (x2 : Vec Ideal S1x1024x1024 .f32) (x3 : Vec Ideal S1x6x1024 .f32) (x4 : Vec Ideal S1x1024x1024 .bf16) (x5 : Vec Ideal S1x1x1024 .f32) (x6 : Vec Ideal S1x1x1024 .f32) (x7 : Vec Ideal S1x64x1024 .bf16) (x8 : Vec Ideal S1x64x1024 .f32) (x9 : Vec Ideal S256x256 .bf16) (r d : Fin 1024) :
    k0_pay48 x0 x1 x2 x3 x4 x5 x6 x7 x8 x9 (ix2 r d) = Moe.mixed (fun d => x2 (ix3 0 r d)) (both (fun k => x0 (ix3 0 r k)) (fun k => x1 (ix3 0 r k)) fun n d => x4 (ix3 0 n d)) (fun d => x3 (ix3 0 2 d)) d := by
  unfold k0_pay48 k0_pay2 Moe.mixed both
  simp only [View.ld_unit_zero (S := S1x1024x512) off3, View.ld_unit_zero (S := S1x1024x1024) off3]
  pointwise

/-- The row normalised. -/
theorem norm_apply (v : FVec Ideal S1024x1024 .f32) (x5 x6 : Vec Ideal S1x1x1024 .f32) (r d : Fin 1024) :
    k0_pay6 v (k0_pay3 x5) (k0_pay4 x6)
      (shapeCast S1024x1 (multiReduction .add [1] S1024 v 0x00000000#32 reduces_S1024x1024_S1024 (.inl rfl) rfl) shapeCasts_S1024_S1024x1)
      (Scalar.ofBits .f32 0x44800000#32) (ix2 r d) = Moe.norm (fun d => v (ix2 r d)) (fun d => x5 (ix3 0 0 d)) (fun d => x6 (ix3 0 0 d)) d := by
  unfold k0_pay6 k0_pay3 k0_pay4 Moe.norm Moe.mean
  pointwise

theorem out10 (x0 : Vec Ideal S1x1024x512 .bf16) (x1 : Vec Ideal S1x1024x512 .bf16) (x2 : Vec Ideal S1x1024x1024 .f32) (x3 : Vec Ideal S1x6x1024 .f32) (x4 : Vec Ideal S1x1024x1024 .bf16) (x5 : Vec Ideal S1x1x1024 .f32) (x6 : Vec Ideal S1x1x1024 .f32) (x7 : Vec Ideal S1x64x1024 .bf16) (x8 : Vec Ideal S1x64x1024 .f32) (x9 : Vec Ideal S256x256 .bf16) (r d : Fin 1024) :
    out0_10 x0 x1 x2 x3 x4 x5 x6 x7 x8 x9 (ix3 (0 : Fin 1) r d) = Moe.norm (Moe.mixed (fun d => x2 (ix3 0 r d)) (both (fun k => x0 (ix3 0 r k)) (fun k => x1 (ix3 0 r k)) fun n d => x4 (ix3 0 n d)) (fun d => x3 (ix3 0 2 d)))
      (fun d => x5 (ix3 0 0 d)) (fun d => x6 (ix3 0 0 d)) d := by
  have h := norm_apply (k0_pay48 x0 x1 x2 x3 x4 x5 x6 x7 x8 x9) x5 x6 r d
  simp only [sum_apply] at h
  rw [← h]
  unfold out0_10 k0_pay49 k0_pay50 k0_pay51 k0_pay7
  rw [View.canon_unit_zero off3]
  simp only [View.ld_unit_zero (S := S1x1x1024) off3]
  pointwise
  rfl

theorem out11 (x0 : Vec Ideal S1x1024x512 .bf16) (x1 : Vec Ideal S1x1024x512 .bf16) (x2 : Vec Ideal S1x1024x1024 .f32) (x3 : Vec Ideal S1x6x1024 .f32) (x4 : Vec Ideal S1x1024x1024 .bf16) (x5 : Vec Ideal S1x1x1024 .f32) (x6 : Vec Ideal S1x1x1024 .f32) (x7 : Vec Ideal S1x64x1024 .bf16) (x8 : Vec Ideal S1x64x1024 .f32) (x9 : Vec Ideal S256x256 .bf16) (r d : Fin 1024) :
    out0_11 x0 x1 x2 x3 x4 x5 x6 x7 x8 x9 (ix3 (0 : Fin 1) r d) = out0_10 x0 x1 x2 x3 x4 x5 x6 x7 x8 x9 (ix3 (0 : Fin 1) r d) * (1 + x3 (ix3 0 4 d)) + x3 (ix3 0 3 d) := by
  unfold out0_11 out0_10 k0_pay9 k0_pay8 k0_pay7
  rw [View.canon_unit_zero off3, View.canon_unit_zero off3]
  pointwise

end Cert.Outproj

end

end
-- ==== Proof.Outproj.Value.lean ====
/-
  The blocks of the output projection at a grid point, and the two arrays it leaves.
-/
module

public import proofs.«01_k».proof.Proof.Outproj.Step
public import proofs.«01_k».proof.Proof.Gen.Kernel4Ideal.Value
public import Idealize.ShloMosaic.Lib.Pipeline.ValueKit
public import Idealize.ShloMosaic.Lib.StableHlo.RunRead

@[expose] public section

noncomputable section

open Idealize.ShloMosaic Idealize.ShloMosaic.TcCoe Idealize.SL.Sem

namespace Cert.Outproj

open Cert.Kernel4Ideal Cert.Kernel4Ideal.Gen

variable (m : (ℓ : Loc nD τ sig) → Buf (Elt Ideal) ℓ) (c : Dev nD)

theorem toks : ∀ t : Fin cfg0.N, win0_0.index t = ![t.val / 4, t.val % 4, 0] ∧ win0_1.index t = ![t.val / 4, t.val % 4, 0]
    ∧ win0_2.index t = ![t.val / 4, t.val % 4, 0] ∧ win0_3.index t = ![t.val / 4, 0, 0] := by decide +kernel

theorem wts : ∀ t : Fin cfg0.N, win0_4.index t = ![0, 0, 0] ∧ win0_5.index t = ![0, 0, 0] ∧ win0_6.index t = ![0, 0, 0] := by
  decide +kernel

theorem outs : ∀ t : Fin cfg0.N, win0_10.index t = ![t.val / 4, t.val % 4, 0] ∧ win0_11.index t = ![t.val / 4, t.val % 4, 0] := by
  decide +kernel

theorem lt32 (t : Fin cfg0.N) : t.val < 32 := lt_of_lt_of_eq t.isLt N_0

/-- The batch entry and the place of a grid point's row. -/
def bat (t : Fin cfg0.N) : Fin 8 := ⟨t.val / 4, by have := lt32 t; omega⟩
def pos (t : Fin cfg0.N) (r : Fin 1024) : Fin 4096 := ⟨t.val % 4 * 1024 + r.val, by omega⟩

/-- The arrays the call is given. -/
abbrev ap : (⟨3, ![8, 4096, 512]⟩ : Shape).Idx → EReal := m ((c : Thread nD τ).loc main_arg0)
abbrev aq : (⟨3, ![8, 4096, 512]⟩ : Shape).Idx → EReal := m ((c : Thread nD τ).loc main_arg1)
abbrev ax : (⟨3, ![8, 4096, 1024]⟩ : Shape).Idx → EReal := m ((c : Thread nD τ).loc main_arg2)
abbrev am : (⟨3, ![8, 6, 1024]⟩ : Shape).Idx → EReal := m ((c : Thread nD τ).loc main_arg3)
abbrev aw : (⟨3, ![4, 1024, 1024]⟩ : Shape).Idx → EReal := m ((c : Thread nD τ).loc main_arg4)
abbrev ag : (⟨2, ![4, 1024]⟩ : Shape).Idx → EReal := m ((c : Thread nD τ).loc main_arg5)
abbrev ab : (⟨2, ![4, 1024]⟩ : Shape).Idx → EReal := m ((c : Thread nD τ).loc main_arg6)

theorem blk0 (t : Fin cfg0.N) (r : Fin 1024) (k : Fin 512) : iblk m c 0 t (ix3 0 r k) = ap m c (ix3 (bat t) (pos t r) k) := by
  have ht := lt32 t
  have e : (((cfg0.win 0).blk t).view.emb (ix3 (0 : Fin 1) r k) : S8x4096x512.Idx) = ix3 (bat t) (pos t r) k := by
    unfold bat pos
    blk_ext [(toks t).1]
  unfold iblk
  rw [View.read_apply]
  erw [e]
  show V m c main_v5 _ = _
  entry_read
  rfl

theorem blk1 (t : Fin cfg0.N) (r : Fin 1024) (k : Fin 512) : iblk m c 1 t (ix3 0 r k) = aq m c (ix3 (bat t) (pos t r) k) := by
  have ht := lt32 t
  have e : (((cfg0.win 1).blk t).view.emb (ix3 (0 : Fin 1) r k) : S8x4096x512.Idx) = ix3 (bat t) (pos t r) k := by
    unfold bat pos
    blk_ext [(toks t).2.1]
  unfold iblk
  rw [View.read_apply]
  erw [e]
  show V m c main_v6 _ = _
  entry_read
  rfl

theorem blk2 (t : Fin cfg0.N) (r n : Fin 1024) : iblk m c 2 t (ix3 0 r n) = ax m c (ix3 (bat t) (pos t r) n) := by
  have ht := lt32 t
  have e : (((cfg0.win 2).blk t).view.emb (ix3 (0 : Fin 1) r n) : S8x4096x1024.Idx) = ix3 (bat t) (pos t r) n := by
    unfold bat pos
    blk_ext [(toks t).2.2.1]
  unfold iblk
  rw [View.read_apply]
  erw [e]
  exact congrFun (V_main_arg2 m c) _

theorem blk3 (t : Fin cfg0.N) (j : Fin 6) (n : Fin 1024) : iblk m c 3 t (ix3 0 j n) = am m c (ix3 (bat t) j n) := by
  have ht := lt32 t
  have e : (((cfg0.win 3).blk t).view.emb (ix3 (0 : Fin 1) j n) : S8x6x1024.Idx) = ix3 (bat t) j n := by
    unfold bat
    blk_ext [(toks t).2.2.2]
  unfold iblk
  rw [View.read_apply]
  erw [e]
  exact congrFun (V_main_arg3 m c) _

theorem blk4 (t : Fin cfg0.N) (n d : Fin 1024) : iblk m c 4 t (ix3 0 n d) = aw m c (ix3 0 n d) := by
  have e : (((cfg0.win 4).blk t).view.emb (ix3 (0 : Fin 1) n d) : S4x1024x1024.Idx) = ix3 (0 : Fin 4) n d := by
    blk_ext [(wts t).1]
  unfold iblk
  rw [View.read_apply]
  erw [e]
  show V m c main_v0 _ = _
  entry_read
  rfl

theorem blk5 (t : Fin cfg0.N) (d : Fin 1024) : iblk m c 5 t (ix3 0 0 d) = ag m c (ix2 0 d) := by
  have e : (((cfg0.win 5).blk t).view.emb (ix3 (0 : Fin 1) (0 : Fin 1) d) : S4x1x1024.Idx) = ix3 (0 : Fin 4) (0 : Fin 1) d := by
    blk_ext [(wts t).2.1]
  unfold iblk
  rw [View.read_apply]
  erw [e]
  show V m c main_v7 _ = _
  rw [show V m c main_v7 = shapeCast S4x1x1024 (m ((c : Thread nD τ).loc main_arg5)) shapeCasts_S4x1024_S4x1x1024 from by
    show StableHlo.after [hostOps0, hostOps0_1, hostOps0_2].flatten _ _ = _
    simp only [List.flatten_cons, List.flatten_nil, List.append_nil, List.cons_append, List.nil_append]
    after_reads_simp
    rfl]
  pointwise

theorem blk6 (t : Fin cfg0.N) (d : Fin 1024) : iblk m c 6 t (ix3 0 0 d) = ab m c (ix2 0 d) := by
  have e : (((cfg0.win 6).blk t).view.emb (ix3 (0 : Fin 1) (0 : Fin 1) d) : S4x1x1024.Idx) = ix3 (0 : Fin 4) (0 : Fin 1) d := by
    blk_ext [(wts t).2.2]
  unfold iblk
  rw [View.read_apply]
  erw [e]
  show V m c main_v8 _ = _
  rw [show V m c main_v8 = shapeCast S4x1x1024 (m ((c : Thread nD τ).loc main_arg6)) shapeCasts_S4x1024_S4x1x1024 from by
    show StableHlo.after [hostOps0, hostOps0_1, hostOps0_2].flatten _ _ = _
    simp only [List.flatten_cons, List.flatten_nil, List.append_nil, List.cons_append, List.nil_append]
    after_reads_simp
    rfl]
  pointwise

theorem elem10 (t : Fin cfg0.N) (r d : Fin 1024) :
    out0_10 (iblk m c 0 t) (iblk m c 1 t) (iblk m c 2 t) (iblk m c 3 t) (iblk m c 4 t) (iblk m c 5 t) (iblk m c 6 t) (iblk m c 7 t) (iblk m c 8 t) (iblk m c 9 t) (ix3 (0 : Fin 1) r d) = stream (ap m c) (aq m c) (ax m c) (am m c) (aw m c) (ag m c) (ab m c) (bat t) (pos t r) d := by
  rw [out10]
  simp only [blk0, blk1, blk2, blk3, blk4, blk5, blk6]
  rfl

theorem elem11 (t : Fin cfg0.N) (r d : Fin 1024) :
    out0_11 (iblk m c 0 t) (iblk m c 1 t) (iblk m c 2 t) (iblk m c 3 t) (iblk m c 4 t) (iblk m c 5 t) (iblk m c 6 t) (iblk m c 7 t) (iblk m c 8 t) (iblk m c 9 t) (ix3 (0 : Fin 1) r d) = modulated (stream (ap m c) (aq m c) (ax m c) (am m c) (aw m c) (ag m c) (ab m c) (bat t) (pos t r) d) (am m c) (bat t) d := by
  rw [out11, elem10, blk3, blk3]
  rfl

theorem arr10 : (dats m 0 c).arrAt 10 cfg0.N = streamA (ap m c) (aq m c) (ax m c) (am m c) (aw m c) (ag m c) (ab m c) := by
  refine (dats m 0 c).arrAt_eq_of_covers 10 _ (by decide +kernel) fun t hf y => ?_
  blk_simp
  rw [after0_10]
  obtain ⟨z, r, d, rfl⟩ : ∃ (z : Fin 1) (r d : Fin 1024), y = ix3 z r d := ⟨y 0, y 1, y 2, eq_ix3 y⟩
  obtain rfl : z = 0 := Subsingleton.elim _ _
  have ht := lt32 t
  have e : ((win0_10.blk t).view.emb (ix3 (0 : Fin 1) r d) : S8x4096x1024.Idx) = ix3 (bat t) (pos t r) d := by
    unfold bat pos
    blk_ext [(outs t).1]
  erw [e]
  exact elem10 m c t r d

theorem arr11 : (dats m 0 c).arrAt 11 cfg0.N = inputA (ap m c) (aq m c) (ax m c) (am m c) (aw m c) (ag m c) (ab m c) := by
  refine (dats m 0 c).arrAt_eq_of_covers 11 _ (by decide +kernel) fun t hf y => ?_
  blk_simp
  rw [after0_11]
  obtain ⟨z, r, d, rfl⟩ : ∃ (z : Fin 1) (r d : Fin 1024), y = ix3 z r d := ⟨y 0, y 1, y 2, eq_ix3 y⟩
  obtain rfl : z = 0 := Subsingleton.elim _ _
  have ht := lt32 t
  have e : ((win0_11.blk t).view.emb (ix3 (0 : Fin 1) r d) : S8x4096x1024.Idx) = ix3 (bat t) (pos t r) d := by
    unfold bat pos
    blk_ext [(outs t).2]
  erw [e]
  exact elem11 m c t r d

end Cert.Outproj

end

end
-- ==== Proof.Outproj.Ref.lean ====
/-
  The output projection's reference at an element.
-/
module

public import proofs.«01_k».proof.Proof.Outproj.Spec
public import proofs.«01_k».proof.Proof.Gen.Reference4Ideal.Run
public import Idealize.ShloMosaic.Lib.Pointwise
public import Idealize.ShloMosaic.Lib.ValueIdx
public import Idealize.ShloMosaic.Lib.ValueLayout

@[expose] public section

noncomputable section

open Idealize.ShloMosaic Idealize.ShloMosaic.TcCoe Idealize.SL.Sem

namespace Cert.Outproj.Ref

open Cert.Reference4Ideal Cert.Reference4Ideal.Value Cert.Reference4Ideal.Gen

/-- The two mixers' rows side by side, through the first layer's output weights. -/
def projected (p q : FVec Ideal S8x4096x512 .f32) (w : FVec Ideal S4x1024x1024 .f32) : FVec Ideal S8x4096x1024 .f32 :=
  Host.dotGeneral dot_S8x4096x1024_S1024x1024_S8x4096x1024_2_0_01_1_n_n none (concatenate S8x4096x1024 2 [⟨S8x4096x512, p⟩, ⟨S8x4096x512, q⟩] concatenates_S8x4096x512_S8x4096x512_S8x4096x1024_d2) (shapeCast S1024x1024 (extractStridedSlice S1x1024x1024 ![0, 0, 0] w slices_S4x1024x1024_S1x1024x1024_0_0_0) shapeCasts_S1x1024x1024_S1024x1024)

theorem projected_apply (p q : FVec Ideal S8x4096x512 .f32) (w : FVec Ideal S4x1024x1024 .f32) (B : Fin 8) (s : Fin 4096) (d : Fin 1024) :
    projected p q w (ix3 B s d) = both (fun k => p (ix3 B s k)) (fun k => q (ix3 B s k)) (fun n d => w (ix3 0 n d)) d := by
  unfold projected both
  pointwise

/-- The residual with the projected rows. -/
def residual (x : FVec Ideal S8x4096x1024 .f32) (a : FVec Ideal S8x6x1024 .f32) (y : FVec Ideal S8x4096x1024 .f32) : FVec Ideal S8x4096x1024 .f32 :=
  addf (mulf (broadcastInDim S8x4096x1024 ![] bcast_S_S8x4096x1024 (constant S_ .f32 0x3FD744FD#32)) x) (mulf (broadcastInDim S8x4096x1024 ![0, 1, 2] bcast_S8x1x1024_S8x4096x1024_0_1_2 (addf (broadcastInDim S8x1x1024 ![] bcast_S_S8x1x1024 (constant S_ .f32 0x3F800000#32)) (broadcastInDim S8x1x1024 ![0, 2] bcast_S8x1024_S8x1x1024_0_2 (shapeCast S8x1024 (extractStridedSlice S8x1x1024 ![0, 2, 0] a slices_S8x6x1024_S8x1x1024_0_2_0) shapeCasts_S8x1x1024_S8x1024)))) y)

theorem residual_apply (x : FVec Ideal S8x4096x1024 .f32) (a : FVec Ideal S8x6x1024 .f32) (y : FVec Ideal S8x4096x1024 .f32) (B : Fin 8) (s : Fin 4096) (d : Fin 1024) :
    residual x a y (ix3 B s d) = Moe.mixed (fun d => x (ix3 B s d)) (fun d => y (ix3 B s d)) (fun d => a (ix3 B 2 d)) d := by
  unfold residual Moe.mixed
  pointwise

/-- A vector of the first layer. -/
def vecw (a : FVec Ideal S4x1024 .f32) : FVec Ideal S1024 .f32 :=
  shapeCast S1024 (extractStridedSlice S1x1024 ![0, 0] a slices_S4x1024_S1x1024_0_0) shapeCasts_S1x1024_S1024

theorem vecw_apply (a : FVec Ideal S4x1024 .f32) (n : Fin 1024) : vecw a (ix1 n) = a (ix2 0 n) := by
  unfold vecw
  pointwise

/-- Rows less their means. -/
def centred (z : FVec Ideal S8x4096x1024 .f32) : FVec Ideal S8x4096x1024 .f32 :=
  subf z (broadcastInDim S8x4096x1024 ![0, 1, 2] bcast_S8x4096x1_S8x4096x1024_0_1_2 (Host.divf (broadcastInDim S8x4096x1 ![0, 1] bcast_S8x4096_S8x4096x1_0_1 (Host.reduceAdd z (constant S_ .f32 0x00000000#32) reducesTo_S8x4096x1024_S8x4096_d2 h_S_)) (broadcastInDim S8x4096x1 ![] bcast_S_S8x4096x1 (constant S_ .f32 0x44800000#32))))

theorem centred_apply (z : FVec Ideal S8x4096x1024 .f32) (B : Fin 8) (s : Fin 4096) (d : Fin 1024) :
    centred z (ix3 B s d) = z (ix3 B s d) - Moe.mean (fun d => z (ix3 B s d)) := by
  unfold centred Moe.mean
  pointwise

/-- Centred rows normalised, scaled and shifted. -/
def normed (y : FVec Ideal S8x4096x1024 .f32) (g b : FVec Ideal S4x1024 .f32) : FVec Ideal S8x4096x1024 .f32 :=
  addf (mulf (mulf y (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf y y) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x3727C5AC#32)))))) (broadcastInDim S8x4096x1024 ![0, 1, 2] bcast_S1x1x1024_S8x4096x1024_0_1_2 (broadcastInDim S1x1x1024 ![2] bcast_S1024_S1x1x1024_2 (vecw g)))) (broadcastInDim S8x4096x1024 ![0, 1, 2] bcast_S1x1x1024_S8x4096x1024_0_1_2 (broadcastInDim S1x1x1024 ![2] bcast_S1024_S1x1x1024_2 (vecw b)))

theorem normed_apply (y : FVec Ideal S8x4096x1024 .f32) (g b : FVec Ideal S4x1024 .f32) (B : Fin 8) (s : Fin 4096) (d : Fin 1024) :
    normed y g b (ix3 B s d) = y (ix3 B s d) * Ideal.rsqrt (Moe.mean (fun x => y (ix3 B s x) * y (ix3 B s x)) + Ideal.ofBits FTy.f32 925353388#32) * g (ix2 0 d) + b (ix2 0 d) := by
  unfold normed Moe.mean
  pointwise
  rw [vecw_apply, vecw_apply]

/-- Rows modulated for the experts. -/
def input (y : FVec Ideal S8x4096x1024 .f32) (a : FVec Ideal S8x6x1024 .f32) : FVec Ideal S8x4096x1024 .bf16 :=
  truncf .bf16 (addf (mulf y (broadcastInDim S8x4096x1024 ![0, 1, 2] bcast_S8x1x1024_S8x4096x1024_0_1_2 (addf (broadcastInDim S8x1x1024 ![] bcast_S_S8x1x1024 (constant S_ .f32 0x3F800000#32)) (broadcastInDim S8x1x1024 ![0, 2] bcast_S8x1024_S8x1x1024_0_2 (shapeCast S8x1024 (extractStridedSlice S8x1x1024 ![0, 4, 0] a slices_S8x6x1024_S8x1x1024_0_4_0) shapeCasts_S8x1x1024_S8x1024))))) (broadcastInDim S8x4096x1024 ![0, 1, 2] bcast_S8x1x1024_S8x4096x1024_0_1_2 (broadcastInDim S8x1x1024 ![0, 2] bcast_S8x1024_S8x1x1024_0_2 (shapeCast S8x1024 (extractStridedSlice S8x1x1024 ![0, 3, 0] a slices_S8x6x1024_S8x1x1024_0_3_0) shapeCasts_S8x1x1024_S8x1024)))) bitsLt_bf16_f32

theorem input_apply (y : FVec Ideal S8x4096x1024 .f32) (a : FVec Ideal S8x6x1024 .f32) (B : Fin 8) (s : Fin 4096) (d : Fin 1024) :
    input y a (ix3 B s d) = modulated (y (ix3 B s d)) a B d := by
  unfold input modulated
  pointwise

variable (p q : FVec Ideal S8x4096x512 .f32) (x : FVec Ideal S8x4096x1024 .f32) (a : FVec Ideal S8x6x1024 .f32) (w : FVec Ideal S4x1024x1024 .f32)
  (g b : FVec Ideal S4x1024 .f32)

theorem stream_apply (B : Fin 8) (s : Fin 4096) (d : Fin 1024) :
    normed (centred (residual x a (projected p q w))) g b (ix3 B s d) = stream p q x a w g b B s d := by
  rw [normed_apply]
  simp only [centred_apply, residual_apply, projected_apply]
  rfl

theorem stream_eq : normed (centred (residual x a (projected p q w))) g b = streamA p q x a w g b := by
  funext i
  obtain ⟨B, s, d, rfl⟩ : ∃ (B : Fin 8) (s : Fin 4096) (d : Fin 1024), i = ix3 B s d := ⟨i 0, i 1, i 2, eq_ix3 i⟩
  exact stream_apply p q x a w g b B s d

theorem input_eq : input (normed (centred (residual x a (projected p q w))) g b) a = inputA p q x a w g b := by
  funext i
  obtain ⟨B, s, d, rfl⟩ : ∃ (B : Fin 8) (s : Fin 4096) (d : Fin 1024), i = ix3 B s d := ⟨i 0, i 1, i 2, eq_ix3 i⟩
  rw [input_apply, stream_apply]
  rfl

end Cert.Outproj.Ref

end

end
-- ==== Proof.Outproj.Runs.lean ====
/-
  What the two runs of the output projection leave.
-/
module

public import proofs.«01_k».proof.Proof.Outproj.Value
public import proofs.«01_k».proof.Proof.Outproj.Ref

@[expose] public section

noncomputable section

open Idealize.ShloMosaic Idealize.ShloMosaic.TcCoe Idealize.SL.Sem

namespace Cert.Outproj

theorem kernel_run (m : (ℓ : Loc Cert.Kernel4Ideal.nD Cert.Kernel4Ideal.τ Cert.Kernel4Ideal.sig) → Buf (Elt Ideal) ℓ)
    (ρ : Dev Cert.Kernel4Ideal.nD → PrngReg) :
    θ_run (Cert.Kernel4Ideal.defs (F := Ideal)) (onTc (τ := Cert.Kernel4Ideal.τ) (Cert.Kernel4Ideal.main (F := Ideal))) ⟨m, fun _ => 0, ρ⟩ fun r => ∀ c : Dev Cert.Kernel4Ideal.nD,
      r.2.mem ((c.tc : Thread Cert.Kernel4Ideal.nD Cert.Kernel4Ideal.τ).loc Cert.Kernel4Ideal.main_v14_0) = streamA (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))
      ∧ r.2.mem ((c.tc : Thread Cert.Kernel4Ideal.nD Cert.Kernel4Ideal.τ).loc Cert.Kernel4Ideal.main_v14_1) = inputA (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))
      ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8) :=
  (θ_run Cert.Kernel4Ideal.defs _ _).mono (fun r h c => by
    obtain ⟨h0, h1, -, -, -, hr⟩ := h c
    exact ⟨h0.trans (arr10 m c), h1.trans (arr11 m c), hr⟩)
    (Cert.Kernel4Ideal.Value.run_blocks (F := Ideal) m ρ)

theorem reference_run (m' : (ℓ : Loc Cert.Reference4Ideal.nD Cert.Reference4Ideal.τ Cert.Reference4Ideal.sig) → Buf (Elt Ideal) ℓ)
    (ρ : Dev Cert.Reference4Ideal.nD → PrngReg) :
    θ_run (Cert.Reference4Ideal.defs (F := Ideal)) (onTc (τ := Cert.Reference4Ideal.τ) (Cert.Reference4Ideal.main (F := Ideal))) ⟨m', fun _ => 0, ρ⟩ fun r => ∀ c : Dev Cert.Reference4Ideal.nD,
      r.2.mem ((c.tc : Thread Cert.Reference4Ideal.nD Cert.Reference4Ideal.τ).loc Cert.Reference4Ideal.main_v45) = streamA (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6))
      ∧ r.2.mem ((c.tc : Thread Cert.Reference4Ideal.nD Cert.Reference4Ideal.τ).loc Cert.Reference4Ideal.main_v54) = inputA (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6))
      ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8) :=
  (θ_run Cert.Reference4Ideal.defs _ _).mono (fun r h c => by
    obtain ⟨h0, h1, hr⟩ := h c
    exact ⟨h0.trans (Ref.stream_eq (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6))),
      h1.trans (Ref.input_eq (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6))), hr⟩)
    (Cert.Reference4Ideal.Value.run (F := Ideal) m' ρ)

end Cert.Outproj

end

end
-- ==== Proof.Ada.Value.lean ====
/-
  The modulation: what the condition's call leaves, over the extended reals.
-/
module

public import proofs.«01_k».proof.Proof.Inproj.Spec
public import proofs.«01_k».proof.Proof.Gen.Kernel5Ideal.Value
public import Idealize.ShloMosaic.Lib.Pipeline.ValueKit
public import Idealize.ShloMosaic.Lib.Tactic
public import Idealize.ShloMosaic.Lib.StableHlo.RunRead

@[expose] public section

noncomputable section

open Idealize.ShloMosaic Idealize.ShloMosaic.TcCoe Idealize.SL.Sem

namespace Cert.Ada

open Cert.Kernel5Ideal Cert.Kernel5Ideal.Gen

/-- Layer `l`'s modulation of batch entry `i`, channel `n`. -/
def modulation (x : (⟨2, ![8, 1024]⟩ : Shape).Idx → EReal) (w : (⟨3, ![4, 1024, 6144]⟩ : Shape).Idx → EReal)
    (b : (⟨2, ![4, 6144]⟩ : Shape).Idx → EReal) (l : Fin 4) (i : Fin 8) (n : Fin 6144) : EReal :=
  (∑ k : Fin 1024, Inproj.swish (x (ix2 i k)) * w (ix3 l k n)) + b (ix2 l n)

/-- All of them, as an array. -/
def modulations (x : (⟨2, ![8, 1024]⟩ : Shape).Idx → EReal) (w : (⟨3, ![4, 1024, 6144]⟩ : Shape).Idx → EReal)
    (b : (⟨2, ![4, 6144]⟩ : Shape).Idx → EReal) : (⟨3, ![4, 8, 6144]⟩ : Shape).Idx → EReal :=
  fun i => modulation x w b (i 0) (i 1) (i 2)

theorem off2 : (![0, 0] : Fin 2 → Nat) = fun _ => 0 := funext fun a => by fin_cases a <;> rfl
theorem off3 : (![0, 0, 0] : Fin 3 → Nat) = fun _ => 0 := funext fun a => by fin_cases a <;> rfl

/-- One block: the condition's rows through a block of the weights. -/
theorem out3 (x0 : Vec Ideal S8x1024 .f32) (x1 : Vec Ideal S1x1024x1024 .f32) (x2 : Vec Ideal S1x1x1024 .f32) (r : Fin 8) (d : Fin 1024) :
    out0_3 x0 x1 x2 (ix3 (0 : Fin 1) r d) = (∑ k : Fin 1024, Inproj.swish (x0 (ix2 r k)) * x1 (ix3 0 k d)) + x2 (ix3 0 0 d) := by
  unfold out0_3 k0_pay1 Inproj.swish
  rw [View.canon_unit_zero off3]
  simp only [View.ld_unit_zero (S := S8x1024) off2, View.ld_unit_zero (S := S1x1024x1024) off3, View.ld_unit_zero (S := S1x1x1024) off3]
  pointwise

variable (m : (ℓ : Loc nD τ sig) → Buf (Elt Ideal) ℓ) (c : Dev nD)

theorem steps : ∀ t : Fin cfg0.N, win0_0.index t = ![0, 0] ∧ win0_1.index t = ![t.val / 6, 0, t.val % 6]
    ∧ win0_2.index t = ![t.val / 6, 0, t.val % 6] ∧ win0_3.index t = ![t.val / 6, 0, t.val % 6] := by decide +kernel

theorem lt24 (t : Fin cfg0.N) : t.val < 24 := lt_of_lt_of_eq t.isLt N_0

/-- The layer of a grid point, and the place of its channel. -/
def lay (t : Fin cfg0.N) : Fin 4 := ⟨t.val / 6, by have := lt24 t; omega⟩
def chan (t : Fin cfg0.N) (d : Fin 1024) : Fin 6144 := ⟨t.val % 6 * 1024 + d.val, by omega⟩

/-- The arrays the call is given. -/
abbrev ax : (⟨2, ![8, 1024]⟩ : Shape).Idx → EReal := m ((c : Thread nD τ).loc main_arg0)
abbrev aw : (⟨3, ![4, 1024, 6144]⟩ : Shape).Idx → EReal := m ((c : Thread nD τ).loc main_arg1)
abbrev ab : (⟨2, ![4, 6144]⟩ : Shape).Idx → EReal := m ((c : Thread nD τ).loc main_arg2)

theorem blk0 (t : Fin cfg0.N) (r : Fin 8) (k : Fin 1024) : iblk m c 0 t (ix2 r k) = ax m c (ix2 r k) := by
  have e : (((cfg0.win 0).blk t).view.emb (ix2 r k) : S8x1024.Idx) = ix2 r k := by
    blk_ext [(steps t).1]
  unfold iblk
  rw [View.read_apply]
  erw [e]
  exact congrFun (V_main_arg0 m c) _

theorem blk1 (t : Fin cfg0.N) (k d : Fin 1024) : iblk m c 1 t (ix3 0 k d) = aw m c (ix3 (lay t) k (chan t d)) := by
  have ht := lt24 t
  have e : (((cfg0.win 1).blk t).view.emb (ix3 (0 : Fin 1) k d) : S4x1024x6144.Idx) = ix3 (lay t) k (chan t d) := by
    unfold lay chan
    blk_ext [(steps t).2.1]
  unfold iblk
  rw [View.read_apply]
  erw [e]
  exact congrFun (V_main_arg1 m c) _

/-- The shifts with a unit axis between. -/
theorem row_apply (b : FVec Ideal S4x6144 .f32) (l : Fin 4) (n : Fin 6144) :
    shapeCast S4x1x6144 b shapeCasts_S4x6144_S4x1x6144 (ix3 l 0 n) = b (ix2 l n) := by
  pointwise

theorem blk2 (t : Fin cfg0.N) (d : Fin 1024) : iblk m c 2 t (ix3 0 0 d) = ab m c (ix2 (lay t) (chan t d)) := by
  have ht := lt24 t
  have e : (((cfg0.win 2).blk t).view.emb (ix3 (0 : Fin 1) (0 : Fin 1) d) : S4x1x6144.Idx) = ix3 (lay t) (0 : Fin 1) (chan t d) := by
    unfold lay chan
    blk_ext [(steps t).2.2.1]
  unfold iblk
  rw [View.read_apply]
  erw [e]
  show V m c main_v0 _ = _
  rw [show V m c main_v0 = shapeCast S4x1x6144 (m ((c : Thread nD τ).loc main_arg2)) shapeCasts_S4x6144_S4x1x6144 from by
    show StableHlo.after hostOps0 _ _ = _
    simp only [hostOps0]
    after_reads_simp
    rfl]
  exact row_apply _ _ _

theorem arr3 : (dats m 0 c).arrAt 3 cfg0.N = modulations (ax m c) (aw m c) (ab m c) := by
  refine (dats m 0 c).arrAt_eq_of_covers 3 _ (by decide +kernel) fun t hf y => ?_
  blk_simp
  rw [after0_3]
  obtain ⟨z, r, d, rfl⟩ : ∃ (z : Fin 1) (r : Fin 8) (d : Fin 1024), y = ix3 z r d := ⟨y 0, y 1, y 2, eq_ix3 y⟩
  obtain rfl : z = 0 := Subsingleton.elim _ _
  have ht := lt24 t
  have e : ((win0_3.blk t).view.emb (ix3 (0 : Fin 1) r d) : S4x8x6144.Idx) = ix3 (lay t) r (chan t d) := by
    unfold lay chan
    blk_ext [(steps t).2.2.2]
  erw [e]
  refine (out3 _ _ _ r d).trans ?_
  simp only [blk0, blk1, blk2]
  rfl

end Cert.Ada

end

end
-- ==== Proof.Ada.Runs.lean ====
/-
  What the modulation's reference computes, and what the two runs leave.
-/
module

public import proofs.«01_k».proof.Proof.Ada.Value
public import proofs.«01_k».proof.Proof.Gen.Reference5Ideal.Run
public import Idealize.ShloMosaic.Lib.Pointwise
public import Idealize.ShloMosaic.Lib.ValueIdx
public import Idealize.ShloMosaic.Lib.ValueLayout

@[expose] public section

noncomputable section

open Idealize.ShloMosaic Idealize.ShloMosaic.TcCoe Idealize.SL.Sem

namespace Cert.Ada

section
open Cert.Reference5Ideal Cert.Reference5Ideal.Gen

/-- The reference's product with the weights. -/
def product (x : FVec Ideal S8x1024 .f32) (w : FVec Ideal S4x1024x6144 .f32) : FVec Ideal S4x6144x8 .f32 :=
  Host.dotGeneral dot_S4x1024x6144_S8x1024_S4x6144x8_1_1_02_0_n_n none w (mulf x (Host.divf (broadcastInDim S8x1024 ![] bcast_S_S8x1024 (constant S_ .f32 0x3F800000#32)) (addf (broadcastInDim S8x1024 ![] bcast_S_S8x1024 (constant S_ .f32 0x3F800000#32)) (Host.exp (Host.negf x)))))

theorem product_apply (x : FVec Ideal S8x1024 .f32) (w : FVec Ideal S4x1024x6144 .f32) (l : Fin 4) (i : Fin 8) (n : Fin 6144) :
    product x w (ix3 l n i) = ∑ k : Fin 1024, w (ix3 l k n) * Inproj.swish (x (ix2 i k)) := by
  unfold product Inproj.swish
  simp only [zero_sub]
  pointwise

theorem sum_eq (x : FVec Ideal S8x1024 .f32) (w : FVec Ideal S4x1024x6144 .f32) (b : FVec Ideal S4x6144 .f32) :
    addf (transpose S4x8x6144 [0, 2, 1] (product x w) transposes_S4x6144x8_S4x8x6144_0_2_1) (broadcastInDim S4x8x6144 ![0, 1, 2] bcast_S4x1x6144_S4x8x6144_0_1_2 (broadcastInDim S4x1x6144 ![0, 2] bcast_S4x6144_S4x1x6144_0_2 b)) = modulations x w b := by
  funext j
  obtain ⟨l, i, n, rfl⟩ : ∃ (l : Fin 4) (i : Fin 8) (n : Fin 6144), j = ix3 l i n := ⟨j 0, j 1, j 2, eq_ix3 j⟩
  have h : modulations x w b (ix3 l i n) = product x w (ix3 l n i) + b (ix2 l n) := by
    rw [product_apply]
    show modulation x w b l i n = _
    unfold modulation
    simp only [mul_comm]
  rw [h]
  pointwise

end

theorem kernel_run (m : (ℓ : Loc Cert.Kernel5Ideal.nD Cert.Kernel5Ideal.τ Cert.Kernel5Ideal.sig) → Buf (Elt Ideal) ℓ)
    (ρ : Dev Cert.Kernel5Ideal.nD → PrngReg) :
    θ_run (Cert.Kernel5Ideal.defs (F := Ideal)) (onTc (τ := Cert.Kernel5Ideal.τ) (Cert.Kernel5Ideal.main (F := Ideal))) ⟨m, fun _ => 0, ρ⟩ fun r => ∀ c : Dev Cert.Kernel5Ideal.nD,
      r.2.mem ((c.tc : Thread Cert.Kernel5Ideal.nD Cert.Kernel5Ideal.τ).loc Cert.Kernel5Ideal.main_v1) = modulations (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))
      ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2) :=
  (θ_run Cert.Kernel5Ideal.defs _ _).mono (fun r h c => ⟨(h c).1.trans (arr3 m c), (h c).2⟩)
    (Cert.Kernel5Ideal.Value.run_blocks (F := Ideal) m ρ)

theorem reference_run (m' : (ℓ : Loc Cert.Reference5Ideal.nD Cert.Reference5Ideal.τ Cert.Reference5Ideal.sig) → Buf (Elt Ideal) ℓ)
    (ρ : Dev Cert.Reference5Ideal.nD → PrngReg) :
    θ_run (Cert.Reference5Ideal.defs (F := Ideal)) (onTc (τ := Cert.Reference5Ideal.τ) (Cert.Reference5Ideal.main (F := Ideal))) ⟨m', fun _ => 0, ρ⟩ fun r => ∀ c : Dev Cert.Reference5Ideal.nD,
      r.2.mem ((c.tc : Thread Cert.Reference5Ideal.nD Cert.Reference5Ideal.τ).loc Cert.Reference5Ideal.main_v5) = modulations (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2))
      ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2) :=
  (θ_run Cert.Reference5Ideal.defs _ _).mono (fun r h c => ⟨(h c).1.trans (sum_eq (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2))), (h c).2⟩)
    (Cert.Reference5Ideal.Value.run (F := Ideal) m' ρ)

end Cert.Ada

end

end
-- ==== Proof.Slots.Value.lean ====
/-
  The experts' call over the slots: what it leaves, over the extended reals.
-/
module

public import proofs.«01_k».proof.Proof.Moe.Spec
public import proofs.«01_k».proof.Proof.Gen.Kernel6Ideal.Value
public import Idealize.ShloMosaic.Lib.Pipeline.ValueKit
public import Idealize.ShloMosaic.Lib.Tactic
public import Idealize.ShloMosaic.Lib.StableHlo.RunRead

@[expose] public section

noncomputable section

open Idealize.ShloMosaic Idealize.ShloMosaic.TcCoe Idealize.SL.Sem

namespace Cert.Slots

open Cert.Kernel6Ideal Cert.Kernel6Ideal.Gen

/-- Channel `d` of slot `s` under expert `e`. -/
def slot (x : (⟨3, ![64, 8192, 1024]⟩ : Shape).Idx → EReal) (wg wu : (⟨4, ![4, 64, 1024, 256]⟩ : Shape).Idx → EReal)
    (wd : (⟨4, ![4, 64, 256, 1024]⟩ : Shape).Idx → EReal) (e : Fin 64) (s : Fin 8192) (d : Fin 1024) : EReal :=
  Moe.shared (fun n => x (ix3 e s n)) (fun n f => wg (ix4 0 e n f)) (fun n f => wu (ix4 0 e n f)) (fun f d => wd (ix4 0 e f d)) d

/-- All of them, as an array. -/
def slots (x : (⟨3, ![64, 8192, 1024]⟩ : Shape).Idx → EReal) (wg wu : (⟨4, ![4, 64, 1024, 256]⟩ : Shape).Idx → EReal)
    (wd : (⟨4, ![4, 64, 256, 1024]⟩ : Shape).Idx → EReal) : (⟨3, ![64, 8192, 1024]⟩ : Shape).Idx → EReal :=
  fun i => slot x wg wu wd (i 0) (i 1) (i 2)

theorem off3 : (![0, 0, 0] : Fin 3 → Nat) = fun _ => 0 := funext fun a => by fin_cases a <;> rfl
theorem off4 : (![0, 0, 0, 0] : Fin 4 → Nat) = fun _ => 0 := funext fun a => by fin_cases a <;> rfl

/-- One block: a run of an expert's slots through its gate, up and down weights. -/
theorem out3 (x0 : Vec Ideal S1x2048x1024 .bf16) (x1 : Vec Ideal S1x1x1024x512 .bf16) (x2 : Vec Ideal S1x1x256x1024 .bf16) (r : Fin 2048) (d : Fin 1024) :
    out0_3 x0 x1 x2 (ix3 (0 : Fin 1) r d) = ∑ f : Fin 256, Moe.act (∑ n : Fin 1024, x0 (ix3 0 r n) * x1 (ix4 0 0 n ⟨f.val, by omega⟩)) (∑ n : Fin 1024, x0 (ix3 0 r n) * x1 (ix4 0 0 n ⟨256 + f.val, by omega⟩)) * x2 (ix4 0 0 f d) := by
  unfold out0_3 k0_pay1 Moe.act
  rw [View.canon_unit_zero off3]
  simp only [View.ld_unit_zero (S := S1x2048x1024) off3, View.ld_unit_zero (S := S1x1x1024x512) off4, View.ld_unit_zero (S := S1x1x256x1024) off4]
  pointwise

variable (m : (ℓ : Loc nD τ sig) → Buf (Elt Ideal) ℓ) (c : Dev nD)

theorem steps : ∀ t : Fin cfg0.N, win0_0.index t = ![t.val / 4, t.val % 4, 0] ∧ win0_1.index t = ![0, t.val / 4, 0, 0]
    ∧ win0_2.index t = ![0, t.val / 4, 0, 0] ∧ win0_3.index t = ![t.val / 4, t.val % 4, 0] := by decide +kernel

theorem lt256 (t : Fin cfg0.N) : t.val < 256 := lt_of_lt_of_eq t.isLt N_0

/-- The expert of a grid point, and the place of its slot. -/
def expert (t : Fin cfg0.N) : Fin 64 := ⟨t.val / 4, by have := lt256 t; omega⟩
def pos (t : Fin cfg0.N) (r : Fin 2048) : Fin 8192 := ⟨t.val % 4 * 2048 + r.val, by omega⟩

/-- The arrays the call is given. -/
abbrev ax : (⟨3, ![64, 8192, 1024]⟩ : Shape).Idx → EReal := m ((c : Thread nD τ).loc main_arg0)
abbrev ag : (⟨4, ![4, 64, 1024, 256]⟩ : Shape).Idx → EReal := m ((c : Thread nD τ).loc main_arg1)
abbrev au : (⟨4, ![4, 64, 1024, 256]⟩ : Shape).Idx → EReal := m ((c : Thread nD τ).loc main_arg2)
abbrev ad : (⟨4, ![4, 64, 256, 1024]⟩ : Shape).Idx → EReal := m ((c : Thread nD τ).loc main_arg3)

theorem blk0 (t : Fin cfg0.N) (r : Fin 2048) (n : Fin 1024) : iblk m c 0 t (ix3 0 r n) = ax m c (ix3 (expert t) (pos t r) n) := by
  have ht := lt256 t
  have e : (((cfg0.win 0).blk t).view.emb (ix3 (0 : Fin 1) r n) : S64x8192x1024.Idx) = ix3 (expert t) (pos t r) n := by
    unfold expert pos
    blk_ext [(steps t).1]
  unfold iblk
  rw [View.read_apply]
  erw [e]
  show V m c main_v2 _ = _
  entry_read
  rfl

/-- The two weights side by side, read in either half. -/
theorem blk1_gate_read (a b : FVec Ideal S4x64x1024x256 .f32) (e : Fin 64) (n : Fin 1024) (f : Fin 256) :
    truncf .bf16 (concatenate S4x64x1024x512 3 [⟨S4x64x1024x256, a⟩, ⟨S4x64x1024x256, b⟩] concatenates_S4x64x1024x256_S4x64x1024x256_S4x64x1024x512_d3) bitsLt_bf16_f32 (ix4 0 e n ⟨f.val, by omega⟩) = a (ix4 0 e n f) := by
  pointwise

theorem blk1_up_read (a b : FVec Ideal S4x64x1024x256 .f32) (e : Fin 64) (n : Fin 1024) (f : Fin 256) :
    truncf .bf16 (concatenate S4x64x1024x512 3 [⟨S4x64x1024x256, a⟩, ⟨S4x64x1024x256, b⟩] concatenates_S4x64x1024x256_S4x64x1024x256_S4x64x1024x512_d3) bitsLt_bf16_f32 (ix4 0 e n ⟨256 + f.val, by omega⟩) = b (ix4 0 e n f) := by
  pointwise

/-- The expert's gate weights. -/
theorem blk1_gate (t : Fin cfg0.N) (n : Fin 1024) (f : Fin 256) : iblk m c 1 t (ix4 0 0 n ⟨f.val, by omega⟩)
    = ag m c (ix4 0 (expert t) n f) := by
  have ht := lt256 t
  have e : (((cfg0.win 1).blk t).view.emb (ix4 (0 : Fin 1) (0 : Fin 1) n (⟨f.val, by omega⟩ : Fin 512)) : S4x64x1024x512.Idx) = ix4 0 (expert t) n ⟨f.val, by omega⟩ := by
    unfold expert
    blk_ext [(steps t).2.1]
  unfold iblk
  rw [View.read_apply]
  erw [e]
  show V m c main_v1 _ = _
  entry_read
  exact blk1_gate_read _ _ _ _ _

/-- The expert's up weights. -/
theorem blk1_up (t : Fin cfg0.N) (n : Fin 1024) (f : Fin 256) : iblk m c 1 t (ix4 0 0 n ⟨256 + f.val, by omega⟩)
    = au m c (ix4 0 (expert t) n f) := by
  have ht := lt256 t
  have e : (((cfg0.win 1).blk t).view.emb (ix4 (0 : Fin 1) (0 : Fin 1) n (⟨256 + f.val, by omega⟩ : Fin 512)) : S4x64x1024x512.Idx) = ix4 0 (expert t) n ⟨256 + f.val, by omega⟩ := by
    unfold expert
    blk_ext [(steps t).2.1]
  unfold iblk
  rw [View.read_apply]
  erw [e]
  show V m c main_v1 _ = _
  entry_read
  exact blk1_up_read _ _ _ _ _

/-- The expert's down weights. -/
theorem blk2 (t : Fin cfg0.N) (f : Fin 256) (d : Fin 1024) : iblk m c 2 t (ix4 0 0 f d) = ad m c (ix4 0 (expert t) f d) := by
  have ht := lt256 t
  have e : (((cfg0.win 2).blk t).view.emb (ix4 (0 : Fin 1) (0 : Fin 1) f d) : S4x64x256x1024.Idx) = ix4 0 (expert t) f d := by
    unfold expert
    blk_ext [(steps t).2.2.1]
  unfold iblk
  rw [View.read_apply]
  erw [e]
  show V m c main_v3 _ = _
  entry_read
  rfl

theorem arr3 : (dats m 0 c).arrAt 3 cfg0.N = slots (ax m c) (ag m c) (au m c) (ad m c) := by
  refine (dats m 0 c).arrAt_eq_of_covers 3 _ (by decide +kernel) fun t hf y => ?_
  blk_simp
  rw [after0_3]
  obtain ⟨z, r, d, rfl⟩ : ∃ (z : Fin 1) (r : Fin 2048) (d : Fin 1024), y = ix3 z r d := ⟨y 0, y 1, y 2, eq_ix3 y⟩
  obtain rfl : z = 0 := Subsingleton.elim _ _
  have ht := lt256 t
  have e : ((win0_3.blk t).view.emb (ix3 (0 : Fin 1) r d) : S64x8192x1024.Idx) = ix3 (expert t) (pos t r) d := by
    unfold expert pos
    blk_ext [(steps t).2.2.2]
  erw [e]
  refine (out3 _ _ _ r d).trans ?_
  simp only [blk0, blk1_gate, blk1_up, blk2]
  rfl

end Cert.Slots

end

end
-- ==== Proof.Slots.Runs.lean ====
/-
  What the reference of the experts' call computes, and what the two runs leave.
-/
module

public import proofs.«01_k».proof.Proof.Slots.Value
public import proofs.«01_k».proof.Proof.Gen.Reference6Ideal.Run
public import Idealize.ShloMosaic.Lib.Pointwise
public import Idealize.ShloMosaic.Lib.ValueIdx
public import Idealize.ShloMosaic.Lib.ValueLayout

@[expose] public section

noncomputable section

open Idealize.ShloMosaic Idealize.ShloMosaic.TcCoe Idealize.SL.Sem

namespace Cert.Slots

section
open Cert.Reference6Ideal Cert.Reference6Ideal.Gen

/-- The first layer's gate or up weights. -/
def upw (a : FVec Ideal S4x64x1024x256 .f32) : FVec Ideal S64x1024x256 .f32 :=
  shapeCast S64x1024x256 (extractStridedSlice S1x64x1024x256 ![0, 0, 0, 0] a slices_S4x64x1024x256_S1x64x1024x256_0_0_0_0) shapeCasts_S1x64x1024x256_S64x1024x256

/-- The first layer's down weights. -/
def downw (a : FVec Ideal S4x64x256x1024 .f32) : FVec Ideal S64x256x1024 .f32 :=
  shapeCast S64x256x1024 (extractStridedSlice S1x64x256x1024 ![0, 0, 0, 0] a slices_S4x64x256x1024_S1x64x256x1024_0_0_0_0) shapeCasts_S1x64x256x1024_S64x256x1024

theorem upw_apply (a : FVec Ideal S4x64x1024x256 .f32) (e : Fin 64) (n : Fin 1024) (f : Fin 256) : upw a (ix3 e n f) = a (ix4 0 e n f) := by
  unfold upw
  pointwise

theorem downw_apply (a : FVec Ideal S4x64x256x1024 .f32) (e : Fin 64) (f : Fin 256) (d : Fin 1024) : downw a (ix3 e f d) = a (ix4 0 e f d) := by
  unfold downw
  pointwise

/-- The slots through one of an expert's weights. -/
def through (x : FVec Ideal S64x8192x1024 .f32) (w : FVec Ideal S64x1024x256 .f32) : FVec Ideal S64x8192x256 .f32 :=
  Host.dotGeneral dot_S64x8192x1024_S64x1024x256_S64x8192x256_2_1_1_2_0_0 none x w

theorem through_apply (x : FVec Ideal S64x8192x1024 .f32) (w : FVec Ideal S64x1024x256 .f32) (e : Fin 64) (s : Fin 8192) (f : Fin 256) :
    through x w (ix3 e s f) = ∑ n : Fin 1024, x (ix3 e s n) * w (ix3 e n f) := by
  unfold through
  pointwise

/-- The activations of gate and up columns. -/
def acts (a b : FVec Ideal S64x8192x256 .f32) : FVec Ideal S64x8192x256 .f32 :=
  mulf (mulf a (Host.divf (broadcastInDim S64x8192x256 ![] bcast_S_S64x8192x256 (constant S_ .f32 0x3F800000#32)) (addf (broadcastInDim S64x8192x256 ![] bcast_S_S64x8192x256 (constant S_ .f32 0x3F800000#32)) (Host.exp (Host.negf a))))) b

theorem acts_apply (a b : FVec Ideal S64x8192x256 .f32) (e : Fin 64) (s : Fin 8192) (f : Fin 256) :
    acts a b (ix3 e s f) = Moe.act (a (ix3 e s f)) (b (ix3 e s f)) := by
  unfold acts Moe.act
  simp only [zero_sub]
  pointwise

/-- The activations through the down weights. -/
def down (h : FVec Ideal S64x8192x256 .f32) (w : FVec Ideal S64x256x1024 .f32) : FVec Ideal S64x8192x1024 .bf16 :=
  truncf .bf16 (Host.dotGeneral dot_S64x8192x256_S64x256x1024_S64x8192x1024_2_1_1_2_0_0 none h w) bitsLt_bf16_f32

theorem down_apply (h : FVec Ideal S64x8192x256 .f32) (w : FVec Ideal S64x256x1024 .f32) (e : Fin 64) (s : Fin 8192) (d : Fin 1024) :
    down h w (ix3 e s d) = ∑ f : Fin 256, h (ix3 e s f) * w (ix3 e f d) := by
  unfold down
  pointwise

theorem down_eq (x : FVec Ideal S64x8192x1024 .f32) (wg wu : FVec Ideal S4x64x1024x256 .f32) (wd : FVec Ideal S4x64x256x1024 .f32) :
    down (acts (through x (upw wg)) (through x (upw wu))) (downw wd) = slots x wg wu wd := by
  funext j
  obtain ⟨e, s, d, rfl⟩ : ∃ (e : Fin 64) (s : Fin 8192) (d : Fin 1024), j = ix3 e s d := ⟨j 0, j 1, j 2, eq_ix3 j⟩
  rw [down_apply]
  simp only [acts_apply, through_apply, upw_apply, downw_apply]
  rfl

end

theorem kernel_run (m : (ℓ : Loc Cert.Kernel6Ideal.nD Cert.Kernel6Ideal.τ Cert.Kernel6Ideal.sig) → Buf (Elt Ideal) ℓ)
    (ρ : Dev Cert.Kernel6Ideal.nD → PrngReg) :
    θ_run (Cert.Kernel6Ideal.defs (F := Ideal)) (onTc (τ := Cert.Kernel6Ideal.τ) (Cert.Kernel6Ideal.main (F := Ideal))) ⟨m, fun _ => 0, ρ⟩ fun r => ∀ c : Dev Cert.Kernel6Ideal.nD,
      r.2.mem ((c.tc : Thread Cert.Kernel6Ideal.nD Cert.Kernel6Ideal.τ).loc Cert.Kernel6Ideal.main_v4) = slots (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))
      ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3) :=
  (θ_run Cert.Kernel6Ideal.defs _ _).mono (fun r h c => ⟨(h c).1.trans (arr3 m c), (h c).2⟩)
    (Cert.Kernel6Ideal.Value.run_blocks (F := Ideal) m ρ)

theorem reference_run (m' : (ℓ : Loc Cert.Reference6Ideal.nD Cert.Reference6Ideal.τ Cert.Reference6Ideal.sig) → Buf (Elt Ideal) ℓ)
    (ρ : Dev Cert.Reference6Ideal.nD → PrngReg) :
    θ_run (Cert.Reference6Ideal.defs (F := Ideal)) (onTc (τ := Cert.Reference6Ideal.τ) (Cert.Reference6Ideal.main (F := Ideal))) ⟨m', fun _ => 0, ρ⟩ fun r => ∀ c : Dev Cert.Reference6Ideal.nD,
      r.2.mem ((c.tc : Thread Cert.Reference6Ideal.nD Cert.Reference6Ideal.τ).loc Cert.Reference6Ideal.main_v11) = slots (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3))
      ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3) :=
  (θ_run Cert.Reference6Ideal.defs _ _).mono (fun r h c => ⟨(h c).1.trans (down_eq (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3))), (h c).2⟩)
    (Cert.Reference6Ideal.Value.run (F := Ideal) m' ρ)

end Cert.Slots

end

end
-- ==== Proof.Combine.Step.lean ====
/-
  What one grid point of the combining call leaves: a group's tokens with what their experts' slots hold for them.
-/
module

public import proofs.«01_k».proof.Proof.Moe.Spec
public import proofs.«01_k».proof.Proof.Gen.Kernel7Ideal.Frame
public import Idealize.ShloMosaic.Lib.Pipeline.Value
public import Idealize.ShloMosaic.Lib.Pipeline.ValueKit
public import Idealize.ShloMosaic.Lib.Tactic

@[expose] public section

noncomputable section

open Idealize.ShloMosaic Idealize.ShloMosaic.TcCoe Idealize.SL.Sem

namespace Cert.Combine

open Cert.Kernel7Ideal Cert.Kernel7Ideal.Gen

/-- A token's weight `g` where its rank `r` is the slot `k`, zero elsewhere. -/
def hit (k : Fin 64) (r : BitVec 32) (g : EReal) : EReal := Scalar.select (IntOp.cmpi .eq (BitVec.ofNat 32 k.val) r) g 0

/-- One expert's slots against the group's tokens: the expert is row `o` of the ranks and gates. -/
def picked (o : Nat) (h : Shape.Slices S16x256 ![o, 0] S1x256) (rk : IVec S16x256 32) (gt : FVec Ideal S16x256 .f32) : FVec Ideal S64x256 .f32 :=
  select (cmpi .eq (iota .tc S64x256 32 [0] iota_S64x256_d0_w32) (broadcastTo S64x256 (extractStridedSlice S1x256 ![o, 0] rk h) broadcasts_S1x256_S64x256))
    (broadcastTo S64x256 (shapeCast S1x256 (extractStridedSlice S1x256 ![o, 0] gt h) shapeCasts_S1x256_S1x256) broadcasts_S1x256_S64x256)
    (broadcast S64x256 (Scalar.ofBits .f32 0x00000000#32))

/-- Sixteen experts' slots, one expert under another. -/
def picks (rk : IVec S16x256 32) (gt : FVec Ideal S16x256 .f32) : FVec Ideal S1024x256 .f32 :=
  concatenate S1024x256 0 [⟨S64x256, picked 0 slices_S16x256_o0_0_S1x256 rk gt⟩, ⟨S64x256, picked 1 slices_S16x256_o1_0_S1x256 rk gt⟩, ⟨S64x256, picked 2 slices_S16x256_o2_0_S1x256 rk gt⟩, ⟨S64x256, picked 3 slices_S16x256_o3_0_S1x256 rk gt⟩, ⟨S64x256, picked 4 slices_S16x256_o4_0_S1x256 rk gt⟩, ⟨S64x256, picked 5 slices_S16x256_o5_0_S1x256 rk gt⟩, ⟨S64x256, picked 6 slices_S16x256_o6_0_S1x256 rk gt⟩, ⟨S64x256, picked 7 slices_S16x256_o7_0_S1x256 rk gt⟩, ⟨S64x256, picked 8 slices_S16x256_o8_0_S1x256 rk gt⟩, ⟨S64x256, picked 9 slices_S16x256_o9_0_S1x256 rk gt⟩, ⟨S64x256, picked 10 slices_S16x256_o10_0_S1x256 rk gt⟩, ⟨S64x256, picked 11 slices_S16x256_o11_0_S1x256 rk gt⟩, ⟨S64x256, picked 12 slices_S16x256_o12_0_S1x256 rk gt⟩, ⟨S64x256, picked 13 slices_S16x256_o13_0_S1x256 rk gt⟩, ⟨S64x256, picked 14 slices_S16x256_o14_0_S1x256 rk gt⟩, ⟨S64x256, picked 15 slices_S16x256_o15_0_S1x256 rk gt⟩] concatenates_S64x256_S64x256_S64x256_S64x256_S64x256_S64x256_S64x256_S64x256_S64x256_S64x256_S64x256_S64x256_S64x256_S64x256_S64x256_S64x256_S1024x256_d0

set_option maxHeartbeats 4000000 in
theorem picks_apply (rk : IVec S16x256 32) (gt : FVec Ideal S16x256 .f32) (e : Fin 16) (k : Fin 64) (t : Fin 256) :
    picks rk gt (ix2 ⟨64 * e.val + k.val, by omega⟩ t) = hit k (rk (ix2 e t)) (gt (ix2 e t)) := by
  unfold picks picked hit
  fin_cases e <;> pointwise <;> simp (disch := omega) only [dif_pos, dif_neg] <;> refine congrArg (fun n => Scalar.select (IntOp.cmpi .eq (BitVec.ofNat 32 n) _) _ 0) ?_ <;> omega

/-- The tokens' rows with sixteen more experts. -/
def added (y : FVec Ideal S256x1024 .f32) (p : FVec Ideal S1024x256 .f32) (v : Vec Ideal S16x64x1024 .bf16) : FVec Ideal S256x1024 .f32 :=
  addf y (matmul dot_S1024x256_S1024x1024_S256x1024_0_0_1_1_n_n none (truncf .bf16 p bitsLt_bf16_f32) (shapeCast S1024x1024 (shapeCast S16x64x1024 v shapeCasts_S16x64x1024_S16x64x1024) shapeCasts_S16x64x1024_S1024x1024 : FVec Ideal S1024x1024 .bf16) (constant S256x1024 .f32 0x00000000#32))

theorem added_row (y : FVec Ideal S256x1024 .f32) (p : FVec Ideal S1024x256 .f32) (v : Vec Ideal S16x64x1024 .bf16) (t : Fin 256) (d : Fin 1024) :
    added y p v (ix2 t d) = y (ix2 t d) + ∑ q : Fin 1024, p (ix2 q t) * v (ix3 ⟨q.val / 64, by omega⟩ ⟨q.val % 64, by omega⟩ d) := by
  unfold added
  pointwise

/-- A sum over 1024 rows, as sixteen runs of 64. -/
theorem sum_slots (f : Fin 1024 → EReal) :
    ∑ x, f x = ∑ e : Fin 16, ∑ k : Fin 64, f ⟨64 * e.val + k.val, by omega⟩ := by
  rw [← Fintype.sum_prod_type']
  refine (Fintype.sum_equiv (finProdFinEquiv (m := 16) (n := 64)) _ _ fun p => ?_).symm
  congr 1
  exact Fin.ext (by simp [finProdFinEquiv]; omega)

/-- The 64 experts, as four runs of sixteen. -/
theorem sum_experts (f : Fin 64 → EReal) :
    ∑ e, f e = ((∑ e : Fin 16, f ⟨e.val, by omega⟩ + ∑ e : Fin 16, f ⟨16 + e.val, by omega⟩) + ∑ e : Fin 16, f ⟨32 + e.val, by omega⟩) + ∑ e : Fin 16, f ⟨48 + e.val, by omega⟩ := by
  have h : ∑ e, f e = ∑ s : Fin 4, ∑ k : Fin 16, f ⟨16 * s.val + k.val, by omega⟩ := by
    rw [← Fintype.sum_prod_type']
    refine (Fintype.sum_equiv (finProdFinEquiv (m := 4) (n := 16)) _ _ fun p => ?_).symm
    congr 1
    exact Fin.ext (by simp [finProdFinEquiv]; omega)
  rw [h, Fin.sum_univ_four]
  simp

theorem added_apply (y : FVec Ideal S256x1024 .f32) (rk : IVec S16x256 32) (gt : FVec Ideal S16x256 .f32) (v : Vec Ideal S16x64x1024 .bf16) (t : Fin 256) (d : Fin 1024) :
    added y (picks rk gt) v (ix2 t d) = y (ix2 t d) + ∑ e : Fin 16, ∑ k : Fin 64, hit k (rk (ix2 e t)) (gt (ix2 e t)) * v (ix3 e k d) := by
  rw [added_row, sum_slots]
  congr 1
  refine Finset.sum_congr rfl fun e _ => Finset.sum_congr rfl fun k _ => ?_
  rw [picks_apply]
  congr 2
  refine congrArg₂ (fun a b => ix3 a b d) (Fin.ext ?_) (Fin.ext ?_) <;> (show _ = _) <;> simp <;> omega

theorem off2 : (![0, 0] : Fin 2 → Nat) = fun _ => 0 := funext fun a => by fin_cases a <;> rfl
theorem off3 : (![0, 0, 0] : Fin 3 → Nat) = fun _ => 0 := funext fun a => by fin_cases a <;> rfl

/-- The ranks, and the gates, of sixteen experts. -/
def ranks (x : Vec Ideal S1x16x256 .i32) : IVec S16x256 32 := shapeCast S16x256 x shapeCasts_S1x16x256_S16x256
def weights (x : Vec Ideal S1x16x256 .f32) : FVec Ideal S16x256 .f32 := shapeCast S16x256 x shapeCasts_S1x16x256_S16x256

theorem ranks_apply (x : Vec Ideal S1x16x256 .i32) (e : Fin 16) (t : Fin 256) : ranks x (ix2 e t) = x (ix3 0 e t) := by
  unfold ranks
  pointwise

theorem weights_apply (x : Vec Ideal S1x16x256 .f32) (e : Fin 16) (t : Fin 256) : weights x (ix2 e t) = x (ix3 0 e t) := by
  unfold weights
  pointwise

/-- The residual with the block's rows. -/
def blended (y : FVec Ideal S256x1024 .f32) (s : Vec Ideal S1x1x1024 .f32) (x : Vec Ideal S256x1024 .f32) : FVec Ideal S256x1024 .f32 :=
  addf (mulf (broadcast S256x1024 (Scalar.ofBits .f32 0x3FD744FD#32)) (shapeCast S256x1024 x shapeCasts_S256x1024_S256x1024))
    (mulf (broadcastTo S256x1024 (addf (broadcast S1x1024 (Scalar.ofBits .f32 0x3F800000#32)) (shapeCast S1x1024 s shapeCasts_S1x1x1024_S1x1024)) broadcasts_S1x1024_S256x1024) y)

theorem blended_apply (y : FVec Ideal S256x1024 .f32) (s : Vec Ideal S1x1x1024 .f32) (x : Vec Ideal S256x1024 .f32) (t : Fin 256) (d : Fin 1024) :
    blended y s x (ix2 t d) = Moe.mixed (fun d => x (ix2 t d)) (fun d => y (ix2 t d)) (fun d => s (ix3 0 0 d)) d := by
  unfold blended Moe.mixed
  pointwise

theorem norm_apply (v : FVec Ideal S256x1024 .f32) (g b : Vec Ideal S1x1x1024 .f32) (t : Fin 256) (d : Fin 1024) :
    k0_pay1 v g b (ix2 t d) = Moe.norm (fun d => v (ix2 t d)) (fun d => g (ix3 0 0 d)) (fun d => b (ix3 0 0 d)) d := by
  unfold k0_pay1 Moe.norm Moe.mean
  pointwise

/-- The shared expert's rows. -/
theorem shared_apply (u : Vec Ideal S256x1024 .bf16) (w : Vec Ideal S1x1024x512 .bf16) (wd : Vec Ideal S1x256x1024 .bf16) (t : Fin 256) (d : Fin 1024) :
    k0_pay2 u w wd (ix2 t d) = ∑ f : Fin 256, Moe.act (∑ n : Fin 1024, u (ix2 t n) * w (ix3 0 n ⟨f.val, by omega⟩)) (∑ n : Fin 1024, u (ix2 t n) * w (ix3 0 n ⟨256 + f.val, by omega⟩)) * wd (ix3 0 f d) := by
  unfold k0_pay2 Moe.act
  pointwise

/-- The ranks, gates and slots of each sixteen experts in turn, and the row that scales the block. -/
def ranks0 (x : Vec Ideal S1x64x256 .i32) : IVec S16x256 32 := ranks (View.ld x r0_3)
def weights0 (x : Vec Ideal S1x64x256 .f32) : FVec Ideal S16x256 .f32 := weights (View.ld x r0_3)
def rows0 (x : Vec Ideal S64x64x1024 .bf16) : Vec Ideal S16x64x1024 .bf16 := View.ld x r0_4
def ranks1 (x : Vec Ideal S1x64x256 .i32) : IVec S16x256 32 := ranks (View.ld x r0_5)
def weights1 (x : Vec Ideal S1x64x256 .f32) : FVec Ideal S16x256 .f32 := weights (View.ld x r0_5)
def rows1 (x : Vec Ideal S64x64x1024 .bf16) : Vec Ideal S16x64x1024 .bf16 := View.ld x r0_6
def ranks2 (x : Vec Ideal S1x64x256 .i32) : IVec S16x256 32 := ranks (View.ld x r0_7)
def weights2 (x : Vec Ideal S1x64x256 .f32) : FVec Ideal S16x256 .f32 := weights (View.ld x r0_7)
def rows2 (x : Vec Ideal S64x64x1024 .bf16) : Vec Ideal S16x64x1024 .bf16 := View.ld x r0_8
def ranks3 (x : Vec Ideal S1x64x256 .i32) : IVec S16x256 32 := ranks (View.ld x r0_9)
def weights3 (x : Vec Ideal S1x64x256 .f32) : FVec Ideal S16x256 .f32 := weights (View.ld x r0_9)
def rows3 (x : Vec Ideal S64x64x1024 .bf16) : Vec Ideal S16x64x1024 .bf16 := View.ld x r0_10
def scale (x : Vec Ideal S1x6x1024 .f32) : Vec Ideal S1x1x1024 .f32 := View.ld x r0_11

/-- What the point leaves, by sixteen experts at a time. -/
theorem out10_eq (x0 : Vec Ideal S64x64x1024 .bf16) (x1 : Vec Ideal S1x64x256 .i32) (x2 : Vec Ideal S1x64x256 .f32) (x3 : Vec Ideal S256x1024 .bf16) (x4 : Vec Ideal S256x1024 .f32) (x5 : Vec Ideal S1x6x1024 .f32) (x6 : Vec Ideal S1x1024x512 .bf16) (x7 : Vec Ideal S1x256x1024 .bf16) (x8 : Vec Ideal S1x1x1024 .f32) (x9 : Vec Ideal S1x1x1024 .f32) :
    out0_10 x0 x1 x2 x3 x4 x5 x6 x7 x8 x9 = k0_pay1 (blended (added (added (added (added (k0_pay2 x3 x6 x7) (picks (ranks0 x1) (weights0 x2)) (rows0 x0))
      (picks (ranks1 x1) (weights1 x2)) (rows1 x0)) (picks (ranks2 x1) (weights2 x2)) (rows2 x0))
      (picks (ranks3 x1) (weights3 x2)) (rows3 x0)) (scale x5) x4) x8 x9 := by
  unfold out0_10
  rw [View.canon_unit_zero off2]
  simp only [View.ld_unit_zero (S := S256x1024) off2, View.ld_unit_zero (S := S1x1024x512) off3, View.ld_unit_zero (S := S1x256x1024) off3, View.ld_unit_zero (S := S1x1x1024) off3]
  rfl

theorem ranks0_apply (x : Vec Ideal S1x64x256 .i32) (e : Fin 16) (t : Fin 256) : ranks0 x (ix2 e t) = x (ix3 0 ⟨e.val, by omega⟩ t) := by
  refine (ranks_apply _ e t).trans ?_
  refine congrArg x (funext fun a => Fin.ext ?_)
  fin_cases a
  · show 0 + 1 * 0 = 0
    omega
  · show 0 + 1 * e.val = e.val
    omega
  · show 0 + 1 * t.val = t.val
    omega

theorem weights0_apply (x : Vec Ideal S1x64x256 .f32) (e : Fin 16) (t : Fin 256) : weights0 x (ix2 e t) = x (ix3 0 ⟨e.val, by omega⟩ t) := by
  refine (weights_apply _ e t).trans ?_
  refine congrArg x (funext fun a => Fin.ext ?_)
  fin_cases a
  · show 0 + 1 * 0 = 0
    omega
  · show 0 + 1 * e.val = e.val
    omega
  · show 0 + 1 * t.val = t.val
    omega

theorem rows0_apply (x : Vec Ideal S64x64x1024 .bf16) (e : Fin 16) (k : Fin 64) (d : Fin 1024) : rows0 x (ix3 e k d) = x (ix3 ⟨e.val, by omega⟩ k d) := by
  refine congrArg x (funext fun a => Fin.ext ?_)
  fin_cases a
  · show 0 + 1 * e.val = e.val
    omega
  · show 0 + 1 * k.val = k.val
    omega
  · show 0 + 1 * d.val = d.val
    omega

theorem ranks1_apply (x : Vec Ideal S1x64x256 .i32) (e : Fin 16) (t : Fin 256) : ranks1 x (ix2 e t) = x (ix3 0 ⟨16 + e.val, by omega⟩ t) := by
  refine (ranks_apply _ e t).trans ?_
  refine congrArg x (funext fun a => Fin.ext ?_)
  fin_cases a
  · show 0 + 1 * 0 = 0
    omega
  · show 16 + 1 * e.val = 16 + e.val
    omega
  · show 0 + 1 * t.val = t.val
    omega

theorem weights1_apply (x : Vec Ideal S1x64x256 .f32) (e : Fin 16) (t : Fin 256) : weights1 x (ix2 e t) = x (ix3 0 ⟨16 + e.val, by omega⟩ t) := by
  refine (weights_apply _ e t).trans ?_
  refine congrArg x (funext fun a => Fin.ext ?_)
  fin_cases a
  · show 0 + 1 * 0 = 0
    omega
  · show 16 + 1 * e.val = 16 + e.val
    omega
  · show 0 + 1 * t.val = t.val
    omega

theorem rows1_apply (x : Vec Ideal S64x64x1024 .bf16) (e : Fin 16) (k : Fin 64) (d : Fin 1024) : rows1 x (ix3 e k d) = x (ix3 ⟨16 + e.val, by omega⟩ k d) := by
  refine congrArg x (funext fun a => Fin.ext ?_)
  fin_cases a
  · show 16 + 1 * e.val = 16 + e.val
    omega
  · show 0 + 1 * k.val = k.val
    omega
  · show 0 + 1 * d.val = d.val
    omega

theorem ranks2_apply (x : Vec Ideal S1x64x256 .i32) (e : Fin 16) (t : Fin 256) : ranks2 x (ix2 e t) = x (ix3 0 ⟨32 + e.val, by omega⟩ t) := by
  refine (ranks_apply _ e t).trans ?_
  refine congrArg x (funext fun a => Fin.ext ?_)
  fin_cases a
  · show 0 + 1 * 0 = 0
    omega
  · show 32 + 1 * e.val = 32 + e.val
    omega
  · show 0 + 1 * t.val = t.val
    omega

theorem weights2_apply (x : Vec Ideal S1x64x256 .f32) (e : Fin 16) (t : Fin 256) : weights2 x (ix2 e t) = x (ix3 0 ⟨32 + e.val, by omega⟩ t) := by
  refine (weights_apply _ e t).trans ?_
  refine congrArg x (funext fun a => Fin.ext ?_)
  fin_cases a
  · show 0 + 1 * 0 = 0
    omega
  · show 32 + 1 * e.val = 32 + e.val
    omega
  · show 0 + 1 * t.val = t.val
    omega

theorem rows2_apply (x : Vec Ideal S64x64x1024 .bf16) (e : Fin 16) (k : Fin 64) (d : Fin 1024) : rows2 x (ix3 e k d) = x (ix3 ⟨32 + e.val, by omega⟩ k d) := by
  refine congrArg x (funext fun a => Fin.ext ?_)
  fin_cases a
  · show 32 + 1 * e.val = 32 + e.val
    omega
  · show 0 + 1 * k.val = k.val
    omega
  · show 0 + 1 * d.val = d.val
    omega

theorem ranks3_apply (x : Vec Ideal S1x64x256 .i32) (e : Fin 16) (t : Fin 256) : ranks3 x (ix2 e t) = x (ix3 0 ⟨48 + e.val, by omega⟩ t) := by
  refine (ranks_apply _ e t).trans ?_
  refine congrArg x (funext fun a => Fin.ext ?_)
  fin_cases a
  · show 0 + 1 * 0 = 0
    omega
  · show 48 + 1 * e.val = 48 + e.val
    omega
  · show 0 + 1 * t.val = t.val
    omega

theorem weights3_apply (x : Vec Ideal S1x64x256 .f32) (e : Fin 16) (t : Fin 256) : weights3 x (ix2 e t) = x (ix3 0 ⟨48 + e.val, by omega⟩ t) := by
  refine (weights_apply _ e t).trans ?_
  refine congrArg x (funext fun a => Fin.ext ?_)
  fin_cases a
  · show 0 + 1 * 0 = 0
    omega
  · show 48 + 1 * e.val = 48 + e.val
    omega
  · show 0 + 1 * t.val = t.val
    omega

theorem rows3_apply (x : Vec Ideal S64x64x1024 .bf16) (e : Fin 16) (k : Fin 64) (d : Fin 1024) : rows3 x (ix3 e k d) = x (ix3 ⟨48 + e.val, by omega⟩ k d) := by
  refine congrArg x (funext fun a => Fin.ext ?_)
  fin_cases a
  · show 48 + 1 * e.val = 48 + e.val
    omega
  · show 0 + 1 * k.val = k.val
    omega
  · show 0 + 1 * d.val = d.val
    omega

theorem scale_apply (x : Vec Ideal S1x6x1024 .f32) (d : Fin 1024) : scale x (ix3 0 0 d) = x (ix3 0 5 d) := by
  refine congrArg x (funext fun a => Fin.ext ?_)
  fin_cases a
  · show 0 + 1 * 0 = 0
    omega
  · show 5 + 1 * 0 = 5
    omega
  · show 0 + 1 * d.val = d.val
    omega

/-- One row of what the point leaves. -/
theorem out10 (x0 : Vec Ideal S64x64x1024 .bf16) (x1 : Vec Ideal S1x64x256 .i32) (x2 : Vec Ideal S1x64x256 .f32) (x3 : Vec Ideal S256x1024 .bf16) (x4 : Vec Ideal S256x1024 .f32) (x5 : Vec Ideal S1x6x1024 .f32) (x6 : Vec Ideal S1x1024x512 .bf16) (x7 : Vec Ideal S1x256x1024 .bf16) (x8 : Vec Ideal S1x1x1024 .f32) (x9 : Vec Ideal S1x1x1024 .f32) (t : Fin 256) (d : Fin 1024) :
    out0_10 x0 x1 x2 x3 x4 x5 x6 x7 x8 x9 (ix2 t d) = Moe.norm (Moe.mixed (fun d => x4 (ix2 t d))
      (fun d => ∑ e : Fin 64, ∑ k : Fin 64, hit k (x1 (ix3 0 e t)) (x2 (ix3 0 e t)) * x0 (ix3 e k d)
        + ∑ f : Fin 256, Moe.act (∑ n : Fin 1024, x3 (ix2 t n) * x6 (ix3 0 n ⟨f.val, by omega⟩)) (∑ n : Fin 1024, x3 (ix2 t n) * x6 (ix3 0 n ⟨256 + f.val, by omega⟩)) * x7 (ix3 0 f d))
      (fun d => x5 (ix3 0 5 d))) (fun d => x8 (ix3 0 0 d)) (fun d => x9 (ix3 0 0 d)) d := by
  rw [out10_eq, norm_apply]
  simp only [blended_apply, added_apply, shared_apply, ranks0_apply, ranks1_apply, ranks2_apply, ranks3_apply, weights0_apply, weights1_apply, weights2_apply, weights3_apply, rows0_apply, rows1_apply, rows2_apply, rows3_apply, scale_apply]
  congr 2
  funext d
  congr 1
  funext d
  conv_rhs => rw [sum_experts]
  ac_rfl

end Cert.Combine

end

end
-- ==== Proof.Combine.Value.lean ====
/-
  The combining call: what it leaves, over the extended reals.
-/
module

public import proofs.«01_k».proof.Proof.Combine.Step
public import proofs.«01_k».proof.Proof.Gen.Kernel7Ideal.Value
public import Idealize.ShloMosaic.Lib.StableHlo.RunRead

@[expose] public section

noncomputable section

open Idealize.ShloMosaic Idealize.ShloMosaic.TcCoe Idealize.SL.Sem

namespace Cert.Combine

/-- What the experts' slots hold for row `R`: each expert's slot whose number is the token's rank under it, by its gate. -/
def gathered (ys : (⟨3, ![64, 8192, 1024]⟩ : Shape).Idx → EReal) (rk : (⟨3, ![8, 64, 4096]⟩ : Shape).Idx → BitVec 32)
    (gt : (⟨3, ![8, 64, 4096]⟩ : Shape).Idx → EReal) (R : Fin 32768) (d : Fin 1024) : EReal :=
  ∑ e : Fin 64, ∑ k : Fin 64, hit k (rk (ix3 ⟨R.val / 4096, by omega⟩ e ⟨R.val % 4096, by omega⟩))
    (gt (ix3 ⟨R.val / 4096, by omega⟩ e ⟨R.val % 4096, by omega⟩)) * ys (ix3 e ⟨R.val / 256 * 64 + k.val, by omega⟩ d)

/-- Row `R` of what the call leaves, at channel `d`. -/
def blend (ys : (⟨3, ![64, 8192, 1024]⟩ : Shape).Idx → EReal) (rk : (⟨3, ![8, 64, 4096]⟩ : Shape).Idx → BitVec 32)
    (gt : (⟨3, ![8, 64, 4096]⟩ : Shape).Idx → EReal) (u x : (⟨3, ![8, 4096, 1024]⟩ : Shape).Idx → EReal)
    (s : (⟨3, ![8, 6, 1024]⟩ : Shape).Idx → EReal) (sg su : (⟨3, ![4, 1024, 256]⟩ : Shape).Idx → EReal)
    (sd : (⟨3, ![4, 256, 1024]⟩ : Shape).Idx → EReal) (ga be : (⟨2, ![4, 1024]⟩ : Shape).Idx → EReal)
    (R : Fin 32768) (d : Fin 1024) : EReal :=
  Moe.norm (Moe.mixed (Moe.row x R)
      (fun d => gathered ys rk gt R d
        + Moe.shared (Moe.row u R) (fun n f => sg (ix3 0 n f)) (fun n f => su (ix3 0 n f)) (fun f d => sd (ix3 0 f d)) d)
      (fun d => s (ix3 ⟨R.val / 4096, by omega⟩ 5 d)))
    (fun d => ga (ix2 0 d)) (fun d => be (ix2 0 d)) d

/-- All the rows, as an array. -/
def blends (ys : (⟨3, ![64, 8192, 1024]⟩ : Shape).Idx → EReal) (rk : (⟨3, ![8, 64, 4096]⟩ : Shape).Idx → BitVec 32)
    (gt : (⟨3, ![8, 64, 4096]⟩ : Shape).Idx → EReal) (u x : (⟨3, ![8, 4096, 1024]⟩ : Shape).Idx → EReal)
    (s : (⟨3, ![8, 6, 1024]⟩ : Shape).Idx → EReal) (sg su : (⟨3, ![4, 1024, 256]⟩ : Shape).Idx → EReal)
    (sd : (⟨3, ![4, 256, 1024]⟩ : Shape).Idx → EReal) (ga be : (⟨2, ![4, 1024]⟩ : Shape).Idx → EReal) :
    (⟨2, ![32768, 1024]⟩ : Shape).Idx → EReal :=
  fun i => blend ys rk gt u x s sg su sd ga be (i 0) (i 1)

section
open Cert.Kernel7Ideal Cert.Kernel7Ideal.Gen

variable (m : (ℓ : Loc nD τ sig) → Buf (Elt Ideal) ℓ) (c : Dev nD)

theorem steps : ∀ t : Fin cfg0.N, win0_0.index t = ![0, t.val, 0] ∧ win0_1.index t = ![t.val / 16, 0, t.val % 16]
    ∧ win0_2.index t = ![t.val / 16, 0, t.val % 16] ∧ win0_3.index t = ![t.val, 0] ∧ win0_4.index t = ![t.val, 0]
    ∧ win0_5.index t = ![t.val / 16, 0, 0] ∧ win0_10.index t = ![t.val, 0] := by decide +kernel

theorem stays : ∀ t : Fin cfg0.N, win0_6.index t = ![0, 0, 0] ∧ win0_7.index t = ![0, 0, 0]
    ∧ win0_8.index t = ![0, 0, 0] ∧ win0_9.index t = ![0, 0, 0] := by decide +kernel

theorem lt128 (t : Fin cfg0.N) : t.val < 128 := lt_of_lt_of_eq t.isLt N_0

/-- The row of a grid point's token `r`. -/
def pos (t : Fin cfg0.N) (r : Fin 256) : Fin 32768 := ⟨t.val * 256 + r.val, by have := lt128 t; omega⟩

/-- The group's rows of the slots. -/
theorem blk0 (t : Fin cfg0.N) (e k : Fin 64) (d : Fin 1024) : iblk m c 0 t (ix3 e k d)
    = m ((c : Thread nD τ).loc main_arg0) (ix3 e ⟨t.val * 64 + k.val, by have := lt128 t; omega⟩ d) := by
  have ht := lt128 t
  have e : (((cfg0.win 0).blk t).view.emb (ix3 e k d) : S64x8192x1024.Idx) = ix3 e ⟨t.val * 64 + k.val, by have := lt128 t; omega⟩ d := by
    blk_ext [(steps t).1]
  unfold iblk
  rw [View.read_apply]
  erw [e]
  show V m c main_v2 _ = _
  entry_read
  rfl

/-- The ranks of the group's tokens. -/
theorem blk1 (t : Fin cfg0.N) (e : Fin 64) (r : Fin 256) : iblk m c 1 t (ix3 0 e r)
    = m ((c : Thread nD τ).loc main_arg1) (ix3 ⟨t.val / 16, by have := lt128 t; omega⟩ e ⟨t.val % 16 * 256 + r.val, by omega⟩) := by
  blk_ext [iblk, V, (steps t).2.1]

/-- The gates of the group's tokens. -/
theorem blk2 (t : Fin cfg0.N) (e : Fin 64) (r : Fin 256) : iblk m c 2 t (ix3 0 e r)
    = m ((c : Thread nD τ).loc main_arg2) (ix3 ⟨t.val / 16, by have := lt128 t; omega⟩ e ⟨t.val % 16 * 256 + r.val, by omega⟩) := by
  blk_ext [iblk, V, (steps t).2.2.1]

/-- The group's rows of the block's input. -/
theorem blk3 (t : Fin cfg0.N) (r : Fin 256) (n : Fin 1024) : iblk m c 3 t (ix2 r n)
    = Moe.row (m ((c : Thread nD τ).loc main_arg3)) (pos t r) n := by
  have ht := lt128 t
  have e : (((cfg0.win 3).blk t).view.emb (ix2 r n) : S32768x1024.Idx) = ix2 (pos t r) n := by
    unfold pos
    blk_ext [(steps t).2.2.2.1]
  unfold iblk
  rw [View.read_apply]
  erw [e]
  show V m c main_v4 _ = _
  entry_read
  pointwise
  rfl

/-- The group's rows of the residual stream. -/
theorem blk4 (t : Fin cfg0.N) (r : Fin 256) (n : Fin 1024) : iblk m c 4 t (ix2 r n)
    = Moe.row (m ((c : Thread nD τ).loc main_arg4)) (pos t r) n := by
  have ht := lt128 t
  have e : (((cfg0.win 4).blk t).view.emb (ix2 r n) : S32768x1024.Idx) = ix2 (pos t r) n := by
    unfold pos
    blk_ext [(steps t).2.2.2.2.1]
  unfold iblk
  rw [View.read_apply]
  erw [e]
  show V m c main_v5 _ = _
  entry_read
  pointwise
  rfl

/-- The modulation rows of the group's batch entry. -/
theorem blk5 (t : Fin cfg0.N) (j : Fin 6) (n : Fin 1024) : iblk m c 5 t (ix3 0 j n)
    = m ((c : Thread nD τ).loc main_arg5) (ix3 ⟨t.val / 16, by have := lt128 t; omega⟩ j n) := by
  blk_ext [iblk, V, (steps t).2.2.2.2.2.1]

/-- The shared expert's gate weights. -/
theorem blk6_gate (t : Fin cfg0.N) (n : Fin 1024) (f : Fin 256) : iblk m c 6 t (ix3 0 n ⟨f.val, by omega⟩)
    = m ((c : Thread nD τ).loc main_arg6) (ix3 0 n f) := by
  have ht := lt128 t
  have e : (((cfg0.win 6).blk t).view.emb (ix3 (0 : Fin 1) n (⟨f.val, by omega⟩ : Fin 512)) : S4x1024x512.Idx) = ix3 0 n ⟨f.val, by omega⟩ := by
    blk_ext [(stays t).1]
  unfold iblk
  rw [View.read_apply]
  erw [e]
  show V m c main_v1 _ = _
  entry_read
  pointwise

/-- The shared expert's up weights. -/
theorem blk6_up (t : Fin cfg0.N) (n : Fin 1024) (f : Fin 256) : iblk m c 6 t (ix3 0 n ⟨256 + f.val, by omega⟩)
    = m ((c : Thread nD τ).loc main_arg7) (ix3 0 n f) := by
  have ht := lt128 t
  have e : (((cfg0.win 6).blk t).view.emb (ix3 (0 : Fin 1) n (⟨256 + f.val, by omega⟩ : Fin 512)) : S4x1024x512.Idx) = ix3 0 n ⟨256 + f.val, by omega⟩ := by
    blk_ext [(stays t).1]
  unfold iblk
  rw [View.read_apply]
  erw [e]
  show V m c main_v1 _ = _
  entry_read
  pointwise

/-- The shared expert's down weights. -/
theorem blk7 (t : Fin cfg0.N) (f : Fin 256) (d : Fin 1024) : iblk m c 7 t (ix3 0 f d)
    = m ((c : Thread nD τ).loc main_arg8) (ix3 0 f d) := by
  have ht := lt128 t
  have e : (((cfg0.win 7).blk t).view.emb (ix3 (0 : Fin 1) f d) : S4x256x1024.Idx) = ix3 0 f d := by
    blk_ext [(stays t).2.1]
  unfold iblk
  rw [View.read_apply]
  erw [e]
  show V m c main_v6 _ = _
  entry_read
  pointwise

/-- The scale of the layer's normalisation. -/
theorem blk8 (t : Fin cfg0.N) (d : Fin 1024) : iblk m c 8 t (ix3 0 0 d)
    = m ((c : Thread nD τ).loc main_arg9) (ix2 0 d) := by
  have ht := lt128 t
  have e : (((cfg0.win 8).blk t).view.emb (ix3 (0 : Fin 1) (0 : Fin 1) d) : S4x1x1024.Idx) = ix3 0 0 d := by
    blk_ext [(stays t).2.2.1]
  unfold iblk
  rw [View.read_apply]
  erw [e]
  show V m c main_v7 _ = _
  entry_read
  pointwise

/-- The shift of the layer's normalisation. -/
theorem blk9 (t : Fin cfg0.N) (d : Fin 1024) : iblk m c 9 t (ix3 0 0 d)
    = m ((c : Thread nD τ).loc main_arg10) (ix2 0 d) := by
  have ht := lt128 t
  have e : (((cfg0.win 9).blk t).view.emb (ix3 (0 : Fin 1) (0 : Fin 1) d) : S4x1x1024.Idx) = ix3 0 0 d := by
    blk_ext [(stays t).2.2.2]
  unfold iblk
  rw [View.read_apply]
  erw [e]
  show V m c main_v8 _ = _
  entry_read
  pointwise

theorem arr10 : (dats m 0 c).arrAt 10 cfg0.N = blends (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 10 _ (by decide +kernel) fun t hf y => ?_
  blk_simp
  rw [after0_10]
  obtain ⟨r, d, rfl⟩ : ∃ (r : Fin 256) (d : Fin 1024), y = ix2 r d := ⟨y 0, y 1, eq_ix2 y⟩
  have ht := lt128 t
  have e : ((win0_10.blk t).view.emb (ix2 r d) : S32768x1024.Idx) = ix2 (pos t r) d := by
    unfold pos
    blk_ext [(steps t).2.2.2.2.2.2]
  erw [e]
  refine (out10 _ _ _ _ _ _ _ _ _ _ r d).trans ?_
  have e0 : (pos t r).val / 4096 = t.val / 16 := by show (t.val * 256 + r.val) / 4096 = t.val / 16; omega
  have e1 : (pos t r).val % 4096 = t.val % 16 * 256 + r.val := by show (t.val * 256 + r.val) % 4096 = t.val % 16 * 256 + r.val; omega
  have e2 : (pos t r).val / 256 = t.val := by show (t.val * 256 + r.val) / 256 = t.val; omega
  simp only [blk0, blk1, blk2, blk3, blk4, blk5, blk6_gate, blk6_up, blk7, blk8, blk9]
  show _ = blend (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (pos t r) d
  unfold blend gathered Moe.shared Moe.feat
  simp only [e0, e1, e2]

end

end Cert.Combine

end

end
-- ==== Proof.Combine.Runs.lean ====
/-
  What the reference of the combining call computes, over the arrays it is given.
-/
module

public import proofs.«01_k».proof.Proof.Combine.Value
public import proofs.«01_k».proof.Proof.Moe.Ref
public import proofs.«01_k».proof.Proof.Gen.Reference7Ideal.Run

@[expose] public section

noncomputable section

open Idealize.ShloMosaic Idealize.ShloMosaic.TcCoe Idealize.SL.Sem

namespace Cert.Combine

section
open Cert.Reference7Ideal Cert.Reference7Ideal.Gen Cert.Reference7Ideal.Value

/-- Every slot's weight for every token of its group. -/
def slotw (rk : IVec S8x64x4096 32) (gt : FVec Ideal S8x64x4096 .f32) : FVec Ideal S8x64x16x64x256 .f32 :=
  select (cmpi .eq (broadcastInDim S8x64x16x64x256 ![0, 1, 2, 3, 4] bcast_S1x1x1x64x1_S8x64x16x64x256_0_1_2_3_4 (broadcastInDim S1x1x1x64x1 ![3, 4] bcast_S64x1_S1x1x1x64x1_3_4 (broadcastInDim S64x1 ![0] bcast_S64_S64x1_0 (iotaInDim S64 32 0)))) (broadcastInDim S8x64x16x64x256 ![0, 1, 2, 3, 4] bcast_S8x64x16x1x256_S8x64x16x64x256_0_1_2_3_4 (shapeCast _ rk shapeCasts_S8x64x4096_S8x64x16x1x256))) (broadcastInDim S8x64x16x64x256 ![0, 1, 2, 3, 4] bcast_S8x64x16x1x256_S8x64x16x64x256_0_1_2_3_4 (shapeCast _ gt shapeCasts_S8x64x4096_S8x64x16x1x256)) (broadcastInDim S8x64x16x64x256 ![] bcast_S_S8x64x16x64x256 (id (constant S_ .f32 0x00000000#32)))

/-- The slots' rows, by expert, batch entry, group and slot. -/
def slotr (ys : FVec Ideal S64x8192x1024 .f32) : FVec Ideal S64x8x16x64x1024 .f32 := shapeCast _ ys shapeCasts_S64x8192x1024_S64x8x16x64x1024

/-- The slots' rows back at the tokens. -/
def back (w : FVec Ideal S8x64x16x64x256 .f32) (v : FVec Ideal S64x8x16x64x1024 .f32) : FVec Ideal S32768x1024 .f32 :=
  shapeCast _ (Host.dotGeneral dot_S8x64x16x64x256_S64x8x16x64x1024_S8x16x256x1024_13_03_4_4_02_12 none w v) shapeCasts_S8x16x256x1024_S32768x1024

theorem slotw_apply (rk : IVec S8x64x4096 32) (gt : FVec Ideal S8x64x4096 .f32) (B : Fin 8) (e : Fin 64) (j : Fin 16) (k : Fin 64) (t : Fin 256) :
    slotw rk gt (ix5 B e j k t) = hit k (rk (ix3 B e ⟨j.val * 256 + t.val, by omega⟩)) (gt (ix3 B e ⟨j.val * 256 + t.val, by omega⟩)) := by
  unfold slotw hit
  simp only [id_eq]
  pointwise

theorem slotr_apply (ys : FVec Ideal S64x8192x1024 .f32) (e : Fin 64) (B : Fin 8) (j : Fin 16) (k : Fin 64) (d : Fin 1024) :
    slotr ys (ix5 e B j k d) = ys (ix3 e ⟨B.val * 1024 + j.val * 64 + k.val, by omega⟩ d) := by
  unfold slotr
  pointwise

theorem back_apply (w : FVec Ideal S8x64x16x64x256 .f32) (v : FVec Ideal S64x8x16x64x1024 .f32) (R : Fin 32768) (d : Fin 1024) :
    back w v (ix2 R d) = ∑ e : Fin 64, ∑ k : Fin 64, w (ix5 ⟨R.val / 4096, by omega⟩ e ⟨R.val / 256 % 16, by omega⟩ k ⟨R.val % 256, by omega⟩)
      * v (ix5 e ⟨R.val / 4096, by omega⟩ ⟨R.val / 256 % 16, by omega⟩ k d) := by
  unfold back
  pointwise

theorem back_gathered (ys : FVec Ideal S64x8192x1024 .f32) (rk : IVec S8x64x4096 32) (gt : FVec Ideal S8x64x4096 .f32) (R : Fin 32768) (d : Fin 1024) :
    back (slotw rk gt) (slotr ys) (ix2 R d) = gathered ys rk gt R d := by
  have e0 : R.val / 256 % 16 * 256 + R.val % 256 = R.val % 4096 := by omega
  have e1 (k : Fin 64) : R.val / 4096 * 1024 + R.val / 256 % 16 * 64 + k.val = R.val / 256 * 64 + k.val := by omega
  rw [back_apply]
  simp only [slotw_apply, slotr_apply, e0, e1]
  rfl

variable (m : (ℓ : Loc nD τ sig) → Buf (Elt Ideal) ℓ) (c : Dev nD)

theorem res_eq : res_main_v64 m c = Moe.Ref.normed (Moe.Ref.centred (Moe.Ref.residual (m ((c.tc : Thread nD τ).loc main_arg4)) (m ((c.tc : Thread nD τ).loc main_arg5))
        (back (slotw (m ((c.tc : Thread nD τ).loc main_arg1)) (m ((c.tc : Thread nD τ).loc main_arg2))) (slotr (m ((c.tc : Thread nD τ).loc main_arg0))))
        (Moe.Ref.sharedRow (Moe.Ref.toks (m ((c.tc : Thread nD τ).loc main_arg3))) (Moe.Ref.supw (m ((c.tc : Thread nD τ).loc main_arg6))) (Moe.Ref.supw (m ((c.tc : Thread nD τ).loc main_arg7))) (Moe.Ref.sdownw (m ((c.tc : Thread nD τ).loc main_arg8)))))) (Moe.Ref.vecw (m ((c.tc : Thread nD τ).loc main_arg9))) (Moe.Ref.vecw (m ((c.tc : Thread nD τ).loc main_arg10))) := rfl

/-- The reference's result, over its arrays. -/
theorem res_blends : res_main_v64 m c = blends (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  funext i
  obtain ⟨R, d, rfl⟩ : ∃ (R : Fin 32768) (d : Fin 1024), i = ix2 R d := ⟨i 0, i 1, eq_ix2 i⟩
  rw [res_eq]
  refine (Moe.Ref.normed_apply _ _ _ R d).trans ?_
  simp only [Moe.Ref.centred_row, Moe.Ref.residual_row, back_gathered, Moe.Ref.sharedRow_apply, Moe.Ref.toks_apply, Moe.Ref.supw_apply, Moe.Ref.sdownw_apply, Moe.Ref.vecw_apply]
  rfl

end

theorem kernel_run (m : (ℓ : Loc Cert.Kernel7Ideal.nD Cert.Kernel7Ideal.τ Cert.Kernel7Ideal.sig) → Buf (Elt Ideal) ℓ)
    (ρ : Dev Cert.Kernel7Ideal.nD → PrngReg) :
    θ_run (Cert.Kernel7Ideal.defs (F := Ideal)) (onTc (τ := Cert.Kernel7Ideal.τ) (Cert.Kernel7Ideal.main (F := Ideal))) ⟨m, fun _ => 0, ρ⟩ fun r => ∀ c : Dev Cert.Kernel7Ideal.nD,
      r.2.mem ((c.tc : Thread Cert.Kernel7Ideal.nD Cert.Kernel7Ideal.τ).loc Cert.Kernel7Ideal.main_v9) = blends (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10))
      ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10) :=
  (θ_run Cert.Kernel7Ideal.defs _ _).mono (fun r h c => ⟨(h c).1.trans (arr10 m c), (h c).2⟩)
    (Cert.Kernel7Ideal.Value.run_blocks (F := Ideal) m ρ)

theorem reference_run (m' : (ℓ : Loc Cert.Reference7Ideal.nD Cert.Reference7Ideal.τ Cert.Reference7Ideal.sig) → Buf (Elt Ideal) ℓ)
    (ρ : Dev Cert.Reference7Ideal.nD → PrngReg) :
    θ_run (Cert.Reference7Ideal.defs (F := Ideal)) (onTc (τ := Cert.Reference7Ideal.τ) (Cert.Reference7Ideal.main (F := Ideal))) ⟨m', fun _ => 0, ρ⟩ fun r => ∀ c : Dev Cert.Reference7Ideal.nD,
      r.2.mem ((c.tc : Thread Cert.Reference7Ideal.nD Cert.Reference7Ideal.τ).loc Cert.Reference7Ideal.main_v64) = blends (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) (m' ((c.tc : Thread Cert.Reference7Ideal.nD Cert.Reference7Ideal.τ).loc Cert.Reference7Ideal.main_arg4)) (m' ((c.tc : Thread Cert.Reference7Ideal.nD Cert.Reference7Ideal.τ).loc Cert.Reference7Ideal.main_arg5)) (m' ((c.tc : Thread Cert.Reference7Ideal.nD Cert.Reference7Ideal.τ).loc Cert.Reference7Ideal.main_arg6)) (m' ((c.tc : Thread Cert.Reference7Ideal.nD Cert.Reference7Ideal.τ).loc Cert.Reference7Ideal.main_arg7)) (m' ((c.tc : Thread Cert.Reference7Ideal.nD Cert.Reference7Ideal.τ).loc Cert.Reference7Ideal.main_arg8)) (m' ((c.tc : Thread Cert.Reference7Ideal.nD Cert.Reference7Ideal.τ).loc Cert.Reference7Ideal.main_arg9)) (m' ((c.tc : Thread Cert.Reference7Ideal.nD Cert.Reference7Ideal.τ).loc Cert.Reference7Ideal.main_arg10))
      ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10) :=
  (θ_run Cert.Reference7Ideal.defs _ _).mono (fun r h c => ⟨(h c).1.trans (res_blends m' c), (h c).2⟩)
    (Cert.Reference7Ideal.Value.run (F := Ideal) m' ρ)

end Cert.Combine

end

end
-- ==== Proof.Dispatch.Value.lean ====
/-
  The dispatching call: what it leaves, over the extended reals.
-/
module

public import proofs.«01_k».proof.Proof.Combine.Value
public import proofs.«01_k».proof.Proof.Gen.Kernel8Ideal.Value
public import Idealize.ShloMosaic.Lib.Pipeline.ValueKit
public import Idealize.ShloMosaic.Lib.Tactic
public import Idealize.ShloMosaic.Lib.StableHlo.RunRead

@[expose] public section

noncomputable section

open Idealize.ShloMosaic Idealize.ShloMosaic.TcCoe Idealize.SL.Sem

namespace Cert.Dispatch

/-- Channel `d` of slot `s` under expert `e`: the tokens of the slot's group whose rank under the expert is the slot's number. -/
def slot (u : (⟨3, ![8, 4096, 1024]⟩ : Shape).Idx → EReal) (rk : (⟨3, ![8, 64, 4096]⟩ : Shape).Idx → BitVec 32)
    (e : Fin 64) (s : Fin 8192) (d : Fin 1024) : EReal :=
  ∑ t : Fin 256, Combine.hit ⟨s.val % 64, by omega⟩ (rk (ix3 ⟨s.val / 1024, by omega⟩ e ⟨s.val / 64 % 16 * 256 + t.val, by omega⟩)) 1
    * u (ix3 ⟨s.val / 1024, by omega⟩ ⟨s.val / 64 % 16 * 256 + t.val, by omega⟩ d)

/-- All of them, as an array. -/
def slots (u : (⟨3, ![8, 4096, 1024]⟩ : Shape).Idx → EReal) (rk : (⟨3, ![8, 64, 4096]⟩ : Shape).Idx → BitVec 32) :
    (⟨3, ![64, 8192, 1024]⟩ : Shape).Idx → EReal :=
  fun i => slot u rk (i 0) (i 1) (i 2)

section
open Cert.Kernel8Ideal Cert.Kernel8Ideal.Gen

/-- A gate of one, everywhere. -/
def ones : FVec Ideal S16x256 .f32 := broadcast S16x256 (Scalar.ofBits .f32 0x3F800000#32)

theorem ones_apply (e : Fin 16) (t : Fin 256) : ones (ix2 e t) = 1 := by
  unfold ones
  pointwise

/-- Sixteen experts' slots, from the group's tokens. -/
def sent (p : FVec Ideal S1024x256 .f32) (u : Vec Ideal S256x1024 .bf16) : FVec Ideal S16x64x1024 .bf16 :=
  shapeCast S16x64x1024 (truncf .bf16 (matmul dot_S1024x256_S256x1024_S1024x1024_1_0_0_1_n_n none (truncf .bf16 p bitsLt_bf16_f32) (shapeCast S256x1024 u shapeCasts_S256x1024_S256x1024 : FVec Ideal S256x1024 .bf16) (constant S1024x1024 .f32 0x00000000#32)) bitsLt_bf16_f32) shapeCasts_S1024x1024_S16x64x1024

theorem sent_row (p : FVec Ideal S1024x256 .f32) (u : Vec Ideal S256x1024 .bf16) (e : Fin 16) (k : Fin 64) (d : Fin 1024) :
    sent p u (ix3 e k d) = ∑ t : Fin 256, p (ix2 ⟨e.val * 64 + k.val, by omega⟩ t) * u (ix2 t d) := by
  unfold sent
  pointwise

theorem sent_apply (rk : IVec S16x256 32) (u : Vec Ideal S256x1024 .bf16) (e : Fin 16) (k : Fin 64) (d : Fin 1024) :
    sent (Combine.picks rk ones) u (ix3 e k d) = ∑ t : Fin 256, Combine.hit k (rk (ix2 e t)) 1 * u (ix2 t d) := by
  have q : (⟨e.val * 64 + k.val, by omega⟩ : Fin 1024) = ⟨64 * e.val + k.val, by omega⟩ := Fin.ext (by show e.val * 64 + k.val = 64 * e.val + k.val; omega)
  rw [sent_row]
  simp only [q]
  refine Finset.sum_congr rfl fun t _ => ?_
  rw [Combine.picks_apply, ones_apply]

/-- What a grid point leaves, by sixteen experts at a time. -/
theorem out2_eq (x0 : Vec Ideal S256x1024 .bf16) (x1 : Vec Ideal S1x64x256 .i32) :
    out0_2 x0 x1 = View.canon [⟨r0_8, sent (Combine.picks (Combine.ranks3 x1) ones) x0⟩, ⟨r0_6, sent (Combine.picks (Combine.ranks2 x1) ones) x0⟩,
      ⟨r0_4, sent (Combine.picks (Combine.ranks1 x1) ones) x0⟩, ⟨r0_2, sent (Combine.picks (Combine.ranks0 x1) ones) x0⟩] := by
  unfold_out out0_2
  simp only [View.ld_unit_zero (S := S256x1024) Combine.off2]
  rfl

/-- A grid point's slots: every expert's, from the group's tokens. -/
theorem out2 (x0 : Vec Ideal S256x1024 .bf16) (x1 : Vec Ideal S1x64x256 .i32) (e k : Fin 64) (d : Fin 1024) :
    out0_2 x0 x1 (ix3 e k d) = ∑ t : Fin 256, Combine.hit k (x1 (ix3 0 e t)) 1 * x0 (ix2 t d) := by
  rw [out2_eq]
  canon_tiles x h
  all_goals
    obtain ⟨a, b, z, rfl⟩ : ∃ (a : Fin 16) (b : Fin 64) (z : Fin 1024), x = ix3 a b z := ⟨x 0, x 1, x 2, eq_ix3 x⟩
    rw [sent_apply]
    obtain rfl : k = b := Fin.ext h1
    obtain rfl : d = z := Fin.ext h2
    obtain ⟨e, he⟩ := e
    have h : e = _ := h0
    subst h
    simp only [Combine.ranks0_apply, Combine.ranks1_apply, Combine.ranks2_apply, Combine.ranks3_apply]
    rfl

variable (m : (ℓ : Loc nD τ sig) → Buf (Elt Ideal) ℓ) (c : Dev nD)

theorem steps : ∀ t : Fin cfg0.N, win0_0.index t = ![t.val, 0] ∧ win0_1.index t = ![t.val / 16, 0, t.val % 16]
    ∧ win0_2.index t = ![0, t.val, 0] := by decide +kernel

theorem lt128 (t : Fin cfg0.N) : t.val < 128 := lt_of_lt_of_eq t.isLt N_0

/-- The group's rows of the block's input. -/
theorem blk0 (t : Fin cfg0.N) (r : Fin 256) (d : Fin 1024) : iblk m c 0 t (ix2 r d)
    = m ((c : Thread nD τ).loc main_arg0) (ix3 ⟨t.val / 16, by have := lt128 t; omega⟩ ⟨t.val % 16 * 256 + r.val, by omega⟩ d) := by
  have ht := lt128 t
  have e : (((cfg0.win 0).blk t).view.emb (ix2 r d) : S32768x1024.Idx) = ix2 ⟨t.val * 256 + r.val, by have := lt128 t; omega⟩ d := by
    blk_ext [(steps t).1]
  unfold iblk
  rw [View.read_apply]
  erw [e]
  show V m c main_v1 _ = _
  entry_read
  pointwise
  refine congrArg₂ (fun a b => m ((c : Thread nD τ).loc main_arg0) (ix3 a b d)) (Fin.ext ?_) (Fin.ext ?_) <;> (show (_ : Nat) = _) <;> simp <;> omega

/-- The ranks of the group's tokens. -/
theorem blk1 (t : Fin cfg0.N) (e : Fin 64) (r : Fin 256) : iblk m c 1 t (ix3 0 e r)
    = m ((c : Thread nD τ).loc main_arg1) (ix3 ⟨t.val / 16, by have := lt128 t; omega⟩ e ⟨t.val % 16 * 256 + r.val, by omega⟩) := by
  blk_ext [iblk, V, (steps t).2.1]

/-- A slot's place under its expert. -/
def pos (t : Fin cfg0.N) (k : Fin 64) : Fin 8192 := ⟨t.val * 64 + k.val, by have := lt128 t; omega⟩

theorem arr2 : (dats m 0 c).arrAt 2 cfg0.N = slots (m ((c : Thread nD τ).loc main_arg0)) (m ((c : Thread nD τ).loc main_arg1)) := by
  refine (dats m 0 c).arrAt_eq_of_covers 2 _ (by decide +kernel) fun t hf y => ?_
  blk_simp
  rw [after0_2]
  obtain ⟨e, k, d, rfl⟩ : ∃ (e k : Fin 64) (d : Fin 1024), y = ix3 e k d := ⟨y 0, y 1, y 2, eq_ix3 y⟩
  have ht := lt128 t
  have q : ((win0_2.blk t).view.emb (ix3 e k d) : S64x8192x1024.Idx) = ix3 e (pos t k) d := by
    unfold pos
    blk_ext [(steps t).2.2]
  erw [q]
  refine (out2 _ _ e k d).trans ?_
  have e0 : (pos t k).val / 1024 = t.val / 16 := by show (t.val * 64 + k.val) / 1024 = t.val / 16; omega
  have e1 : (pos t k).val / 64 % 16 = t.val % 16 := by show (t.val * 64 + k.val) / 64 % 16 = t.val % 16; omega
  have e2 : (pos t k).val % 64 = k.val := by show (t.val * 64 + k.val) % 64 = k.val; omega
  simp only [blk0, blk1]
  show _ = slot (m ((c : Thread nD τ).loc main_arg0)) (m ((c : Thread nD τ).loc main_arg1)) e (pos t k) d
  unfold slot
  simp only [e0, e1, e2]

end

end Cert.Dispatch

end

end
-- ==== Proof.Dispatch.Runs.lean ====
/-
  What the reference of the dispatching call computes, and what the two runs leave.
-/
module

public import proofs.«01_k».proof.Proof.Dispatch.Value
public import proofs.«01_k».proof.Proof.Gen.Reference8Ideal.Run
public import Idealize.ShloMosaic.Lib.Pointwise
public import Idealize.ShloMosaic.Lib.ValueIdx
public import Idealize.ShloMosaic.Lib.ValueLayout

@[expose] public section

noncomputable section

open Idealize.ShloMosaic Idealize.ShloMosaic.TcCoe Idealize.SL.Sem

namespace Cert.Dispatch

section
open Cert.Reference8Ideal Cert.Reference8Ideal.Gen

/-- One where a token's rank under an expert is the slot, zero elsewhere. -/
def slotw (rk : IVec S8x64x4096 32) : FVec Ideal S8x64x16x64x256 .f32 :=
  select (cmpi .eq (broadcastInDim S8x64x16x64x256 ![0, 1, 2, 3, 4] bcast_S1x1x1x64x1_S8x64x16x64x256_0_1_2_3_4 (broadcastInDim S1x1x1x64x1 ![3, 4] bcast_S64x1_S1x1x1x64x1_3_4 (broadcastInDim S64x1 ![0] bcast_S64_S64x1_0 (iotaInDim S64 32 0)))) (broadcastInDim S8x64x16x64x256 ![0, 1, 2, 3, 4] bcast_S8x64x16x1x256_S8x64x16x64x256_0_1_2_3_4 (shapeCast _ rk shapeCasts_S8x64x4096_S8x64x16x1x256))) (broadcastInDim S8x64x16x64x256 ![] bcast_S_S8x64x16x64x256 (constant S_ .f32 0x3F800000#32)) (broadcastInDim S8x64x16x64x256 ![] bcast_S_S8x64x16x64x256 (constant S_ .f32 0x00000000#32))

/-- The tokens by batch entry and group. -/
def groups (u : FVec Ideal S8x4096x1024 .f32) : FVec Ideal S8x16x256x1024 .f32 := shapeCast _ u shapeCasts_S8x4096x1024_S8x16x256x1024

/-- The slots' rows, by expert. -/
def filled (v : FVec Ideal S8x16x256x1024 .f32) (w : FVec Ideal S8x64x16x64x256 .f32) : FVec Ideal S64x8192x1024 .bf16 :=
  truncf .bf16 (shapeCast S64x8192x1024 (transpose S64x8x16x64x1024 [3, 0, 1, 4, 2] (Host.dotGeneral dot_S8x16x256x1024_S8x64x16x64x256_S8x16x1024x64x64_2_4_3_13_01_02 none v w) transposes_S8x16x1024x64x64_S64x8x16x64x1024_3_0_1_4_2) shapeCasts_S64x8x16x64x1024_S64x8192x1024) bitsLt_bf16_f32

theorem slotw_apply (rk : IVec S8x64x4096 32) (B : Fin 8) (e : Fin 64) (j : Fin 16) (k : Fin 64) (t : Fin 256) :
    slotw rk (ix5 B e j k t) = Combine.hit k (rk (ix3 B e ⟨j.val * 256 + t.val, by omega⟩)) 1 := by
  unfold slotw Combine.hit
  pointwise

theorem groups_apply (u : FVec Ideal S8x4096x1024 .f32) (B : Fin 8) (j : Fin 16) (t : Fin 256) (d : Fin 1024) :
    groups u (ix4 B j t d) = u (ix3 B ⟨j.val * 256 + t.val, by omega⟩ d) := by
  unfold groups
  pointwise

theorem filled_apply (v : FVec Ideal S8x16x256x1024 .f32) (w : FVec Ideal S8x64x16x64x256 .f32) (e : Fin 64) (s : Fin 8192) (d : Fin 1024) :
    filled v w (ix3 e s d) = ∑ t : Fin 256, v (ix4 ⟨s.val / 1024, by omega⟩ ⟨s.val / 64 % 16, by omega⟩ t d)
      * w (ix5 ⟨s.val / 1024, by omega⟩ e ⟨s.val / 64 % 16, by omega⟩ ⟨s.val % 64, by omega⟩ t) := by
  unfold filled
  pointwise

theorem filled_eq (u : FVec Ideal S8x4096x1024 .f32) (rk : IVec S8x64x4096 32) : filled (groups u) (slotw rk) = slots u rk := by
  funext i
  obtain ⟨e, s, d, rfl⟩ : ∃ (e : Fin 64) (s : Fin 8192) (d : Fin 1024), i = ix3 e s d := ⟨i 0, i 1, i 2, eq_ix3 i⟩
  rw [filled_apply]
  show _ = slot u rk e s d
  unfold slot
  refine Finset.sum_congr rfl fun t _ => ?_
  rw [slotw_apply, groups_apply, mul_comm]

end

theorem kernel_run (m : (ℓ : Loc Cert.Kernel8Ideal.nD Cert.Kernel8Ideal.τ Cert.Kernel8Ideal.sig) → Buf (Elt Ideal) ℓ)
    (ρ : Dev Cert.Kernel8Ideal.nD → PrngReg) :
    θ_run (Cert.Kernel8Ideal.defs (F := Ideal)) (onTc (τ := Cert.Kernel8Ideal.τ) (Cert.Kernel8Ideal.main (F := Ideal))) ⟨m, fun _ => 0, ρ⟩ fun r => ∀ c : Dev Cert.Kernel8Ideal.nD,
      r.2.mem ((c.tc : Thread Cert.Kernel8Ideal.nD Cert.Kernel8Ideal.τ).loc Cert.Kernel8Ideal.main_v2) = slots (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1))
      ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1) :=
  (θ_run Cert.Kernel8Ideal.defs _ _).mono (fun r h c => ⟨(h c).1.trans (arr2 m c), (h c).2⟩)
    (Cert.Kernel8Ideal.Value.run_blocks (F := Ideal) m ρ)

theorem reference_run (m' : (ℓ : Loc Cert.Reference8Ideal.nD Cert.Reference8Ideal.τ Cert.Reference8Ideal.sig) → Buf (Elt Ideal) ℓ)
    (ρ : Dev Cert.Reference8Ideal.nD → PrngReg) :
    θ_run (Cert.Reference8Ideal.defs (F := Ideal)) (onTc (τ := Cert.Reference8Ideal.τ) (Cert.Reference8Ideal.main (F := Ideal))) ⟨m', fun _ => 0, ρ⟩ fun r => ∀ c : Dev Cert.Reference8Ideal.nD,
      r.2.mem ((c.tc : Thread Cert.Reference8Ideal.nD Cert.Reference8Ideal.τ).loc Cert.Reference8Ideal.main_v12) = slots (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1))
      ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1) :=
  (θ_run Cert.Reference8Ideal.defs _ _).mono (fun r h c => ⟨(h c).1.trans (filled_eq (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1))), (h c).2⟩)
    (Cert.Reference8Ideal.Value.run (F := Ideal) m' ρ)

end Cert.Dispatch

end

end
-- ==== Proof.lean ====
/-
  The proof of `Cert.Claim`: each program's stated facts, and its claims.
-/
module

public import proofs.«01_k».proof.Defs
public import proofs.«01_k».proof.Proof.Body
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Moe.Value
public import proofs.«01_k».proof.Proof.Moe.Ref
public import proofs.«01_k».proof.Proof.Inproj.Runs
public import proofs.«01_k».proof.Proof.Outproj.Runs
public import proofs.«01_k».proof.Proof.Ada.Runs
public import proofs.«01_k».proof.Proof.Slots.Runs
public import proofs.«01_k».proof.Proof.Combine.Runs
public import proofs.«01_k».proof.Proof.Dispatch.Runs
public import Idealize.ShloMosaic.Adequacy
public import Idealize.ShloMosaic.Init

@[expose] public section

noncomputable section

namespace Cert.Proof

open Idealize.ShloMosaic Idealize.ShloMosaic.TcCoe Idealize.SL.Sem

theorem bcast_gates : Pre_gates_finite.S_.BroadcastsInDim Pre_gates_finite.S32768x64 (![] : Fin 0 → Fin Pre_gates_finite.S32768x64.rank) := by
  decide

/-- The bits of plus infinity. -/
theorem inf_bits : Ideal.ofBits .f32 0x7F800000#32 = ⊤ := by
  unfold Ideal.ofBits Ideal.ieee
  simp

/-- The precondition's side condition. -/
instance preFacts : Cert.Pre_gates_finite.Facts where
  bcast_S_S32768x64 := Cert.Proof.bcast_gates

/-- The precondition, read at one gate. -/
theorem gate_finite (m : (ℓ : Loc Cert.Kernel2Ideal.nD Cert.Kernel2Ideal.τ Cert.Kernel2Ideal.sig) → Buf (Elt Ideal) ℓ)
    (h : Pre_Kernel2Ideal_gates_finite m) (c : Dev Cert.Kernel2Ideal.nD) (R : Fin 32768) (e : Fin 64) :
    max (Moe.gat m c R e) (-Moe.gat m c R e) < ⊤ := by
  have h2 : Ideal.cmp .olt (max (Moe.gat m c R e) (-Moe.gat m c R e)) (Ideal.ofBits .f32 0x7F800000#32) = 1#1 := congrFun (h c) (ix2 R e)
  rw [inf_bits] at h2
  unfold Ideal.cmp at h2
  by_contra hc
  simp [hc] at h2

/-- The frame of the sparse-attention call: its run, the argument arrays read off the run's postcondition. -/
theorem attention : quiescent_Kernel := fun m ρ _ =>
  (θ_run Cert.Kernel.defs _ _).mono (fun _ h => ⟨fun c =>
      ⟨h.1.arr_in c 0 rfl, h.1.arr_in c 1 rfl, h.1.arr_in c 2 rfl, h.1.arr_in c 3 rfl, h.1.arr_in c 4 rfl,
        h.1.arr_in c 5 rfl, h.1.arr_in c 6 rfl, h.1.arr_in c 7 rfl, h.1.arr_in c 8 rfl⟩, h.2⟩)
    (Cert.Kernel.Hand.run_main (F := Bits) m ρ)

/-- The frame of the experts' reference: its run, which declares no semaphore. -/
theorem experts_reference : quiescent_Reference2Ideal := fun m ρ _ =>
  (θ_run Cert.Reference2Ideal.defs _ _).mono
    (fun r h => ⟨fun c => (h c).2, sem_eq_zero_of_no_sems (by decide) r.2⟩)
    (Cert.Reference2Ideal.Value.run (F := Ideal) m ρ)

/-- The two results are one array. -/
theorem same (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ)
    (h : Pre_Kernel2Ideal_gates_finite m) (c : Dev Cert.Kernel2Ideal.nD)
    (e0 : m' ((c.tc : Thread Cert.Reference2Ideal.nD Cert.Reference2Ideal.τ).loc Cert.Reference2Ideal.main_arg0) = (m ((c.tc : Thread Cert.Kernel2Ideal.nD Cert.Kernel2Ideal.τ).loc Cert.Kernel2Ideal.main_arg0)))
    (e1 : m' ((c.tc : Thread Cert.Reference2Ideal.nD Cert.Reference2Ideal.τ).loc Cert.Reference2Ideal.main_arg1) = (m ((c.tc : Thread Cert.Kernel2Ideal.nD Cert.Kernel2Ideal.τ).loc Cert.Kernel2Ideal.main_arg1)))
    (e2 : m' ((c.tc : Thread Cert.Reference2Ideal.nD Cert.Reference2Ideal.τ).loc Cert.Reference2Ideal.main_arg2) = (m ((c.tc : Thread Cert.Kernel2Ideal.nD Cert.Kernel2Ideal.τ).loc Cert.Kernel2Ideal.main_arg2)))
    (e3 : m' ((c.tc : Thread Cert.Reference2Ideal.nD Cert.Reference2Ideal.τ).loc Cert.Reference2Ideal.main_arg3) = (m ((c.tc : Thread Cert.Kernel2Ideal.nD Cert.Kernel2Ideal.τ).loc Cert.Kernel2Ideal.main_arg3)))
    (e4 : m' ((c.tc : Thread Cert.Reference2Ideal.nD Cert.Reference2Ideal.τ).loc Cert.Reference2Ideal.main_arg4) = (m ((c.tc : Thread Cert.Kernel2Ideal.nD Cert.Kernel2Ideal.τ).loc Cert.Kernel2Ideal.main_arg4)))
    (e5 : m' ((c.tc : Thread Cert.Reference2Ideal.nD Cert.Reference2Ideal.τ).loc Cert.Reference2Ideal.main_arg5) = (m ((c.tc : Thread Cert.Kernel2Ideal.nD Cert.Kernel2Ideal.τ).loc Cert.Kernel2Ideal.main_arg5)))
    (e6 : m' ((c.tc : Thread Cert.Reference2Ideal.nD Cert.Reference2Ideal.τ).loc Cert.Reference2Ideal.main_arg6) = (m ((c.tc : Thread Cert.Kernel2Ideal.nD Cert.Kernel2Ideal.τ).loc Cert.Kernel2Ideal.main_arg6)))
    (e7 : m' ((c.tc : Thread Cert.Reference2Ideal.nD Cert.Reference2Ideal.τ).loc Cert.Reference2Ideal.main_arg7) = (m ((c.tc : Thread Cert.Kernel2Ideal.nD Cert.Kernel2Ideal.τ).loc Cert.Kernel2Ideal.main_arg7)))
    (e8 : m' ((c.tc : Thread Cert.Reference2Ideal.nD Cert.Reference2Ideal.τ).loc Cert.Reference2Ideal.main_arg8) = (m ((c.tc : Thread Cert.Kernel2Ideal.nD Cert.Kernel2Ideal.τ).loc Cert.Kernel2Ideal.main_arg8)))
    (e9 : m' ((c.tc : Thread Cert.Reference2Ideal.nD Cert.Reference2Ideal.τ).loc Cert.Reference2Ideal.main_arg9) = (m ((c.tc : Thread Cert.Kernel2Ideal.nD Cert.Kernel2Ideal.τ).loc Cert.Kernel2Ideal.main_arg9)))
    (e10 : m' ((c.tc : Thread Cert.Reference2Ideal.nD Cert.Reference2Ideal.τ).loc Cert.Reference2Ideal.main_arg10) = (m ((c.tc : Thread Cert.Kernel2Ideal.nD Cert.Kernel2Ideal.τ).loc Cert.Kernel2Ideal.main_arg10)))
    (e11 : m' ((c.tc : Thread Cert.Reference2Ideal.nD Cert.Reference2Ideal.τ).loc Cert.Reference2Ideal.main_arg11) = (m ((c.tc : Thread Cert.Kernel2Ideal.nD Cert.Kernel2Ideal.τ).loc Cert.Kernel2Ideal.main_arg11))) :
    Cert.Reference2Ideal.Value.res_main_v66 m' c = Cert.Kernel2Ideal.Value.G10 m c := by
  funext i
  obtain ⟨R, d, rfl⟩ : ∃ (R : Fin 32768) (d : Fin 1024), i = ix2 R d := ⟨i 0, i 1, eq_ix2 i⟩
  rw [Moe.Ref.res_row, e0, e1, e2, e3, e4, e5, e6, e7, e8, e9, e10, e11]
  exact (Moe.G10_row m c (gate_finite m h c) R d).symm

/-- The frame of the input projection's reference. -/
theorem projection_reference : quiescent_Reference3Ideal := fun m ρ _ =>
  (θ_run Cert.Reference3Ideal.defs _ _).mono
    (fun r h => ⟨fun c => (h c).2.2.2.2.2.2.2.2.2.2.2.2, sem_eq_zero_of_no_sems (by decide) r.2⟩)
    (Cert.Reference3Ideal.Value.run (F := Ideal) m ρ)

/-- The input projection and its reference leave the same twelve arrays. -/
theorem projection : algebraic_Kernel3Ideal_Reference3Ideal := fun m ρ m' ρ' _ e =>
  ⟨fun c => Inproj.queries (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg4)),
    fun c => Inproj.latents (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)),
    fun c => Inproj.latentsT (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)),
    fun c => Inproj.indexq (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)),
    fun c => Inproj.indexa (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)),
    fun c => Inproj.indexb (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)),
    fun c => Inproj.indexw (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)),
    fun c => Inproj.gatedq (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)),
    fun c => Inproj.gatedk (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg5)),
    fun c => Inproj.gatedl (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg5)),
    fun c => Inproj.gatedv (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)),
    fun c => Inproj.gatedg (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)),
    Inproj.kernel_run m ρ,
    (θ_run Cert.Reference3Ideal.defs _ _).mono
      (fun r hr c => by
        obtain ⟨e0, e1, e2, e3, e4, e5⟩ := e c
        have h := hr c
        obtain ⟨h0, h1, h2, h3, h4, h5, h6, h7, h8, h9, h10, h11, hk⟩ := h
        exact ⟨h0.trans (by rw [e0, e1, e2, e4]),
          h1.trans (by rw [e0, e1, e2, e3]),
          h2.trans (by rw [e0, e1, e2, e3]),
          h3.trans (by rw [e0, e1, e2]),
          h4.trans (by rw [e0, e1, e2]),
          h5.trans (by rw [e0, e1, e2]),
          h6.trans (by rw [e0, e1, e2]),
          h7.trans (by rw [e0, e1, e2]),
          h8.trans (by rw [e0, e1, e2, e5]),
          h9.trans (by rw [e0, e1, e2, e5]),
          h10.trans (by rw [e0, e1, e2]),
          h11.trans (by rw [e0, e1, e2]), hk⟩)
      (Inproj.reference_run m' ρ')⟩

/-- The frame of the output projection's reference. -/
theorem output_reference : quiescent_Reference4Ideal := fun m ρ _ =>
  (θ_run Cert.Reference4Ideal.defs _ _).mono
    (fun r h => ⟨fun c => (h c).2.2, sem_eq_zero_of_no_sems (by decide) r.2⟩)
    (Cert.Reference4Ideal.Value.run (F := Ideal) m ρ)

/-- The output projection and its reference leave the same residual stream and the same input of the experts. -/
theorem output : algebraic_Kernel4Ideal_Reference4Ideal := fun m ρ m' ρ' _ e =>
  ⟨fun c => Outproj.streamA (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)),
    fun c => Outproj.inputA (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)),
    Outproj.kernel_run m ρ,
    (θ_run Cert.Reference4Ideal.defs _ _).mono
      (fun r hr c => by
        obtain ⟨e0, e1, e2, e3, e4, e5, e6, -, -⟩ := e c
        obtain ⟨h0, h1, hk⟩ := hr c
        exact ⟨h0.trans (by rw [e0, e1, e2, e3, e4, e5, e6]), h1.trans (by rw [e0, e1, e2, e3, e4, e5, e6]), hk⟩)
      (Outproj.reference_run m' ρ')⟩

/-- The frame of the modulation's reference. -/
theorem modulation_reference : quiescent_Reference5Ideal := fun m ρ _ =>
  (θ_run Cert.Reference5Ideal.defs _ _).mono
    (fun r h => ⟨fun c => (h c).2, sem_eq_zero_of_no_sems (by decide) r.2⟩)
    (Cert.Reference5Ideal.Value.run (F := Ideal) m ρ)

/-- The modulation's call and its reference leave the same array. -/
theorem modulation : algebraic_Kernel5Ideal_Reference5Ideal := fun m ρ m' ρ' _ e =>
  ⟨fun c => Ada.modulations (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)),
    Ada.kernel_run m ρ,
    (θ_run Cert.Reference5Ideal.defs _ _).mono
      (fun r hr c => by
        obtain ⟨e0, e1, e2⟩ := e c
        exact ⟨(hr c).1.trans (by rw [e0, e1, e2]), (hr c).2⟩)
      (Ada.reference_run m' ρ')⟩

/-- The frame of the reference of the experts over the slots. -/
theorem slots_reference : quiescent_Reference6Ideal := fun m ρ _ =>
  (θ_run Cert.Reference6Ideal.defs _ _).mono
    (fun r h => ⟨fun c => (h c).2, sem_eq_zero_of_no_sems (by decide) r.2⟩)
    (Cert.Reference6Ideal.Value.run (F := Ideal) m ρ)

/-- The experts over the slots and their reference leave the same array. -/
theorem slots : algebraic_Kernel6Ideal_Reference6Ideal := fun m ρ m' ρ' _ e =>
  ⟨fun c => Slots.slots (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)),
    Slots.kernel_run m ρ,
    (θ_run Cert.Reference6Ideal.defs _ _).mono
      (fun r hr c => by
        obtain ⟨e0, e1, e2, e3⟩ := e c
        exact ⟨(hr c).1.trans (by rw [e0, e1, e2, e3]), (hr c).2⟩)
      (Slots.reference_run m' ρ')⟩

/-- The frame of the reference of the combining call. -/
theorem combined_reference : quiescent_Reference7Ideal := fun m ρ _ =>
  (θ_run Cert.Reference7Ideal.defs _ _).mono
    (fun r h => ⟨fun c => (h c).2, sem_eq_zero_of_no_sems (by decide) r.2⟩)
    (Cert.Reference7Ideal.Value.run (F := Ideal) m ρ)

/-- The combining call and its reference leave the same array. -/
theorem combined : algebraic_Kernel7Ideal_Reference7Ideal := fun m ρ m' ρ' _ e =>
  ⟨fun c => Combine.blends (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)),
    Combine.kernel_run m ρ,
    (θ_run Cert.Reference7Ideal.defs _ _).mono
      (fun r hr c => by
        obtain ⟨e0, e1, e2, e3, e4, e5, e6, e7, e8, e9, e10⟩ := e c
        exact ⟨(hr c).1.trans (by rw [e0, e1, e2, e3, e4, e5, e6, e7, e8, e9, e10]), (hr c).2⟩)
      (Combine.reference_run m' ρ')⟩

/-- The frame of the reference of the dispatching call. -/
theorem dispatched_reference : quiescent_Reference8Ideal := fun m ρ _ =>
  (θ_run Cert.Reference8Ideal.defs _ _).mono
    (fun r h => ⟨fun c => (h c).2, sem_eq_zero_of_no_sems (by decide) r.2⟩)
    (Cert.Reference8Ideal.Value.run (F := Ideal) m ρ)

/-- The dispatching call and its reference leave the same array. -/
theorem dispatched : algebraic_Kernel8Ideal_Reference8Ideal := fun m ρ m' ρ' _ e =>
  ⟨fun c => Dispatch.slots (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)),
    Dispatch.kernel_run m ρ,
    (θ_run Cert.Reference8Ideal.defs _ _).mono
      (fun r hr c => by
        obtain ⟨e0, e1⟩ := e c
        exact ⟨(hr c).1.trans (by rw [e0, e1]), (hr c).2⟩)
      (Dispatch.reference_run m' ρ')⟩

/-- Every claim. -/
theorem claim : Cert.Claim := ⟨Cert.Kernel.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts, preFacts,
  attention, fun m ρ _ => Cert.Kernel2.Gen.frame m ρ, fun m ρ _ => Cert.Kernel2Ideal.Gen.frame m ρ,
  fun m ρ _ => Cert.Kernel2Ideal.Gen.frame m ρ, experts_reference, fun m ρ _ => experts_reference m ρ trivial,
  fun m ρ _ => Cert.Kernel3.Gen.frame m ρ, fun m ρ _ => Cert.Kernel3Ideal.Gen.frame m ρ, projection_reference,
  fun m ρ _ => Cert.Kernel4.Gen.frame m ρ, fun m ρ _ => Cert.Kernel4Ideal.Gen.frame m ρ, output_reference,
  fun m ρ _ => Cert.Kernel5.Gen.frame m ρ, fun m ρ _ => Cert.Kernel5Ideal.Gen.frame m ρ, modulation_reference,
  fun m ρ _ => Cert.Kernel6.Gen.frame m ρ, fun m ρ _ => Cert.Kernel6Ideal.Gen.frame m ρ, slots_reference,
  fun m ρ _ => Cert.Kernel7.Gen.frame m ρ, fun m ρ _ => Cert.Kernel7Ideal.Gen.frame m ρ, combined_reference,
  fun m ρ _ => Cert.Kernel8.Gen.frame m ρ, fun m ρ _ => Cert.Kernel8Ideal.Gen.frame m ρ, dispatched_reference, trivial,
  fun m ρ m' ρ' h e => ⟨fun c => Cert.Kernel2Ideal.Value.G10 m c, Cert.Kernel2Ideal.Value.run (F := Ideal) m ρ,
    (θ_run Cert.Reference2Ideal.defs _ _).mono
      (fun r hr c => by
        obtain ⟨e0, e1, e2, e3, e4, e5, e6, e7, e8, e9, e10, e11⟩ := e c
        exact ⟨(hr c).1.trans (same m m' h c e0 e1 e2 e3 e4 e5 e6 e7 e8 e9 e10 e11), (hr c).2⟩)
      (Cert.Reference2Ideal.Value.run (F := Ideal) m' ρ')⟩,
  trivial, projection, trivial, output, trivial, modulation, trivial, slots, trivial, combined, trivial, dispatched⟩

end Cert.Proof

end
